-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5)
      ∧ r.2.mem ((c.tc : Thread Cert.Kernel20.nD Cert.Kernel20.τ).loc Cert.Kernel20.main_arg6) = m ((c.tc : Thread Cert.Kernel20.nD Cert.Kernel20.τ).loc Cert.Kernel20.main_arg6)
      ∧ r.2.mem ((c.tc : Thread Cert.Kernel20.nD Cert.Kernel20.τ).loc Cert.Kernel20.main_arg7) = m ((c.tc : Thread Cert.Kernel20.nD Cert.Kernel20.τ).loc Cert.Kernel20.main_arg7)
      ∧ r.2.mem ((c.tc : Thread Cert.Kernel20.nD Cert.Kernel20.τ).loc Cert.Kernel20.main_arg8) = m ((c.tc : Thread Cert.Kernel20.nD Cert.Kernel20.τ).loc Cert.Kernel20.main_arg8)
      ∧ r.2.mem ((c.tc : Thread Cert.Kernel20.nD Cert.Kernel20.τ).loc Cert.Kernel20.main_arg9) = m ((c.tc : Thread Cert.Kernel20.nD Cert.Kernel20.τ).loc Cert.Kernel20.main_arg9)
      ∧ r.2.mem ((c.tc : Thread Cert.Kernel20.nD Cert.Kernel20.τ).loc Cert.Kernel20.main_arg10) = m ((c.tc : Thread Cert.Kernel20.nD Cert.Kernel20.τ).loc Cert.Kernel20.main_arg10)
      ∧ r.2.mem ((c.tc : Thread Cert.Kernel20.nD Cert.Kernel20.τ).loc Cert.Kernel20.main_arg11) = m ((c.tc : Thread Cert.Kernel20.nD Cert.Kernel20.τ).loc Cert.Kernel20.main_arg11)
      ∧ r.2.mem ((c.tc : Thread Cert.Kernel20.nD Cert.Kernel20.τ).loc Cert.Kernel20.main_arg12) = m ((c.tc : Thread Cert.Kernel20.nD Cert.Kernel20.τ).loc Cert.Kernel20.main_arg12)
      ∧ r.2.mem ((c.tc : Thread Cert.Kernel20.nD Cert.Kernel20.τ).loc Cert.Kernel20.main_arg13) = m ((c.tc : Thread Cert.Kernel20.nD Cert.Kernel20.τ).loc Cert.Kernel20.main_arg13)
      ∧ r.2.mem ((c.tc : Thread Cert.Kernel20.nD Cert.Kernel20.τ).loc Cert.Kernel20.main_arg14) = m ((c.tc : Thread Cert.Kernel20.nD Cert.Kernel20.τ).loc Cert.Kernel20.main_arg14)
      ∧ r.2.mem ((c.tc : Thread Cert.Kernel20.nD Cert.Kernel20.τ).loc Cert.Kernel20.main_arg15) = m ((c.tc : Thread Cert.Kernel20.nD Cert.Kernel20.τ).loc Cert.Kernel20.main_arg15)
      ∧ r.2.mem ((c.tc : Thread Cert.Kernel20.nD Cert.Kernel20.τ).loc Cert.Kernel20.main_arg16) = m ((c.tc : Thread Cert.Kernel20.nD Cert.Kernel20.τ).loc Cert.Kernel20.main_arg16)
      ∧ r.2.mem ((c.tc : Thread Cert.Kernel20.nD Cert.Kernel20.τ).loc Cert.Kernel20.main_arg17) = m ((c.tc : Thread Cert.Kernel20.nD Cert.Kernel20.τ).loc Cert.Kernel20.main_arg17)
      ∧ r.2.mem ((c.tc : Thread Cert.Kernel20.nD Cert.Kernel20.τ).loc Cert.Kernel20.main_arg18) = m ((c.tc : Thread Cert.Kernel20.nD Cert.Kernel20.τ).loc Cert.Kernel20.main_arg18)
      ∧ r.2.mem ((c.tc : Thread Cert.Kernel20.nD Cert.Kernel20.τ).loc Cert.Kernel20.main_arg19) = m ((c.tc : Thread Cert.Kernel20.nD Cert.Kernel20.τ).loc Cert.Kernel20.main_arg19)
      ∧ r.2.mem ((c.tc : Thread Cert.Kernel20.nD Cert.Kernel20.τ).loc Cert.Kernel20.main_arg20) = m ((c.tc : Thread Cert.Kernel20.nD Cert.Kernel20.τ).loc Cert.Kernel20.main_arg20)
      ∧ r.2.mem ((c.tc : Thread Cert.Kernel20.nD Cert.Kernel20.τ).loc Cert.Kernel20.main_arg21) = m ((c.tc : Thread Cert.Kernel20.nD Cert.Kernel20.τ).loc Cert.Kernel20.main_arg21)
      ∧ r.2.mem ((c.tc : Thread Cert.Kernel20.nD Cert.Kernel20.τ).loc Cert.Kernel20.main_arg22) = m ((c.tc : Thread Cert.Kernel20.nD Cert.Kernel20.τ).loc Cert.Kernel20.main_arg22)
      ∧ r.2.mem ((c.tc : Thread Cert.Kernel20.nD Cert.Kernel20.τ).loc Cert.Kernel20.main_arg23) = m ((c.tc : Thread Cert.Kernel20.nD Cert.Kernel20.τ).loc Cert.Kernel20.main_arg23)
      ∧ r.2.mem ((c.tc : Thread Cert.Kernel20.nD Cert.Kernel20.τ).loc Cert.Kernel20.main_arg24) = m ((c.tc : Thread Cert.Kernel20.nD Cert.Kernel20.τ).loc Cert.Kernel20.main_arg24)
      ∧ r.2.mem ((c.tc : Thread Cert.Kernel20.nD Cert.Kernel20.τ).loc Cert.Kernel20.main_arg25) = m ((c.tc : Thread Cert.Kernel20.nD Cert.Kernel20.τ).loc Cert.Kernel20.main_arg25)
      ∧ r.2.mem ((c.tc : Thread Cert.Kernel20.nD Cert.Kernel20.τ).loc Cert.Kernel20.main_arg26) = m ((c.tc : Thread Cert.Kernel20.nD Cert.Kernel20.τ).loc Cert.Kernel20.main_arg26)
      ∧ r.2.mem ((c.tc : Thread Cert.Kernel20.nD Cert.Kernel20.τ).loc Cert.Kernel20.main_arg27) = m ((c.tc : Thread Cert.Kernel20.nD Cert.Kernel20.τ).loc Cert.Kernel20.main_arg27)
      ∧ r.2.mem ((c.tc : Thread Cert.Kernel20.nD Cert.Kernel20.τ).loc Cert.Kernel20.main_arg28) = m ((c.tc : Thread Cert.Kernel20.nD Cert.Kernel20.τ).loc Cert.Kernel20.main_arg28)
      ∧ r.2.mem ((c.tc : Thread Cert.Kernel20.nD Cert.Kernel20.τ).loc Cert.Kernel20.main_arg29) = m ((c.tc : Thread Cert.Kernel20.nD Cert.Kernel20.τ).loc Cert.Kernel20.main_arg29)
      ∧ r.2.mem ((c.tc : Thread Cert.Kernel20.nD Cert.Kernel20.τ).loc Cert.Kernel20.main_arg30) = m ((c.tc : Thread Cert.Kernel20.nD Cert.Kernel20.τ).loc Cert.Kernel20.main_arg30)
      ∧ r.2.mem ((c.tc : Thread Cert.Kernel20.nD Cert.Kernel20.τ).loc Cert.Kernel20.main_arg31) = m ((c.tc : Thread Cert.Kernel20.nD Cert.Kernel20.τ).loc Cert.Kernel20.main_arg31)
      ∧ r.2.mem ((c.tc : Thread Cert.Kernel20.nD Cert.Kernel20.τ).loc Cert.Kernel20.main_arg32) = m ((c.tc : Thread Cert.Kernel20.nD Cert.Kernel20.τ).loc Cert.Kernel20.main_arg32)
      ∧ r.2.mem ((c.tc : Thread Cert.Kernel20.nD Cert.Kernel20.τ).loc Cert.Kernel20.main_arg33) = m ((c.tc : Thread Cert.Kernel20.nD Cert.Kernel20.τ).loc Cert.Kernel20.main_arg33)
      ∧ r.2.mem ((c.tc : Thread Cert.Kernel20.nD Cert.Kernel20.τ).loc Cert.Kernel20.main_arg34) = m ((c.tc : Thread Cert.Kernel20.nD Cert.Kernel20.τ).loc Cert.Kernel20.main_arg34)
      ∧ r.2.mem ((c.tc : Thread Cert.Kernel20.nD Cert.Kernel20.τ).loc Cert.Kernel20.main_arg35) = m ((c.tc : Thread Cert.Kernel20.nD Cert.Kernel20.τ).loc Cert.Kernel20.main_arg35)
      ∧ r.2.mem ((c.tc : Thread Cert.Kernel20.nD Cert.Kernel20.τ).loc Cert.Kernel20.main_arg36) = m ((c.tc : Thread Cert.Kernel20.nD Cert.Kernel20.τ).loc Cert.Kernel20.main_arg36)
      ∧ r.2.mem ((c.tc : Thread Cert.Kernel20.nD Cert.Kernel20.τ).loc Cert.Kernel20.main_arg37) = m ((c.tc : Thread Cert.Kernel20.nD Cert.Kernel20.τ).loc Cert.Kernel20.main_arg37)
      ∧ r.2.mem ((c.tc : Thread Cert.Kernel20.nD Cert.Kernel20.τ).loc Cert.Kernel20.main_arg38) = m ((c.tc : Thread Cert.Kernel20.nD Cert.Kernel20.τ).loc Cert.Kernel20.main_arg38)
      ∧ r.2.mem ((c.tc : Thread Cert.Kernel20.nD Cert.Kernel20.τ).loc Cert.Kernel20.main_arg39) = m ((c.tc : Thread Cert.Kernel20.nD Cert.Kernel20.τ).loc Cert.Kernel20.main_arg39)
      ∧ r.2.mem ((c.tc : Thread Cert.Kernel20.nD Cert.Kernel20.τ).loc Cert.Kernel20.main_arg40) = m ((c.tc : Thread Cert.Kernel20.nD Cert.Kernel20.τ).loc Cert.Kernel20.main_arg40))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
      ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7)
      ∧ r.2.mem ((c.tc : Thread Cert.Kernel20Ideal.nD Cert.Kernel20Ideal.τ).loc Cert.Kernel20Ideal.main_arg8) = m ((c.tc : Thread Cert.Kernel20Ideal.nD Cert.Kernel20Ideal.τ).loc Cert.Kernel20Ideal.main_arg8)
      ∧ r.2.mem ((c.tc : Thread Cert.Kernel20Ideal.nD Cert.Kernel20Ideal.τ).loc Cert.Kernel20Ideal.main_arg9) = m ((c.tc : Thread Cert.Kernel20Ideal.nD Cert.Kernel20Ideal.τ).loc Cert.Kernel20Ideal.main_arg9)
      ∧ r.2.mem ((c.tc : Thread Cert.Kernel20Ideal.nD Cert.Kernel20Ideal.τ).loc Cert.Kernel20Ideal.main_arg10) = m ((c.tc : Thread Cert.Kernel20Ideal.nD Cert.Kernel20Ideal.τ).loc Cert.Kernel20Ideal.main_arg10)
      ∧ r.2.mem ((c.tc : Thread Cert.Kernel20Ideal.nD Cert.Kernel20Ideal.τ).loc Cert.Kernel20Ideal.main_arg11) = m ((c.tc : Thread Cert.Kernel20Ideal.nD Cert.Kernel20Ideal.τ).loc Cert.Kernel20Ideal.main_arg11)
      ∧ r.2.mem ((c.tc : Thread Cert.Kernel20Ideal.nD Cert.Kernel20Ideal.τ).loc Cert.Kernel20Ideal.main_arg12) = m ((c.tc : Thread Cert.Kernel20Ideal.nD Cert.Kernel20Ideal.τ).loc Cert.Kernel20Ideal.main_arg12)
      ∧ r.2.mem ((c.tc : Thread Cert.Kernel20Ideal.nD Cert.Kernel20Ideal.τ).loc Cert.Kernel20Ideal.main_arg13) = m ((c.tc : Thread Cert.Kernel20Ideal.nD Cert.Kernel20Ideal.τ).loc Cert.Kernel20Ideal.main_arg13)
      ∧ r.2.mem ((c.tc : Thread Cert.Kernel20Ideal.nD Cert.Kernel20Ideal.τ).loc Cert.Kernel20Ideal.main_arg14) = m ((c.tc : Thread Cert.Kernel20Ideal.nD Cert.Kernel20Ideal.τ).loc Cert.Kernel20Ideal.main_arg14)
      ∧ r.2.mem ((c.tc : Thread Cert.Kernel20Ideal.nD Cert.Kernel20Ideal.τ).loc Cert.Kernel20Ideal.main_arg15) = m ((c.tc : Thread Cert.Kernel20Ideal.nD Cert.Kernel20Ideal.τ).loc Cert.Kernel20Ideal.main_arg15)
      ∧ r.2.mem ((c.tc : Thread Cert.Kernel20Ideal.nD Cert.Kernel20Ideal.τ).loc Cert.Kernel20Ideal.main_arg16) = m ((c.tc : Thread Cert.Kernel20Ideal.nD Cert.Kernel20Ideal.τ).loc Cert.Kernel20Ideal.main_arg16)
      ∧ r.2.mem ((c.tc : Thread Cert.Kernel20Ideal.nD Cert.Kernel20Ideal.τ).loc Cert.Kernel20Ideal.main_arg17) = m ((c.tc : Thread Cert.Kernel20Ideal.nD Cert.Kernel20Ideal.τ).loc Cert.Kernel20Ideal.main_arg17)
      ∧ r.2.mem ((c.tc : Thread Cert.Kernel20Ideal.nD Cert.Kernel20Ideal.τ).loc Cert.Kernel20Ideal.main_arg18) = m ((c.tc : Thread Cert.Kernel20Ideal.nD Cert.Kernel20Ideal.τ).loc Cert.Kernel20Ideal.main_arg18)
      ∧ r.2.mem ((c.tc : Thread Cert.Kernel20Ideal.nD Cert.Kernel20Ideal.τ).loc Cert.Kernel20Ideal.main_arg19) = m ((c.tc : Thread Cert.Kernel20Ideal.nD Cert.Kernel20Ideal.τ).loc Cert.Kernel20Ideal.main_arg19)
      ∧ r.2.mem ((c.tc : Thread Cert.Kernel20Ideal.nD Cert.Kernel20Ideal.τ).loc Cert.Kernel20Ideal.main_arg20) = m ((c.tc : Thread Cert.Kernel20Ideal.nD Cert.Kernel20Ideal.τ).loc Cert.Kernel20Ideal.main_arg20)
      ∧ r.2.mem ((c.tc : Thread Cert.Kernel20Ideal.nD Cert.Kernel20Ideal.τ).loc Cert.Kernel20Ideal.main_arg21) = m ((c.tc : Thread Cert.Kernel20Ideal.nD Cert.Kernel20Ideal.τ).loc Cert.Kernel20Ideal.main_arg21)
      ∧ r.2.mem ((c.tc : Thread Cert.Kernel20Ideal.nD Cert.Kernel20Ideal.τ).loc Cert.Kernel20Ideal.main_arg22) = m ((c.tc : Thread Cert.Kernel20Ideal.nD Cert.Kernel20Ideal.τ).loc Cert.Kernel20Ideal.main_arg22)
      ∧ r.2.mem ((c.tc : Thread Cert.Kernel20Ideal.nD Cert.Kernel20Ideal.τ).loc Cert.Kernel20Ideal.main_arg23) = m ((c.tc : Thread Cert.Kernel20Ideal.nD Cert.Kernel20Ideal.τ).loc Cert.Kernel20Ideal.main_arg23)
      ∧ r.2.mem ((c.tc : Thread Cert.Kernel20Ideal.nD Cert.Kernel20Ideal.τ).loc Cert.Kernel20Ideal.main_arg24) = m ((c.tc : Thread Cert.Kernel20Ideal.nD Cert.Kernel20Ideal.τ).loc Cert.Kernel20Ideal.main_arg24)
      ∧ r.2.mem ((c.tc : Thread Cert.Kernel20Ideal.nD Cert.Kernel20Ideal.τ).loc Cert.Kernel20Ideal.main_arg25) = m ((c.tc : Thread Cert.Kernel20Ideal.nD Cert.Kernel20Ideal.τ).loc Cert.Kernel20Ideal.main_arg25)
      ∧ r.2.mem ((c.tc : Thread Cert.Kernel20Ideal.nD Cert.Kernel20Ideal.τ).loc Cert.Kernel20Ideal.main_arg26) = m ((c.tc : Thread Cert.Kernel20Ideal.nD Cert.Kernel20Ideal.τ).loc Cert.Kernel20Ideal.main_arg26)
      ∧ r.2.mem ((c.tc : Thread Cert.Kernel20Ideal.nD Cert.Kernel20Ideal.τ).loc Cert.Kernel20Ideal.main_arg27) = m ((c.tc : Thread Cert.Kernel20Ideal.nD Cert.Kernel20Ideal.τ).loc Cert.Kernel20Ideal.main_arg27)
      ∧ r.2.mem ((c.tc : Thread Cert.Kernel20Ideal.nD Cert.Kernel20Ideal.τ).loc Cert.Kernel20Ideal.main_arg28) = m ((c.tc : Thread Cert.Kernel20Ideal.nD Cert.Kernel20Ideal.τ).loc Cert.Kernel20Ideal.main_arg28)
      ∧ r.2.mem ((c.tc : Thread Cert.Kernel20Ideal.nD Cert.Kernel20Ideal.τ).loc Cert.Kernel20Ideal.main_arg29) = m ((c.tc : Thread Cert.Kernel20Ideal.nD Cert.Kernel20Ideal.τ).loc Cert.Kernel20Ideal.main_arg29)
      ∧ r.2.mem ((c.tc : Thread Cert.Kernel20Ideal.nD Cert.Kernel20Ideal.τ).loc Cert.Kernel20Ideal.main_arg30) = m ((c.tc : Thread Cert.Kernel20Ideal.nD Cert.Kernel20Ideal.τ).loc Cert.Kernel20Ideal.main_arg30)
      ∧ r.2.mem ((c.tc : Thread Cert.Kernel20Ideal.nD Cert.Kernel20Ideal.τ).loc Cert.Kernel20Ideal.main_arg31) = m ((c.tc : Thread Cert.Kernel20Ideal.nD Cert.Kernel20Ideal.τ).loc Cert.Kernel20Ideal.main_arg31)
      ∧ r.2.mem ((c.tc : Thread Cert.Kernel20Ideal.nD Cert.Kernel20Ideal.τ).loc Cert.Kernel20Ideal.main_arg32) = m ((c.tc : Thread Cert.Kernel20Ideal.nD Cert.Kernel20Ideal.τ).loc Cert.Kernel20Ideal.main_arg32)
      ∧ r.2.mem ((c.tc : Thread Cert.Kernel20Ideal.nD Cert.Kernel20Ideal.τ).loc Cert.Kernel20Ideal.main_arg33) = m ((c.tc : Thread Cert.Kernel20Ideal.nD Cert.Kernel20Ideal.τ).loc Cert.Kernel20Ideal.main_arg33)
      ∧ r.2.mem ((c.tc : Thread Cert.Kernel20Ideal.nD Cert.Kernel20Ideal.τ).loc Cert.Kernel20Ideal.main_arg34) = m ((c.tc : Thread Cert.Kernel20Ideal.nD Cert.Kernel20Ideal.τ).loc Cert.Kernel20Ideal.main_arg34)
      ∧ r.2.mem ((c.tc : Thread Cert.Kernel20Ideal.nD Cert.Kernel20Ideal.τ).loc Cert.Kernel20Ideal.main_arg35) = m ((c.tc : Thread Cert.Kernel20Ideal.nD Cert.Kernel20Ideal.τ).loc Cert.Kernel20Ideal.main_arg35)
      ∧ r.2.mem ((c.tc : Thread Cert.Kernel20Ideal.nD Cert.Kernel20Ideal.τ).loc Cert.Kernel20Ideal.main_arg36) = m ((c.tc : Thread Cert.Kernel20Ideal.nD Cert.Kernel20Ideal.τ).loc Cert.Kernel20Ideal.main_arg36)
      ∧ r.2.mem ((c.tc : Thread Cert.Kernel20Ideal.nD Cert.Kernel20Ideal.τ).loc Cert.Kernel20Ideal.main_arg37) = m ((c.tc : Thread Cert.Kernel20Ideal.nD Cert.Kernel20Ideal.τ).loc Cert.Kernel20Ideal.main_arg37)
      ∧ r.2.mem ((c.tc : Thread Cert.Kernel20Ideal.nD Cert.Kernel20Ideal.τ).loc Cert.Kernel20Ideal.main_arg38) = m ((c.tc : Thread Cert.Kernel20Ideal.nD Cert.Kernel20Ideal.τ).loc Cert.Kernel20Ideal.main_arg38)
      ∧ r.2.mem ((c.tc : Thread Cert.Kernel20Ideal.nD Cert.Kernel20Ideal.τ).loc Cert.Kernel20Ideal.main_arg39) = m ((c.tc : Thread Cert.Kernel20Ideal.nD Cert.Kernel20Ideal.τ).loc Cert.Kernel20Ideal.main_arg39)
      ∧ r.2.mem ((c.tc : Thread Cert.Kernel20Ideal.nD Cert.Kernel20Ideal.τ).loc Cert.Kernel20Ideal.main_arg40) = m ((c.tc : Thread Cert.Kernel20Ideal.nD Cert.Kernel20Ideal.τ).loc Cert.Kernel20Ideal.main_arg40))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6)
      ∧ r.2.mem ((c.tc : Thread Cert.Reference20Ideal.nD Cert.Reference20Ideal.τ).loc Cert.Reference20Ideal.main_arg7) = m ((c.tc : Thread Cert.Reference20Ideal.nD Cert.Reference20Ideal.τ).loc Cert.Reference20Ideal.main_arg7)
      ∧ r.2.mem ((c.tc : Thread Cert.Reference20Ideal.nD Cert.Reference20Ideal.τ).loc Cert.Reference20Ideal.main_arg8) = m ((c.tc : Thread Cert.Reference20Ideal.nD Cert.Reference20Ideal.τ).loc Cert.Reference20Ideal.main_arg8)
      ∧ r.2.mem ((c.tc : Thread Cert.Reference20Ideal.nD Cert.Reference20Ideal.τ).loc Cert.Reference20Ideal.main_arg9) = m ((c.tc : Thread Cert.Reference20Ideal.nD Cert.Reference20Ideal.τ).loc Cert.Reference20Ideal.main_arg9)
      ∧ r.2.mem ((c.tc : Thread Cert.Reference20Ideal.nD Cert.Reference20Ideal.τ).loc Cert.Reference20Ideal.main_arg10) = m ((c.tc : Thread Cert.Reference20Ideal.nD Cert.Reference20Ideal.τ).loc Cert.Reference20Ideal.main_arg10)
      ∧ r.2.mem ((c.tc : Thread Cert.Reference20Ideal.nD Cert.Reference20Ideal.τ).loc Cert.Reference20Ideal.main_arg11) = m ((c.tc : Thread Cert.Reference20Ideal.nD Cert.Reference20Ideal.τ).loc Cert.Reference20Ideal.main_arg11)
      ∧ r.2.mem ((c.tc : Thread Cert.Reference20Ideal.nD Cert.Reference20Ideal.τ).loc Cert.Reference20Ideal.main_arg12) = m ((c.tc : Thread Cert.Reference20Ideal.nD Cert.Reference20Ideal.τ).loc Cert.Reference20Ideal.main_arg12)
      ∧ r.2.mem ((c.tc : Thread Cert.Reference20Ideal.nD Cert.Reference20Ideal.τ).loc Cert.Reference20Ideal.main_arg13) = m ((c.tc : Thread Cert.Reference20Ideal.nD Cert.Reference20Ideal.τ).loc Cert.Reference20Ideal.main_arg13)
      ∧ r.2.mem ((c.tc : Thread Cert.Reference20Ideal.nD Cert.Reference20Ideal.τ).loc Cert.Reference20Ideal.main_arg14) = m ((c.tc : Thread Cert.Reference20Ideal.nD Cert.Reference20Ideal.τ).loc Cert.Reference20Ideal.main_arg14)
      ∧ r.2.mem ((c.tc : Thread Cert.Reference20Ideal.nD Cert.Reference20Ideal.τ).loc Cert.Reference20Ideal.main_arg15) = m ((c.tc : Thread Cert.Reference20Ideal.nD Cert.Reference20Ideal.τ).loc Cert.Reference20Ideal.main_arg15)
      ∧ r.2.mem ((c.tc : Thread Cert.Reference20Ideal.nD Cert.Reference20Ideal.τ).loc Cert.Reference20Ideal.main_arg16) = m ((c.tc : Thread Cert.Reference20Ideal.nD Cert.Reference20Ideal.τ).loc Cert.Reference20Ideal.main_arg16)
      ∧ r.2.mem ((c.tc : Thread Cert.Reference20Ideal.nD Cert.Reference20Ideal.τ).loc Cert.Reference20Ideal.main_arg17) = m ((c.tc : Thread Cert.Reference20Ideal.nD Cert.Reference20Ideal.τ).loc Cert.Reference20Ideal.main_arg17)
      ∧ r.2.mem ((c.tc : Thread Cert.Reference20Ideal.nD Cert.Reference20Ideal.τ).loc Cert.Reference20Ideal.main_arg18) = m ((c.tc : Thread Cert.Reference20Ideal.nD Cert.Reference20Ideal.τ).loc Cert.Reference20Ideal.main_arg18)
      ∧ r.2.mem ((c.tc : Thread Cert.Reference20Ideal.nD Cert.Reference20Ideal.τ).loc Cert.Reference20Ideal.main_arg19) = m ((c.tc : Thread Cert.Reference20Ideal.nD Cert.Reference20Ideal.τ).loc Cert.Reference20Ideal.main_arg19)
      ∧ r.2.mem ((c.tc : Thread Cert.Reference20Ideal.nD Cert.Reference20Ideal.τ).loc Cert.Reference20Ideal.main_arg20) = m ((c.tc : Thread Cert.Reference20Ideal.nD Cert.Reference20Ideal.τ).loc Cert.Reference20Ideal.main_arg20)
      ∧ r.2.mem ((c.tc : Thread Cert.Reference20Ideal.nD Cert.Reference20Ideal.τ).loc Cert.Reference20Ideal.main_arg21) = m ((c.tc : Thread Cert.Reference20Ideal.nD Cert.Reference20Ideal.τ).loc Cert.Reference20Ideal.main_arg21)
      ∧ r.2.mem ((c.tc : Thread Cert.Reference20Ideal.nD Cert.Reference20Ideal.τ).loc Cert.Reference20Ideal.main_arg22) = m ((c.tc : Thread Cert.Reference20Ideal.nD Cert.Reference20Ideal.τ).loc Cert.Reference20Ideal.main_arg22)
      ∧ r.2.mem ((c.tc : Thread Cert.Reference20Ideal.nD Cert.Reference20Ideal.τ).loc Cert.Reference20Ideal.main_arg23) = m ((c.tc : Thread Cert.Reference20Ideal.nD Cert.Reference20Ideal.τ).loc Cert.Reference20Ideal.main_arg23)
      ∧ r.2.mem ((c.tc : Thread Cert.Reference20Ideal.nD Cert.Reference20Ideal.τ).loc Cert.Reference20Ideal.main_arg24) = m ((c.tc : Thread Cert.Reference20Ideal.nD Cert.Reference20Ideal.τ).loc Cert.Reference20Ideal.main_arg24)
      ∧ r.2.mem ((c.tc : Thread Cert.Reference20Ideal.nD Cert.Reference20Ideal.τ).loc Cert.Reference20Ideal.main_arg25) = m ((c.tc : Thread Cert.Reference20Ideal.nD Cert.Reference20Ideal.τ).loc Cert.Reference20Ideal.main_arg25)
      ∧ r.2.mem ((c.tc : Thread Cert.Reference20Ideal.nD Cert.Reference20Ideal.τ).loc Cert.Reference20Ideal.main_arg26) = m ((c.tc : Thread Cert.Reference20Ideal.nD Cert.Reference20Ideal.τ).loc Cert.Reference20Ideal.main_arg26)
      ∧ r.2.mem ((c.tc : Thread Cert.Reference20Ideal.nD Cert.Reference20Ideal.τ).loc Cert.Reference20Ideal.main_arg27) = m ((c.tc : Thread Cert.Reference20Ideal.nD Cert.Reference20Ideal.τ).loc Cert.Reference20Ideal.main_arg27)
      ∧ r.2.mem ((c.tc : Thread Cert.Reference20Ideal.nD Cert.Reference20Ideal.τ).loc Cert.Reference20Ideal.main_arg28) = m ((c.tc : Thread Cert.Reference20Ideal.nD Cert.Reference20Ideal.τ).loc Cert.Reference20Ideal.main_arg28)
      ∧ r.2.mem ((c.tc : Thread Cert.Reference20Ideal.nD Cert.Reference20Ideal.τ).loc Cert.Reference20Ideal.main_arg29) = m ((c.tc : Thread Cert.Reference20Ideal.nD Cert.Reference20Ideal.τ).loc Cert.Reference20Ideal.main_arg29)
      ∧ r.2.mem ((c.tc : Thread Cert.Reference20Ideal.nD Cert.Reference20Ideal.τ).loc Cert.Reference20Ideal.main_arg30) = m ((c.tc : Thread Cert.Reference20Ideal.nD Cert.Reference20Ideal.τ).loc Cert.Reference20Ideal.main_arg30)
      ∧ r.2.mem ((c.tc : Thread Cert.Reference20Ideal.nD Cert.Reference20Ideal.τ).loc Cert.Reference20Ideal.main_arg31) = m ((c.tc : Thread Cert.Reference20Ideal.nD Cert.Reference20Ideal.τ).loc Cert.Reference20Ideal.main_arg31)
      ∧ r.2.mem ((c.tc : Thread Cert.Reference20Ideal.nD Cert.Reference20Ideal.τ).loc Cert.Reference20Ideal.main_arg32) = m ((c.tc : Thread Cert.Reference20Ideal.nD Cert.Reference20Ideal.τ).loc Cert.Reference20Ideal.main_arg32)
      ∧ r.2.mem ((c.tc : Thread Cert.Reference20Ideal.nD Cert.Reference20Ideal.τ).loc Cert.Reference20Ideal.main_arg33) = m ((c.tc : Thread Cert.Reference20Ideal.nD Cert.Reference20Ideal.τ).loc Cert.Reference20Ideal.main_arg33)
      ∧ r.2.mem ((c.tc : Thread Cert.Reference20Ideal.nD Cert.Reference20Ideal.τ).loc Cert.Reference20Ideal.main_arg34) = m ((c.tc : Thread Cert.Reference20Ideal.nD Cert.Reference20Ideal.τ).loc Cert.Reference20Ideal.main_arg34)
      ∧ r.2.mem ((c.tc : Thread Cert.Reference20Ideal.nD Cert.Reference20Ideal.τ).loc Cert.Reference20Ideal.main_arg35) = m ((c.tc : Thread Cert.Reference20Ideal.nD Cert.Reference20Ideal.τ).loc Cert.Reference20Ideal.main_arg35)
      ∧ r.2.mem ((c.tc : Thread Cert.Reference20Ideal.nD Cert.Reference20Ideal.τ).loc Cert.Reference20Ideal.main_arg36) = m ((c.tc : Thread Cert.Reference20Ideal.nD Cert.Reference20Ideal.τ).loc Cert.Reference20Ideal.main_arg36)
      ∧ r.2.mem ((c.tc : Thread Cert.Reference20Ideal.nD Cert.Reference20Ideal.τ).loc Cert.Reference20Ideal.main_arg37) = m ((c.tc : Thread Cert.Reference20Ideal.nD Cert.Reference20Ideal.τ).loc Cert.Reference20Ideal.main_arg37)
      ∧ r.2.mem ((c.tc : Thread Cert.Reference20Ideal.nD Cert.Reference20Ideal.τ).loc Cert.Reference20Ideal.main_arg38) = m ((c.tc : Thread Cert.Reference20Ideal.nD Cert.Reference20Ideal.τ).loc Cert.Reference20Ideal.main_arg38)
      ∧ r.2.mem ((c.tc : Thread Cert.Reference20Ideal.nD Cert.Reference20Ideal.τ).loc Cert.Reference20Ideal.main_arg39) = m ((c.tc : Thread Cert.Reference20Ideal.nD Cert.Reference20Ideal.τ).loc Cert.Reference20Ideal.main_arg39)
      ∧ r.2.mem ((c.tc : Thread Cert.Reference20Ideal.nD Cert.Reference20Ideal.τ).loc Cert.Reference20Ideal.main_arg40) = m ((c.tc : Thread Cert.Reference20Ideal.nD Cert.Reference20Ideal.τ).loc Cert.Reference20Ideal.main_arg40))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_v163) = v1 c
          ∧ r.2.mem ((c.tc : Thread Cert.ReferenceIdeal.nD Cert.ReferenceIdeal.τ).loc Cert.ReferenceIdeal.main_v164) = v2 c
          ∧ r.2.mem ((c.tc : Thread Cert.ReferenceIdeal.nD Cert.ReferenceIdeal.τ).loc Cert.ReferenceIdeal.main_v103) = v3 c
          ∧ r.2.mem ((c.tc : Thread Cert.ReferenceIdeal.nD Cert.ReferenceIdeal.τ).loc Cert.ReferenceIdeal.main_v166) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_v42) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v15_0)) (v1 : (c : Dev Cert.Kernel3Ideal.nD) → Buf (Elt Ideal) ((c.tc : Thread Cert.Kernel3Ideal.nD Cert.Kernel3Ideal.τ).loc Cert.Kernel3Ideal.main_v15_1)) (v2 : (c : Dev Cert.Kernel3Ideal.nD) → Buf (Elt Ideal) ((c.tc : Thread Cert.Kernel3Ideal.nD Cert.Kernel3Ideal.τ).loc Cert.Kernel3Ideal.main_v15_2)) (v3 : (c : Dev Cert.Kernel3Ideal.nD) → Buf (Elt Ideal) ((c.tc : Thread Cert.Kernel3Ideal.nD Cert.Kernel3Ideal.τ).loc Cert.Kernel3Ideal.main_v15_3)) (v4 : (c : Dev Cert.Kernel3Ideal.nD) → Buf (Elt Ideal) ((c.tc : Thread Cert.Kernel3Ideal.nD Cert.Kernel3Ideal.τ).loc Cert.Kernel3Ideal.main_v15_4)) (v5 : (c : Dev Cert.Kernel3Ideal.nD) → Buf (Elt Ideal) ((c.tc : Thread Cert.Kernel3Ideal.nD Cert.Kernel3Ideal.τ).loc Cert.Kernel3Ideal.main_v15_5)) (v6 : (c : Dev Cert.Kernel3Ideal.nD) → Buf (Elt Ideal) ((c.tc : Thread Cert.Kernel3Ideal.nD Cert.Kernel3Ideal.τ).loc Cert.Kernel3Ideal.main_v15_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15_0) = v0 c
          ∧ r.2.mem ((c.tc : Thread Cert.Kernel3Ideal.nD Cert.Kernel3Ideal.τ).loc Cert.Kernel3Ideal.main_v15_1) = v1 c
          ∧ r.2.mem ((c.tc : Thread Cert.Kernel3Ideal.nD Cert.Kernel3Ideal.τ).loc Cert.Kernel3Ideal.main_v15_2) = v2 c
          ∧ r.2.mem ((c.tc : Thread Cert.Kernel3Ideal.nD Cert.Kernel3Ideal.τ).loc Cert.Kernel3Ideal.main_v15_3) = v3 c
          ∧ r.2.mem ((c.tc : Thread Cert.Kernel3Ideal.nD Cert.Kernel3Ideal.τ).loc Cert.Kernel3Ideal.main_v15_4) = v4 c
          ∧ r.2.mem ((c.tc : Thread Cert.Kernel3Ideal.nD Cert.Kernel3Ideal.τ).loc Cert.Kernel3Ideal.main_v15_5) = v5 c
          ∧ r.2.mem ((c.tc : Thread Cert.Kernel3Ideal.nD Cert.Kernel3Ideal.τ).loc Cert.Kernel3Ideal.main_v15_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v57) = v0 c
          ∧ r.2.mem ((c.tc : Thread Cert.Reference3Ideal.nD Cert.Reference3Ideal.τ).loc Cert.Reference3Ideal.main_v65) = v1 c
          ∧ r.2.mem ((c.tc : Thread Cert.Reference3Ideal.nD Cert.Reference3Ideal.τ).loc Cert.Reference3Ideal.main_v66) = v2 c
          ∧ r.2.mem ((c.tc : Thread Cert.Reference3Ideal.nD Cert.Reference3Ideal.τ).loc Cert.Reference3Ideal.main_v62) = v3 c
          ∧ r.2.mem ((c.tc : Thread Cert.Reference3Ideal.nD Cert.Reference3Ideal.τ).loc Cert.Reference3Ideal.main_v63) = v4 c
          ∧ r.2.mem ((c.tc : Thread Cert.Reference3Ideal.nD Cert.Reference3Ideal.τ).loc Cert.Reference3Ideal.main_v64) = v5 c
          ∧ r.2.mem ((c.tc : Thread Cert.Reference3Ideal.nD Cert.Reference3Ideal.τ).loc Cert.Reference3Ideal.main_v67) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)) (v2 : (c : Dev Cert.Kernel4Ideal.nD) → Buf (Elt Ideal) ((c.tc : Thread Cert.Kernel4Ideal.nD Cert.Kernel4Ideal.τ).loc Cert.Kernel4Ideal.main_v1_2)) (v3 : (c : Dev Cert.Kernel4Ideal.nD) → Buf (Elt Ideal) ((c.tc : Thread Cert.Kernel4Ideal.nD Cert.Kernel4Ideal.τ).loc Cert.Kernel4Ideal.main_v1_3)) (v4 : (c : Dev Cert.Kernel4Ideal.nD) → Buf (Elt Ideal) ((c.tc : Thread Cert.Kernel4Ideal.nD Cert.Kernel4Ideal.τ).loc Cert.Kernel4Ideal.main_v1_4)) (v5 : (c : Dev Cert.Kernel4Ideal.nD) → Buf (Elt Ideal) ((c.tc : Thread Cert.Kernel4Ideal.nD Cert.Kernel4Ideal.τ).loc Cert.Kernel4Ideal.main_v1_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_v1_2) = v2 c
          ∧ r.2.mem ((c.tc : Thread Cert.Kernel4Ideal.nD Cert.Kernel4Ideal.τ).loc Cert.Kernel4Ideal.main_v1_3) = v3 c
          ∧ r.2.mem ((c.tc : Thread Cert.Kernel4Ideal.nD Cert.Kernel4Ideal.τ).loc Cert.Kernel4Ideal.main_v1_4) = v4 c
          ∧ r.2.mem ((c.tc : Thread Cert.Kernel4Ideal.nD Cert.Kernel4Ideal.τ).loc Cert.Kernel4Ideal.main_v1_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_v29) = v1 c
          ∧ r.2.mem ((c.tc : Thread Cert.Reference4Ideal.nD Cert.Reference4Ideal.τ).loc Cert.Reference4Ideal.main_v30) = v2 c
          ∧ r.2.mem ((c.tc : Thread Cert.Reference4Ideal.nD Cert.Reference4Ideal.τ).loc Cert.Reference4Ideal.main_v31) = v3 c
          ∧ r.2.mem ((c.tc : Thread Cert.Reference4Ideal.nD Cert.Reference4Ideal.τ).loc Cert.Reference4Ideal.main_v32) = v4 c
          ∧ r.2.mem ((c.tc : Thread Cert.Reference4Ideal.nD Cert.Reference4Ideal.τ).loc Cert.Reference4Ideal.main_v33) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)) (v2 : (c : Dev Cert.Kernel5Ideal.nD) → Buf (Elt Ideal) ((c.tc : Thread Cert.Kernel5Ideal.nD Cert.Kernel5Ideal.τ).loc Cert.Kernel5Ideal.main_v1_2)) (v3 : (c : Dev Cert.Kernel5Ideal.nD) → Buf (Elt Ideal) ((c.tc : Thread Cert.Kernel5Ideal.nD Cert.Kernel5Ideal.τ).loc Cert.Kernel5Ideal.main_v1_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_v1_2) = v2 c
          ∧ r.2.mem ((c.tc : Thread Cert.Kernel5Ideal.nD Cert.Kernel5Ideal.τ).loc Cert.Kernel5Ideal.main_v1_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v29) = v0 c
          ∧ r.2.mem ((c.tc : Thread Cert.Reference5Ideal.nD Cert.Reference5Ideal.τ).loc Cert.Reference5Ideal.main_v3) = v1 c
          ∧ r.2.mem ((c.tc : Thread Cert.Reference5Ideal.nD Cert.Reference5Ideal.τ).loc Cert.Reference5Ideal.main_v30) = v2 c
          ∧ r.2.mem ((c.tc : Thread Cert.Reference5Ideal.nD Cert.Reference5Ideal.τ).loc Cert.Reference5Ideal.main_v31) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v4)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v67) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v1_0)) (v1 : (c : Dev Cert.Kernel19Ideal.nD) → Buf (Elt Ideal) ((c.tc : Thread Cert.Kernel19Ideal.nD Cert.Kernel19Ideal.τ).loc Cert.Kernel19Ideal.main_v1_1)) (v2 : (c : Dev Cert.Kernel19Ideal.nD) → Buf (Elt Ideal) ((c.tc : Thread Cert.Kernel19Ideal.nD Cert.Kernel19Ideal.τ).loc Cert.Kernel19Ideal.main_v1_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1_0) = v0 c
          ∧ r.2.mem ((c.tc : Thread Cert.Kernel19Ideal.nD Cert.Kernel19Ideal.τ).loc Cert.Kernel19Ideal.main_v1_1) = v1 c
          ∧ r.2.mem ((c.tc : Thread Cert.Kernel19Ideal.nD Cert.Kernel19Ideal.τ).loc Cert.Kernel19Ideal.main_v1_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v51) = v0 c
          ∧ r.2.mem ((c.tc : Thread Cert.Reference19Ideal.nD Cert.Reference19Ideal.τ).loc Cert.Reference19Ideal.main_v50) = v1 c
          ∧ r.2.mem ((c.tc : Thread Cert.Reference19Ideal.nD Cert.Reference19Ideal.τ).loc Cert.Reference19Ideal.main_v52) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)
      ∧ m' ((c.tc : Thread Cert.Reference20Ideal.nD Cert.Reference20Ideal.τ).loc Cert.Reference20Ideal.main_arg6) = m ((c.tc : Thread Cert.Kernel20Ideal.nD Cert.Kernel20Ideal.τ).loc Cert.Kernel20Ideal.main_arg6)
      ∧ m' ((c.tc : Thread Cert.Reference20Ideal.nD Cert.Reference20Ideal.τ).loc Cert.Reference20Ideal.main_arg7) = m ((c.tc : Thread Cert.Kernel20Ideal.nD Cert.Kernel20Ideal.τ).loc Cert.Kernel20Ideal.main_arg7)
      ∧ m' ((c.tc : Thread Cert.Reference20Ideal.nD Cert.Reference20Ideal.τ).loc Cert.Reference20Ideal.main_arg8) = m ((c.tc : Thread Cert.Kernel20Ideal.nD Cert.Kernel20Ideal.τ).loc Cert.Kernel20Ideal.main_arg8)
      ∧ m' ((c.tc : Thread Cert.Reference20Ideal.nD Cert.Reference20Ideal.τ).loc Cert.Reference20Ideal.main_arg9) = m ((c.tc : Thread Cert.Kernel20Ideal.nD Cert.Kernel20Ideal.τ).loc Cert.Kernel20Ideal.main_arg9)
      ∧ m' ((c.tc : Thread Cert.Reference20Ideal.nD Cert.Reference20Ideal.τ).loc Cert.Reference20Ideal.main_arg10) = m ((c.tc : Thread Cert.Kernel20Ideal.nD Cert.Kernel20Ideal.τ).loc Cert.Kernel20Ideal.main_arg10)
      ∧ m' ((c.tc : Thread Cert.Reference20Ideal.nD Cert.Reference20Ideal.τ).loc Cert.Reference20Ideal.main_arg11) = m ((c.tc : Thread Cert.Kernel20Ideal.nD Cert.Kernel20Ideal.τ).loc Cert.Kernel20Ideal.main_arg11)
      ∧ m' ((c.tc : Thread Cert.Reference20Ideal.nD Cert.Reference20Ideal.τ).loc Cert.Reference20Ideal.main_arg12) = m ((c.tc : Thread Cert.Kernel20Ideal.nD Cert.Kernel20Ideal.τ).loc Cert.Kernel20Ideal.main_arg12)
      ∧ m' ((c.tc : Thread Cert.Reference20Ideal.nD Cert.Reference20Ideal.τ).loc Cert.Reference20Ideal.main_arg13) = m ((c.tc : Thread Cert.Kernel20Ideal.nD Cert.Kernel20Ideal.τ).loc Cert.Kernel20Ideal.main_arg13)
      ∧ m' ((c.tc : Thread Cert.Reference20Ideal.nD Cert.Reference20Ideal.τ).loc Cert.Reference20Ideal.main_arg14) = m ((c.tc : Thread Cert.Kernel20Ideal.nD Cert.Kernel20Ideal.τ).loc Cert.Kernel20Ideal.main_arg14)
      ∧ m' ((c.tc : Thread Cert.Reference20Ideal.nD Cert.Reference20Ideal.τ).loc Cert.Reference20Ideal.main_arg15) = m ((c.tc : Thread Cert.Kernel20Ideal.nD Cert.Kernel20Ideal.τ).loc Cert.Kernel20Ideal.main_arg15)
      ∧ m' ((c.tc : Thread Cert.Reference20Ideal.nD Cert.Reference20Ideal.τ).loc Cert.Reference20Ideal.main_arg16) = m ((c.tc : Thread Cert.Kernel20Ideal.nD Cert.Kernel20Ideal.τ).loc Cert.Kernel20Ideal.main_arg16)
      ∧ m' ((c.tc : Thread Cert.Reference20Ideal.nD Cert.Reference20Ideal.τ).loc Cert.Reference20Ideal.main_arg17) = m ((c.tc : Thread Cert.Kernel20Ideal.nD Cert.Kernel20Ideal.τ).loc Cert.Kernel20Ideal.main_arg17)
      ∧ m' ((c.tc : Thread Cert.Reference20Ideal.nD Cert.Reference20Ideal.τ).loc Cert.Reference20Ideal.main_arg18) = m ((c.tc : Thread Cert.Kernel20Ideal.nD Cert.Kernel20Ideal.τ).loc Cert.Kernel20Ideal.main_arg18)
      ∧ m' ((c.tc : Thread Cert.Reference20Ideal.nD Cert.Reference20Ideal.τ).loc Cert.Reference20Ideal.main_arg19) = m ((c.tc : Thread Cert.Kernel20Ideal.nD Cert.Kernel20Ideal.τ).loc Cert.Kernel20Ideal.main_arg19)
      ∧ m' ((c.tc : Thread Cert.Reference20Ideal.nD Cert.Reference20Ideal.τ).loc Cert.Reference20Ideal.main_arg20) = m ((c.tc : Thread Cert.Kernel20Ideal.nD Cert.Kernel20Ideal.τ).loc Cert.Kernel20Ideal.main_arg20)
      ∧ m' ((c.tc : Thread Cert.Reference20Ideal.nD Cert.Reference20Ideal.τ).loc Cert.Reference20Ideal.main_arg21) = m ((c.tc : Thread Cert.Kernel20Ideal.nD Cert.Kernel20Ideal.τ).loc Cert.Kernel20Ideal.main_arg21)
      ∧ m' ((c.tc : Thread Cert.Reference20Ideal.nD Cert.Reference20Ideal.τ).loc Cert.Reference20Ideal.main_arg22) = m ((c.tc : Thread Cert.Kernel20Ideal.nD Cert.Kernel20Ideal.τ).loc Cert.Kernel20Ideal.main_arg22)
      ∧ m' ((c.tc : Thread Cert.Reference20Ideal.nD Cert.Reference20Ideal.τ).loc Cert.Reference20Ideal.main_arg23) = m ((c.tc : Thread Cert.Kernel20Ideal.nD Cert.Kernel20Ideal.τ).loc Cert.Kernel20Ideal.main_arg23)
      ∧ m' ((c.tc : Thread Cert.Reference20Ideal.nD Cert.Reference20Ideal.τ).loc Cert.Reference20Ideal.main_arg24) = m ((c.tc : Thread Cert.Kernel20Ideal.nD Cert.Kernel20Ideal.τ).loc Cert.Kernel20Ideal.main_arg24)
      ∧ m' ((c.tc : Thread Cert.Reference20Ideal.nD Cert.Reference20Ideal.τ).loc Cert.Reference20Ideal.main_arg25) = m ((c.tc : Thread Cert.Kernel20Ideal.nD Cert.Kernel20Ideal.τ).loc Cert.Kernel20Ideal.main_arg25)
      ∧ m' ((c.tc : Thread Cert.Reference20Ideal.nD Cert.Reference20Ideal.τ).loc Cert.Reference20Ideal.main_arg26) = m ((c.tc : Thread Cert.Kernel20Ideal.nD Cert.Kernel20Ideal.τ).loc Cert.Kernel20Ideal.main_arg26)
      ∧ m' ((c.tc : Thread Cert.Reference20Ideal.nD Cert.Reference20Ideal.τ).loc Cert.Reference20Ideal.main_arg27) = m ((c.tc : Thread Cert.Kernel20Ideal.nD Cert.Kernel20Ideal.τ).loc Cert.Kernel20Ideal.main_arg27)
      ∧ m' ((c.tc : Thread Cert.Reference20Ideal.nD Cert.Reference20Ideal.τ).loc Cert.Reference20Ideal.main_arg28) = m ((c.tc : Thread Cert.Kernel20Ideal.nD Cert.Kernel20Ideal.τ).loc Cert.Kernel20Ideal.main_arg28)
      ∧ m' ((c.tc : Thread Cert.Reference20Ideal.nD Cert.Reference20Ideal.τ).loc Cert.Reference20Ideal.main_arg29) = m ((c.tc : Thread Cert.Kernel20Ideal.nD Cert.Kernel20Ideal.τ).loc Cert.Kernel20Ideal.main_arg29)
      ∧ m' ((c.tc : Thread Cert.Reference20Ideal.nD Cert.Reference20Ideal.τ).loc Cert.Reference20Ideal.main_arg30) = m ((c.tc : Thread Cert.Kernel20Ideal.nD Cert.Kernel20Ideal.τ).loc Cert.Kernel20Ideal.main_arg30)
      ∧ m' ((c.tc : Thread Cert.Reference20Ideal.nD Cert.Reference20Ideal.τ).loc Cert.Reference20Ideal.main_arg31) = m ((c.tc : Thread Cert.Kernel20Ideal.nD Cert.Kernel20Ideal.τ).loc Cert.Kernel20Ideal.main_arg31)
      ∧ m' ((c.tc : Thread Cert.Reference20Ideal.nD Cert.Reference20Ideal.τ).loc Cert.Reference20Ideal.main_arg32) = m ((c.tc : Thread Cert.Kernel20Ideal.nD Cert.Kernel20Ideal.τ).loc Cert.Kernel20Ideal.main_arg32)
      ∧ m' ((c.tc : Thread Cert.Reference20Ideal.nD Cert.Reference20Ideal.τ).loc Cert.Reference20Ideal.main_arg33) = m ((c.tc : Thread Cert.Kernel20Ideal.nD Cert.Kernel20Ideal.τ).loc Cert.Kernel20Ideal.main_arg33)
      ∧ m' ((c.tc : Thread Cert.Reference20Ideal.nD Cert.Reference20Ideal.τ).loc Cert.Reference20Ideal.main_arg34) = m ((c.tc : Thread Cert.Kernel20Ideal.nD Cert.Kernel20Ideal.τ).loc Cert.Kernel20Ideal.main_arg34)
      ∧ m' ((c.tc : Thread Cert.Reference20Ideal.nD Cert.Reference20Ideal.τ).loc Cert.Reference20Ideal.main_arg35) = m ((c.tc : Thread Cert.Kernel20Ideal.nD Cert.Kernel20Ideal.τ).loc Cert.Kernel20Ideal.main_arg35)
      ∧ m' ((c.tc : Thread Cert.Reference20Ideal.nD Cert.Reference20Ideal.τ).loc Cert.Reference20Ideal.main_arg36) = m ((c.tc : Thread Cert.Kernel20Ideal.nD Cert.Kernel20Ideal.τ).loc Cert.Kernel20Ideal.main_arg36)
      ∧ m' ((c.tc : Thread Cert.Reference20Ideal.nD Cert.Reference20Ideal.τ).loc Cert.Reference20Ideal.main_arg37) = m ((c.tc : Thread Cert.Kernel20Ideal.nD Cert.Kernel20Ideal.τ).loc Cert.Kernel20Ideal.main_arg37)
      ∧ m' ((c.tc : Thread Cert.Reference20Ideal.nD Cert.Reference20Ideal.τ).loc Cert.Reference20Ideal.main_arg38) = m ((c.tc : Thread Cert.Kernel20Ideal.nD Cert.Kernel20Ideal.τ).loc Cert.Kernel20Ideal.main_arg38)
      ∧ m' ((c.tc : Thread Cert.Reference20Ideal.nD Cert.Reference20Ideal.τ).loc Cert.Reference20Ideal.main_arg39) = m ((c.tc : Thread Cert.Kernel20Ideal.nD Cert.Kernel20Ideal.τ).loc Cert.Kernel20Ideal.main_arg39)
      ∧ m' ((c.tc : Thread Cert.Reference20Ideal.nD Cert.Reference20Ideal.τ).loc Cert.Reference20Ideal.main_arg40) = m ((c.tc : Thread Cert.Kernel20Ideal.nD Cert.Kernel20Ideal.τ).loc Cert.Kernel20Ideal.main_arg40)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)) (v4 : (c : Dev Cert.Kernel20Ideal.nD) → Buf (Elt Ideal) ((c.tc : Thread Cert.Kernel20Ideal.nD Cert.Kernel20Ideal.τ).loc Cert.Kernel20Ideal.main_v0_4)) (v5 : (c : Dev Cert.Kernel20Ideal.nD) → Buf (Elt Ideal) ((c.tc : Thread Cert.Kernel20Ideal.nD Cert.Kernel20Ideal.τ).loc Cert.Kernel20Ideal.main_v0_5)) (v6 : (c : Dev Cert.Kernel20Ideal.nD) → Buf (Elt Ideal) ((c.tc : Thread Cert.Kernel20Ideal.nD Cert.Kernel20Ideal.τ).loc Cert.Kernel20Ideal.main_v0_6)) (v7 : (c : Dev Cert.Kernel20Ideal.nD) → Buf (Elt Ideal) ((c.tc : Thread Cert.Kernel20Ideal.nD Cert.Kernel20Ideal.τ).loc Cert.Kernel20Ideal.main_v0_7)) (v8 : (c : Dev Cert.Kernel20Ideal.nD) → Buf (Elt Ideal) ((c.tc : Thread Cert.Kernel20Ideal.nD Cert.Kernel20Ideal.τ).loc Cert.Kernel20Ideal.main_v0_8)) (v9 : (c : Dev Cert.Kernel20Ideal.nD) → Buf (Elt Ideal) ((c.tc : Thread Cert.Kernel20Ideal.nD Cert.Kernel20Ideal.τ).loc Cert.Kernel20Ideal.main_v0_9)) (v10 : (c : Dev Cert.Kernel20Ideal.nD) → Buf (Elt Ideal) ((c.tc : Thread Cert.Kernel20Ideal.nD Cert.Kernel20Ideal.τ).loc Cert.Kernel20Ideal.main_v0_10)) (v11 : (c : Dev Cert.Kernel20Ideal.nD) → Buf (Elt Ideal) ((c.tc : Thread Cert.Kernel20Ideal.nD Cert.Kernel20Ideal.τ).loc Cert.Kernel20Ideal.main_v0_11)) (v12 : (c : Dev Cert.Kernel20Ideal.nD) → Buf (Elt Ideal) ((c.tc : Thread Cert.Kernel20Ideal.nD Cert.Kernel20Ideal.τ).loc Cert.Kernel20Ideal.main_v0_12)) (v13 : (c : Dev Cert.Kernel20Ideal.nD) → Buf (Elt Ideal) ((c.tc : Thread Cert.Kernel20Ideal.nD Cert.Kernel20Ideal.τ).loc Cert.Kernel20Ideal.main_v0_13)) (v14 : (c : Dev Cert.Kernel20Ideal.nD) → Buf (Elt Ideal) ((c.tc : Thread Cert.Kernel20Ideal.nD Cert.Kernel20Ideal.τ).loc Cert.Kernel20Ideal.main_v0_14)) (v15 : (c : Dev Cert.Kernel20Ideal.nD) → Buf (Elt Ideal) ((c.tc : Thread Cert.Kernel20Ideal.nD Cert.Kernel20Ideal.τ).loc Cert.Kernel20Ideal.main_v0_15)) (v16 : (c : Dev Cert.Kernel20Ideal.nD) → Buf (Elt Ideal) ((c.tc : Thread Cert.Kernel20Ideal.nD Cert.Kernel20Ideal.τ).loc Cert.Kernel20Ideal.main_v0_16)) (v17 : (c : Dev Cert.Kernel20Ideal.nD) → Buf (Elt Ideal) ((c.tc : Thread Cert.Kernel20Ideal.nD Cert.Kernel20Ideal.τ).loc Cert.Kernel20Ideal.main_v0_17)) (v18 : (c : Dev Cert.Kernel20Ideal.nD) → Buf (Elt Ideal) ((c.tc : Thread Cert.Kernel20Ideal.nD Cert.Kernel20Ideal.τ).loc Cert.Kernel20Ideal.main_v0_18)) (v19 : (c : Dev Cert.Kernel20Ideal.nD) → Buf (Elt Ideal) ((c.tc : Thread Cert.Kernel20Ideal.nD Cert.Kernel20Ideal.τ).loc Cert.Kernel20Ideal.main_v0_19)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_v0_4) = v4 c
          ∧ r.2.mem ((c.tc : Thread Cert.Kernel20Ideal.nD Cert.Kernel20Ideal.τ).loc Cert.Kernel20Ideal.main_v0_5) = v5 c
          ∧ r.2.mem ((c.tc : Thread Cert.Kernel20Ideal.nD Cert.Kernel20Ideal.τ).loc Cert.Kernel20Ideal.main_v0_6) = v6 c
          ∧ r.2.mem ((c.tc : Thread Cert.Kernel20Ideal.nD Cert.Kernel20Ideal.τ).loc Cert.Kernel20Ideal.main_v0_7) = v7 c
          ∧ r.2.mem ((c.tc : Thread Cert.Kernel20Ideal.nD Cert.Kernel20Ideal.τ).loc Cert.Kernel20Ideal.main_v0_8) = v8 c
          ∧ r.2.mem ((c.tc : Thread Cert.Kernel20Ideal.nD Cert.Kernel20Ideal.τ).loc Cert.Kernel20Ideal.main_v0_9) = v9 c
          ∧ r.2.mem ((c.tc : Thread Cert.Kernel20Ideal.nD Cert.Kernel20Ideal.τ).loc Cert.Kernel20Ideal.main_v0_10) = v10 c
          ∧ r.2.mem ((c.tc : Thread Cert.Kernel20Ideal.nD Cert.Kernel20Ideal.τ).loc Cert.Kernel20Ideal.main_v0_11) = v11 c
          ∧ r.2.mem ((c.tc : Thread Cert.Kernel20Ideal.nD Cert.Kernel20Ideal.τ).loc Cert.Kernel20Ideal.main_v0_12) = v12 c
          ∧ r.2.mem ((c.tc : Thread Cert.Kernel20Ideal.nD Cert.Kernel20Ideal.τ).loc Cert.Kernel20Ideal.main_v0_13) = v13 c
          ∧ r.2.mem ((c.tc : Thread Cert.Kernel20Ideal.nD Cert.Kernel20Ideal.τ).loc Cert.Kernel20Ideal.main_v0_14) = v14 c
          ∧ r.2.mem ((c.tc : Thread Cert.Kernel20Ideal.nD Cert.Kernel20Ideal.τ).loc Cert.Kernel20Ideal.main_v0_15) = v15 c
          ∧ r.2.mem ((c.tc : Thread Cert.Kernel20Ideal.nD Cert.Kernel20Ideal.τ).loc Cert.Kernel20Ideal.main_v0_16) = v16 c
          ∧ r.2.mem ((c.tc : Thread Cert.Kernel20Ideal.nD Cert.Kernel20Ideal.τ).loc Cert.Kernel20Ideal.main_v0_17) = v17 c
          ∧ r.2.mem ((c.tc : Thread Cert.Kernel20Ideal.nD Cert.Kernel20Ideal.τ).loc Cert.Kernel20Ideal.main_v0_18) = v18 c
          ∧ r.2.mem ((c.tc : Thread Cert.Kernel20Ideal.nD Cert.Kernel20Ideal.τ).loc Cert.Kernel20Ideal.main_v0_19) = v19 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
          ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
          ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7)
          ∧ r.2.mem ((c.tc : Thread Cert.Kernel20Ideal.nD Cert.Kernel20Ideal.τ).loc Cert.Kernel20Ideal.main_arg8) = m ((c.tc : Thread Cert.Kernel20Ideal.nD Cert.Kernel20Ideal.τ).loc Cert.Kernel20Ideal.main_arg8)
          ∧ r.2.mem ((c.tc : Thread Cert.Kernel20Ideal.nD Cert.Kernel20Ideal.τ).loc Cert.Kernel20Ideal.main_arg9) = m ((c.tc : Thread Cert.Kernel20Ideal.nD Cert.Kernel20Ideal.τ).loc Cert.Kernel20Ideal.main_arg9)
          ∧ r.2.mem ((c.tc : Thread Cert.Kernel20Ideal.nD Cert.Kernel20Ideal.τ).loc Cert.Kernel20Ideal.main_arg10) = m ((c.tc : Thread Cert.Kernel20Ideal.nD Cert.Kernel20Ideal.τ).loc Cert.Kernel20Ideal.main_arg10)
          ∧ r.2.mem ((c.tc : Thread Cert.Kernel20Ideal.nD Cert.Kernel20Ideal.τ).loc Cert.Kernel20Ideal.main_arg11) = m ((c.tc : Thread Cert.Kernel20Ideal.nD Cert.Kernel20Ideal.τ).loc Cert.Kernel20Ideal.main_arg11)
          ∧ r.2.mem ((c.tc : Thread Cert.Kernel20Ideal.nD Cert.Kernel20Ideal.τ).loc Cert.Kernel20Ideal.main_arg12) = m ((c.tc : Thread Cert.Kernel20Ideal.nD Cert.Kernel20Ideal.τ).loc Cert.Kernel20Ideal.main_arg12)
          ∧ r.2.mem ((c.tc : Thread Cert.Kernel20Ideal.nD Cert.Kernel20Ideal.τ).loc Cert.Kernel20Ideal.main_arg13) = m ((c.tc : Thread Cert.Kernel20Ideal.nD Cert.Kernel20Ideal.τ).loc Cert.Kernel20Ideal.main_arg13)
          ∧ r.2.mem ((c.tc : Thread Cert.Kernel20Ideal.nD Cert.Kernel20Ideal.τ).loc Cert.Kernel20Ideal.main_arg14) = m ((c.tc : Thread Cert.Kernel20Ideal.nD Cert.Kernel20Ideal.τ).loc Cert.Kernel20Ideal.main_arg14)
          ∧ r.2.mem ((c.tc : Thread Cert.Kernel20Ideal.nD Cert.Kernel20Ideal.τ).loc Cert.Kernel20Ideal.main_arg15) = m ((c.tc : Thread Cert.Kernel20Ideal.nD Cert.Kernel20Ideal.τ).loc Cert.Kernel20Ideal.main_arg15)
          ∧ r.2.mem ((c.tc : Thread Cert.Kernel20Ideal.nD Cert.Kernel20Ideal.τ).loc Cert.Kernel20Ideal.main_arg16) = m ((c.tc : Thread Cert.Kernel20Ideal.nD Cert.Kernel20Ideal.τ).loc Cert.Kernel20Ideal.main_arg16)
          ∧ r.2.mem ((c.tc : Thread Cert.Kernel20Ideal.nD Cert.Kernel20Ideal.τ).loc Cert.Kernel20Ideal.main_arg17) = m ((c.tc : Thread Cert.Kernel20Ideal.nD Cert.Kernel20Ideal.τ).loc Cert.Kernel20Ideal.main_arg17)
          ∧ r.2.mem ((c.tc : Thread Cert.Kernel20Ideal.nD Cert.Kernel20Ideal.τ).loc Cert.Kernel20Ideal.main_arg18) = m ((c.tc : Thread Cert.Kernel20Ideal.nD Cert.Kernel20Ideal.τ).loc Cert.Kernel20Ideal.main_arg18)
          ∧ r.2.mem ((c.tc : Thread Cert.Kernel20Ideal.nD Cert.Kernel20Ideal.τ).loc Cert.Kernel20Ideal.main_arg19) = m ((c.tc : Thread Cert.Kernel20Ideal.nD Cert.Kernel20Ideal.τ).loc Cert.Kernel20Ideal.main_arg19)
          ∧ r.2.mem ((c.tc : Thread Cert.Kernel20Ideal.nD Cert.Kernel20Ideal.τ).loc Cert.Kernel20Ideal.main_arg20) = m ((c.tc : Thread Cert.Kernel20Ideal.nD Cert.Kernel20Ideal.τ).loc Cert.Kernel20Ideal.main_arg20)
          ∧ r.2.mem ((c.tc : Thread Cert.Kernel20Ideal.nD Cert.Kernel20Ideal.τ).loc Cert.Kernel20Ideal.main_arg21) = m ((c.tc : Thread Cert.Kernel20Ideal.nD Cert.Kernel20Ideal.τ).loc Cert.Kernel20Ideal.main_arg21)
          ∧ r.2.mem ((c.tc : Thread Cert.Kernel20Ideal.nD Cert.Kernel20Ideal.τ).loc Cert.Kernel20Ideal.main_arg22) = m ((c.tc : Thread Cert.Kernel20Ideal.nD Cert.Kernel20Ideal.τ).loc Cert.Kernel20Ideal.main_arg22)
          ∧ r.2.mem ((c.tc : Thread Cert.Kernel20Ideal.nD Cert.Kernel20Ideal.τ).loc Cert.Kernel20Ideal.main_arg23) = m ((c.tc : Thread Cert.Kernel20Ideal.nD Cert.Kernel20Ideal.τ).loc Cert.Kernel20Ideal.main_arg23)
          ∧ r.2.mem ((c.tc : Thread Cert.Kernel20Ideal.nD Cert.Kernel20Ideal.τ).loc Cert.Kernel20Ideal.main_arg24) = m ((c.tc : Thread Cert.Kernel20Ideal.nD Cert.Kernel20Ideal.τ).loc Cert.Kernel20Ideal.main_arg24)
          ∧ r.2.mem ((c.tc : Thread Cert.Kernel20Ideal.nD Cert.Kernel20Ideal.τ).loc Cert.Kernel20Ideal.main_arg25) = m ((c.tc : Thread Cert.Kernel20Ideal.nD Cert.Kernel20Ideal.τ).loc Cert.Kernel20Ideal.main_arg25)
          ∧ r.2.mem ((c.tc : Thread Cert.Kernel20Ideal.nD Cert.Kernel20Ideal.τ).loc Cert.Kernel20Ideal.main_arg26) = m ((c.tc : Thread Cert.Kernel20Ideal.nD Cert.Kernel20Ideal.τ).loc Cert.Kernel20Ideal.main_arg26)
          ∧ r.2.mem ((c.tc : Thread Cert.Kernel20Ideal.nD Cert.Kernel20Ideal.τ).loc Cert.Kernel20Ideal.main_arg27) = m ((c.tc : Thread Cert.Kernel20Ideal.nD Cert.Kernel20Ideal.τ).loc Cert.Kernel20Ideal.main_arg27)
          ∧ r.2.mem ((c.tc : Thread Cert.Kernel20Ideal.nD Cert.Kernel20Ideal.τ).loc Cert.Kernel20Ideal.main_arg28) = m ((c.tc : Thread Cert.Kernel20Ideal.nD Cert.Kernel20Ideal.τ).loc Cert.Kernel20Ideal.main_arg28)
          ∧ r.2.mem ((c.tc : Thread Cert.Kernel20Ideal.nD Cert.Kernel20Ideal.τ).loc Cert.Kernel20Ideal.main_arg29) = m ((c.tc : Thread Cert.Kernel20Ideal.nD Cert.Kernel20Ideal.τ).loc Cert.Kernel20Ideal.main_arg29)
          ∧ r.2.mem ((c.tc : Thread Cert.Kernel20Ideal.nD Cert.Kernel20Ideal.τ).loc Cert.Kernel20Ideal.main_arg30) = m ((c.tc : Thread Cert.Kernel20Ideal.nD Cert.Kernel20Ideal.τ).loc Cert.Kernel20Ideal.main_arg30)
          ∧ r.2.mem ((c.tc : Thread Cert.Kernel20Ideal.nD Cert.Kernel20Ideal.τ).loc Cert.Kernel20Ideal.main_arg31) = m ((c.tc : Thread Cert.Kernel20Ideal.nD Cert.Kernel20Ideal.τ).loc Cert.Kernel20Ideal.main_arg31)
          ∧ r.2.mem ((c.tc : Thread Cert.Kernel20Ideal.nD Cert.Kernel20Ideal.τ).loc Cert.Kernel20Ideal.main_arg32) = m ((c.tc : Thread Cert.Kernel20Ideal.nD Cert.Kernel20Ideal.τ).loc Cert.Kernel20Ideal.main_arg32)
          ∧ r.2.mem ((c.tc : Thread Cert.Kernel20Ideal.nD Cert.Kernel20Ideal.τ).loc Cert.Kernel20Ideal.main_arg33) = m ((c.tc : Thread Cert.Kernel20Ideal.nD Cert.Kernel20Ideal.τ).loc Cert.Kernel20Ideal.main_arg33)
          ∧ r.2.mem ((c.tc : Thread Cert.Kernel20Ideal.nD Cert.Kernel20Ideal.τ).loc Cert.Kernel20Ideal.main_arg34) = m ((c.tc : Thread Cert.Kernel20Ideal.nD Cert.Kernel20Ideal.τ).loc Cert.Kernel20Ideal.main_arg34)
          ∧ r.2.mem ((c.tc : Thread Cert.Kernel20Ideal.nD Cert.Kernel20Ideal.τ).loc Cert.Kernel20Ideal.main_arg35) = m ((c.tc : Thread Cert.Kernel20Ideal.nD Cert.Kernel20Ideal.τ).loc Cert.Kernel20Ideal.main_arg35)
          ∧ r.2.mem ((c.tc : Thread Cert.Kernel20Ideal.nD Cert.Kernel20Ideal.τ).loc Cert.Kernel20Ideal.main_arg36) = m ((c.tc : Thread Cert.Kernel20Ideal.nD Cert.Kernel20Ideal.τ).loc Cert.Kernel20Ideal.main_arg36)
          ∧ r.2.mem ((c.tc : Thread Cert.Kernel20Ideal.nD Cert.Kernel20Ideal.τ).loc Cert.Kernel20Ideal.main_arg37) = m ((c.tc : Thread Cert.Kernel20Ideal.nD Cert.Kernel20Ideal.τ).loc Cert.Kernel20Ideal.main_arg37)
          ∧ r.2.mem ((c.tc : Thread Cert.Kernel20Ideal.nD Cert.Kernel20Ideal.τ).loc Cert.Kernel20Ideal.main_arg38) = m ((c.tc : Thread Cert.Kernel20Ideal.nD Cert.Kernel20Ideal.τ).loc Cert.Kernel20Ideal.main_arg38)
          ∧ r.2.mem ((c.tc : Thread Cert.Kernel20Ideal.nD Cert.Kernel20Ideal.τ).loc Cert.Kernel20Ideal.main_arg39) = m ((c.tc : Thread Cert.Kernel20Ideal.nD Cert.Kernel20Ideal.τ).loc Cert.Kernel20Ideal.main_arg39)
          ∧ r.2.mem ((c.tc : Thread Cert.Kernel20Ideal.nD Cert.Kernel20Ideal.τ).loc Cert.Kernel20Ideal.main_arg40) = m ((c.tc : Thread Cert.Kernel20Ideal.nD Cert.Kernel20Ideal.τ).loc Cert.Kernel20Ideal.main_arg40))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v7) = v0 c
          ∧ r.2.mem ((c.tc : Thread Cert.Reference20Ideal.nD Cert.Reference20Ideal.τ).loc Cert.Reference20Ideal.main_v15) = v1 c
          ∧ r.2.mem ((c.tc : Thread Cert.Reference20Ideal.nD Cert.Reference20Ideal.τ).loc Cert.Reference20Ideal.main_v23) = v2 c
          ∧ r.2.mem ((c.tc : Thread Cert.Reference20Ideal.nD Cert.Reference20Ideal.τ).loc Cert.Reference20Ideal.main_v31) = v3 c
          ∧ r.2.mem ((c.tc : Thread Cert.Reference20Ideal.nD Cert.Reference20Ideal.τ).loc Cert.Reference20Ideal.main_v39) = v4 c
          ∧ r.2.mem ((c.tc : Thread Cert.Reference20Ideal.nD Cert.Reference20Ideal.τ).loc Cert.Reference20Ideal.main_v47) = v5 c
          ∧ r.2.mem ((c.tc : Thread Cert.Reference20Ideal.nD Cert.Reference20Ideal.τ).loc Cert.Reference20Ideal.main_v55) = v6 c
          ∧ r.2.mem ((c.tc : Thread Cert.Reference20Ideal.nD Cert.Reference20Ideal.τ).loc Cert.Reference20Ideal.main_v63) = v7 c
          ∧ r.2.mem ((c.tc : Thread Cert.Reference20Ideal.nD Cert.Reference20Ideal.τ).loc Cert.Reference20Ideal.main_v71) = v8 c
          ∧ r.2.mem ((c.tc : Thread Cert.Reference20Ideal.nD Cert.Reference20Ideal.τ).loc Cert.Reference20Ideal.main_v79) = v9 c
          ∧ r.2.mem ((c.tc : Thread Cert.Reference20Ideal.nD Cert.Reference20Ideal.τ).loc Cert.Reference20Ideal.main_v87) = v10 c
          ∧ r.2.mem ((c.tc : Thread Cert.Reference20Ideal.nD Cert.Reference20Ideal.τ).loc Cert.Reference20Ideal.main_v95) = v11 c
          ∧ r.2.mem ((c.tc : Thread Cert.Reference20Ideal.nD Cert.Reference20Ideal.τ).loc Cert.Reference20Ideal.main_v103) = v12 c
          ∧ r.2.mem ((c.tc : Thread Cert.Reference20Ideal.nD Cert.Reference20Ideal.τ).loc Cert.Reference20Ideal.main_v111) = v13 c
          ∧ r.2.mem ((c.tc : Thread Cert.Reference20Ideal.nD Cert.Reference20Ideal.τ).loc Cert.Reference20Ideal.main_v119) = v14 c
          ∧ r.2.mem ((c.tc : Thread Cert.Reference20Ideal.nD Cert.Reference20Ideal.τ).loc Cert.Reference20Ideal.main_v127) = v15 c
          ∧ r.2.mem ((c.tc : Thread Cert.Reference20Ideal.nD Cert.Reference20Ideal.τ).loc Cert.Reference20Ideal.main_v135) = v16 c
          ∧ r.2.mem ((c.tc : Thread Cert.Reference20Ideal.nD Cert.Reference20Ideal.τ).loc Cert.Reference20Ideal.main_v143) = v17 c
          ∧ r.2.mem ((c.tc : Thread Cert.Reference20Ideal.nD Cert.Reference20Ideal.τ).loc Cert.Reference20Ideal.main_v151) = v18 c
          ∧ r.2.mem ((c.tc : Thread Cert.Reference20Ideal.nD Cert.Reference20Ideal.τ).loc Cert.Reference20Ideal.main_v159) = v19 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5)
          ∧ r.2.mem ((c.tc : Thread Cert.Reference20Ideal.nD Cert.Reference20Ideal.τ).loc Cert.Reference20Ideal.main_arg6) = m' ((c.tc : Thread Cert.Reference20Ideal.nD Cert.Reference20Ideal.τ).loc Cert.Reference20Ideal.main_arg6)
          ∧ r.2.mem ((c.tc : Thread Cert.Reference20Ideal.nD Cert.Reference20Ideal.τ).loc Cert.Reference20Ideal.main_arg7) = m' ((c.tc : Thread Cert.Reference20Ideal.nD Cert.Reference20Ideal.τ).loc Cert.Reference20Ideal.main_arg7)
          ∧ r.2.mem ((c.tc : Thread Cert.Reference20Ideal.nD Cert.Reference20Ideal.τ).loc Cert.Reference20Ideal.main_arg8) = m' ((c.tc : Thread Cert.Reference20Ideal.nD Cert.Reference20Ideal.τ).loc Cert.Reference20Ideal.main_arg8)
          ∧ r.2.mem ((c.tc : Thread Cert.Reference20Ideal.nD Cert.Reference20Ideal.τ).loc Cert.Reference20Ideal.main_arg9) = m' ((c.tc : Thread Cert.Reference20Ideal.nD Cert.Reference20Ideal.τ).loc Cert.Reference20Ideal.main_arg9)
          ∧ r.2.mem ((c.tc : Thread Cert.Reference20Ideal.nD Cert.Reference20Ideal.τ).loc Cert.Reference20Ideal.main_arg10) = m' ((c.tc : Thread Cert.Reference20Ideal.nD Cert.Reference20Ideal.τ).loc Cert.Reference20Ideal.main_arg10)
          ∧ r.2.mem ((c.tc : Thread Cert.Reference20Ideal.nD Cert.Reference20Ideal.τ).loc Cert.Reference20Ideal.main_arg11) = m' ((c.tc : Thread Cert.Reference20Ideal.nD Cert.Reference20Ideal.τ).loc Cert.Reference20Ideal.main_arg11)
          ∧ r.2.mem ((c.tc : Thread Cert.Reference20Ideal.nD Cert.Reference20Ideal.τ).loc Cert.Reference20Ideal.main_arg12) = m' ((c.tc : Thread Cert.Reference20Ideal.nD Cert.Reference20Ideal.τ).loc Cert.Reference20Ideal.main_arg12)
          ∧ r.2.mem ((c.tc : Thread Cert.Reference20Ideal.nD Cert.Reference20Ideal.τ).loc Cert.Reference20Ideal.main_arg13) = m' ((c.tc : Thread Cert.Reference20Ideal.nD Cert.Reference20Ideal.τ).loc Cert.Reference20Ideal.main_arg13)
          ∧ r.2.mem ((c.tc : Thread Cert.Reference20Ideal.nD Cert.Reference20Ideal.τ).loc Cert.Reference20Ideal.main_arg14) = m' ((c.tc : Thread Cert.Reference20Ideal.nD Cert.Reference20Ideal.τ).loc Cert.Reference20Ideal.main_arg14)
          ∧ r.2.mem ((c.tc : Thread Cert.Reference20Ideal.nD Cert.Reference20Ideal.τ).loc Cert.Reference20Ideal.main_arg15) = m' ((c.tc : Thread Cert.Reference20Ideal.nD Cert.Reference20Ideal.τ).loc Cert.Reference20Ideal.main_arg15)
          ∧ r.2.mem ((c.tc : Thread Cert.Reference20Ideal.nD Cert.Reference20Ideal.τ).loc Cert.Reference20Ideal.main_arg16) = m' ((c.tc : Thread Cert.Reference20Ideal.nD Cert.Reference20Ideal.τ).loc Cert.Reference20Ideal.main_arg16)
          ∧ r.2.mem ((c.tc : Thread Cert.Reference20Ideal.nD Cert.Reference20Ideal.τ).loc Cert.Reference20Ideal.main_arg17) = m' ((c.tc : Thread Cert.Reference20Ideal.nD Cert.Reference20Ideal.τ).loc Cert.Reference20Ideal.main_arg17)
          ∧ r.2.mem ((c.tc : Thread Cert.Reference20Ideal.nD Cert.Reference20Ideal.τ).loc Cert.Reference20Ideal.main_arg18) = m' ((c.tc : Thread Cert.Reference20Ideal.nD Cert.Reference20Ideal.τ).loc Cert.Reference20Ideal.main_arg18)
          ∧ r.2.mem ((c.tc : Thread Cert.Reference20Ideal.nD Cert.Reference20Ideal.τ).loc Cert.Reference20Ideal.main_arg19) = m' ((c.tc : Thread Cert.Reference20Ideal.nD Cert.Reference20Ideal.τ).loc Cert.Reference20Ideal.main_arg19)
          ∧ r.2.mem ((c.tc : Thread Cert.Reference20Ideal.nD Cert.Reference20Ideal.τ).loc Cert.Reference20Ideal.main_arg20) = m' ((c.tc : Thread Cert.Reference20Ideal.nD Cert.Reference20Ideal.τ).loc Cert.Reference20Ideal.main_arg20)
          ∧ r.2.mem ((c.tc : Thread Cert.Reference20Ideal.nD Cert.Reference20Ideal.τ).loc Cert.Reference20Ideal.main_arg21) = m' ((c.tc : Thread Cert.Reference20Ideal.nD Cert.Reference20Ideal.τ).loc Cert.Reference20Ideal.main_arg21)
          ∧ r.2.mem ((c.tc : Thread Cert.Reference20Ideal.nD Cert.Reference20Ideal.τ).loc Cert.Reference20Ideal.main_arg22) = m' ((c.tc : Thread Cert.Reference20Ideal.nD Cert.Reference20Ideal.τ).loc Cert.Reference20Ideal.main_arg22)
          ∧ r.2.mem ((c.tc : Thread Cert.Reference20Ideal.nD Cert.Reference20Ideal.τ).loc Cert.Reference20Ideal.main_arg23) = m' ((c.tc : Thread Cert.Reference20Ideal.nD Cert.Reference20Ideal.τ).loc Cert.Reference20Ideal.main_arg23)
          ∧ r.2.mem ((c.tc : Thread Cert.Reference20Ideal.nD Cert.Reference20Ideal.τ).loc Cert.Reference20Ideal.main_arg24) = m' ((c.tc : Thread Cert.Reference20Ideal.nD Cert.Reference20Ideal.τ).loc Cert.Reference20Ideal.main_arg24)
          ∧ r.2.mem ((c.tc : Thread Cert.Reference20Ideal.nD Cert.Reference20Ideal.τ).loc Cert.Reference20Ideal.main_arg25) = m' ((c.tc : Thread Cert.Reference20Ideal.nD Cert.Reference20Ideal.τ).loc Cert.Reference20Ideal.main_arg25)
          ∧ r.2.mem ((c.tc : Thread Cert.Reference20Ideal.nD Cert.Reference20Ideal.τ).loc Cert.Reference20Ideal.main_arg26) = m' ((c.tc : Thread Cert.Reference20Ideal.nD Cert.Reference20Ideal.τ).loc Cert.Reference20Ideal.main_arg26)
          ∧ r.2.mem ((c.tc : Thread Cert.Reference20Ideal.nD Cert.Reference20Ideal.τ).loc Cert.Reference20Ideal.main_arg27) = m' ((c.tc : Thread Cert.Reference20Ideal.nD Cert.Reference20Ideal.τ).loc Cert.Reference20Ideal.main_arg27)
          ∧ r.2.mem ((c.tc : Thread Cert.Reference20Ideal.nD Cert.Reference20Ideal.τ).loc Cert.Reference20Ideal.main_arg28) = m' ((c.tc : Thread Cert.Reference20Ideal.nD Cert.Reference20Ideal.τ).loc Cert.Reference20Ideal.main_arg28)
          ∧ r.2.mem ((c.tc : Thread Cert.Reference20Ideal.nD Cert.Reference20Ideal.τ).loc Cert.Reference20Ideal.main_arg29) = m' ((c.tc : Thread Cert.Reference20Ideal.nD Cert.Reference20Ideal.τ).loc Cert.Reference20Ideal.main_arg29)
          ∧ r.2.mem ((c.tc : Thread Cert.Reference20Ideal.nD Cert.Reference20Ideal.τ).loc Cert.Reference20Ideal.main_arg30) = m' ((c.tc : Thread Cert.Reference20Ideal.nD Cert.Reference20Ideal.τ).loc Cert.Reference20Ideal.main_arg30)
          ∧ r.2.mem ((c.tc : Thread Cert.Reference20Ideal.nD Cert.Reference20Ideal.τ).loc Cert.Reference20Ideal.main_arg31) = m' ((c.tc : Thread Cert.Reference20Ideal.nD Cert.Reference20Ideal.τ).loc Cert.Reference20Ideal.main_arg31)
          ∧ r.2.mem ((c.tc : Thread Cert.Reference20Ideal.nD Cert.Reference20Ideal.τ).loc Cert.Reference20Ideal.main_arg32) = m' ((c.tc : Thread Cert.Reference20Ideal.nD Cert.Reference20Ideal.τ).loc Cert.Reference20Ideal.main_arg32)
          ∧ r.2.mem ((c.tc : Thread Cert.Reference20Ideal.nD Cert.Reference20Ideal.τ).loc Cert.Reference20Ideal.main_arg33) = m' ((c.tc : Thread Cert.Reference20Ideal.nD Cert.Reference20Ideal.τ).loc Cert.Reference20Ideal.main_arg33)
          ∧ r.2.mem ((c.tc : Thread Cert.Reference20Ideal.nD Cert.Reference20Ideal.τ).loc Cert.Reference20Ideal.main_arg34) = m' ((c.tc : Thread Cert.Reference20Ideal.nD Cert.Reference20Ideal.τ).loc Cert.Reference20Ideal.main_arg34)
          ∧ r.2.mem ((c.tc : Thread Cert.Reference20Ideal.nD Cert.Reference20Ideal.τ).loc Cert.Reference20Ideal.main_arg35) = m' ((c.tc : Thread Cert.Reference20Ideal.nD Cert.Reference20Ideal.τ).loc Cert.Reference20Ideal.main_arg35)
          ∧ r.2.mem ((c.tc : Thread Cert.Reference20Ideal.nD Cert.Reference20Ideal.τ).loc Cert.Reference20Ideal.main_arg36) = m' ((c.tc : Thread Cert.Reference20Ideal.nD Cert.Reference20Ideal.τ).loc Cert.Reference20Ideal.main_arg36)
          ∧ r.2.mem ((c.tc : Thread Cert.Reference20Ideal.nD Cert.Reference20Ideal.τ).loc Cert.Reference20Ideal.main_arg37) = m' ((c.tc : Thread Cert.Reference20Ideal.nD Cert.Reference20Ideal.τ).loc Cert.Reference20Ideal.main_arg37)
          ∧ r.2.mem ((c.tc : Thread Cert.Reference20Ideal.nD Cert.Reference20Ideal.τ).loc Cert.Reference20Ideal.main_arg38) = m' ((c.tc : Thread Cert.Reference20Ideal.nD Cert.Reference20Ideal.τ).loc Cert.Reference20Ideal.main_arg38)
          ∧ r.2.mem ((c.tc : Thread Cert.Reference20Ideal.nD Cert.Reference20Ideal.τ).loc Cert.Reference20Ideal.main_arg39) = m' ((c.tc : Thread Cert.Reference20Ideal.nD Cert.Reference20Ideal.τ).loc Cert.Reference20Ideal.main_arg39)
          ∧ r.2.mem ((c.tc : Thread Cert.Reference20Ideal.nD Cert.Reference20Ideal.τ).loc Cert.Reference20Ideal.main_arg40) = m' ((c.tc : Thread Cert.Reference20Ideal.nD Cert.Reference20Ideal.τ).loc Cert.Reference20Ideal.main_arg40))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Kernel.lean ====
abbrev S8192x768 : Shape := ⟨2, ![8192, 768]⟩
abbrev S256 : Shape := ⟨1, ![256]⟩
abbrev S4x128x128 : Shape := ⟨3, ![4, 128, 128]⟩
abbrev S4x128 : Shape := ⟨2, ![4, 128]⟩
abbrev S8192x256 : Shape := ⟨2, ![8192, 256]⟩
abbrev S128x4 : Shape := ⟨2, ![128, 4]⟩
abbrev S_ : Shape := ⟨0, ![]⟩
abbrev S128x128 : Shape := ⟨2, ![128, 128]⟩
abbrev S1x256 : Shape := ⟨2, ![1, 256]⟩
abbrev S1024x768 : Shape := ⟨2, ![1024, 768]⟩
abbrev S1024x256 : Shape := ⟨2, ![1024, 256]⟩
abbrev S1x128x128 : Shape := ⟨3, ![1, 128, 128]⟩
abbrev S128x256 : Shape := ⟨2, ![128, 256]⟩
abbrev S128 : Shape := ⟨1, ![128]⟩
abbrev S128x1 : Shape := ⟨2, ![128, 1]⟩
abbrev S128x3 : Shape := ⟨2, ![128, 3]⟩
abbrev S128x124 : Shape := ⟨2, ![128, 124]⟩
abbrev S128x2 : Shape := ⟨2, ![128, 2]⟩
abbrev S128x125 : Shape := ⟨2, ![128, 125]⟩
abbrev S128x126 : Shape := ⟨2, ![128, 126]⟩
abbrev S128x127 : Shape := ⟨2, ![128, 127]⟩

abbrev nBuf : Space → Nat
  | .hbm => 17
  | .vmem => 14
  | .smem => 0
  | _ => 0

abbrev bufTy : (tb : Table) → Fin (tcTables nBuf tb) → BufTy
  | .hbm, ⟨0, _⟩ => ⟨S8192x768, .f32⟩
  | .hbm, ⟨1, _⟩ => ⟨S256, .f32⟩
  | .hbm, ⟨2, _⟩ => ⟨S256, .f32⟩
  | .hbm, ⟨3, _⟩ => ⟨S4x128x128, .f32⟩
  | .hbm, ⟨4, _⟩ => ⟨S4x128, .f32⟩
  | .hbm, ⟨5, _⟩ => ⟨S8192x256, .f32⟩
  | .hbm, ⟨6, _⟩ => ⟨S128x4, .f32⟩
  | .hbm, ⟨7, _⟩ => ⟨S_, .i32⟩
  | .hbm, ⟨8, _⟩ => ⟨S_, .f32⟩
  | .hbm, ⟨9, _⟩ => ⟨S128x128, .f32⟩
  | .hbm, ⟨10, _⟩ => ⟨S1x256, .f32⟩
  | .hbm, ⟨11, _⟩ => ⟨S1x256, .f32⟩
  | .hbm, ⟨12, _⟩ => ⟨S8192x768, .bf16⟩
  | .hbm, ⟨13, _⟩ => ⟨S1x256, .f32⟩
  | .hbm, ⟨14, _⟩ => ⟨S1x256, .f32⟩
  | .hbm, ⟨15, _⟩ => ⟨S4x128x128, .f32⟩
  | .hbm, ⟨16, _⟩ => ⟨S128x128, .f32⟩
  | .local _ .vmem, ⟨0, _⟩ => ⟨S1024x768, .f32⟩
  | .local _ .vmem, ⟨1, _⟩ => ⟨S1024x768, .f32⟩
  | .local _ .vmem, ⟨2, _⟩ => ⟨S1x256, .f32⟩
  | .local _ .vmem, ⟨3, _⟩ => ⟨S1x256, .f32⟩
  | .local _ .vmem, ⟨4, _⟩ => ⟨S4x128x128, .f32⟩
  | .local _ .vmem, ⟨5, _⟩ => ⟨S128x128, .f32⟩
  | .local _ .vmem, ⟨6, _⟩ => ⟨S1024x256, .f32⟩
  | .local _ .vmem, ⟨7, _⟩ => ⟨S1024x256, .f32⟩
  | .local _ .vmem, ⟨8, _⟩ => ⟨S1024x768, .bf16⟩
  | .local _ .vmem, ⟨9, _⟩ => ⟨S1024x768, .bf16⟩
  | .local _ .vmem, ⟨10, _⟩ => ⟨S1x256, .f32⟩
  | .local _ .vmem, ⟨11, _⟩ => ⟨S1x256, .f32⟩
  | .local _ .vmem, ⟨12, _⟩ => ⟨S4x128x128, .f32⟩
  | .local _ .vmem, ⟨13, _⟩ => ⟨S128x128, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_803 : BitVec 32 := 0#32
  let v2361 : BitVec 1 := Scalar.cmpi .eq arg0 c0_i32_803
  let v2362 : BitVec 32 := Scalar.extui v2361
  let c0_i32_804 : BitVec 32 := 0#32
  let v2363 : BitVec 1 := Scalar.cmpi .ne v2362 c0_i32_804
  v2363

def k0_cond2 (i : grid0.Coords) : BitVec 1 :=
  let arg0 : BitVec 32 := BitVec.ofNat 32 (i 0).val
  let c0_i32_803 : BitVec 32 := 0#32
  let v2361 : BitVec 1 := Scalar.cmpi .eq arg0 c0_i32_803
  let v_true : BitVec 1 := 1#1
  let v2364 : BitVec 1 := Scalar.xori v2361 v_true
  let v2365 : BitVec 32 := Scalar.extui v2364
  let c0_i32_805 : BitVec 32 := 0#32
  let v2366 : BitVec 1 := Scalar.cmpi .ne v2365 c0_i32_805
  v2366

def k0_cond3 (i : grid0.Coords) : BitVec 1 :=
  let arg0 : BitVec 32 := BitVec.ofNat 32 (i 0).val
  let c0_i32_803 : BitVec 32 := 0#32
  let v2361 : BitVec 1 := Scalar.cmpi .eq arg0 c0_i32_803
  let v2367 : BitVec 32 := Scalar.extui v2361
  let c0_i32_806 : BitVec 32 := 0#32
  let v2368 : BitVec 1 := Scalar.cmpi .ne v2367 c0_i32_806
  v2368

def k0_cond4 (i : grid0.Coords) : BitVec 1 :=
  let arg0 : BitVec 32 := BitVec.ofNat 32 (i 0).val
  let c0_i32_803 : BitVec 32 := 0#32
  let v2361 : BitVec 1 := Scalar.cmpi .eq arg0 c0_i32_803
  let true_807 : BitVec 1 := 1#1
  let v2369 : BitVec 1 := Scalar.xori v2361 true_807
  let v2370 : BitVec 32 := Scalar.extui v2369
  let c0_i32_808 : BitVec 32 := 0#32
  let v2371 : BitVec 1 := Scalar.cmpi .ne v2370 c0_i32_808
  v2371

def k0_cond7 (i : grid0.Coords) : BitVec 1 :=
  let arg0 : BitVec 32 := BitVec.ofNat 32 (i 0).val
  let c0_i32_803 : BitVec 32 := 0#32
  let v2361 : BitVec 1 := Scalar.cmpi .eq arg0 c0_i32_803
  let v2377 : BitVec 32 := Scalar.extui v2361
  let c0_i32_812 : BitVec 32 := 0#32
  let v2378 : BitVec 1 := Scalar.cmpi .ne v2377 c0_i32_812
  v2378

def k0_cond8 (i : grid0.Coords) : BitVec 1 :=
  let arg0 : BitVec 32 := BitVec.ofNat 32 (i 0).val
  let c0_i32_803 : BitVec 32 := 0#32
  let v2361 : BitVec 1 := Scalar.cmpi .eq arg0 c0_i32_803
  let true_813 : BitVec 1 := 1#1
  let v2379 : BitVec 1 := Scalar.xori v2361 true_813
  let v2380 : BitVec 32 := Scalar.extui v2379
  let c0_i32_814 : BitVec 32 := 0#32
  let v2381 : BitVec 1 := Scalar.cmpi .ne v2380 c0_i32_814
  v2381

def k0_cond9 (i : grid0.Coords) : BitVec 1 :=
  let arg0 : BitVec 32 := BitVec.ofNat 32 (i 0).val
  let c0_i32_803 : BitVec 32 := 0#32
  let v2361 : BitVec 1 := Scalar.cmpi .eq arg0 c0_i32_803
  let v2382 : BitVec 32 := Scalar.extui v2361
  let c0_i32_815 : BitVec 32 := 0#32
  let v2383 : BitVec 1 := Scalar.cmpi .ne v2382 c0_i32_815
  v2383

def k0_cond10 (i : grid0.Coords) : BitVec 1 :=
  let arg0 : BitVec 32 := BitVec.ofNat 32 (i 0).val
  let c0_i32_803 : BitVec 32 := 0#32
  let v2361 : BitVec 1 := Scalar.cmpi .eq arg0 c0_i32_803
  let true_816 : BitVec 1 := 1#1
  let v2384 : BitVec 1 := Scalar.xori v2361 true_816
  let v2385 : BitVec 32 := Scalar.extui v2384
  let c0_i32_817 : BitVec 32 := 0#32
  let v2386 : BitVec 1 := Scalar.cmpi .ne v2385 c0_i32_817
  v2386

def k0_cond11 (i : grid0.Coords) : BitVec 1 :=
  let arg0 : BitVec 32 := BitVec.ofNat 32 (i 0).val
  let c0_i32_803 : BitVec 32 := 0#32
  let v2361 : BitVec 1 := Scalar.cmpi .eq arg0 c0_i32_803
  let v2387 : BitVec 32 := Scalar.extui v2361
  let c0_i32_818 : BitVec 32 := 0#32
  let v2388 : BitVec 1 := Scalar.cmpi .ne v2387 c0_i32_818
  v2388

def k0_cond12 (i : grid0.Coords) : BitVec 1 :=
  let arg0 : BitVec 32 := BitVec.ofNat 32 (i 0).val
  let c0_i32_803 : BitVec 32 := 0#32
  let v2361 : BitVec 1 := Scalar.cmpi .eq arg0 c0_i32_803
  let true_819 : BitVec 1 := 1#1
  let v2389 : BitVec 1 := Scalar.xori v2361 true_819
  let v2390 : BitVec 32 := Scalar.extui v2389
  let c0_i32_820 : BitVec 32 := 0#32
  let v2391 : BitVec 1 := Scalar.cmpi .ne v2390 c0_i32_820
  v2391

def k0_cond13 (i : grid0.Coords) : BitVec 1 :=
  let arg0 : BitVec 32 := BitVec.ofNat 32 (i 0).val
  let c0_i32_803 : BitVec 32 := 0#32
  let v2361 : BitVec 1 := Scalar.cmpi .eq arg0 c0_i32_803
  let v2392 : BitVec 32 := Scalar.extui v2361
  let c0_i32_821 : BitVec 32 := 0#32
  let v2393 : BitVec 1 := Scalar.cmpi .ne v2392 c0_i32_821
  v2393

def k0_cond14 (i : grid0.Coords) : BitVec 1 :=
  let arg0 : BitVec 32 := BitVec.ofNat 32 (i 0).val
  let c0_i32_803 : BitVec 32 := 0#32
  let v2361 : BitVec 1 := Scalar.cmpi .eq arg0 c0_i32_803
  let true_822 : BitVec 1 := 1#1
  let v2394 : BitVec 1 := Scalar.xori v2361 true_822
  let v2395 : BitVec 32 := Scalar.extui v2394
  let c0_i32_823 : BitVec 32 := 0#32
  let v2396 : BitVec 1 := Scalar.cmpi .ne v2395 c0_i32_823
  v2396

def k0_cond5 (i : grid0.Coords) : BitVec 1 :=
  let arg0 : BitVec 32 := BitVec.ofNat 32 (i 0).val
  let c0_i32_803 : BitVec 32 := 0#32
  let v2361 : BitVec 1 := Scalar.cmpi .eq arg0 c0_i32_803
  let v2372 : BitVec 32 := Scalar.extui v2361
  let c0_i32_809 : BitVec 32 := 0#32
  let v2373 : BitVec 1 := Scalar.cmpi .ne v2372 c0_i32_809
  v2373

def k0_cond6 (i : grid0.Coords) : BitVec 1 :=
  let arg0 : BitVec 32 := BitVec.ofNat 32 (i 0).val
  let c0_i32_803 : BitVec 32 := 0#32
  let v2361 : BitVec 1 := Scalar.cmpi .eq arg0 c0_i32_803
  let true_810 : BitVec 1 := 1#1
  let v2374 : BitVec 1 := Scalar.xori v2361 true_810
  let v2375 : BitVec 32 := Scalar.extui v2374
  let c0_i32_811 : BitVec 32 := 0#32
  let v2376 : BitVec 1 := Scalar.cmpi .ne v2375 c0_i32_811
  v2376

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S8192x768 : Shape := ⟨2, ![8192, 768]⟩
abbrev S256 : Shape := ⟨1, ![256]⟩
abbrev S4x128x128 : Shape := ⟨3, ![4, 128, 128]⟩
abbrev S4x128 : Shape := ⟨2, ![4, 128]⟩
abbrev S8192x256 : Shape := ⟨2, ![8192, 256]⟩
abbrev S2x4096x768 : Shape := ⟨3, ![2, 4096, 768]⟩
abbrev S2x4096x256 : Shape := ⟨3, ![2, 4096, 256]⟩
abbrev S_ : Shape := ⟨0, ![]⟩
abbrev S2x4096 : Shape := ⟨2, ![2, 4096]⟩
abbrev S2x4096x1 : Shape := ⟨3, ![2, 4096, 1]⟩
abbrev S1x1x256 : Shape := ⟨3, ![1, 1, 256]⟩
abbrev S2x32x128x4x64 : Shape := ⟨5, ![2, 32, 128, 4, 64]⟩
abbrev S128x128 : Shape := ⟨2, ![128, 128]⟩
abbrev S4x2x32x64x128 : Shape := ⟨5, ![4, 2, 32, 64, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S1x256 : Shape := ⟨2, ![1, 256]⟩

abbrev nBuf : Space → Nat
  | .hbm => 246
  | .vmem => 0
  | .smem => 0
  | _ => 0

abbrev hbmTy0_0 (i : Nat) : BufTy := match i % 128 with
  | 0 => ⟨S8192x768, .f32⟩
  | 1 => ⟨S256, .f32⟩
  | 2 => ⟨S256, .f32⟩
  | 3 => ⟨S4x128x128, .f32⟩
  | 4 => ⟨S4x128, .f32⟩
  | 5 => ⟨S8192x256, .f32⟩
  | 6 => ⟨S2x4096x768, .f32⟩
  | 7 => ⟨S2x4096x256, .f32⟩
  | 8 => ⟨S2x4096x256, .f32⟩
  | 9 => ⟨S2x4096x256, .f32⟩
  | 10 => ⟨S2x4096x256, .f32⟩
  | 11 => ⟨S2x4096x256, .f32⟩
  | 12 => ⟨S2x4096x256, .f32⟩
  | 13 => ⟨S_, .f32⟩
  | 14 => ⟨S2x4096x256, .f32⟩
  | 15 => ⟨S2x4096x256, .f32⟩
  | 16 => ⟨S_, .f32⟩
  | 17 => ⟨S2x4096x256, .f32⟩
  | 18 => ⟨S2x4096x256, .f32⟩
  | 19 => ⟨S2x4096x256, .f32⟩
  | 20 => ⟨S_, .f32⟩
  | 21 => ⟨S2x4096x256, .f32⟩
  | 22 => ⟨S2x4096x256, .f32⟩
  | 23 => ⟨S2x4096x256, .f32⟩
  | 24 => ⟨S_, .f32⟩
  | 25 => ⟨S2x4096x256, .f32⟩
  | 26 => ⟨S2x4096x256, .f32⟩
  | 27 => ⟨S_, .f32⟩
  | 28 => ⟨S2x4096x256, .f32⟩
  | 29 => ⟨S2x4096x256, .f32⟩
  | 30 => ⟨S2x4096x256, .f32⟩
  | 31 => ⟨S_, .f32⟩
  | 32 => ⟨S2x4096x256, .f32⟩
  | 33 => ⟨S2x4096x256, .f32⟩
  | 34 => ⟨S_, .f32⟩
  | 35 => ⟨S2x4096x256, .f32⟩
  | 36 => ⟨S2x4096x256, .f32⟩
  | 37 => ⟨S2x4096x256, .f32⟩
  | 38 => ⟨S2x4096x256, .f32⟩
  | 39 => ⟨S2x4096x256, .f32⟩
  | 40 => ⟨S2x4096x256, .f32⟩
  | 41 => ⟨S_, .f32⟩
  | 42 => ⟨S2x4096x256, .f32⟩
  | 43 => ⟨S2x4096x256, .f32⟩
  | 44 => ⟨S_, .f32⟩
  | 45 => ⟨S2x4096x256, .f32⟩
  | 46 => ⟨S2x4096x256, .f32⟩
  | 47 => ⟨S2x4096x256, .f32⟩
  | 48 => ⟨S_, .f32⟩
  | 49 => ⟨S2x4096x256, .f32⟩
  | 50 => ⟨S2x4096x256, .f32⟩
  | 51 => ⟨S2x4096x256, .f32⟩
  | 52 => ⟨S_, .f32⟩
  | 53 => ⟨S2x4096x256, .f32⟩
  | 54 => ⟨S2x4096x256, .f32⟩
  | 55 => ⟨S_, .f32⟩
  | 56 => ⟨S2x4096x256, .f32⟩
  | 57 => ⟨S2x4096x256, .f32⟩
  | 58 => ⟨S2x4096x256, .f32⟩
  | 59 => ⟨S_, .f32⟩
  | 60 => ⟨S2x4096x256, .f32⟩
  | 61 => ⟨S2x4096x256, .f32⟩
  | 62 => ⟨S_, .f32⟩
  | 63 => ⟨S2x4096x256, .f32⟩
  | 64 => ⟨S2x4096x256, .f32⟩
  | 65 => ⟨S2x4096x256, .f32⟩
  | 66 => ⟨S_, .f32⟩
  | 67 => ⟨S2x4096, .f32⟩
  | 68 => ⟨S2x4096x1, .f32⟩
  | 69 => ⟨S_, .f32⟩
  | 70 => ⟨S2x4096x1, .f32⟩
  | 71 => ⟨S2x4096x1, .f32⟩
  | 72 => ⟨S2x4096x256, .f32⟩
  | 73 => ⟨S2x4096x256, .f32⟩
  | 74 => ⟨S2x4096x256, .f32⟩
  | 75 => ⟨S_, .f32⟩
  | 76 => ⟨S2x4096, .f32⟩
  | 77 => ⟨S2x4096x1, .f32⟩
  | 78 => ⟨S_, .f32⟩
  | 79 => ⟨S2x4096x1, .f32⟩
  | 80 => ⟨S2x4096x1, .f32⟩
  | 81 => ⟨S_, .f32⟩
  | 82 => ⟨S2x4096x1, .f32⟩
  | 83 => ⟨S2x4096x1, .f32⟩
  | 84 => ⟨S2x4096x1, .f32⟩
  | 85 => ⟨S2x4096x1, .f32⟩
  | 86 => ⟨S_, .f32⟩
  | 87 => ⟨S2x4096x1, .f32⟩
  | 88 => ⟨S2x4096x1, .f32⟩
  | 89 => ⟨S2x4096x256, .f32⟩
  | 90 => ⟨S2x4096x256, .f32⟩
  | 91 => ⟨S1x1x256, .f32⟩
  | 92 => ⟨S2x4096x256, .f32⟩
  | 93 => ⟨S2x4096x256, .f32⟩
  | 94 => ⟨S1x1x256, .f32⟩
  | 95 => ⟨S2x4096x256, .f32⟩
  | 96 => ⟨S2x4096x256, .f32⟩
  | 97 => ⟨S2x32x128x4x64, .f32⟩
  | 98 => ⟨S_, .i1⟩
  | 99 => ⟨S128x128, .i1⟩
  | 100 => ⟨S128x128, .i32⟩
  | 101 => ⟨S_, .i32⟩
  | 102 => ⟨S128x128, .i32⟩
  | 103 => ⟨S128x128, .i32⟩
  | 104 => ⟨S128x128, .i32⟩
  | 105 => ⟨S128x128, .i1⟩
  | 106 => ⟨S_, .i1⟩
  | 107 => ⟨S128x128, .i1⟩
  | 108 => ⟨S128x128, .i1⟩
  | 109 => ⟨S_, .f32⟩
  | 110 => ⟨S_, .f32⟩
  | 111 => ⟨S4x128x128, .i1⟩
  | 112 => ⟨S4x128x128, .f32⟩
  | 113 => ⟨S4x128x128, .f32⟩
  | 114 => ⟨S_, .f32⟩
  | 115 => ⟨S4x128x128, .f32⟩
  | 116 => ⟨S4x2x32x64x128, .f32⟩
  | 117 => ⟨S2x32x128x4x64, .f32⟩
  | 118 => ⟨S128x4, .f32⟩
  | 119 => ⟨S128x4x1, .f32⟩
  | 120 => ⟨S1x1x128x4x1, .f32⟩
  | 121 => ⟨S2x32x128x4x64, .f32⟩
  | 122 => ⟨S2x32x128x4x64, .f32⟩
  | 123 => ⟨S2x4096x256, .f32⟩
  | 124 => ⟨S2x4096x256, .f32⟩
  | 125 => ⟨S2x4096x256, .f32⟩
  | 126 => ⟨S2x4096x256, .f32⟩
  | 127 => ⟨S_, .f32⟩
  | _ => ⟨S8192x768, .f32⟩

abbrev hbmTy0_1 (i : Nat) : BufTy := match i % 128 with
  | 0 => ⟨S2x4096x256, .f32⟩
  | 1 => ⟨S2x4096x256, .f32⟩
  | 2 => ⟨S_, .f32⟩
  | 3 => ⟨S2x4096x256, .f32⟩
  | 4 => ⟨S2x4096x256, .f32⟩
  | 5 => ⟨S_, .f32⟩
  | 6 => ⟨S2x4096x256, .f32⟩
  | 7 => ⟨S2x4096x256, .f32⟩
  | 8 => ⟨S2x4096x256, .f32⟩
  | 9 => ⟨S2x4096x256, .f32⟩
  | 10 => ⟨S2x4096x256, .f32⟩
  | 11 => ⟨S2x4096x256, .f32⟩
  | 12 => ⟨S2x4096x256, .f32⟩
  | 13 => ⟨S2x4096x256, .f32⟩
  | 14 => ⟨S2x4096x256, .f32⟩
  | 15 => ⟨S2x4096x256, .f32⟩
  | 16 => ⟨S2x4096x256, .f32⟩
  | 17 => ⟨S2x4096x256, .f32⟩
  | 18 => ⟨S2x4096x256, .f32⟩
  | 19 => ⟨S2x4096x256, .f32⟩
  | 20 => ⟨S2x32x128x4x64, .f32⟩
  | 21 => ⟨S_, .f32⟩
  | 22 => ⟨S128x4, .f32⟩
  | 23 => ⟨S1x1x128x4x1, .f32⟩
  | 24 => ⟨S_, .f32⟩
  | 25 => ⟨S128x4, .f32⟩
  | 26 => ⟨S128x4x1, .f32⟩
  | 27 => ⟨S_, .f32⟩
  | 28 => ⟨S128x4, .f32⟩
  | 29 => ⟨S4x128, .f32⟩
  | 30 => ⟨S4x2x32x64x128, .f32⟩
  | 31 => ⟨S4x128x128, .f32⟩
  | 32 => ⟨S4x2x32x64x128, .f32⟩
  | 33 => ⟨S2x32x128x4x64, .f32⟩
  | 34 => ⟨S_, .f32⟩
  | 35 => ⟨S4x128x128, .f32⟩
  | 36 => ⟨S4x128x128, .f32⟩
  | 37 => ⟨S2x4096x256, .f32⟩
  | 38 => ⟨S_, .f32⟩
  | 39 => ⟨S256, .f32⟩
  | 40 => ⟨S1x1x256, .f32⟩
  | 41 => ⟨S_, .f32⟩
  | 42 => ⟨S256, .f32⟩
  | 43 => ⟨S2x4096x256, .f32⟩
  | 44 => ⟨S_, .f32⟩
  | 45 => ⟨S256, .f32⟩
  | 46 => ⟨S1x1x256, .f32⟩
  | 47 => ⟨S2x4096x256, .f32⟩
  | 48 => ⟨S2x4096x256, .f32⟩
  | 49 => ⟨S_, .f32⟩
  | 50 => ⟨S256, .f32⟩
  | 51 => ⟨S2x4096x256, .f32⟩
  | 52 => ⟨S_, .f32⟩
  | 53 => ⟨S2x4096, .f32⟩
  | 54 => ⟨S2x4096x1, .f32⟩
  | 55 => ⟨S2x4096x256, .f32⟩
  | 56 => ⟨S2x4096x256, .f32⟩
  | 57 => ⟨S2x4096x1, .f32⟩
  | 58 => ⟨S_, .f32⟩
  | 59 => ⟨S2x4096x1, .f32⟩
  | 60 => ⟨S2x4096x1, .f32⟩
  | 61 => ⟨S_, .f32⟩
  | 62 => ⟨S2x4096, .f32⟩
  | 63 => ⟨S2x4096x256, .f32⟩
  | 64 => ⟨S2x4096x256, .f32⟩
  | 65 => ⟨S2x4096x256, .f32⟩
  | 66 => ⟨S2x4096x256, .f32⟩
  | 67 => ⟨S2x4096x256, .f32⟩
  | 68 => ⟨S2x4096x256, .f32⟩
  | 69 => ⟨S_, .f32⟩
  | 70 => ⟨S2x4096, .f32⟩
  | 71 => ⟨S2x4096x1, .f32⟩
  | 72 => ⟨S_, .f32⟩
  | 73 => ⟨S2x4096x1, .f32⟩
  | 74 => ⟨S2x4096x1, .f32⟩
  | 75 => ⟨S_, .f32⟩
  | 76 => ⟨S2x4096, .f32⟩
  | 77 => ⟨S2x4096x256, .f32⟩
  | 78 => ⟨S2x4096x256, .f32⟩
  | 79 => ⟨S2x4096x256, .f32⟩
  | 80 => ⟨S2x4096x256, .f32⟩
  | 81 => ⟨S_, .f32⟩
  | 82 => ⟨S2x4096x256, .f32⟩
  | 83 => ⟨S2x4096x256, .f32⟩
  | 84 => ⟨S2x4096x256, .f32⟩
  | 85 => ⟨S_, .f32⟩
  | 86 => ⟨S2x4096x256, .f32⟩
  | 87 => ⟨S2x4096x256, .f32⟩
  | 88 => ⟨S2x4096x256, .f32⟩
  | 89 => ⟨S_, .f32⟩
  | 90 => ⟨S2x4096x256, .f32⟩
  | 91 => ⟨S2x4096x256, .f32⟩
  | 92 => ⟨S2x4096x256, .f32⟩
  | 93 => ⟨S2x4096x256, .f32⟩
  | 94 => ⟨S2x4096x256, .f32⟩
  | 95 => ⟨S2x4096x256, .f32⟩
  | 96 => ⟨S_, .f32⟩
  | 97 => ⟨S2x4096x256, .f32⟩
  | 98 => ⟨S2x4096x256, .f32⟩
  | 99 => ⟨S2x4096x256, .f32⟩
  | 100 => ⟨S_, .f32⟩
  | 101 => ⟨S2x4096x256, .f32⟩
  | 102 => ⟨S2x4096x256, .f32⟩
  | 103 => ⟨S2x4096x256, .f32⟩
  | 104 => ⟨S_, .f32⟩
  | 105 => ⟨S2x4096x256, .f32⟩
  | 106 => ⟨S2x4096x256, .f32⟩
  | 107 => ⟨S2x4096x256, .f32⟩
  | 108 => ⟨S2x4096x256, .f32⟩
  | 109 => ⟨S2x4096x768, .f32⟩
  | 110 => ⟨S8192x768, .f32⟩
  | 111 => ⟨S8192x768, .bf16⟩
  | 112 => ⟨S1x256, .f32⟩
  | 113 => ⟨S1x256, .f32⟩
  | 114 => ⟨S128x4, .f32⟩
  | 115 => ⟨S_, .i32⟩
  | 116 => ⟨S_, .f32⟩
  | 117 => ⟨S128x128, .f32⟩
  | _ => ⟨S8192x768, .f32⟩

abbrev hbmTy (i : Nat) : BufTy := match i / 128 with
  | 0 => hbmTy0_0 i
  | 1 => hbmTy0_1 i
  | _ => ⟨S8192x768, .f32⟩

abbrev bufTy : (tb : Table) → Fin (tcTables nBuf tb) → BufTy
  | .hbm, ⟨i, _⟩ => hbmTy i
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_v42 : Ref sig .tc := ⟨.hbm, 61, rfl⟩
abbrev main_cst_12 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_13 : Ref sig .tc := ⟨.hbm, 66, rfl⟩
abbrev main_v46 : Ref sig .tc := ⟨.hbm, 67, rfl⟩
abbrev main_v47 : Ref sig .tc := ⟨.hbm, 68, rfl⟩
abbrev main_cst_14 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_15 : Ref sig .tc := ⟨.hbm, 75, rfl⟩
abbrev main_v53 : Ref sig .tc := ⟨.hbm, 76, rfl⟩
abbrev main_v54 : Ref sig .tc := ⟨.hbm, 77, rfl⟩
abbrev main_cst_16 : Ref sig .tc := ⟨.hbm, 78, rfl⟩
abbrev main_v55 : Ref sig .tc := ⟨.hbm, 79, rfl⟩
abbrev main_v56 : Ref sig .tc := ⟨.hbm, 80, rfl⟩
abbrev main_cst_17 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_18 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c : Ref sig .tc := ⟨.hbm, 98, rfl⟩
abbrev main_v72 : Ref sig .tc := ⟨.hbm, 99, rfl⟩
abbrev main_call0_v0 : Ref sig .tc := ⟨.hbm, 100, rfl⟩
abbrev main_call0_c : Ref sig .tc := ⟨.hbm, 101, rfl⟩
abbrev main_call0_v1 : Ref sig .tc := ⟨.hbm, 102, rfl⟩
abbrev main_call0_v2 : Ref sig .tc := ⟨.hbm, 103, rfl⟩
abbrev main_call0_v3 : Ref sig .tc := ⟨.hbm, 104, rfl⟩
abbrev main_call0_v4 : Ref sig .tc := ⟨.hbm, 105, rfl⟩
abbrev main_call0_c_0 : Ref sig .tc := ⟨.hbm, 106, rfl⟩
abbrev main_call0_v5 : Ref sig .tc := ⟨.hbm, 107, rfl⟩
abbrev main_v73 : Ref sig .tc := ⟨.hbm, 108, rfl⟩
abbrev main_cst_19 : Ref sig .tc := ⟨.hbm, 109, rfl⟩
abbrev main_call1_v0 : Ref sig .tc := ⟨.hbm, 110, rfl⟩
abbrev main_v74_1 : Ref sig .tc := ⟨.hbm, 111, rfl⟩
abbrev main_call1_v2 : Ref sig .tc := ⟨.hbm, 112, rfl⟩
abbrev main_v74_0 : Ref sig .tc := ⟨.hbm, 113, rfl⟩
abbrev main_call1_cst : Ref sig .tc := ⟨.hbm, 114, rfl⟩
abbrev main_v74_2 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_call2_v0 : Ref sig .tc := ⟨.hbm, 125, rfl⟩
abbrev main_call2_v1 : Ref sig .tc := ⟨.hbm, 126, rfl⟩
abbrev main_call2_cst : Ref sig .tc := ⟨.hbm, 127, rfl⟩
abbrev main_call2_v2 : Ref sig .tc := ⟨.hbm, 128, rfl⟩
abbrev main_call2_v3 : Ref sig .tc := ⟨.hbm, 129, rfl⟩
abbrev main_call2_cst_0 : Ref sig .tc := ⟨.hbm, 130, rfl⟩
abbrev main_call2_v4 : Ref sig .tc := ⟨.hbm, 131, rfl⟩
abbrev main_v84_2 : Ref sig .tc := ⟨.hbm, 132, rfl⟩
abbrev main_call2_cst_1 : Ref sig .tc := ⟨.hbm, 133, rfl⟩
abbrev main_call2_v6 : Ref sig .tc := ⟨.hbm, 134, rfl⟩
abbrev main_call2_v7 : Ref sig .tc := ⟨.hbm, 135, rfl⟩
abbrev main_v84_1 : Ref sig .tc := ⟨.hbm, 136, rfl⟩
abbrev main_v84_0 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_call3_v0 : Ref sig .tc := ⟨.hbm, 142, rfl⟩
abbrev main_call3_v1 : Ref sig .tc := ⟨.hbm, 143, rfl⟩
abbrev main_call3_v2 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_cst_20 : Ref sig .tc := ⟨.hbm, 149, rfl⟩
abbrev main_v93 : Ref sig .tc := ⟨.hbm, 150, rfl⟩
abbrev main_v94 : Ref sig .tc := ⟨.hbm, 151, rfl⟩
abbrev main_cst_21 : Ref sig .tc := ⟨.hbm, 152, rfl⟩
abbrev main_v95 : Ref sig .tc := ⟨.hbm, 153, rfl⟩
abbrev main_v96 : Ref sig .tc := ⟨.hbm, 154, rfl⟩
abbrev main_cst_22 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_call4_cst : Ref sig .tc := ⟨.hbm, 162, rfl⟩
abbrev main_call4_v0 : Ref sig .tc := ⟨.hbm, 163, rfl⟩
abbrev main_v103 : Ref sig .tc := ⟨.hbm, 164, rfl⟩
abbrev main_v104 : Ref sig .tc := ⟨.hbm, 165, rfl⟩
abbrev main_cst_23 : Ref sig .tc := ⟨.hbm, 166, rfl⟩
abbrev main_v105 : Ref sig .tc := ⟨.hbm, 167, rfl⟩
abbrev main_v106 : Ref sig .tc := ⟨.hbm, 168, rfl⟩
abbrev main_cst_24 : Ref sig .tc := ⟨.hbm, 169, rfl⟩
abbrev main_v107 : Ref sig .tc := ⟨.hbm, 170, rfl⟩
abbrev main_v108 : Ref sig .tc := ⟨.hbm, 171, rfl⟩
abbrev main_cst_25 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_cst_26 : Ref sig .tc := ⟨.hbm, 177, rfl⟩
abbrev main_v113 : Ref sig .tc := ⟨.hbm, 178, rfl⟩
abbrev main_v114 : Ref sig .tc := ⟨.hbm, 179, rfl⟩
abbrev main_cst_27 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_cst_28 : Ref sig .tc := ⟨.hbm, 186, rfl⟩
abbrev main_v120 : Ref sig .tc := ⟨.hbm, 187, rfl⟩
abbrev main_v121 : Ref sig .tc := ⟨.hbm, 188, rfl⟩
abbrev main_cst_29 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_cst_30 : Ref sig .tc := ⟨.hbm, 197, rfl⟩
abbrev main_v129 : Ref sig .tc := ⟨.hbm, 198, rfl⟩
abbrev main_v130 : Ref sig .tc := ⟨.hbm, 199, rfl⟩
abbrev main_cst_31 : Ref sig .tc := ⟨.hbm, 200, rfl⟩
abbrev main_v131 : Ref sig .tc := ⟨.hbm, 201, rfl⟩
abbrev main_v132 : Ref sig .tc := ⟨.hbm, 202, rfl⟩
abbrev main_cst_32 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_cst_33 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_cst_34 : Ref sig .tc := ⟨.hbm, 213, rfl⟩
abbrev main_v141 : Ref sig .tc := ⟨.hbm, 214, rfl⟩
abbrev main_v142 : Ref sig .tc := ⟨.hbm, 215, rfl⟩
abbrev main_v143 : Ref sig .tc := ⟨.hbm, 216, rfl⟩
abbrev main_cst_35 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_cst_36 : Ref sig .tc := ⟨.hbm, 224, rfl⟩
abbrev main_v150 : Ref sig .tc := ⟨.hbm, 225, rfl⟩
abbrev main_v151 : Ref sig .tc := ⟨.hbm, 226, rfl⟩
abbrev main_v152 : Ref sig .tc := ⟨.hbm, 227, rfl⟩
abbrev main_cst_37 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_cst_38 : Ref sig .tc := ⟨.hbm, 232, rfl⟩
abbrev main_v156 : Ref sig .tc := ⟨.hbm, 233, rfl⟩
abbrev main_v157 : Ref sig .tc := ⟨.hbm, 234, rfl⟩
abbrev main_v158 : Ref sig .tc := ⟨.hbm, 235, rfl⟩
abbrev main_v159 : Ref sig .tc := ⟨.hbm, 236, rfl⟩
abbrev main_v160 : Ref sig .tc := ⟨.hbm, 237, rfl⟩
abbrev main_v161 : Ref sig .tc := ⟨.hbm, 238, rfl⟩
abbrev main_v162 : Ref sig .tc := ⟨.hbm, 239, rfl⟩
abbrev main_v163 : Ref sig .tc := ⟨.hbm, 240, rfl⟩
abbrev main_v164 : Ref sig .tc := ⟨.hbm, 241, rfl⟩
abbrev main_v165 : Ref sig .tc := ⟨.hbm, 242, rfl⟩
abbrev main_c_39 : Ref sig .tc := ⟨.hbm, 243, rfl⟩
abbrev main_call5_v0 : Ref sig .tc := ⟨.hbm, 244, rfl⟩
abbrev main_v166 : Ref sig .tc := ⟨.hbm, 245, rfl⟩

abbrev nD : Nat := 1
abbrev τ : Topo := Topo.v7x

variable {F : FTy → Type} [FloatOps F]
-- ==== Kernel2.lean ====
abbrev S8192x1024 : Shape := ⟨2, ![8192, 1024]⟩
abbrev S1024 : Shape := ⟨1, ![1024]⟩
abbrev S1024x3456 : Shape := ⟨2, ![1024, 3456]⟩
abbrev S8192x512 : Shape := ⟨2, ![8192, 512]⟩
abbrev S8192x1536 : Shape := ⟨2, ![8192, 1536]⟩
abbrev S8192x768 : Shape := ⟨2, ![8192, 768]⟩
abbrev S8192x128 : Shape := ⟨2, ![8192, 128]⟩
abbrev S1x1024 : Shape := ⟨2, ![1, 1024]⟩
abbrev S512x1024 : Shape := ⟨2, ![512, 1024]⟩
abbrev S512x512 : Shape := ⟨2, ![512, 512]⟩
abbrev S512x1536 : Shape := ⟨2, ![512, 1536]⟩
abbrev S512x768 : Shape := ⟨2, ![512, 768]⟩
abbrev S512x128 : Shape := ⟨2, ![512, 128]⟩
abbrev S1024x512 : Shape := ⟨2, ![1024, 512]⟩
abbrev S1024x1536 : Shape := ⟨2, ![1024, 1536]⟩
abbrev S1024x768 : Shape := ⟨2, ![1024, 768]⟩
abbrev S1024x128 : Shape := ⟨2, ![1024, 128]⟩
abbrev S512 : Shape := ⟨1, ![512]⟩
abbrev S512x1 : Shape := ⟨2, ![512, 1]⟩

abbrev nBuf : Space → Nat
  | .hbm => 12
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3456, .bf16⟩
  | .hbm, ⟨3, _⟩ => ⟨S8192x512, .bf16⟩
  | .hbm, ⟨4, _⟩ => ⟨S8192x1536, .bf16⟩
  | .hbm, ⟨5, _⟩ => ⟨S8192x512, .bf16⟩
  | .hbm, ⟨6, _⟩ => ⟨S8192x768, .bf16⟩
  | .hbm, ⟨7, _⟩ => ⟨S8192x128, .bf16⟩
  | .hbm, ⟨8, _⟩ => ⟨S8192x1024, .f32⟩
  | .hbm, ⟨9, _⟩ => ⟨S1x1024, .f32⟩
  | .hbm, ⟨10, _⟩ => ⟨S8192x1024, .f32⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3456, .bf16⟩
  | .local _ .vmem, ⟨4, _⟩ => ⟨S512x1024, .f32⟩
  | .local _ .vmem, ⟨5, _⟩ => ⟨S512x1024, .f32⟩
  | .local _ .vmem, ⟨6, _⟩ => ⟨S512x512, .bf16⟩
  | .local _ .vmem, ⟨7, _⟩ => ⟨S512x512, .bf16⟩
  | .local _ .vmem, ⟨8, _⟩ => ⟨S512x1536, .bf16⟩
  | .local _ .vmem, ⟨9, _⟩ => ⟨S512x1536, .bf16⟩
  | .local _ .vmem, ⟨10, _⟩ => ⟨S512x512, .bf16⟩
  | .local _ .vmem, ⟨11, _⟩ => ⟨S512x512, .bf16⟩
  | .local _ .vmem, ⟨12, _⟩ => ⟨S512x768, .bf16⟩
  | .local _ .vmem, ⟨13, _⟩ => ⟨S512x768, .bf16⟩
  | .local _ .vmem, ⟨14, _⟩ => ⟨S512x128, .bf16⟩
  | .local _ .vmem, ⟨15, _⟩ => ⟨S512x128, .bf16⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v60 : BitVec 1 := Scalar.cmpi .eq arg0 c0_i32
  let v61 : BitVec 32 := Scalar.extui v60
  let c0_i32_36 : BitVec 32 := 0#32
  let v62 : BitVec 1 := Scalar.cmpi .ne v61 c0_i32_36
  v62

def k0_cond2 (i : grid0.Coords) : BitVec 1 :=
  let arg0 : BitVec 32 := BitVec.ofNat 32 (i 0).val
  let c0_i32 : BitVec 32 := 0#32
  let v60 : BitVec 1 := Scalar.cmpi .eq arg0 c0_i32
  let v_true : BitVec 1 := 1#1
  let v63 : BitVec 1 := Scalar.xori v60 v_true
  let v64 : BitVec 32 := Scalar.extui v63
  let c0_i32_37 : BitVec 32 := 0#32
  let v65 : BitVec 1 := Scalar.cmpi .ne v64 c0_i32_37
  v65

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference2Ideal.lean ====
abbrev S8192x1024 : Shape := ⟨2, ![8192, 1024]⟩
abbrev S1024 : Shape := ⟨1, ![1024]⟩
abbrev S1024x3456 : Shape := ⟨2, ![1024, 3456]⟩
abbrev S8192x512 : Shape := ⟨2, ![8192, 512]⟩
abbrev S8192x1536 : Shape := ⟨2, ![8192, 1536]⟩
abbrev S8192x768 : Shape := ⟨2, ![8192, 768]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3456 : Shape := ⟨2, ![8192, 3456]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3456, .bf16⟩
  | .hbm, ⟨3, _⟩ => ⟨S8192x512, .bf16⟩
  | .hbm, ⟨4, _⟩ => ⟨S8192x1536, .bf16⟩
  | .hbm, ⟨5, _⟩ => ⟨S8192x512, .bf16⟩
  | .hbm, ⟨6, _⟩ => ⟨S8192x768, .bf16⟩
  | .hbm, ⟨7, _⟩ => ⟨S8192x128, .bf16⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S1024x3456, .f32⟩
  | .hbm, ⟨30, _⟩ => ⟨S8192x3456, .f32⟩
  | .hbm, ⟨31, _⟩ => ⟨S8192x3456, .bf16⟩
  | .hbm, ⟨32, _⟩ => ⟨S8192x3456, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== Kernel3.lean ====
abbrev S8192x1024 : Shape := ⟨2, ![8192, 1024]⟩
abbrev S8192x256 : Shape := ⟨2, ![8192, 256]⟩
abbrev S1024x1024 : Shape := ⟨2, ![1024, 1024]⟩
abbrev S1024 : Shape := ⟨1, ![1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x512 : Shape := ⟨2, ![8192, 512]⟩
abbrev S512x1024 : Shape := ⟨2, ![512, 1024]⟩
abbrev S512x256 : Shape := ⟨2, ![512, 256]⟩
abbrev S512x512 : Shape := ⟨2, ![512, 512]⟩
abbrev S512 : Shape := ⟨1, ![512]⟩
abbrev S512x1 : Shape := ⟨2, ![512, 1]⟩

abbrev nBuf : Space → Nat
  | .hbm => 32
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x256, .bf16⟩
  | .hbm, ⟨3, _⟩ => ⟨S1024x1024, .bf16⟩
  | .hbm, ⟨4, _⟩ => ⟨S1024, .f32⟩
  | .hbm, ⟨5, _⟩ => ⟨S1024x1024, .bf16⟩
  | .hbm, ⟨6, _⟩ => ⟨S256x1024, .bf16⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | .hbm, ⟨24, _⟩ => ⟨S1x1024, .f32⟩
  | .hbm, ⟨25, _⟩ => ⟨S8192x1024, .f32⟩
  | .hbm, ⟨26, _⟩ => ⟨S8192x1024, .bf16⟩
  | .hbm, ⟨27, _⟩ => ⟨S8192x1024, .bf16⟩
  | .hbm, ⟨28, _⟩ => ⟨S8192x256, .f32⟩
  | .hbm, ⟨29, _⟩ => ⟨S8192x512, .f32⟩
  | .hbm, ⟨30, _⟩ => ⟨S8192x256, .f32⟩
  | .hbm, ⟨31, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x256, .bf16⟩
  | .local _ .vmem, ⟨7, _⟩ => ⟨S512x256, .bf16⟩
  | .local _ .vmem, ⟨8, _⟩ => ⟨S1024x1024, .bf16⟩
  | .local _ .vmem, ⟨9, _⟩ => ⟨S1x1024, .f32⟩
  | .local _ .vmem, ⟨10, _⟩ => ⟨S1024x1024, .bf16⟩
  | .local _ .vmem, ⟨11, _⟩ => ⟨S256x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x256, .f32⟩
  | .local _ .vmem, ⟨19, _⟩ => ⟨S512x256, .f32⟩
  | .local _ .vmem, ⟨20, _⟩ => ⟨S512x512, .f32⟩
  | .local _ .vmem, ⟨21, _⟩ => ⟨S512x512, .f32⟩
  | .local _ .vmem, ⟨22, _⟩ => ⟨S512x256, .f32⟩
  | .local _ .vmem, ⟨23, _⟩ => ⟨S512x256, .f32⟩
  | .local _ .vmem, ⟨24, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v15_2 : Ref sig .tc := ⟨.hbm, 27, rfl⟩
abbrev main_v15_3 : Ref sig .tc := ⟨.hbm, 28, rfl⟩
abbrev main_v15_4 : Ref sig .tc := ⟨.hbm, 29, rfl⟩
abbrev main_v15_5 : Ref sig .tc := ⟨.hbm, 30, rfl⟩
abbrev main_v15_6 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v68 : BitVec 1 := Scalar.cmpi .eq arg0 c0_i32
  let v69 : BitVec 32 := Scalar.extui v68
  let c0_i32_41 : BitVec 32 := 0#32
  let v70 : BitVec 1 := Scalar.cmpi .ne v69 c0_i32_41
  v70

def k0_cond2 (i : grid0.Coords) : BitVec 1 :=
  let arg0 : BitVec 32 := BitVec.ofNat 32 (i 0).val
  let c0_i32 : BitVec 32 := 0#32
  let v68 : BitVec 1 := Scalar.cmpi .eq arg0 c0_i32
  let v_true : BitVec 1 := 1#1
  let v71 : BitVec 1 := Scalar.xori v68 v_true
  let v72 : BitVec 32 := Scalar.extui v71
  let c0_i32_42 : BitVec 32 := 0#32
  let v73 : BitVec 1 := Scalar.cmpi .ne v72 c0_i32_42
  v73

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference3Ideal.lean ====
abbrev S8192x1024 : Shape := ⟨2, ![8192, 1024]⟩
abbrev S8192x256 : Shape := ⟨2, ![8192, 256]⟩
abbrev S1024x1024 : Shape := ⟨2, ![1024, 1024]⟩
abbrev S1024 : Shape := ⟨1, ![1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x512 : Shape := ⟨2, ![8192, 512]⟩

abbrev nBuf : Space → Nat
  | .hbm => 88
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x256, .bf16⟩
  | .hbm, ⟨3, _⟩ => ⟨S1024x1024, .bf16⟩
  | .hbm, ⟨4, _⟩ => ⟨S1024, .f32⟩
  | .hbm, ⟨5, _⟩ => ⟨S1024x1024, .bf16⟩
  | .hbm, ⟨6, _⟩ => ⟨S256x1024, .bf16⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S1024x1024, .f32⟩
  | .hbm, ⟨28, _⟩ => ⟨S8192x1024, .f32⟩
  | .hbm, ⟨29, _⟩ => ⟨S8192x256, .f32⟩
  | .hbm, ⟨30, _⟩ => ⟨S256x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S8192x1024, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S8192x1024, .f32⟩
  | .hbm, ⟨79, _⟩ => ⟨S1024x1024, .f32⟩
  | .hbm, ⟨80, _⟩ => ⟨S8192x1024, .f32⟩
  | .hbm, ⟨81, _⟩ => ⟨S8192x1024, .f32⟩
  | .hbm, ⟨82, _⟩ => ⟨S8192x256, .f32⟩
  | .hbm, ⟨83, _⟩ => ⟨S8192x512, .f32⟩
  | .hbm, ⟨84, _⟩ => ⟨S8192x256, .f32⟩
  | .hbm, ⟨85, _⟩ => ⟨S8192x1024, .bf16⟩
  | .hbm, ⟨86, _⟩ => ⟨S8192x1024, .bf16⟩
  | .hbm, ⟨87, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_11 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩

abbrev nD : Nat := 1
abbrev τ : Topo := Topo.v7x

variable {F : FTy → Type} [FloatOps F]
-- ==== Kernel4.lean ====
abbrev S8192x1024 : Shape := ⟨2, ![8192, 1024]⟩
abbrev S1024 : Shape := ⟨1, ![1024]⟩
abbrev S1024x3456 : Shape := ⟨2, ![1024, 3456]⟩
abbrev S1x1024 : Shape := ⟨2, ![1, 1024]⟩
abbrev S8192x512 : Shape := ⟨2, ![8192, 512]⟩
abbrev S8192x1536 : Shape := ⟨2, ![8192, 1536]⟩
abbrev S8192x768 : Shape := ⟨2, ![8192, 768]⟩
abbrev S8192x128 : Shape := ⟨2, ![8192, 128]⟩
abbrev S512x1024 : Shape := ⟨2, ![512, 1024]⟩
abbrev S512x512 : Shape := ⟨2, ![512, 512]⟩
abbrev S512x1536 : Shape := ⟨2, ![512, 1536]⟩
abbrev S512x768 : Shape := ⟨2, ![512, 768]⟩
abbrev S512x128 : Shape := ⟨2, ![512, 128]⟩
abbrev S512 : Shape := ⟨1, ![512]⟩
abbrev S512x1 : Shape := ⟨2, ![512, 1]⟩
abbrev S1024x512 : Shape := ⟨2, ![1024, 512]⟩
abbrev S1024x1536 : Shape := ⟨2, ![1024, 1536]⟩
abbrev S1024x768 : Shape := ⟨2, ![1024, 768]⟩
abbrev S1024x128 : Shape := ⟨2, ![1024, 128]⟩

abbrev nBuf : Space → Nat
  | .hbm => 10
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3456, .bf16⟩
  | .hbm, ⟨3, _⟩ => ⟨S1x1024, .f32⟩
  | .hbm, ⟨4, _⟩ => ⟨S8192x1024, .bf16⟩
  | .hbm, ⟨5, _⟩ => ⟨S8192x512, .f32⟩
  | .hbm, ⟨6, _⟩ => ⟨S8192x1536, .f32⟩
  | .hbm, ⟨7, _⟩ => ⟨S8192x512, .f32⟩
  | .hbm, ⟨8, _⟩ => ⟨S8192x768, .f32⟩
  | .hbm, ⟨9, _⟩ => ⟨S8192x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3456, .bf16⟩
  | .local _ .vmem, ⟨4, _⟩ => ⟨S512x1024, .bf16⟩
  | .local _ .vmem, ⟨5, _⟩ => ⟨S512x1024, .bf16⟩
  | .local _ .vmem, ⟨6, _⟩ => ⟨S512x512, .f32⟩
  | .local _ .vmem, ⟨7, _⟩ => ⟨S512x512, .f32⟩
  | .local _ .vmem, ⟨8, _⟩ => ⟨S512x1536, .f32⟩
  | .local _ .vmem, ⟨9, _⟩ => ⟨S512x1536, .f32⟩
  | .local _ .vmem, ⟨10, _⟩ => ⟨S512x512, .f32⟩
  | .local _ .vmem, ⟨11, _⟩ => ⟨S512x512, .f32⟩
  | .local _ .vmem, ⟨12, _⟩ => ⟨S512x768, .f32⟩
  | .local _ .vmem, ⟨13, _⟩ => ⟨S512x768, .f32⟩
  | .local _ .vmem, ⟨14, _⟩ => ⟨S512x128, .f32⟩
  | .local _ .vmem, ⟨15, _⟩ => ⟨S512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev main_v1_5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S8192x1024 : Shape := ⟨2, ![8192, 1024]⟩
abbrev S1024 : Shape := ⟨1, ![1024]⟩
abbrev S1024x3456 : Shape := ⟨2, ![1024, 3456]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3456 : Shape := ⟨2, ![8192, 3456]⟩
abbrev S8192x512 : Shape := ⟨2, ![8192, 512]⟩
abbrev S8192x1536 : Shape := ⟨2, ![8192, 1536]⟩
abbrev S8192x768 : Shape := ⟨2, ![8192, 768]⟩
abbrev S8192x128 : Shape := ⟨2, ![8192, 128]⟩

abbrev nBuf : Space → Nat
  | .hbm => 43
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3456, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S1024x3456, .f32⟩
  | .hbm, ⟨37, _⟩ => ⟨S8192x3456, .f32⟩
  | .hbm, ⟨38, _⟩ => ⟨S8192x512, .f32⟩
  | .hbm, ⟨39, _⟩ => ⟨S8192x1536, .f32⟩
  | .hbm, ⟨40, _⟩ => ⟨S8192x512, .f32⟩
  | .hbm, ⟨41, _⟩ => ⟨S8192x768, .f32⟩
  | .hbm, ⟨42, _⟩ => ⟨S8192x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== Kernel5.lean ====
abbrev S8192x1024 : Shape := ⟨2, ![8192, 1024]⟩
abbrev S8192x256 : Shape := ⟨2, ![8192, 256]⟩
abbrev S8192x512 : Shape := ⟨2, ![8192, 512]⟩
abbrev S1024x1024 : Shape := ⟨2, ![1024, 1024]⟩
abbrev S1024 : Shape := ⟨1, ![1024]⟩
abbrev S256x1024 : Shape := ⟨2, ![256, 1024]⟩
abbrev S1x1024 : Shape := ⟨2, ![1, 1024]⟩
abbrev S512x1024 : Shape := ⟨2, ![512, 1024]⟩
abbrev S512x256 : Shape := ⟨2, ![512, 256]⟩
abbrev S512x512 : Shape := ⟨2, ![512, 512]⟩
abbrev S512 : Shape := ⟨1, ![512]⟩
abbrev S512x1 : Shape := ⟨2, ![512, 1]⟩

abbrev nBuf : Space → Nat
  | .hbm => 14
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x512, .f32⟩
  | .hbm, ⟨3, _⟩ => ⟨S8192x256, .f32⟩
  | .hbm, ⟨4, _⟩ => ⟨S8192x256, .bf16⟩
  | .hbm, ⟨5, _⟩ => ⟨S1024x1024, .bf16⟩
  | .hbm, ⟨6, _⟩ => ⟨S1024, .f32⟩
  | .hbm, ⟨7, _⟩ => ⟨S1024x1024, .bf16⟩
  | .hbm, ⟨8, _⟩ => ⟨S256x1024, .bf16⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x1024, .bf16⟩
  | .hbm, ⟨13, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x512, .f32⟩
  | .local _ .vmem, ⟨5, _⟩ => ⟨S512x512, .f32⟩
  | .local _ .vmem, ⟨6, _⟩ => ⟨S512x256, .f32⟩
  | .local _ .vmem, ⟨7, _⟩ => ⟨S512x256, .f32⟩
  | .local _ .vmem, ⟨8, _⟩ => ⟨S512x256, .bf16⟩
  | .local _ .vmem, ⟨9, _⟩ => ⟨S512x256, .bf16⟩
  | .local _ .vmem, ⟨10, _⟩ => ⟨S1024x1024, .bf16⟩
  | .local _ .vmem, ⟨11, _⟩ => ⟨S1x1024, .f32⟩
  | .local _ .vmem, ⟨12, _⟩ => ⟨S1024x1024, .bf16⟩
  | .local _ .vmem, ⟨13, _⟩ => ⟨S256x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference5Ideal.lean ====
abbrev S8192x1024 : Shape := ⟨2, ![8192, 1024]⟩
abbrev S8192x256 : Shape := ⟨2, ![8192, 256]⟩
abbrev S8192x512 : Shape := ⟨2, ![8192, 512]⟩
abbrev S1024x1024 : Shape := ⟨2, ![1024, 1024]⟩
abbrev S1024 : Shape := ⟨1, ![1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x512, .f32⟩
  | .hbm, ⟨3, _⟩ => ⟨S8192x256, .f32⟩
  | .hbm, ⟨4, _⟩ => ⟨S8192x256, .bf16⟩
  | .hbm, ⟨5, _⟩ => ⟨S1024x1024, .bf16⟩
  | .hbm, ⟨6, _⟩ => ⟨S1024, .f32⟩
  | .hbm, ⟨7, _⟩ => ⟨S1024x1024, .bf16⟩
  | .hbm, ⟨8, _⟩ => ⟨S256x1024, .bf16⟩
  | .hbm, ⟨9, _⟩ => ⟨S8192x1024, .f32⟩
  | .hbm, ⟨10, _⟩ => ⟨S1024x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S1024x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x256, .f32⟩
  | .hbm, ⟨40, _⟩ => ⟨S256x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .bf16⟩
  | .hbm, ⟨45, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Kernel6.lean ====
abbrev S8192x1024 : Shape := ⟨2, ![8192, 1024]⟩
abbrev S8192x1536 : Shape := ⟨2, ![8192, 1536]⟩
abbrev S1024x1536 : Shape := ⟨2, ![1024, 1536]⟩
abbrev S2048x1024 : Shape := ⟨2, ![2048, 1024]⟩
abbrev S2048x1536 : Shape := ⟨2, ![2048, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference6Ideal.lean ====
abbrev S8192x1024 : Shape := ⟨2, ![8192, 1024]⟩
abbrev S8192x1536 : Shape := ⟨2, ![8192, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S_, .f32⟩
  | .hbm, ⟨3, _⟩ => ⟨S1024x1536, .f32⟩
  | .hbm, ⟨4, _⟩ => ⟨S8192x1024, .f32⟩
  | .hbm, ⟨5, _⟩ => ⟨S8192x1536, .f32⟩
  | .hbm, ⟨6, _⟩ => ⟨S8192x1536, .f32⟩
  | .hbm, ⟨7, _⟩ => ⟨S1536x1024, .f32⟩
  | .hbm, ⟨8, _⟩ => ⟨S1024x1536, .f32⟩
  | .hbm, ⟨9, _⟩ => ⟨S1024x1536, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference7Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference8Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S8192x1024 : Shape := ⟨2, ![8192, 1024]⟩
abbrev S8192x512 : Shape := ⟨2, ![8192, 512]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference9Ideal.lean ====
abbrev S8192x1024 : Shape := ⟨2, ![8192, 1024]⟩
abbrev S8192x512 : Shape := ⟨2, ![8192, 512]⟩
abbrev S_ : Shape := ⟨0, ![]⟩
abbrev S1024x512 : Shape := ⟨2, ![1024, 512]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S_, .f32⟩
  | .hbm, ⟨3, _⟩ => ⟨S1024x512, .f32⟩
  | .hbm, ⟨4, _⟩ => ⟨S8192x1024, .f32⟩
  | .hbm, ⟨5, _⟩ => ⟨S8192x512, .f32⟩
  | .hbm, ⟨6, _⟩ => ⟨S8192x512, .f32⟩
  | .hbm, ⟨7, _⟩ => ⟨S512x1024, .f32⟩
  | .hbm, ⟨8, _⟩ => ⟨S1024x512, .f32⟩
  | .hbm, ⟨9, _⟩ => ⟨S1024x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S8192x1024 : Shape := ⟨2, ![8192, 1024]⟩
abbrev S8192x768 : Shape := ⟨2, ![8192, 768]⟩
abbrev S1024x768 : Shape := ⟨2, ![1024, 768]⟩
abbrev S2048x1024 : Shape := ⟨2, ![2048, 1024]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x768, .bf16⟩
  | .hbm, ⟨2, _⟩ => ⟨S1024x768, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .bf16⟩
  | .local _ .vmem, ⟨5, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference10Ideal.lean ====
abbrev S8192x1024 : Shape := ⟨2, ![8192, 1024]⟩
abbrev S8192x768 : Shape := ⟨2, ![8192, 768]⟩
abbrev S_ : Shape := ⟨0, ![]⟩
abbrev S1024x768 : Shape := ⟨2, ![1024, 768]⟩
abbrev S768x1024 : Shape := ⟨2, ![768, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x768, .bf16⟩
  | .hbm, ⟨2, _⟩ => ⟨S_, .f32⟩
  | .hbm, ⟨3, _⟩ => ⟨S1024x768, .f32⟩
  | .hbm, ⟨4, _⟩ => ⟨S8192x1024, .f32⟩
  | .hbm, ⟨5, _⟩ => ⟨S8192x768, .f32⟩
  | .hbm, ⟨6, _⟩ => ⟨S8192x768, .f32⟩
  | .hbm, ⟨7, _⟩ => ⟨S768x1024, .f32⟩
  | .hbm, ⟨8, _⟩ => ⟨S1024x768, .f32⟩
  | .hbm, ⟨9, _⟩ => ⟨S1024x768, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S8192x1024 : Shape := ⟨2, ![8192, 1024]⟩
abbrev S8192x128 : Shape := ⟨2, ![8192, 128]⟩
abbrev S1024x128 : Shape := ⟨2, ![1024, 128]⟩
abbrev S2048x1024 : Shape := ⟨2, ![2048, 1024]⟩
abbrev S2048x128 : Shape := ⟨2, ![2048, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S1024x128, .bf16⟩
  | .local _ .vmem, ⟨0, _⟩ => ⟨S2048x1024, .bf16⟩
  | .local _ .vmem, ⟨1, _⟩ => ⟨S2048x1024, .bf16⟩
  | .local _ .vmem, ⟨2, _⟩ => ⟨S2048x128, .bf16⟩
  | .local _ .vmem, ⟨3, _⟩ => ⟨S2048x128, .bf16⟩
  | .local _ .vmem, ⟨4, _⟩ => ⟨S1024x128, .bf16⟩
  | .local _ .vmem, ⟨5, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference11Ideal.lean ====
abbrev S8192x1024 : Shape := ⟨2, ![8192, 1024]⟩
abbrev S8192x128 : Shape := ⟨2, ![8192, 128]⟩
abbrev S_ : Shape := ⟨0, ![]⟩
abbrev S1024x128 : Shape := ⟨2, ![1024, 128]⟩
abbrev S128x1024 : Shape := ⟨2, ![128, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S_, .f32⟩
  | .hbm, ⟨3, _⟩ => ⟨S1024x128, .f32⟩
  | .hbm, ⟨4, _⟩ => ⟨S8192x1024, .f32⟩
  | .hbm, ⟨5, _⟩ => ⟨S8192x128, .f32⟩
  | .hbm, ⟨6, _⟩ => ⟨S8192x128, .f32⟩
  | .hbm, ⟨7, _⟩ => ⟨S128x1024, .f32⟩
  | .hbm, ⟨8, _⟩ => ⟨S1024x128, .f32⟩
  | .hbm, ⟨9, _⟩ => ⟨S1024x128, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S8192x256 : Shape := ⟨2, ![8192, 256]⟩
abbrev S8192x1024 : Shape := ⟨2, ![8192, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S256x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference12Ideal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S_, .f32⟩
  | .hbm, ⟨3, _⟩ => ⟨S256x1024, .f32⟩
  | .hbm, ⟨4, _⟩ => ⟨S8192x256, .f32⟩
  | .hbm, ⟨5, _⟩ => ⟨S8192x1024, .f32⟩
  | .hbm, ⟨6, _⟩ => ⟨S8192x1024, .f32⟩
  | .hbm, ⟨7, _⟩ => ⟨S1024x256, .f32⟩
  | .hbm, ⟨8, _⟩ => ⟨S256x1024, .f32⟩
  | .hbm, ⟨9, _⟩ => ⟨S256x1024, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S2x1024x834 : Shape := ⟨3, ![2, 1024, 834]⟩
abbrev S1x256x834 : Shape := ⟨3, ![1, 256, 834]⟩
abbrev S256x834 : Shape := ⟨2, ![256, 834]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x834, .f32⟩
  | .hbm, ⟨1, _⟩ => ⟨S2x1024x834, .f32⟩
  | .hbm, ⟨2, _⟩ => ⟨S2x1024x834, .f32⟩
  | .hbm, ⟨3, _⟩ => ⟨S2x1024x834, .f32⟩
  | .hbm, ⟨4, _⟩ => ⟨S2x1024x834, .f32⟩
  | .hbm, ⟨5, _⟩ => ⟨S2x1024x834, .f32⟩
  | .hbm, ⟨6, _⟩ => ⟨S2x1024x834, .f32⟩
  | .local _ .vmem, ⟨0, _⟩ => ⟨S1x256x834, .f32⟩
  | .local _ .vmem, ⟨1, _⟩ => ⟨S1x256x834, .f32⟩
  | .local _ .vmem, ⟨2, _⟩ => ⟨S1x256x834, .f32⟩
  | .local _ .vmem, ⟨3, _⟩ => ⟨S1x256x834, .f32⟩
  | .local _ .vmem, ⟨4, _⟩ => ⟨S1x256x834, .f32⟩
  | .local _ .vmem, ⟨5, _⟩ => ⟨S1x256x834, .f32⟩
  | .local _ .vmem, ⟨6, _⟩ => ⟨S1x256x834, .f32⟩
  | .local _ .vmem, ⟨7, _⟩ => ⟨S1x256x834, .f32⟩
  | .local _ .vmem, ⟨8, _⟩ => ⟨S1x256x834, .f32⟩
  | .local _ .vmem, ⟨9, _⟩ => ⟨S1x256x834, .f32⟩
  | .local _ .vmem, ⟨10, _⟩ => ⟨S1x256x834, .f32⟩
  | .local _ .vmem, ⟨11, _⟩ => ⟨S1x256x834, .f32⟩
  | .local _ .vmem, ⟨12, _⟩ => ⟨S1x256x834, .f32⟩
  | .local _ .vmem, ⟨13, _⟩ => ⟨S1x256x834, .f32⟩
  | _, _ => ⟨S2x1024x834, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x834 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x834 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x834 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x834 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x834 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x834 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x834 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference13Ideal.lean ====
abbrev S2x1024x834 : Shape := ⟨3, ![2, 1024, 834]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x834, .f32⟩
  | .hbm, ⟨1, _⟩ => ⟨S2x1024x834, .f32⟩
  | .hbm, ⟨2, _⟩ => ⟨S2x1024x834, .f32⟩
  | .hbm, ⟨3, _⟩ => ⟨S2x1024x834, .f32⟩
  | .hbm, ⟨4, _⟩ => ⟨S_, .f32⟩
  | .hbm, ⟨5, _⟩ => ⟨S2x1024x834, .f32⟩
  | .hbm, ⟨6, _⟩ => ⟨S2x1024x834, .f32⟩
  | .hbm, ⟨7, _⟩ => ⟨S_, .f32⟩
  | .hbm, ⟨8, _⟩ => ⟨S2x1024x834, .f32⟩
  | .hbm, ⟨9, _⟩ => ⟨S2x1024x834, .f32⟩
  | .hbm, ⟨10, _⟩ => ⟨S2x1024x834, .f32⟩
  | .hbm, ⟨11, _⟩ => ⟨S_, .f32⟩
  | .hbm, ⟨12, _⟩ => ⟨S2x1024x834, .f32⟩
  | .hbm, ⟨13, _⟩ => ⟨S2x1024x834, .f32⟩
  | .hbm, ⟨14, _⟩ => ⟨S2x1024x834, .f32⟩
  | .hbm, ⟨15, _⟩ => ⟨S_, .f32⟩
  | .hbm, ⟨16, _⟩ => ⟨S2x1024x834, .f32⟩
  | .hbm, ⟨17, _⟩ => ⟨S2x1024x834, .f32⟩
  | .hbm, ⟨18, _⟩ => ⟨S2x1024x834, .f32⟩
  | .hbm, ⟨19, _⟩ => ⟨S_, .f32⟩
  | .hbm, ⟨20, _⟩ => ⟨S2x1024x834, .f32⟩
  | .hbm, ⟨21, _⟩ => ⟨S2x1024x834, .f32⟩
  | .hbm, ⟨22, _⟩ => ⟨S_, .f32⟩
  | .hbm, ⟨23, _⟩ => ⟨S2x1024x834, .f32⟩
  | .hbm, ⟨24, _⟩ => ⟨S2x1024x834, .f32⟩
  | .hbm, ⟨25, _⟩ => ⟨S2x1024x834, .f32⟩
  | .hbm, ⟨26, _⟩ => ⟨S_, .f32⟩
  | .hbm, ⟨27, _⟩ => ⟨S2x1024x834, .f32⟩
  | .hbm, ⟨28, _⟩ => ⟨S2x1024x834, .f32⟩
  | .hbm, ⟨29, _⟩ => ⟨S2x1024x834, .f32⟩
  | .hbm, ⟨30, _⟩ => ⟨S_, .f32⟩
  | .hbm, ⟨31, _⟩ => ⟨S2x1024x834, .f32⟩
  | .hbm, ⟨32, _⟩ => ⟨S2x1024x834, .f32⟩
  | .hbm, ⟨33, _⟩ => ⟨S2x1024x834, .f32⟩
  | .hbm, ⟨34, _⟩ => ⟨S_, .f32⟩
  | .hbm, ⟨35, _⟩ => ⟨S2x1024x834, .f32⟩
  | .hbm, ⟨36, _⟩ => ⟨S2x1024x834, .f32⟩
  | _, _ => ⟨S2x1024x834, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S2x64x256 : Shape := ⟨3, ![2, 64, 256]⟩
abbrev S1x64x256 : Shape := ⟨3, ![1, 64, 256]⟩
abbrev S64x256 : Shape := ⟨2, ![64, 256]⟩

abbrev nBuf : Space → Nat
  | .hbm => 7
  | .vmem => 14
  | .smem => 0
  | _ => 0

abbrev bufTy : (tb : Table) → Fin (tcTables nBuf tb) → BufTy
  | .hbm, ⟨0, _⟩ => ⟨S2x64x256, .f32⟩
  | .hbm, ⟨1, _⟩ => ⟨S2x64x256, .f32⟩
  | .hbm, ⟨2, _⟩ => ⟨S2x64x256, .f32⟩
  | .hbm, ⟨3, _⟩ => ⟨S2x64x256, .f32⟩
  | .hbm, ⟨4, _⟩ => ⟨S2x64x256, .f32⟩
  | .hbm, ⟨5, _⟩ => ⟨S2x64x256, .f32⟩
  | .hbm, ⟨6, _⟩ => ⟨S2x64x256, .f32⟩
  | .local _ .vmem, ⟨0, _⟩ => ⟨S1x64x256, .f32⟩
  | .local _ .vmem, ⟨1, _⟩ => ⟨S1x64x256, .f32⟩
  | .local _ .vmem, ⟨2, _⟩ => ⟨S1x64x256, .f32⟩
  | .local _ .vmem, ⟨3, _⟩ => ⟨S1x64x256, .f32⟩
  | .local _ .vmem, ⟨4, _⟩ => ⟨S1x64x256, .f32⟩
  | .local _ .vmem, ⟨5, _⟩ => ⟨S1x64x256, .f32⟩
  | .local _ .vmem, ⟨6, _⟩ => ⟨S1x64x256, .f32⟩
  | .local _ .vmem, ⟨7, _⟩ => ⟨S1x64x256, .f32⟩
  | .local _ .vmem, ⟨8, _⟩ => ⟨S1x64x256, .f32⟩
  | .local _ .vmem, ⟨9, _⟩ => ⟨S1x64x256, .f32⟩
  | .local _ .vmem, ⟨10, _⟩ => ⟨S1x64x256, .f32⟩
  | .local _ .vmem, ⟨11, _⟩ => ⟨S1x64x256, .f32⟩
  | .local _ .vmem, ⟨12, _⟩ => ⟨S1x64x256, .f32⟩
  | .local _ .vmem, ⟨13, _⟩ => ⟨S1x64x256, .f32⟩
  | _, _ => ⟨S2x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference14Ideal.lean ====
abbrev S2x64x256 : Shape := ⟨3, ![2, 64, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x64x256, .f32⟩
  | .hbm, ⟨1, _⟩ => ⟨S2x64x256, .f32⟩
  | .hbm, ⟨2, _⟩ => ⟨S2x64x256, .f32⟩
  | .hbm, ⟨3, _⟩ => ⟨S2x64x256, .f32⟩
  | .hbm, ⟨4, _⟩ => ⟨S_, .f32⟩
  | .hbm, ⟨5, _⟩ => ⟨S2x64x256, .f32⟩
  | .hbm, ⟨6, _⟩ => ⟨S2x64x256, .f32⟩
  | .hbm, ⟨7, _⟩ => ⟨S_, .f32⟩
  | .hbm, ⟨8, _⟩ => ⟨S2x64x256, .f32⟩
  | .hbm, ⟨9, _⟩ => ⟨S2x64x256, .f32⟩
  | .hbm, ⟨10, _⟩ => ⟨S2x64x256, .f32⟩
  | .hbm, ⟨11, _⟩ => ⟨S_, .f32⟩
  | .hbm, ⟨12, _⟩ => ⟨S2x64x256, .f32⟩
  | .hbm, ⟨13, _⟩ => ⟨S2x64x256, .f32⟩
  | .hbm, ⟨14, _⟩ => ⟨S2x64x256, .f32⟩
  | .hbm, ⟨15, _⟩ => ⟨S_, .f32⟩
  | .hbm, ⟨16, _⟩ => ⟨S2x64x256, .f32⟩
  | .hbm, ⟨17, _⟩ => ⟨S2x64x256, .f32⟩
  | .hbm, ⟨18, _⟩ => ⟨S2x64x256, .f32⟩
  | .hbm, ⟨19, _⟩ => ⟨S_, .f32⟩
  | .hbm, ⟨20, _⟩ => ⟨S2x64x256, .f32⟩
  | .hbm, ⟨21, _⟩ => ⟨S2x64x256, .f32⟩
  | .hbm, ⟨22, _⟩ => ⟨S_, .f32⟩
  | .hbm, ⟨23, _⟩ => ⟨S2x64x256, .f32⟩
  | .hbm, ⟨24, _⟩ => ⟨S2x64x256, .f32⟩
  | .hbm, ⟨25, _⟩ => ⟨S2x64x256, .f32⟩
  | .hbm, ⟨26, _⟩ => ⟨S_, .f32⟩
  | .hbm, ⟨27, _⟩ => ⟨S2x64x256, .f32⟩
  | .hbm, ⟨28, _⟩ => ⟨S2x64x256, .f32⟩
  | .hbm, ⟨29, _⟩ => ⟨S2x64x256, .f32⟩
  | .hbm, ⟨30, _⟩ => ⟨S_, .f32⟩
  | .hbm, ⟨31, _⟩ => ⟨S2x64x256, .f32⟩
  | .hbm, ⟨32, _⟩ => ⟨S2x64x256, .f32⟩
  | .hbm, ⟨33, _⟩ => ⟨S2x64x256, .f32⟩
  | .hbm, ⟨34, _⟩ => ⟨S_, .f32⟩
  | .hbm, ⟨35, _⟩ => ⟨S2x64x256, .f32⟩
  | .hbm, ⟨36, _⟩ => ⟨S2x64x256, .f32⟩
  | _, _ => ⟨S2x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S2x4x384 : Shape := ⟨3, ![2, 4, 384]⟩
abbrev S1x4x384 : Shape := ⟨3, ![1, 4, 384]⟩
abbrev S4x384 : Shape := ⟨2, ![4, 384]⟩

abbrev nBuf : Space → Nat
  | .hbm => 7
  | .vmem => 14
  | .smem => 0
  | _ => 0

abbrev bufTy : (tb : Table) → Fin (tcTables nBuf tb) → BufTy
  | .hbm, ⟨0, _⟩ => ⟨S2x4x384, .f32⟩
  | .hbm, ⟨1, _⟩ => ⟨S2x4x384, .f32⟩
  | .hbm, ⟨2, _⟩ => ⟨S2x4x384, .f32⟩
  | .hbm, ⟨3, _⟩ => ⟨S2x4x384, .f32⟩
  | .hbm, ⟨4, _⟩ => ⟨S2x4x384, .f32⟩
  | .hbm, ⟨5, _⟩ => ⟨S2x4x384, .f32⟩
  | .hbm, ⟨6, _⟩ => ⟨S2x4x384, .f32⟩
  | .local _ .vmem, ⟨0, _⟩ => ⟨S1x4x384, .f32⟩
  | .local _ .vmem, ⟨1, _⟩ => ⟨S1x4x384, .f32⟩
  | .local _ .vmem, ⟨2, _⟩ => ⟨S1x4x384, .f32⟩
  | .local _ .vmem, ⟨3, _⟩ => ⟨S1x4x384, .f32⟩
  | .local _ .vmem, ⟨4, _⟩ => ⟨S1x4x384, .f32⟩
  | .local _ .vmem, ⟨5, _⟩ => ⟨S1x4x384, .f32⟩
  | .local _ .vmem, ⟨6, _⟩ => ⟨S1x4x384, .f32⟩
  | .local _ .vmem, ⟨7, _⟩ => ⟨S1x4x384, .f32⟩
  | .local _ .vmem, ⟨8, _⟩ => ⟨S1x4x384, .f32⟩
  | .local _ .vmem, ⟨9, _⟩ => ⟨S1x4x384, .f32⟩
  | .local _ .vmem, ⟨10, _⟩ => ⟨S1x4x384, .f32⟩
  | .local _ .vmem, ⟨11, _⟩ => ⟨S1x4x384, .f32⟩
  | .local _ .vmem, ⟨12, _⟩ => ⟨S1x4x384, .f32⟩
  | .local _ .vmem, ⟨13, _⟩ => ⟨S1x4x384, .f32⟩
  | _, _ => ⟨S2x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference15Ideal.lean ====
abbrev S2x4x384 : Shape := ⟨3, ![2, 4, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x4x384, .f32⟩
  | .hbm, ⟨1, _⟩ => ⟨S2x4x384, .f32⟩
  | .hbm, ⟨2, _⟩ => ⟨S2x4x384, .f32⟩
  | .hbm, ⟨3, _⟩ => ⟨S2x4x384, .f32⟩
  | .hbm, ⟨4, _⟩ => ⟨S_, .f32⟩
  | .hbm, ⟨5, _⟩ => ⟨S2x4x384, .f32⟩
  | .hbm, ⟨6, _⟩ => ⟨S2x4x384, .f32⟩
  | .hbm, ⟨7, _⟩ => ⟨S_, .f32⟩
  | .hbm, ⟨8, _⟩ => ⟨S2x4x384, .f32⟩
  | .hbm, ⟨9, _⟩ => ⟨S2x4x384, .f32⟩
  | .hbm, ⟨10, _⟩ => ⟨S2x4x384, .f32⟩
  | .hbm, ⟨11, _⟩ => ⟨S_, .f32⟩
  | .hbm, ⟨12, _⟩ => ⟨S2x4x384, .f32⟩
  | .hbm, ⟨13, _⟩ => ⟨S2x4x384, .f32⟩
  | .hbm, ⟨14, _⟩ => ⟨S2x4x384, .f32⟩
  | .hbm, ⟨15, _⟩ => ⟨S_, .f32⟩
  | .hbm, ⟨16, _⟩ => ⟨S2x4x384, .f32⟩
  | .hbm, ⟨17, _⟩ => ⟨S2x4x384, .f32⟩
  | .hbm, ⟨18, _⟩ => ⟨S2x4x384, .f32⟩
  | .hbm, ⟨19, _⟩ => ⟨S_, .f32⟩
  | .hbm, ⟨20, _⟩ => ⟨S2x4x384, .f32⟩
  | .hbm, ⟨21, _⟩ => ⟨S2x4x384, .f32⟩
  | .hbm, ⟨22, _⟩ => ⟨S_, .f32⟩
  | .hbm, ⟨23, _⟩ => ⟨S2x4x384, .f32⟩
  | .hbm, ⟨24, _⟩ => ⟨S2x4x384, .f32⟩
  | .hbm, ⟨25, _⟩ => ⟨S2x4x384, .f32⟩
  | .hbm, ⟨26, _⟩ => ⟨S_, .f32⟩
  | .hbm, ⟨27, _⟩ => ⟨S2x4x384, .f32⟩
  | .hbm, ⟨28, _⟩ => ⟨S2x4x384, .f32⟩
  | .hbm, ⟨29, _⟩ => ⟨S2x4x384, .f32⟩
  | .hbm, ⟨30, _⟩ => ⟨S_, .f32⟩
  | .hbm, ⟨31, _⟩ => ⟨S2x4x384, .f32⟩
  | .hbm, ⟨32, _⟩ => ⟨S2x4x384, .f32⟩
  | .hbm, ⟨33, _⟩ => ⟨S2x4x384, .f32⟩
  | .hbm, ⟨34, _⟩ => ⟨S_, .f32⟩
  | .hbm, ⟨35, _⟩ => ⟨S2x4x384, .f32⟩
  | .hbm, ⟨36, _⟩ => ⟨S2x4x384, .f32⟩
  | _, _ => ⟨S2x4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S2x256x1024 : Shape := ⟨3, ![2, 256, 1024]⟩
abbrev S1x256x1024 : Shape := ⟨3, ![1, 256, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference16Ideal.lean ====
abbrev S2x256x1024 : Shape := ⟨3, ![2, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S2x256x256 : Shape := ⟨3, ![2, 256, 256]⟩
abbrev S1x256x256 : Shape := ⟨3, ![1, 256, 256]⟩
abbrev S256x256 : Shape := ⟨2, ![256, 256]⟩

abbrev nBuf : Space → Nat
  | .hbm => 7
  | .vmem => 14
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S2x256x256, .f32⟩
  | .hbm, ⟨4, _⟩ => ⟨S2x256x256, .f32⟩
  | .hbm, ⟨5, _⟩ => ⟨S2x256x256, .f32⟩
  | .hbm, ⟨6, _⟩ => ⟨S2x256x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | _, _ => ⟨S2x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference17Ideal.lean ====
abbrev S2x256x256 : Shape := ⟨3, ![2, 256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S2x256x256, .f32⟩
  | .hbm, ⟨4, _⟩ => ⟨S_, .f32⟩
  | .hbm, ⟨5, _⟩ => ⟨S2x256x256, .f32⟩
  | .hbm, ⟨6, _⟩ => ⟨S2x256x256, .f32⟩
  | .hbm, ⟨7, _⟩ => ⟨S_, .f32⟩
  | .hbm, ⟨8, _⟩ => ⟨S2x256x256, .f32⟩
  | .hbm, ⟨9, _⟩ => ⟨S2x256x256, .f32⟩
  | .hbm, ⟨10, _⟩ => ⟨S2x256x256, .f32⟩
  | .hbm, ⟨11, _⟩ => ⟨S_, .f32⟩
  | .hbm, ⟨12, _⟩ => ⟨S2x256x256, .f32⟩
  | .hbm, ⟨13, _⟩ => ⟨S2x256x256, .f32⟩
  | .hbm, ⟨14, _⟩ => ⟨S2x256x256, .f32⟩
  | .hbm, ⟨15, _⟩ => ⟨S_, .f32⟩
  | .hbm, ⟨16, _⟩ => ⟨S2x256x256, .f32⟩
  | .hbm, ⟨17, _⟩ => ⟨S2x256x256, .f32⟩
  | .hbm, ⟨18, _⟩ => ⟨S2x256x256, .f32⟩
  | .hbm, ⟨19, _⟩ => ⟨S_, .f32⟩
  | .hbm, ⟨20, _⟩ => ⟨S2x256x256, .f32⟩
  | .hbm, ⟨21, _⟩ => ⟨S2x256x256, .f32⟩
  | .hbm, ⟨22, _⟩ => ⟨S_, .f32⟩
  | .hbm, ⟨23, _⟩ => ⟨S2x256x256, .f32⟩
  | .hbm, ⟨24, _⟩ => ⟨S2x256x256, .f32⟩
  | .hbm, ⟨25, _⟩ => ⟨S2x256x256, .f32⟩
  | .hbm, ⟨26, _⟩ => ⟨S_, .f32⟩
  | .hbm, ⟨27, _⟩ => ⟨S2x256x256, .f32⟩
  | .hbm, ⟨28, _⟩ => ⟨S2x256x256, .f32⟩
  | .hbm, ⟨29, _⟩ => ⟨S2x256x256, .f32⟩
  | .hbm, ⟨30, _⟩ => ⟨S_, .f32⟩
  | .hbm, ⟨31, _⟩ => ⟨S2x256x256, .f32⟩
  | .hbm, ⟨32, _⟩ => ⟨S2x256x256, .f32⟩
  | .hbm, ⟨33, _⟩ => ⟨S2x256x256, .f32⟩
  | .hbm, ⟨34, _⟩ => ⟨S_, .f32⟩
  | .hbm, ⟨35, _⟩ => ⟨S2x256x256, .f32⟩
  | .hbm, ⟨36, _⟩ => ⟨S2x256x256, .f32⟩
  | _, _ => ⟨S2x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S8192x768 : Shape := ⟨2, ![8192, 768]⟩
abbrev S256 : Shape := ⟨1, ![256]⟩
abbrev S4x128x128 : Shape := ⟨3, ![4, 128, 128]⟩
abbrev S4x128 : Shape := ⟨2, ![4, 128]⟩
abbrev S128x4 : Shape := ⟨2, ![128, 4]⟩
abbrev S_ : Shape := ⟨0, ![]⟩
abbrev S128x128 : Shape := ⟨2, ![128, 128]⟩
abbrev S1x256 : Shape := ⟨2, ![1, 256]⟩
abbrev S8192x256 : Shape := ⟨2, ![8192, 256]⟩
abbrev S1024x768 : Shape := ⟨2, ![1024, 768]⟩
abbrev S1024x256 : Shape := ⟨2, ![1024, 256]⟩
abbrev S1x128x128 : Shape := ⟨3, ![1, 128, 128]⟩
abbrev S128x256 : Shape := ⟨2, ![128, 256]⟩
abbrev S128 : Shape := ⟨1, ![128]⟩
abbrev S128x1 : Shape := ⟨2, ![128, 1]⟩

abbrev nBuf : Space → Nat
  | .hbm => 12
  | .vmem => 8
  | .smem => 0
  | _ => 0

abbrev bufTy : (tb : Table) → Fin (tcTables nBuf tb) → BufTy
  | .hbm, ⟨0, _⟩ => ⟨S8192x768, .f32⟩
  | .hbm, ⟨1, _⟩ => ⟨S256, .f32⟩
  | .hbm, ⟨2, _⟩ => ⟨S256, .f32⟩
  | .hbm, ⟨3, _⟩ => ⟨S4x128x128, .f32⟩
  | .hbm, ⟨4, _⟩ => ⟨S4x128, .f32⟩
  | .hbm, ⟨5, _⟩ => ⟨S128x4, .f32⟩
  | .hbm, ⟨6, _⟩ => ⟨S_, .i32⟩
  | .hbm, ⟨7, _⟩ => ⟨S_, .f32⟩
  | .hbm, ⟨8, _⟩ => ⟨S128x128, .f32⟩
  | .hbm, ⟨9, _⟩ => ⟨S1x256, .f32⟩
  | .hbm, ⟨10, _⟩ => ⟨S1x256, .f32⟩
  | .hbm, ⟨11, _⟩ => ⟨S8192x256, .f32⟩
  | .local _ .vmem, ⟨0, _⟩ => ⟨S1024x768, .f32⟩
  | .local _ .vmem, ⟨1, _⟩ => ⟨S1024x768, .f32⟩
  | .local _ .vmem, ⟨2, _⟩ => ⟨S1x256, .f32⟩
  | .local _ .vmem, ⟨3, _⟩ => ⟨S1x256, .f32⟩
  | .local _ .vmem, ⟨4, _⟩ => ⟨S4x128x128, .f32⟩
  | .local _ .vmem, ⟨5, _⟩ => ⟨S128x128, .f32⟩
  | .local _ .vmem, ⟨6, _⟩ => ⟨S1024x256, .f32⟩
  | .local _ .vmem, ⟨7, _⟩ => ⟨S1024x256, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference18Ideal.lean ====
abbrev S8192x768 : Shape := ⟨2, ![8192, 768]⟩
abbrev S256 : Shape := ⟨1, ![256]⟩
abbrev S4x128x128 : Shape := ⟨3, ![4, 128, 128]⟩
abbrev S4x128 : Shape := ⟨2, ![4, 128]⟩
abbrev S2x4096x768 : Shape := ⟨3, ![2, 4096, 768]⟩
abbrev S2x4096x256 : Shape := ⟨3, ![2, 4096, 256]⟩
abbrev S_ : Shape := ⟨0, ![]⟩
abbrev S2x4096 : Shape := ⟨2, ![2, 4096]⟩
abbrev S2x4096x1 : Shape := ⟨3, ![2, 4096, 1]⟩
abbrev S1x1x256 : Shape := ⟨3, ![1, 1, 256]⟩
abbrev S2x32x128x4x64 : Shape := ⟨5, ![2, 32, 128, 4, 64]⟩
abbrev S128x128 : Shape := ⟨2, ![128, 128]⟩
abbrev S4x2x32x64x128 : Shape := ⟨5, ![4, 2, 32, 64, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S8192x256 : Shape := ⟨2, ![8192, 256]⟩

abbrev nBuf : Space → Nat
  | .hbm => 107
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S256, .f32⟩
  | .hbm, ⟨2, _⟩ => ⟨S256, .f32⟩
  | .hbm, ⟨3, _⟩ => ⟨S4x128x128, .f32⟩
  | .hbm, ⟨4, _⟩ => ⟨S4x128, .f32⟩
  | .hbm, ⟨5, _⟩ => ⟨S2x4096x768, .f32⟩
  | .hbm, ⟨6, _⟩ => ⟨S2x4096x256, .f32⟩
  | .hbm, ⟨7, _⟩ => ⟨S2x4096x256, .f32⟩
  | .hbm, ⟨8, _⟩ => ⟨S2x4096x256, .f32⟩
  | .hbm, ⟨9, _⟩ => ⟨S2x4096x256, .f32⟩
  | .hbm, ⟨10, _⟩ => ⟨S2x4096x256, .f32⟩
  | .hbm, ⟨11, _⟩ => ⟨S_, .f32⟩
  | .hbm, ⟨12, _⟩ => ⟨S2x4096x256, .f32⟩
  | .hbm, ⟨13, _⟩ => ⟨S2x4096x256, .f32⟩
  | .hbm, ⟨14, _⟩ => ⟨S2x4096x256, .f32⟩
  | .hbm, ⟨15, _⟩ => ⟨S_, .f32⟩
  | .hbm, ⟨16, _⟩ => ⟨S2x4096x256, .f32⟩
  | .hbm, ⟨17, _⟩ => ⟨S2x4096x256, .f32⟩
  | .hbm, ⟨18, _⟩ => ⟨S2x4096x256, .f32⟩
  | .hbm, ⟨19, _⟩ => ⟨S_, .f32⟩
  | .hbm, ⟨20, _⟩ => ⟨S2x4096x256, .f32⟩
  | .hbm, ⟨21, _⟩ => ⟨S2x4096x256, .f32⟩
  | .hbm, ⟨22, _⟩ => ⟨S_, .f32⟩
  | .hbm, ⟨23, _⟩ => ⟨S2x4096x256, .f32⟩
  | .hbm, ⟨24, _⟩ => ⟨S2x4096x256, .f32⟩
  | .hbm, ⟨25, _⟩ => ⟨S2x4096x256, .f32⟩
  | .hbm, ⟨26, _⟩ => ⟨S2x4096x256, .f32⟩
  | .hbm, ⟨27, _⟩ => ⟨S2x4096x256, .f32⟩
  | .hbm, ⟨28, _⟩ => ⟨S_, .f32⟩
  | .hbm, ⟨29, _⟩ => ⟨S2x4096x256, .f32⟩
  | .hbm, ⟨30, _⟩ => ⟨S2x4096x256, .f32⟩
  | .hbm, ⟨31, _⟩ => ⟨S2x4096x256, .f32⟩
  | .hbm, ⟨32, _⟩ => ⟨S_, .f32⟩
  | .hbm, ⟨33, _⟩ => ⟨S2x4096x256, .f32⟩
  | .hbm, ⟨34, _⟩ => ⟨S2x4096x256, .f32⟩
  | .hbm, ⟨35, _⟩ => ⟨S2x4096x256, .f32⟩
  | .hbm, ⟨36, _⟩ => ⟨S_, .f32⟩
  | .hbm, ⟨37, _⟩ => ⟨S2x4096x256, .f32⟩
  | .hbm, ⟨38, _⟩ => ⟨S2x4096x256, .f32⟩
  | .hbm, ⟨39, _⟩ => ⟨S_, .f32⟩
  | .hbm, ⟨40, _⟩ => ⟨S2x4096x256, .f32⟩
  | .hbm, ⟨41, _⟩ => ⟨S2x4096x256, .f32⟩
  | .hbm, ⟨42, _⟩ => ⟨S2x4096x256, .f32⟩
  | .hbm, ⟨43, _⟩ => ⟨S_, .f32⟩
  | .hbm, ⟨44, _⟩ => ⟨S2x4096, .f32⟩
  | .hbm, ⟨45, _⟩ => ⟨S2x4096x1, .f32⟩
  | .hbm, ⟨46, _⟩ => ⟨S_, .f32⟩
  | .hbm, ⟨47, _⟩ => ⟨S2x4096x1, .f32⟩
  | .hbm, ⟨48, _⟩ => ⟨S2x4096x1, .f32⟩
  | .hbm, ⟨49, _⟩ => ⟨S2x4096x256, .f32⟩
  | .hbm, ⟨50, _⟩ => ⟨S2x4096x256, .f32⟩
  | .hbm, ⟨51, _⟩ => ⟨S2x4096x256, .f32⟩
  | .hbm, ⟨52, _⟩ => ⟨S_, .f32⟩
  | .hbm, ⟨53, _⟩ => ⟨S2x4096, .f32⟩
  | .hbm, ⟨54, _⟩ => ⟨S2x4096x1, .f32⟩
  | .hbm, ⟨55, _⟩ => ⟨S_, .f32⟩
  | .hbm, ⟨56, _⟩ => ⟨S2x4096x1, .f32⟩
  | .hbm, ⟨57, _⟩ => ⟨S2x4096x1, .f32⟩
  | .hbm, ⟨58, _⟩ => ⟨S_, .f32⟩
  | .hbm, ⟨59, _⟩ => ⟨S2x4096x1, .f32⟩
  | .hbm, ⟨60, _⟩ => ⟨S2x4096x1, .f32⟩
  | .hbm, ⟨61, _⟩ => ⟨S2x4096x1, .f32⟩
  | .hbm, ⟨62, _⟩ => ⟨S2x4096x256, .f32⟩
  | .hbm, ⟨63, _⟩ => ⟨S2x4096x256, .f32⟩
  | .hbm, ⟨64, _⟩ => ⟨S1x1x256, .f32⟩
  | .hbm, ⟨65, _⟩ => ⟨S2x4096x256, .f32⟩
  | .hbm, ⟨66, _⟩ => ⟨S2x4096x256, .f32⟩
  | .hbm, ⟨67, _⟩ => ⟨S1x1x256, .f32⟩
  | .hbm, ⟨68, _⟩ => ⟨S2x4096x256, .f32⟩
  | .hbm, ⟨69, _⟩ => ⟨S2x4096x256, .f32⟩
  | .hbm, ⟨70, _⟩ => ⟨S2x32x128x4x64, .f32⟩
  | .hbm, ⟨71, _⟩ => ⟨S_, .i1⟩
  | .hbm, ⟨72, _⟩ => ⟨S128x128, .i1⟩
  | .hbm, ⟨73, _⟩ => ⟨S128x128, .i32⟩
  | .hbm, ⟨74, _⟩ => ⟨S_, .i32⟩
  | .hbm, ⟨75, _⟩ => ⟨S128x128, .i32⟩
  | .hbm, ⟨76, _⟩ => ⟨S128x128, .i32⟩
  | .hbm, ⟨77, _⟩ => ⟨S128x128, .i32⟩
  | .hbm, ⟨78, _⟩ => ⟨S128x128, .i1⟩
  | .hbm, ⟨79, _⟩ => ⟨S_, .i1⟩
  | .hbm, ⟨80, _⟩ => ⟨S128x128, .i1⟩
  | .hbm, ⟨81, _⟩ => ⟨S128x128, .i1⟩
  | .hbm, ⟨82, _⟩ => ⟨S_, .f32⟩
  | .hbm, ⟨83, _⟩ => ⟨S_, .f32⟩
  | .hbm, ⟨84, _⟩ => ⟨S4x128x128, .i1⟩
  | .hbm, ⟨85, _⟩ => ⟨S4x128x128, .f32⟩
  | .hbm, ⟨86, _⟩ => ⟨S4x128x128, .f32⟩
  | .hbm, ⟨87, _⟩ => ⟨S4x2x32x64x128, .f32⟩
  | .hbm, ⟨88, _⟩ => ⟨S2x32x128x4x64, .f32⟩
  | .hbm, ⟨89, _⟩ => ⟨S128x4, .f32⟩
  | .hbm, ⟨90, _⟩ => ⟨S128x4x1, .f32⟩
  | .hbm, ⟨91, _⟩ => ⟨S1x1x128x4x1, .f32⟩
  | .hbm, ⟨92, _⟩ => ⟨S2x32x128x4x64, .f32⟩
  | .hbm, ⟨93, _⟩ => ⟨S2x32x128x4x64, .f32⟩
  | .hbm, ⟨94, _⟩ => ⟨S2x4096x256, .f32⟩
  | .hbm, ⟨95, _⟩ => ⟨S2x4096x256, .f32⟩
  | .hbm, ⟨96, _⟩ => ⟨S2x4096x256, .f32⟩
  | .hbm, ⟨97, _⟩ => ⟨S2x4096x256, .f32⟩
  | .hbm, ⟨98, _⟩ => ⟨S_, .f32⟩
  | .hbm, ⟨99, _⟩ => ⟨S2x4096x256, .f32⟩
  | .hbm, ⟨100, _⟩ => ⟨S2x4096x256, .f32⟩
  | .hbm, ⟨101, _⟩ => ⟨S_, .f32⟩
  | .hbm, ⟨102, _⟩ => ⟨S2x4096x256, .f32⟩
  | .hbm, ⟨103, _⟩ => ⟨S2x4096x256, .f32⟩
  | .hbm, ⟨104, _⟩ => ⟨S2x4096x256, .f32⟩
  | .hbm, ⟨105, _⟩ => ⟨S2x4096x256, .f32⟩
  | .hbm, ⟨106, _⟩ => ⟨S8192x256, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_cst_11 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c : Ref sig .tc := ⟨.hbm, 71, rfl⟩
abbrev main_v53 : Ref sig .tc := ⟨.hbm, 72, rfl⟩
abbrev main_call0_v0 : Ref sig .tc := ⟨.hbm, 73, rfl⟩
abbrev main_call0_c : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_call0_c_0 : Ref sig .tc := ⟨.hbm, 79, rfl⟩
abbrev main_call0_v5 : Ref sig .tc := ⟨.hbm, 80, rfl⟩
abbrev main_v54 : Ref sig .tc := ⟨.hbm, 81, rfl⟩
abbrev main_cst_12 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_call2_v0 : Ref sig .tc := ⟨.hbm, 96, rfl⟩
abbrev main_call2_v1 : Ref sig .tc := ⟨.hbm, 97, rfl⟩
abbrev main_call2_cst : Ref sig .tc := ⟨.hbm, 98, rfl⟩
abbrev main_call2_v2 : Ref sig .tc := ⟨.hbm, 99, rfl⟩
abbrev main_call2_v3 : Ref sig .tc := ⟨.hbm, 100, rfl⟩
abbrev main_call2_cst_0 : Ref sig .tc := ⟨.hbm, 101, rfl⟩
abbrev main_call2_v4 : Ref sig .tc := ⟨.hbm, 102, rfl⟩
abbrev main_call2_v5 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩

abbrev nD : Nat := 1
abbrev τ : Topo := Topo.v7x

variable {F : FTy → Type} [FloatOps F]
-- ==== Kernel19.lean ====
abbrev S8192x1024 : Shape := ⟨2, ![8192, 1024]⟩
abbrev S1024 : Shape := ⟨1, ![1024]⟩
abbrev S1x1024 : Shape := ⟨2, ![1, 1024]⟩
abbrev S8x128 : Shape := ⟨2, ![8, 128]⟩
abbrev S1024x1024 : Shape := ⟨2, ![1024, 1024]⟩
abbrev S1024x1 : Shape := ⟨2, ![1024, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S8x128, .f32⟩
  | .hbm, ⟨5, _⟩ => ⟨S8192x1024, .f32⟩
  | .hbm, ⟨6, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c0_i32 : BitVec 32 := 0#32
  let v59 : BitVec 1 := Scalar.cmpi .eq arg0 c0_i32
  let v66 : BitVec 32 := Scalar.extui v59
  let c0_i32_23 : BitVec 32 := 0#32
  let v67 : BitVec 1 := Scalar.cmpi .ne v66 c0_i32_23
  v67

def k0_cond4 (i : grid0.Coords) : BitVec 1 :=
  let arg0 : BitVec 32 := BitVec.ofNat 32 (i 0).val
  let c0_i32 : BitVec 32 := 0#32
  let v59 : BitVec 1 := Scalar.cmpi .eq arg0 c0_i32
  let true_24 : BitVec 1 := 1#1
  let v68 : BitVec 1 := Scalar.xori v59 true_24
  let v69 : BitVec 32 := Scalar.extui v68
  let c0_i32_25 : BitVec 32 := 0#32
  let v70 : BitVec 1 := Scalar.cmpi .ne v69 c0_i32_25
  v70

def k0_cond1 (i : grid0.Coords) : BitVec 1 :=
  let arg0 : BitVec 32 := BitVec.ofNat 32 (i 0).val
  let c0_i32 : BitVec 32 := 0#32
  let v59 : BitVec 1 := Scalar.cmpi .eq arg0 c0_i32
  let v60 : BitVec 32 := Scalar.extui v59
  let c0_i32_21 : BitVec 32 := 0#32
  let v61 : BitVec 1 := Scalar.cmpi .ne v60 c0_i32_21
  v61

def k0_cond2 (i : grid0.Coords) : BitVec 1 :=
  let arg0 : BitVec 32 := BitVec.ofNat 32 (i 0).val
  let c0_i32 : BitVec 32 := 0#32
  let v59 : BitVec 1 := Scalar.cmpi .eq arg0 c0_i32
  let v_true : BitVec 1 := 1#1
  let v62 : BitVec 1 := Scalar.xori v59 v_true
  let v63 : BitVec 32 := Scalar.extui v62
  let c0_i32_22 : BitVec 32 := 0#32
  let v64 : BitVec 1 := Scalar.cmpi .ne v63 c0_i32_22
  v64

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference19Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x128 : Shape := ⟨2, ![8, 128]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8x128, .f32⟩
  | .hbm, ⟨72, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Kernel20.lean ====
abbrev S1 : Shape := ⟨1, ![1]⟩
abbrev S4x2x1024 : Shape := ⟨3, ![4, 2, 1024]⟩
abbrev S4x2x16x64 : Shape := ⟨4, ![4, 2, 16, 64]⟩
abbrev S4x2x16x1024 : Shape := ⟨4, ![4, 2, 16, 1024]⟩
abbrev S4x8x128 : Shape := ⟨3, ![4, 8, 128]⟩
abbrev S4x2x4x128x128 : Shape := ⟨5, ![4, 2, 4, 128, 128]⟩
abbrev S4x2x4x128 : Shape := ⟨4, ![4, 2, 4, 128]⟩
abbrev S4x1x1024 : Shape := ⟨3, ![4, 1, 1024]⟩
abbrev S2x1024 : Shape := ⟨2, ![2, 1024]⟩
abbrev S2x16x64 : Shape := ⟨3, ![2, 16, 64]⟩
abbrev S2x16x1024 : Shape := ⟨3, ![2, 16, 1024]⟩
abbrev S8x128 : Shape := ⟨2, ![8, 128]⟩
abbrev S2x4x128x128 : Shape := ⟨4, ![2, 4, 128, 128]⟩
abbrev S2x4x128 : Shape := ⟨3, ![2, 4, 128]⟩
abbrev S1x1024 : Shape := ⟨2, ![1, 1024]⟩
abbrev S1x2x1024 : Shape := ⟨3, ![1, 2, 1024]⟩
abbrev S1x2x16x64 : Shape := ⟨4, ![1, 2, 16, 64]⟩
abbrev S1x2x16x1024 : Shape := ⟨4, ![1, 2, 16, 1024]⟩
abbrev S1x8x128 : Shape := ⟨3, ![1, 8, 128]⟩
abbrev S1x2x4x128x128 : Shape := ⟨5, ![1, 2, 4, 128, 128]⟩
abbrev S1x2x4x128 : Shape := ⟨4, ![1, 2, 4, 128]⟩
abbrev S1x1x1024 : Shape := ⟨3, ![1, 1, 1024]⟩

abbrev nBuf : Space → Nat
  | .hbm => 61
  | .vmem => 60
  | .smem => 1
  | _ => 0

abbrev bufTy : (tb : Table) → Fin (tcTables nBuf tb) → BufTy
  | .hbm, ⟨0, _⟩ => ⟨S1, .i32⟩
  | .hbm, ⟨1, _⟩ => ⟨S4x2x1024, .f32⟩
  | .hbm, ⟨2, _⟩ => ⟨S4x2x16x64, .f32⟩
  | .hbm, ⟨3, _⟩ => ⟨S4x2x16x64, .f32⟩
  | .hbm, ⟨4, _⟩ => ⟨S4x2x16x1024, .f32⟩
  | .hbm, ⟨5, _⟩ => ⟨S4x2x16x1024, .f32⟩
  | .hbm, ⟨6, _⟩ => ⟨S4x2x16x1024, .f32⟩
  | .hbm, ⟨7, _⟩ => ⟨S4x2x16x1024, .f32⟩
  | .hbm, ⟨8, _⟩ => ⟨S4x8x128, .f32⟩
  | .hbm, ⟨9, _⟩ => ⟨S4x8x128, .f32⟩
  | .hbm, ⟨10, _⟩ => ⟨S4x8x128, .f32⟩
  | .hbm, ⟨11, _⟩ => ⟨S4x8x128, .f32⟩
  | .hbm, ⟨12, _⟩ => ⟨S4x8x128, .f32⟩
  | .hbm, ⟨13, _⟩ => ⟨S4x8x128, .f32⟩
  | .hbm, ⟨14, _⟩ => ⟨S4x8x128, .f32⟩
  | .hbm, ⟨15, _⟩ => ⟨S4x8x128, .f32⟩
  | .hbm, ⟨16, _⟩ => ⟨S4x2x4x128x128, .f32⟩
  | .hbm, ⟨17, _⟩ => ⟨S4x2x4x128, .f32⟩
  | .hbm, ⟨18, _⟩ => ⟨S4x2x1024, .f32⟩
  | .hbm, ⟨19, _⟩ => ⟨S4x1x1024, .f32⟩
  | .hbm, ⟨20, _⟩ => ⟨S4x8x128, .f32⟩
  | .hbm, ⟨21, _⟩ => ⟨S2x1024, .f32⟩
  | .hbm, ⟨22, _⟩ => ⟨S2x16x64, .f32⟩
  | .hbm, ⟨23, _⟩ => ⟨S2x16x64, .f32⟩
  | .hbm, ⟨24, _⟩ => ⟨S2x16x1024, .f32⟩
  | .hbm, ⟨25, _⟩ => ⟨S2x16x1024, .f32⟩
  | .hbm, ⟨26, _⟩ => ⟨S2x16x1024, .f32⟩
  | .hbm, ⟨27, _⟩ => ⟨S2x16x1024, .f32⟩
  | .hbm, ⟨28, _⟩ => ⟨S8x128, .f32⟩
  | .hbm, ⟨29, _⟩ => ⟨S8x128, .f32⟩
  | .hbm, ⟨30, _⟩ => ⟨S8x128, .f32⟩
  | .hbm, ⟨31, _⟩ => ⟨S8x128, .f32⟩
  | .hbm, ⟨32, _⟩ => ⟨S8x128, .f32⟩
  | .hbm, ⟨33, _⟩ => ⟨S8x128, .f32⟩
  | .hbm, ⟨34, _⟩ => ⟨S8x128, .f32⟩
  | .hbm, ⟨35, _⟩ => ⟨S8x128, .f32⟩
  | .hbm, ⟨36, _⟩ => ⟨S2x4x128x128, .f32⟩
  | .hbm, ⟨37, _⟩ => ⟨S2x4x128, .f32⟩
  | .hbm, ⟨38, _⟩ => ⟨S2x1024, .f32⟩
  | .hbm, ⟨39, _⟩ => ⟨S1x1024, .f32⟩
  | .hbm, ⟨40, _⟩ => ⟨S8x128, .f32⟩
  | .hbm, ⟨41, _⟩ => ⟨S2x1024, .f32⟩
  | .hbm, ⟨42, _⟩ => ⟨S2x16x64, .f32⟩
  | .hbm, ⟨43, _⟩ => ⟨S2x16x64, .f32⟩
  | .hbm, ⟨44, _⟩ => ⟨S2x16x1024, .f32⟩
  | .hbm, ⟨45, _⟩ => ⟨S2x16x1024, .f32⟩
  | .hbm, ⟨46, _⟩ => ⟨S2x16x1024, .f32⟩
  | .hbm, ⟨47, _⟩ => ⟨S2x16x1024, .f32⟩
  | .hbm, ⟨48, _⟩ => ⟨S8x128, .f32⟩
  | .hbm, ⟨49, _⟩ => ⟨S8x128, .f32⟩
  | .hbm, ⟨50, _⟩ => ⟨S8x128, .f32⟩
  | .hbm, ⟨51, _⟩ => ⟨S8x128, .f32⟩
  | .hbm, ⟨52, _⟩ => ⟨S8x128, .f32⟩
  | .hbm, ⟨53, _⟩ => ⟨S8x128, .f32⟩
  | .hbm, ⟨54, _⟩ => ⟨S8x128, .f32⟩
  | .hbm, ⟨55, _⟩ => ⟨S8x128, .f32⟩
  | .hbm, ⟨56, _⟩ => ⟨S2x4x128x128, .f32⟩
  | .hbm, ⟨57, _⟩ => ⟨S2x4x128, .f32⟩
  | .hbm, ⟨58, _⟩ => ⟨S2x1024, .f32⟩
  | .hbm, ⟨59, _⟩ => ⟨S1x1024, .f32⟩
  | .hbm, ⟨60, _⟩ => ⟨S8x128, .f32⟩
  | .local _ .vmem, ⟨0, _⟩ => ⟨S4x2x1024, .f32⟩
  | .local _ .vmem, ⟨1, _⟩ => ⟨S4x2x16x64, .f32⟩
  | .local _ .vmem, ⟨2, _⟩ => ⟨S4x2x16x64, .f32⟩
  | .local _ .vmem, ⟨3, _⟩ => ⟨S4x2x16x1024, .f32⟩
  | .local _ .vmem, ⟨4, _⟩ => ⟨S4x2x16x1024, .f32⟩
  | .local _ .vmem, ⟨5, _⟩ => ⟨S4x2x16x1024, .f32⟩
  | .local _ .vmem, ⟨6, _⟩ => ⟨S4x2x16x1024, .f32⟩
  | .local _ .vmem, ⟨7, _⟩ => ⟨S4x8x128, .f32⟩
  | .local _ .vmem, ⟨8, _⟩ => ⟨S4x8x128, .f32⟩
  | .local _ .vmem, ⟨9, _⟩ => ⟨S4x8x128, .f32⟩
  | .local _ .vmem, ⟨10, _⟩ => ⟨S4x8x128, .f32⟩
  | .local _ .vmem, ⟨11, _⟩ => ⟨S4x8x128, .f32⟩
  | .local _ .vmem, ⟨12, _⟩ => ⟨S4x8x128, .f32⟩
  | .local _ .vmem, ⟨13, _⟩ => ⟨S4x8x128, .f32⟩
  | .local _ .vmem, ⟨14, _⟩ => ⟨S4x8x128, .f32⟩
  | .local _ .vmem, ⟨15, _⟩ => ⟨S4x2x4x128x128, .f32⟩
  | .local _ .vmem, ⟨16, _⟩ => ⟨S4x2x4x128, .f32⟩
  | .local _ .vmem, ⟨17, _⟩ => ⟨S4x2x1024, .f32⟩
  | .local _ .vmem, ⟨18, _⟩ => ⟨S4x1x1024, .f32⟩
  | .local _ .vmem, ⟨19, _⟩ => ⟨S4x8x128, .f32⟩
  | .local _ .vmem, ⟨20, _⟩ => ⟨S2x1024, .f32⟩
  | .local _ .vmem, ⟨21, _⟩ => ⟨S2x16x64, .f32⟩
  | .local _ .vmem, ⟨22, _⟩ => ⟨S2x16x64, .f32⟩
  | .local _ .vmem, ⟨23, _⟩ => ⟨S2x16x1024, .f32⟩
  | .local _ .vmem, ⟨24, _⟩ => ⟨S2x16x1024, .f32⟩
  | .local _ .vmem, ⟨25, _⟩ => ⟨S2x16x1024, .f32⟩
  | .local _ .vmem, ⟨26, _⟩ => ⟨S2x16x1024, .f32⟩
  | .local _ .vmem, ⟨27, _⟩ => ⟨S8x128, .f32⟩
  | .local _ .vmem, ⟨28, _⟩ => ⟨S8x128, .f32⟩
  | .local _ .vmem, ⟨29, _⟩ => ⟨S8x128, .f32⟩
  | .local _ .vmem, ⟨30, _⟩ => ⟨S8x128, .f32⟩
  | .local _ .vmem, ⟨31, _⟩ => ⟨S8x128, .f32⟩
  | .local _ .vmem, ⟨32, _⟩ => ⟨S8x128, .f32⟩
  | .local _ .vmem, ⟨33, _⟩ => ⟨S8x128, .f32⟩
  | .local _ .vmem, ⟨34, _⟩ => ⟨S8x128, .f32⟩
  | .local _ .vmem, ⟨35, _⟩ => ⟨S2x4x128x128, .f32⟩
  | .local _ .vmem, ⟨36, _⟩ => ⟨S2x4x128, .f32⟩
  | .local _ .vmem, ⟨37, _⟩ => ⟨S2x1024, .f32⟩
  | .local _ .vmem, ⟨38, _⟩ => ⟨S1x1024, .f32⟩
  | .local _ .vmem, ⟨39, _⟩ => ⟨S8x128, .f32⟩
  | .local _ .vmem, ⟨40, _⟩ => ⟨S2x1024, .f32⟩
  | .local _ .vmem, ⟨41, _⟩ => ⟨S2x16x64, .f32⟩
  | .local _ .vmem, ⟨42, _⟩ => ⟨S2x16x64, .f32⟩
  | .local _ .vmem, ⟨43, _⟩ => ⟨S2x16x1024, .f32⟩
  | .local _ .vmem, ⟨44, _⟩ => ⟨S2x16x1024, .f32⟩
  | .local _ .vmem, ⟨45, _⟩ => ⟨S2x16x1024, .f32⟩
  | .local _ .vmem, ⟨46, _⟩ => ⟨S2x16x1024, .f32⟩
  | .local _ .vmem, ⟨47, _⟩ => ⟨S8x128, .f32⟩
  | .local _ .vmem, ⟨48, _⟩ => ⟨S8x128, .f32⟩
  | .local _ .vmem, ⟨49, _⟩ => ⟨S8x128, .f32⟩
  | .local _ .vmem, ⟨50, _⟩ => ⟨S8x128, .f32⟩
  | .local _ .vmem, ⟨51, _⟩ => ⟨S8x128, .f32⟩
  | .local _ .vmem, ⟨52, _⟩ => ⟨S8x128, .f32⟩
  | .local _ .vmem, ⟨53, _⟩ => ⟨S8x128, .f32⟩
  | .local _ .vmem, ⟨54, _⟩ => ⟨S8x128, .f32⟩
  | .local _ .vmem, ⟨55, _⟩ => ⟨S2x4x128x128, .f32⟩
  | .local _ .vmem, ⟨56, _⟩ => ⟨S2x4x128, .f32⟩
  | .local _ .vmem, ⟨57, _⟩ => ⟨S2x1024, .f32⟩
  | .local _ .vmem, ⟨58, _⟩ => ⟨S1x1024, .f32⟩
  | .local _ .vmem, ⟨59, _⟩ => ⟨S8x128, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .smem, ⟨0, _⟩ => true
  | _, _ => false

abbrev semScoped : Fin 0 → Bool
  | ⟨_, h⟩ => absurd h (Nat.not_lt_zero _)

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  ofTc nBuf bufTy 0 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_v0_0 : Ref sig .tc := ⟨.hbm, 41, rfl⟩
abbrev main_v0_1 : Ref sig .tc := ⟨.hbm, 42, rfl⟩
abbrev main_v0_2 : Ref sig .tc := ⟨.hbm, 43, rfl⟩
abbrev main_v0_3 : Ref sig .tc := ⟨.hbm, 44, rfl⟩
abbrev main_v0_4 : Ref sig .tc := ⟨.hbm, 45, rfl⟩
abbrev main_v0_5 : Ref sig .tc := ⟨.hbm, 46, rfl⟩
abbrev main_v0_6 : Ref sig .tc := ⟨.hbm, 47, rfl⟩
abbrev main_v0_7 : Ref sig .tc := ⟨.hbm, 48, rfl⟩
abbrev main_v0_8 : Ref sig .tc := ⟨.hbm, 49, rfl⟩
abbrev main_v0_9 : Ref sig .tc := ⟨.hbm, 50, rfl⟩
abbrev main_v0_10 : Ref sig .tc := ⟨.hbm, 51, rfl⟩
abbrev main_v0_11 : Ref sig .tc := ⟨.hbm, 52, rfl⟩
abbrev main_v0_12 : Ref sig .tc := ⟨.hbm, 53, rfl⟩
abbrev main_v0_13 : Ref sig .tc := ⟨.hbm, 54, rfl⟩
abbrev main_v0_14 : Ref sig .tc := ⟨.hbm, 55, rfl⟩
abbrev main_v0_15 : Ref sig .tc := ⟨.hbm, 56, rfl⟩
abbrev main_v0_16 : Ref sig .tc := ⟨.hbm, 57, rfl⟩
abbrev main_v0_17 : Ref sig .tc := ⟨.hbm, 58, rfl⟩
abbrev main_v0_18 : Ref sig .tc := ⟨.hbm, 59, rfl⟩
abbrev main_v0_19 : Ref sig .tc := ⟨.hbm, 60, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg13_0 : Ref sig .tc := ⟨.vmem, 12, rfl⟩
abbrev cc0_stg14_0 : Ref sig .tc := ⟨.vmem, 13, rfl⟩
abbrev cc0_stg15_0 : Ref sig .tc := ⟨.vmem, 14, rfl⟩
abbrev cc0_stg16_0 : Ref sig .tc := ⟨.vmem, 15, rfl⟩
abbrev cc0_stg17_0 : Ref sig .tc := ⟨.vmem, 16, rfl⟩
abbrev cc0_stg18_0 : Ref sig .tc := ⟨.vmem, 17, rfl⟩
abbrev cc0_stg19_0 : Ref sig .tc := ⟨.vmem, 18, rfl⟩
abbrev cc0_stg20_0 : Ref sig .tc := ⟨.vmem, 19, rfl⟩
abbrev cc0_stg21_0 : Ref sig .tc := ⟨.vmem, 20, rfl⟩
abbrev cc0_stg22_0 : Ref sig .tc := ⟨.vmem, 21, rfl⟩
abbrev cc0_stg23_0 : Ref sig .tc := ⟨.vmem, 22, rfl⟩
abbrev cc0_stg24_0 : Ref sig .tc := ⟨.vmem, 23, rfl⟩
abbrev cc0_stg25_0 : Ref sig .tc := ⟨.vmem, 24, rfl⟩
abbrev cc0_stg26_0 : Ref sig .tc := ⟨.vmem, 25, rfl⟩
abbrev cc0_stg27_0 : Ref sig .tc := ⟨.vmem, 26, rfl⟩
abbrev cc0_stg28_0 : Ref sig .tc := ⟨.vmem, 27, rfl⟩
abbrev cc0_stg29_0 : Ref sig .tc := ⟨.vmem, 28, rfl⟩
abbrev cc0_stg30_0 : Ref sig .tc := ⟨.vmem, 29, rfl⟩
abbrev cc0_stg31_0 : Ref sig .tc := ⟨.vmem, 30, rfl⟩
abbrev cc0_stg32_0 : Ref sig .tc := ⟨.vmem, 31, rfl⟩
abbrev cc0_stg33_0 : Ref sig .tc := ⟨.vmem, 32, rfl⟩
abbrev cc0_stg34_0 : Ref sig .tc := ⟨.vmem, 33, rfl⟩
abbrev cc0_stg35_0 : Ref sig .tc := ⟨.vmem, 34, rfl⟩
abbrev cc0_stg36_0 : Ref sig .tc := ⟨.vmem, 35, rfl⟩
abbrev cc0_stg37_0 : Ref sig .tc := ⟨.vmem, 36, rfl⟩
abbrev cc0_stg38_0 : Ref sig .tc := ⟨.vmem, 37, rfl⟩
abbrev cc0_stg39_0 : Ref sig .tc := ⟨.vmem, 38, rfl⟩
abbrev cc0_stg40_0 : Ref sig .tc := ⟨.vmem, 39, rfl⟩
abbrev cc0_stg41_0 : Ref sig .tc := ⟨.vmem, 40, rfl⟩
abbrev cc0_stg42_0 : Ref sig .tc := ⟨.vmem, 41, rfl⟩
abbrev cc0_stg43_0 : Ref sig .tc := ⟨.vmem, 42, rfl⟩
abbrev cc0_stg44_0 : Ref sig .tc := ⟨.vmem, 43, rfl⟩
abbrev cc0_stg45_0 : Ref sig .tc := ⟨.vmem, 44, rfl⟩
abbrev cc0_stg46_0 : Ref sig .tc := ⟨.vmem, 45, rfl⟩
abbrev cc0_stg47_0 : Ref sig .tc := ⟨.vmem, 46, rfl⟩
abbrev cc0_stg48_0 : Ref sig .tc := ⟨.vmem, 47, rfl⟩
abbrev cc0_stg49_0 : Ref sig .tc := ⟨.vmem, 48, rfl⟩
abbrev cc0_stg50_0 : Ref sig .tc := ⟨.vmem, 49, rfl⟩
abbrev cc0_stg51_0 : Ref sig .tc := ⟨.vmem, 50, rfl⟩
abbrev cc0_stg52_0 : Ref sig .tc := ⟨.vmem, 51, rfl⟩
abbrev cc0_stg53_0 : Ref sig .tc := ⟨.vmem, 52, rfl⟩
abbrev cc0_stg54_0 : Ref sig .tc := ⟨.vmem, 53, rfl⟩
abbrev cc0_stg55_0 : Ref sig .tc := ⟨.vmem, 54, rfl⟩
abbrev cc0_stg56_0 : Ref sig .tc := ⟨.vmem, 55, rfl⟩
abbrev cc0_stg57_0 : Ref sig .tc := ⟨.vmem, 56, rfl⟩
abbrev cc0_stg58_0 : Ref sig .tc := ⟨.vmem, 57, rfl⟩
abbrev cc0_stg59_0 : Ref sig .tc := ⟨.vmem, 58, rfl⟩
abbrev cc0_stg60_0 : Ref sig .tc := ⟨.vmem, 59, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60

abbrev nD : Nat := 1
abbrev τ : Topo := Topo.v7x

variable {F : FTy → Type} [FloatOps F]

abbrev grid0 : Pipeline.Grid := .none

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x2x16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x2x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x2x16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x2x16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x2x16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x2x16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4x8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4x8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4x8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S4x2x4x128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S4x2x4x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S4x2x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S4x1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S4x8x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2x16x64 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S2x16x64 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S2x16x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S2x16x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S2x16x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S2x16x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S8x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S8x128 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S8x128 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S8x128 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S8x128 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S8x128 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S8x128 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S8x128 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S2x4x128x128 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S2x4x128 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S2x1024 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S1x1024 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S8x128 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S2x1024 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S2x16x64 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S2x16x64 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S2x16x1024 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S2x16x1024 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S2x16x1024 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S2x16x1024 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S8x128 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S8x128 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S8x128 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S8x128 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S8x128 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S8x128 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S8x128 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S8x128 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S2x4x128x128 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S2x4x128 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S2x1024 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S1x1024 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S8x128 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))
-- ==== Reference20Ideal.lean ====
abbrev S1 : Shape := ⟨1, ![1]⟩
abbrev S4x2x1024 : Shape := ⟨3, ![4, 2, 1024]⟩
abbrev S4x2x16x64 : Shape := ⟨4, ![4, 2, 16, 64]⟩
abbrev S4x2x16x1024 : Shape := ⟨4, ![4, 2, 16, 1024]⟩
abbrev S4x8x128 : Shape := ⟨3, ![4, 8, 128]⟩
abbrev S4x2x4x128x128 : Shape := ⟨5, ![4, 2, 4, 128, 128]⟩
abbrev S4x2x4x128 : Shape := ⟨4, ![4, 2, 4, 128]⟩
abbrev S4x1x1024 : Shape := ⟨3, ![4, 1, 1024]⟩
abbrev S2x1024 : Shape := ⟨2, ![2, 1024]⟩
abbrev S2x16x64 : Shape := ⟨3, ![2, 16, 64]⟩
abbrev S2x16x1024 : Shape := ⟨3, ![2, 16, 1024]⟩
abbrev S8x128 : Shape := ⟨2, ![8, 128]⟩
abbrev S2x4x128x128 : Shape := ⟨4, ![2, 4, 128, 128]⟩
abbrev S2x4x128 : Shape := ⟨3, ![2, 4, 128]⟩
abbrev S1x1024 : Shape := ⟨2, ![1, 1024]⟩
abbrev S4 : Shape := ⟨1, ![4]⟩
abbrev S_ : Shape := ⟨0, ![]⟩
abbrev S4x1x1 : Shape := ⟨3, ![4, 1, 1]⟩
abbrev S1x2x1024 : Shape := ⟨3, ![1, 2, 1024]⟩
abbrev S4x1x1x1 : Shape := ⟨4, ![4, 1, 1, 1]⟩
abbrev S1x2x16x64 : Shape := ⟨4, ![1, 2, 16, 64]⟩
abbrev S1x2x16x1024 : Shape := ⟨4, ![1, 2, 16, 1024]⟩
abbrev S1x8x128 : Shape := ⟨3, ![1, 8, 128]⟩
abbrev S4x1x1x1x1 : Shape := ⟨5, ![4, 1, 1, 1, 1]⟩
abbrev S1x2x4x128x128 : Shape := ⟨5, ![1, 2, 4, 128, 128]⟩
abbrev S1x2x4x128 : Shape := ⟨4, ![1, 2, 4, 128]⟩
abbrev S1x1x1024 : Shape := ⟨3, ![1, 1, 1024]⟩

abbrev nBuf : Space → Nat
  | .hbm => 261
  | .vmem => 0
  | .smem => 0
  | _ => 0

abbrev hbmTy0_0 (i : Nat) : BufTy := match i % 128 with
  | 0 => ⟨S1, .i32⟩
  | 1 => ⟨S4x2x1024, .f32⟩
  | 2 => ⟨S4x2x16x64, .f32⟩
  | 3 => ⟨S4x2x16x64, .f32⟩
  | 4 => ⟨S4x2x16x1024, .f32⟩
  | 5 => ⟨S4x2x16x1024, .f32⟩
  | 6 => ⟨S4x2x16x1024, .f32⟩
  | 7 => ⟨S4x2x16x1024, .f32⟩
  | 8 => ⟨S4x8x128, .f32⟩
  | 9 => ⟨S4x8x128, .f32⟩
  | 10 => ⟨S4x8x128, .f32⟩
  | 11 => ⟨S4x8x128, .f32⟩
  | 12 => ⟨S4x8x128, .f32⟩
  | 13 => ⟨S4x8x128, .f32⟩
  | 14 => ⟨S4x8x128, .f32⟩
  | 15 => ⟨S4x8x128, .f32⟩
  | 16 => ⟨S4x2x4x128x128, .f32⟩
  | 17 => ⟨S4x2x4x128, .f32⟩
  | 18 => ⟨S4x2x1024, .f32⟩
  | 19 => ⟨S4x1x1024, .f32⟩
  | 20 => ⟨S4x8x128, .f32⟩
  | 21 => ⟨S2x1024, .f32⟩
  | 22 => ⟨S2x16x64, .f32⟩
  | 23 => ⟨S2x16x64, .f32⟩
  | 24 => ⟨S2x16x1024, .f32⟩
  | 25 => ⟨S2x16x1024, .f32⟩
  | 26 => ⟨S2x16x1024, .f32⟩
  | 27 => ⟨S2x16x1024, .f32⟩
  | 28 => ⟨S8x128, .f32⟩
  | 29 => ⟨S8x128, .f32⟩
  | 30 => ⟨S8x128, .f32⟩
  | 31 => ⟨S8x128, .f32⟩
  | 32 => ⟨S8x128, .f32⟩
  | 33 => ⟨S8x128, .f32⟩
  | 34 => ⟨S8x128, .f32⟩
  | 35 => ⟨S8x128, .f32⟩
  | 36 => ⟨S2x4x128x128, .f32⟩
  | 37 => ⟨S2x4x128, .f32⟩
  | 38 => ⟨S2x1024, .f32⟩
  | 39 => ⟨S1x1024, .f32⟩
  | 40 => ⟨S8x128, .f32⟩
  | 41 => ⟨S4, .i32⟩
  | 42 => ⟨S_, .i32⟩
  | 43 => ⟨S4, .i32⟩
  | 44 => ⟨S4, .i1⟩
  | 45 => ⟨S4x1x1, .i1⟩
  | 46 => ⟨S1x2x1024, .f32⟩
  | 47 => ⟨S4x2x1024, .i1⟩
  | 48 => ⟨S4x2x1024, .f32⟩
  | 49 => ⟨S4x2x1024, .f32⟩
  | 50 => ⟨S_, .f32⟩
  | 51 => ⟨S2x1024, .f32⟩
  | 52 => ⟨S4, .i32⟩
  | 53 => ⟨S_, .i32⟩
  | 54 => ⟨S4, .i32⟩
  | 55 => ⟨S4, .i1⟩
  | 56 => ⟨S4x1x1x1, .i1⟩
  | 57 => ⟨S1x2x16x64, .f32⟩
  | 58 => ⟨S4x2x16x64, .i1⟩
  | 59 => ⟨S4x2x16x64, .f32⟩
  | 60 => ⟨S4x2x16x64, .f32⟩
  | 61 => ⟨S_, .f32⟩
  | 62 => ⟨S2x16x64, .f32⟩
  | 63 => ⟨S4, .i32⟩
  | 64 => ⟨S_, .i32⟩
  | 65 => ⟨S4, .i32⟩
  | 66 => ⟨S4, .i1⟩
  | 67 => ⟨S4x1x1x1, .i1⟩
  | 68 => ⟨S1x2x16x64, .f32⟩
  | 69 => ⟨S4x2x16x64, .i1⟩
  | 70 => ⟨S4x2x16x64, .f32⟩
  | 71 => ⟨S4x2x16x64, .f32⟩
  | 72 => ⟨S_, .f32⟩
  | 73 => ⟨S2x16x64, .f32⟩
  | 74 => ⟨S4, .i32⟩
  | 75 => ⟨S_, .i32⟩
  | 76 => ⟨S4, .i32⟩
  | 77 => ⟨S4, .i1⟩
  | 78 => ⟨S4x1x1x1, .i1⟩
  | 79 => ⟨S1x2x16x1024, .f32⟩
  | 80 => ⟨S4x2x16x1024, .i1⟩
  | 81 => ⟨S4x2x16x1024, .f32⟩
  | 82 => ⟨S4x2x16x1024, .f32⟩
  | 83 => ⟨S_, .f32⟩
  | 84 => ⟨S2x16x1024, .f32⟩
  | 85 => ⟨S4, .i32⟩
  | 86 => ⟨S_, .i32⟩
  | 87 => ⟨S4, .i32⟩
  | 88 => ⟨S4, .i1⟩
  | 89 => ⟨S4x1x1x1, .i1⟩
  | 90 => ⟨S1x2x16x1024, .f32⟩
  | 91 => ⟨S4x2x16x1024, .i1⟩
  | 92 => ⟨S4x2x16x1024, .f32⟩
  | 93 => ⟨S4x2x16x1024, .f32⟩
  | 94 => ⟨S_, .f32⟩
  | 95 => ⟨S2x16x1024, .f32⟩
  | 96 => ⟨S4, .i32⟩
  | 97 => ⟨S_, .i32⟩
  | 98 => ⟨S4, .i32⟩
  | 99 => ⟨S4, .i1⟩
  | 100 => ⟨S4x1x1x1, .i1⟩
  | 101 => ⟨S1x2x16x1024, .f32⟩
  | 102 => ⟨S4x2x16x1024, .i1⟩
  | 103 => ⟨S4x2x16x1024, .f32⟩
  | 104 => ⟨S4x2x16x1024, .f32⟩
  | 105 => ⟨S_, .f32⟩
  | 106 => ⟨S2x16x1024, .f32⟩
  | 107 => ⟨S4, .i32⟩
  | 108 => ⟨S_, .i32⟩
  | 109 => ⟨S4, .i32⟩
  | 110 => ⟨S4, .i1⟩
  | 111 => ⟨S4x1x1x1, .i1⟩
  | 112 => ⟨S1x2x16x1024, .f32⟩
  | 113 => ⟨S4x2x16x1024, .i1⟩
  | 114 => ⟨S4x2x16x1024, .f32⟩
  | 115 => ⟨S4x2x16x1024, .f32⟩
  | 116 => ⟨S_, .f32⟩
  | 117 => ⟨S2x16x1024, .f32⟩
  | 118 => ⟨S4, .i32⟩
  | 119 => ⟨S_, .i32⟩
  | 120 => ⟨S4, .i32⟩
  | 121 => ⟨S4, .i1⟩
  | 122 => ⟨S4x1x1, .i1⟩
  | 123 => ⟨S1x8x128, .f32⟩
  | 124 => ⟨S4x8x128, .i1⟩
  | 125 => ⟨S4x8x128, .f32⟩
  | 126 => ⟨S4x8x128, .f32⟩
  | 127 => ⟨S_, .f32⟩
  | _ => ⟨S1, .i32⟩

abbrev hbmTy0_1 (i : Nat) : BufTy := match i % 128 with
  | 0 => ⟨S8x128, .f32⟩
  | 1 => ⟨S4, .i32⟩
  | 2 => ⟨S_, .i32⟩
  | 3 => ⟨S4, .i32⟩
  | 4 => ⟨S4, .i1⟩
  | 5 => ⟨S4x1x1, .i1⟩
  | 6 => ⟨S1x8x128, .f32⟩
  | 7 => ⟨S4x8x128, .i1⟩
  | 8 => ⟨S4x8x128, .f32⟩
  | 9 => ⟨S4x8x128, .f32⟩
  | 10 => ⟨S_, .f32⟩
  | 11 => ⟨S8x128, .f32⟩
  | 12 => ⟨S4, .i32⟩
  | 13 => ⟨S_, .i32⟩
  | 14 => ⟨S4, .i32⟩
  | 15 => ⟨S4, .i1⟩
  | 16 => ⟨S4x1x1, .i1⟩
  | 17 => ⟨S1x8x128, .f32⟩
  | 18 => ⟨S4x8x128, .i1⟩
  | 19 => ⟨S4x8x128, .f32⟩
  | 20 => ⟨S4x8x128, .f32⟩
  | 21 => ⟨S_, .f32⟩
  | 22 => ⟨S8x128, .f32⟩
  | 23 => ⟨S4, .i32⟩
  | 24 => ⟨S_, .i32⟩
  | 25 => ⟨S4, .i32⟩
  | 26 => ⟨S4, .i1⟩
  | 27 => ⟨S4x1x1, .i1⟩
  | 28 => ⟨S1x8x128, .f32⟩
  | 29 => ⟨S4x8x128, .i1⟩
  | 30 => ⟨S4x8x128, .f32⟩
  | 31 => ⟨S4x8x128, .f32⟩
  | 32 => ⟨S_, .f32⟩
  | 33 => ⟨S8x128, .f32⟩
  | 34 => ⟨S4, .i32⟩
  | 35 => ⟨S_, .i32⟩
  | 36 => ⟨S4, .i32⟩
  | 37 => ⟨S4, .i1⟩
  | 38 => ⟨S4x1x1, .i1⟩
  | 39 => ⟨S1x8x128, .f32⟩
  | 40 => ⟨S4x8x128, .i1⟩
  | 41 => ⟨S4x8x128, .f32⟩
  | 42 => ⟨S4x8x128, .f32⟩
  | 43 => ⟨S_, .f32⟩
  | 44 => ⟨S8x128, .f32⟩
  | 45 => ⟨S4, .i32⟩
  | 46 => ⟨S_, .i32⟩
  | 47 => ⟨S4, .i32⟩
  | 48 => ⟨S4, .i1⟩
  | 49 => ⟨S4x1x1, .i1⟩
  | 50 => ⟨S1x8x128, .f32⟩
  | 51 => ⟨S4x8x128, .i1⟩
  | 52 => ⟨S4x8x128, .f32⟩
  | 53 => ⟨S4x8x128, .f32⟩
  | 54 => ⟨S_, .f32⟩
  | 55 => ⟨S8x128, .f32⟩
  | 56 => ⟨S4, .i32⟩
  | 57 => ⟨S_, .i32⟩
  | 58 => ⟨S4, .i32⟩
  | 59 => ⟨S4, .i1⟩
  | 60 => ⟨S4x1x1, .i1⟩
  | 61 => ⟨S1x8x128, .f32⟩
  | 62 => ⟨S4x8x128, .i1⟩
  | 63 => ⟨S4x8x128, .f32⟩
  | 64 => ⟨S4x8x128, .f32⟩
  | 65 => ⟨S_, .f32⟩
  | 66 => ⟨S8x128, .f32⟩
  | 67 => ⟨S4, .i32⟩
  | 68 => ⟨S_, .i32⟩
  | 69 => ⟨S4, .i32⟩
  | 70 => ⟨S4, .i1⟩
  | 71 => ⟨S4x1x1, .i1⟩
  | 72 => ⟨S1x8x128, .f32⟩
  | 73 => ⟨S4x8x128, .i1⟩
  | 74 => ⟨S4x8x128, .f32⟩
  | 75 => ⟨S4x8x128, .f32⟩
  | 76 => ⟨S_, .f32⟩
  | 77 => ⟨S8x128, .f32⟩
  | 78 => ⟨S4, .i32⟩
  | 79 => ⟨S_, .i32⟩
  | 80 => ⟨S4, .i32⟩
  | 81 => ⟨S4, .i1⟩
  | 82 => ⟨S4x1x1x1x1, .i1⟩
  | 83 => ⟨S1x2x4x128x128, .f32⟩
  | 84 => ⟨S4x2x4x128x128, .i1⟩
  | 85 => ⟨S4x2x4x128x128, .f32⟩
  | 86 => ⟨S4x2x4x128x128, .f32⟩
  | 87 => ⟨S_, .f32⟩
  | 88 => ⟨S2x4x128x128, .f32⟩
  | 89 => ⟨S4, .i32⟩
  | 90 => ⟨S_, .i32⟩
  | 91 => ⟨S4, .i32⟩
  | 92 => ⟨S4, .i1⟩
  | 93 => ⟨S4x1x1x1, .i1⟩
  | 94 => ⟨S1x2x4x128, .f32⟩
  | 95 => ⟨S4x2x4x128, .i1⟩
  | 96 => ⟨S4x2x4x128, .f32⟩
  | 97 => ⟨S4x2x4x128, .f32⟩
  | 98 => ⟨S_, .f32⟩
  | 99 => ⟨S2x4x128, .f32⟩
  | 100 => ⟨S4, .i32⟩
  | 101 => ⟨S_, .i32⟩
  | 102 => ⟨S4, .i32⟩
  | 103 => ⟨S4, .i1⟩
  | 104 => ⟨S4x1x1, .i1⟩
  | 105 => ⟨S1x2x1024, .f32⟩
  | 106 => ⟨S4x2x1024, .i1⟩
  | 107 => ⟨S4x2x1024, .f32⟩
  | 108 => ⟨S4x2x1024, .f32⟩
  | 109 => ⟨S_, .f32⟩
  | 110 => ⟨S2x1024, .f32⟩
  | 111 => ⟨S4, .i32⟩
  | 112 => ⟨S_, .i32⟩
  | 113 => ⟨S4, .i32⟩
  | 114 => ⟨S4, .i1⟩
  | 115 => ⟨S4x1x1, .i1⟩
  | 116 => ⟨S1x1x1024, .f32⟩
  | 117 => ⟨S4x1x1024, .i1⟩
  | 118 => ⟨S4x1x1024, .f32⟩
  | 119 => ⟨S4x1x1024, .f32⟩
  | 120 => ⟨S_, .f32⟩
  | 121 => ⟨S1x1024, .f32⟩
  | 122 => ⟨S4, .i32⟩
  | 123 => ⟨S_, .i32⟩
  | 124 => ⟨S4, .i32⟩
  | 125 => ⟨S4, .i1⟩
  | 126 => ⟨S4x1x1, .i1⟩
  | 127 => ⟨S1x8x128, .f32⟩
  | _ => ⟨S1, .i32⟩

abbrev hbmTy0_2 (i : Nat) : BufTy := match i % 128 with
  | 0 => ⟨S4x8x128, .i1⟩
  | 1 => ⟨S4x8x128, .f32⟩
  | 2 => ⟨S4x8x128, .f32⟩
  | 3 => ⟨S_, .f32⟩
  | 4 => ⟨S8x128, .f32⟩
  | _ => ⟨S1, .i32⟩

abbrev hbmTy (i : Nat) : BufTy := match i / 128 with
  | 0 => hbmTy0_0 i
  | 1 => hbmTy0_1 i
  | 2 => hbmTy0_2 i
  | _ => ⟨S1, .i32⟩

abbrev bufTy : (tb : Table) → Fin (tcTables nBuf tb) → BufTy
  | .hbm, ⟨i, _⟩ => hbmTy i
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_v0 : Ref sig .tc := ⟨.hbm, 41, rfl⟩
abbrev main_v1 : Ref sig .tc := ⟨.hbm, 42, rfl⟩
abbrev main_v2 : Ref sig .tc := ⟨.hbm, 43, rfl⟩
abbrev main_v3 : Ref sig .tc := ⟨.hbm, 44, rfl⟩
abbrev main_v4 : Ref sig .tc := ⟨.hbm, 45, rfl⟩
abbrev main_v5 : Ref sig .tc := ⟨.hbm, 46, rfl⟩
abbrev main_call0_v0 : Ref sig .tc := ⟨.hbm, 47, rfl⟩
abbrev main_call0_v1 : Ref sig .tc := ⟨.hbm, 48, rfl⟩
abbrev main_v6 : Ref sig .tc := ⟨.hbm, 49, rfl⟩
abbrev main_cst : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_call1_v0 : Ref sig .tc := ⟨.hbm, 58, rfl⟩
abbrev main_call1_v1 : Ref sig .tc := ⟨.hbm, 59, rfl⟩
abbrev main_v14 : Ref sig .tc := ⟨.hbm, 60, rfl⟩
abbrev main_cst_0 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_call2_v0 : Ref sig .tc := ⟨.hbm, 69, rfl⟩
abbrev main_call2_v1 : Ref sig .tc := ⟨.hbm, 70, rfl⟩
abbrev main_v22 : Ref sig .tc := ⟨.hbm, 71, rfl⟩
abbrev main_cst_1 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_call3_v0 : Ref sig .tc := ⟨.hbm, 80, rfl⟩
abbrev main_call3_v1 : Ref sig .tc := ⟨.hbm, 81, rfl⟩
abbrev main_v30 : Ref sig .tc := ⟨.hbm, 82, rfl⟩
abbrev main_cst_2 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_call4_v0 : Ref sig .tc := ⟨.hbm, 91, rfl⟩
abbrev main_call4_v1 : Ref sig .tc := ⟨.hbm, 92, rfl⟩
abbrev main_v38 : Ref sig .tc := ⟨.hbm, 93, rfl⟩
abbrev main_cst_3 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_call5_v0 : Ref sig .tc := ⟨.hbm, 102, rfl⟩
abbrev main_call5_v1 : Ref sig .tc := ⟨.hbm, 103, rfl⟩
abbrev main_v46 : Ref sig .tc := ⟨.hbm, 104, rfl⟩
abbrev main_cst_4 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_call6_v0 : Ref sig .tc := ⟨.hbm, 113, rfl⟩
abbrev main_call6_v1 : Ref sig .tc := ⟨.hbm, 114, rfl⟩
abbrev main_v54 : Ref sig .tc := ⟨.hbm, 115, rfl⟩
abbrev main_cst_5 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_call7_v0 : Ref sig .tc := ⟨.hbm, 124, rfl⟩
abbrev main_call7_v1 : Ref sig .tc := ⟨.hbm, 125, rfl⟩
abbrev main_v62 : Ref sig .tc := ⟨.hbm, 126, rfl⟩
abbrev main_cst_6 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_call8_v0 : Ref sig .tc := ⟨.hbm, 135, rfl⟩
abbrev main_call8_v1 : Ref sig .tc := ⟨.hbm, 136, rfl⟩
abbrev main_v70 : Ref sig .tc := ⟨.hbm, 137, rfl⟩
abbrev main_cst_7 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_call9_v0 : Ref sig .tc := ⟨.hbm, 146, rfl⟩
abbrev main_call9_v1 : Ref sig .tc := ⟨.hbm, 147, rfl⟩
abbrev main_v78 : Ref sig .tc := ⟨.hbm, 148, rfl⟩
abbrev main_cst_8 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_call10_v0 : Ref sig .tc := ⟨.hbm, 157, rfl⟩
abbrev main_call10_v1 : Ref sig .tc := ⟨.hbm, 158, rfl⟩
abbrev main_v86 : Ref sig .tc := ⟨.hbm, 159, rfl⟩
abbrev main_cst_9 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_call11_v0 : Ref sig .tc := ⟨.hbm, 168, rfl⟩
abbrev main_call11_v1 : Ref sig .tc := ⟨.hbm, 169, rfl⟩
abbrev main_v94 : Ref sig .tc := ⟨.hbm, 170, rfl⟩
abbrev main_cst_10 : Ref sig .tc := ⟨.hbm, 171, rfl⟩
abbrev main_v95 : Ref sig .tc := ⟨.hbm, 172, rfl⟩
abbrev main_v96 : Ref sig .tc := ⟨.hbm, 173, rfl⟩
abbrev main_v97 : Ref sig .tc := ⟨.hbm, 174, rfl⟩
abbrev main_v98 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_call12_v0 : Ref sig .tc := ⟨.hbm, 179, rfl⟩
abbrev main_call12_v1 : Ref sig .tc := ⟨.hbm, 180, rfl⟩
abbrev main_v102 : Ref sig .tc := ⟨.hbm, 181, rfl⟩
abbrev main_cst_11 : Ref sig .tc := ⟨.hbm, 182, rfl⟩
abbrev main_v103 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_v107 : Ref sig .tc := ⟨.hbm, 187, rfl⟩
abbrev main_v108 : Ref sig .tc := ⟨.hbm, 188, rfl⟩
abbrev main_v109 : Ref sig .tc := ⟨.hbm, 189, rfl⟩
abbrev main_call13_v0 : Ref sig .tc := ⟨.hbm, 190, rfl⟩
abbrev main_call13_v1 : Ref sig .tc := ⟨.hbm, 191, rfl⟩
abbrev main_v110 : Ref sig .tc := ⟨.hbm, 192, rfl⟩
abbrev main_cst_12 : Ref sig .tc := ⟨.hbm, 193, rfl⟩
abbrev main_v111 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_v115 : Ref sig .tc := ⟨.hbm, 198, rfl⟩
abbrev main_v116 : Ref sig .tc := ⟨.hbm, 199, rfl⟩
abbrev main_v117 : Ref sig .tc := ⟨.hbm, 200, rfl⟩
abbrev main_call14_v0 : Ref sig .tc := ⟨.hbm, 201, rfl⟩
abbrev main_call14_v1 : Ref sig .tc := ⟨.hbm, 202, rfl⟩
abbrev main_v118 : Ref sig .tc := ⟨.hbm, 203, rfl⟩
abbrev main_cst_13 : Ref sig .tc := ⟨.hbm, 204, rfl⟩
abbrev main_v119 : Ref sig .tc := ⟨.hbm, 205, rfl⟩
abbrev main_v120 : Ref sig .tc := ⟨.hbm, 206, rfl⟩
abbrev main_v121 : Ref sig .tc := ⟨.hbm, 207, rfl⟩
abbrev main_v122 : Ref sig .tc := ⟨.hbm, 208, rfl⟩
abbrev main_v123 : Ref sig .tc := ⟨.hbm, 209, rfl⟩
abbrev main_v124 : Ref sig .tc := ⟨.hbm, 210, rfl⟩
abbrev main_v125 : Ref sig .tc := ⟨.hbm, 211, rfl⟩
abbrev main_call15_v0 : Ref sig .tc := ⟨.hbm, 212, rfl⟩
abbrev main_call15_v1 : Ref sig .tc := ⟨.hbm, 213, rfl⟩
abbrev main_v126 : Ref sig .tc := ⟨.hbm, 214, rfl⟩
abbrev main_cst_14 : Ref sig .tc := ⟨.hbm, 215, rfl⟩
abbrev main_v127 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_v131 : Ref sig .tc := ⟨.hbm, 220, rfl⟩
abbrev main_v132 : Ref sig .tc := ⟨.hbm, 221, rfl⟩
abbrev main_v133 : Ref sig .tc := ⟨.hbm, 222, rfl⟩
abbrev main_call16_v0 : Ref sig .tc := ⟨.hbm, 223, rfl⟩
abbrev main_call16_v1 : Ref sig .tc := ⟨.hbm, 224, rfl⟩
abbrev main_v134 : Ref sig .tc := ⟨.hbm, 225, rfl⟩
abbrev main_cst_15 : Ref sig .tc := ⟨.hbm, 226, rfl⟩
abbrev main_v135 : Ref sig .tc := ⟨.hbm, 227, rfl⟩
abbrev main_v136 : Ref sig .tc := ⟨.hbm, 228, rfl⟩
abbrev main_v137 : Ref sig .tc := ⟨.hbm, 229, rfl⟩
abbrev main_v138 : Ref sig .tc := ⟨.hbm, 230, rfl⟩
abbrev main_v139 : Ref sig .tc := ⟨.hbm, 231, rfl⟩
abbrev main_v140 : Ref sig .tc := ⟨.hbm, 232, rfl⟩
abbrev main_v141 : Ref sig .tc := ⟨.hbm, 233, rfl⟩
abbrev main_call17_v0 : Ref sig .tc := ⟨.hbm, 234, rfl⟩
abbrev main_call17_v1 : Ref sig .tc := ⟨.hbm, 235, rfl⟩
abbrev main_v142 : Ref sig .tc := ⟨.hbm, 236, rfl⟩
abbrev main_cst_16 : Ref sig .tc := ⟨.hbm, 237, rfl⟩
abbrev main_v143 : Ref sig .tc := ⟨.hbm, 238, rfl⟩
abbrev main_v144 : Ref sig .tc := ⟨.hbm, 239, rfl⟩
abbrev main_v145 : Ref sig .tc := ⟨.hbm, 240, rfl⟩
abbrev main_v146 : Ref sig .tc := ⟨.hbm, 241, rfl⟩
abbrev main_v147 : Ref sig .tc := ⟨.hbm, 242, rfl⟩
abbrev main_v148 : Ref sig .tc := ⟨.hbm, 243, rfl⟩
abbrev main_v149 : Ref sig .tc := ⟨.hbm, 244, rfl⟩
abbrev main_call18_v0 : Ref sig .tc := ⟨.hbm, 245, rfl⟩
abbrev main_call18_v1 : Ref sig .tc := ⟨.hbm, 246, rfl⟩
abbrev main_v150 : Ref sig .tc := ⟨.hbm, 247, rfl⟩
abbrev main_cst_17 : Ref sig .tc := ⟨.hbm, 248, rfl⟩
abbrev main_v151 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_v155 : Ref sig .tc := ⟨.hbm, 253, rfl⟩
abbrev main_v156 : Ref sig .tc := ⟨.hbm, 254, rfl⟩
abbrev main_v157 : Ref sig .tc := ⟨.hbm, 255, rfl⟩
abbrev main_call19_v0 : Ref sig .tc := ⟨.hbm, 256, rfl⟩
abbrev main_call19_v1 : Ref sig .tc := ⟨.hbm, 257, rfl⟩
abbrev main_v158 : Ref sig .tc := ⟨.hbm, 258, rfl⟩
abbrev main_cst_18 : Ref sig .tc := ⟨.hbm, 259, rfl⟩
abbrev main_v159 : Ref sig .tc := ⟨.hbm, 260, rfl⟩

abbrev nD : Nat := 1
abbrev τ : Topo := Topo.v7x

variable {F : FTy → Type} [FloatOps F]
-- ==== Proof.Sg.Chunk.lean ====
/-
  One chunk (128 rows) of the spatial gating unit's backward pass, as the kernel computes it: the arrays of the chunk
  named one after another, over any float instance.
-/
module

public import proofs.«01_k».proof.Proof.Gen.KernelIdeal.Skeleton

@[expose] public section

noncomputable section

namespace Cert.KernelIdeal.Sg

open Cert.KernelIdeal Cert.KernelIdeal.Gen Idealize.ShloMosaic Idealize.ShloMosaic.TcCoe Idealize.SL.Sem

variable {F : FTy → Type} [FloatOps F]

/-- A constant array. -/
def kc (s : Shape) (b : BitVec 32) : FVec F s .f32 := broadcast s (Scalar.ofBits .f32 b)

/-! ### The activation and its derivative -/

/-- The `tanh` inside the activation. -/
def gth (x : FVec F S128x256 .f32) : FVec F S128x256 .f32 :=
  tanh (mulf (kc _ 0x3F4C422A#32) (addf x (mulf (kc _ 0x3D372713#32) (mulf x (mulf x x)))))

/-- The factor `(1 + tanh) / 2`. -/
def gfac (x : FVec F S128x256 .f32) : FVec F S128x256 .f32 :=
  mulf (kc _ 0x3F000000#32) (addf (kc _ 0x3F800000#32) (gth x))

/-- The activation. -/
def gelu (x : FVec F S128x256 .f32) : FVec F S128x256 .f32 := mulf x (gfac x)

/-- What the `tanh` contributes to the derivative, times the cotangent `d`. -/
def gtan (x d : FVec F S128x256 .f32) : FVec F S128x256 .f32 :=
  mulf (kc _ 0x3F4C422A#32) (mulf (mulf (kc _ 0x3F000000#32) (mulf x d))
    (mulf (addf (kc _ 0x3F800000#32) (gth x)) (subf (kc _ 0x3F800000#32) (gth x))))

/-- The activation's backward pass. -/
def geluBwd (x d : FVec F S128x256 .f32) : FVec F S128x256 .f32 :=
  addf (addf (mulf d (gfac x)) (gtan x d))
    (mulf (mulf (kc _ 0x3D372713#32) (gtan x d)) (mulf (kc _ 0x40400000#32) (mulf x x)))

/-! ### The norm -/

/-- A row's sum, as a column. -/
def rowSum (x : FVec F S128x256 .f32) : FVec F S128x1 .f32 :=
  shapeCast S128x1 (multiReduction .add [1] S128 x 0x00000000#32 reduces_S128x256_S128 (.inl rfl) rfl) shapeCasts_S128_S128x1

/-- A column's sum over its single lane. -/
def colSum (x : FVec F S128x1 .f32) : FVec F S128x1 .f32 :=
  shapeCast S128x1 (multiReduction .add [1] S128 x 0x00000000#32 reduces_S128x1_S128 (.inl rfl) rfl) shapeCasts_S128_S128x1

def mean (x : FVec F S128x256 .f32) : FVec F S128x1 .f32 := divf (rowSum x) (kc _ 0x43800000#32)
def colB (x : FVec F S128x1 .f32) : FVec F S128x256 .f32 := broadcastTo S128x256 x broadcasts_S128x1_S128x256
def rowB (x : FVec F S1x256 .f32) : FVec F S128x256 .f32 := broadcastTo S128x256 x broadcasts_S1x256_S128x256

/-- The centred rows. -/
def xc (v : FVec F S128x256 .f32) : FVec F S128x256 .f32 := subf (gelu v) (colB (mean (gelu v)))
/-- The variance with its `eps`. -/
def vareps (v : FVec F S128x256 .f32) : FVec F S128x1 .f32 := addf (mean (mulf (xc v) (xc v))) (kc _ 0x358637BD#32)
def rs (v : FVec F S128x256 .f32) : FVec F S128x1 .f32 := rsqrt (vareps v)
/-- The derivative of `rsqrt`. -/
def drs (v : FVec F S128x256 .f32) : FVec F S128x1 .f32 := mulf (kc _ 0xBF000000#32) (divf (rs v) (vareps v))
def nrm (v : FVec F S128x256 .f32) : FVec F S128x256 .f32 := mulf (xc v) (colB (rs v))
def vnorm (v : FVec F S128x256 .f32) (g b : FVec F S1x256 .f32) : FVec F S128x256 .f32 :=
  addf (mulf (nrm v) (rowB g)) (rowB b)

/-- The part of the norm's backward pass that does not go through the mean. -/
def dxc (v dx : FVec F S128x256 .f32) : FVec F S128x256 .f32 :=
  let q := colB (colSum (divf (mulf (rowSum (mulf (xc v) dx)) (drs v)) (kc _ 0x43800000#32)))
  addf (addf (mulf dx (colB (rs v))) (mulf (xc v) q)) (mulf q (xc v))

/-- The norm's backward pass from the cotangent `dx` of the normalised rows. -/
def normBwd (v dx : FVec F S128x256 .f32) : FVec F S128x256 .f32 :=
  addf (dxc v dx) (colB (colSum (divf (rowSum (subf (kc _ 0x00000000#32) (dxc v dx))) (kc _ 0x43800000#32))))

/-! ### The mixing inside the chunk -/

/-- Row `i` sees column `j` when `i ≥ j`. -/
def tri : IVec S128x128 1 := cmpi .sge (iota .tc S128x128 32 [0] iota_S128x128_d0_w32) (iota .tc S128x128 32 [1] iota_S128x128_d1_w32)

/-- The lanes `a ≤ l < b`. -/
def lanes (a b : BitVec 32) : IVec S128x256 1 :=
  andi (cmpi .sge (iota .tc S128x256 32 [1] iota_S128x256_d1_w32) (broadcast S128x256 a))
    (cmpi .slt (iota .tc S128x256 32 [1] iota_S128x256_d1_w32) (broadcast S128x256 b))

def wtri (w : FVec F S128x128 .f32) : FVec F S128x128 .f32 := select tri w (kc _ 0x00000000#32)
def onLanes (a b : BitVec 32) (x : FVec F S128x256 .f32) : FVec F S128x256 .f32 := select (lanes a b) x (kc _ 0x00000000#32)

/-- One head's mixing of all lanes, with the head's bias column. -/
def headMix (w : FVec F S128x128 .f32) (vn : FVec F S128x256 .f32) (bc : FVec F S128x1 .f32) : FVec F S128x256 .f32 :=
  addf (matmul dot_S128x128_S128x256_S128x256_1_0_0_1_n_n none (truncf .bf16 (wtri w) bitsLt_bf16_f32)
    (truncf .bf16 vn bitsLt_bf16_f32) (constant S128x256 .f32 0x00000000#32)) (colB bc)

/-- The mixed rows: every head on its own lanes. -/
def mix (w0 w1 w2 w3 : FVec F S128x128 .f32) (vn : FVec F S128x256 .f32) (bt : FVec F S128x128 .f32) : FVec F S128x256 .f32 :=
  addf (addf (addf (addf (kc _ 0x00000000#32)
    (onLanes 0#32 64#32 (headMix w0 vn (extractStridedSlice S128x1 ![0, 0] bt slices_S128x128_o0_0_S128x1))))
    (onLanes 64#32 128#32 (headMix w1 vn (extractStridedSlice S128x1 ![0, 1] bt slices_S128x128_o0_1_S128x1))))
    (onLanes 128#32 192#32 (headMix w2 vn (extractStridedSlice S128x1 ![0, 2] bt slices_S128x128_o0_2_S128x1))))
    (onLanes 192#32 256#32 (headMix w3 vn (extractStridedSlice S128x1 ![0, 3] bt slices_S128x128_o0_3_S128x1)))

/-- One head's weight gradient from the cotangent `d` of its lanes. -/
def headDw (d vn : FVec F S128x256 .f32) : FVec F S128x128 .f32 :=
  select tri (matmul dot_S128x256_S128x256_S128x128_1_1_0_0_n_n none (truncf .bf16 d bitsLt_bf16_f32)
    (truncf .bf16 vn bitsLt_bf16_f32) (constant S128x128 .f32 0x00000000#32)) (kc _ 0x00000000#32)

/-- One head's cotangent of the normalised rows. -/
def headDvn (w : FVec F S128x128 .f32) (d : FVec F S128x256 .f32) : FVec F S128x256 .f32 :=
  matmul dot_S128x128_S128x256_S128x256_0_0_1_1_n_n none (truncf .bf16 (wtri w) bitsLt_bf16_f32)
    (truncf .bf16 d bitsLt_bf16_f32) (constant S128x256 .f32 0x00000000#32)

/-- The cotangent of the normalised rows, all heads. -/
def dvnorm (w0 w1 w2 w3 : FVec F S128x128 .f32) (ds : FVec F S128x256 .f32) : FVec F S128x256 .f32 :=
  addf (addf (addf (headDvn w3 (onLanes 192#32 256#32 ds)) (headDvn w2 (onLanes 128#32 192#32 ds)))
    (headDvn w1 (onLanes 64#32 128#32 ds))) (headDvn w0 (onLanes 0#32 64#32 ds))

/-- The biases' gradient: head `h`'s in column `h` of a matrix of 128 columns. -/
def dbias (ds : FVec F S128x256 .f32) : FVec F S128x128 .f32 :=
  addf (addf (addf
    (concatenate S128x128 1 [⟨S128x4, concatenate S128x4 1 [⟨S128x3, kc _ 0x00000000#32⟩, ⟨S128x1, rowSum (onLanes 192#32 256#32 ds)⟩]
      concatenates_S128x3_S128x1_S128x4_d1⟩, ⟨S128x124, kc _ 0x00000000#32⟩] concatenates_S128x4_S128x124_S128x128_d1)
    (concatenate S128x128 1 [⟨S128x3, concatenate S128x3 1 [⟨S128x2, kc _ 0x00000000#32⟩, ⟨S128x1, rowSum (onLanes 128#32 192#32 ds)⟩]
      concatenates_S128x2_S128x1_S128x3_d1⟩, ⟨S128x125, kc _ 0x00000000#32⟩] concatenates_S128x3_S128x125_S128x128_d1))
    (concatenate S128x128 1 [⟨S128x2, concatenate S128x2 1 [⟨S128x1, kc _ 0x00000000#32⟩, ⟨S128x1, rowSum (onLanes 64#32 128#32 ds)⟩]
      concatenates_S128x1_S128x1_S128x2_d1⟩, ⟨S128x126, kc _ 0x00000000#32⟩] concatenates_S128x2_S128x126_S128x128_d1))
    (concatenate S128x128 1 [⟨S128x1, rowSum (onLanes 0#32 64#32 ds)⟩, ⟨S128x127, kc _ 0x00000000#32⟩] concatenates_S128x1_S128x127_S128x128_d1)

/-- The sum over a chunk's rows. -/
def lnSum (x : FVec F S128x256 .f32) : FVec F S1x256 .f32 :=
  shapeCast S1x256 (multiReduction .add [0] S256 x 0x00000000#32 reduces_S128x256_S256 (.inl rfl) rfl) shapeCasts_S256_S1x256

/-! ### The chunk -/

/-- The cotangent of `u · s`, before the gate's: `dy` times the gate. -/
def dgated (gt dy : FVec F S128x256 .f32) : FVec F S128x256 .f32 := mulf dy (mulf gt (logistic gt))

/-- The cotangent of the mixed rows. -/
def dmix (u gt dy : FVec F S128x256 .f32) : FVec F S128x256 .f32 := mulf (gelu u) (dgated gt dy)

/-- What a chunk is computed from: the three column groups of `z`, the cotangent, the norm's scale and shift, the four
    heads' matrices and the biases. -/
structure In (F : FTy → Type) where
  u : FVec F S128x256 .f32
  v : FVec F S128x256 .f32
  gt : FVec F S128x256 .f32
  dy : FVec F S128x256 .f32
  g : FVec F S1x256 .f32
  b : FVec F S1x256 .f32
  w0 : FVec F S128x128 .f32
  w1 : FVec F S128x128 .f32
  w2 : FVec F S128x128 .f32
  w3 : FVec F S128x128 .f32
  bt : FVec F S128x128 .f32

namespace In
variable (x : In F)

def vn : FVec F S128x256 .f32 := vnorm x.v x.g x.b
def s : FVec F S128x256 .f32 := mix x.w0 x.w1 x.w2 x.w3 x.vn x.bt
def ds : FVec F S128x256 .f32 := dmix x.u x.gt x.dy
def dvn : FVec F S128x256 .f32 := dvnorm x.w0 x.w1 x.w2 x.w3 x.ds

/-- The gradient of `u`. -/
def du : FVec F S128x256 .f32 := geluBwd x.u (mulf (dgated x.gt x.dy) x.s)
/-- The gradient of `v`. -/
def dv : FVec F S128x256 .f32 := geluBwd x.v (normBwd x.v (mulf x.dvn (rowB x.g)))
/-- The gradient of the gate. -/
def dgt : FVec F S128x256 .f32 :=
  let e := mulf (mulf (gelu x.u) x.s) x.dy
  addf (mulf e (logistic x.gt)) (mulf (mulf x.gt e) (mulf (logistic x.gt) (subf (kc _ 0x3F800000#32) (logistic x.gt))))

/-- The chunk's part of the gradient of the norm's scale, its shift and the biases. -/
def dg : FVec F S1x256 .f32 := lnSum (mulf (nrm x.v) x.dvn)
def db : FVec F S1x256 .f32 := lnSum x.dvn
def dbt : FVec F S128x128 .f32 := dbias x.ds

/-- The chunk's part of the gradient of the heads' matrices. -/
def dw0 : FVec F S128x128 .f32 := headDw (onLanes 0#32 64#32 x.ds) x.vn
def dw1 : FVec F S128x128 .f32 := headDw (onLanes 64#32 128#32 x.ds) x.vn
def dw2 : FVec F S128x128 .f32 := headDw (onLanes 128#32 192#32 x.ds) x.vn
def dw3 : FVec F S128x128 .f32 := headDw (onLanes 192#32 256#32 x.ds) x.vn

end In

end Cert.KernelIdeal.Sg

end
-- ==== Proof.Sg.Reads.lean ====
/-
  What one grid point reads and stores, chunk by chunk: eight chunks of 128 rows; the arrays a chunk is computed from,
  its three stores of the gradient of `z`, and the sums over the chunks that the point adds to its accumulators.
-/
module

public import proofs.«01_k».proof.Proof.Gen.KernelIdeal.Frame.Runs
public import proofs.«01_k».proof.Proof.Sg.Chunk

@[expose] public section

noncomputable section

namespace Cert.KernelIdeal.Sg

open Cert.KernelIdeal Cert.KernelIdeal.Gen Idealize.ShloMosaic Idealize.ShloMosaic.TcCoe Idealize.SL.Sem

variable {F : FTy → Type} [FloatOps F]

theorem inb_z {r c : ℕ} (hr : r + 128 ≤ 1024) (hc : c + 256 ≤ 768) (a : Fin 2) :
    (![r, c] : Fin 2 → ℕ) a + S128x256.size a ≤ S1024x768.size a := by
  fin_cases a
  · exact hr
  · exact hc

theorem inb_y {r : ℕ} (hr : r + 128 ≤ 1024) (a : Fin 2) :
    (![r, 0] : Fin 2 → ℕ) a + S128x256.size a ≤ S1024x256.size a := by
  fin_cases a
  · exact hr
  · exact Nat.le_refl _

/-- The rectangle of chunk `r / 128`'s rows and of the column group at `c`. -/
abbrev rz (r c : ℕ) (hr : r + 128 ≤ 1024) (hc : c + 256 ≤ 768) : Rect S1024x768 :=
  Rect.unit ![r, c] S128x256.size (inb_z hr hc)

/-- What the chunk at row `r` is computed from, read from the point's blocks. -/
def rdIn (arg1 : Memref sig .tc .vmem S1024x768 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S4x128x128 .f32) (harg4 : arg4.IsWhole)
    (arg5 : Memref sig .tc .vmem S128x128 .f32) (harg5 : arg5.IsWhole) (arg6 : Memref sig .tc .vmem S1024x256 .f32) (harg6 : arg6.IsWhole)
    (x0 : Vec F S1024x768 .f32) (x1 : Vec F S1x256 .f32) (x2 : Vec F S1x256 .f32) (x3 : Vec F S4x128x128 .f32) (x4 : Vec F S128x128 .f32) (x5 : Vec F S1024x256 .f32)
    (r : ℕ) (hr : r + 128 ≤ 1024) : In F where
  u := View.readAt (Elt F) arg1.view (rz r 0 hr (by decide)).toLoadRect (harg1.unread x0)
  v := View.readAt (Elt F) arg1.view (rz r 256 hr (by decide)).toLoadRect (harg1.unread x0)
  gt := View.readAt (Elt F) arg1.view (rz r 512 hr (by decide)).toLoadRect (harg1.unread x0)
  dy := View.readAt (Elt F) arg6.view (Rect.unit (s := S1024x256) ![r, 0] S128x256.size (inb_y hr)).toLoadRect (harg6.unread x5)
  g := shapeCast S1x256 (View.readAt (Elt F) arg2.view (Rect.unit ![0, 0] S1x256.size inb_S1x256_S1x256_0_0).toLoadRect (harg2.unread x1)) shapeCasts_S1x256_S1x256
  b := shapeCast S1x256 (View.readAt (Elt F) arg3.view (Rect.unit ![0, 0] S1x256.size inb_S1x256_S1x256_0_0).toLoadRect (harg3.unread x2)) shapeCasts_S1x256_S1x256
  w0 := shapeCast S128x128 (View.readAt (Elt F) arg4.view (Rect.unit (s := S4x128x128) ![0, 0, 0] S1x128x128.size inb_S4x128x128_S1x128x128_0_0_0).toLoadRect (harg4.unread x3)) shapeCasts_S1x128x128_S128x128
  w1 := shapeCast S128x128 (View.readAt (Elt F) arg4.view (Rect.unit (s := S4x128x128) ![1, 0, 0] S1x128x128.size inb_S4x128x128_S1x128x128_1_0_0).toLoadRect (harg4.unread x3)) shapeCasts_S1x128x128_S128x128
  w2 := shapeCast S128x128 (View.readAt (Elt F) arg4.view (Rect.unit (s := S4x128x128) ![2, 0, 0] S1x128x128.size inb_S4x128x128_S1x128x128_2_0_0).toLoadRect (harg4.unread x3)) shapeCasts_S1x128x128_S128x128
  w3 := shapeCast S128x128 (View.readAt (Elt F) arg4.view (Rect.unit (s := S4x128x128) ![3, 0, 0] S1x128x128.size inb_S4x128x128_S1x128x128_3_0_0).toLoadRect (harg4.unread x3)) shapeCasts_S1x128x128_S128x128
  bt := shapeCast S128x128 (View.readAt (Elt F) arg5.view (Rect.unit ![0, 0] S128x128.size inb_S128x128_S128x128_0_0).toLoadRect (harg5.unread x4)) shapeCasts_S128x128_S128x128

/-- A chunk's three stores, last first. -/
def dzAt (x : In F) (r : ℕ) (hr : r + 128 ≤ 1024) : List (View.Piece (Elt F) S1024x768 .bf16) :=
  [⟨rz r 512 hr (by decide), truncf .bf16 x.dgt bitsLt_bf16_f32⟩, ⟨rz r 256 hr (by decide), truncf .bf16 x.dv bitsLt_bf16_f32⟩,
   ⟨rz r 0 hr (by decide), truncf .bf16 x.du bitsLt_bf16_f32⟩]

/-- The sum of the eight chunks' arrays, first to last. -/
def sum8 {s : Shape} (f : (r : ℕ) → r + 128 ≤ 1024 → FVec F s .f32) : FVec F s .f32 :=
  addf (addf (addf (addf (addf (addf (addf (f 0 (by decide)) (f 128 (by decide))) (f 256 (by decide))) (f 384 (by decide)))
    (f 512 (by decide))) (f 640 (by decide))) (f 768 (by decide))) (f 896 (by decide))

/-- All 24 stores of the gradient of `z`, last first. -/
def dzList (f : (r : ℕ) → r + 128 ≤ 1024 → In F) : List (View.Piece (Elt F) S1024x768 .bf16) :=
  dzAt (f 896 (by decide)) 896 (by decide) ++ dzAt (f 768 (by decide)) 768 (by decide) ++
  dzAt (f 640 (by decide)) 640 (by decide) ++ dzAt (f 512 (by decide)) 512 (by decide) ++
  dzAt (f 384 (by decide)) 384 (by decide) ++ dzAt (f 256 (by decide)) 256 (by decide) ++
  dzAt (f 128 (by decide)) 128 (by decide) ++ dzAt (f 0 (by decide)) 0 (by decide)

/-- The whole-block stores of a row vector and of a matrix. -/
def rowPiece (x : FVec F S1x256 .f32) : View.Piece (Elt F) S1x256 .f32 := ⟨Rect.unit ![0, 0] S1x256.size inb_S1x256_S1x256_0_0, x⟩
def matPiece (x : FVec F S128x128 .f32) : View.Piece (Elt F) S128x128 .f32 := ⟨Rect.unit ![0, 0] S128x128.size inb_S128x128_S128x128_0_0, x⟩

/-- The four heads' stores, last first. -/
def dwList (x0 x1 x2 x3 : FVec F S128x128 .f32) : List (View.Piece (Elt F) S4x128x128 .f32) :=
  [⟨Rect.unit (s := S4x128x128) ![3, 0, 0] S1x128x128.size inb_S4x128x128_S1x128x128_3_0_0, shapeCast S1x128x128 x3 shapeCasts_S128x128_S1x128x128⟩,
   ⟨Rect.unit (s := S4x128x128) ![2, 0, 0] S1x128x128.size inb_S4x128x128_S1x128x128_2_0_0, shapeCast S1x128x128 x2 shapeCasts_S128x128_S1x128x128⟩,
   ⟨Rect.unit (s := S4x128x128) ![1, 0, 0] S1x128x128.size inb_S4x128x128_S1x128x128_1_0_0, shapeCast S1x128x128 x1 shapeCasts_S128x128_S1x128x128⟩,
   ⟨Rect.unit (s := S4x128x128) ![0, 0, 0] S1x128x128.size inb_S4x128x128_S1x128x128_0_0_0, shapeCast S1x128x128 x0 shapeCasts_S128x128_S1x128x128⟩]

end Cert.KernelIdeal.Sg

end
-- ==== Proof.Sg.StoreDzA.lean ====
/-
  The gradient of `z` that the first point stores.
-/
module

public import proofs.«01_k».proof.Proof.Gen.KernelIdeal.Frame.RunA
public import proofs.«01_k».proof.Proof.Sg.Reads

@[expose] public section

noncomputable section

namespace Cert.KernelIdeal.Sg

open Cert.KernelIdeal Cert.KernelIdeal.Gen Idealize.ShloMosaic Idealize.ShloMosaic.TcCoe Idealize.SL.Sem

variable {F : FTy → Type} [FloatOps F]

set_option maxHeartbeats 8000000 in
theorem dz_A (c : Dev nD) (i : grid0.Coords) (arg1 : Memref sig .tc .vmem S1024x768 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S4x128x128 .f32) (harg4 : arg4.IsWhole) (arg5 : Memref sig .tc .vmem S128x128 .f32) (harg5 : arg5.IsWhole) (arg6 : Memref sig .tc .vmem S1024x256 .f32) (harg6 : arg6.IsWhole) (arg7 : Memref sig .tc .vmem S1024x768 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S4x128x128 .f32) (harg10 : arg10.IsWhole) (arg11 : Memref sig .tc .vmem S128x128 .f32) (harg11 : arg11.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i) (hc8 : cond0_8 i) (hc9 : ¬cond0_9 i) (hc10 : cond0_10 i) (hc11 : ¬cond0_11 i) (hc12 : cond0_12 i) (hc13 : ¬cond0_13 i)
    (x0 : Vec F S1024x768 .f32) (x1 : Vec F S1x256 .f32) (x2 : Vec F S1x256 .f32) (x3 : Vec F S4x128x128 .f32) (x4 : Vec F S128x128 .f32) (x5 : Vec F S1024x256 .f32) :
    (kernelRun0_A (F := F) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 x0 x1 x2 x3 x4 x5).1 = dzList (rdIn arg1 harg1 arg2 harg2 arg3 harg3 arg4 harg4 arg5 harg5 arg6 harg6 x0 x1 x2 x3 x4 x5) := rfl

end Cert.KernelIdeal.Sg

end
-- ==== Proof.Sg.StoreDzB.lean ====
/-
  The gradient of `z` that a later point stores.
-/
module

public import proofs.«01_k».proof.Proof.Gen.KernelIdeal.Frame.RunB
public import proofs.«01_k».proof.Proof.Sg.Reads

@[expose] public section

noncomputable section

namespace Cert.KernelIdeal.Sg

open Cert.KernelIdeal Cert.KernelIdeal.Gen Idealize.ShloMosaic Idealize.ShloMosaic.TcCoe Idealize.SL.Sem

variable {F : FTy → Type} [FloatOps F]

set_option maxHeartbeats 8000000 in
theorem dz_B (c : Dev nD) (i : grid0.Coords) (arg1 : Memref sig .tc .vmem S1024x768 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S4x128x128 .f32) (harg4 : arg4.IsWhole) (arg5 : Memref sig .tc .vmem S128x128 .f32) (harg5 : arg5.IsWhole) (arg6 : Memref sig .tc .vmem S1024x256 .f32) (harg6 : arg6.IsWhole) (arg7 : Memref sig .tc .vmem S1024x768 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S4x128x128 .f32) (harg10 : arg10.IsWhole) (arg11 : Memref sig .tc .vmem S128x128 .f32) (harg11 : arg11.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (hc8 : ¬cond0_8 i) (hc9 : cond0_9 i) (hc10 : ¬cond0_10 i) (hc11 : cond0_11 i) (hc12 : ¬cond0_12 i) (hc13 : cond0_13 i)
    (x0 : Vec F S1024x768 .f32) (x1 : Vec F S1x256 .f32) (x2 : Vec F S1x256 .f32) (x3 : Vec F S4x128x128 .f32) (x4 : Vec F S128x128 .f32) (x5 : Vec F S1024x256 .f32) (xo7 : Vec F S1x256 .f32) (xo8 : Vec F S1x256 .f32) (xo9 : Vec F S4x128x128 .f32) (xo10 : Vec F S128x128 .f32) :
    (kernelRun0_B (F := F) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 x0 x1 x2 x3 x4 x5 xo7 xo8 xo9 xo10).1 = dzList (rdIn arg1 harg1 arg2 harg2 arg3 harg3 arg4 harg4 arg5 harg5 arg6 harg6 x0 x1 x2 x3 x4 x5) := rfl

end Cert.KernelIdeal.Sg

end
-- ==== Proof.Sg.StoreLnA.lean ====
/-
  What the first point stores into the accumulators of the norm's scale and shift.
-/
module

public import proofs.«01_k».proof.Proof.Gen.KernelIdeal.Frame.RunA
public import proofs.«01_k».proof.Proof.Sg.Reads

@[expose] public section

noncomputable section

namespace Cert.KernelIdeal.Sg

open Cert.KernelIdeal Cert.KernelIdeal.Gen Idealize.ShloMosaic Idealize.ShloMosaic.TcCoe Idealize.SL.Sem

variable {F : FTy → Type} [FloatOps F]

set_option maxHeartbeats 8000000 in
theorem dg_A (c : Dev nD) (i : grid0.Coords) (arg1 : Memref sig .tc .vmem S1024x768 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S4x128x128 .f32) (harg4 : arg4.IsWhole) (arg5 : Memref sig .tc .vmem S128x128 .f32) (harg5 : arg5.IsWhole) (arg6 : Memref sig .tc .vmem S1024x256 .f32) (harg6 : arg6.IsWhole) (arg7 : Memref sig .tc .vmem S1024x768 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S4x128x128 .f32) (harg10 : arg10.IsWhole) (arg11 : Memref sig .tc .vmem S128x128 .f32) (harg11 : arg11.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i) (hc8 : cond0_8 i) (hc9 : ¬cond0_9 i) (hc10 : cond0_10 i) (hc11 : ¬cond0_11 i) (hc12 : cond0_12 i) (hc13 : ¬cond0_13 i)
    (x0 : Vec F S1024x768 .f32) (x1 : Vec F S1x256 .f32) (x2 : Vec F S1x256 .f32) (x3 : Vec F S4x128x128 .f32) (x4 : Vec F S128x128 .f32) (x5 : Vec F S1024x256 .f32) :
    (kernelRun0_A (F := F) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 x0 x1 x2 x3 x4 x5).2.1 = [rowPiece (sum8 fun r hr => ((rdIn arg1 harg1 arg2 harg2 arg3 harg3 arg4 harg4 arg5 harg5 arg6 harg6 x0 x1 x2 x3 x4 x5) r hr).dg)] := rfl

set_option maxHeartbeats 8000000 in
theorem db_A (c : Dev nD) (i : grid0.Coords) (arg1 : Memref sig .tc .vmem S1024x768 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S4x128x128 .f32) (harg4 : arg4.IsWhole) (arg5 : Memref sig .tc .vmem S128x128 .f32) (harg5 : arg5.IsWhole) (arg6 : Memref sig .tc .vmem S1024x256 .f32) (harg6 : arg6.IsWhole) (arg7 : Memref sig .tc .vmem S1024x768 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S4x128x128 .f32) (harg10 : arg10.IsWhole) (arg11 : Memref sig .tc .vmem S128x128 .f32) (harg11 : arg11.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i) (hc8 : cond0_8 i) (hc9 : ¬cond0_9 i) (hc10 : cond0_10 i) (hc11 : ¬cond0_11 i) (hc12 : cond0_12 i) (hc13 : ¬cond0_13 i)
    (x0 : Vec F S1024x768 .f32) (x1 : Vec F S1x256 .f32) (x2 : Vec F S1x256 .f32) (x3 : Vec F S4x128x128 .f32) (x4 : Vec F S128x128 .f32) (x5 : Vec F S1024x256 .f32) :
    (kernelRun0_A (F := F) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 x0 x1 x2 x3 x4 x5).2.2.1 = [rowPiece (sum8 fun r hr => ((rdIn arg1 harg1 arg2 harg2 arg3 harg3 arg4 harg4 arg5 harg5 arg6 harg6 x0 x1 x2 x3 x4 x5) r hr).db)] := rfl

end Cert.KernelIdeal.Sg

end
-- ==== Proof.Sg.StoreLnB.lean ====
/-
  What a later point stores into the accumulators of the norm's scale and shift.
-/
module

public import proofs.«01_k».proof.Proof.Gen.KernelIdeal.Frame.RunB
public import proofs.«01_k».proof.Proof.Sg.Reads

@[expose] public section

noncomputable section

namespace Cert.KernelIdeal.Sg

open Cert.KernelIdeal Cert.KernelIdeal.Gen Idealize.ShloMosaic Idealize.ShloMosaic.TcCoe Idealize.SL.Sem

variable {F : FTy → Type} [FloatOps F]

set_option maxHeartbeats 8000000 in
theorem dg_B (c : Dev nD) (i : grid0.Coords) (arg1 : Memref sig .tc .vmem S1024x768 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S4x128x128 .f32) (harg4 : arg4.IsWhole) (arg5 : Memref sig .tc .vmem S128x128 .f32) (harg5 : arg5.IsWhole) (arg6 : Memref sig .tc .vmem S1024x256 .f32) (harg6 : arg6.IsWhole) (arg7 : Memref sig .tc .vmem S1024x768 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S4x128x128 .f32) (harg10 : arg10.IsWhole) (arg11 : Memref sig .tc .vmem S128x128 .f32) (harg11 : arg11.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (hc8 : ¬cond0_8 i) (hc9 : cond0_9 i) (hc10 : ¬cond0_10 i) (hc11 : cond0_11 i) (hc12 : ¬cond0_12 i) (hc13 : cond0_13 i)
    (x0 : Vec F S1024x768 .f32) (x1 : Vec F S1x256 .f32) (x2 : Vec F S1x256 .f32) (x3 : Vec F S4x128x128 .f32) (x4 : Vec F S128x128 .f32) (x5 : Vec F S1024x256 .f32) (xo7 : Vec F S1x256 .f32) (xo8 : Vec F S1x256 .f32) (xo9 : Vec F S4x128x128 .f32) (xo10 : Vec F S128x128 .f32) :
    (kernelRun0_B (F := F) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 x0 x1 x2 x3 x4 x5 xo7 xo8 xo9 xo10).2.1 = [rowPiece (addf (shapeCast S1x256 (View.readAt (Elt F) arg8.view (Rect.unit ![0, 0] S1x256.size inb_S1x256_S1x256_0_0).toLoadRect (harg8.unread xo7)) shapeCasts_S1x256_S1x256) (sum8 fun r hr => ((rdIn arg1 harg1 arg2 harg2 arg3 harg3 arg4 harg4 arg5 harg5 arg6 harg6 x0 x1 x2 x3 x4 x5) r hr).dg))] := rfl

set_option maxHeartbeats 8000000 in
theorem db_B (c : Dev nD) (i : grid0.Coords) (arg1 : Memref sig .tc .vmem S1024x768 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S4x128x128 .f32) (harg4 : arg4.IsWhole) (arg5 : Memref sig .tc .vmem S128x128 .f32) (harg5 : arg5.IsWhole) (arg6 : Memref sig .tc .vmem S1024x256 .f32) (harg6 : arg6.IsWhole) (arg7 : Memref sig .tc .vmem S1024x768 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S4x128x128 .f32) (harg10 : arg10.IsWhole) (arg11 : Memref sig .tc .vmem S128x128 .f32) (harg11 : arg11.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (hc8 : ¬cond0_8 i) (hc9 : cond0_9 i) (hc10 : ¬cond0_10 i) (hc11 : cond0_11 i) (hc12 : ¬cond0_12 i) (hc13 : cond0_13 i)
    (x0 : Vec F S1024x768 .f32) (x1 : Vec F S1x256 .f32) (x2 : Vec F S1x256 .f32) (x3 : Vec F S4x128x128 .f32) (x4 : Vec F S128x128 .f32) (x5 : Vec F S1024x256 .f32) (xo7 : Vec F S1x256 .f32) (xo8 : Vec F S1x256 .f32) (xo9 : Vec F S4x128x128 .f32) (xo10 : Vec F S128x128 .f32) :
    (kernelRun0_B (F := F) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 x0 x1 x2 x3 x4 x5 xo7 xo8 xo9 xo10).2.2.1 = [rowPiece (addf (shapeCast S1x256 (View.readAt (Elt F) arg9.view (Rect.unit ![0, 0] S1x256.size inb_S1x256_S1x256_0_0).toLoadRect (harg9.unread xo8)) shapeCasts_S1x256_S1x256) (sum8 fun r hr => ((rdIn arg1 harg1 arg2 harg2 arg3 harg3 arg4 harg4 arg5 harg5 arg6 harg6 x0 x1 x2 x3 x4 x5) r hr).db))] := rfl

end Cert.KernelIdeal.Sg

end
-- ==== Proof.Sg.StoreDwA.lean ====
/-
  What the first point stores into the accumulators of the heads' matrices.
-/
module

public import proofs.«01_k».proof.Proof.Gen.KernelIdeal.Frame.RunA
public import proofs.«01_k».proof.Proof.Sg.Reads

@[expose] public section

noncomputable section

namespace Cert.KernelIdeal.Sg

open Cert.KernelIdeal Cert.KernelIdeal.Gen Idealize.ShloMosaic Idealize.ShloMosaic.TcCoe Idealize.SL.Sem

variable {F : FTy → Type} [FloatOps F]

set_option maxHeartbeats 8000000 in
theorem dw_A (c : Dev nD) (i : grid0.Coords) (arg1 : Memref sig .tc .vmem S1024x768 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S4x128x128 .f32) (harg4 : arg4.IsWhole) (arg5 : Memref sig .tc .vmem S128x128 .f32) (harg5 : arg5.IsWhole) (arg6 : Memref sig .tc .vmem S1024x256 .f32) (harg6 : arg6.IsWhole) (arg7 : Memref sig .tc .vmem S1024x768 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S4x128x128 .f32) (harg10 : arg10.IsWhole) (arg11 : Memref sig .tc .vmem S128x128 .f32) (harg11 : arg11.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i) (hc8 : cond0_8 i) (hc9 : ¬cond0_9 i) (hc10 : cond0_10 i) (hc11 : ¬cond0_11 i) (hc12 : cond0_12 i) (hc13 : ¬cond0_13 i)
    (x0 : Vec F S1024x768 .f32) (x1 : Vec F S1x256 .f32) (x2 : Vec F S1x256 .f32) (x3 : Vec F S4x128x128 .f32) (x4 : Vec F S128x128 .f32) (x5 : Vec F S1024x256 .f32) :
    (kernelRun0_A (F := F) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 x0 x1 x2 x3 x4 x5).2.2.2.1 = dwList (sum8 fun r hr => ((rdIn arg1 harg1 arg2 harg2 arg3 harg3 arg4 harg4 arg5 harg5 arg6 harg6 x0 x1 x2 x3 x4 x5) r hr).dw0)
      (sum8 fun r hr => ((rdIn arg1 harg1 arg2 harg2 arg3 harg3 arg4 harg4 arg5 harg5 arg6 harg6 x0 x1 x2 x3 x4 x5) r hr).dw1)
      (sum8 fun r hr => ((rdIn arg1 harg1 arg2 harg2 arg3 harg3 arg4 harg4 arg5 harg5 arg6 harg6 x0 x1 x2 x3 x4 x5) r hr).dw2)
      (sum8 fun r hr => ((rdIn arg1 harg1 arg2 harg2 arg3 harg3 arg4 harg4 arg5 harg5 arg6 harg6 x0 x1 x2 x3 x4 x5) r hr).dw3) := rfl

end Cert.KernelIdeal.Sg

end
-- ==== Proof.Sg.StoreDwB.lean ====
/-
  What a later point stores into the accumulators of the heads' matrices.
-/
module

public import proofs.«01_k».proof.Proof.Gen.KernelIdeal.Frame.RunB
public import proofs.«01_k».proof.Proof.Sg.Reads

@[expose] public section

noncomputable section

namespace Cert.KernelIdeal.Sg

open Cert.KernelIdeal Cert.KernelIdeal.Gen Idealize.ShloMosaic Idealize.ShloMosaic.TcCoe Idealize.SL.Sem

variable {F : FTy → Type} [FloatOps F]

set_option maxHeartbeats 8000000 in
theorem dw_B (c : Dev nD) (i : grid0.Coords) (arg1 : Memref sig .tc .vmem S1024x768 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S4x128x128 .f32) (harg4 : arg4.IsWhole) (arg5 : Memref sig .tc .vmem S128x128 .f32) (harg5 : arg5.IsWhole) (arg6 : Memref sig .tc .vmem S1024x256 .f32) (harg6 : arg6.IsWhole) (arg7 : Memref sig .tc .vmem S1024x768 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S4x128x128 .f32) (harg10 : arg10.IsWhole) (arg11 : Memref sig .tc .vmem S128x128 .f32) (harg11 : arg11.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (hc8 : ¬cond0_8 i) (hc9 : cond0_9 i) (hc10 : ¬cond0_10 i) (hc11 : cond0_11 i) (hc12 : ¬cond0_12 i) (hc13 : cond0_13 i)
    (x0 : Vec F S1024x768 .f32) (x1 : Vec F S1x256 .f32) (x2 : Vec F S1x256 .f32) (x3 : Vec F S4x128x128 .f32) (x4 : Vec F S128x128 .f32) (x5 : Vec F S1024x256 .f32) (xo7 : Vec F S1x256 .f32) (xo8 : Vec F S1x256 .f32) (xo9 : Vec F S4x128x128 .f32) (xo10 : Vec F S128x128 .f32) :
    (kernelRun0_B (F := F) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 x0 x1 x2 x3 x4 x5 xo7 xo8 xo9 xo10).2.2.2.1 = dwList (addf (shapeCast S128x128 (View.readAt (Elt F) arg10.view (Rect.unit (s := S4x128x128) ![0, 0, 0] S1x128x128.size inb_S4x128x128_S1x128x128_0_0_0).toLoadRect (harg10.unread xo9)) shapeCasts_S1x128x128_S128x128) (sum8 fun r hr => ((rdIn arg1 harg1 arg2 harg2 arg3 harg3 arg4 harg4 arg5 harg5 arg6 harg6 x0 x1 x2 x3 x4 x5) r hr).dw0))
      (addf (shapeCast S128x128 (View.readAt (Elt F) arg10.view (Rect.unit (s := S4x128x128) ![1, 0, 0] S1x128x128.size inb_S4x128x128_S1x128x128_1_0_0).toLoadRect (harg10.unread xo9)) shapeCasts_S1x128x128_S128x128) (sum8 fun r hr => ((rdIn arg1 harg1 arg2 harg2 arg3 harg3 arg4 harg4 arg5 harg5 arg6 harg6 x0 x1 x2 x3 x4 x5) r hr).dw1))
      (addf (shapeCast S128x128 (View.readAt (Elt F) arg10.view (Rect.unit (s := S4x128x128) ![2, 0, 0] S1x128x128.size inb_S4x128x128_S1x128x128_2_0_0).toLoadRect (harg10.unread xo9)) shapeCasts_S1x128x128_S128x128) (sum8 fun r hr => ((rdIn arg1 harg1 arg2 harg2 arg3 harg3 arg4 harg4 arg5 harg5 arg6 harg6 x0 x1 x2 x3 x4 x5) r hr).dw2))
      (addf (shapeCast S128x128 (View.readAt (Elt F) arg10.view (Rect.unit (s := S4x128x128) ![3, 0, 0] S1x128x128.size inb_S4x128x128_S1x128x128_3_0_0).toLoadRect (harg10.unread xo9)) shapeCasts_S1x128x128_S128x128) (sum8 fun r hr => ((rdIn arg1 harg1 arg2 harg2 arg3 harg3 arg4 harg4 arg5 harg5 arg6 harg6 x0 x1 x2 x3 x4 x5) r hr).dw3)) := rfl

end Cert.KernelIdeal.Sg

end
-- ==== Proof.Sg.StoreBtA.lean ====
/-
  What the first point stores into the accumulator of the biases.
-/
module

public import proofs.«01_k».proof.Proof.Gen.KernelIdeal.Frame.RunA
public import proofs.«01_k».proof.Proof.Sg.Reads

@[expose] public section

noncomputable section

namespace Cert.KernelIdeal.Sg

open Cert.KernelIdeal Cert.KernelIdeal.Gen Idealize.ShloMosaic Idealize.ShloMosaic.TcCoe Idealize.SL.Sem

variable {F : FTy → Type} [FloatOps F]

set_option maxHeartbeats 8000000 in
theorem dbt_A (c : Dev nD) (i : grid0.Coords) (arg1 : Memref sig .tc .vmem S1024x768 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S4x128x128 .f32) (harg4 : arg4.IsWhole) (arg5 : Memref sig .tc .vmem S128x128 .f32) (harg5 : arg5.IsWhole) (arg6 : Memref sig .tc .vmem S1024x256 .f32) (harg6 : arg6.IsWhole) (arg7 : Memref sig .tc .vmem S1024x768 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S4x128x128 .f32) (harg10 : arg10.IsWhole) (arg11 : Memref sig .tc .vmem S128x128 .f32) (harg11 : arg11.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i) (hc8 : cond0_8 i) (hc9 : ¬cond0_9 i) (hc10 : cond0_10 i) (hc11 : ¬cond0_11 i) (hc12 : cond0_12 i) (hc13 : ¬cond0_13 i)
    (x0 : Vec F S1024x768 .f32) (x1 : Vec F S1x256 .f32) (x2 : Vec F S1x256 .f32) (x3 : Vec F S4x128x128 .f32) (x4 : Vec F S128x128 .f32) (x5 : Vec F S1024x256 .f32) :
    (kernelRun0_A (F := F) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 x0 x1 x2 x3 x4 x5).2.2.2.2.1 = [matPiece (sum8 fun r hr => ((rdIn arg1 harg1 arg2 harg2 arg3 harg3 arg4 harg4 arg5 harg5 arg6 harg6 x0 x1 x2 x3 x4 x5) r hr).dbt)] := rfl

end Cert.KernelIdeal.Sg

end
-- ==== Proof.Sg.StoreBtB.lean ====
/-
  What a later point stores into the accumulator of the biases.
-/
module

public import proofs.«01_k».proof.Proof.Gen.KernelIdeal.Frame.RunB
public import proofs.«01_k».proof.Proof.Sg.Reads

@[expose] public section

noncomputable section

namespace Cert.KernelIdeal.Sg

open Cert.KernelIdeal Cert.KernelIdeal.Gen Idealize.ShloMosaic Idealize.ShloMosaic.TcCoe Idealize.SL.Sem

variable {F : FTy → Type} [FloatOps F]

set_option maxHeartbeats 8000000 in
theorem dbt_B (c : Dev nD) (i : grid0.Coords) (arg1 : Memref sig .tc .vmem S1024x768 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S4x128x128 .f32) (harg4 : arg4.IsWhole) (arg5 : Memref sig .tc .vmem S128x128 .f32) (harg5 : arg5.IsWhole) (arg6 : Memref sig .tc .vmem S1024x256 .f32) (harg6 : arg6.IsWhole) (arg7 : Memref sig .tc .vmem S1024x768 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S4x128x128 .f32) (harg10 : arg10.IsWhole) (arg11 : Memref sig .tc .vmem S128x128 .f32) (harg11 : arg11.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (hc8 : ¬cond0_8 i) (hc9 : cond0_9 i) (hc10 : ¬cond0_10 i) (hc11 : cond0_11 i) (hc12 : ¬cond0_12 i) (hc13 : cond0_13 i)
    (x0 : Vec F S1024x768 .f32) (x1 : Vec F S1x256 .f32) (x2 : Vec F S1x256 .f32) (x3 : Vec F S4x128x128 .f32) (x4 : Vec F S128x128 .f32) (x5 : Vec F S1024x256 .f32) (xo7 : Vec F S1x256 .f32) (xo8 : Vec F S1x256 .f32) (xo9 : Vec F S4x128x128 .f32) (xo10 : Vec F S128x128 .f32) :
    (kernelRun0_B (F := F) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 x0 x1 x2 x3 x4 x5 xo7 xo8 xo9 xo10).2.2.2.2.1 = [matPiece (addf (shapeCast S128x128 (View.readAt (Elt F) arg11.view (Rect.unit ![0, 0] S128x128.size inb_S128x128_S128x128_0_0).toLoadRect (harg11.unread xo10)) shapeCasts_S128x128_S128x128) (sum8 fun r hr => ((rdIn arg1 harg1 arg2 harg2 arg3 harg3 arg4 harg4 arg5 harg5 arg6 harg6 x0 x1 x2 x3 x4 x5) r hr).dbt))] := rfl

end Cert.KernelIdeal.Sg

end
-- ==== Proof.Sg.Point.lean ====
/-
  What one grid point leaves in each output's block, from the blocks it reads: the stored pieces of either case, read
  back. The accumulators' blocks are the sum over the point's eight chunks, at a later point added to what they held.
-/
module

public import proofs.«01_k».proof.Proof.Gen.KernelIdeal.Frame
public import proofs.«01_k».proof.Proof.Sg.StoreDzA
public import proofs.«01_k».proof.Proof.Sg.StoreDzB
public import proofs.«01_k».proof.Proof.Sg.StoreLnA
public import proofs.«01_k».proof.Proof.Sg.StoreLnB
public import proofs.«01_k».proof.Proof.Sg.StoreDwA
public import proofs.«01_k».proof.Proof.Sg.StoreDwB
public import proofs.«01_k».proof.Proof.Sg.StoreBtA
public import proofs.«01_k».proof.Proof.Sg.StoreBtB
public import Idealize.ShloMosaic.Lib.Pipeline.Value
public import Idealize.ShloMosaic.Lib.Tactic
public import Idealize.ShloMosaic.Lib.Pointwise

@[expose] public section

set_option maxHeartbeats 1000000

noncomputable section

namespace Cert.KernelIdeal.Sg

open Cert.KernelIdeal Cert.KernelIdeal.Gen Idealize.ShloMosaic Idealize.ShloMosaic.TcCoe Idealize.SL.Sem

variable {F : FTy → Type} [FloatOps F]

theorem off2 : (![0, 0] : Fin 2 → Nat) = fun _ => 0 := funext fun a => by fin_cases a <;> rfl

/-- What the chunk at row `r` of a point is computed from, from the point's blocks. -/
def blockIn (x0 : Vec F S1024x768 .f32) (x1 : Vec F S1x256 .f32) (x2 : Vec F S1x256 .f32) (x3 : Vec F S4x128x128 .f32)
    (x4 : Vec F S128x128 .f32) (x5 : Vec F S1024x256 .f32) (r : ℕ) (hr : r + 128 ≤ 1024) : In F where
  u := View.ld x0 (rz r 0 hr (by decide))
  v := View.ld x0 (rz r 256 hr (by decide))
  gt := View.ld x0 (rz r 512 hr (by decide))
  dy := View.ld x5 (Rect.unit (s := S1024x256) ![r, 0] S128x256.size (inb_y hr))
  g := x1
  b := x2
  w0 := shapeCast S128x128 (View.ld x3 (Rect.unit (s := S4x128x128) ![0, 0, 0] S1x128x128.size inb_S4x128x128_S1x128x128_0_0_0)) shapeCasts_S1x128x128_S128x128
  w1 := shapeCast S128x128 (View.ld x3 (Rect.unit (s := S4x128x128) ![1, 0, 0] S1x128x128.size inb_S4x128x128_S1x128x128_1_0_0)) shapeCasts_S1x128x128_S128x128
  w2 := shapeCast S128x128 (View.ld x3 (Rect.unit (s := S4x128x128) ![2, 0, 0] S1x128x128.size inb_S4x128x128_S1x128x128_2_0_0)) shapeCasts_S1x128x128_S128x128
  w3 := shapeCast S128x128 (View.ld x3 (Rect.unit (s := S4x128x128) ![3, 0, 0] S1x128x128.size inb_S4x128x128_S1x128x128_3_0_0)) shapeCasts_S1x128x128_S128x128
  bt := x4

theorem rdIn_eq (arg1 : Memref sig .tc .vmem S1024x768 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S4x128x128 .f32) (harg4 : arg4.IsWhole)
    (arg5 : Memref sig .tc .vmem S128x128 .f32) (harg5 : arg5.IsWhole) (arg6 : Memref sig .tc .vmem S1024x256 .f32) (harg6 : arg6.IsWhole)
    (x0 : Vec F S1024x768 .f32) (x1 : Vec F S1x256 .f32) (x2 : Vec F S1x256 .f32) (x3 : Vec F S4x128x128 .f32) (x4 : Vec F S128x128 .f32) (x5 : Vec F S1024x256 .f32) :
    rdIn arg1 harg1 arg2 harg2 arg3 harg3 arg4 harg4 arg5 harg5 arg6 harg6 x0 x1 x2 x3 x4 x5 = blockIn x0 x1 x2 x3 x4 x5 := by
  funext r hr
  unfold rdIn blockIn
  simp only [View.readAt_eq_ld, harg1.read_unread, harg2.read_unread, harg3.read_unread, harg4.read_unread, harg5.read_unread,
    harg6.read_unread, View.ld_unit_zero (S := S1x256) off2, View.ld_unit_zero (S := S128x128) off2]
  congr 1 <;> exact shapeCast_id _ _

/-- A load of head `h`'s matrix. -/
abbrev ldHead (x : Vec F S4x128x128 .f32) (h : ℕ) (inb : ∀ a, (![h, 0, 0] : Fin 3 → Nat) a + S1x128x128.size a ≤ S4x128x128.size a) : FVec F S128x128 .f32 :=
  shapeCast S128x128 (View.ld x (Rect.unit (s := S4x128x128) ![h, 0, 0] S1x128x128.size inb)) shapeCasts_S1x128x128_S128x128

/-! ### The first point -/

theorem out_dz_A (c : Dev nD) (i : grid0.Coords) (arg1 : Memref sig .tc .vmem S1024x768 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S4x128x128 .f32) (harg4 : arg4.IsWhole) (arg5 : Memref sig .tc .vmem S128x128 .f32) (harg5 : arg5.IsWhole) (arg6 : Memref sig .tc .vmem S1024x256 .f32) (harg6 : arg6.IsWhole) (arg7 : Memref sig .tc .vmem S1024x768 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S4x128x128 .f32) (harg10 : arg10.IsWhole) (arg11 : Memref sig .tc .vmem S128x128 .f32) (harg11 : arg11.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i) (hc8 : cond0_8 i) (hc9 : ¬cond0_9 i) (hc10 : cond0_10 i) (hc11 : ¬cond0_11 i) (hc12 : cond0_12 i) (hc13 : ¬cond0_13 i)
    (x0 : Vec F S1024x768 .f32) (x1 : Vec F S1x256 .f32) (x2 : Vec F S1x256 .f32) (x3 : Vec F S4x128x128 .f32) (x4 : Vec F S128x128 .f32) (x5 : Vec F S1024x256 .f32) :
    out0_A_6 (F := F) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 x0 x1 x2 x3 x4 x5 = View.canon (dzList (blockIn x0 x1 x2 x3 x4 x5)) := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 x0 x1 x2 x3 x4 x5), dz_A, rdIn_eq]

theorem cover_dz_A (c : Dev nD) (i : grid0.Coords) (arg1 : Memref sig .tc .vmem S1024x768 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S4x128x128 .f32) (harg4 : arg4.IsWhole) (arg5 : Memref sig .tc .vmem S128x128 .f32) (harg5 : arg5.IsWhole) (arg6 : Memref sig .tc .vmem S1024x256 .f32) (harg6 : arg6.IsWhole) (arg7 : Memref sig .tc .vmem S1024x768 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S4x128x128 .f32) (harg10 : arg10.IsWhole) (arg11 : Memref sig .tc .vmem S128x128 .f32) (harg11 : arg11.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i) (hc8 : cond0_8 i) (hc9 : ¬cond0_9 i) (hc10 : cond0_10 i) (hc11 : ¬cond0_11 i) (hc12 : cond0_12 i) (hc13 : ¬cond0_13 i)
    (x0 : Vec F S1024x768 .f32) (x1 : Vec F S1x256 .f32) (x2 : Vec F S1x256 .f32) (x3 : Vec F S4x128x128 .f32) (x4 : Vec F S128x128 .f32) (x5 : Vec F S1024x256 .f32) (y : S1024x768.Idx) :
    ∃ pc ∈ dzList (F := F) (blockIn x0 x1 x2 x3 x4 x5), y ∈ pc.1.set := by
  have h := cover0_A_6 (F := F) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 x0 x1 x2 x3 x4 x5 y
  rwa [dz_A, rdIn_eq] at h

theorem out_dg_A (c : Dev nD) (i : grid0.Coords) (arg1 : Memref sig .tc .vmem S1024x768 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S4x128x128 .f32) (harg4 : arg4.IsWhole) (arg5 : Memref sig .tc .vmem S128x128 .f32) (harg5 : arg5.IsWhole) (arg6 : Memref sig .tc .vmem S1024x256 .f32) (harg6 : arg6.IsWhole) (arg7 : Memref sig .tc .vmem S1024x768 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S4x128x128 .f32) (harg10 : arg10.IsWhole) (arg11 : Memref sig .tc .vmem S128x128 .f32) (harg11 : arg11.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i) (hc8 : cond0_8 i) (hc9 : ¬cond0_9 i) (hc10 : cond0_10 i) (hc11 : ¬cond0_11 i) (hc12 : cond0_12 i) (hc13 : ¬cond0_13 i)
    (x0 : Vec F S1024x768 .f32) (x1 : Vec F S1x256 .f32) (x2 : Vec F S1x256 .f32) (x3 : Vec F S4x128x128 .f32) (x4 : Vec F S128x128 .f32) (x5 : Vec F S1024x256 .f32) :
    out0_A_7 (F := F) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 x0 x1 x2 x3 x4 x5 = (sum8 fun r hr => ((blockIn x0 x1 x2 x3 x4 x5) r hr).dg) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 x0 x1 x2 x3 x4 x5), dg_A, rdIn_eq]
  unfold rowPiece
  rw [View.canon_unit_zero off2]

theorem out_db_A (c : Dev nD) (i : grid0.Coords) (arg1 : Memref sig .tc .vmem S1024x768 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S4x128x128 .f32) (harg4 : arg4.IsWhole) (arg5 : Memref sig .tc .vmem S128x128 .f32) (harg5 : arg5.IsWhole) (arg6 : Memref sig .tc .vmem S1024x256 .f32) (harg6 : arg6.IsWhole) (arg7 : Memref sig .tc .vmem S1024x768 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S4x128x128 .f32) (harg10 : arg10.IsWhole) (arg11 : Memref sig .tc .vmem S128x128 .f32) (harg11 : arg11.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i) (hc8 : cond0_8 i) (hc9 : ¬cond0_9 i) (hc10 : cond0_10 i) (hc11 : ¬cond0_11 i) (hc12 : cond0_12 i) (hc13 : ¬cond0_13 i)
    (x0 : Vec F S1024x768 .f32) (x1 : Vec F S1x256 .f32) (x2 : Vec F S1x256 .f32) (x3 : Vec F S4x128x128 .f32) (x4 : Vec F S128x128 .f32) (x5 : Vec F S1024x256 .f32) :
    out0_A_8 (F := F) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 x0 x1 x2 x3 x4 x5 = (sum8 fun r hr => ((blockIn x0 x1 x2 x3 x4 x5) r hr).db) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 x0 x1 x2 x3 x4 x5), db_A, rdIn_eq]
  unfold rowPiece
  rw [View.canon_unit_zero off2]

theorem out_dw_A (c : Dev nD) (i : grid0.Coords) (arg1 : Memref sig .tc .vmem S1024x768 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S4x128x128 .f32) (harg4 : arg4.IsWhole) (arg5 : Memref sig .tc .vmem S128x128 .f32) (harg5 : arg5.IsWhole) (arg6 : Memref sig .tc .vmem S1024x256 .f32) (harg6 : arg6.IsWhole) (arg7 : Memref sig .tc .vmem S1024x768 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S4x128x128 .f32) (harg10 : arg10.IsWhole) (arg11 : Memref sig .tc .vmem S128x128 .f32) (harg11 : arg11.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i) (hc8 : cond0_8 i) (hc9 : ¬cond0_9 i) (hc10 : cond0_10 i) (hc11 : ¬cond0_11 i) (hc12 : cond0_12 i) (hc13 : ¬cond0_13 i)
    (x0 : Vec F S1024x768 .f32) (x1 : Vec F S1x256 .f32) (x2 : Vec F S1x256 .f32) (x3 : Vec F S4x128x128 .f32) (x4 : Vec F S128x128 .f32) (x5 : Vec F S1024x256 .f32) :
    out0_A_9 (F := F) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 x0 x1 x2 x3 x4 x5 = View.canon (dwList
      (sum8 fun r hr => ((blockIn x0 x1 x2 x3 x4 x5) r hr).dw0)
      (sum8 fun r hr => ((blockIn x0 x1 x2 x3 x4 x5) r hr).dw1)
      (sum8 fun r hr => ((blockIn x0 x1 x2 x3 x4 x5) r hr).dw2)
      (sum8 fun r hr => ((blockIn x0 x1 x2 x3 x4 x5) r hr).dw3)
) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 x0 x1 x2 x3 x4 x5), dw_A, rdIn_eq]

theorem out_dbt_A (c : Dev nD) (i : grid0.Coords) (arg1 : Memref sig .tc .vmem S1024x768 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S4x128x128 .f32) (harg4 : arg4.IsWhole) (arg5 : Memref sig .tc .vmem S128x128 .f32) (harg5 : arg5.IsWhole) (arg6 : Memref sig .tc .vmem S1024x256 .f32) (harg6 : arg6.IsWhole) (arg7 : Memref sig .tc .vmem S1024x768 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S4x128x128 .f32) (harg10 : arg10.IsWhole) (arg11 : Memref sig .tc .vmem S128x128 .f32) (harg11 : arg11.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i) (hc8 : cond0_8 i) (hc9 : ¬cond0_9 i) (hc10 : cond0_10 i) (hc11 : ¬cond0_11 i) (hc12 : cond0_12 i) (hc13 : ¬cond0_13 i)
    (x0 : Vec F S1024x768 .f32) (x1 : Vec F S1x256 .f32) (x2 : Vec F S1x256 .f32) (x3 : Vec F S4x128x128 .f32) (x4 : Vec F S128x128 .f32) (x5 : Vec F S1024x256 .f32) :
    out0_A_10 (F := F) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 x0 x1 x2 x3 x4 x5 = (sum8 fun r hr => ((blockIn x0 x1 x2 x3 x4 x5) r hr).dbt) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 x0 x1 x2 x3 x4 x5), dbt_A, rdIn_eq]
  unfold matPiece
  rw [View.canon_unit_zero off2]

/-! ### A later point -/

theorem out_dz_B (c : Dev nD) (i : grid0.Coords) (arg1 : Memref sig .tc .vmem S1024x768 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S4x128x128 .f32) (harg4 : arg4.IsWhole) (arg5 : Memref sig .tc .vmem S128x128 .f32) (harg5 : arg5.IsWhole) (arg6 : Memref sig .tc .vmem S1024x256 .f32) (harg6 : arg6.IsWhole) (arg7 : Memref sig .tc .vmem S1024x768 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S4x128x128 .f32) (harg10 : arg10.IsWhole) (arg11 : Memref sig .tc .vmem S128x128 .f32) (harg11 : arg11.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (hc8 : ¬cond0_8 i) (hc9 : cond0_9 i) (hc10 : ¬cond0_10 i) (hc11 : cond0_11 i) (hc12 : ¬cond0_12 i) (hc13 : cond0_13 i)
    (x0 : Vec F S1024x768 .f32) (x1 : Vec F S1x256 .f32) (x2 : Vec F S1x256 .f32) (x3 : Vec F S4x128x128 .f32) (x4 : Vec F S128x128 .f32) (x5 : Vec F S1024x256 .f32) (xo7 : Vec F S1x256 .f32) (xo8 : Vec F S1x256 .f32) (xo9 : Vec F S4x128x128 .f32) (xo10 : Vec F S128x128 .f32) :
    out0_B_6 (F := F) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 x0 x1 x2 x3 x4 x5 xo7 xo8 xo9 xo10 = View.canon (dzList (blockIn x0 x1 x2 x3 x4 x5)) := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 x0 x1 x2 x3 x4 x5 xo7 xo8 xo9 xo10), dz_B, rdIn_eq]

theorem cover_dz_B (c : Dev nD) (i : grid0.Coords) (arg1 : Memref sig .tc .vmem S1024x768 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S4x128x128 .f32) (harg4 : arg4.IsWhole) (arg5 : Memref sig .tc .vmem S128x128 .f32) (harg5 : arg5.IsWhole) (arg6 : Memref sig .tc .vmem S1024x256 .f32) (harg6 : arg6.IsWhole) (arg7 : Memref sig .tc .vmem S1024x768 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S4x128x128 .f32) (harg10 : arg10.IsWhole) (arg11 : Memref sig .tc .vmem S128x128 .f32) (harg11 : arg11.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (hc8 : ¬cond0_8 i) (hc9 : cond0_9 i) (hc10 : ¬cond0_10 i) (hc11 : cond0_11 i) (hc12 : ¬cond0_12 i) (hc13 : cond0_13 i)
    (x0 : Vec F S1024x768 .f32) (x1 : Vec F S1x256 .f32) (x2 : Vec F S1x256 .f32) (x3 : Vec F S4x128x128 .f32) (x4 : Vec F S128x128 .f32) (x5 : Vec F S1024x256 .f32) (xo7 : Vec F S1x256 .f32) (xo8 : Vec F S1x256 .f32) (xo9 : Vec F S4x128x128 .f32) (xo10 : Vec F S128x128 .f32) (y : S1024x768.Idx) :
    ∃ pc ∈ dzList (F := F) (blockIn x0 x1 x2 x3 x4 x5), y ∈ pc.1.set := by
  have h := cover0_B_6 (F := F) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 x0 x1 x2 x3 x4 x5 xo7 xo8 xo9 xo10 y
  rwa [dz_B, rdIn_eq] at h

theorem out_dg_B (c : Dev nD) (i : grid0.Coords) (arg1 : Memref sig .tc .vmem S1024x768 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S4x128x128 .f32) (harg4 : arg4.IsWhole) (arg5 : Memref sig .tc .vmem S128x128 .f32) (harg5 : arg5.IsWhole) (arg6 : Memref sig .tc .vmem S1024x256 .f32) (harg6 : arg6.IsWhole) (arg7 : Memref sig .tc .vmem S1024x768 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S4x128x128 .f32) (harg10 : arg10.IsWhole) (arg11 : Memref sig .tc .vmem S128x128 .f32) (harg11 : arg11.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (hc8 : ¬cond0_8 i) (hc9 : cond0_9 i) (hc10 : ¬cond0_10 i) (hc11 : cond0_11 i) (hc12 : ¬cond0_12 i) (hc13 : cond0_13 i)
    (x0 : Vec F S1024x768 .f32) (x1 : Vec F S1x256 .f32) (x2 : Vec F S1x256 .f32) (x3 : Vec F S4x128x128 .f32) (x4 : Vec F S128x128 .f32) (x5 : Vec F S1024x256 .f32) (xo7 : Vec F S1x256 .f32) (xo8 : Vec F S1x256 .f32) (xo9 : Vec F S4x128x128 .f32) (xo10 : Vec F S128x128 .f32) :
    out0_B_7 (F := F) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 x0 x1 x2 x3 x4 x5 xo7 xo8 xo9 xo10 = addf xo7 (sum8 fun r hr => ((blockIn x0 x1 x2 x3 x4 x5) r hr).dg) := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 x0 x1 x2 x3 x4 x5 xo7 xo8 xo9 xo10), dg_B, rdIn_eq]
  unfold rowPiece
  rw [View.canon_unit_zero off2]
  simp only [View.readAt_eq_ld, harg8.read_unread, View.ld_unit_zero (S := S1x256) off2]
  congr 1 <;> exact shapeCast_id _ _

theorem out_db_B (c : Dev nD) (i : grid0.Coords) (arg1 : Memref sig .tc .vmem S1024x768 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S4x128x128 .f32) (harg4 : arg4.IsWhole) (arg5 : Memref sig .tc .vmem S128x128 .f32) (harg5 : arg5.IsWhole) (arg6 : Memref sig .tc .vmem S1024x256 .f32) (harg6 : arg6.IsWhole) (arg7 : Memref sig .tc .vmem S1024x768 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S4x128x128 .f32) (harg10 : arg10.IsWhole) (arg11 : Memref sig .tc .vmem S128x128 .f32) (harg11 : arg11.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (hc8 : ¬cond0_8 i) (hc9 : cond0_9 i) (hc10 : ¬cond0_10 i) (hc11 : cond0_11 i) (hc12 : ¬cond0_12 i) (hc13 : cond0_13 i)
    (x0 : Vec F S1024x768 .f32) (x1 : Vec F S1x256 .f32) (x2 : Vec F S1x256 .f32) (x3 : Vec F S4x128x128 .f32) (x4 : Vec F S128x128 .f32) (x5 : Vec F S1024x256 .f32) (xo7 : Vec F S1x256 .f32) (xo8 : Vec F S1x256 .f32) (xo9 : Vec F S4x128x128 .f32) (xo10 : Vec F S128x128 .f32) :
    out0_B_8 (F := F) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 x0 x1 x2 x3 x4 x5 xo7 xo8 xo9 xo10 = addf xo8 (sum8 fun r hr => ((blockIn x0 x1 x2 x3 x4 x5) r hr).db) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 x0 x1 x2 x3 x4 x5 xo7 xo8 xo9 xo10), db_B, rdIn_eq]
  unfold rowPiece
  rw [View.canon_unit_zero off2]
  simp only [View.readAt_eq_ld, harg9.read_unread, View.ld_unit_zero (S := S1x256) off2]
  congr 1 <;> exact shapeCast_id _ _

theorem out_dw_B (c : Dev nD) (i : grid0.Coords) (arg1 : Memref sig .tc .vmem S1024x768 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S4x128x128 .f32) (harg4 : arg4.IsWhole) (arg5 : Memref sig .tc .vmem S128x128 .f32) (harg5 : arg5.IsWhole) (arg6 : Memref sig .tc .vmem S1024x256 .f32) (harg6 : arg6.IsWhole) (arg7 : Memref sig .tc .vmem S1024x768 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S4x128x128 .f32) (harg10 : arg10.IsWhole) (arg11 : Memref sig .tc .vmem S128x128 .f32) (harg11 : arg11.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (hc8 : ¬cond0_8 i) (hc9 : cond0_9 i) (hc10 : ¬cond0_10 i) (hc11 : cond0_11 i) (hc12 : ¬cond0_12 i) (hc13 : cond0_13 i)
    (x0 : Vec F S1024x768 .f32) (x1 : Vec F S1x256 .f32) (x2 : Vec F S1x256 .f32) (x3 : Vec F S4x128x128 .f32) (x4 : Vec F S128x128 .f32) (x5 : Vec F S1024x256 .f32) (xo7 : Vec F S1x256 .f32) (xo8 : Vec F S1x256 .f32) (xo9 : Vec F S4x128x128 .f32) (xo10 : Vec F S128x128 .f32) :
    out0_B_9 (F := F) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 x0 x1 x2 x3 x4 x5 xo7 xo8 xo9 xo10 = View.canon (dwList
      (addf (ldHead xo9 0 inb_S4x128x128_S1x128x128_0_0_0) (sum8 fun r hr => ((blockIn x0 x1 x2 x3 x4 x5) r hr).dw0))
      (addf (ldHead xo9 1 inb_S4x128x128_S1x128x128_1_0_0) (sum8 fun r hr => ((blockIn x0 x1 x2 x3 x4 x5) r hr).dw1))
      (addf (ldHead xo9 2 inb_S4x128x128_S1x128x128_2_0_0) (sum8 fun r hr => ((blockIn x0 x1 x2 x3 x4 x5) r hr).dw2))
      (addf (ldHead xo9 3 inb_S4x128x128_S1x128x128_3_0_0) (sum8 fun r hr => ((blockIn x0 x1 x2 x3 x4 x5) r hr).dw3))
) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 x0 x1 x2 x3 x4 x5 xo7 xo8 xo9 xo10), dw_B, rdIn_eq]
  simp only [View.readAt_eq_ld, harg10.read_unread]

theorem out_dbt_B (c : Dev nD) (i : grid0.Coords) (arg1 : Memref sig .tc .vmem S1024x768 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S4x128x128 .f32) (harg4 : arg4.IsWhole) (arg5 : Memref sig .tc .vmem S128x128 .f32) (harg5 : arg5.IsWhole) (arg6 : Memref sig .tc .vmem S1024x256 .f32) (harg6 : arg6.IsWhole) (arg7 : Memref sig .tc .vmem S1024x768 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S4x128x128 .f32) (harg10 : arg10.IsWhole) (arg11 : Memref sig .tc .vmem S128x128 .f32) (harg11 : arg11.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (hc8 : ¬cond0_8 i) (hc9 : cond0_9 i) (hc10 : ¬cond0_10 i) (hc11 : cond0_11 i) (hc12 : ¬cond0_12 i) (hc13 : cond0_13 i)
    (x0 : Vec F S1024x768 .f32) (x1 : Vec F S1x256 .f32) (x2 : Vec F S1x256 .f32) (x3 : Vec F S4x128x128 .f32) (x4 : Vec F S128x128 .f32) (x5 : Vec F S1024x256 .f32) (xo7 : Vec F S1x256 .f32) (xo8 : Vec F S1x256 .f32) (xo9 : Vec F S4x128x128 .f32) (xo10 : Vec F S128x128 .f32) :
    out0_B_10 (F := F) c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 x0 x1 x2 x3 x4 x5 xo7 xo8 xo9 xo10 = addf xo10 (sum8 fun r hr => ((blockIn x0 x1 x2 x3 x4 x5) r hr).dbt) := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 hc11 hc12 hc13 x0 x1 x2 x3 x4 x5 xo7 xo8 xo9 xo10), dbt_B, rdIn_eq]
  unfold matPiece
  rw [View.canon_unit_zero off2]
  simp only [View.readAt_eq_ld, harg11.read_unread, View.ld_unit_zero (S := S128x128) off2]
  congr 1 <;> exact shapeCast_id _ _

end Cert.KernelIdeal.Sg

end
-- ==== Proof.Sg.Spec.lean ====
/-
  The spatial gating unit's backward pass on one chunk of 128 rows, as plain functions over the extended reals: rows,
  lanes and heads are finite index types, and every sum is a finite sum.
-/
module

public import Idealize.ShloMosaic.PureOps.Ideal

@[expose] public section

noncomputable section

namespace Cert.SgSpec

open Idealize.ShloMosaic

/-! ### The constants, by their float words -/

/-- `sqrt (2 / π)` rounded to a float. -/
abbrev cA : EReal := Ideal.ofBits .f32 0x3F4C422A#32
/-- `0.044715` rounded to a float. -/
abbrev cB : EReal := Ideal.ofBits .f32 0x3D372713#32
/-- One half. -/
abbrev cH : EReal := Ideal.ofBits .f32 0x3F000000#32
/-- Three. -/
abbrev c3 : EReal := Ideal.ofBits .f32 0x40400000#32
/-- The number of lanes, 256. -/
abbrev cN : EReal := Ideal.ofBits .f32 0x43800000#32
/-- The norm's `eps`. -/
abbrev cE : EReal := Ideal.ofBits .f32 0x358637BD#32
/-- Minus one half. -/
abbrev cM : EReal := Ideal.ofBits .f32 0xBF000000#32

/-! ### The activation -/

/-- The `tanh` inside the activation. -/
def gth (x : EReal) : EReal := Ideal.tanh (cA * (x + cB * (x * (x * x))))
/-- Its factor `(1 + tanh) / 2`. -/
def gfac (x : EReal) : EReal := cH * (1 + gth x)
/-- The activation. -/
def gelu (x : EReal) : EReal := x * gfac x
/-- The part of the derivative that goes through the `tanh`, times `d`. -/
def gtan (x d : EReal) : EReal := cA * (cH * (x * d) * ((1 + gth x) * (1 - gth x)))
/-- The activation's backward pass. -/
def geluBwd (x d : EReal) : EReal := d * gfac x + gtan x d + cB * gtan x d * (c3 * (x * x))

/-! ### The norm, on one row -/

section Row
variable (v : Fin 256 → EReal)

/-- The row's mean. -/
def mean (a : Fin 256 → EReal) : EReal := Ideal.div (∑ l, a l) cN
/-- The centred row. -/
def xc (l : Fin 256) : EReal := gelu (v l) - mean fun k => gelu (v k)
/-- Its variance, with `eps`. -/
def vareps : EReal := mean (fun l => xc v l * xc v l) + cE
def rs : EReal := Ideal.rsqrt (vareps v)
/-- The derivative of the reciprocal root. -/
def drs : EReal := cM * Ideal.div (rs v) (vareps v)
/-- The normalised row. -/
def nrm (l : Fin 256) : EReal := xc v l * rs v
/-- What flows back through the variance. -/
def qv (dx : Fin 256 → EReal) : EReal := Ideal.div ((∑ l, xc v l * dx l) * drs v) cN
/-- The cotangent of the centred row. -/
def dxc (dx : Fin 256 → EReal) (l : Fin 256) : EReal := dx l * rs v + xc v l * qv v dx + qv v dx * xc v l
/-- The norm's backward pass. -/
def normBwd (dx : Fin 256 → EReal) (l : Fin 256) : EReal :=
  dxc v dx l + Ideal.div (∑ k, - dxc v dx k) cN

end Row

/-! ### The chunk -/

/-- The head a lane belongs to. -/
def hd (l : Fin 256) : Fin 4 := ⟨l.val / 64, by omega⟩
/-- Lane `d` of head `h`. -/
def lane (h : Fin 4) (d : Fin 64) : Fin 256 := ⟨64 * h.val + d.val, by omega⟩

/-- What a chunk is computed from: the rows of `u`, `v`, the gate and the cotangent; the norm's scale and shift; the
    heads' matrices and biases. -/
structure Chunk where
  U : Fin 128 → Fin 256 → EReal
  V : Fin 128 → Fin 256 → EReal
  Gt : Fin 128 → Fin 256 → EReal
  Y : Fin 128 → Fin 256 → EReal
  G : Fin 256 → EReal
  B : Fin 256 → EReal
  W : Fin 4 → Fin 128 → Fin 128 → EReal
  T : Fin 4 → Fin 128 → EReal

namespace Chunk
variable (c : Chunk)

/-- The normalised rows. -/
def vn (i : Fin 128) (l : Fin 256) : EReal := nrm (c.V i) l * c.G l + c.B l
/-- The causal part of a head's matrix: row `i` takes the rows `j ≤ i`. -/
def wt (h : Fin 4) (i j : Fin 128) : EReal := if j ≤ i then c.W h i j else 0
/-- The mixed rows. -/
def mix (i : Fin 128) (l : Fin 256) : EReal := ∑ j, c.wt (hd l) i j * c.vn j l + c.T (hd l) i
def silu (i : Fin 128) (l : Fin 256) : EReal := c.Gt i l * Ideal.logistic (c.Gt i l)
/-- The cotangent behind the gate. -/
def dgated (i : Fin 128) (l : Fin 256) : EReal := c.Y i l * c.silu i l
/-- The cotangent of the mixed rows. -/
def ds (i : Fin 128) (l : Fin 256) : EReal := gelu (c.U i l) * c.dgated i l
/-- The cotangent of the normalised rows. -/
def dvn (j : Fin 128) (l : Fin 256) : EReal := ∑ i, c.wt (hd l) i j * c.ds i l

/-- The gradients of `u`, of `v` and of the gate. -/
def du (i : Fin 128) (l : Fin 256) : EReal := geluBwd (c.U i l) (c.dgated i l * c.mix i l)
def dv (i : Fin 128) (l : Fin 256) : EReal := geluBwd (c.V i l) (normBwd (c.V i) (fun k => c.dvn i k * c.G k) l)
def dgt (i : Fin 128) (l : Fin 256) : EReal :=
  gelu (c.U i l) * c.mix i l * c.Y i l * Ideal.logistic (c.Gt i l) +
    c.Gt i l * (gelu (c.U i l) * c.mix i l * c.Y i l) * (Ideal.logistic (c.Gt i l) * (1 - Ideal.logistic (c.Gt i l)))

/-- The chunk's part of the gradients of the norm's scale and shift, of the heads' matrices and of the biases. -/
def dg (l : Fin 256) : EReal := ∑ i, nrm (c.V i) l * c.dvn i l
def db (l : Fin 256) : EReal := ∑ i, c.dvn i l
def dwFull (h : Fin 4) (i j : Fin 128) : EReal := ∑ d, c.ds i (lane h d) * c.vn j (lane h d)
def dw (h : Fin 4) (i j : Fin 128) : EReal := if j ≤ i then c.dwFull h i j else 0
def dbt (h : Fin 4) (i : Fin 128) : EReal := ∑ d, c.ds i (lane h d)

end Chunk

/-! ### The whole arrays: 64 chunks of 128 rows -/

/-- The arrays of one device: the rows of `z` (`u`, `v` and the gate side by side) and of the cotangent, and the weights. -/
structure Arrays where
  Z : Fin 8192 → Fin 768 → EReal
  G : Fin 256 → EReal
  B : Fin 256 → EReal
  W : Fin 4 → Fin 128 → Fin 128 → EReal
  T : Fin 4 → Fin 128 → EReal
  Y : Fin 8192 → Fin 256 → EReal

/-- Row `i` of chunk `q`. -/
def rowOf (q : Fin 64) (i : Fin 128) : Fin 8192 := ⟨128 * q.val + i.val, by omega⟩

namespace Arrays
variable (A : Arrays)

/-- Chunk `q` of the arrays. -/
def chunk (q : Fin 64) : Chunk where
  U i l := A.Z (rowOf q i) ⟨l.val, by omega⟩
  V i l := A.Z (rowOf q i) ⟨256 + l.val, by omega⟩
  Gt i l := A.Z (rowOf q i) ⟨512 + l.val, by omega⟩
  Y i l := A.Y (rowOf q i) l
  G := A.G
  B := A.B
  W := A.W
  T := A.T

/-- The gradient of `z`. -/
def dz (r : Fin 8192) (k : Fin 768) : EReal :=
  if h : k.val < 256 then (A.chunk ⟨r.val / 128, by omega⟩).du ⟨r.val % 128, by omega⟩ ⟨k.val, h⟩
  else if h : k.val - 256 < 256 then (A.chunk ⟨r.val / 128, by omega⟩).dv ⟨r.val % 128, by omega⟩ ⟨k.val - 256, h⟩
  else (A.chunk ⟨r.val / 128, by omega⟩).dgt ⟨r.val % 128, by omega⟩ ⟨k.val - 256 - 256, by omega⟩

/-- The gradients of the weights: the sums over the chunks. -/
def dg (l : Fin 256) : EReal := ∑ q, (A.chunk q).dg l
def db (l : Fin 256) : EReal := ∑ q, (A.chunk q).db l
def dw (h : Fin 4) (i j : Fin 128) : EReal := ∑ q, (A.chunk q).dw h i j
def dbt (i k : Fin 128) : EReal := if h : k.val < 4 then ∑ q, (A.chunk q).dbt ⟨k.val, h⟩ i else 0

end Arrays

end Cert.SgSpec

end
-- ==== Proof.Sg.ChunkIdeal.lean ====
/-
  The chunk's arrays over the extended reals, entry by entry: each is the plain function of `Spec.lean`.
-/
module

public import proofs.«01_k».proof.Proof.Sg.Chunk
public import proofs.«01_k».proof.Proof.Sg.Spec
public import Idealize.ShloMosaic.Lib.Tactic
public import Idealize.ShloMosaic.Lib.Pointwise
public import Idealize.ShloMosaic.Lib.WordCmp

@[expose] public section

noncomputable section

namespace Cert.KernelIdeal.Sg

open Cert.KernelIdeal Cert.KernelIdeal.Gen Idealize.ShloMosaic Idealize.ShloMosaic.TcCoe Idealize.SL.Sem
open Cert

/-! ### The masks -/

/-- A choice by a decided bit. -/
theorem select_ofBool {p : Prop} [Decidable p] (a b : EReal) :
    Scalar.select (BitVec.ofBool (decide p)) a b = if p then a else b := by
  by_cases h : p <;> simp [h, Scalar.select]

theorem tri_select (i j : Fin 128) (a b : EReal) :
    Scalar.select (IntOp.cmpi .sge (BitVec.ofNat 32 i.val) (BitVec.ofNat 32 j.val)) a b = if j ≤ i then a else b := by
  rw [WordCmp.cmpi_sge_ofNat (by omega) (by omega), select_ofBool]; rfl

theorem lanes_bit (l : Fin 256) (h : Fin 4) :
    IntOp.andi (IntOp.cmpi .sge (BitVec.ofNat 32 l.val) (BitVec.ofNat 32 (64 * h.val)))
      (IntOp.cmpi .slt (BitVec.ofNat 32 l.val) (BitVec.ofNat 32 (64 * h.val + 64))) = BitVec.ofBool (decide (SgSpec.hd l = h)) := by
  rw [WordCmp.cmpi_sge_ofNat (by omega) (by omega), WordCmp.cmpi_slt_ofNat (by omega) (by omega)]
  have : (decide (SgSpec.hd l = h)) = (decide (64 * h.val ≤ l.val) && decide (l.val < 64 * h.val + 64)) := by
    rw [← Bool.decide_and]; apply decide_eq_decide.2; rw [Fin.ext_iff]; simp only [SgSpec.hd]; omega
  rw [this]
  cases decide (64 * h.val ≤ l.val) <;> cases decide (l.val < 64 * h.val + 64) <;> rfl

theorem onLanes_apply (h : Fin 4) (x : FVec Ideal S128x256 .f32) (i : Fin 128) (l : Fin 256) :
    onLanes (BitVec.ofNat 32 (64 * h.val)) (BitVec.ofNat 32 (64 * h.val + 64)) x (ix2 i l) = if SgSpec.hd l = h then x (ix2 i l) else 0 := by
  pointwise [onLanes, lanes, kc]
  rw [lanes_bit, select_ofBool]

theorem onLanes0_apply (x : FVec Ideal S128x256 .f32) (i : Fin 128) (l : Fin 256) :
    onLanes 0#32 64#32 x (ix2 i l) = if SgSpec.hd l = 0 then x (ix2 i l) else 0 := onLanes_apply 0 x i l
theorem onLanes1_apply (x : FVec Ideal S128x256 .f32) (i : Fin 128) (l : Fin 256) :
    onLanes 64#32 128#32 x (ix2 i l) = if SgSpec.hd l = 1 then x (ix2 i l) else 0 := onLanes_apply 1 x i l
theorem onLanes2_apply (x : FVec Ideal S128x256 .f32) (i : Fin 128) (l : Fin 256) :
    onLanes 128#32 192#32 x (ix2 i l) = if SgSpec.hd l = 2 then x (ix2 i l) else 0 := onLanes_apply 2 x i l
theorem onLanes3_apply (x : FVec Ideal S128x256 .f32) (i : Fin 128) (l : Fin 256) :
    onLanes 192#32 256#32 x (ix2 i l) = if SgSpec.hd l = 3 then x (ix2 i l) else 0 := onLanes_apply 3 x i l

/-- Four terms of which only head `h`'s is there. -/
theorem sum_heads (h : Fin 4) (f : Fin 4 → EReal) :
    (((if h = 0 then f 0 else 0) + if h = 1 then f 1 else 0) + if h = 2 then f 2 else 0) + (if h = 3 then f 3 else 0) = f h := by
  fin_cases h <;> simp

theorem sum_heads_rev (h : Fin 4) (f : Fin 4 → EReal) :
    (((if h = 3 then f 3 else 0) + if h = 2 then f 2 else 0) + if h = 1 then f 1 else 0) + (if h = 0 then f 0 else 0) = f h := by
  fin_cases h <;> simp

/-- A sum over all lanes of what is on head `h`'s lanes alone is the sum over that head's 64 lanes. -/
theorem sum_lanes (h : Fin 4) (f : Fin 256 → EReal) :
    (∑ l, if SgSpec.hd l = h then f l else 0) = ∑ d, f (SgSpec.lane h d) := by
  rw [← Finset.sum_filter]
  symm
  refine Finset.sum_bij (fun d _ => SgSpec.lane h d) ?_ ?_ ?_ ?_
  · intro d _
    simp only [Finset.mem_filter, Finset.mem_univ, true_and, Fin.ext_iff, SgSpec.hd, SgSpec.lane]; omega
  · intro d _ d' _ e
    simp only [Fin.ext_iff, SgSpec.lane] at e; omega
  · intro l hl
    simp only [Finset.mem_filter, Finset.mem_univ, true_and, Fin.ext_iff, SgSpec.hd] at hl
    exact ⟨⟨l.val - 64 * h.val, by omega⟩, Finset.mem_univ _, by simp only [Fin.ext_iff, SgSpec.lane]; omega⟩
  · intro d _; rfl

/-! ### The activation and the norm -/

theorem gth_apply (x : FVec Ideal S128x256 .f32) (i : Fin 128) (l : Fin 256) : gth x (ix2 i l) = SgSpec.gth (x (ix2 i l)) := by
  pointwise [gth, kc]
  rfl
theorem gfac_apply (x : FVec Ideal S128x256 .f32) (i : Fin 128) (l : Fin 256) : gfac x (ix2 i l) = SgSpec.gfac (x (ix2 i l)) := by
  pointwise [gfac, kc]
  rw [gth_apply]; rfl
theorem gelu_apply (x : FVec Ideal S128x256 .f32) (i : Fin 128) (l : Fin 256) : gelu x (ix2 i l) = SgSpec.gelu (x (ix2 i l)) := by
  pointwise [gelu]
  rw [gfac_apply]; rfl
theorem gtan_apply (x d : FVec Ideal S128x256 .f32) (i : Fin 128) (l : Fin 256) :
    gtan x d (ix2 i l) = SgSpec.gtan (x (ix2 i l)) (d (ix2 i l)) := by
  pointwise [gtan, kc]
  rw [gth_apply]; rfl
theorem geluBwd_apply (x d : FVec Ideal S128x256 .f32) (i : Fin 128) (l : Fin 256) :
    geluBwd x d (ix2 i l) = SgSpec.geluBwd (x (ix2 i l)) (d (ix2 i l)) := by
  pointwise [geluBwd, kc]
  rw [gtan_apply, gfac_apply]; rfl

/-- A row of an array. -/
abbrev row (x : FVec Ideal S128x256 .f32) (i : Fin 128) : Fin 256 → EReal := fun l => x (ix2 i l)

theorem mean_apply (x : FVec Ideal S128x256 .f32) (i : Fin 128) (z : Fin 1) : mean x (ix2 i z) = SgSpec.mean (row x i) := by
  pointwise [mean, rowSum, kc]
  rfl
theorem xc_apply (v : FVec Ideal S128x256 .f32) (i : Fin 128) (l : Fin 256) : xc v (ix2 i l) = SgSpec.xc (row v i) l := by
  pointwise [xc, colB]
  rw [gelu_apply, mean_apply, show row (gelu v) i = fun k => SgSpec.gelu (row v i k) from funext fun k => gelu_apply v i k]; rfl
theorem vareps_apply (v : FVec Ideal S128x256 .f32) (i : Fin 128) (z : Fin 1) : vareps v (ix2 i z) = SgSpec.vareps (row v i) := by
  pointwise [vareps, kc]
  rw [mean_apply]
  have : row (mulf (xc v) (xc v)) i = fun l => SgSpec.xc (row v i) l * SgSpec.xc (row v i) l := by
    funext l; show xc v (ix2 i l) * xc v (ix2 i l) = _; rw [xc_apply]
  rw [this]; rfl
theorem rs_apply (v : FVec Ideal S128x256 .f32) (i : Fin 128) (z : Fin 1) : rs v (ix2 i z) = SgSpec.rs (row v i) := by
  pointwise [rs]
  rw [vareps_apply]; rfl
theorem drs_apply (v : FVec Ideal S128x256 .f32) (i : Fin 128) (z : Fin 1) : drs v (ix2 i z) = SgSpec.drs (row v i) := by
  pointwise [drs, kc]
  rw [rs_apply, vareps_apply]; rfl
theorem nrm_apply (v : FVec Ideal S128x256 .f32) (i : Fin 128) (l : Fin 256) : nrm v (ix2 i l) = SgSpec.nrm (row v i) l := by
  pointwise [nrm, colB]
  rw [xc_apply, rs_apply]; rfl
theorem vnorm_apply (v : FVec Ideal S128x256 .f32) (g b : FVec Ideal S1x256 .f32) (i : Fin 128) (l : Fin 256) :
    vnorm v g b (ix2 i l) = SgSpec.nrm (row v i) l * g (ix2 0 l) + b (ix2 0 l) := by
  pointwise [vnorm, rowB]
  rw [nrm_apply]
theorem dxc_apply (v dx : FVec Ideal S128x256 .f32) (i : Fin 128) (l : Fin 256) :
    dxc v dx (ix2 i l) = SgSpec.dxc (row v i) (row dx i) l := by
  pointwise [dxc, kc, rowSum, colSum, colB]
  simp only [rs_apply, xc_apply, drs_apply, Fin.sum_univ_one]; rfl
theorem normBwd_apply (v dx : FVec Ideal S128x256 .f32) (i : Fin 128) (l : Fin 256) :
    normBwd v dx (ix2 i l) = SgSpec.normBwd (row v i) (row dx i) l := by
  pointwise [normBwd, kc, rowSum, colSum, colB]
  simp only [dxc_apply, Fin.sum_univ_one, zero_sub]; rfl

/-! ### The mixing -/

theorem headMix_apply (w : FVec Ideal S128x128 .f32) (vn : FVec Ideal S128x256 .f32) (bc : FVec Ideal S128x1 .f32) (i : Fin 128) (l : Fin 256) :
    headMix w vn bc (ix2 i l) = ∑ j, (if j ≤ i then w (ix2 i j) else 0) * vn (ix2 j l) + bc (ix2 i 0) := by
  pointwise [headMix, wtri, tri, kc, colB]
  congr 1
  refine Finset.sum_congr rfl fun j _ => ?_
  rw [tri_select]; split <;> simp

theorem mix_apply (w0 w1 w2 w3 : FVec Ideal S128x128 .f32) (vn : FVec Ideal S128x256 .f32) (bt : FVec Ideal S128x128 .f32)
    (W : Fin 4 → Fin 128 → Fin 128 → EReal) (h0 : ∀ i j, w0 (ix2 i j) = W 0 i j) (h1 : ∀ i j, w1 (ix2 i j) = W 1 i j)
    (h2 : ∀ i j, w2 (ix2 i j) = W 2 i j) (h3 : ∀ i j, w3 (ix2 i j) = W 3 i j) (i : Fin 128) (l : Fin 256) :
    mix w0 w1 w2 w3 vn bt (ix2 i l) =
      ∑ j, (if j ≤ i then W (SgSpec.hd l) i j else 0) * vn (ix2 j l) + bt (ix2 i ⟨(SgSpec.hd l).val, by omega⟩) := by
  pointwise [mix, kc]
  rw [onLanes0_apply, onLanes1_apply, onLanes2_apply, onLanes3_apply]
  simp only [headMix_apply, h0, h1, h2, h3]
  pointwise []
  exact sum_heads (SgSpec.hd l) fun h => ∑ j, (if j ≤ i then W h i j else 0) * vn (ix2 j l) + bt (ix2 i ⟨h.val, by omega⟩)

theorem headDvn_apply (w : FVec Ideal S128x128 .f32) (d : FVec Ideal S128x256 .f32) (j : Fin 128) (l : Fin 256) :
    headDvn w d (ix2 j l) = ∑ i, (if j ≤ i then w (ix2 i j) else 0) * d (ix2 i l) := by
  pointwise [headDvn, wtri, tri, kc]
  refine Finset.sum_congr rfl fun i _ => ?_
  rw [tri_select]; split <;> simp

theorem headDw_apply (d vn : FVec Ideal S128x256 .f32) (i j : Fin 128) :
    headDw d vn (ix2 i j) = if j ≤ i then ∑ l, d (ix2 i l) * vn (ix2 j l) else 0 := by
  pointwise [headDw, tri, kc]
  rw [tri_select]

theorem dvnorm_apply (w0 w1 w2 w3 : FVec Ideal S128x128 .f32) (ds : FVec Ideal S128x256 .f32)
    (W : Fin 4 → Fin 128 → Fin 128 → EReal) (h0 : ∀ i j, w0 (ix2 i j) = W 0 i j) (h1 : ∀ i j, w1 (ix2 i j) = W 1 i j)
    (h2 : ∀ i j, w2 (ix2 i j) = W 2 i j) (h3 : ∀ i j, w3 (ix2 i j) = W 3 i j) (j : Fin 128) (l : Fin 256) :
    dvnorm w0 w1 w2 w3 ds (ix2 j l) = ∑ i, (if j ≤ i then W (SgSpec.hd l) i j else 0) * ds (ix2 i l) := by
  pointwise [dvnorm]
  simp only [headDvn_apply, onLanes0_apply, onLanes1_apply, onLanes2_apply, onLanes3_apply, h0, h1, h2, h3]
  have key : ∀ (h : Fin 4) (f : Fin 128 → EReal),
      (∑ i, f i * (if SgSpec.hd l = h then ds (ix2 i l) else 0)) = if SgSpec.hd l = h then ∑ i, f i * ds (ix2 i l) else 0 := by
    intro h f; split <;> simp
  simp only [key]
  exact sum_heads_rev (SgSpec.hd l) fun h => ∑ i, (if j ≤ i then W h i j else 0) * ds (ix2 i l)

theorem rowSum_apply (x : FVec Ideal S128x256 .f32) (i : Fin 128) (z : Fin 1) : rowSum x (ix2 i z) = ∑ l, x (ix2 i l) := by
  pointwise [rowSum]

theorem dbias_apply (ds : FVec Ideal S128x256 .f32) (i k : Fin 128) :
    dbias ds (ix2 i k) = if h : k.val < 4 then ∑ d, ds (ix2 i (SgSpec.lane ⟨k.val, h⟩ d)) else 0 := by
  pointwise [dbias, kc]
  simp only [rowSum_apply, onLanes0_apply, onLanes1_apply, onLanes2_apply, onLanes3_apply, sum_lanes]
  obtain ⟨k, hk⟩ := k
  by_cases h : k < 4
  · interval_cases k <;> simp
  · have : ¬ k < 3 := by omega
    have : ¬ k < 2 := by omega
    have : ¬ k < 1 := by omega
    simp [*]

theorem lnSum_apply (x : FVec Ideal S128x256 .f32) (l : Fin 256) (z : Fin 1) : lnSum x (ix2 z l) = ∑ i, x (ix2 i l) := by
  pointwise [lnSum]

/-! ### The chunk -/

namespace In
variable (x : In Ideal)

/-- The chunk's arrays as functions. -/
def spec : SgSpec.Chunk where
  U i l := x.u (ix2 i l)
  V i l := x.v (ix2 i l)
  Gt i l := x.gt (ix2 i l)
  Y i l := x.dy (ix2 i l)
  G l := x.g (ix2 0 l)
  B l := x.b (ix2 0 l)
  W h i j := match h with
    | 0 => x.w0 (ix2 i j)
    | 1 => x.w1 (ix2 i j)
    | 2 => x.w2 (ix2 i j)
    | 3 => x.w3 (ix2 i j)
  T h i := x.bt (ix2 i ⟨h.val, by omega⟩)

theorem vn_apply (i : Fin 128) (l : Fin 256) : x.vn (ix2 i l) = x.spec.vn i l := vnorm_apply ..
theorem s_apply (i : Fin 128) (l : Fin 256) : x.s (ix2 i l) = x.spec.mix i l := by
  unfold s
  rw [mix_apply _ _ _ _ _ _ x.spec.W (fun _ _ => rfl) (fun _ _ => rfl) (fun _ _ => rfl) (fun _ _ => rfl)]
  simp only [vn_apply]; rfl
theorem dgated_apply (i : Fin 128) (l : Fin 256) : dgated x.gt x.dy (ix2 i l) = x.spec.dgated i l := by
  pointwise [dgated]; rfl
theorem ds_apply (i : Fin 128) (l : Fin 256) : x.ds (ix2 i l) = x.spec.ds i l := by
  pointwise [ds, dmix]; rw [gelu_apply, dgated_apply]; rfl
theorem dvn_apply (i : Fin 128) (l : Fin 256) : x.dvn (ix2 i l) = x.spec.dvn i l := by
  unfold dvn
  rw [dvnorm_apply _ _ _ _ _ x.spec.W (fun _ _ => rfl) (fun _ _ => rfl) (fun _ _ => rfl) (fun _ _ => rfl)]
  simp only [ds_apply]; rfl
theorem du_apply (i : Fin 128) (l : Fin 256) : x.du (ix2 i l) = x.spec.du i l := by
  unfold du; rw [geluBwd_apply]; pointwise []; rw [dgated_apply, s_apply]; rfl
theorem dv_apply (i : Fin 128) (l : Fin 256) : x.dv (ix2 i l) = x.spec.dv i l := by
  unfold dv; rw [geluBwd_apply, normBwd_apply]
  have : row (mulf x.dvn (rowB x.g)) i = fun k => x.spec.dvn i k * x.spec.G k := by
    funext k; pointwise [row, rowB]; rw [dvn_apply]; rfl
  rw [this]; rfl
theorem dgt_apply (i : Fin 128) (l : Fin 256) : x.dgt (ix2 i l) = x.spec.dgt i l := by
  pointwise [dgt, kc]; rw [gelu_apply, s_apply]; rfl
theorem dg_apply (l : Fin 256) (z : Fin 1) : x.dg (ix2 z l) = x.spec.dg l := by
  unfold dg; rw [lnSum_apply]; pointwise []; simp only [nrm_apply, dvn_apply]; rfl
theorem db_apply (l : Fin 256) (z : Fin 1) : x.db (ix2 z l) = x.spec.db l := by
  unfold db; rw [lnSum_apply]; simp only [dvn_apply]; rfl
theorem dbt_apply (i k : Fin 128) : x.dbt (ix2 i k) = if h : k.val < 4 then x.spec.dbt ⟨k.val, h⟩ i else 0 := by
  unfold dbt; rw [dbias_apply]; simp only [ds_apply]; rfl

theorem dw_aux (h : Fin 4) (d : FVec Ideal S128x256 .f32) (hd : ∀ i l, d (ix2 i l) = if SgSpec.hd l = h then x.ds (ix2 i l) else 0) (i j : Fin 128) :
    headDw d x.vn (ix2 i j) = x.spec.dw h i j := by
  rw [headDw_apply]
  simp only [hd, vn_apply, ds_apply, ite_mul, zero_mul]
  rw [sum_lanes h fun l => x.spec.ds i l * x.spec.vn j l]; rfl
theorem dw0_apply (i j : Fin 128) : x.dw0 (ix2 i j) = x.spec.dw 0 i j := dw_aux x 0 _ (fun _ _ => onLanes0_apply ..) i j
theorem dw1_apply (i j : Fin 128) : x.dw1 (ix2 i j) = x.spec.dw 1 i j := dw_aux x 1 _ (fun _ _ => onLanes1_apply ..) i j
theorem dw2_apply (i j : Fin 128) : x.dw2 (ix2 i j) = x.spec.dw 2 i j := dw_aux x 2 _ (fun _ _ => onLanes2_apply ..) i j
theorem dw3_apply (i j : Fin 128) : x.dw3 (ix2 i j) = x.spec.dw 3 i j := dw_aux x 3 _ (fun _ _ => onLanes3_apply ..) i j

end In

end Cert.KernelIdeal.Sg

end
-- ==== Proof.Sg.BlockSpec.lean ====
/-
  What a point's lists of stores hold over the extended reals, entry by entry: the 24 stores of the gradient of `z`, the
  four heads' stores, and the sums of eight chunks.
-/
module

public import proofs.«01_k».proof.Proof.Sg.Point
public import proofs.«01_k».proof.Proof.Sg.ChunkIdeal

@[expose] public section

noncomputable section

namespace Cert.KernelIdeal.Sg

open Cert.KernelIdeal Cert.KernelIdeal.Gen Idealize.ShloMosaic Idealize.ShloMosaic.TcCoe Idealize.SL.Sem
open Cert

/-- The sum of eight arrays, entry by entry. -/
theorem sum8_apply {s : Shape} (f : (r : ℕ) → r + 128 ≤ 1024 → FVec Ideal s .f32) (y : s.Idx) :
    sum8 f y = ∑ k : Fin 8, f (128 * k.val) (by omega) y := by
  rw [Fin.sum_univ_eight]; rfl

/-- Row `i` of a chunk's gradient of `z`. -/
def dzOf (c : SgSpec.Chunk) (i : Fin 128) (k : Fin 768) : EReal :=
  if h : k.val < 256 then c.du i ⟨k.val, h⟩
  else if h : k.val - 256 < 256 then c.dv i ⟨k.val - 256, h⟩
  else c.dgt i ⟨k.val - 256 - 256, by omega⟩

section Dz
variable (f : (r : ℕ) → r + 128 ≤ 1024 → In Ideal) (C : Fin 8 → SgSpec.Chunk)
  (hC : ∀ k : Fin 8, (f (128 * k.val) (by omega)).spec = C k)

/-- The block the 24 stores make. -/
def dzBlock (y : S1024x768.Idx) : EReal :=
  dzOf (C ⟨(y 0).val / 128, by have : (y 0).val < 1024 := (y 0).isLt; omega⟩) ⟨(y 0).val % 128, by omega⟩ (y 1)

theorem dzBlock_at (y : S1024x768.Idx) (k : Fin 8) (i : Fin 128) (j : Fin 768) (h0 : (y 0).val = 128 * k.val + i.val)
    (h1 : (y 1).val = j.val) : dzBlock C y = dzOf (C k) i j := by
  unfold dzBlock
  have e0 : ∀ h, (⟨(y 0).val / 128, h⟩ : Fin 8) = k := fun h => Fin.ext (by show (y 0).val / 128 = k.val; omega)
  have e1 : ∀ h, (⟨(y 0).val % 128, h⟩ : Fin 128) = i := fun h => Fin.ext (by show (y 0).val % 128 = i.val; omega)
  have e2 : y 1 = j := Fin.ext h1
  rw [e0, e1, e2]

theorem dz_piece (k : Fin 8) (hk : 128 * k.val + 128 ≤ 1024) (c0 : ℕ) (hc : c0 + 256 ≤ 768) (v : FVec Ideal S128x256 .f32)
    (D : Fin 128 → Fin 256 → EReal) (hv : ∀ i l, v (ix2 i l) = D i l) (hd : ∀ (i : Fin 128) (l : Fin 256), dzOf (C k) i ⟨c0 + l.val, by omega⟩ = D i l)
    (x : S128x256.Idx) : truncf .bf16 v bitsLt_bf16_f32 x = dzBlock C ((rz (128 * k.val) c0 hk hc).emb x) := by
  obtain ⟨i, l, rfl⟩ : ∃ i l, x = ix2 i l := ⟨_, _, eq_ix2 x⟩
  rw [dzBlock_at C _ k i ⟨c0 + l.val, by omega⟩ (by show 128 * k.val + 1 * i.val = _; omega) (by show c0 + 1 * l.val = c0 + l.val; omega), hd, ← hv]
  rfl

include hC in
theorem dzAt_pieces (k : Fin 8) (p : View.Piece (Elt Ideal) S1024x768 .bf16)
    (hp : p ∈ dzAt (F := Ideal) (f (128 * k.val) (by omega)) (128 * k.val) (by omega)) (x : p.1.shape.Idx) :
    p.2 x = dzBlock C (p.1.emb x) := by
  unfold dzAt at hp
  simp only [List.mem_cons, List.not_mem_nil, or_false] at hp
  rcases hp with rfl | rfl | rfl
  · refine dz_piece C k (by omega) 512 (by decide) _ (C k).dgt (fun i l => by rw [In.dgt_apply, hC]) (fun i l => ?_) x
    unfold dzOf
    rw [dif_neg (by show ¬ 512 + l.val < 256; omega), dif_neg (by show ¬ 512 + l.val - 256 < 256; omega)]
    congr 1; apply Fin.ext; show 512 + l.val - 256 - 256 = l.val; omega
  · refine dz_piece C k (by omega) 256 (by decide) _ (C k).dv (fun i l => by rw [In.dv_apply, hC]) (fun i l => ?_) x
    unfold dzOf
    rw [dif_neg (by show ¬ 256 + l.val < 256; omega), dif_pos (by show 256 + l.val - 256 < 256; omega)]
    congr 1; apply Fin.ext; show 256 + l.val - 256 = l.val; omega
  · refine dz_piece C k (by omega) 0 (by decide) _ (C k).du (fun i l => by rw [In.du_apply, hC]) (fun i l => ?_) x
    unfold dzOf
    rw [dif_pos (by show 0 + l.val < 256; omega)]
    congr 1; apply Fin.ext; show 0 + l.val = l.val; omega

theorem mem_append8 {α : Type} {p : α} {a b c d e f g h : List α} (hp : p ∈ a ++ b ++ c ++ d ++ e ++ f ++ g ++ h) :
    p ∈ a ∨ p ∈ b ∨ p ∈ c ∨ p ∈ d ∨ p ∈ e ∨ p ∈ f ∨ p ∈ g ∨ p ∈ h := by
  simpa only [List.mem_append, or_assoc] using hp

include hC in
theorem dzList_pieces (p : View.Piece (Elt Ideal) S1024x768 .bf16) (hp : p ∈ dzList (F := Ideal) f) (x : p.1.shape.Idx) :
    p.2 x = dzBlock C (p.1.emb x) := by
  change p ∈ _ ++ _ ++ _ ++ _ ++ _ ++ _ ++ _ ++ _ at hp
  rcases mem_append8 hp with hp | hp | hp | hp | hp | hp | hp | hp
  · exact dzAt_pieces f C hC 7 p hp x
  · exact dzAt_pieces f C hC 6 p hp x
  · exact dzAt_pieces f C hC 5 p hp x
  · exact dzAt_pieces f C hC 4 p hp x
  · exact dzAt_pieces f C hC 3 p hp x
  · exact dzAt_pieces f C hC 2 p hp x
  · exact dzAt_pieces f C hC 1 p hp x
  · exact dzAt_pieces f C hC 0 p hp x

include hC in
/-- The block of the gradient of `z` that a point's 24 stores make. -/
theorem canon_dz (hcov : ∀ y, ∃ p ∈ dzList (F := Ideal) f, y ∈ p.1.set) : View.canon (dzList (F := Ideal) f) = dzBlock C :=
  funext fun y => View.canon_apply_of_pieces (Val := Elt Ideal) (e := .bf16) (dzBlock C) _ (dzList_pieces f C hC) y (hcov y)

end Dz

/-! ### The heads' matrices -/

theorem ldHead_apply (x : Vec Ideal S4x128x128 .f32) (h : Fin 4) (inb) (i j : Fin 128) : ldHead x h.val inb (ix2 i j) = x (ix3 h i j) := by
  have key : ∀ v : FVec Ideal S1x128x128 .f32, shapeCast S128x128 v shapeCasts_S1x128x128_S128x128 (ix2 i j) = v (ix3 0 i j) := by
    intro v; pointwise []
  refine (key _).trans (congrArg x (funext fun a => Fin.ext ?_))
  match a with
  | ⟨0, _⟩ => show h.val + 1 * 0 = h.val; omega
  | ⟨1, _⟩ => show 0 + 1 * i.val = i.val; omega
  | ⟨2, _⟩ => show 0 + 1 * j.val = j.val; omega

theorem head_piece (a : FVec Ideal S128x128 .f32) (h : Fin 4) (inb : ∀ a, (![h.val, 0, 0] : Fin 3 → Nat) a + S1x128x128.size a ≤ S4x128x128.size a)
    (D : Fin 4 → Fin 128 → Fin 128 → EReal) (hD : ∀ i j, a (ix2 i j) = D h i j) (x : S1x128x128.Idx) :
    shapeCast S1x128x128 a shapeCasts_S128x128_S1x128x128 x =
      (fun y : S4x128x128.Idx => D (y 0) (y 1) (y 2)) ((Rect.unit (s := S4x128x128) ![h.val, 0, 0] S1x128x128.size inb).emb x) := by
  obtain ⟨z, i, j, rfl⟩ : ∃ z i j, x = ix3 z i j := ⟨_, _, _, eq_ix3 x⟩
  pointwise []
  rw [hD]
  have e0 : (Rect.unit (s := S4x128x128) ![h.val, 0, 0] S1x128x128.size inb).emb (ix3 z i j) = ix3 h i j := by
    refine funext fun a => Fin.ext ?_
    match a with
    | ⟨0, _⟩ => show h.val + 1 * z.val = h.val; omega
    | ⟨1, _⟩ => show 0 + 1 * i.val = i.val; omega
    | ⟨2, _⟩ => show 0 + 1 * j.val = j.val; omega
  rw [e0]; rfl

theorem head_mem (h : Fin 4) (inb : ∀ a, (![h.val, 0, 0] : Fin 3 → Nat) a + S1x128x128.size a ≤ S4x128x128.size a) (y : S4x128x128.Idx) (hy : y 0 = h) :
    y ∈ (Rect.unit (s := S4x128x128) ![h.val, 0, 0] S1x128x128.size inb).set := by
  rw [Rect.mem_set_unit]
  subst hy
  intro a
  match a with
  | ⟨0, _⟩ => show (y 0).val ≤ (y 0).val ∧ (y 0).val < (y 0).val + 1; omega
  | ⟨1, _⟩ => exact ⟨Nat.zero_le _, by show (y 1).val < 0 + 128; have : (y 1).val < 128 := (y 1).isLt; omega⟩
  | ⟨2, _⟩ => exact ⟨Nat.zero_le _, by show (y 2).val < 0 + 128; have : (y 2).val < 128 := (y 2).isLt; omega⟩

/-- The array the four heads' stores make. -/
theorem canon_dw (a0 a1 a2 a3 : FVec Ideal S128x128 .f32) (D : Fin 4 → Fin 128 → Fin 128 → EReal)
    (h0 : ∀ i j, a0 (ix2 i j) = D 0 i j) (h1 : ∀ i j, a1 (ix2 i j) = D 1 i j)
    (h2 : ∀ i j, a2 (ix2 i j) = D 2 i j) (h3 : ∀ i j, a3 (ix2 i j) = D 3 i j) (h : Fin 4) (i j : Fin 128) :
    View.canon (dwList (F := Ideal) a0 a1 a2 a3) (ix3 h i j) = D h i j := by
  refine View.canon_apply_of_pieces (Val := Elt Ideal) (e := .f32) (fun y : S4x128x128.Idx => D (y 0) (y 1) (y 2)) _ ?_ (ix3 h i j) ?_
  · intro p hp x
    unfold dwList at hp
    simp only [List.mem_cons, List.not_mem_nil, or_false] at hp
    rcases hp with rfl | rfl | rfl | rfl
    · exact head_piece a3 3 inb_S4x128x128_S1x128x128_3_0_0 D h3 x
    · exact head_piece a2 2 inb_S4x128x128_S1x128x128_2_0_0 D h2 x
    · exact head_piece a1 1 inb_S4x128x128_S1x128x128_1_0_0 D h1 x
    · exact head_piece a0 0 inb_S4x128x128_S1x128x128_0_0_0 D h0 x
  · unfold dwList
    match h with
    | ⟨0, _⟩ => exact ⟨_, List.mem_cons_of_mem _ (List.mem_cons_of_mem _ (List.mem_cons_of_mem _ List.mem_cons_self)), head_mem 0 inb_S4x128x128_S1x128x128_0_0_0 _ rfl⟩
    | ⟨1, _⟩ => exact ⟨_, List.mem_cons_of_mem _ (List.mem_cons_of_mem _ List.mem_cons_self), head_mem 1 inb_S4x128x128_S1x128x128_1_0_0 _ rfl⟩
    | ⟨2, _⟩ => exact ⟨_, List.mem_cons_of_mem _ List.mem_cons_self, head_mem 2 inb_S4x128x128_S1x128x128_2_0_0 _ rfl⟩
    | ⟨3, _⟩ => exact ⟨_, List.mem_cons_self, head_mem 3 inb_S4x128x128_S1x128x128_3_0_0 _ rfl⟩

/-! ### Sums over the points -/

/-- The sum over the chunks of the points up to `n`. -/
def upTo (f : Fin 64 → EReal) (n : ℕ) : EReal := ∑ i ∈ Finset.range (8 * (n + 1)), if h : i < 64 then f ⟨i, h⟩ else 0

theorem upTo_zero (f : Fin 64 → EReal) : upTo f 0 = ∑ k : Fin 8, f ⟨8 * 0 + k.val, by omega⟩ := by
  unfold upTo
  rw [show 8 * (0 + 1) = 8 from rfl, Finset.sum_range]
  refine Finset.sum_congr rfl fun k _ => ?_
  rw [dif_pos (by omega)]; congr 2; omega

theorem upTo_succ (f : Fin 64 → EReal) (n : ℕ) (hn : n + 1 < 8) :
    upTo f (n + 1) = upTo f n + ∑ k : Fin 8, f ⟨8 * (n + 1) + k.val, by omega⟩ := by
  unfold upTo
  rw [show 8 * (n + 1 + 1) = 8 * (n + 1) + 8 from by omega, Finset.sum_range_add]
  congr 1
  rw [Finset.sum_range]
  refine Finset.sum_congr rfl fun k _ => ?_
  rw [dif_pos (by omega)]

theorem upTo_seven (f : Fin 64 → EReal) : upTo f 7 = ∑ q, f q := by
  unfold upTo
  rw [show 8 * (7 + 1) = 64 from rfl, Finset.sum_range]
  refine Finset.sum_congr rfl fun k _ => ?_
  rw [dif_pos k.isLt]

end Cert.KernelIdeal.Sg

end
-- ==== Proof.Sg.Arrays.lean ====
/-
  The arrays the kernel leaves, over the extended reals: the blocks the windows read, the running sums over the points,
  and the five results, entry by entry.
-/
module

public import proofs.«01_k».proof.Proof.Sg.BlockSpec
public import proofs.«01_k».proof.Proof.Gen.KernelIdeal.Value
public import Idealize.ShloMosaic.Lib.StableHlo.Run

@[expose] public section

set_option maxHeartbeats 1000000

noncomputable section

namespace Cert.KernelIdeal.Sg

open Cert.KernelIdeal Cert.KernelIdeal.Gen Cert.KernelIdeal.Value Idealize.ShloMosaic Idealize.ShloMosaic.TcCoe Idealize.SL.Sem
open Idealize.ShloMosaic.Pipeline (Dat)
open Cert

variable (m : (ℓ : Loc nD τ sig) → Buf (Elt Ideal) ℓ) (c : Dev nD)

/-- The launched arguments. -/
abbrev A0 : S8192x768.Idx → EReal := m ((c : Thread nD τ).loc main_arg0)
abbrev A1 : S256.Idx → EReal := m ((c : Thread nD τ).loc main_arg1)
abbrev A2 : S256.Idx → EReal := m ((c : Thread nD τ).loc main_arg2)
abbrev A3 : S4x128x128.Idx → EReal := m ((c : Thread nD τ).loc main_arg3)
abbrev A4 : S4x128.Idx → EReal := m ((c : Thread nD τ).loc main_arg4)
abbrev A5 : S8192x256.Idx → EReal := m ((c : Thread nD τ).loc main_arg5)

/-- The arguments as plain functions. -/
def arr : SgSpec.Arrays where
  Z r k := A0 m c (ix2 r k)
  G l := A1 m c (ix1 l)
  B l := A2 m c (ix1 l)
  W h i j := A3 m c (ix3 h i j)
  T h i := A4 m c (ix2 h i)
  Y r l := A5 m c (ix2 r l)

theorem N8 : cfg0.N = 8 := N_0

/-! ### What the windows read -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)
theorem idx4 : ∀ t : Fin cfg0.N, win0_4.index t 0 = 0 ∧ win0_4.index t 1 = 0 :=
  (by decide +kernel : ∀ t : Fin grid0.N, win0_4.index t 0 = 0 ∧ win0_4.index t 1 = 0)

theorem iblk0 (t : Fin cfg0.N) (i : Fin 1024) (k : Fin 768) :
    (iblk m c 0 t : Vec Ideal S1024x768 .f32) (ix2 i k) = A0 m c (ix2 ⟨1024 * t.val + i.val, by have := t.isLt; have := N8; omega⟩ k) := by
  unfold iblk
  rw [View.read_apply]
  show V m c main_arg0 _ = _
  rw [V_main_arg0]
  refine congrArg (A0 m c) (funext fun a => Fin.ext ?_)
  match a with
  | ⟨0, _⟩ => show win0_0.index t 0 * 1024 + 1 * i.val = 1024 * t.val + i.val; rw [(idx0 t).1]; omega
  | ⟨1, _⟩ => show win0_0.index t 1 * 768 + 1 * k.val = k.val; rw [(idx0 t).2]; omega

theorem iblk5 (t : Fin cfg0.N) (i : Fin 1024) (k : Fin 256) :
    (iblk m c 5 t : Vec Ideal S1024x256 .f32) (ix2 i k) = A5 m c (ix2 ⟨1024 * t.val + i.val, by have := t.isLt; have := N8; omega⟩ k) := by
  unfold iblk
  rw [View.read_apply]
  show V m c main_arg5 _ = _
  rw [V_main_arg5]
  refine congrArg (A5 m c) (funext fun a => Fin.ext ?_)
  match a with
  | ⟨0, _⟩ => show win0_5.index t 0 * 1024 + 1 * i.val = 1024 * t.val + i.val; rw [(idx5 t).1]; omega
  | ⟨1, _⟩ => show win0_5.index t 1 * 256 + 1 * k.val = k.val; rw [(idx5 t).2]; omega

theorem iblk3 (t : Fin cfg0.N) (h : Fin 4) (i j : Fin 128) :
    (iblk m c 3 t : Vec Ideal S4x128x128 .f32) (ix3 h i j) = A3 m c (ix3 h i j) := by
  unfold iblk
  rw [View.read_apply]
  show V m c main_arg3 _ = _
  rw [V_main_arg3]
  refine congrArg (A3 m c) (funext fun a => Fin.ext ?_)
  match a with
  | ⟨0, _⟩ => show win0_3.index t 0 * 4 + 1 * h.val = h.val; rw [(idx3 t).1]; omega
  | ⟨1, _⟩ => show win0_3.index t 1 * 128 + 1 * i.val = i.val; rw [(idx3 t).2.1]; omega
  | ⟨2, _⟩ => show win0_3.index t 2 * 128 + 1 * j.val = j.val; rw [(idx3 t).2.2]; omega

/-- The host's rows of the norm's scale and shift, and its transposed and widened biases. -/
theorem V_g : V m c main_v2 = (broadcastInDim S1x256 ![1] bcast_S256_S1x256_1 (A1 m c) : Vec Ideal S1x256 .f32) := by
  unfold_abbrev_sides
  simp only [hostOps0, hostOps0_1, hostOps0_2, List.flatten_cons, List.flatten_nil, List.cons_append, List.nil_append, List.append_nil]
  after_results
theorem V_b : V m c main_v3 = (broadcastInDim S1x256 ![1] bcast_S256_S1x256_1 (A2 m c) : Vec Ideal S1x256 .f32) := by
  unfold_abbrev_sides
  simp only [hostOps0, hostOps0_1, hostOps0_2, List.flatten_cons, List.flatten_nil, List.cons_append, List.nil_append, List.append_nil]
  after_results
theorem V_t : V m c main_v1 = (pad S128x128 ![0, 0] ![0, 124] ![0, 0] (transpose S128x4 [1, 0] (A4 m c) transposes_S4x128_S128x4_1_0)
    (sitofp (F := Ideal) .f32 (constantI S_ 32 0#32)) pads_S128x4_S128x128_000_01240 h_S_ : Vec Ideal S128x128 .f32) := by
  unfold_abbrev_sides
  simp only [hostOps0, hostOps0_1, hostOps0_2, List.flatten_cons, List.flatten_nil, List.cons_append, List.nil_append, List.append_nil]
  after_results
  rfl

theorem iblk1 (t : Fin cfg0.N) (z : Fin 1) (k : Fin 256) :
    (iblk m c 1 t : Vec Ideal S1x256 .f32) (ix2 z k) = A1 m c (ix1 k) := by
  unfold iblk
  rw [View.read_apply]
  show V m c main_v2 _ = _
  rw [V_g]
  refine congrArg (A1 m c) (funext fun a => Fin.ext ?_)
  match a with
  | ⟨0, _⟩ => show win0_1.index t 1 * 256 + 1 * k.val = k.val; rw [(idx1 t).2]; omega

theorem iblk2 (t : Fin cfg0.N) (z : Fin 1) (k : Fin 256) :
    (iblk m c 2 t : Vec Ideal S1x256 .f32) (ix2 z k) = A2 m c (ix1 k) := by
  unfold iblk
  rw [View.read_apply]
  show V m c main_v3 _ = _
  rw [V_b]
  refine congrArg (A2 m c) (funext fun a => Fin.ext ?_)
  match a with
  | ⟨0, _⟩ => show win0_2.index t 1 * 256 + 1 * k.val = k.val; rw [(idx2 t).2]; omega

/-- A head's bias is a lane of the widened matrix. -/
theorem iblk4 (t : Fin cfg0.N) (i : Fin 128) (h : Fin 4) :
    (iblk m c 4 t : Vec Ideal S128x128 .f32) (ix2 i ⟨h.val, by omega⟩) = A4 m c (ix2 h i) := by
  have e : (iblk m c 4 t : Vec Ideal S128x128 .f32) (ix2 i ⟨h.val, by omega⟩) = (V m c main_v1 : Vec Ideal S128x128 .f32) (ix2 i ⟨h.val, by omega⟩) := by
    unfold iblk
    rw [View.read_apply]
    show V m c main_v1 _ = _
    refine congrArg (V m c main_v1) (funext fun a => Fin.ext ?_)
    match a with
    | ⟨0, _⟩ => show win0_4.index t 0 * 128 + 1 * i.val = i.val; rw [(idx4 t).1]; omega
    | ⟨1, _⟩ => show win0_4.index t 1 * 128 + 1 * h.val = h.val; rw [(idx4 t).2]; omega
  rw [e, V_t]
  pointwise []

/-! ### The chunks of a point's block -/

/-- The chunks the body reads at point `t`. -/
abbrev bk (t : Fin cfg0.N) : (r : ℕ) → r + 128 ≤ 1024 → In Ideal :=
  blockIn (iblk m c 0 t) (iblk m c 1 t) (iblk m c 2 t) (iblk m c 3 t) (iblk m c 4 t) (iblk m c 5 t)

/-- They are the launch's chunks `8 t`, …, `8 t + 7`. -/
theorem bk_spec (t : Fin cfg0.N) (k : Fin 8) :
    (bk m c t (128 * k.val) (by omega)).spec = (arr m c).chunk ⟨8 * t.val + k.val, by have := t.isLt; have := N8; omega⟩ := by
  have ht : t.val < 8 := by have := t.isLt; have := N8; omega
  have z0 : ∀ (o : ℕ) (ho : o + 256 ≤ 768) (i : Fin 128) (l : Fin 256),
      View.ld (iblk m c 0 t : Vec Ideal S1024x768 .f32) (rz (128 * k.val) o (by omega) ho) (ix2 i l)
        = A0 m c (ix2 ⟨128 * (8 * t.val + k.val) + i.val, by omega⟩ ⟨o + l.val, by omega⟩) := by
    intro o ho i l
    have := iblk0 m c t ⟨128 * k.val + i.val, by omega⟩ ⟨o + l.val, by omega⟩
    refine Eq.trans (congrArg (iblk m c 0 t : Vec Ideal S1024x768 .f32) (funext fun a => Fin.ext ?_)) (this.trans (congrArg (A0 m c) (funext fun a => Fin.ext ?_)))
    · match a with
      | ⟨0, _⟩ => show 128 * k.val + 1 * i.val = 128 * k.val + i.val; omega
      | ⟨1, _⟩ => show o + 1 * l.val = o + l.val; omega
    · match a with
      | ⟨0, _⟩ => show 1024 * t.val + (128 * k.val + i.val) = 128 * (8 * t.val + k.val) + i.val; omega
      | ⟨1, _⟩ => rfl
  have y0 : ∀ (i : Fin 128) (l : Fin 256), (bk m c t (128 * k.val) (by omega)).dy (ix2 i l)
      = A5 m c (ix2 ⟨128 * (8 * t.val + k.val) + i.val, by omega⟩ l) := by
    intro i l
    have := iblk5 m c t ⟨128 * k.val + i.val, by omega⟩ l
    refine Eq.trans (congrArg (iblk m c 5 t : Vec Ideal S1024x256 .f32) (funext fun a => Fin.ext ?_)) (this.trans (congrArg (A5 m c) (funext fun a => Fin.ext ?_)))
    · match a with
      | ⟨0, _⟩ => show 128 * k.val + 1 * i.val = 128 * k.val + i.val; omega
      | ⟨1, _⟩ => show 0 + 1 * l.val = l.val; omega
    · match a with
      | ⟨0, _⟩ => show 1024 * t.val + (128 * k.val + i.val) = 128 * (8 * t.val + k.val) + i.val; omega
      | ⟨1, _⟩ => rfl
  unfold SgSpec.Arrays.chunk
  show SgSpec.Chunk.mk _ _ _ _ _ _ _ _ = SgSpec.Chunk.mk _ _ _ _ _ _ _ _
  congr 1
  · funext i l; refine (z0 0 (by decide) i l).trans (congrArg (A0 m c) (funext fun a => Fin.ext ?_))
    match a with
    | ⟨0, _⟩ => rfl
    | ⟨1, _⟩ => show 0 + l.val = l.val; omega
  · funext i l; exact z0 256 (by decide) i l
  · funext i l; exact z0 512 (by decide) i l
  · funext i l; exact y0 i l
  · funext l; exact iblk1 m c t 0 l
  · funext l; exact iblk2 m c t 0 l
  · funext h i j
    match h with
    | 0 => exact (ldHead_apply _ 0 _ i j).trans (iblk3 m c t 0 i j)
    | 1 => exact (ldHead_apply _ 1 _ i j).trans (iblk3 m c t 1 i j)
    | 2 => exact (ldHead_apply _ 2 _ i j).trans (iblk3 m c t 2 i j)
    | 3 => exact (ldHead_apply _ 3 _ i j).trans (iblk3 m c t 3 i j)
  · funext h i; exact iblk4 m c t i h

/-- A sum over the point's chunks, read at an entry. -/
theorem sum_bk {S : Shape} (t : Fin cfg0.N) (f : In Ideal → FVec Ideal S .f32) (g : SgSpec.Chunk → EReal) (y : S.Idx) (h : ∀ x : In Ideal, f x y = g x.spec) :
    sum8 (fun r hr => f (bk m c t r hr)) y = ∑ k : Fin 8, g ((arr m c).chunk ⟨8 * t.val + k.val, by have := t.isLt; have := N8; omega⟩) := by
  rw [sum8_apply]
  exact Finset.sum_congr rfl fun k _ => (h _).trans (congrArg g (bk_spec m c t k))

/-! ### The points -/

theorem outs_A (t : Fin cfg0.N) (h : t.val = 0) : outsAt0 m c t.val t.isLt =
    (View.canon (dzList (bk m c t)), sum8 (fun r hr => (bk m c t r hr).dg), sum8 (fun r hr => (bk m c t r hr).db),
      View.canon (dwList (sum8 fun r hr => (bk m c t r hr).dw0) (sum8 fun r hr => (bk m c t r hr).dw1)
        (sum8 fun r hr => (bk m c t r hr).dw2) (sum8 fun r hr => (bk m c t r hr).dw3)), sum8 fun r hr => (bk m c t r hr).dbt) := by
  have h8 : t.val % 8 = 0 := by omega
  have h1 : ¬ 1 ≤ t.val := by omega
  rw [outsAt0_A m c t h8 h1 h8 h1 h8 h1 h8 h1 h8 h1 h8 h1 h8 h1, out_dz_A, out_dg_A, out_db_A, out_dw_A, out_dbt_A]

theorem outs_B (t : Fin cfg0.N) (h : t.val ≠ 0) (p : _) (hp : outsAt0 m c (t.val - 1) (Nat.lt_of_le_of_lt (Nat.sub_le _ _) t.isLt) = p) :
    outsAt0 m c t.val t.isLt =
    (View.canon (dzList (bk m c t)), addf p.2.1 (sum8 (fun r hr => (bk m c t r hr).dg)), addf p.2.2.1 (sum8 (fun r hr => (bk m c t r hr).db)),
      View.canon (dwList (addf (ldHead p.2.2.2.1 0 inb_S4x128x128_S1x128x128_0_0_0) (sum8 fun r hr => (bk m c t r hr).dw0))
        (addf (ldHead p.2.2.2.1 1 inb_S4x128x128_S1x128x128_1_0_0) (sum8 fun r hr => (bk m c t r hr).dw1))
        (addf (ldHead p.2.2.2.1 2 inb_S4x128x128_S1x128x128_2_0_0) (sum8 fun r hr => (bk m c t r hr).dw2))
        (addf (ldHead p.2.2.2.1 3 inb_S4x128x128_S1x128x128_3_0_0) (sum8 fun r hr => (bk m c t r hr).dw3))),
      addf p.2.2.2.2 (sum8 fun r hr => (bk m c t r hr).dbt)) := by
  have ht : t.val < 8 := by have := t.isLt; have := N8; omega
  have h8 : ¬ t.val % 8 = 0 := by omega
  have h1 : 1 ≤ t.val := by omega
  subst hp
  rw [outsAt0_B m c t h8 h1 h8 h1 h8 h1 h8 h1 h8 h1 h8 h1 h8 h1, out_dz_B, out_dg_B, out_db_B, out_dw_B, out_dbt_B]

/-- After a point the four accumulators hold the sums over the chunks so far. -/
structure Sums (n : ℕ) (p : Vec Ideal S1024x768 .bf16 × Vec Ideal S1x256 .f32 × Vec Ideal S1x256 .f32 × Vec Ideal S4x128x128 .f32 × Vec Ideal S128x128 .f32) : Prop where
  dg : ∀ (z : Fin 1) (l : Fin 256), p.2.1 (ix2 z l) = upTo (fun q => ((arr m c).chunk q).dg l) n
  db : ∀ (z : Fin 1) (l : Fin 256), p.2.2.1 (ix2 z l) = upTo (fun q => ((arr m c).chunk q).db l) n
  dw : ∀ (h : Fin 4) (i j : Fin 128), p.2.2.2.1 (ix3 h i j) = upTo (fun q => ((arr m c).chunk q).dw h i j) n
  dbt : ∀ (i k : Fin 128), p.2.2.2.2 (ix2 i k) = upTo (fun q => if h : k.val < 4 then ((arr m c).chunk q).dbt ⟨k.val, h⟩ i else 0) n

theorem sums : ∀ (n : ℕ) (hn : n < cfg0.N), Sums m c n (outsAt0 m c n hn) := by
  intro n
  induction n with
  | zero =>
    intro hn
    rw [outs_A m c ⟨0, hn⟩ rfl]
    constructor
    · intro z l; rw [upTo_zero]; exact sum_bk m c ⟨0, hn⟩ (fun x => x.dg) (fun C => C.dg l) _ fun x => x.dg_apply l z
    · intro z l; rw [upTo_zero]; exact sum_bk m c ⟨0, hn⟩ (fun x => x.db) (fun C => C.db l) _ fun x => x.db_apply l z
    · intro h i j
      rw [upTo_zero]
      refine canon_dw _ _ _ _ (fun h i j => ∑ k : Fin 8, ((arr m c).chunk ⟨8 * 0 + k.val, by omega⟩).dw h i j) ?_ ?_ ?_ ?_ h i j
      · intro i j; exact sum_bk m c ⟨0, hn⟩ (fun x => x.dw0) (fun C => C.dw 0 i j) _ fun x => x.dw0_apply i j
      · intro i j; exact sum_bk m c ⟨0, hn⟩ (fun x => x.dw1) (fun C => C.dw 1 i j) _ fun x => x.dw1_apply i j
      · intro i j; exact sum_bk m c ⟨0, hn⟩ (fun x => x.dw2) (fun C => C.dw 2 i j) _ fun x => x.dw2_apply i j
      · intro i j; exact sum_bk m c ⟨0, hn⟩ (fun x => x.dw3) (fun C => C.dw 3 i j) _ fun x => x.dw3_apply i j
    · intro i k; rw [upTo_zero]; exact sum_bk m c ⟨0, hn⟩ (fun x => x.dbt) (fun C => if h : k.val < 4 then C.dbt ⟨k.val, h⟩ i else 0) _ fun x => x.dbt_apply i k
  | succ n ih =>
    intro hn
    have hn8 : n + 1 < 8 := by have := N8; omega
    have ip := ih (by omega)
    revert ip
    generalize hp : outsAt0 m c n (by omega) = p
    intro ip
    rw [outs_B m c ⟨n + 1, hn⟩ (by show n + 1 ≠ 0; omega) p hp]
    constructor
    · intro z l; rw [upTo_succ _ _ hn8, ← ip.dg z l]
      exact congrArg (p.2.1 (ix2 z l) + ·) (sum_bk m c ⟨n + 1, hn⟩ (fun x => x.dg) (fun C => C.dg l) _ fun x => x.dg_apply l z)
    · intro z l; rw [upTo_succ _ _ hn8, ← ip.db z l]
      exact congrArg (p.2.2.1 (ix2 z l) + ·) (sum_bk m c ⟨n + 1, hn⟩ (fun x => x.db) (fun C => C.db l) _ fun x => x.db_apply l z)
    · intro h i j
      rw [upTo_succ _ _ hn8, ← ip.dw h i j]
      refine canon_dw _ _ _ _ (fun h i j => p.2.2.2.1 (ix3 h i j) + ∑ k : Fin 8, ((arr m c).chunk ⟨8 * (n + 1) + k.val, by omega⟩).dw h i j) ?_ ?_ ?_ ?_ h i j
      · intro i j; exact congrArg₂ (· + ·) (ldHead_apply p.2.2.2.1 0 _ i j) (sum_bk m c ⟨n + 1, hn⟩ (fun x => x.dw0) (fun C => C.dw 0 i j) _ fun x => x.dw0_apply i j)
      · intro i j; exact congrArg₂ (· + ·) (ldHead_apply p.2.2.2.1 1 _ i j) (sum_bk m c ⟨n + 1, hn⟩ (fun x => x.dw1) (fun C => C.dw 1 i j) _ fun x => x.dw1_apply i j)
      · intro i j; exact congrArg₂ (· + ·) (ldHead_apply p.2.2.2.1 2 _ i j) (sum_bk m c ⟨n + 1, hn⟩ (fun x => x.dw2) (fun C => C.dw 2 i j) _ fun x => x.dw2_apply i j)
      · intro i j; exact congrArg₂ (· + ·) (ldHead_apply p.2.2.2.1 3 _ i j) (sum_bk m c ⟨n + 1, hn⟩ (fun x => x.dw3) (fun C => C.dw 3 i j) _ fun x => x.dw3_apply i j)
    · intro i k; rw [upTo_succ _ _ hn8, ← ip.dbt i k]
      exact congrArg (p.2.2.2.2 (ix2 i k) + ·) (sum_bk m c ⟨n + 1, hn⟩ (fun x => x.dbt) (fun C => if h : k.val < 4 then C.dbt ⟨k.val, h⟩ i else 0) _ fun x => x.dbt_apply i k)

/-- Every point leaves its rows' gradient. -/
theorem dz_point (t : Fin cfg0.N) : (outsAt0 m c t.val t.isLt).1 = dzBlock fun k => (arr m c).chunk ⟨8 * t.val + k.val, by have := t.isLt; have := N8; omega⟩ := by
  have cov : ∀ y : S1024x768.Idx, ∃ pc ∈ dzList (bk m c t), y ∈ pc.1.set := by
    intro y
    by_cases h : t.val = 0
    · have h8 : t.val % 8 = 0 := by omega
      have h1 : ¬ 1 ≤ t.val := by omega
      exact cover_dz_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h8) (fun h => h1 ((hcond0_1 t).mp h)) ((hcond0_2 t).mpr h8) (fun h => h1 ((hcond0_3 t).mp h)) ((hcond0_4 t).mpr h8) (fun h => h1 ((hcond0_5 t).mp h)) ((hcond0_6 t).mpr h8) (fun h => h1 ((hcond0_7 t).mp h)) ((hcond0_8 t).mpr h8) (fun h => h1 ((hcond0_9 t).mp h)) ((hcond0_10 t).mpr h8) (fun h => h1 ((hcond0_11 t).mp h)) ((hcond0_12 t).mpr h8) (fun h => h1 ((hcond0_13 t).mp h)) _ _ _ _ _ _ y
    · have ht : t.val < 8 := by have := t.isLt; have := N8; omega
      have h8 : ¬ t.val % 8 = 0 := by omega
      have h1 : 1 ≤ t.val := by omega
      let p := outsAt0 m c (t.val - 1) (Nat.lt_of_le_of_lt (Nat.sub_le _ _) t.isLt)
      exact cover_dz_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h8 ((hcond0_0 t).mp h)) ((hcond0_1 t).mpr h1) (fun h => h8 ((hcond0_2 t).mp h)) ((hcond0_3 t).mpr h1) (fun h => h8 ((hcond0_4 t).mp h)) ((hcond0_5 t).mpr h1) (fun h => h8 ((hcond0_6 t).mp h)) ((hcond0_7 t).mpr h1) (fun h => h8 ((hcond0_8 t).mp h)) ((hcond0_9 t).mpr h1) (fun h => h8 ((hcond0_10 t).mp h)) ((hcond0_11 t).mpr h1) (fun h => h8 ((hcond0_12 t).mp h)) ((hcond0_13 t).mpr h1) _ _ _ _ _ _ p.2.1 p.2.2.1 p.2.2.2.1 p.2.2.2.2 y
  have key := canon_dz (bk m c t) _ (bk_spec m c t) cov
  by_cases h : t.val = 0
  · rw [outs_A m c t h]; exact key
  · rw [outs_B m c t h _ rfl]; exact key

/-! ### The arrays after the run -/

def rDz : S8192x768.Idx → EReal := fun y => (arr m c).dz (y 0) (y 1)
def rDg : S1x256.Idx → EReal := fun y => (arr m c).dg (y 1)
def rDb : S1x256.Idx → EReal := fun y => (arr m c).db (y 1)
def rDw : S4x128x128.Idx → EReal := fun y => (arr m c).dw (y 0) (y 1) (y 2)
def rDbt : S128x128.Idx → EReal := fun y => (arr m c).dbt (y 0) (y 1)

/-- The one point that writes an accumulator back. -/
def last : Fin cfg0.N := ⟨7, by have := N8; omega⟩

theorem last_of {t : Fin cfg0.N} (h : t.val % 8 = 7) : t = last := by
  have := t.isLt; have := N8; exact Fin.ext (show t.val = 7 by omega)

theorem last_dg : (outsAt0 m c last.val last.isLt).2.1 = rDg m c := by
  funext y
  have h := (sums m c 7 last.isLt).dg (y 0) (y 1)
  rw [upTo_seven] at h
  refine (congrArg _ (ix2_eta y).symm).trans h
theorem last_db : (outsAt0 m c last.val last.isLt).2.2.1 = rDb m c := by
  funext y
  have h := (sums m c 7 last.isLt).db (y 0) (y 1)
  rw [upTo_seven] at h
  refine (congrArg _ (ix2_eta y).symm).trans h
theorem last_dw : (outsAt0 m c last.val last.isLt).2.2.2.1 = rDw m c := by
  funext y
  have h := (sums m c 7 last.isLt).dw (y 0) (y 1) (y 2)
  rw [upTo_seven] at h
  refine (congrArg _ (ix3_eta y).symm).trans h
theorem last_dbt : (outsAt0 m c last.val last.isLt).2.2.2.2 = rDbt m c := by
  funext y
  have h := (sums m c 7 last.isLt).dbt (y 0) (y 1)
  rw [upTo_seven] at h
  refine (congrArg _ (ix2_eta y).symm).trans (h.trans ?_)
  show _ = (arr m c).dbt (y 0) (y 1)
  unfold SgSpec.Arrays.dbt
  by_cases hk : (y 1).val < 4
  · simp only [dif_pos hk]
  · simp only [dif_neg hk, Finset.sum_const_zero]

end Cert.KernelIdeal.Sg

end
-- ==== Proof.Sg.Final.lean ====
/-
  The arrays the kernel leaves after the run: the gradient of `z` by blocks of rows, the four accumulators whole.
-/
module

public import proofs.«01_k».proof.Proof.Sg.Arrays

@[expose] public section

set_option maxHeartbeats 1000000

noncomputable section

namespace Cert.KernelIdeal.Sg

open Cert.KernelIdeal Cert.KernelIdeal.Gen Cert.KernelIdeal.Value Idealize.ShloMosaic Idealize.ShloMosaic.TcCoe Idealize.SL.Sem
open Idealize.ShloMosaic.Pipeline (Dat)
open Cert

variable (m : (ℓ : Loc nD τ sig) → Buf (Elt Ideal) ℓ) (c : Dev nD)

theorem flushed_dz (t : Fin cfg0.N) (hf : (cfg0.win 6).flush t = true) :
    (dats m 0 c).flushed 6 t = ((cfg0.win 6).blk t).view.read (Elt Ideal) (rDz m c) := by
  have ht : t.val < 8 := by have := t.isLt; have := N8; omega
  show (cfg0.win 6).cut (grid0.coords t) ((dats m 0 c).after 6 t) = _
  rw [after0_6, dz_point]
  funext y
  rw [View.read_apply]
  show dzBlock _ y = rDz m c _
  have y0 : (y 0).val < 1024 := (y 0).isLt
  have e0 : ((((cfg0.win 6).blk t).view.emb y) 0 : ℕ) = 1024 * t.val + (y 0).val := by
    show win0_6.index t 0 * 1024 + 1 * (y 0).val = _; rw [(idx6 t).1]; omega
  have e1 : (((cfg0.win 6).blk t).view.emb y) 1 = y 1 := by
    apply Fin.ext; show win0_6.index t 1 * 768 + 1 * (y 1).val = (y 1).val; rw [(idx6 t).2]; omega
  unfold rDz
  rw [e1]
  generalize hr : (((cfg0.win 6).blk t).view.emb y) 0 = r at e0 ⊢
  have hr' : (r : ℕ) = 1024 * t.val + (y 0).val := e0
  unfold dzBlock dzOf SgSpec.Arrays.dz
  have q : (⟨8 * t.val + (y 0).val / 128, by omega⟩ : Fin 64) = ⟨r.val / 128, by omega⟩ := Fin.ext (by show 8 * t.val + (y 0).val / 128 = r.val / 128; omega)
  have i : (⟨(y 0).val % 128, by omega⟩ : Fin 128) = ⟨r.val % 128, by omega⟩ := Fin.ext (by show (y 0).val % 128 = r.val % 128; omega)
  simp only [q, i]

theorem final_dz : (dats m 0 c).arrAt 6 cfg0.N = rDz m c :=
  (dats m 0 c).arrAt_eq_of_cover 6 (rDz m c) (flushed_dz m c) fun i => by
    have i0 : (i 0 : ℕ) < 8192 := (i 0).isLt
    have i1 : (i 1 : ℕ) < 768 := (i 1).isLt
    refine ⟨⟨(i 0).val / 1024, by have := N8; omega⟩, flush0_6 _, ?_⟩
    generalize ht : (⟨(i 0).val / 1024, by have := N8; omega⟩ : Fin cfg0.N) = t
    have htv : t.val = (i 0).val / 1024 := by rw [← ht]
    show i ∈ ((View.whole main_v4_0).slice (win0_6.rect t)).set
    rw [View.set_slice_whole, Rect.mem_set_unit]
    intro a
    match a with
    | ⟨0, _⟩ => show win0_6.index t 0 * 1024 ≤ (i 0 : ℕ) ∧ (i 0 : ℕ) < win0_6.index t 0 * 1024 + 1024; rw [(idx6 t).1]; omega
    | ⟨1, _⟩ => show win0_6.index t 1 * 768 ≤ (i 1 : ℕ) ∧ (i 1 : ℕ) < win0_6.index t 1 * 768 + 768; rw [(idx6 t).2]; omega

theorem at_dg : win0_7.index last 0 = 0 ∧ win0_7.index last 1 = 0 := by decide +kernel

theorem flushed_dg (t : Fin cfg0.N) (hf : (cfg0.win 7).flush t = true) :
    (dats m 0 c).flushed 7 t = ((cfg0.win 7).blk t).view.read (Elt Ideal) (rDg m c) := by
  obtain rfl := last_of ((flush0_7 t).mp hf)
  show (cfg0.win 7).cut (grid0.coords last) ((dats m 0 c).after 7 last) = _
  rw [after0_7, last_dg]
  funext y
  rw [View.read_apply]
  show rDg m c _ = rDg m c _
  obtain ⟨i0, i1⟩ := at_dg
  refine congrArg (rDg m c) (funext fun a => Fin.ext ?_)
  match a with
  | ⟨0, _⟩ => show (y 0).val = win0_7.index last 0 * 1 + 1 * (y 0).val; rw [i0]; omega
  | ⟨1, _⟩ => show (y 1).val = win0_7.index last 1 * 256 + 1 * (y 1).val; rw [i1]; omega

theorem final_dg : (dats m 0 c).arrAt 7 cfg0.N = rDg m c :=
  (dats m 0 c).arrAt_eq_of_cover 7 (rDg m c) (flushed_dg m c) fun i => by
    refine ⟨last, (flush0_7 last).mpr rfl, ?_⟩
    obtain ⟨i0, i1⟩ := at_dg
    show i ∈ ((View.whole main_v4_1).slice (win0_7.rect last)).set
    rw [View.set_slice_whole, Rect.mem_set_unit]
    intro a
    match a with
    | ⟨0, _⟩ => have b : (i 0 : ℕ) < 1 := (i 0).isLt; show win0_7.index last 0 * 1 ≤ (i 0 : ℕ) ∧ (i 0 : ℕ) < win0_7.index last 0 * 1 + 1; rw [i0]; omega
    | ⟨1, _⟩ => have b : (i 1 : ℕ) < 256 := (i 1).isLt; show win0_7.index last 1 * 256 ≤ (i 1 : ℕ) ∧ (i 1 : ℕ) < win0_7.index last 1 * 256 + 256; rw [i1]; omega

theorem at_db : win0_8.index last 0 = 0 ∧ win0_8.index last 1 = 0 := by decide +kernel

theorem flushed_db (t : Fin cfg0.N) (hf : (cfg0.win 8).flush t = true) :
    (dats m 0 c).flushed 8 t = ((cfg0.win 8).blk t).view.read (Elt Ideal) (rDb m c) := by
  obtain rfl := last_of ((flush0_8 t).mp hf)
  show (cfg0.win 8).cut (grid0.coords last) ((dats m 0 c).after 8 last) = _
  rw [after0_8, last_db]
  funext y
  rw [View.read_apply]
  show rDb m c _ = rDb m c _
  obtain ⟨i0, i1⟩ := at_db
  refine congrArg (rDb m c) (funext fun a => Fin.ext ?_)
  match a with
  | ⟨0, _⟩ => show (y 0).val = win0_8.index last 0 * 1 + 1 * (y 0).val; rw [i0]; omega
  | ⟨1, _⟩ => show (y 1).val = win0_8.index last 1 * 256 + 1 * (y 1).val; rw [i1]; omega

theorem final_db : (dats m 0 c).arrAt 8 cfg0.N = rDb m c :=
  (dats m 0 c).arrAt_eq_of_cover 8 (rDb m c) (flushed_db m c) fun i => by
    refine ⟨last, (flush0_8 last).mpr rfl, ?_⟩
    obtain ⟨i0, i1⟩ := at_db
    show i ∈ ((View.whole main_v4_2).slice (win0_8.rect last)).set
    rw [View.set_slice_whole, Rect.mem_set_unit]
    intro a
    match a with
    | ⟨0, _⟩ => have b : (i 0 : ℕ) < 1 := (i 0).isLt; show win0_8.index last 0 * 1 ≤ (i 0 : ℕ) ∧ (i 0 : ℕ) < win0_8.index last 0 * 1 + 1; rw [i0]; omega
    | ⟨1, _⟩ => have b : (i 1 : ℕ) < 256 := (i 1).isLt; show win0_8.index last 1 * 256 ≤ (i 1 : ℕ) ∧ (i 1 : ℕ) < win0_8.index last 1 * 256 + 256; rw [i1]; omega

theorem at_dw : win0_9.index last 0 = 0 ∧ win0_9.index last 1 = 0 ∧ win0_9.index last 2 = 0 := by decide +kernel

theorem flushed_dw (t : Fin cfg0.N) (hf : (cfg0.win 9).flush t = true) :
    (dats m 0 c).flushed 9 t = ((cfg0.win 9).blk t).view.read (Elt Ideal) (rDw m c) := by
  obtain rfl := last_of ((flush0_9 t).mp hf)
  show (cfg0.win 9).cut (grid0.coords last) ((dats m 0 c).after 9 last) = _
  rw [after0_9, last_dw]
  funext y
  rw [View.read_apply]
  show rDw m c _ = rDw m c _
  obtain ⟨i0, i1, i2⟩ := at_dw
  refine congrArg (rDw m c) (funext fun a => Fin.ext ?_)
  match a with
  | ⟨0, _⟩ => show (y 0).val = win0_9.index last 0 * 4 + 1 * (y 0).val; rw [i0]; omega
  | ⟨1, _⟩ => show (y 1).val = win0_9.index last 1 * 128 + 1 * (y 1).val; rw [i1]; omega
  | ⟨2, _⟩ => show (y 2).val = win0_9.index last 2 * 128 + 1 * (y 2).val; rw [i2]; omega

theorem final_dw : (dats m 0 c).arrAt 9 cfg0.N = rDw m c :=
  (dats m 0 c).arrAt_eq_of_cover 9 (rDw m c) (flushed_dw m c) fun i => by
    refine ⟨last, (flush0_9 last).mpr rfl, ?_⟩
    obtain ⟨i0, i1, i2⟩ := at_dw
    show i ∈ ((View.whole main_v4_3).slice (win0_9.rect last)).set
    rw [View.set_slice_whole, Rect.mem_set_unit]
    intro a
    match a with
    | ⟨0, _⟩ => have b : (i 0 : ℕ) < 4 := (i 0).isLt; show win0_9.index last 0 * 4 ≤ (i 0 : ℕ) ∧ (i 0 : ℕ) < win0_9.index last 0 * 4 + 4; rw [i0]; omega
    | ⟨1, _⟩ => have b : (i 1 : ℕ) < 128 := (i 1).isLt; show win0_9.index last 1 * 128 ≤ (i 1 : ℕ) ∧ (i 1 : ℕ) < win0_9.index last 1 * 128 + 128; rw [i1]; omega
    | ⟨2, _⟩ => have b : (i 2 : ℕ) < 128 := (i 2).isLt; show win0_9.index last 2 * 128 ≤ (i 2 : ℕ) ∧ (i 2 : ℕ) < win0_9.index last 2 * 128 + 128; rw [i2]; omega

theorem at_dbt : win0_10.index last 0 = 0 ∧ win0_10.index last 1 = 0 := by decide +kernel

theorem flushed_dbt (t : Fin cfg0.N) (hf : (cfg0.win 10).flush t = true) :
    (dats m 0 c).flushed 10 t = ((cfg0.win 10).blk t).view.read (Elt Ideal) (rDbt m c) := by
  obtain rfl := last_of ((flush0_10 t).mp hf)
  show (cfg0.win 10).cut (grid0.coords last) ((dats m 0 c).after 10 last) = _
  rw [after0_10, last_dbt]
  funext y
  rw [View.read_apply]
  show rDbt m c _ = rDbt m c _
  obtain ⟨i0, i1⟩ := at_dbt
  refine congrArg (rDbt m c) (funext fun a => Fin.ext ?_)
  match a with
  | ⟨0, _⟩ => show (y 0).val = win0_10.index last 0 * 128 + 1 * (y 0).val; rw [i0]; omega
  | ⟨1, _⟩ => show (y 1).val = win0_10.index last 1 * 128 + 1 * (y 1).val; rw [i1]; omega

theorem final_dbt : (dats m 0 c).arrAt 10 cfg0.N = rDbt m c :=
  (dats m 0 c).arrAt_eq_of_cover 10 (rDbt m c) (flushed_dbt m c) fun i => by
    refine ⟨last, (flush0_10 last).mpr rfl, ?_⟩
    obtain ⟨i0, i1⟩ := at_dbt
    show i ∈ ((View.whole main_v4_4).slice (win0_10.rect last)).set
    rw [View.set_slice_whole, Rect.mem_set_unit]
    intro a
    match a with
    | ⟨0, _⟩ => have b : (i 0 : ℕ) < 128 := (i 0).isLt; show win0_10.index last 0 * 128 ≤ (i 0 : ℕ) ∧ (i 0 : ℕ) < win0_10.index last 0 * 128 + 128; rw [i0]; omega
    | ⟨1, _⟩ => have b : (i 1 : ℕ) < 128 := (i 1).isLt; show win0_10.index last 1 * 128 ≤ (i 1 : ℕ) ∧ (i 1 : ℕ) < win0_10.index last 1 * 128 + 128; rw [i1]; omega

end Cert.KernelIdeal.Sg

end
-- ==== Proof.Sg.RefRead.lean ====
/-
  The reference, read entry by entry: every array of its straight line is the plain function of `Spec.lean` at the chunk
  and the row that the entry belongs to.
-/
module

public import proofs.«01_k».proof.Proof.Gen.ReferenceIdeal.Read
public import proofs.«01_k».proof.Proof.Sg.Spec
public import Idealize.ShloMosaic.Lib.Tactic
public import Idealize.ShloMosaic.Lib.Pointwise
public import Idealize.ShloMosaic.Lib.WordCmp

@[expose] public section

noncomputable section

namespace Cert.ReferenceIdeal.Sg

open Cert.ReferenceIdeal Cert.ReferenceIdeal.Gen Cert.ReferenceIdeal.Read Idealize.ShloMosaic Idealize.ShloMosaic.TcCoe Idealize.SL.Sem
open Cert

/-! ### Sums over several axes -/

/-- A host sum over some axes, started at zero, is the sum over any numbering of the entries that fall on the result's entry. -/
theorem hostReduceAdd_eq_sum {s t : Shape} {axes : List (Fin s.rank)} (h : s.ReducesTo axes t) (x : s.Idx → EReal) (j : t.Idx)
    {ι : Type} [Fintype ι] (e : ι → s.Idx) (inj : Function.Injective e) (on : ∀ k, h.drop (e k) = j)
    (onto : ∀ i, h.drop i = j → ∃ k, e k = i) : Ideal.hostReduceAdd h x 0 j = ∑ k, x (e k) := by
  unfold Ideal.hostReduceAdd
  rw [zero_add]
  symm
  refine Finset.sum_bij (fun k _ => e k) (fun k _ => by simp [on]) (fun a _ b _ hab => inj hab) (fun i hi => ?_) (fun _ _ => rfl)
  obtain ⟨k, rfl⟩ := onto i (by simpa using hi)
  exact ⟨k, Finset.mem_univ _, rfl⟩

/-- The chunk and the row in the chunk of row `s` of sequence `b`. -/
def qOf (b : Fin 2) (s : Fin 4096) : Fin 64 := ⟨32 * b.val + s.val / 128, by omega⟩
def iOf (s : Fin 4096) : Fin 128 := ⟨s.val % 128, by omega⟩

/-- A sum over the rows of both sequences is the sum over the chunks and their rows. -/
theorem sum_rows (f : Fin 64 → Fin 128 → EReal) : (∑ k : Fin 2 × Fin 4096, f (qOf k.1 k.2) (iOf k.2)) = ∑ q, ∑ i, f q i := by
  rw [← Fintype.sum_prod_type (f := fun p : Fin 64 × Fin 128 => f p.1 p.2)]
  refine Fintype.sum_equiv ⟨fun k => (qOf k.1 k.2, iOf k.2),
    fun p => (⟨p.1.val / 32, by omega⟩, ⟨p.1.val % 32 * 128 + p.2.val, by omega⟩), ?_, ?_⟩ _ _ (fun _ => rfl)
  · rintro ⟨b, s⟩
    simp only [qOf, iOf, Prod.mk.injEq, Fin.ext_iff]; omega
  · rintro ⟨q, i⟩
    simp only [qOf, iOf, Prod.mk.injEq, Fin.ext_iff]; omega

/-- Chunk `n` of sequence `b`. -/
def qAt (b : Fin 2) (n : Fin 32) : Fin 64 := ⟨32 * b.val + n.val, by omega⟩

theorem sum_chunks (f : Fin 64 → Fin 64 → EReal) :
    (∑ k : Fin 2 × Fin 32 × Fin 64, f (qAt k.1 k.2.1) k.2.2) = ∑ q, ∑ d, f q d := by
  rw [← Fintype.sum_prod_type (f := fun p : Fin 64 × Fin 64 => f p.1 p.2)]
  refine Fintype.sum_equiv ⟨fun k => (qAt k.1 k.2.1, k.2.2),
    fun p => (⟨p.1.val / 32, by omega⟩, ⟨p.1.val % 32, by omega⟩, p.2), ?_, ?_⟩ _ _ (fun _ => rfl)
  · rintro ⟨b, n, d⟩
    simp only [qAt, Prod.mk.injEq, Fin.ext_iff, and_true]; omega
  · rintro ⟨q, d⟩
    simp only [qAt, Prod.mk.injEq, Fin.ext_iff, and_true]; omega

/-! ### The arguments -/

variable (x0 : (⟨S8192x768, .f32⟩ : BufTy).Contents (Elt Ideal)) (x1 x2 : (⟨S256, .f32⟩ : BufTy).Contents (Elt Ideal))
  (x3 : (⟨S4x128x128, .f32⟩ : BufTy).Contents (Elt Ideal)) (x4 : (⟨S4x128, .f32⟩ : BufTy).Contents (Elt Ideal))
  (x5 : (⟨S8192x256, .f32⟩ : BufTy).Contents (Elt Ideal))

/-- The arguments as plain functions. -/
def arrays : SgSpec.Arrays where
  Z r k := x0 (ix2 r k)
  G l := x1 (ix1 l)
  B l := x2 (ix1 l)
  W h i j := x3 (ix3 h i j)
  T h i := x4 (ix2 h i)
  Y r l := x5 (ix2 r l)

theorem row_eq (b : Fin 2) (s : Fin 4096) : SgSpec.rowOf (qOf b s) (iOf s) = ⟨b.val * 4096 + s.val, by omega⟩ := by
  simp only [SgSpec.rowOf, qOf, iOf, Fin.ext_iff]; omega

theorem v1_apply (b : Fin 2) (s : Fin 4096) (l : Fin 256) : val_main_v1 (F := Ideal) x0 (ix3 b s l) = ((arrays x0 x1 x2 x3 x4 x5).chunk (qOf b s)).U (iOf s) l := by
  pointwise [val_main_v1, val_main_v0]
  simp only [SgSpec.Arrays.chunk, row_eq]; rfl
theorem v2_apply (b : Fin 2) (s : Fin 4096) (l : Fin 256) : val_main_v2 (F := Ideal) x0 (ix3 b s l) = ((arrays x0 x1 x2 x3 x4 x5).chunk (qOf b s)).V (iOf s) l := by
  pointwise [val_main_v2, val_main_v0]
  simp only [SgSpec.Arrays.chunk, row_eq]; rfl
theorem v3_apply (b : Fin 2) (s : Fin 4096) (l : Fin 256) : val_main_v3 (F := Ideal) x0 (ix3 b s l) = ((arrays x0 x1 x2 x3 x4 x5).chunk (qOf b s)).Gt (iOf s) l := by
  pointwise [val_main_v3, val_main_v0]
  simp only [SgSpec.Arrays.chunk, row_eq]; rfl
theorem v86_apply (b : Fin 2) (s : Fin 4096) (l : Fin 256) : val_main_v86 (F := Ideal) x5 (ix3 b s l) = ((arrays x0 x1 x2 x3 x4 x5).chunk (qOf b s)).Y (iOf s) l := by
  pointwise [val_main_v86]
  simp only [SgSpec.Arrays.chunk, row_eq]; rfl

/-! ### The activations -/

theorem v14_apply (b : Fin 2) (s : Fin 4096) (l : Fin 256) :
    val_main_v14 (F := Ideal) x0 (ix3 b s l) = SgSpec.gth (((arrays x0 x1 x2 x3 x4 x5).chunk (qOf b s)).U (iOf s) l) := by
  pointwise [val_main_v14, val_main_v13, val_main_v12, val_main_cst_1, val_main_v11, val_main_v10, val_main_v9, val_main_cst_0, val_main_v5, val_main_v4]
  rw [v1_apply x0 x1 x2 x3 x4 x5, mul_assoc (((arrays x0 x1 x2 x3 x4 x5).chunk (qOf b s)).U (iOf s) l)]; rfl
theorem v23_apply (b : Fin 2) (s : Fin 4096) (l : Fin 256) :
    val_main_v23 (F := Ideal) x0 (ix3 b s l) = SgSpec.gfac (((arrays x0 x1 x2 x3 x4 x5).chunk (qOf b s)).U (iOf s) l) := by
  pointwise [val_main_v23, val_main_v22, val_main_cst_5, val_main_v21, val_main_v20, val_main_cst_4]
  rw [v14_apply x0 x1 x2 x3 x4 x5]; rfl
theorem v24_apply (b : Fin 2) (s : Fin 4096) (l : Fin 256) :
    val_main_v24 (F := Ideal) x0 (ix3 b s l) = SgSpec.gelu (((arrays x0 x1 x2 x3 x4 x5).chunk (qOf b s)).U (iOf s) l) := by
  pointwise [val_main_v24]
  rw [v23_apply x0 x1 x2 x3 x4 x5, v1_apply x0 x1 x2 x3 x4 x5]; rfl
theorem v35_apply (b : Fin 2) (s : Fin 4096) (l : Fin 256) :
    val_main_v35 (F := Ideal) x0 (ix3 b s l) = SgSpec.gth (((arrays x0 x1 x2 x3 x4 x5).chunk (qOf b s)).V (iOf s) l) := by
  pointwise [val_main_v35, val_main_v34, val_main_v33, val_main_cst_8, val_main_v32, val_main_v31, val_main_v30, val_main_cst_7, val_main_v26, val_main_v25]
  rw [v2_apply x0 x1 x2 x3 x4 x5, mul_assoc (((arrays x0 x1 x2 x3 x4 x5).chunk (qOf b s)).V (iOf s) l)]; rfl
theorem v44_apply (b : Fin 2) (s : Fin 4096) (l : Fin 256) :
    val_main_v44 (F := Ideal) x0 (ix3 b s l) = SgSpec.gfac (((arrays x0 x1 x2 x3 x4 x5).chunk (qOf b s)).V (iOf s) l) := by
  pointwise [val_main_v44, val_main_v43, val_main_cst_12, val_main_v42, val_main_v41, val_main_cst_11]
  rw [v35_apply x0 x1 x2 x3 x4 x5]; rfl
theorem v45_apply (b : Fin 2) (s : Fin 4096) (l : Fin 256) :
    val_main_v45 (F := Ideal) x0 (ix3 b s l) = SgSpec.gelu (((arrays x0 x1 x2 x3 x4 x5).chunk (qOf b s)).V (iOf s) l) := by
  pointwise [val_main_v45]
  rw [v44_apply x0 x1 x2 x3 x4 x5, v2_apply x0 x1 x2 x3 x4 x5]; rfl

/-! ### The norm -/

theorem v51_apply (b : Fin 2) (s : Fin 4096) (l : Fin 256) :
    val_main_v51 (F := Ideal) x0 (ix3 b s l) = SgSpec.xc (((arrays x0 x1 x2 x3 x4 x5).chunk (qOf b s)).V (iOf s)) l := by
  pointwise [val_main_v51, val_main_v50, val_main_v49, val_main_v48, val_main_cst_14, val_main_v47, val_main_v46, val_main_cst_13]
  simp only [v45_apply x0 x1 x2 x3 x4 x5]; rfl
theorem v58_apply (b : Fin 2) (s : Fin 4096) (z : Fin 1) :
    val_main_v58 (F := Ideal) x0 (ix3 b s z) = SgSpec.vareps (((arrays x0 x1 x2 x3 x4 x5).chunk (qOf b s)).V (iOf s)) := by
  pointwise [val_main_v58, val_main_v57, val_main_cst_17, val_main_v56, val_main_v55, val_main_cst_16, val_main_v54, val_main_v53, val_main_cst_15, val_main_v52]
  simp only [v51_apply x0 x1 x2 x3 x4 x5]; rfl
theorem v59_apply (b : Fin 2) (s : Fin 4096) (z : Fin 1) :
    val_main_v59 (F := Ideal) x0 (ix3 b s z) = SgSpec.rs (((arrays x0 x1 x2 x3 x4 x5).chunk (qOf b s)).V (iOf s)) := by
  pointwise [val_main_v59]
  rw [v58_apply x0 x1 x2 x3 x4 x5]; rfl
theorem v62_apply (b : Fin 2) (s : Fin 4096) (z : Fin 1) :
    val_main_v62 (F := Ideal) x0 (ix3 b s z) = SgSpec.drs (((arrays x0 x1 x2 x3 x4 x5).chunk (qOf b s)).V (iOf s)) := by
  pointwise [val_main_v62, val_main_v61, val_main_cst_18, val_main_v60]
  rw [v58_apply x0 x1 x2 x3 x4 x5, v59_apply x0 x1 x2 x3 x4 x5]; rfl
theorem v64_apply (b : Fin 2) (s : Fin 4096) (l : Fin 256) :
    val_main_v64 (F := Ideal) x0 (ix3 b s l) = SgSpec.nrm (((arrays x0 x1 x2 x3 x4 x5).chunk (qOf b s)).V (iOf s)) l := by
  pointwise [val_main_v64, val_main_v63]
  rw [v51_apply x0 x1 x2 x3 x4 x5, v59_apply x0 x1 x2 x3 x4 x5]; rfl
theorem v70_apply (b : Fin 2) (s : Fin 4096) (l : Fin 256) :
    val_main_v70 (F := Ideal) x0 x1 x2 (ix3 b s l) = ((arrays x0 x1 x2 x3 x4 x5).chunk (qOf b s)).vn (iOf s) l := by
  pointwise [val_main_v70, val_main_v67, val_main_v66, val_main_v65, val_main_v68, val_main_v69]
  rw [v64_apply x0 x1 x2 x3 x4 x5]; rfl

/-! ### The mixing -/

theorem qOf_at (b : Fin 2) (n : Fin 32) (i : Fin 128) (h : n.val * 128 + i.val < 4096) : qOf b ⟨n.val * 128 + i.val, h⟩ = qAt b n := by
  simp only [qOf, qAt, Fin.ext_iff]; omega
theorem iOf_at (n : Fin 32) (i : Fin 128) (h : n.val * 128 + i.val < 4096) : iOf ⟨n.val * 128 + i.val, h⟩ = i := by
  simp only [iOf, Fin.ext_iff]; omega
theorem lane_eq (h : Fin 4) (d : Fin 64) (hl : h.val * 64 + d.val < 256) : (⟨h.val * 64 + d.val, hl⟩ : Fin 256) = SgSpec.lane h d := by
  simp only [SgSpec.lane, Fin.ext_iff]; omega
theorem lane_hd (l : Fin 256) (h1 : l.val / 64 < 4) (h2 : l.val % 64 < 64) : SgSpec.lane ⟨l.val / 64, h1⟩ ⟨l.val % 64, h2⟩ = l := by
  simp only [SgSpec.lane, Fin.ext_iff]; omega
theorem qAt_div (b : Fin 2) (s : Fin 4096) (h : s.val / 128 < 32) : qAt b ⟨s.val / 128, h⟩ = qOf b s := rfl

theorem v71_apply (b : Fin 2) (n : Fin 32) (i : Fin 128) (h : Fin 4) (d : Fin 64) :
    val_main_v71 (F := Ideal) x0 x1 x2 (ix5 b n i h d) = ((arrays x0 x1 x2 x3 x4 x5).chunk (qAt b n)).vn i (SgSpec.lane h d) := by
  pointwise [val_main_v71]
  rw [v70_apply x0 x1 x2 x3 x4 x5, qOf_at, iOf_at, lane_eq]

/-- The causal mask. -/
theorem mask_select (i j : Fin 128) (a b : EReal) :
    Scalar.select (Scalar.select (IntOp.cmpi CmpIPredicate.sge (IntOp.addi (BitVec.ofNat 32 i.val) 0#32) (BitVec.ofNat 32 j.val)) 1#1 0#1) a b =
      if j ≤ i then a else b := by
  have e1 : IntOp.addi (BitVec.ofNat 32 i.val) 0#32 = BitVec.ofNat 32 i.val := by simp [IntOp.addi]
  rw [e1, WordCmp.cmpi_sge_ofNat (by omega) (by omega)]
  by_cases hij : j.val ≤ i.val
  · rw [if_pos (show j ≤ i from hij), decide_eq_true hij]; rfl
  · rw [if_neg (show ¬ j ≤ i from hij), decide_eq_false hij]; rfl

theorem v74_0_apply (h : Fin 4) (i j : Fin 128) (q : Fin 64) :
    val_main_v74_0 (F := Ideal) x3 (ix3 h i j) = ((arrays x0 x1 x2 x3 x4 x5).chunk q).wt h i j := by
  pointwise [val_main_v74_0, val_main_v74_1, val_main_call1_v2, val_main_call1_v0, val_main_cst_19, val_main_v73, val_main_v72, val_main_c, val_main_call0_v4, val_main_call0_v2, val_main_call0_v0, val_main_call0_v1, val_main_call0_c, val_main_call0_v3, val_main_call0_v5, val_main_call0_c_0]
  have e2 : (id (constant (F := Ideal) S_ FTy.f32 0#32) ix0 : EReal) = 0 := by
    show Ideal.ofBits .f32 0#32 = (0 : EReal); exact Ideal.ofBits_zero .f32
  rw [mask_select, e2]; rfl

theorem v82_apply (b : Fin 2) (s : Fin 4096) (l : Fin 256) :
    val_main_v82 (F := Ideal) x0 x1 x2 x3 x4 (ix3 b s l) = ((arrays x0 x1 x2 x3 x4 x5).chunk (qOf b s)).mix (iOf s) l := by
  pointwise [val_main_v82, val_main_v81, val_main_v80, val_main_v79, val_main_v78, val_main_v77, val_main_v76, val_main_v75]
  simp only [v71_apply x0 x1 x2 x3 x4 x5, v74_0_apply x0 x1 x2 x3 x4 x5 _ _ _ (qOf b s), lane_hd, qAt_div]
  unfold SgSpec.Chunk.mix
  congr 1
  exact Finset.sum_congr rfl fun j _ => mul_comm _ _

/-! ### The gate and the cotangents -/

theorem v84_2_apply (b : Fin 2) (s : Fin 4096) (l : Fin 256) :
    val_main_v84_2 (F := Ideal) x0 (ix3 b s l) = Ideal.logistic (((arrays x0 x1 x2 x3 x4 x5).chunk (qOf b s)).Gt (iOf s) l) := by
  pointwise [val_main_v84_2, val_main_call2_v4, val_main_call2_cst_0, val_main_call2_v3, val_main_call2_v2, val_main_call2_cst, val_main_call2_v1, val_main_call2_v0]
  rw [v3_apply x0 x1 x2 x3 x4 x5]; rfl
theorem v88_apply (b : Fin 2) (s : Fin 4096) (l : Fin 256) :
    val_main_v88 (F := Ideal) x0 x5 (ix3 b s l) = ((arrays x0 x1 x2 x3 x4 x5).chunk (qOf b s)).dgated (iOf s) l := by
  pointwise [val_main_v88, val_main_v84_0]
  rw [v84_2_apply x0 x1 x2 x3 x4 x5, v86_apply x0 x1 x2 x3 x4 x5, v3_apply x0 x1 x2 x3 x4 x5]; rfl
theorem v87_apply (b : Fin 2) (s : Fin 4096) (l : Fin 256) :
    val_main_v87 (F := Ideal) x0 x1 x2 x3 x4 x5 (ix3 b s l) =
      SgSpec.gelu (((arrays x0 x1 x2 x3 x4 x5).chunk (qOf b s)).U (iOf s) l) * ((arrays x0 x1 x2 x3 x4 x5).chunk (qOf b s)).mix (iOf s) l * ((arrays x0 x1 x2 x3 x4 x5).chunk (qOf b s)).Y (iOf s) l := by
  pointwise [val_main_v87, val_main_v83]
  rw [v24_apply x0 x1 x2 x3 x4 x5, v82_apply x0 x1 x2 x3 x4 x5, v86_apply x0 x1 x2 x3 x4 x5]
theorem v89_apply (b : Fin 2) (s : Fin 4096) (l : Fin 256) :
    val_main_v89 (F := Ideal) x0 x1 x2 x3 x4 x5 (ix3 b s l) = ((arrays x0 x1 x2 x3 x4 x5).chunk (qOf b s)).dgt (iOf s) l := by
  pointwise [val_main_v89, val_main_call3_v1, val_main_call3_v2, val_main_call3_v0, val_main_v84_1, val_main_call2_v7, val_main_call2_v6, val_main_call2_cst_1]
  rw [v87_apply x0 x1 x2 x3 x4 x5, v84_2_apply x0 x1 x2 x3 x4 x5, v3_apply x0 x1 x2 x3 x4 x5]; rfl
theorem v91_apply (b : Fin 2) (s : Fin 4096) (l : Fin 256) :
    val_main_v91 (F := Ideal) x0 x1 x2 x3 x4 x5 (ix3 b s l) = ((arrays x0 x1 x2 x3 x4 x5).chunk (qOf b s)).dgated (iOf s) l * ((arrays x0 x1 x2 x3 x4 x5).chunk (qOf b s)).mix (iOf s) l := by
  pointwise [val_main_v91]
  rw [v88_apply x0 x1 x2 x3 x4 x5, v82_apply x0 x1 x2 x3 x4 x5]
theorem v90_apply (b : Fin 2) (s : Fin 4096) (l : Fin 256) :
    val_main_v90 (F := Ideal) x0 x5 (ix3 b s l) = ((arrays x0 x1 x2 x3 x4 x5).chunk (qOf b s)).ds (iOf s) l := by
  pointwise [val_main_v90]
  rw [v88_apply x0 x1 x2 x3 x4 x5, v24_apply x0 x1 x2 x3 x4 x5]; rfl
theorem v92_apply (b : Fin 2) (n : Fin 32) (i : Fin 128) (h : Fin 4) (d : Fin 64) :
    val_main_v92 (F := Ideal) x0 x5 (ix5 b n i h d) = ((arrays x0 x1 x2 x3 x4 x5).chunk (qAt b n)).ds i (SgSpec.lane h d) := by
  pointwise [val_main_v92]
  rw [v90_apply x0 x1 x2 x3 x4 x5, qOf_at, iOf_at, lane_eq]
theorem v104_apply (b : Fin 2) (s : Fin 4096) (l : Fin 256) :
    val_main_v104 (F := Ideal) x0 x3 x5 (ix3 b s l) = ((arrays x0 x1 x2 x3 x4 x5).chunk (qOf b s)).dvn (iOf s) l := by
  pointwise [val_main_v104, val_main_v102, val_main_v101, val_main_v99]
  simp only [v92_apply x0 x1 x2 x3 x4 x5, v74_0_apply x0 x1 x2 x3 x4 x5 _ _ _ (qOf b s), lane_hd, qAt_div]
  exact Finset.sum_congr rfl fun j _ => mul_comm _ _

/-! ### The weights' gradients -/

theorem zero_eq : (constant (F := Ideal) S_ .f32 0x00000000#32) ix0 = (0 : EReal) := by
  show Ideal.ofBits .f32 0#32 = (0 : EReal); exact Ideal.ofBits_zero .f32

theorem v93_apply (i : Fin 128) (h : Fin 4) :
    val_main_v93 (F := Ideal) x0 x5 (ix2 i h) = ∑ q, ((arrays x0 x1 x2 x3 x4 x5).chunk q).dbt h i := by
  have key := hostReduceAdd_eq_sum reducesTo_S2x32x128x4x64_S128x4_d0_1_4 (val_main_v92 (F := Ideal) x0 x5) (ix2 i h)
    (fun k : Fin 2 × Fin 32 × Fin 64 => (ix5 k.1 k.2.1 i h k.2.2 : S2x32x128x4x64.Idx))
    (fun a b hab => Prod.ext (congrFun hab 0) (Prod.ext (congrFun hab 1) (congrFun hab 4)))
    (fun k => funext fun a => match a with
      | ⟨0, _⟩ => Fin.ext (Shape.ReducesTo.drop_apply_val _ _ 0)
      | ⟨1, _⟩ => Fin.ext (Shape.ReducesTo.drop_apply_val _ _ 1))
    (fun y hy => ⟨(y 0, y 1, y 4), funext fun a => match a with
      | ⟨0, _⟩ => rfl
      | ⟨1, _⟩ => rfl
      | ⟨2, _⟩ => Fin.ext ((congrArg Fin.val (congrFun hy 0)).symm.trans (Shape.ReducesTo.drop_apply_val _ _ 0))
      | ⟨3, _⟩ => Fin.ext ((congrArg Fin.val (congrFun hy 1)).symm.trans (Shape.ReducesTo.drop_apply_val _ _ 1))
      | ⟨4, _⟩ => rfl⟩)
  have h0 : val_main_v93 (F := Ideal) x0 x5 (ix2 i h) =
      Ideal.hostReduceAdd reducesTo_S2x32x128x4x64_S128x4_d0_1_4 (val_main_v92 (F := Ideal) x0 x5) 0 (ix2 i h) := by
    rw [← zero_eq]; rfl
  rw [h0, key]
  simp only [v92_apply x0 x1 x2 x3 x4 x5]
  exact sum_chunks fun q d => ((arrays x0 x1 x2 x3 x4 x5).chunk q).ds i (SgSpec.lane h d)

/-- A host sum of a three-axis array over its first two axes. -/
theorem sum01 (x : S2x4096x256.Idx → EReal) (l : Fin 256) (f : Fin 64 → Fin 128 → EReal)
    (hx : ∀ b s, x (ix3 b s l) = f (qOf b s) (iOf s)) :
    Ideal.hostReduceAdd reducesTo_S2x4096x256_S256_d0_1 x 0 (ix1 l) = ∑ q, ∑ i, f q i := by
  rw [hostReduceAdd_eq_sum reducesTo_S2x4096x256_S256_d0_1 x (ix1 l)
    (fun k : Fin 2 × Fin 4096 => (ix3 k.1 k.2 l : S2x4096x256.Idx))
    (fun a b hab => Prod.ext (congrFun hab 0) (congrFun hab 1))
    (fun k => funext fun a => match a with
      | ⟨0, _⟩ => Fin.ext (Shape.ReducesTo.drop_apply_val _ _ 0))
    (fun y hy => ⟨(y 0, y 1), funext fun a => match a with
      | ⟨0, _⟩ => rfl
      | ⟨1, _⟩ => rfl
      | ⟨2, _⟩ => Fin.ext ((congrArg Fin.val (congrFun hy 0)).symm.trans (Shape.ReducesTo.drop_apply_val _ _ 0))⟩)]
  simp only [hx]
  exact sum_rows f

theorem v105_apply (l : Fin 256) :
    val_main_v105 (F := Ideal) x0 x3 x5 (ix1 l) = (arrays x0 x1 x2 x3 x4 x5).db l := by
  have h0 : val_main_v105 (F := Ideal) x0 x3 x5 (ix1 l) =
      Ideal.hostReduceAdd reducesTo_S2x4096x256_S256_d0_1 (val_main_v104 (F := Ideal) x0 x3 x5) 0 (ix1 l) := by
    rw [← zero_eq]; rfl
  rw [h0]
  exact sum01 _ l (fun q i => ((arrays x0 x1 x2 x3 x4 x5).chunk q).dvn i l) fun b s => v104_apply x0 x1 x2 x3 x4 x5 b s l

theorem v109_apply (l : Fin 256) :
    val_main_v109 (F := Ideal) x0 x3 x5 (ix1 l) = (arrays x0 x1 x2 x3 x4 x5).dg l := by
  have h0 : val_main_v109 (F := Ideal) x0 x3 x5 (ix1 l) =
      Ideal.hostReduceAdd reducesTo_S2x4096x256_S256_d0_1 (val_main_v108 (F := Ideal) x0 x3 x5) 0 (ix1 l) := by
    rw [← zero_eq]; rfl
  rw [h0]
  refine sum01 _ l (fun q i => SgSpec.nrm (((arrays x0 x1 x2 x3 x4 x5).chunk q).V i) l * ((arrays x0 x1 x2 x3 x4 x5).chunk q).dvn i l) fun b s => ?_
  pointwise [val_main_v108]
  rw [v104_apply x0 x1 x2 x3 x4 x5, v64_apply x0 x1 x2 x3 x4 x5]

local notation "D3" => dot_S4x2x32x64x128_S2x32x128x4x64_S4x128x128_123_014_4_2_0_3

/-- The triple of coordinates of an index over the three contracted axes. -/
def tripleIdx (p : Fin 2 × Fin 32 × Fin 64) : DotDims.contr D3 |>.Idx := fun a => match a with
  | ⟨0, _⟩ => p.1
  | ⟨1, _⟩ => p.2.1
  | ⟨2, _⟩ => p.2.2

def tripleEquiv : Fin 2 × Fin 32 × Fin 64 ≃ (DotDims.contr D3).Idx where
  toFun := tripleIdx
  invFun q := (q ⟨0, by decide⟩, q ⟨1, by decide⟩, q ⟨2, by decide⟩)
  left_inv p := rfl
  right_inv q := funext fun a => match a with
    | ⟨0, _⟩ => rfl
    | ⟨1, _⟩ => rfl
    | ⟨2, _⟩ => rfl

theorem lhs3 (h : Fin 4) (i j : Fin 128) (p : Fin 2 × Fin 32 × Fin 64) :
    (DotDims.lhsIdx D3 (ix3 h i j) (tripleIdx p) : S4x2x32x64x128.Idx) = ix5 h p.1 p.2.1 p.2.2 i := by
  funext a
  match a with
  | ⟨0, _⟩ => rfl
  | ⟨1, _⟩ => rfl
  | ⟨2, _⟩ => rfl
  | ⟨3, _⟩ => rfl
  | ⟨4, _⟩ => rfl
theorem rhs3 (h : Fin 4) (i j : Fin 128) (p : Fin 2 × Fin 32 × Fin 64) :
    (DotDims.rhsIdx D3 (ix3 h i j) (tripleIdx p) : S2x32x128x4x64.Idx) = ix5 p.1 p.2.1 j h p.2.2 := by
  funext a
  match a with
  | ⟨0, _⟩ => rfl
  | ⟨1, _⟩ => rfl
  | ⟨2, _⟩ => rfl
  | ⟨3, _⟩ => rfl
  | ⟨4, _⟩ => rfl

theorem v99_apply (h : Fin 4) (b : Fin 2) (n : Fin 32) (d : Fin 64) (i : Fin 128) :
    val_main_v99 (F := Ideal) x0 x5 (ix5 h b n d i) = ((arrays x0 x1 x2 x3 x4 x5).chunk (qAt b n)).ds i (SgSpec.lane h d) := by
  pointwise [val_main_v99]
  rw [v92_apply x0 x1 x2 x3 x4 x5]

theorem v100_apply (h : Fin 4) (i j : Fin 128) :
    val_main_v100 (F := Ideal) x0 x1 x2 x5 (ix3 h i j) = ∑ q, ((arrays x0 x1 x2 x3 x4 x5).chunk q).dwFull h i j := by
  have h0 : val_main_v100 (F := Ideal) x0 x1 x2 x5 (ix3 h i j) = ∑ k : (DotDims.contr D3).Idx,
      val_main_v99 (F := Ideal) x0 x5 (DotDims.lhsIdx D3 (ix3 h i j) k) * val_main_v71 (F := Ideal) x0 x1 x2 (DotDims.rhsIdx D3 (ix3 h i j) k) := by
    unfold val_main_v100
    exact Ideal.dotGeneral_apply ..
  rw [h0, ← Equiv.sum_comp tripleEquiv]
  have h1 : ∀ p : Fin 2 × Fin 32 × Fin 64,
      val_main_v99 (F := Ideal) x0 x5 (DotDims.lhsIdx D3 (ix3 h i j) (tripleEquiv p)) * val_main_v71 (F := Ideal) x0 x1 x2 (DotDims.rhsIdx D3 (ix3 h i j) (tripleEquiv p)) =
        ((arrays x0 x1 x2 x3 x4 x5).chunk (qAt p.1 p.2.1)).ds i (SgSpec.lane h p.2.2) * ((arrays x0 x1 x2 x3 x4 x5).chunk (qAt p.1 p.2.1)).vn j (SgSpec.lane h p.2.2) := fun p => by
    show val_main_v99 (F := Ideal) x0 x5 (DotDims.lhsIdx D3 (ix3 h i j) (tripleIdx p)) * val_main_v71 (F := Ideal) x0 x1 x2 (DotDims.rhsIdx D3 (ix3 h i j) (tripleIdx p)) = _
    rw [lhs3, rhs3, v99_apply x0 x1 x2 x3 x4 x5, v71_apply x0 x1 x2 x3 x4 x5]
  simp only [h1]
  exact sum_chunks fun q d => ((arrays x0 x1 x2 x3 x4 x5).chunk q).ds i (SgSpec.lane h d) * ((arrays x0 x1 x2 x3 x4 x5).chunk q).vn j (SgSpec.lane h d)

/-! ### The norm's backward pass -/

theorem v112_apply (b : Fin 2) (s : Fin 4096) (l : Fin 256) :
    val_main_v112 (F := Ideal) x0 x1 x3 x5 (ix3 b s l) =
      ((arrays x0 x1 x2 x3 x4 x5).chunk (qOf b s)).dvn (iOf s) l * ((arrays x0 x1 x2 x3 x4 x5).chunk (qOf b s)).G l := by
  pointwise [val_main_v112, val_main_v111, val_main_v65]
  rw [v104_apply x0 x1 x2 x3 x4 x5]; rfl

/-- The cotangent of the normalised row before the scale. -/
def dxrow (c : SgSpec.Chunk) (i : Fin 128) : Fin 256 → EReal := fun k => c.dvn i k * c.G k

theorem v122_apply (b : Fin 2) (s : Fin 4096) :
    val_main_v122 (F := Ideal) x0 x1 x3 x5 (ix2 b s) =
      SgSpec.qv (((arrays x0 x1 x2 x3 x4 x5).chunk (qOf b s)).V (iOf s)) (dxrow ((arrays x0 x1 x2 x3 x4 x5).chunk (qOf b s)) (iOf s)) := by
  pointwise [val_main_v122, val_main_cst_29, val_main_v121, val_main_v120, val_main_cst_28, val_main_v119, val_main_v116, val_main_v115, val_main_cst_27, val_main_v114]
  simp only [v62_apply x0 x1 x2 x3 x4 x5, v51_apply x0 x1 x2 x3 x4 x5, v112_apply x0 x1 x2 x3 x4 x5, Fin.sum_univ_one]; rfl

theorem v127_apply (b : Fin 2) (s : Fin 4096) (l : Fin 256) :
    val_main_v127 (F := Ideal) x0 x1 x3 x5 (ix3 b s l) =
      SgSpec.dxc (((arrays x0 x1 x2 x3 x4 x5).chunk (qOf b s)).V (iOf s)) (dxrow ((arrays x0 x1 x2 x3 x4 x5).chunk (qOf b s)) (iOf s)) l := by
  pointwise [val_main_v127, val_main_v126, val_main_v125, val_main_v124, val_main_v123, val_main_v118, val_main_v117]
  rw [v122_apply x0 x1 x2 x3 x4 x5, v51_apply x0 x1 x2 x3 x4 x5, v112_apply x0 x1 x2 x3 x4 x5, v59_apply x0 x1 x2 x3 x4 x5]; rfl

theorem v135_apply (b : Fin 2) (s : Fin 4096) (l : Fin 256) :
    val_main_v135 (F := Ideal) x0 x1 x3 x5 (ix3 b s l) =
      SgSpec.normBwd (((arrays x0 x1 x2 x3 x4 x5).chunk (qOf b s)).V (iOf s)) (dxrow ((arrays x0 x1 x2 x3 x4 x5).chunk (qOf b s)) (iOf s)) l := by
  pointwise [val_main_v135, val_main_v134, val_main_v133, val_main_cst_32, val_main_v132, val_main_v131, val_main_cst_31, val_main_v130, val_main_v129, val_main_cst_30, val_main_v128]
  simp only [v127_apply x0 x1 x2 x3 x4 x5, Fin.sum_univ_one]; rfl

/-! ### The gradient of `z` -/

theorem v147_apply (b : Fin 2) (s : Fin 4096) (l : Fin 256) :
    val_main_v147 (F := Ideal) x0 x1 x3 x5 (ix3 b s l) = ((arrays x0 x1 x2 x3 x4 x5).chunk (qOf b s)).dv (iOf s) l := by
  pointwise [val_main_v147, val_main_v146, val_main_v145, val_main_v144, val_main_cst_35, val_main_v143, val_main_v142, val_main_v141, val_main_cst_34, val_main_v140, val_main_v139, val_main_v138, val_main_cst_33, val_main_v137, val_main_v136, val_main_v40, val_main_v39, val_main_v38, val_main_v37, val_main_v36, val_main_v29, val_main_v28, val_main_v27, val_main_cst_6, val_main_cst_9, val_main_cst_10]
  rw [v135_apply x0 x1 x2 x3 x4 x5, v2_apply x0 x1 x2 x3 x4 x5, v44_apply x0 x1 x2 x3 x4 x5, v35_apply x0 x1 x2 x3 x4 x5]; rfl
theorem v159_apply (b : Fin 2) (s : Fin 4096) (l : Fin 256) :
    val_main_v159 (F := Ideal) x0 x1 x2 x3 x4 x5 (ix3 b s l) = ((arrays x0 x1 x2 x3 x4 x5).chunk (qOf b s)).du (iOf s) l := by
  pointwise [val_main_v159, val_main_v158, val_main_v157, val_main_v156, val_main_cst_38, val_main_v155, val_main_v154, val_main_v153, val_main_cst_37, val_main_v152, val_main_v151, val_main_v150, val_main_cst_36, val_main_v149, val_main_v148, val_main_v19, val_main_v18, val_main_v17, val_main_v16, val_main_v15, val_main_v8, val_main_v7, val_main_v6, val_main_cst, val_main_cst_2, val_main_cst_3]
  rw [v91_apply x0 x1 x2 x3 x4 x5, v1_apply x0 x1 x2 x3 x4 x5, v23_apply x0 x1 x2 x3 x4 x5, v14_apply x0 x1 x2 x3 x4 x5]; rfl

theorem rowQ (r : Fin 8192) (h1 : r.val / 4096 < 2) (h2 : r.val % 4096 < 4096) :
    qOf ⟨r.val / 4096, h1⟩ ⟨r.val % 4096, h2⟩ = ⟨r.val / 128, by omega⟩ := by
  simp only [qOf, Fin.ext_iff]; omega
theorem rowI (r : Fin 8192) (h2 : r.val % 4096 < 4096) : iOf ⟨r.val % 4096, h2⟩ = ⟨r.val % 128, by omega⟩ := by
  simp only [iOf, Fin.ext_iff]; omega

/-- The reference's results. -/
theorem dz_apply (r : Fin 8192) (k : Fin 768) :
    val_main_v162 (F := Ideal) x0 x1 x2 x3 x4 x5 (ix2 r k) = (arrays x0 x1 x2 x3 x4 x5).dz r k := by
  pointwise [val_main_v162, val_main_v161, val_main_v160]
  unfold SgSpec.Arrays.dz
  simp only [v159_apply x0 x1 x2 x3 x4 x5, v147_apply x0 x1 x2 x3 x4 x5, v89_apply x0 x1 x2 x3 x4 x5, rowQ, rowI]

/-- A host sum of a row over two axes of length one. -/
theorem sum01_one (x : S1x1x256.Idx → EReal) (l : Fin 256) :
    Ideal.hostReduceAdd reducesTo_S1x1x256_S256_d0_1 x 0 (ix1 l) = x (ix3 0 0 l) := by
  rw [hostReduceAdd_eq_sum reducesTo_S1x1x256_S256_d0_1 x (ix1 l) (fun _ : Fin 1 => (ix3 0 0 l : S1x1x256.Idx))
    (fun a b _ => Subsingleton.elim a b)
    (fun k => funext fun a => match a with
      | ⟨0, _⟩ => Fin.ext (Shape.ReducesTo.drop_apply_val _ _ 0))
    (fun y hy => ⟨0, funext fun a => match a with
      | ⟨0, _⟩ => (Subsingleton.elim (α := Fin 1) _ _)
      | ⟨1, _⟩ => (Subsingleton.elim (α := Fin 1) _ _)
      | ⟨2, _⟩ => Fin.ext ((congrArg Fin.val (congrFun hy 0)).symm.trans (Shape.ReducesTo.drop_apply_val _ _ 0))⟩)]
  simp

theorem dg_apply (z : Fin 1) (l : Fin 256) : val_main_v163 (F := Ideal) x0 x3 x5 (ix2 z l) = (arrays x0 x1 x2 x3 x4 x5).dg l := by
  pointwise [val_main_v163]
  have h0 : val_main_v113 (F := Ideal) x0 x3 x5 (ix1 l) =
      Ideal.hostReduceAdd reducesTo_S1x1x256_S256_d0_1 (val_main_v110 (F := Ideal) x0 x3 x5) 0 (ix1 l) := by
    rw [← zero_eq]; rfl
  rw [h0, sum01_one]
  pointwise [val_main_v110]
  exact v109_apply x0 x1 x2 x3 x4 x5 l

theorem db_apply (z : Fin 1) (l : Fin 256) : val_main_v164 (F := Ideal) x0 x3 x5 (ix2 z l) = (arrays x0 x1 x2 x3 x4 x5).db l := by
  pointwise [val_main_v164]
  have h0 : val_main_v107 (F := Ideal) x0 x3 x5 (ix1 l) =
      Ideal.hostReduceAdd reducesTo_S1x1x256_S256_d0_1 (val_main_v106 (F := Ideal) x0 x3 x5) 0 (ix1 l) := by
    rw [← zero_eq]; rfl
  rw [h0, sum01_one]
  pointwise [val_main_v106]
  exact v105_apply x0 x1 x2 x3 x4 x5 l

theorem dw_apply (h : Fin 4) (i j : Fin 128) : val_main_v103 (F := Ideal) x0 x1 x2 x5 (ix3 h i j) = (arrays x0 x1 x2 x3 x4 x5).dw h i j := by
  pointwise [val_main_v103, val_main_v74_1, val_main_call4_v0, val_main_v73, val_main_v72, val_main_c, val_main_call0_v4, val_main_call0_v2, val_main_call0_v0, val_main_call0_v1, val_main_call0_c, val_main_call0_v3, val_main_call0_v5, val_main_call0_c_0]
  have e : val_main_call4_cst (F := Ideal) ix0 = (0 : EReal) := zero_eq
  rw [mask_select, v100_apply x0 x1 x2 x3 x4 x5, e]
  unfold SgSpec.Arrays.dw SgSpec.Chunk.dw
  by_cases hij : j ≤ i
  · simp only [if_pos hij]
  · simp only [if_neg hij, Finset.sum_const_zero]

/-- A host sum of the biases' gradient over three axes of length one. -/
theorem sum014_one (x : S1x1x128x4x1.Idx → EReal) (i : Fin 128) (h : Fin 4) :
    Ideal.hostReduceAdd reducesTo_S1x1x128x4x1_S128x4_d0_1_4 x 0 (ix2 i h) = x (ix5 0 0 i h 0) := by
  rw [hostReduceAdd_eq_sum reducesTo_S1x1x128x4x1_S128x4_d0_1_4 x (ix2 i h) (fun _ : Fin 1 => (ix5 0 0 i h 0 : S1x1x128x4x1.Idx))
    (fun a b _ => Subsingleton.elim a b)
    (fun k => funext fun a => match a with
      | ⟨0, _⟩ => Fin.ext (Shape.ReducesTo.drop_apply_val _ _ 0)
      | ⟨1, _⟩ => Fin.ext (Shape.ReducesTo.drop_apply_val _ _ 1))
    (fun y hy => ⟨0, funext fun a => match a with
      | ⟨0, _⟩ => (Subsingleton.elim (α := Fin 1) _ _)
      | ⟨1, _⟩ => (Subsingleton.elim (α := Fin 1) _ _)
      | ⟨2, _⟩ => Fin.ext ((congrArg Fin.val (congrFun hy 0)).symm.trans (Shape.ReducesTo.drop_apply_val _ _ 0))
      | ⟨3, _⟩ => Fin.ext ((congrArg Fin.val (congrFun hy 1)).symm.trans (Shape.ReducesTo.drop_apply_val _ _ 1))
      | ⟨4, _⟩ => (Subsingleton.elim (α := Fin 1) _ _)⟩)]
  simp

theorem v95_apply (i : Fin 128) (h : Fin 4) :
    val_main_v95 (F := Ideal) x0 x5 (ix2 i h) = ∑ q, ((arrays x0 x1 x2 x3 x4 x5).chunk q).dbt h i := by
  have h0 : val_main_v95 (F := Ideal) x0 x5 (ix2 i h) =
      Ideal.hostReduceAdd reducesTo_S1x1x128x4x1_S128x4_d0_1_4 (val_main_v94 (F := Ideal) x0 x5) 0 (ix2 i h) := by
    rw [← zero_eq]; rfl
  rw [h0, sum014_one]
  pointwise [val_main_v94]
  exact v93_apply x0 x1 x2 x3 x4 x5 i h

theorem dbt_apply (i k : Fin 128) : val_main_v166 (F := Ideal) x0 x5 (ix2 i k) = (arrays x0 x1 x2 x3 x4 x5).dbt i k := by
  pointwise [val_main_v166, val_main_v165, val_main_v98, val_main_v97, val_main_v96]
  have e : val_main_cst_22 (F := Ideal) (Shape.Idx.first h_S_) = (0 : EReal) := by
    show Ideal.ofBits .f32 0#32 = (0 : EReal); exact Ideal.ofBits_zero .f32
  have e' : val_main_call5_v0 (F := Ideal) (Shape.Idx.first h_S_) = (0 : EReal) := by
    show FloatOps.sitofp (F := Ideal) .f32 (0#32) = (0 : EReal)
    show (((0#32 : BitVec 32).toInt : ℝ) : EReal) = 0; simp
  simp only [v95_apply x0 x1 x2 x3 x4 x5, Fin.sum_univ_one, e, e', zero_add]
  rfl

end Cert.ReferenceIdeal.Sg

end
-- ==== Proof.Sg.Claims.lean ====
/-
  The claims about the gradient of the spatial gating: the three frames, and that the kernel's five arrays are the
  reference's over the extended reals.
-/
module

public import proofs.«01_k».proof.Defs
public import proofs.«01_k».proof.Proof.Sg.Final
public import proofs.«01_k».proof.Proof.Sg.RefRead
public import proofs.«01_k».proof.Proof.Gen.ReferenceIdeal.Run
public import proofs.«01_k».proof.Proof.Gen.Kernel.Frame

@[expose] public section

set_option maxHeartbeats 1000000

noncomputable section

namespace Cert.Sg

open Idealize.ShloMosaic Idealize.ShloMosaic.TcCoe Idealize.SL.Sem
open Cert.KernelIdeal.Sg Idealize.ShloMosaic.StableHlo

theorem frame_kernel : Cert.quiescent_Kernel := fun m ρ _ => Cert.Kernel.Gen.frame m ρ

theorem frame_ideal : Cert.quiescent_KernelIdeal := fun m ρ _ => Cert.KernelIdeal.Gen.frame m ρ

/-- The reference is a line of host operations on a machine without semaphores. -/
theorem frame_reference : Cert.quiescent_ReferenceIdeal := fun m ρ _ =>
  (θ_run Cert.ReferenceIdeal.defs _ _).mono (fun r h =>
    ⟨fun c => (h c).2.2.2.2.2, sem_eq_zero_of_no_sems (by decide) r.2⟩) (Cert.ReferenceIdeal.Value.run m ρ)

theorem preserves : Cert.preserves_Kernel_KernelIdeal := trivial

/-- The two programs' arguments read the same arrays. -/
theorem arrays_eq (m : (ℓ : Loc Cert.KernelIdeal.nD Cert.KernelIdeal.τ Cert.KernelIdeal.sig) → Buf (Elt Ideal) ℓ) (c : Dev Cert.KernelIdeal.nD) :
    Cert.ReferenceIdeal.Sg.arrays (A0 m c) (A1 m c) (A2 m c) (A3 m c) (A4 m c) (A5 m c) = arr m c := rfl

/-- Each of the reference's five results is the kernel's. -/
theorem algebraic : Cert.algebraic_KernelIdeal_ReferenceIdeal := by
  intro m g m' g' _ hagree
  refine ⟨rDz m, rDg m, rDb m, rDw m, rDbt m, ?_, ?_⟩
  · refine (θ_run Cert.KernelIdeal.defs _ _).mono (fun r h c => ?_) (Cert.KernelIdeal.Value.run_blocks m g)
    obtain ⟨h0, h1, h2, h3, h4, hk⟩ := h c
    exact ⟨h0.trans (final_dz m c), h1.trans (final_dg m c), h2.trans (final_db m c), h3.trans (final_dw m c),
      h4.trans (final_dbt m c), hk⟩
  · refine (θ_run Cert.ReferenceIdeal.defs _ _).mono (fun r h c => ?_) (Cert.ReferenceIdeal.Value.run m' g')
    obtain ⟨h0, h1, h2, h3, h4, hk⟩ := h c
    obtain ⟨a0, a1, a2, a3, a4, a5⟩ := hagree c
    have e0 : launchContents m' c (Proc.devRef .tc Cert.ReferenceIdeal.main_arg0) = A0 m c := a0
    have e1 : launchContents m' c (Proc.devRef .tc Cert.ReferenceIdeal.main_arg1) = A1 m c := a1
    have e2 : launchContents m' c (Proc.devRef .tc Cert.ReferenceIdeal.main_arg2) = A2 m c := a2
    have e3 : launchContents m' c (Proc.devRef .tc Cert.ReferenceIdeal.main_arg3) = A3 m c := a3
    have e4 : launchContents m' c (Proc.devRef .tc Cert.ReferenceIdeal.main_arg4) = A4 m c := a4
    have e5 : launchContents m' c (Proc.devRef .tc Cert.ReferenceIdeal.main_arg5) = A5 m c := a5
    refine ⟨(h0.trans (Cert.ReferenceIdeal.Read.val_main_v162_eq _)).trans ?_, (h1.trans (Cert.ReferenceIdeal.Read.val_main_v163_eq _)).trans ?_,
      (h2.trans (Cert.ReferenceIdeal.Read.val_main_v164_eq _)).trans ?_, (h3.trans (Cert.ReferenceIdeal.Read.val_main_v103_eq _)).trans ?_,
      (h4.trans (Cert.ReferenceIdeal.Read.val_main_v166_eq _)).trans ?_, hk⟩
    all_goals simp only [e0, e1, e2, e3, e4, e5]
    · funext y
      refine (congrArg _ (ix2_eta y).symm).trans (Cert.ReferenceIdeal.Sg.dz_apply (A0 m c) (A1 m c) (A2 m c) (A3 m c) (A4 m c) (A5 m c) (y 0) (y 1))
    · funext y
      refine (congrArg _ (ix2_eta y).symm).trans (Cert.ReferenceIdeal.Sg.dg_apply (A0 m c) (A1 m c) (A2 m c) (A3 m c) (A4 m c) (A5 m c) (y 0) (y 1))
    · funext y
      refine (congrArg _ (ix2_eta y).symm).trans (Cert.ReferenceIdeal.Sg.db_apply (A0 m c) (A1 m c) (A2 m c) (A3 m c) (A4 m c) (A5 m c) (y 0) (y 1))
    · funext y
      refine (congrArg _ (ix3_eta y).symm).trans (Cert.ReferenceIdeal.Sg.dw_apply (A0 m c) (A1 m c) (A2 m c) (A3 m c) (A4 m c) (A5 m c) (y 0) (y 1) (y 2))
    · funext y
      refine (congrArg _ (ix2_eta y).symm).trans (Cert.ReferenceIdeal.Sg.dbt_apply (A0 m c) (A1 m c) (A2 m c) (A3 m c) (A4 m c) (A5 m c) (y 0) (y 1))

end Cert.Sg

end
-- ==== Proof.Lin.Spec.lean ====
/-
  The norm over the rows' 1024 features, its backward pass, and products of a row with a matrix, as plain functions over
  the extended reals.
-/
module

public import Idealize.ShloMosaic.PureOps.Ideal

@[expose] public section

noncomputable section

namespace Cert.LinSpec

open Idealize.ShloMosaic

/-- The number of features, 1024. -/
abbrev cN : EReal := Ideal.ofBits .f32 0x44800000#32
/-- The norm's `eps`. -/
abbrev cE : EReal := Ideal.ofBits .f32 0x358637BD#32

/-- The mean of a row's squares, with `eps`. -/
def ms (x : Fin 1024 → EReal) : EReal := Ideal.div (∑ k, x k * x k) cN + cE
/-- One over the root of it. -/
def rs (x : Fin 1024 → EReal) : EReal := Ideal.rsqrt (ms x)
/-- The norm of a row, with its scale. -/
def rms (x g : Fin 1024 → EReal) (k : Fin 1024) : EReal := x k * rs x * g k

/-- Minus one half. -/
abbrev cM : EReal := Ideal.ofBits .f32 0xBF000000#32

/-- The norm's backward pass on one row: what goes through the root, for both factors of a square. -/
def rmsVia (x g d : Fin 1024 → EReal) : EReal := Ideal.div ((∑ k, x k * (d k * g k)) * (cM * Ideal.div (rs x) (ms x))) cN
/-- The gradient of the row. -/
def rmsBwd (x g d : Fin 1024 → EReal) (k : Fin 1024) : EReal := d k * g k * rs x + x k * rmsVia x g d + rmsVia x g d * x k
/-- The row's part of the gradient of the scale. -/
def rmsBwdG (x d : Fin 1024 → EReal) (k : Fin 1024) : EReal := x k * rs x * d k

/-- Row times matrix. -/
def mul {n p : ℕ} (h : Fin n → EReal) (w : Fin n → Fin p → EReal) (j : Fin p) : EReal := ∑ k, h k * w k j

/-- Row times transposed matrix. -/
def mulT {n p : ℕ} (h : Fin n → EReal) (w : Fin p → Fin n → EReal) (k : Fin p) : EReal := ∑ j, h j * w k j

/-- Column `j` of a range of columns that starts at `o`. -/
def col {n p : ℕ} (o : ℕ) (h : o + n ≤ p) (j : Fin n) : Fin p := ⟨o + j.val, by omega⟩

/-- Five runs of columns set side by side. -/
def cat5 (a : Fin 512 → EReal) (b : Fin 1536 → EReal) (c : Fin 512 → EReal) (d : Fin 768 → EReal) (e : Fin 128 → EReal) (j : Fin 3456) : EReal :=
  if h : j.val < 512 then a ⟨j.val, h⟩ else if h1 : j.val - 512 < 1536 then b ⟨j.val - 512, h1⟩
    else if h2 : j.val - 512 - 1536 < 512 then c ⟨j.val - 512 - 1536, h2⟩ else if h3 : j.val - 512 - 1536 - 512 < 768 then d ⟨j.val - 512 - 1536 - 512, h3⟩
    else e ⟨j.val - 512 - 1536 - 512 - 768, by have := j.isLt; omega⟩

/-- The gate's backward pass: the gradient of the gate's argument `g`, of what is gated being `q` and the incoming gradient `d`. -/
def gateBwd (d q g : EReal) : EReal := d * q * (Ideal.logistic g * (1 - Ideal.logistic g))

/-- Three runs of columns set side by side. -/
def cat3 (a : Fin 256 → EReal) (b : Fin 512 → EReal) (c : Fin 256 → EReal) (j : Fin 1024) : EReal :=
  if h : j.val < 256 then a ⟨j.val, h⟩ else if h1 : j.val - 256 < 512 then b ⟨j.val - 256, h1⟩
    else c ⟨j.val - 256 - 512, by have := j.isLt; omega⟩

/-- A sum over all columns by runs. -/
theorem sum_runs (f : Fin 3456 → EReal) : ∑ j, f j = ∑ j : Fin 512, f (col 0 (by decide) j) + ∑ j : Fin 1536, f (col 512 (by decide) j)
    + ∑ j : Fin 512, f (col 2048 (by decide) j) + ∑ j : Fin 768, f (col 2560 (by decide) j) + ∑ j : Fin 128, f (col 3328 (by decide) j) := by
  have e : ∑ j, f j = ∑ j : Fin (512 + 1536 + 512 + 768 + 128), f j := rfl
  rw [e]
  simp only [Fin.sum_univ_add]
  refine congr_arg₂ _ (congr_arg₂ _ (congr_arg₂ _ (congr_arg₂ _ ?_ ?_) ?_) ?_) ?_
  all_goals exact Finset.sum_congr rfl fun j _ => congrArg f (Fin.ext (by dsimp [col]; try omega))

section
variable (a : Fin 512 → EReal) (b : Fin 1536 → EReal) (c : Fin 512 → EReal) (d : Fin 768 → EReal) (e : Fin 128 → EReal)

theorem cat5_0 (j : Fin 512) : cat5 a b c d e (col 0 (by decide) j) = a j := by
  have e0 : (col (p := 3456) 0 (by decide) j).val = j.val := Nat.zero_add _
  unfold cat5
  rw [dif_pos (by omega)]
  exact congrArg a (Fin.ext e0)
theorem cat5_1 (j : Fin 1536) : cat5 a b c d e (col 512 (by decide) j) = b j := by
  have e0 : (col (p := 3456) 512 (by decide) j).val = 512 + j.val := rfl
  have hj := j.isLt
  unfold cat5
  rw [dif_neg (by omega), dif_pos (by omega)]
  refine congrArg b (Fin.ext ?_)
  simp only [e0]
  omega
theorem cat5_2 (j : Fin 512) : cat5 a b c d e (col 2048 (by decide) j) = c j := by
  have e0 : (col (p := 3456) 2048 (by decide) j).val = 2048 + j.val := rfl
  have hj := j.isLt
  unfold cat5
  rw [dif_neg (by omega), dif_neg (by omega), dif_pos (by omega)]
  refine congrArg c (Fin.ext ?_)
  simp only [e0]
  omega
theorem cat5_3 (j : Fin 768) : cat5 a b c d e (col 2560 (by decide) j) = d j := by
  have e0 : (col (p := 3456) 2560 (by decide) j).val = 2560 + j.val := rfl
  have hj := j.isLt
  unfold cat5
  rw [dif_neg (by omega), dif_neg (by omega), dif_neg (by omega), dif_pos (by omega)]
  refine congrArg d (Fin.ext ?_)
  simp only [e0]
  omega
theorem cat5_4 (j : Fin 128) : cat5 a b c d e (col 3328 (by decide) j) = e j := by
  have e0 : (col (p := 3456) 3328 (by decide) j).val = 3328 + j.val := rfl
  have hj := j.isLt
  unfold cat5
  rw [dif_neg (by omega), dif_neg (by omega), dif_neg (by omega), dif_neg (by omega)]
  refine congrArg e (Fin.ext ?_)
  simp only [e0]
  omega

/-- The product of the five runs, by runs. -/
theorem mulT_cat5 {p : ℕ} (w : Fin p → Fin 3456 → EReal) (k : Fin p) :
    mulT (cat5 a b c d e) w k = mulT a (fun k j => w k (col 0 (by decide) j)) k + mulT b (fun k j => w k (col 512 (by decide) j)) k
      + mulT c (fun k j => w k (col 2048 (by decide) j)) k + mulT d (fun k j => w k (col 2560 (by decide) j)) k
      + mulT e (fun k j => w k (col 3328 (by decide) j)) k := by
  refine (sum_runs _).trans ?_
  simp only [cat5_0, cat5_1, cat5_2, cat5_3, cat5_4]
  rfl
end

end Cert.LinSpec
-- ==== Proof.Lin.Blocks.lean ====
/-
  Reading a range of a matrix's columns, and the indices of a block of rows.
-/
module

public import proofs.«01_k».proof.Proof.Lin.Spec
public import Idealize.ShloMosaic.Lib.Pipeline.Value
public import Idealize.ShloMosaic.Lib.Tactic
public import Idealize.ShloMosaic.Lib.Pointwise

@[expose] public section

noncomputable section

namespace Cert.LinSpec

open Idealize.ShloMosaic

/-- An index is known by its coordinates. -/
theorem ext2 {a b : ℕ} {f : (⟨2, ![a, b]⟩ : Shape).Idx} {i : Fin a} {j : Fin b} (h0 : (f 0).val = i.val) (h1 : (f 1).val = j.val) :
    f = ix2 i j :=
  funext fun d => Fin.ext (by match d with | ⟨0, _⟩ => exact h0 | ⟨1, _⟩ => exact h1)

/-- A load of `n` columns from column `o` on. -/
theorem ld_cols {a p n : ℕ} (X : (⟨2, ![a, p]⟩ : Shape).Idx → EReal) (o : ℕ) (h : o + n ≤ p)
    (inb : ∀ d, (![0, o] : Fin 2 → ℕ) d + (![a, n] : Fin 2 → ℕ) d ≤ (![a, p] : Fin 2 → ℕ) d) (k : Fin a) (j : Fin n) :
    X ((Rect.unit (s := ⟨2, ![a, p]⟩) ![0, o] ![a, n] inb).idx (ix2 k j)) = X (ix2 k (col o h j)) := by
  refine congrArg X (funext fun d => Fin.ext ?_)
  match d with
  | ⟨0, _⟩ => show 0 + 1 * k.val = k.val; omega
  | ⟨1, _⟩ => show o + 1 * j.val = o + j.val; omega

/-- A product with a range of the columns is the range of the product. -/
theorem mul_cols {a p n : ℕ} (f : Fin a → EReal) (X : (⟨2, ![a, p]⟩ : Shape).Idx → EReal) (o : ℕ) (h : o + n ≤ p)
    (inb : ∀ d, (![0, o] : Fin 2 → ℕ) d + (![a, n] : Fin 2 → ℕ) d ≤ (![a, p] : Fin 2 → ℕ) d) (j : Fin n) :
    mul f (fun k j => X ((Rect.unit (s := ⟨2, ![a, p]⟩) ![0, o] ![a, n] inb).idx (ix2 k j))) j = mul f (fun k j => X (ix2 k j)) (col o h j) :=
  Finset.sum_congr rfl fun k _ => congrArg (f k * ·) (ld_cols X o h inb k j)

/-- The same for the product with the transposed matrix. -/
theorem mulT_cols {a p n : ℕ} (f : Fin n → EReal) (X : (⟨2, ![a, p]⟩ : Shape).Idx → EReal) (o : ℕ) (h : o + n ≤ p)
    (inb : ∀ d, (![0, o] : Fin 2 → ℕ) d + (![a, n] : Fin 2 → ℕ) d ≤ (![a, p] : Fin 2 → ℕ) d) (k : Fin a) :
    mulT f (fun k j => X ((Rect.unit (s := ⟨2, ![a, p]⟩) ![0, o] ![a, n] inb).idx (ix2 k j))) k = mulT f (fun k j => X (ix2 k (col o h j))) k :=
  Finset.sum_congr rfl fun j _ => congrArg (f j * ·) (ld_cols X o h inb k j)

end Cert.LinSpec
-- ==== Proof.InBwd.Block.lean ====
/-
  One block of 512 rows of the input projection's backward pass over the extended reals, entry by entry.
-/
module

public import proofs.«01_k».proof.Proof.Lin.Blocks
public import proofs.«01_k».proof.Proof.Gen.Kernel2Ideal.Value
public import Idealize.ShloMosaic.Lib.Pipeline.ValueKit
public import Idealize.ShloMosaic.Lib.Tactic
public import Idealize.ShloMosaic.Lib.Pointwise

@[expose] public section

noncomputable section

namespace Cert.Kernel2Ideal.InBwd

open Cert.Kernel2Ideal Cert.Kernel2Ideal.Gen Idealize.ShloMosaic Idealize.ShloMosaic.TcCoe Idealize.SL.Sem
open Cert

theorem pay1_apply (x : Vec Ideal S512x1024 .f32) (i : Fin 512) (z : Fin 1) :
    k0_pay1 (k0_pay8 x) (LinSpec.cN) (ix2 i z) = LinSpec.ms (fun k => x (ix2 i k)) := by
  pointwise [k0_pay1, k0_pay8]
  rfl
theorem pay2_apply (x : Vec Ideal S512x1024 .f32) (i : Fin 512) (z : Fin 1) :
    k0_pay2 (k0_pay8 x) (LinSpec.cN) (ix2 i z) = LinSpec.rs (fun k => x (ix2 i k)) := by
  pointwise [k0_pay2]
  rw [pay1_apply]
  rfl
theorem pay4_apply (d x r : Vec Ideal S512x1024 .f32) (g : Vec Ideal S1x1024 .f32) (i : Fin 512) (k : Fin 1024) :
    k0_pay4 d x g (k0_pay8 x) (Scalar.ofBits .f32 0x44800000#32) r (ix2 i k)
      = r (ix2 i k) + LinSpec.rmsBwd (fun k => x (ix2 i k)) (fun k => g (ix2 0 k)) (fun k => d (ix2 i k)) k := by
  pointwise [k0_pay4]
  simp only [pay1_apply, pay2_apply, Fin.sum_univ_one]
  rfl
theorem pay3_apply (d x : Vec Ideal S512x1024 .f32) (z : Fin 1) (k : Fin 1024) :
    k0_pay3 d x (k0_pay8 x) (Scalar.ofBits .f32 0x44800000#32) (ix2 z k)
      = ∑ i : Fin 512, LinSpec.rmsBwdG (fun k => x (ix2 i k)) (fun k => d (ix2 i k)) k := by
  pointwise [k0_pay3]
  simp only [pay2_apply]
  rfl
theorem pay5_apply (d x : Vec Ideal S512x1024 .f32) (a : Vec Ideal S1x1024 .f32) (z : Fin 1) (k : Fin 1024) :
    k0_pay5 d x (k0_pay8 x) (Scalar.ofBits .f32 0x44800000#32) a (ix2 z k)
      = a (ix2 z k) + ∑ i : Fin 512, LinSpec.rmsBwdG (fun k => x (ix2 i k)) (fun k => d (ix2 i k)) k := by
  rw [← pay3_apply d x z k]
  pointwise [k0_pay5]
theorem pay6_apply (v1 : Vec Ideal S512x512 .bf16) (v2 : Vec Ideal S1024x512 .bf16) (v5 : Vec Ideal S512x1536 .bf16) (v6 : Vec Ideal S1024x1536 .bf16)
    (v9 : Vec Ideal S512x512 .bf16) (v10 : Vec Ideal S1024x512 .bf16) (v13 : Vec Ideal S512x768 .bf16) (v14 : Vec Ideal S1024x768 .bf16)
    (v17 : Vec Ideal S512x128 .bf16) (v18 : Vec Ideal S1024x128 .bf16) (i : Fin 512) (k : Fin 1024) :
    k0_pay6 v1 v2 v5 v6 v9 v10 v13 v14 v17 v18 (ix2 i k) =
      LinSpec.mulT (fun j => v1 (ix2 i j)) (fun k j => v2 (ix2 k j)) k + LinSpec.mulT (fun j => v5 (ix2 i j)) (fun k j => v6 (ix2 k j)) k
        + LinSpec.mulT (fun j => v9 (ix2 i j)) (fun k j => v10 (ix2 k j)) k + LinSpec.mulT (fun j => v13 (ix2 i j)) (fun k j => v14 (ix2 k j)) k
        + LinSpec.mulT (fun j => v17 (ix2 i j)) (fun k j => v18 (ix2 k j)) k := by
  pointwise [k0_pay6]
  rfl

/-! ### What a point leaves -/

variable (m : (ℓ : Loc nD τ sig) → Buf (Elt Ideal) ℓ) (c : Dev nD)

/-- The blocks of rows, of the scale and of the incoming gradient. -/
abbrev xB (t : Fin cfg0.N) : S512x1024.Idx → EReal := iblk m c 0 t
abbrev gB (t : Fin cfg0.N) : S1x1024.Idx → EReal := iblk m c 1 t
abbrev rB (t : Fin cfg0.N) : S512x1024.Idx → EReal := iblk m c 3 t

/-- Row `i` of the product's gradient at point `t`. -/
abbrev dRow (t : Fin cfg0.N) (i : Fin 512) : Fin 1024 → EReal :=
  LinSpec.mulT (LinSpec.cat5 (fun j => (iblk m c 4 t : Vec Ideal S512x512 .bf16) (ix2 i j)) (fun j => (iblk m c 5 t : Vec Ideal S512x1536 .bf16) (ix2 i j))
    (fun j => (iblk m c 6 t : Vec Ideal S512x512 .bf16) (ix2 i j)) (fun j => (iblk m c 7 t : Vec Ideal S512x768 .bf16) (ix2 i j))
    (fun j => (iblk m c 8 t : Vec Ideal S512x128 .bf16) (ix2 i j))) (fun k j => (iblk m c 2 t : Vec Ideal S1024x3456 .bf16) (ix2 k j))

theorem dRow_eq (t : Fin cfg0.N) (i : Fin 512) (k : Fin 1024) :
    k0_pay6 (iblk m c 4 t) (View.ld (iblk m c 2 t) (Rect.unit ![0, 0] ![1024, 512] inb_S1024x3456_S1024x512_0_0))
        (iblk m c 5 t) (View.ld (iblk m c 2 t) (Rect.unit ![0, 512] ![1024, 1536] inb_S1024x3456_S1024x1536_0_512))
        (iblk m c 6 t) (View.ld (iblk m c 2 t) (Rect.unit ![0, 2048] ![1024, 512] inb_S1024x3456_S1024x512_0_2048))
        (iblk m c 7 t) (View.ld (iblk m c 2 t) (Rect.unit ![0, 2560] ![1024, 768] inb_S1024x3456_S1024x768_0_2560))
        (iblk m c 8 t) (View.ld (iblk m c 2 t) (Rect.unit ![0, 3328] ![1024, 128] inb_S1024x3456_S1024x128_0_3328)) (ix2 i k) = dRow m c t i k := by
  rw [pay6_apply]
  refine Eq.trans ?_ (LinSpec.mulT_cat5 _ _ _ _ _ _ k).symm
  refine congr_arg₂ _ (congr_arg₂ _ (congr_arg₂ _ (congr_arg₂ _ ?_ ?_) ?_) ?_) ?_
  all_goals exact LinSpec.mulT_cols _ _ _ _ _ k

/-- The block's rows of the gradient. -/
theorem point9 (t : Fin cfg0.N) (i : Fin 512) (k : Fin 1024) :
    (outsAt0 m c t.val t.isLt).1 (ix2 i k) = rB m c t (ix2 i k)
      + LinSpec.rmsBwd (fun k => xB m c t (ix2 i k)) (fun k => gB m c t (ix2 0 k)) (dRow m c t i) k := by
  have hN : cfg0.N = 16 := N_0
  have ht := t.isLt
  have e : k0_pay7 (iblk m c 1 t) = iblk m c 1 t := shapeCast_id _ _
  by_cases h0 : t.val % 16 = 0
  · rw [outsAt0_A m c t h0 (by omega)]
    frame_out
    rw [pay4_apply, e]
    exact congrArg (fun d => rB m c t (ix2 i k) + LinSpec.rmsBwd _ _ d k) (funext fun k => dRow_eq m c t i k)
  · rw [outsAt0_B m c t h0 (by omega)]
    frame_out
    rw [pay4_apply, e]
    exact congrArg (fun d => rB m c t (ix2 i k) + LinSpec.rmsBwd _ _ d k) (funext fun k => dRow_eq m c t i k)

/-- The block's part of the gradient of the scale. -/
abbrev part (t : Fin cfg0.N) (k : Fin 1024) : EReal :=
  ∑ i : Fin 512, LinSpec.rmsBwdG (fun k => xB m c t (ix2 i k)) (dRow m c t i) k

theorem point10_A (t : Fin cfg0.N) (h0 : t.val % 16 = 0) (z : Fin 1) (k : Fin 1024) : (outsAt0 m c t.val t.isLt).2 (ix2 z k) = 0 + part m c t k := by
  have hN : cfg0.N = 16 := N_0
  have ht := t.isLt
  rw [outsAt0_A m c t h0 (by omega)]
  frame_out
  rw [pay3_apply, zero_add]
  exact Finset.sum_congr rfl fun i _ => congrArg (fun d => LinSpec.rmsBwdG _ d k) (funext fun k => dRow_eq m c t i k)
theorem point10_B (t : Fin cfg0.N) (h0 : ¬t.val % 16 = 0) (z : Fin 1) (k : Fin 1024) :
    (outsAt0 m c t.val t.isLt).2 (ix2 z k) = (outsAt0 m c (t.val - 1) (Nat.lt_of_le_of_lt (Nat.sub_le _ _) t.isLt)).2 (ix2 z k) + part m c t k := by
  rw [outsAt0_B m c t h0 (by omega)]
  frame_out
  rw [pay5_apply]
  exact congrArg (_ + ·) (Finset.sum_congr rfl fun i _ => congrArg (fun d => LinSpec.rmsBwdG _ d k) (funext fun k => dRow_eq m c t i k))

end Cert.Kernel2Ideal.InBwd

end
-- ==== Proof.InBwd.Final.lean ====
/-
  The arrays the input projection's backward pass leaves, over the extended reals: by blocks of 512 rows; the scale's gradient summed over the blocks.
-/
module

public import proofs.«01_k».proof.Proof.InBwd.Block
public import Idealize.ShloMosaic.Lib.StableHlo.Run
public import Idealize.ShloMosaic.Lib.Pipeline.ValueKit

@[expose] public section

set_option maxHeartbeats 1000000

noncomputable section

namespace Cert.Kernel2Ideal.InBwd

open Cert.Kernel2Ideal Cert.Kernel2Ideal.Gen Cert.Kernel2Ideal.Value Idealize.ShloMosaic Idealize.ShloMosaic.TcCoe Idealize.SL.Sem
open Idealize.ShloMosaic.Pipeline (Dat)
open Cert

variable (m : (ℓ : Loc nD τ sig) → Buf (Elt Ideal) ℓ) (c : Dev nD)

/-- The launched arguments. -/
abbrev A0 : S8192x1024.Idx → EReal := m ((c : Thread nD τ).loc main_arg0)
abbrev A1 : S1024.Idx → EReal := m ((c : Thread nD τ).loc main_arg1)
abbrev A2 : S1024x3456.Idx → EReal := m ((c : Thread nD τ).loc main_arg2)
abbrev A3 : S8192x512.Idx → EReal := m ((c : Thread nD τ).loc main_arg3)
abbrev A4 : S8192x1536.Idx → EReal := m ((c : Thread nD τ).loc main_arg4)
abbrev A5 : S8192x512.Idx → EReal := m ((c : Thread nD τ).loc main_arg5)
abbrev A6 : S8192x768.Idx → EReal := m ((c : Thread nD τ).loc main_arg6)
abbrev A7 : S8192x128.Idx → EReal := m ((c : Thread nD τ).loc main_arg7)
abbrev A8 : S8192x1024.Idx → EReal := m ((c : Thread nD τ).loc main_arg8)

/-- A row of the product's gradient, and of the whole. -/
abbrev dz (r : Fin 8192) : Fin 1024 → EReal :=
  LinSpec.mulT (LinSpec.cat5 (fun j => A3 m c (ix2 r j)) (fun j => A4 m c (ix2 r j)) (fun j => A5 m c (ix2 r j)) (fun j => A6 m c (ix2 r j))
    (fun j => A7 m c (ix2 r j))) (fun k j => A2 m c (ix2 k j))
abbrev dx (r : Fin 8192) (k : Fin 1024) : EReal :=
  A8 m c (ix2 r k) + LinSpec.rmsBwd (fun k => A0 m c (ix2 r k)) (fun k => A1 m c (ix1 k)) (dz m c r) k
abbrev dg (k : Fin 1024) : EReal := ∑ r : Fin 8192, LinSpec.rmsBwdG (fun k => A0 m c (ix2 r k)) (dz m c r) k

theorem N16 : cfg0.N = 16 := N_0

/-! ### What the windows read -/

theorem idx : ∀ t : Fin cfg0.N, win0_0.index t = ![t.val, 0] ∧ win0_1.index t = ![0, 0] ∧ win0_2.index t = ![0, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![0, 0] :=
  (by decide +kernel : ∀ t : Fin grid0.N, win0_0.index t = ![t.val, 0] ∧ win0_1.index t = ![0, 0] ∧ win0_2.index t = ![0, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![0, 0])

/-- Row `i` of the block of point `t`. -/
abbrev rowAt (t : Fin cfg0.N) (i : Fin 512) : Fin 8192 := ⟨512 * t.val + i.val, by have := t.isLt; have := N16; omega⟩

section
variable (t : Fin cfg0.N) (i : Fin 512)

/-- The coordinates of the windows' blocks. -/
theorem emb0 (k : Fin 1024) : (win0_0.blk t).view.emb (ix2 i k) = (ix2 (rowAt t i) k : S8192x1024.Idx) := by
  obtain ⟨e, -⟩ := idx t
  exact LinSpec.ext2 (by blk_simp [e]; show t.val * 512 + i.val = 512 * t.val + i.val; omega) (by blk_simp [e])
theorem emb3 (k : Fin 1024) : (win0_3.blk t).view.emb (ix2 i k) = (ix2 (rowAt t i) k : S8192x1024.Idx) := by
  obtain ⟨-, -, -, e, -⟩ := idx t
  exact LinSpec.ext2 (by blk_simp [e]; show t.val * 512 + i.val = 512 * t.val + i.val; omega) (by blk_simp [e])
theorem emb4 (k : Fin 512) : (win0_4.blk t).view.emb (ix2 i k) = (ix2 (rowAt t i) k : S8192x512.Idx) := by
  obtain ⟨-, -, -, -, e, -⟩ := idx t
  exact LinSpec.ext2 (by blk_simp [e]; show t.val * 512 + i.val = 512 * t.val + i.val; omega) (by blk_simp [e])
theorem emb5 (k : Fin 1536) : (win0_5.blk t).view.emb (ix2 i k) = (ix2 (rowAt t i) k : S8192x1536.Idx) := by
  obtain ⟨-, -, -, -, -, e, -⟩ := idx t
  exact LinSpec.ext2 (by blk_simp [e]; show t.val * 512 + i.val = 512 * t.val + i.val; omega) (by blk_simp [e])
theorem emb6 (k : Fin 512) : (win0_6.blk t).view.emb (ix2 i k) = (ix2 (rowAt t i) k : S8192x512.Idx) := by
  obtain ⟨-, -, -, -, -, -, e, -⟩ := idx t
  exact LinSpec.ext2 (by blk_simp [e]; show t.val * 512 + i.val = 512 * t.val + i.val; omega) (by blk_simp [e])
theorem emb7 (k : Fin 768) : (win0_7.blk t).view.emb (ix2 i k) = (ix2 (rowAt t i) k : S8192x768.Idx) := by
  obtain ⟨-, -, -, -, -, -, -, e, -⟩ := idx t
  exact LinSpec.ext2 (by blk_simp [e]; show t.val * 512 + i.val = 512 * t.val + i.val; omega) (by blk_simp [e])
theorem emb8 (k : Fin 128) : (win0_8.blk t).view.emb (ix2 i k) = (ix2 (rowAt t i) k : S8192x128.Idx) := by
  obtain ⟨-, -, -, -, -, -, -, -, e, -⟩ := idx t
  exact LinSpec.ext2 (by blk_simp [e]; show t.val * 512 + i.val = 512 * t.val + i.val; omega) (by blk_simp [e])
theorem emb9 (k : Fin 1024) : (win0_9.blk t).view.emb (ix2 i k) = (ix2 (rowAt t i) k : S8192x1024.Idx) := by
  obtain ⟨-, -, -, -, -, -, -, -, -, e, -⟩ := idx t
  exact LinSpec.ext2 (by blk_simp [e]; show t.val * 512 + i.val = 512 * t.val + i.val; omega) (by blk_simp [e])
theorem emb1 (z : Fin 1) (k : Fin 1024) : (win0_1.blk t).view.emb (ix2 z k) = (ix2 z k : S1x1024.Idx) := by
  obtain ⟨-, e, -⟩ := idx t
  exact LinSpec.ext2 (by blk_simp [e]) (by blk_simp [e])
theorem emb2 (k : Fin 1024) (j : Fin 3456) : (win0_2.blk t).view.emb (ix2 k j) = (ix2 k j : S1024x3456.Idx) := by
  obtain ⟨-, -, e, -⟩ := idx t
  exact LinSpec.ext2 (by blk_simp [e]) (by blk_simp [e])
theorem emb10 (z : Fin 1) (k : Fin 1024) : (win0_10.blk t).view.emb (ix2 z k) = (ix2 z k : S1x1024.Idx) := by
  obtain ⟨-, -, -, -, -, -, -, -, -, -, e⟩ := idx t
  exact LinSpec.ext2 (by blk_simp [e]) (by blk_simp [e])
end

theorem iblk0 (t : Fin cfg0.N) (i : Fin 512) (k : Fin 1024) :
    (iblk m c 0 t : Vec Ideal S512x1024 .f32) (ix2 i k) = A0 m c (ix2 (rowAt t i) k) := by
  unfold iblk
  rw [View.read_apply]
  show V m c main_arg0 _ = _
  rw [V_main_arg0]
  exact congrArg (A0 m c) (emb0 t i k)
theorem iblk3 (t : Fin cfg0.N) (i : Fin 512) (k : Fin 1024) :
    (iblk m c 3 t : Vec Ideal S512x1024 .f32) (ix2 i k) = A8 m c (ix2 (rowAt t i) k) := by
  unfold iblk
  rw [View.read_apply]
  show V m c main_arg8 _ = _
  rw [V_main_arg8]
  exact congrArg (A8 m c) (emb3 t i k)
theorem iblk4 (t : Fin cfg0.N) (i : Fin 512) (k : Fin 512) :
    (iblk m c 4 t : Vec Ideal S512x512 .bf16) (ix2 i k) = A3 m c (ix2 (rowAt t i) k) := by
  unfold iblk
  rw [View.read_apply]
  show V m c main_arg3 _ = _
  rw [V_main_arg3]
  exact congrArg (A3 m c) (emb4 t i k)
theorem iblk5 (t : Fin cfg0.N) (i : Fin 512) (k : Fin 1536) :
    (iblk m c 5 t : Vec Ideal S512x1536 .bf16) (ix2 i k) = A4 m c (ix2 (rowAt t i) k) := by
  unfold iblk
  rw [View.read_apply]
  show V m c main_arg4 _ = _
  rw [V_main_arg4]
  exact congrArg (A4 m c) (emb5 t i k)
theorem iblk6 (t : Fin cfg0.N) (i : Fin 512) (k : Fin 512) :
    (iblk m c 6 t : Vec Ideal S512x512 .bf16) (ix2 i k) = A5 m c (ix2 (rowAt t i) k) := by
  unfold iblk
  rw [View.read_apply]
  show V m c main_arg5 _ = _
  rw [V_main_arg5]
  exact congrArg (A5 m c) (emb6 t i k)
theorem iblk7 (t : Fin cfg0.N) (i : Fin 512) (k : Fin 768) :
    (iblk m c 7 t : Vec Ideal S512x768 .bf16) (ix2 i k) = A6 m c (ix2 (rowAt t i) k) := by
  unfold iblk
  rw [View.read_apply]
  show V m c main_arg6 _ = _
  rw [V_main_arg6]
  exact congrArg (A6 m c) (emb7 t i k)
theorem iblk8 (t : Fin cfg0.N) (i : Fin 512) (k : Fin 128) :
    (iblk m c 8 t : Vec Ideal S512x128 .bf16) (ix2 i k) = A7 m c (ix2 (rowAt t i) k) := by
  unfold iblk
  rw [View.read_apply]
  show V m c main_arg7 _ = _
  rw [V_main_arg7]
  exact congrArg (A7 m c) (emb8 t i k)

/-- The host's row of the norm's scale. -/
theorem V_g : V m c main_v0 = (broadcastInDim S1x1024 ![1] bcast_S1024_S1x1024_1 (A1 m c) : Vec Ideal S1x1024 .f32) := by
  unfold_abbrev_sides
  after_results

theorem iblk1 (t : Fin cfg0.N) (z : Fin 1) (k : Fin 1024) : (iblk m c 1 t : Vec Ideal S1x1024 .f32) (ix2 z k) = A1 m c (ix1 k) := by
  unfold iblk
  rw [View.read_apply]
  show V m c main_v0 _ = _
  rw [V_g]
  refine (congrArg _ (emb1 t z k)).trans ?_
  pointwise []

theorem iblk2 (t : Fin cfg0.N) (k : Fin 1024) (j : Fin 3456) :
    (iblk m c 2 t : Vec Ideal S1024x3456 .bf16) (ix2 k j) = A2 m c (ix2 k j) := by
  unfold iblk
  rw [View.read_apply]
  show V m c main_arg2 _ = _
  rw [V_main_arg2]
  exact congrArg (A2 m c) (emb2 t k j)

theorem xB_eq (t : Fin cfg0.N) (i : Fin 512) : (fun k => xB m c t (ix2 i k)) = fun k => A0 m c (ix2 (rowAt t i) k) := funext fun k => iblk0 m c t i k
theorem gB_eq (t : Fin cfg0.N) : (fun k => gB m c t (ix2 0 k)) = fun k => A1 m c (ix1 k) := funext fun k => iblk1 m c t 0 k

theorem dRow_iblk (t : Fin cfg0.N) (i : Fin 512) : dRow m c t i = dz m c (rowAt t i) := by
  have e2 := funext fun k => funext fun j => iblk2 m c t k j
  have e4 := funext fun j => iblk4 m c t i j
  have e5 := funext fun j => iblk5 m c t i j
  have e6 := funext fun j => iblk6 m c t i j
  have e7 := funext fun j => iblk7 m c t i j
  have e8 := funext fun j => iblk8 m c t i j
  unfold dRow dz
  rw [e2, e4, e5, e6, e7, e8]

/-! ### The results -/

/-- The rows' gradients. -/
abbrev rDx : S8192x1024.Idx → EReal := fun y => dx m c (y 0) (y 1)
/-- The scale's gradient. -/
abbrev rDg : S1x1024.Idx → EReal := fun y => dg m c (y 1)

theorem final9 : (dats m 0 c).arrAt 9 cfg0.N = rDx m c := by
  refine (dats m 0 c).arrAt_eq_of_covers 9 _ (by decide +kernel) fun t hf y => ?_
  obtain ⟨i, j, rfl⟩ : ∃ (i : Fin 512) (j : Fin 1024), y = ix2 i j := ⟨y 0, y 1, (ix2_eta y).symm⟩
  blk_simp
  rw [after0_9]
  refine (point9 m c t i j).trans (Eq.trans ?_ (congrArg (rDx m c) (emb9 t i j)).symm)
  rw [xB_eq, gB_eq, dRow_iblk]
  exact congrArg (· + _) (iblk3 m c t i j)

theorem part_eq (t : Fin cfg0.N) (k : Fin 1024) :
    part m c t k = ∑ i : Fin 512, LinSpec.rmsBwdG (fun k => A0 m c (ix2 (rowAt t i) k)) (dz m c (rowAt t i)) k :=
  Finset.sum_congr rfl fun i _ => by rw [xB_eq, dRow_iblk]

theorem sum_parts (k : Fin 1024) : ∑ t : Fin cfg0.N, part m c t k = dg m c k := by
  simp only [part_eq]
  exact Fin.sum_mul_add_congr (fun t i hl => by
    have e : rowAt t i = ⟨t.val * 512 + i.val, hl⟩ := Fin.ext (congrArg (· + i.val) (Nat.mul_comm _ _))
    rw [e]) (by decide +kernel : 8192 = cfg0.N * 512)

theorem final10 : (dats m 0 c).arrAt 10 cfg0.N = rDg m c := by
  refine (dats m 0 c).arrAt_eq_of_covers 10 _ (by decide +kernel) fun t hf y => ?_
  obtain ⟨z, j, rfl⟩ : ∃ (z : Fin 1) (j : Fin 1024), y = ix2 z j := ⟨y 0, y 1, (ix2_eta y).symm⟩
  have hl : t.val + 1 = cfg0.N := by
    have h := (flush0_10 t).mp hf
    have hN := N16
    have ht := t.isLt
    omega
  blk_simp
  rw [after0_10]
  refine Eq.trans ?_ (congrArg (rDg m c) (emb10 t z j)).symm
  refine (Pipeline.eq_sum_fin_of_reset_step_apply_last (fun n h (k : Fin 1024) => (outsAt0 m c n h).2 (ix2 z k)) 16 (fun _ => (0 : EReal)) (part m c)
    (fun t h k => point10_A m c t h z k) (fun t h k => point10_B m c t h z k) (le_of_eq N16) t hl j).trans ?_
  rw [sum_parts, zero_add]
  rfl

end Cert.Kernel2Ideal.InBwd

end
-- ==== Proof.InBwd.RefRead.lean ====
/-
  The reference of the input projection's backward pass, read entry by entry.
-/
module

public import proofs.«01_k».proof.Proof.Gen.Reference2Ideal.Read
public import proofs.«01_k».proof.Proof.Lin.Spec
public import Idealize.ShloMosaic.Lib.Tactic
public import Idealize.ShloMosaic.Lib.Pointwise

@[expose] public section

noncomputable section

namespace Cert.Reference2Ideal.InBwd

open Cert.Reference2Ideal Cert.Reference2Ideal.Gen Cert.Reference2Ideal.Read Idealize.ShloMosaic Idealize.ShloMosaic.TcCoe Idealize.SL.Sem
open Cert

variable (x : S8192x1024.Idx → EReal) (g : S1024.Idx → EReal) (w : S1024x3456.Idx → EReal) (zs : S8192x512.Idx → EReal) (zq : S8192x1536.Idx → EReal)
  (zg : S8192x512.Idx → EReal) (zsg : S8192x768.Idx → EReal) (zab : S8192x128.Idx → EReal) (res : S8192x1024.Idx → EReal)

/-- A row of the product's gradient. -/
abbrev dz (r : Fin 8192) : Fin 1024 → EReal :=
  LinSpec.mulT (LinSpec.cat5 (fun j => zs (ix2 r j)) (fun j => zq (ix2 r j)) (fun j => zg (ix2 r j)) (fun j => zsg (ix2 r j)) (fun j => zab (ix2 r j)))
    (fun k j => w (ix2 k j))

theorem ms_apply (r : Fin 8192) (z : Fin 1) : val_main_v6 (F := Ideal) x (ix2 r z) = LinSpec.ms (fun k => x (ix2 r k)) := by
  pointwise [val_main_v6, val_main_v5, val_main_v4, val_main_v3, val_main_v2, val_main_v1, val_main_v0, val_main_cst, val_main_cst_0, val_main_cst_1]
  rfl
theorem rs_apply (r : Fin 8192) (z : Fin 1) : val_main_v7 (F := Ideal) x (ix2 r z) = LinSpec.rs (fun k => x (ix2 r k)) := by
  pointwise [val_main_v7]
  rw [ms_apply]
  rfl

theorem cat_apply (r : Fin 8192) (j : Fin 3456) : val_main_v19 (F := Ideal) zs zq zg zsg zab (ix2 r j)
    = LinSpec.cat5 (fun j => zs (ix2 r j)) (fun j => zq (ix2 r j)) (fun j => zg (ix2 r j)) (fun j => zsg (ix2 r j)) (fun j => zab (ix2 r j)) j := by
  pointwise [val_main_v19, val_main_v18]
  rfl

theorem dz_apply (r : Fin 8192) (k : Fin 1024) : val_main_v20 (F := Ideal) w zs zq zg zsg zab (ix2 r k) = dz w zs zq zg zsg zab r k := by
  pointwise [val_main_v20, val_main_v16]
  simp only [cat_apply]
  rfl

theorem dx_apply (r : Fin 8192) (k : Fin 1024) : val_main_v41 (F := Ideal) x g w zs zq zg zsg zab res (ix2 r k)
    = res (ix2 r k) + LinSpec.rmsBwd (fun k => x (ix2 r k)) (fun k => g (ix1 k)) (dz w zs zq zg zsg zab r) k := by
  pointwise [val_main_v41, val_main_v40, val_main_v39, val_main_v38, val_main_v37, val_main_v36, val_main_v35, val_main_v34, val_main_v33, val_main_v32, val_main_v31, val_main_v30, val_main_v29, val_main_v28, val_main_v27, val_main_v25, val_main_v24, val_main_v10, val_main_v9, val_main_v8, val_main_v13, val_main_cst_2, val_main_cst_5, val_main_cst_6, val_main_cst_7]
  simp only [ms_apply, rs_apply, dz_apply, Fin.sum_univ_one]
  rfl

theorem dg_apply (z : Fin 1) (k : Fin 1024) : val_main_v42 (F := Ideal) x w zs zq zg zsg zab (ix2 z k)
    = ∑ r : Fin 8192, LinSpec.rmsBwdG (fun k => x (ix2 r k)) (dz w zs zq zg zsg zab r) k := by
  pointwise [val_main_v42, val_main_v26, val_main_v23, val_main_v22, val_main_v21, val_main_v12, val_main_v11, val_main_cst_3, val_main_cst_4]
  simp only [rs_apply, dz_apply, Fin.sum_univ_one]
  rfl

end Cert.Reference2Ideal.InBwd

end
-- ==== Proof.InBwd.Claims.lean ====
/-
  The claims about the input projection's backward pass: the three frames, and that the kernel's two arrays are the reference's over the
  extended reals.
-/
module

public import proofs.«01_k».proof.Defs
public import proofs.«01_k».proof.Proof.InBwd.Final
public import proofs.«01_k».proof.Proof.InBwd.RefRead
public import proofs.«01_k».proof.Proof.Gen.Reference2Ideal.Run
public import proofs.«01_k».proof.Proof.Gen.Kernel2.Frame

@[expose] public section

set_option maxHeartbeats 1000000

noncomputable section

namespace Cert.InBwd

open Idealize.ShloMosaic Idealize.ShloMosaic.TcCoe Idealize.SL.Sem
open Cert.Kernel2Ideal.InBwd Idealize.ShloMosaic.StableHlo

theorem frame_kernel : Cert.quiescent_Kernel2 := fun m ρ _ => Cert.Kernel2.Gen.frame m ρ

theorem frame_ideal : Cert.quiescent_Kernel2Ideal := fun m ρ _ => Cert.Kernel2Ideal.Gen.frame m ρ

/-- The reference is a line of host operations on a machine without semaphores. -/
theorem frame_reference : Cert.quiescent_Reference2Ideal := fun m ρ _ =>
  (θ_run Cert.Reference2Ideal.defs _ _).mono (fun r h =>
    ⟨fun c => (h c).2.2, sem_eq_zero_of_no_sems (by decide) r.2⟩) (Cert.Reference2Ideal.Value.run m ρ)

theorem preserves : Cert.preserves_Kernel2_Kernel2Ideal := trivial

/-- Both of the reference's results are the kernel's. -/
theorem algebraic : Cert.algebraic_Kernel2Ideal_Reference2Ideal := by
  intro m g m' g' _ hagree
  refine ⟨rDx m, rDg m, ?_, ?_⟩
  · refine (θ_run Cert.Kernel2Ideal.defs _ _).mono (fun r h c => ?_) (Cert.Kernel2Ideal.Value.run_blocks m g)
    obtain ⟨h0, h1, hk⟩ := h c
    exact ⟨h0.trans (final9 m c), h1.trans (final10 m c), hk⟩
  · refine (θ_run Cert.Reference2Ideal.defs _ _).mono (fun r h c => ?_) (Cert.Reference2Ideal.Value.run m' g')
    obtain ⟨h0, h1, hk⟩ := h c
    obtain ⟨a0, a1, a2, a3, a4, a5, a6, a7, a8⟩ := hagree c
    refine ⟨(h0.trans (Cert.Reference2Ideal.Read.val_main_v41_eq m' c)).trans ?_,
      (h1.trans (Cert.Reference2Ideal.Read.val_main_v42_eq _ _ _ _ _ _ _)).trans ?_, hk⟩
    all_goals
      simp only [a0, a1, a2, a3, a4, a5, a6, a7, a8]
      funext y
      refine (congrArg _ (ix2_eta y).symm).trans ?_
    · exact Cert.Reference2Ideal.InBwd.dx_apply (A0 m c) (A1 m c) (A2 m c) (A3 m c) (A4 m c) (A5 m c) (A6 m c) (A7 m c) (A8 m c) (y 0) (y 1)
    · exact Cert.Reference2Ideal.InBwd.dg_apply (A0 m c) (A2 m c) (A3 m c) (A4 m c) (A5 m c) (A6 m c) (A7 m c) (y 0) (y 1)

end Cert.InBwd

end
-- ==== Proof.PostBwd.Block.lean ====
/-
  One block of 512 rows of the gate's and the output projection's backward pass over the extended reals, entry by entry.
-/
module

public import proofs.«01_k».proof.Proof.Lin.Blocks
public import proofs.«01_k».proof.Proof.Gen.Kernel3Ideal.Value
public import Idealize.ShloMosaic.Lib.Pipeline.ValueKit
public import Idealize.ShloMosaic.Lib.Tactic
public import Idealize.ShloMosaic.Lib.Pointwise

@[expose] public section

noncomputable section

namespace Cert.Kernel3Ideal.PostBwd

open Cert.Kernel3Ideal Cert.Kernel3Ideal.Gen Idealize.ShloMosaic Idealize.ShloMosaic.TcCoe Idealize.SL.Sem
open Cert

section Pays
variable (d x : Vec Ideal S512x1024 .f32) (h : Vec Ideal S512x1024 .bf16) (p : Vec Ideal S512x256 .bf16) (wo : Vec Ideal S1024x1024 .bf16)
  (g : Vec Ideal S1x1024 .f32) (wg : Vec Ideal S1024x1024 .bf16) (wp : Vec Ideal S256x1024 .bf16)

/-- The block's rows: the gate's argument, what is gated, and the gradient of the gate's argument. -/
abbrev gRow (i : Fin 512) : Fin 1024 → EReal := LinSpec.mul (fun e => h (ix2 i e)) (fun e k => wg (ix2 e k))
abbrev qRow (i : Fin 512) : Fin 1024 → EReal := LinSpec.mul (fun e => p (ix2 i e)) (fun e k => wp (ix2 e k))
abbrev dgRow (i : Fin 512) (k : Fin 1024) : EReal := LinSpec.gateBwd (d (ix2 i k)) (qRow p wp i k) (gRow h wg i k)

theorem pay2_apply (i : Fin 512) (k : Fin 1024) : k0_pay2 h wg (ix2 i k) = Ideal.logistic (gRow h wg i k) := by
  pointwise [k0_pay2]
  rfl
theorem pay3_apply (i : Fin 512) (k : Fin 1024) : k0_pay3 d h wg (ix2 i k) = Ideal.logistic (gRow h wg i k) * d (ix2 i k) := by
  pointwise [k0_pay3]
  rw [pay2_apply, mul_comm]
theorem pay4_apply (i : Fin 512) (k : Fin 1024) : k0_pay4 d h wg p wp (ix2 i k) = dgRow d h p wg wp i k := by
  pointwise [k0_pay4]
  rw [pay2_apply]
  exact mul_assoc _ _ _
theorem pay5_apply (i : Fin 512) (k : Fin 1024) :
    k0_pay5 d h wg p wp wg (ix2 i k) = LinSpec.mulT (dgRow d h p wg wp i) (fun k j => wg (ix2 k j)) k := by
  pointwise [k0_pay5]
  simp only [pay4_apply]
  rfl
theorem pay9_apply (i : Fin 512) (z : Fin 1) : k0_pay9 (k0_pay7 x) k0_pay8 (ix2 i z) = LinSpec.ms (fun k => x (ix2 i k)) := by
  pointwise [k0_pay9, k0_pay7, k0_pay8]
  rfl
theorem pay10_apply (i : Fin 512) (z : Fin 1) : k0_pay10 (k0_pay7 x) k0_pay8 (ix2 i z) = LinSpec.rs (fun k => x (ix2 i k)) := by
  pointwise [k0_pay10]
  rw [pay9_apply]
  rfl

variable (n : FVec Ideal S512x1024 .f32)

theorem pay11_apply (z : Fin 1) (k : Fin 1024) : k0_pay11 n x (k0_pay7 x) k0_pay8 (ix2 z k)
    = ∑ i : Fin 512, LinSpec.rmsBwdG (fun k => x (ix2 i k)) (fun k => n (ix2 i k)) k := by
  pointwise [k0_pay11]
  simp only [pay10_apply]
  rfl
theorem pay12_apply (i : Fin 512) (k : Fin 1024) : k0_pay12 d n x g (k0_pay7 x) k0_pay8 (ix2 i k)
    = d (ix2 i k) + LinSpec.rmsBwd (fun k => x (ix2 i k)) (fun k => g (ix2 0 k)) (fun k => n (ix2 i k)) k := by
  pointwise [k0_pay12]
  simp only [pay9_apply, pay10_apply, Fin.sum_univ_one]
  rfl
theorem pay13_apply (i : Fin 512) (k : Fin 1024) : k0_pay13 d n x g (k0_pay7 x) k0_pay8 wo (ix2 i k)
    = LinSpec.mulT (fun k => d (ix2 i k) + LinSpec.rmsBwd (fun k => x (ix2 i k)) (fun k => g (ix2 0 k)) (fun k => n (ix2 i k)) k) (fun k j => wo (ix2 k j)) k := by
  pointwise [k0_pay13]
  simp only [pay12_apply]
  rfl
theorem pay1_apply (a : FVec Ideal S1x1024 .f32) (b : Vec Ideal S1x1024 .f32) (z : Fin 1) (k : Fin 1024) : k0_pay1 a b (ix2 z k) = b (ix2 z k) + a (ix2 z k) := by
  pointwise [k0_pay1]
end Pays

/-! ### What a point leaves -/

variable (m : (ℓ : Loc nD τ sig) → Buf (Elt Ideal) ℓ) (c : Dev nD) (t : Fin cfg0.N)

/-- The blocks of the inputs. -/
abbrev dB : S512x1024.Idx → EReal := iblk m c 0 t
abbrev xB : S512x1024.Idx → EReal := iblk m c 1 t
abbrev hB : S512x1024.Idx → EReal := iblk m c 2 t
abbrev pB : S512x256.Idx → EReal := iblk m c 3 t
abbrev woB : S1024x1024.Idx → EReal := iblk m c 4 t
abbrev sB : S1x1024.Idx → EReal := iblk m c 5 t
abbrev wgB : S1024x1024.Idx → EReal := iblk m c 6 t
abbrev wpB : S256x1024.Idx → EReal := iblk m c 7 t

/-- The rows of the gradients at point `t`: of the gate's argument, of the normed rows, of the stream and of the mixed heads. -/
abbrev dgP (i : Fin 512) : Fin 1024 → EReal := dgRow (dB m c t) (hB m c t) (pB m c t) (wgB m c t) (wpB m c t) i
abbrev dnP (i : Fin 512) : Fin 1024 → EReal := LinSpec.mulT (dgP m c t i) (fun k j => wgB m c t (ix2 k j))
abbrev dxP (i : Fin 512) (k : Fin 1024) : EReal :=
  dB m c t (ix2 i k) + LinSpec.rmsBwd (fun k => xB m c t (ix2 i k)) (fun k => sB m c t (ix2 0 k)) (dnP m c t i) k
abbrev dyP (i : Fin 512) : Fin 1024 → EReal := LinSpec.mulT (dxP m c t i) (fun k j => woB m c t (ix2 k j))

theorem dn_eq (i : Fin 512) : (fun k => k0_pay5 (F := Ideal) (dB m c t) (hB m c t) (wgB m c t) (pB m c t) (wpB m c t) (wgB m c t) (ix2 i k)) = dnP m c t i :=
  funext fun k => pay5_apply (dB m c t) (hB m c t) (pB m c t) (wgB m c t) (wpB m c t) i k
theorem s_eq : k0_pay6 (F := Ideal) (sB m c t) = (sB m c t : Vec Ideal S1x1024 .f32) := shapeCast_id _ _
theorem dx_eq (i : Fin 512) (k : Fin 1024) : k0_pay12 (F := Ideal) (dB m c t) (k0_pay5 (F := Ideal) (dB m c t) (hB m c t) (wgB m c t) (pB m c t) (wpB m c t) (wgB m c t)) (xB m c t)
      (k0_pay6 (F := Ideal) (sB m c t)) (k0_pay7 (F := Ideal) (xB m c t)) k0_pay8 (ix2 i k) = dxP m c t i k := by
  rw [s_eq, pay12_apply, dn_eq]
theorem dy_eq (i : Fin 512) (k : Fin 1024) : k0_pay13 (F := Ideal) (dB m c t) (k0_pay5 (F := Ideal) (dB m c t) (hB m c t) (wgB m c t) (pB m c t) (wpB m c t) (wgB m c t)) (xB m c t)
      (k0_pay6 (F := Ideal) (sB m c t)) (k0_pay7 (F := Ideal) (xB m c t)) k0_pay8 (woB m c t) (ix2 i k) = dyP m c t i k := by
  rw [s_eq, pay13_apply, dn_eq]
theorem dys_eq (i : Fin 512) (j : Fin 256) : k0_pay14 (F := Ideal) (dB m c t) (k0_pay5 (F := Ideal) (dB m c t) (hB m c t) (wgB m c t) (pB m c t) (wpB m c t) (wgB m c t)) (xB m c t)
      (k0_pay6 (F := Ideal) (sB m c t)) (k0_pay7 (F := Ideal) (xB m c t)) k0_pay8 (woB m c t) (ix2 i j) = dyP m c t i (LinSpec.col 0 (by decide) j) := by
  pointwise [k0_pay14]
  exact (dy_eq m c t i _).trans (congrArg (dyP m c t i) (Fin.ext (Nat.zero_add j.val).symm : (⟨j.val, _⟩ : Fin 1024) = LinSpec.col 0 (by decide) j))
theorem dyd_eq (i : Fin 512) (j : Fin 512) : k0_pay15 (F := Ideal) (dB m c t) (k0_pay5 (F := Ideal) (dB m c t) (hB m c t) (wgB m c t) (pB m c t) (wpB m c t) (wgB m c t)) (xB m c t)
      (k0_pay6 (F := Ideal) (sB m c t)) (k0_pay7 (F := Ideal) (xB m c t)) k0_pay8 (woB m c t) (ix2 i j) = dyP m c t i (LinSpec.col 256 (by decide) j) := by
  pointwise [k0_pay15]
  exact dy_eq ..
theorem dyg_eq (i : Fin 512) (j : Fin 256) : k0_pay16 (F := Ideal) (dB m c t) (k0_pay5 (F := Ideal) (dB m c t) (hB m c t) (wgB m c t) (pB m c t) (wpB m c t) (wgB m c t)) (xB m c t)
      (k0_pay6 (F := Ideal) (sB m c t)) (k0_pay7 (F := Ideal) (xB m c t)) k0_pay8 (woB m c t) (ix2 i j) = dyP m c t i (LinSpec.col 768 (by decide) j) := by
  pointwise [k0_pay16]
  exact dy_eq ..

/-- A point is the first or a later one. -/
theorem cases_of : (t.val % 16 = 0 ∧ ¬1 ≤ t.val) ∨ (¬t.val % 16 = 0 ∧ 1 ≤ t.val) := by
  have hN : cfg0.N = 16 := N_0
  have ht := t.isLt
  omega

theorem point8 (i : Fin 512) (k : Fin 1024) : (outsAt0 m c t.val t.isLt).1 (ix2 i k) = dxP m c t i k := by
  rcases cases_of t with ⟨h0, h1⟩ | ⟨h0, h1⟩
  · rw [outsAt0_A m c t h0 h1]
    frame_out
    exact dx_eq m c t i k
  · rw [outsAt0_B m c t h0 h1]
    frame_out
    exact dx_eq m c t i k
theorem point9 (i : Fin 512) (k : Fin 1024) : (outsAt0 m c t.val t.isLt).2.1 (ix2 i k) = dgP m c t i k := by
  rcases cases_of t with ⟨h0, h1⟩ | ⟨h0, h1⟩
  · rw [outsAt0_A m c t h0 h1]
    frame_out
    exact pay4_apply (dB m c t) (hB m c t) (pB m c t) (wgB m c t) (wpB m c t) i k
  · rw [outsAt0_B m c t h0 h1]
    frame_out
    exact pay4_apply (dB m c t) (hB m c t) (pB m c t) (wgB m c t) (wpB m c t) i k
theorem point10 (i : Fin 512) (k : Fin 1024) : (outsAt0 m c t.val t.isLt).2.2.1 (ix2 i k) = Ideal.logistic (gRow (hB m c t) (wgB m c t) i k) * dB m c t (ix2 i k) := by
  rcases cases_of t with ⟨h0, h1⟩ | ⟨h0, h1⟩
  · rw [outsAt0_A m c t h0 h1]
    frame_out
    exact pay3_apply (dB m c t) (hB m c t) (wgB m c t) i k
  · rw [outsAt0_B m c t h0 h1]
    frame_out
    exact pay3_apply (dB m c t) (hB m c t) (wgB m c t) i k
theorem point11 (i : Fin 512) (k : Fin 256) : (outsAt0 m c t.val t.isLt).2.2.2.1 (ix2 i k) = dyP m c t i (LinSpec.col 0 (by decide) k) := by
  rcases cases_of t with ⟨h0, h1⟩ | ⟨h0, h1⟩
  · rw [outsAt0_A m c t h0 h1]
    frame_out
    exact dys_eq m c t i k
  · rw [outsAt0_B m c t h0 h1]
    frame_out
    exact dys_eq m c t i k
theorem point12 (i : Fin 512) (k : Fin 512) : (outsAt0 m c t.val t.isLt).2.2.2.2.1 (ix2 i k) = dyP m c t i (LinSpec.col 256 (by decide) k) := by
  rcases cases_of t with ⟨h0, h1⟩ | ⟨h0, h1⟩
  · rw [outsAt0_A m c t h0 h1]
    frame_out
    exact dyd_eq m c t i k
  · rw [outsAt0_B m c t h0 h1]
    frame_out
    exact dyd_eq m c t i k
theorem point13 (i : Fin 512) (k : Fin 256) : (outsAt0 m c t.val t.isLt).2.2.2.2.2.1 (ix2 i k) = dyP m c t i (LinSpec.col 768 (by decide) k) := by
  rcases cases_of t with ⟨h0, h1⟩ | ⟨h0, h1⟩
  · rw [outsAt0_A m c t h0 h1]
    frame_out
    exact dyg_eq m c t i k
  · rw [outsAt0_B m c t h0 h1]
    frame_out
    exact dyg_eq m c t i k

/-- The block's part of the gradient of the scale. -/
abbrev part (k : Fin 1024) : EReal := ∑ i : Fin 512, LinSpec.rmsBwdG (fun k => xB m c t (ix2 i k)) (dnP m c t i) k

theorem part_eq' (z : Fin 1) (k : Fin 1024) : k0_pay11 (F := Ideal) (k0_pay5 (F := Ideal) (dB m c t) (hB m c t) (wgB m c t) (pB m c t) (wpB m c t) (wgB m c t)) (xB m c t)
      (k0_pay7 (F := Ideal) (xB m c t)) k0_pay8 (ix2 z k) = part m c t k := by
  rw [pay11_apply]
  exact Finset.sum_congr rfl fun i _ => congrArg (fun d => LinSpec.rmsBwdG _ d k) (dn_eq m c t i)

theorem point14_A (h0 : t.val % 16 = 0) (z : Fin 1) (k : Fin 1024) : (outsAt0 m c t.val t.isLt).2.2.2.2.2.2 (ix2 z k) = 0 + part m c t k := by
  have hc := cases_of t
  rw [outsAt0_A m c t h0 (by omega), zero_add]
  frame_out
  exact part_eq' m c t z k
theorem point14_B (h0 : ¬t.val % 16 = 0) (z : Fin 1) (k : Fin 1024) : (outsAt0 m c t.val t.isLt).2.2.2.2.2.2 (ix2 z k)
    = (outsAt0 m c (t.val - 1) (Nat.lt_of_le_of_lt (Nat.sub_le _ _) t.isLt)).2.2.2.2.2.2 (ix2 z k) + part m c t k := by
  have hc := cases_of t
  rw [outsAt0_B m c t h0 (by omega)]
  frame_out
  rw [pay1_apply]
  exact congrArg (_ + ·) (part_eq' m c t z k)

end Cert.Kernel3Ideal.PostBwd

end
-- ==== Proof.PostBwd.Final.lean ====
/-
  The arrays the gate's and the output projection's backward pass leaves, over the extended reals: by blocks of 512 rows; the scale's gradient summed over the blocks.
-/
module

public import proofs.«01_k».proof.Proof.PostBwd.Block
public import Idealize.ShloMosaic.Lib.StableHlo.Run
public import Idealize.ShloMosaic.Lib.Pipeline.ValueKit

@[expose] public section

set_option maxHeartbeats 1000000

noncomputable section

namespace Cert.Kernel3Ideal.PostBwd

open Cert.Kernel3Ideal Cert.Kernel3Ideal.Gen Cert.Kernel3Ideal.Value Idealize.ShloMosaic Idealize.ShloMosaic.TcCoe Idealize.SL.Sem
open Idealize.ShloMosaic.Pipeline (Dat)
open Cert

variable (m : (ℓ : Loc nD τ sig) → Buf (Elt Ideal) ℓ) (c : Dev nD)

/-- The launched arguments. -/
abbrev A0 : S8192x1024.Idx → EReal := m ((c : Thread nD τ).loc main_arg0)
abbrev A1 : S8192x1024.Idx → EReal := m ((c : Thread nD τ).loc main_arg1)
abbrev A2 : S8192x256.Idx → EReal := m ((c : Thread nD τ).loc main_arg2)
abbrev A3 : S1024x1024.Idx → EReal := m ((c : Thread nD τ).loc main_arg3)
abbrev A4 : S1024.Idx → EReal := m ((c : Thread nD τ).loc main_arg4)
abbrev A5 : S1024x1024.Idx → EReal := m ((c : Thread nD τ).loc main_arg5)
abbrev A6 : S256x1024.Idx → EReal := m ((c : Thread nD τ).loc main_arg6)

/-- The rows: the normed rows, the gate's argument, what is gated, and the gradients. -/
abbrev hr (r : Fin 8192) : Fin 1024 → EReal := LinSpec.rms (fun k => A1 m c (ix2 r k)) (fun k => A4 m c (ix1 k))
abbrev gr (r : Fin 8192) : Fin 1024 → EReal := LinSpec.mul (hr m c r) (fun e k => A5 m c (ix2 e k))
abbrev qr (r : Fin 8192) : Fin 1024 → EReal := LinSpec.mul (fun e => A2 m c (ix2 r e)) (fun e k => A6 m c (ix2 e k))
abbrev dgr (r : Fin 8192) (k : Fin 1024) : EReal := LinSpec.gateBwd (A0 m c (ix2 r k)) (qr m c r k) (gr m c r k)
abbrev dpr (r : Fin 8192) (k : Fin 1024) : EReal := Ideal.logistic (gr m c r k) * A0 m c (ix2 r k)
abbrev dnr (r : Fin 8192) : Fin 1024 → EReal := LinSpec.mulT (dgr m c r) (fun k j => A5 m c (ix2 k j))
abbrev dxr (r : Fin 8192) (k : Fin 1024) : EReal :=
  A0 m c (ix2 r k) + LinSpec.rmsBwd (fun k => A1 m c (ix2 r k)) (fun k => A4 m c (ix1 k)) (dnr m c r) k
abbrev dyr (r : Fin 8192) : Fin 1024 → EReal := LinSpec.mulT (dxr m c r) (fun k j => A3 m c (ix2 k j))
abbrev dsr (k : Fin 1024) : EReal := ∑ r : Fin 8192, LinSpec.rmsBwdG (fun k => A1 m c (ix2 r k)) (dnr m c r) k

theorem N16 : cfg0.N = 16 := N_0

/-! ### What the windows read -/

theorem idx : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![0, 0] ∧ win0_7.index t = ![0, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] ∧ win0_14.index t = ![0, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![0, 0] ∧ win0_7.index t = ![0, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] ∧ win0_14.index t = ![0, 0])

/-- Row `i` of the block of point `t`. -/
abbrev rowAt (t : Fin cfg0.N) (i : Fin 512) : Fin 8192 := ⟨512 * t.val + i.val, by have := t.isLt; have := N16; omega⟩

section
variable (t : Fin cfg0.N) (i : Fin 512)

/-- The coordinates of the windows' blocks. -/
theorem emb0 (k : Fin 1024) : (win0_0.blk t).view.emb (ix2 i k) = (ix2 (rowAt t i) k : S8192x1024.Idx) := by
  obtain ⟨e, -⟩ := idx t
  exact LinSpec.ext2 (by blk_simp [e]; show t.val * 512 + i.val = 512 * t.val + i.val; omega) (by blk_simp [e])
theorem emb1 (k : Fin 1024) : (win0_1.blk t).view.emb (ix2 i k) = (ix2 (rowAt t i) k : S8192x1024.Idx) := by
  obtain ⟨-, e, -⟩ := idx t
  exact LinSpec.ext2 (by blk_simp [e]; show t.val * 512 + i.val = 512 * t.val + i.val; omega) (by blk_simp [e])
theorem emb2 (k : Fin 1024) : (win0_2.blk t).view.emb (ix2 i k) = (ix2 (rowAt t i) k : S8192x1024.Idx) := by
  obtain ⟨-, -, e, -⟩ := idx t
  exact LinSpec.ext2 (by blk_simp [e]; show t.val * 512 + i.val = 512 * t.val + i.val; omega) (by blk_simp [e])
theorem emb3 (k : Fin 256) : (win0_3.blk t).view.emb (ix2 i k) = (ix2 (rowAt t i) k : S8192x256.Idx) := by
  obtain ⟨-, -, -, e, -⟩ := idx t
  exact LinSpec.ext2 (by blk_simp [e]; show t.val * 512 + i.val = 512 * t.val + i.val; omega) (by blk_simp [e])
theorem emb8 (k : Fin 1024) : (win0_8.blk t).view.emb (ix2 i k) = (ix2 (rowAt t i) k : S8192x1024.Idx) := by
  obtain ⟨-, -, -, -, -, -, -, -, e, -⟩ := idx t
  exact LinSpec.ext2 (by blk_simp [e]; show t.val * 512 + i.val = 512 * t.val + i.val; omega) (by blk_simp [e])
theorem emb9 (k : Fin 1024) : (win0_9.blk t).view.emb (ix2 i k) = (ix2 (rowAt t i) k : S8192x1024.Idx) := by
  obtain ⟨-, -, -, -, -, -, -, -, -, e, -⟩ := idx t
  exact LinSpec.ext2 (by blk_simp [e]; show t.val * 512 + i.val = 512 * t.val + i.val; omega) (by blk_simp [e])
theorem emb10 (k : Fin 1024) : (win0_10.blk t).view.emb (ix2 i k) = (ix2 (rowAt t i) k : S8192x1024.Idx) := by
  obtain ⟨-, -, -, -, -, -, -, -, -, -, e, -⟩ := idx t
  exact LinSpec.ext2 (by blk_simp [e]; show t.val * 512 + i.val = 512 * t.val + i.val; omega) (by blk_simp [e])
theorem emb11 (k : Fin 256) : (win0_11.blk t).view.emb (ix2 i k) = (ix2 (rowAt t i) k : S8192x256.Idx) := by
  obtain ⟨-, -, -, -, -, -, -, -, -, -, -, e, -⟩ := idx t
  exact LinSpec.ext2 (by blk_simp [e]; show t.val * 512 + i.val = 512 * t.val + i.val; omega) (by blk_simp [e])
theorem emb12 (k : Fin 512) : (win0_12.blk t).view.emb (ix2 i k) = (ix2 (rowAt t i) k : S8192x512.Idx) := by
  obtain ⟨-, -, -, -, -, -, -, -, -, -, -, -, e, -⟩ := idx t
  exact LinSpec.ext2 (by blk_simp [e]; show t.val * 512 + i.val = 512 * t.val + i.val; omega) (by blk_simp [e])
theorem emb13 (k : Fin 256) : (win0_13.blk t).view.emb (ix2 i k) = (ix2 (rowAt t i) k : S8192x256.Idx) := by
  obtain ⟨-, -, -, -, -, -, -, -, -, -, -, -, -, e, -⟩ := idx t
  exact LinSpec.ext2 (by blk_simp [e]; show t.val * 512 + i.val = 512 * t.val + i.val; omega) (by blk_simp [e])
theorem emb4 (k : Fin 1024) (j : Fin 1024) : (win0_4.blk t).view.emb (ix2 k j) = (ix2 k j : S1024x1024.Idx) := by
  obtain ⟨-, -, -, -, e, -⟩ := idx t
  exact LinSpec.ext2 (by blk_simp [e]) (by blk_simp [e])
theorem emb5 (k : Fin 1) (j : Fin 1024) : (win0_5.blk t).view.emb (ix2 k j) = (ix2 k j : S1x1024.Idx) := by
  obtain ⟨-, -, -, -, -, e, -⟩ := idx t
  exact LinSpec.ext2 (by blk_simp [e]) (by blk_simp [e])
theorem emb6 (k : Fin 1024) (j : Fin 1024) : (win0_6.blk t).view.emb (ix2 k j) = (ix2 k j : S1024x1024.Idx) := by
  obtain ⟨-, -, -, -, -, -, e, -⟩ := idx t
  exact LinSpec.ext2 (by blk_simp [e]) (by blk_simp [e])
theorem emb7 (k : Fin 256) (j : Fin 1024) : (win0_7.blk t).view.emb (ix2 k j) = (ix2 k j : S256x1024.Idx) := by
  obtain ⟨-, -, -, -, -, -, -, e, -⟩ := idx t
  exact LinSpec.ext2 (by blk_simp [e]) (by blk_simp [e])
theorem emb14 (k : Fin 1) (j : Fin 1024) : (win0_14.blk t).view.emb (ix2 k j) = (ix2 k j : S1x1024.Idx) := by
  obtain ⟨-, -, -, -, -, -, -, -, -, -, -, -, -, -, e⟩ := idx t
  exact LinSpec.ext2 (by blk_simp [e]) (by blk_simp [e])
end

theorem iblk0 (t : Fin cfg0.N) (i : Fin 512) (k : Fin 1024) :
    (iblk m c 0 t : Vec Ideal S512x1024 .f32) (ix2 i k) = A0 m c (ix2 (rowAt t i) k) := by
  unfold iblk
  rw [View.read_apply]
  show V m c main_arg0 _ = _
  rw [V_main_arg0]
  exact congrArg (A0 m c) (emb0 t i k)
theorem iblk1 (t : Fin cfg0.N) (i : Fin 512) (k : Fin 1024) :
    (iblk m c 1 t : Vec Ideal S512x1024 .f32) (ix2 i k) = A1 m c (ix2 (rowAt t i) k) := by
  unfold iblk
  rw [View.read_apply]
  show V m c main_arg1 _ = _
  rw [V_main_arg1]
  exact congrArg (A1 m c) (emb1 t i k)
theorem iblk3 (t : Fin cfg0.N) (i : Fin 512) (k : Fin 256) :
    (iblk m c 3 t : Vec Ideal S512x256 .bf16) (ix2 i k) = A2 m c (ix2 (rowAt t i) k) := by
  unfold iblk
  rw [View.read_apply]
  show V m c main_arg2 _ = _
  rw [V_main_arg2]
  exact congrArg (A2 m c) (emb3 t i k)
theorem iblk4 (t : Fin cfg0.N) (k : Fin 1024) (j : Fin 1024) :
    (iblk m c 4 t : Vec Ideal S1024x1024 .bf16) (ix2 k j) = A3 m c (ix2 k j) := by
  unfold iblk
  rw [View.read_apply]
  show V m c main_arg3 _ = _
  rw [V_main_arg3]
  exact congrArg (A3 m c) (emb4 t k j)
theorem iblk6 (t : Fin cfg0.N) (k : Fin 1024) (j : Fin 1024) :
    (iblk m c 6 t : Vec Ideal S1024x1024 .bf16) (ix2 k j) = A5 m c (ix2 k j) := by
  unfold iblk
  rw [View.read_apply]
  show V m c main_arg5 _ = _
  rw [V_main_arg5]
  exact congrArg (A5 m c) (emb6 t k j)
theorem iblk7 (t : Fin cfg0.N) (k : Fin 256) (j : Fin 1024) :
    (iblk m c 7 t : Vec Ideal S256x1024 .bf16) (ix2 k j) = A6 m c (ix2 k j) := by
  unfold iblk
  rw [View.read_apply]
  show V m c main_arg6 _ = _
  rw [V_main_arg6]
  exact congrArg (A6 m c) (emb7 t k j)

/-- The host's row of the norm's scale. -/
theorem V_g : V m c main_v14 = (broadcastInDim S1x1024 ![1] bcast_S1024_S1x1024_1 (A4 m c) : Vec Ideal S1x1024 .f32) := by
  unfold_abbrev_sides
  after_results

theorem iblk5 (t : Fin cfg0.N) (z : Fin 1) (k : Fin 1024) : (iblk m c 5 t : Vec Ideal S1x1024 .f32) (ix2 z k) = A4 m c (ix1 k) := by
  unfold iblk
  rw [View.read_apply]
  show V m c main_v14 _ = _
  rw [V_g]
  refine (congrArg _ (emb5 t z k)).trans ?_
  pointwise []

/-- The host's normed rows. -/
noncomputable abbrev hostRows (x : FVec Ideal S8192x1024 .f32) (g : FVec Ideal S1024 .f32) : FVec Ideal S8192x1024 .bf16 :=
  truncf .bf16 (mulf (mulf x (broadcastInDim S8192x1024 ![0, 1] bcast_S8192x1_S8192x1024_0_1 (Host.rsqrt (addf (Host.divf
      (broadcastInDim S8192x1 ![0] bcast_S8192_S8192x1_0 (Host.reduceAdd (mulf x x) (constant S_ .f32 0x00000000#32) reducesTo_S8192x1024_S8192_d1 h_S_))
      (broadcastInDim S8192x1 ![] bcast_S_S8192x1 (constant S_ .f32 0x44800000#32))) (broadcastInDim S8192x1 ![] bcast_S_S8192x1 (constant S_ .f32 0x358637BD#32))))))
      (broadcastInDim S8192x1024 ![0, 1] bcast_S1x1024_S8192x1024_0_1 (broadcastInDim S1x1024 ![1] bcast_S1024_S1x1024_1 g))) bitsLt_bf16_f32

theorem hostRows_apply (x : FVec Ideal S8192x1024 .f32) (g : FVec Ideal S1024 .f32) (r : Fin 8192) (k : Fin 1024) :
    hostRows x g (ix2 r k) = LinSpec.rms (fun k => x (ix2 r k)) (fun k => g (ix1 k)) k := by
  pointwise [hostRows]
  rfl

theorem V_h : V m c main_v13 = hostRows (A1 m c) (A4 m c) := by
  unfold_abbrev_sides
  after_results

theorem iblk2 (t : Fin cfg0.N) (i : Fin 512) (k : Fin 1024) : (iblk m c 2 t : Vec Ideal S512x1024 .bf16) (ix2 i k) = hr m c (rowAt t i) k := by
  unfold iblk
  rw [View.read_apply]
  show V m c main_v13 _ = _
  rw [V_h]
  refine (congrArg _ (emb2 t i k)).trans ?_
  exact hostRows_apply ..

section
variable (t : Fin cfg0.N) (i : Fin 512)

theorem gRow_iblk : gRow (hB m c t) (wgB m c t) i = gr m c (rowAt t i) :=
  congrArg₂ LinSpec.mul (funext fun k => iblk2 m c t i k) (funext fun k => funext fun j => iblk6 m c t k j)
theorem qRow_iblk : qRow (pB m c t) (wpB m c t) i = qr m c (rowAt t i) :=
  congrArg₂ LinSpec.mul (funext fun k => iblk3 m c t i k) (funext fun k => funext fun j => iblk7 m c t k j)
theorem dgP_eq : dgP m c t i = dgr m c (rowAt t i) := by
  funext k
  have e := iblk0 m c t i k
  have e1 := congrFun (qRow_iblk m c t i) k
  have e2 := congrFun (gRow_iblk m c t i) k
  unfold dgP dgr dgRow
  rw [e1, e2]
  exact congrArg (LinSpec.gateBwd · _ _) e
theorem dpP_eq (k : Fin 1024) : Ideal.logistic (gRow (hB m c t) (wgB m c t) i k) * dB m c t (ix2 i k) = dpr m c (rowAt t i) k :=
  congrArg₂ (· * ·) (congrArg Ideal.logistic (congrFun (gRow_iblk m c t i) k)) (iblk0 m c t i k)
theorem dnP_eq : dnP m c t i = dnr m c (rowAt t i) :=
  congrArg₂ LinSpec.mulT (dgP_eq m c t i) (funext fun k => funext fun j => iblk6 m c t k j)
theorem xB_eq : (fun k => xB m c t (ix2 i k)) = fun k => A1 m c (ix2 (rowAt t i) k) := funext fun k => iblk1 m c t i k
theorem sB_eq : (fun k => sB m c t (ix2 0 k)) = fun k => A4 m c (ix1 k) := funext fun k => iblk5 m c t 0 k
theorem dxP_eq : dxP m c t i = dxr m c (rowAt t i) := by
  funext k
  unfold dxP
  rw [xB_eq, sB_eq, dnP_eq]
  exact congrArg (· + _) (iblk0 m c t i k)
theorem dyP_eq : dyP m c t i = dyr m c (rowAt t i) :=
  congrArg₂ LinSpec.mulT (dxP_eq m c t i) (funext fun k => funext fun j => iblk4 m c t k j)
end

/-! ### The results -/

/-- The gradients of the stream, of the gate's argument, of what is gated, of the three runs of the mixed heads and of the scale. -/
abbrev rDx : S8192x1024.Idx → EReal := fun y => dxr m c (y 0) (y 1)
abbrev rDg : S8192x1024.Idx → EReal := fun y => dgr m c (y 0) (y 1)
abbrev rDp : S8192x1024.Idx → EReal := fun y => dpr m c (y 0) (y 1)
abbrev rYs : S8192x256.Idx → EReal := fun y => dyr m c (y 0) (LinSpec.col 0 (by decide) (y 1 : Fin 256))
abbrev rYd : S8192x512.Idx → EReal := fun y => dyr m c (y 0) (LinSpec.col 256 (by decide) (y 1 : Fin 512))
abbrev rYg : S8192x256.Idx → EReal := fun y => dyr m c (y 0) (LinSpec.col 768 (by decide) (y 1 : Fin 256))
abbrev rDs : S1x1024.Idx → EReal := fun y => dsr m c (y 1)

theorem final8 : (dats m 0 c).arrAt 8 cfg0.N = rDx m c := by
  refine (dats m 0 c).arrAt_eq_of_covers 8 _ (by decide +kernel) fun t hf y => ?_
  obtain ⟨i, j, rfl⟩ : ∃ (i : Fin 512) (j : Fin 1024), y = ix2 i j := ⟨y 0, y 1, (ix2_eta y).symm⟩
  blk_simp
  rw [after0_8]
  refine ((point8 m c t i j).trans (congrFun (dxP_eq m c t i) j)).trans (congrArg (rDx m c) (emb8 t i j)).symm
theorem final9 : (dats m 0 c).arrAt 9 cfg0.N = rDg m c := by
  refine (dats m 0 c).arrAt_eq_of_covers 9 _ (by decide +kernel) fun t hf y => ?_
  obtain ⟨i, j, rfl⟩ : ∃ (i : Fin 512) (j : Fin 1024), y = ix2 i j := ⟨y 0, y 1, (ix2_eta y).symm⟩
  blk_simp
  rw [after0_9]
  refine ((point9 m c t i j).trans (congrFun (dgP_eq m c t i) j)).trans (congrArg (rDg m c) (emb9 t i j)).symm
theorem final10 : (dats m 0 c).arrAt 10 cfg0.N = rDp m c := by
  refine (dats m 0 c).arrAt_eq_of_covers 10 _ (by decide +kernel) fun t hf y => ?_
  obtain ⟨i, j, rfl⟩ : ∃ (i : Fin 512) (j : Fin 1024), y = ix2 i j := ⟨y 0, y 1, (ix2_eta y).symm⟩
  blk_simp
  rw [after0_10]
  refine ((point10 m c t i j).trans (dpP_eq m c t i j)).trans (congrArg (rDp m c) (emb10 t i j)).symm
theorem final11 : (dats m 0 c).arrAt 11 cfg0.N = rYs m c := by
  refine (dats m 0 c).arrAt_eq_of_covers 11 _ (by decide +kernel) fun t hf y => ?_
  obtain ⟨i, j, rfl⟩ : ∃ (i : Fin 512) (j : Fin 256), y = ix2 i j := ⟨y 0, y 1, (ix2_eta y).symm⟩
  blk_simp
  rw [after0_11]
  refine ((point11 m c t i j).trans (congrFun (dyP_eq m c t i) _)).trans (congrArg (rYs m c) (emb11 t i j)).symm
theorem final12 : (dats m 0 c).arrAt 12 cfg0.N = rYd m c := by
  refine (dats m 0 c).arrAt_eq_of_covers 12 _ (by decide +kernel) fun t hf y => ?_
  obtain ⟨i, j, rfl⟩ : ∃ (i : Fin 512) (j : Fin 512), y = ix2 i j := ⟨y 0, y 1, (ix2_eta y).symm⟩
  blk_simp
  rw [after0_12]
  refine ((point12 m c t i j).trans (congrFun (dyP_eq m c t i) _)).trans (congrArg (rYd m c) (emb12 t i j)).symm
theorem final13 : (dats m 0 c).arrAt 13 cfg0.N = rYg m c := by
  refine (dats m 0 c).arrAt_eq_of_covers 13 _ (by decide +kernel) fun t hf y => ?_
  obtain ⟨i, j, rfl⟩ : ∃ (i : Fin 512) (j : Fin 256), y = ix2 i j := ⟨y 0, y 1, (ix2_eta y).symm⟩
  blk_simp
  rw [after0_13]
  refine ((point13 m c t i j).trans (congrFun (dyP_eq m c t i) _)).trans (congrArg (rYg m c) (emb13 t i j)).symm

theorem part_eq (t : Fin cfg0.N) (k : Fin 1024) :
    part m c t k = ∑ i : Fin 512, LinSpec.rmsBwdG (fun k => A1 m c (ix2 (rowAt t i) k)) (dnr m c (rowAt t i)) k :=
  Finset.sum_congr rfl fun i _ => by rw [xB_eq, dnP_eq]

theorem sum_parts (k : Fin 1024) : ∑ t : Fin cfg0.N, part m c t k = dsr m c k := by
  simp only [part_eq]
  exact Fin.sum_mul_add_congr (fun t i hl => by
    have e : rowAt t i = ⟨t.val * 512 + i.val, hl⟩ := Fin.ext (congrArg (· + i.val) (Nat.mul_comm _ _))
    rw [e]) (by decide +kernel : 8192 = cfg0.N * 512)

theorem final14 : (dats m 0 c).arrAt 14 cfg0.N = rDs m c := by
  refine (dats m 0 c).arrAt_eq_of_covers 14 _ (by decide +kernel) fun t hf y => ?_
  obtain ⟨z, j, rfl⟩ : ∃ (z : Fin 1) (j : Fin 1024), y = ix2 z j := ⟨y 0, y 1, (ix2_eta y).symm⟩
  have hl : t.val + 1 = cfg0.N := by
    have h := (flush0_14 t).mp hf
    have hN := N16
    have ht := t.isLt
    omega
  blk_simp
  rw [after0_14]
  refine Eq.trans ?_ (congrArg (rDs m c) (emb14 t z j)).symm
  refine (Pipeline.eq_sum_fin_of_reset_step_apply_last (fun n h (k : Fin 1024) => (outsAt0 m c n h).2.2.2.2.2.2 (ix2 z k)) 16 (fun _ => (0 : EReal)) (part m c)
    (fun t h k => point14_A m c t h z k) (fun t h k => point14_B m c t h z k) (le_of_eq N16) t hl j).trans ?_
  rw [sum_parts, zero_add]
  rfl

end Cert.Kernel3Ideal.PostBwd

end
-- ==== Proof.PostBwd.RefRead.lean ====
/-
  The reference of the gate's and the output projection's backward pass, read entry by entry.
-/
module

public import proofs.«01_k».proof.Proof.Gen.Reference3Ideal.Read
public import proofs.«01_k».proof.Proof.Lin.Spec
public import Idealize.ShloMosaic.Lib.Tactic
public import Idealize.ShloMosaic.Lib.Pointwise

@[expose] public section

noncomputable section

namespace Cert.Reference3Ideal.PostBwd

open Cert.Reference3Ideal Cert.Reference3Ideal.Gen Cert.Reference3Ideal.Read Idealize.ShloMosaic Idealize.ShloMosaic.TcCoe Idealize.SL.Sem
open Cert

variable (d x : S8192x1024.Idx → EReal) (p : S8192x256.Idx → EReal)
  (wo : S1024x1024.Idx → EReal) (g : S1024.Idx → EReal) (wg : S1024x1024.Idx → EReal) (wp : S256x1024.Idx → EReal)

/-- The rows: the normed rows, the gate's argument, what is gated, and the gradients. -/
abbrev hRow (r : Fin 8192) : Fin 1024 → EReal := LinSpec.rms (fun k => x (ix2 r k)) (fun k => g (ix1 k))
abbrev gRow (r : Fin 8192) : Fin 1024 → EReal := LinSpec.mul (hRow x g r) (fun e k => wg (ix2 e k))
abbrev qRow (r : Fin 8192) : Fin 1024 → EReal := LinSpec.mul (fun e => p (ix2 r e)) (fun e k => wp (ix2 e k))
abbrev dgRow (r : Fin 8192) (k : Fin 1024) : EReal := LinSpec.gateBwd (d (ix2 r k)) (qRow p wp r k) (gRow x g wg r k)
abbrev dnRow (r : Fin 8192) : Fin 1024 → EReal := LinSpec.mulT (dgRow d x p g wg wp r) (fun k j => wg (ix2 k j))
abbrev dxRow (r : Fin 8192) (k : Fin 1024) : EReal :=
  d (ix2 r k) + LinSpec.rmsBwd (fun k => x (ix2 r k)) (fun k => g (ix1 k)) (dnRow d x p g wg wp r) k
abbrev dyRow (r : Fin 8192) : Fin 1024 → EReal := LinSpec.mulT (dxRow d x p g wg wp r) (fun k j => wo (ix2 k j))

theorem ms_apply (r : Fin 8192) (z : Fin 1) : val_main_v6 (F := Ideal) x (ix2 r z) = LinSpec.ms (fun k => x (ix2 r k)) := by
  pointwise [val_main_v6, val_main_v5, val_main_v4, val_main_v3, val_main_v2, val_main_v1, val_main_v0, val_main_cst, val_main_cst_0, val_main_cst_1]
  rfl
theorem rs_apply (r : Fin 8192) (z : Fin 1) : val_main_v7 (F := Ideal) x (ix2 r z) = LinSpec.rs (fun k => x (ix2 r k)) := by
  pointwise [val_main_v7]
  rw [ms_apply]
  rfl
theorem g_apply (r : Fin 8192) (k : Fin 1024) : val_main_v17 (F := Ideal) x g wg (ix2 r k) = gRow x g wg r k := by
  pointwise [val_main_v17, val_main_v16, val_main_v15, val_main_v14, val_main_v13, val_main_v12, val_main_v11]
  simp only [rs_apply]
  rfl
theorem s_apply (r : Fin 8192) (k : Fin 1024) : val_main_v26 (F := Ideal) x g wg (ix2 r k) = Ideal.logistic (gRow x g wg r k) := by
  pointwise [val_main_v26, val_main_v25, val_main_v24, val_main_v23, val_main_v22, val_main_v21, val_main_cst_3, val_main_cst_4]
  rw [g_apply]
  rfl
theorem q_apply (r : Fin 8192) (k : Fin 1024) : val_main_v20 (F := Ideal) p wp (ix2 r k) = qRow p wp r k := by
  pointwise [val_main_v20, val_main_v19, val_main_v18]
  rfl
theorem dg_apply (r : Fin 8192) (k : Fin 1024) : val_main_v35 (F := Ideal) d x p g wg wp (ix2 r k) = dgRow d x p g wg wp r k := by
  pointwise [val_main_v35, val_main_v34, val_main_v32, val_main_v29, val_main_v28, val_main_v27, val_main_cst_5]
  rw [s_apply, q_apply]
  rfl
theorem dgb_apply (r : Fin 8192) (k : Fin 1024) : val_main_v65 (F := Ideal) d x p g wg wp (ix2 r k) = dgRow d x p g wg wp r k := by
  pointwise [val_main_v65]
  exact dg_apply ..
theorem dp_apply (r : Fin 8192) (k : Fin 1024) :
    val_main_v66 (F := Ideal) d x g wg (ix2 r k) = Ideal.logistic (gRow x g wg r k) * d (ix2 r k) := by
  pointwise [val_main_v66, val_main_v33, val_main_v32]
  rw [s_apply]
theorem dn_apply (r : Fin 8192) (k : Fin 1024) : val_main_v36 (F := Ideal) d x p g wg wp (ix2 r k) = dnRow d x p g wg wp r k := by
  pointwise [val_main_v36, val_main_v16]
  simp only [dg_apply]
  rfl
theorem dx_apply (r : Fin 8192) (k : Fin 1024) : val_main_v57 (F := Ideal) d x p g wg wp (ix2 r k) = dxRow d x p g wg wp r k := by
  pointwise [val_main_v57, val_main_v56, val_main_v55, val_main_v54, val_main_v53, val_main_v52, val_main_v51, val_main_v50, val_main_v49, val_main_v48, val_main_v47, val_main_v46, val_main_v45, val_main_v44, val_main_v43, val_main_v41, val_main_v40, val_main_v13, val_main_v10, val_main_v9, val_main_v8, val_main_cst_2, val_main_cst_8, val_main_cst_9, val_main_cst_10]
  simp only [ms_apply, rs_apply, dn_apply, Fin.sum_univ_one]
  rfl
theorem dpg_apply (z : Fin 1) (k : Fin 1024) : val_main_v67 (F := Ideal) d x p g wg wp (ix2 z k)
    = ∑ r : Fin 8192, LinSpec.rmsBwdG (fun k => x (ix2 r k)) (dnRow d x p g wg wp r) k := by
  pointwise [val_main_v67, val_main_v42, val_main_v39, val_main_v38, val_main_v37, val_main_v12, val_main_v11, val_main_cst_6, val_main_cst_7]
  simp only [rs_apply, dn_apply, Fin.sum_univ_one]
  rfl
theorem dy_apply (r : Fin 8192) (k : Fin 1024) : val_main_v61 (F := Ideal) d x p wo g wg wp (ix2 r k) = dyRow d x p wo g wg wp r k := by
  pointwise [val_main_v61, val_main_v59]
  simp only [dx_apply]
  rfl
theorem dys_apply (r : Fin 8192) (j : Fin 256) :
    val_main_v62 (F := Ideal) d x p wo g wg wp (ix2 r j) = dyRow d x p wo g wg wp r (LinSpec.col 0 (by decide) j) := by
  pointwise [val_main_v62]
  exact (dy_apply ..).trans (congrArg _ (Fin.ext (Nat.zero_add j.val).symm))
theorem dyd_apply (r : Fin 8192) (j : Fin 512) :
    val_main_v63 (F := Ideal) d x p wo g wg wp (ix2 r j) = dyRow d x p wo g wg wp r (LinSpec.col 256 (by decide) j) := by
  pointwise [val_main_v63]
  exact dy_apply ..
theorem dyg_apply (r : Fin 8192) (j : Fin 256) :
    val_main_v64 (F := Ideal) d x p wo g wg wp (ix2 r j) = dyRow d x p wo g wg wp r (LinSpec.col 768 (by decide) j) := by
  pointwise [val_main_v64]
  exact dy_apply ..

end Cert.Reference3Ideal.PostBwd

end
-- ==== Proof.PostBwd.Claims.lean ====
/-
  The claims about the gate's and the output projection's backward pass: the three frames, and that the kernel's seven arrays are the reference's over the
  extended reals.
-/
module

public import proofs.«01_k».proof.Defs
public import proofs.«01_k».proof.Proof.PostBwd.Final
public import proofs.«01_k».proof.Proof.PostBwd.RefRead
public import proofs.«01_k».proof.Proof.Gen.Reference3Ideal.Run
public import proofs.«01_k».proof.Proof.Gen.Kernel3.Frame

@[expose] public section

set_option maxHeartbeats 1000000

noncomputable section

namespace Cert.PostBwd

open Idealize.ShloMosaic Idealize.ShloMosaic.TcCoe Idealize.SL.Sem
open Cert.Kernel3Ideal.PostBwd Idealize.ShloMosaic.StableHlo

theorem frame_kernel : Cert.quiescent_Kernel3 := fun m ρ _ => Cert.Kernel3.Gen.frame m ρ

theorem frame_ideal : Cert.quiescent_Kernel3Ideal := fun m ρ _ => Cert.Kernel3Ideal.Gen.frame m ρ

/-- The reference is a line of host operations on a machine without semaphores. -/
theorem frame_reference : Cert.quiescent_Reference3Ideal := fun m ρ _ =>
  (θ_run Cert.Reference3Ideal.defs _ _).mono (fun r h =>
    ⟨fun c => (h c).2.2.2.2.2.2.2, sem_eq_zero_of_no_sems (by decide) r.2⟩) (Cert.Reference3Ideal.Value.run m ρ)

theorem preserves : Cert.preserves_Kernel3_Kernel3Ideal := trivial

/-- Each of the reference's seven results is the kernel's. -/
theorem algebraic : Cert.algebraic_Kernel3Ideal_Reference3Ideal := by
  intro m g m' g' _ hagree
  refine ⟨rDx m, rDg m, rDp m, rYs m, rYd m, rYg m, rDs m, ?_, ?_⟩
  · refine (θ_run Cert.Kernel3Ideal.defs _ _).mono (fun r h c => ?_) (Cert.Kernel3Ideal.Value.run_blocks m g)
    obtain ⟨h0, h1, h2, h3, h4, h5, h6, hk⟩ := h c
    exact ⟨h0.trans (final8 m c), h1.trans (final9 m c), h2.trans (final10 m c), h3.trans (final11 m c), h4.trans (final12 m c),
      h5.trans (final13 m c), h6.trans (final14 m c), hk⟩
  · refine (θ_run Cert.Reference3Ideal.defs _ _).mono (fun r h c => ?_) (Cert.Reference3Ideal.Value.run m' g')
    obtain ⟨h0, h1, h2, h3, h4, h5, h6, hk⟩ := h c
    obtain ⟨a0, a1, a2, a3, a4, a5, a6⟩ := hagree c
    refine ⟨(h0.trans (Cert.Reference3Ideal.Read.val_main_v57_eq m' c)).trans ?_, (h1.trans (Cert.Reference3Ideal.Read.val_main_v65_eq _ _ _ _ _ _)).trans ?_, (h2.trans (Cert.Reference3Ideal.Read.val_main_v66_eq _ _ _ _)).trans ?_,
      (h3.trans (Cert.Reference3Ideal.Read.val_main_v62_eq m' c)).trans ?_, (h4.trans (Cert.Reference3Ideal.Read.val_main_v63_eq m' c)).trans ?_, (h5.trans (Cert.Reference3Ideal.Read.val_main_v64_eq m' c)).trans ?_,
      (h6.trans (Cert.Reference3Ideal.Read.val_main_v67_eq _ _ _ _ _ _)).trans ?_, hk⟩
    all_goals
      simp only [a0, a1, a2, a3, a4, a5, a6]
      funext y
      refine (congrArg _ (ix2_eta y).symm).trans ?_
    · exact Cert.Reference3Ideal.PostBwd.dx_apply (A0 m c) (A1 m c) (A2 m c) (A4 m c) (A5 m c) (A6 m c) (y 0) (y 1)
    · exact Cert.Reference3Ideal.PostBwd.dgb_apply (A0 m c) (A1 m c) (A2 m c) (A4 m c) (A5 m c) (A6 m c) (y 0) (y 1)
    · exact Cert.Reference3Ideal.PostBwd.dp_apply (A0 m c) (A1 m c) (A4 m c) (A5 m c) (y 0) (y 1)
    · exact Cert.Reference3Ideal.PostBwd.dys_apply (A0 m c) (A1 m c) (A2 m c) (A3 m c) (A4 m c) (A5 m c) (A6 m c) (y 0) (y 1)
    · exact Cert.Reference3Ideal.PostBwd.dyd_apply (A0 m c) (A1 m c) (A2 m c) (A3 m c) (A4 m c) (A5 m c) (A6 m c) (y 0) (y 1)
    · exact Cert.Reference3Ideal.PostBwd.dyg_apply (A0 m c) (A1 m c) (A2 m c) (A3 m c) (A4 m c) (A5 m c) (A6 m c) (y 0) (y 1)
    · exact Cert.Reference3Ideal.PostBwd.dpg_apply (A0 m c) (A1 m c) (A2 m c) (A4 m c) (A5 m c) (A6 m c) (y 0) (y 1)

end Cert.PostBwd

end
-- ==== Proof.InFwd.Block.lean ====
/-
  One block of 512 rows of the input projection over the extended reals, entry by entry.
-/
module

public import proofs.«01_k».proof.Proof.Lin.Blocks
public import proofs.«01_k».proof.Proof.Gen.Kernel4Ideal.Value
public import Idealize.ShloMosaic.Lib.Tactic
public import Idealize.ShloMosaic.Lib.Pointwise

@[expose] public section

noncomputable section

namespace Cert.Kernel4Ideal.InFwd

open Cert.Kernel4Ideal Cert.Kernel4Ideal.Gen Idealize.ShloMosaic Idealize.ShloMosaic.TcCoe Idealize.SL.Sem
open Cert

theorem pay2_apply (x : Vec Ideal S512x1024 .f32) (g : Vec Ideal S1x1024 .f32) (i : Fin 512) (k : Fin 1024) :
    k0_pay2 x g (ix2 i k) = LinSpec.rms (fun k => x (ix2 i k)) (fun k => g (ix2 0 k)) k := by
  pointwise [k0_pay2]
  rfl

theorem pay3_apply (x : Vec Ideal S512x1024 .f32) (g : Vec Ideal S1x1024 .f32) (w : Vec Ideal S1024x512 .bf16) (i : Fin 512) (j : Fin 512) :
    k0_pay3 x g w (ix2 i j) = LinSpec.mul (fun k => k0_pay2 x g (ix2 i k)) (fun k j => w (ix2 k j)) j := by
  pointwise [k0_pay3]
  rfl
theorem pay4_apply (x : Vec Ideal S512x1024 .f32) (g : Vec Ideal S1x1024 .f32) (w : Vec Ideal S1024x1536 .bf16) (i : Fin 512) (j : Fin 1536) :
    k0_pay4 x g w (ix2 i j) = LinSpec.mul (fun k => k0_pay2 x g (ix2 i k)) (fun k j => w (ix2 k j)) j := by
  pointwise [k0_pay4]
  rfl
theorem pay5_apply (x : Vec Ideal S512x1024 .f32) (g : Vec Ideal S1x1024 .f32) (w : Vec Ideal S1024x512 .bf16) (i : Fin 512) (j : Fin 512) :
    k0_pay5 x g w (ix2 i j) = LinSpec.mul (fun k => k0_pay2 x g (ix2 i k)) (fun k j => w (ix2 k j)) j := by
  pointwise [k0_pay5]
  rfl
theorem pay6_apply (x : Vec Ideal S512x1024 .f32) (g : Vec Ideal S1x1024 .f32) (w : Vec Ideal S1024x768 .bf16) (i : Fin 512) (j : Fin 768) :
    k0_pay6 x g w (ix2 i j) = LinSpec.mul (fun k => k0_pay2 x g (ix2 i k)) (fun k j => w (ix2 k j)) j := by
  pointwise [k0_pay6]
  rfl
theorem pay1_apply (h : FVec Ideal S512x1024 .bf16) (w : Vec Ideal S1024x128 .bf16) (i : Fin 512) (j : Fin 128) :
    k0_pay1 h w (ix2 i j) = LinSpec.mul (fun k => h (ix2 i k)) (fun k j => w (ix2 k j)) j := by
  pointwise [k0_pay1]
  rfl

/-! ### The outputs' blocks -/

theorem off2 : (![0, 0] : Fin 2 → Nat) = fun _ => 0 := funext fun a => by fin_cases a <;> rfl

section Outs
variable (x : Vec Ideal S512x1024 .f32) (g : Vec Ideal S1x1024 .f32) (w : Vec Ideal S1024x3456 .bf16)

/-- The block's normed rows. -/
abbrev hRow (i : Fin 512) : Fin 1024 → EReal := LinSpec.rms (fun k => x (ix2 i k)) (fun k => g (ix2 0 k))

theorem out3_apply (i : Fin 512) (k : Fin 1024) : out0_3 x g w (ix2 i k) = hRow x g i k := by
  unfold out0_3
  rw [View.canon_unit_zero off2, View.ld_unit_zero (S := S512x1024) off2, View.ld_unit_zero (S := S1x1024) off2, pay2_apply]

theorem out4_apply (i : Fin 512) (j : Fin 512) :
    out0_4 x g w (ix2 i j) = LinSpec.mul (hRow x g i) (fun k j => w (ix2 k j)) (LinSpec.col 0 (by decide) j) := by
  unfold out0_4
  rw [View.canon_unit_zero off2, View.ld_unit_zero (S := S512x1024) off2, View.ld_unit_zero (S := S1x1024) off2, pay3_apply]
  simp only [pay2_apply]
  exact LinSpec.mul_cols _ w 0 _ _ j

theorem out5_apply (i : Fin 512) (j : Fin 1536) :
    out0_5 x g w (ix2 i j) = LinSpec.mul (hRow x g i) (fun k j => w (ix2 k j)) (LinSpec.col 512 (by decide) j) := by
  unfold out0_5
  rw [View.canon_unit_zero off2, View.ld_unit_zero (S := S512x1024) off2, View.ld_unit_zero (S := S1x1024) off2, pay4_apply]
  simp only [pay2_apply]
  exact LinSpec.mul_cols _ w 512 _ _ j

theorem out6_apply (i : Fin 512) (j : Fin 512) :
    out0_6 x g w (ix2 i j) = LinSpec.mul (hRow x g i) (fun k j => w (ix2 k j)) (LinSpec.col 2048 (by decide) j) := by
  unfold out0_6
  rw [View.canon_unit_zero off2, View.ld_unit_zero (S := S512x1024) off2, View.ld_unit_zero (S := S1x1024) off2, pay5_apply]
  simp only [pay2_apply]
  exact LinSpec.mul_cols _ w 2048 _ _ j

theorem out7_apply (i : Fin 512) (j : Fin 768) :
    out0_7 x g w (ix2 i j) = LinSpec.mul (hRow x g i) (fun k j => w (ix2 k j)) (LinSpec.col 2560 (by decide) j) := by
  unfold out0_7
  rw [View.canon_unit_zero off2, View.ld_unit_zero (S := S512x1024) off2, View.ld_unit_zero (S := S1x1024) off2, pay6_apply]
  simp only [pay2_apply]
  exact LinSpec.mul_cols _ w 2560 _ _ j

theorem out8_apply (i : Fin 512) (j : Fin 128) :
    out0_8 x g w (ix2 i j) = LinSpec.mul (hRow x g i) (fun k j => w (ix2 k j)) (LinSpec.col 3328 (by decide) j) := by
  unfold out0_8
  rw [View.canon_unit_zero off2, View.ld_unit_zero (S := S512x1024) off2, View.ld_unit_zero (S := S1x1024) off2, pay1_apply]
  simp only [pay2_apply]
  exact LinSpec.mul_cols _ w 3328 _ _ j

end Outs

end Cert.Kernel4Ideal.InFwd
-- ==== Proof.InFwd.Final.lean ====
/-
  The arrays the input projection leaves, over the extended reals: by blocks of 512 rows.
-/
module

public import proofs.«01_k».proof.Proof.InFwd.Block
public import Idealize.ShloMosaic.Lib.StableHlo.Run
public import Idealize.ShloMosaic.Lib.Pipeline.ValueKit

@[expose] public section

set_option maxHeartbeats 1000000

noncomputable section

namespace Cert.Kernel4Ideal.InFwd

open Cert.Kernel4Ideal Cert.Kernel4Ideal.Gen Cert.Kernel4Ideal.Value Idealize.ShloMosaic Idealize.ShloMosaic.TcCoe Idealize.SL.Sem
open Idealize.ShloMosaic.Pipeline (Dat)
open Cert

variable (m : (ℓ : Loc nD τ sig) → Buf (Elt Ideal) ℓ) (c : Dev nD)

/-- The launched arguments. -/
abbrev A0 : S8192x1024.Idx → EReal := m ((c : Thread nD τ).loc main_arg0)
abbrev A1 : S1024.Idx → EReal := m ((c : Thread nD τ).loc main_arg1)
abbrev A2 : S1024x3456.Idx → EReal := m ((c : Thread nD τ).loc main_arg2)

/-- A normed row, and its product with the projection's matrix. -/
abbrev row (r : Fin 8192) : Fin 1024 → EReal := LinSpec.rms (fun k => A0 m c (ix2 r k)) (fun k => A1 m c (ix1 k))
abbrev zrow (r : Fin 8192) : Fin 3456 → EReal := LinSpec.mul (row m c r) (fun k j => A2 m c (ix2 k j))

theorem N16 : cfg0.N = 16 := N_0

/-! ### What the windows read -/

theorem idx : ∀ t : Fin cfg0.N, win0_0.index t = ![t.val, 0] ∧ win0_1.index t = ![0, 0] ∧ win0_2.index t = ![0, 0] ∧ win0_3.index t = ![t.val, 0]
    ∧ win0_4.index t = ![t.val, 0] ∧ win0_5.index t = ![t.val, 0] ∧ win0_6.index t = ![t.val, 0] ∧ win0_7.index t = ![t.val, 0]
    ∧ win0_8.index t = ![t.val, 0] :=
  (by decide +kernel : ∀ t : Fin grid0.N, win0_0.index t = ![t.val, 0] ∧ win0_1.index t = ![0, 0] ∧ win0_2.index t = ![0, 0] ∧ win0_3.index t = ![t.val, 0]
    ∧ win0_4.index t = ![t.val, 0] ∧ win0_5.index t = ![t.val, 0] ∧ win0_6.index t = ![t.val, 0] ∧ win0_7.index t = ![t.val, 0]
    ∧ win0_8.index t = ![t.val, 0])

/-- Row `i` of the block of point `t`. -/
abbrev rowAt (t : Fin cfg0.N) (i : Fin 512) : Fin 8192 := ⟨512 * t.val + i.val, by have := t.isLt; have := N16; omega⟩

section
variable (t : Fin cfg0.N) (i : Fin 512)

/-- The coordinates of the windows' blocks. -/
theorem emb0 (k : Fin 1024) : (win0_0.blk t).view.emb (ix2 i k) = (ix2 (rowAt t i) k : S8192x1024.Idx) := by
  obtain ⟨e, -⟩ := idx t
  exact LinSpec.ext2 (by blk_simp [e]; show t.val * 512 + i.val = 512 * t.val + i.val; omega) (by blk_simp [e])
theorem emb3 (k : Fin 1024) : (win0_3.blk t).view.emb (ix2 i k) = (ix2 (rowAt t i) k : S8192x1024.Idx) := by
  obtain ⟨-, -, -, e, -⟩ := idx t
  exact LinSpec.ext2 (by blk_simp [e]; show t.val * 512 + i.val = 512 * t.val + i.val; omega) (by blk_simp [e])
theorem emb4 (k : Fin 512) : (win0_4.blk t).view.emb (ix2 i k) = (ix2 (rowAt t i) k : S8192x512.Idx) := by
  obtain ⟨-, -, -, -, e, -⟩ := idx t
  exact LinSpec.ext2 (by blk_simp [e]; show t.val * 512 + i.val = 512 * t.val + i.val; omega) (by blk_simp [e])
theorem emb5 (k : Fin 1536) : (win0_5.blk t).view.emb (ix2 i k) = (ix2 (rowAt t i) k : S8192x1536.Idx) := by
  obtain ⟨-, -, -, -, -, e, -⟩ := idx t
  exact LinSpec.ext2 (by blk_simp [e]; show t.val * 512 + i.val = 512 * t.val + i.val; omega) (by blk_simp [e])
theorem emb6 (k : Fin 512) : (win0_6.blk t).view.emb (ix2 i k) = (ix2 (rowAt t i) k : S8192x512.Idx) := by
  obtain ⟨-, -, -, -, -, -, e, -⟩ := idx t
  exact LinSpec.ext2 (by blk_simp [e]; show t.val * 512 + i.val = 512 * t.val + i.val; omega) (by blk_simp [e])
theorem emb7 (k : Fin 768) : (win0_7.blk t).view.emb (ix2 i k) = (ix2 (rowAt t i) k : S8192x768.Idx) := by
  obtain ⟨-, -, -, -, -, -, -, e, -⟩ := idx t
  exact LinSpec.ext2 (by blk_simp [e]; show t.val * 512 + i.val = 512 * t.val + i.val; omega) (by blk_simp [e])
theorem emb8 (k : Fin 128) : (win0_8.blk t).view.emb (ix2 i k) = (ix2 (rowAt t i) k : S8192x128.Idx) := by
  obtain ⟨-, -, -, -, -, -, -, -, e⟩ := idx t
  exact LinSpec.ext2 (by blk_simp [e]; show t.val * 512 + i.val = 512 * t.val + i.val; omega) (by blk_simp [e])
theorem emb1 (z : Fin 1) (k : Fin 1024) : (win0_1.blk t).view.emb (ix2 z k) = (ix2 z k : S1x1024.Idx) := by
  obtain ⟨-, e, -⟩ := idx t
  exact LinSpec.ext2 (by blk_simp [e]) (by blk_simp [e])
theorem emb2 (k : Fin 1024) (j : Fin 3456) : (win0_2.blk t).view.emb (ix2 k j) = (ix2 k j : S1024x3456.Idx) := by
  obtain ⟨-, -, e, -⟩ := idx t
  exact LinSpec.ext2 (by blk_simp [e]) (by blk_simp [e])
end

theorem iblk0 (t : Fin cfg0.N) (i : Fin 512) (k : Fin 1024) :
    (iblk m c 0 t : Vec Ideal S512x1024 .f32) (ix2 i k) = A0 m c (ix2 (rowAt t i) k) := by
  unfold iblk
  rw [View.read_apply]
  show V m c main_arg0 _ = _
  rw [V_main_arg0]
  exact congrArg (A0 m c) (emb0 t i k)

/-- The host's row of the norm's scale. -/
theorem V_g : V m c main_v0 = (broadcastInDim S1x1024 ![1] bcast_S1024_S1x1024_1 (A1 m c) : Vec Ideal S1x1024 .f32) := by
  unfold_abbrev_sides
  after_results

theorem iblk1 (t : Fin cfg0.N) (z : Fin 1) (k : Fin 1024) : (iblk m c 1 t : Vec Ideal S1x1024 .f32) (ix2 z k) = A1 m c (ix1 k) := by
  unfold iblk
  rw [View.read_apply]
  show V m c main_v0 _ = _
  rw [V_g]
  refine (congrArg _ (emb1 t z k)).trans ?_
  pointwise []

theorem iblk2 (t : Fin cfg0.N) (k : Fin 1024) (j : Fin 3456) :
    (iblk m c 2 t : Vec Ideal S1024x3456 .bf16) (ix2 k j) = A2 m c (ix2 k j) := by
  unfold iblk
  rw [View.read_apply]
  show V m c main_arg2 _ = _
  rw [V_main_arg2]
  exact congrArg (A2 m c) (emb2 t k j)

theorem hRow_iblk (t : Fin cfg0.N) (i : Fin 512) : hRow (iblk m c 0 t) (iblk m c 1 t) i = row m c (rowAt t i) := by
  have e0 := funext fun k => iblk0 m c t i k
  have e1 := funext fun k => iblk1 m c t 0 k
  unfold hRow row
  exact congrArg₂ LinSpec.rms e0 e1

theorem zRow_iblk (t : Fin cfg0.N) (i : Fin 512) :
    LinSpec.mul (hRow (iblk m c 0 t) (iblk m c 1 t) i) (fun k j => (iblk m c 2 t : Vec Ideal S1024x3456 .bf16) (ix2 k j)) = zrow m c (rowAt t i) :=
  congrArg₂ LinSpec.mul (hRow_iblk m c t i) (funext fun k => funext fun j => iblk2 m c t k j)

/-! ### The results -/

/-- The normed rows. -/
abbrev rH : S8192x1024.Idx → EReal := fun y => row m c (y 0) (y 1)
/-- The products, by ranges of columns. -/
abbrev rZs : S8192x512.Idx → EReal := fun y => zrow m c (y 0) (LinSpec.col 0 (by decide) (y 1 : Fin 512))
abbrev rZq : S8192x1536.Idx → EReal := fun y => zrow m c (y 0) (LinSpec.col 512 (by decide) (y 1 : Fin 1536))
abbrev rZg : S8192x512.Idx → EReal := fun y => zrow m c (y 0) (LinSpec.col 2048 (by decide) (y 1 : Fin 512))
abbrev rZsg : S8192x768.Idx → EReal := fun y => zrow m c (y 0) (LinSpec.col 2560 (by decide) (y 1 : Fin 768))
abbrev rZab : S8192x128.Idx → EReal := fun y => zrow m c (y 0) (LinSpec.col 3328 (by decide) (y 1 : Fin 128))

theorem final3 : (dats m 0 c).arrAt 3 cfg0.N = rH m c := by
  refine (dats m 0 c).arrAt_eq_of_covers 3 _ (by decide +kernel) fun t hf y => ?_
  obtain ⟨i, j, rfl⟩ : ∃ (i : Fin 512) (j : Fin 1024), y = ix2 i j := ⟨y 0, y 1, (ix2_eta y).symm⟩
  blk_simp
  rw [after0_3]
  refine ((out3_apply _ _ _ i j).trans (congrFun (hRow_iblk m c t i) j)).trans (congrArg (rH m c) (emb3 t i j)).symm
theorem final4 : (dats m 0 c).arrAt 4 cfg0.N = rZs m c := by
  refine (dats m 0 c).arrAt_eq_of_covers 4 _ (by decide +kernel) fun t hf y => ?_
  obtain ⟨i, j, rfl⟩ : ∃ (i : Fin 512) (j : Fin 512), y = ix2 i j := ⟨y 0, y 1, (ix2_eta y).symm⟩
  blk_simp
  rw [after0_4]
  refine ((out4_apply _ _ _ i j).trans (congrFun (zRow_iblk m c t i) _)).trans (congrArg (rZs m c) (emb4 t i j)).symm
theorem final5 : (dats m 0 c).arrAt 5 cfg0.N = rZq m c := by
  refine (dats m 0 c).arrAt_eq_of_covers 5 _ (by decide +kernel) fun t hf y => ?_
  obtain ⟨i, j, rfl⟩ : ∃ (i : Fin 512) (j : Fin 1536), y = ix2 i j := ⟨y 0, y 1, (ix2_eta y).symm⟩
  blk_simp
  rw [after0_5]
  refine ((out5_apply _ _ _ i j).trans (congrFun (zRow_iblk m c t i) _)).trans (congrArg (rZq m c) (emb5 t i j)).symm
theorem final6 : (dats m 0 c).arrAt 6 cfg0.N = rZg m c := by
  refine (dats m 0 c).arrAt_eq_of_covers 6 _ (by decide +kernel) fun t hf y => ?_
  obtain ⟨i, j, rfl⟩ : ∃ (i : Fin 512) (j : Fin 512), y = ix2 i j := ⟨y 0, y 1, (ix2_eta y).symm⟩
  blk_simp
  rw [after0_6]
  refine ((out6_apply _ _ _ i j).trans (congrFun (zRow_iblk m c t i) _)).trans (congrArg (rZg m c) (emb6 t i j)).symm
theorem final7 : (dats m 0 c).arrAt 7 cfg0.N = rZsg m c := by
  refine (dats m 0 c).arrAt_eq_of_covers 7 _ (by decide +kernel) fun t hf y => ?_
  obtain ⟨i, j, rfl⟩ : ∃ (i : Fin 512) (j : Fin 768), y = ix2 i j := ⟨y 0, y 1, (ix2_eta y).symm⟩
  blk_simp
  rw [after0_7]
  refine ((out7_apply _ _ _ i j).trans (congrFun (zRow_iblk m c t i) _)).trans (congrArg (rZsg m c) (emb7 t i j)).symm
theorem final8 : (dats m 0 c).arrAt 8 cfg0.N = rZab m c := by
  refine (dats m 0 c).arrAt_eq_of_covers 8 _ (by decide +kernel) fun t hf y => ?_
  obtain ⟨i, j, rfl⟩ : ∃ (i : Fin 512) (j : Fin 128), y = ix2 i j := ⟨y 0, y 1, (ix2_eta y).symm⟩
  blk_simp
  rw [after0_8]
  refine ((out8_apply _ _ _ i j).trans (congrFun (zRow_iblk m c t i) _)).trans (congrArg (rZab m c) (emb8 t i j)).symm

end Cert.Kernel4Ideal.InFwd

end
-- ==== Proof.InFwd.RefRead.lean ====
/-
  The reference of the input projection, read entry by entry.
-/
module

public import proofs.«01_k».proof.Proof.Gen.Reference4Ideal.Read
public import proofs.«01_k».proof.Proof.Lin.Spec
public import Idealize.ShloMosaic.Lib.Tactic
public import Idealize.ShloMosaic.Lib.Pointwise

@[expose] public section

noncomputable section

namespace Cert.Reference4Ideal.InFwd

open Cert.Reference4Ideal Cert.Reference4Ideal.Gen Cert.Reference4Ideal.Read Idealize.ShloMosaic Idealize.ShloMosaic.TcCoe Idealize.SL.Sem
open Cert

variable (x : S8192x1024.Idx → EReal) (g : S1024.Idx → EReal) (w : S1024x3456.Idx → EReal)

/-- A normed row. -/
abbrev hRow (r : Fin 8192) : Fin 1024 → EReal := LinSpec.rms (fun k => x (ix2 r k)) (fun k => g (ix1 k))

theorem h_apply (r : Fin 8192) (k : Fin 1024) : val_main_v13 (F := Ideal) x g (ix2 r k) = hRow x g r k := by
  pointwise [val_main_v13, val_main_v12, val_main_v11, val_main_v10, val_main_v9, val_main_v8, val_main_v7, val_main_v6, val_main_v5, val_main_v4, val_main_v3,
    val_main_v2, val_main_v1, val_main_v0, val_main_cst, val_main_cst_0, val_main_cst_1]
  rfl

theorem h'_apply (r : Fin 8192) (k : Fin 1024) : val_main_v26 (F := Ideal) x g (ix2 r k) = hRow x g r k := by
  pointwise [val_main_v26, val_main_v25, val_main_v24, val_main_v23, val_main_v22, val_main_v21, val_main_v20, val_main_v19, val_main_v18, val_main_v17,
    val_main_v16, val_main_v15, val_main_v14, val_main_cst_2, val_main_cst_3, val_main_cst_4]
  rfl

theorem z_apply (r : Fin 8192) (j : Fin 3456) :
    val_main_v28 (F := Ideal) x g w (ix2 r j) = LinSpec.mul (hRow x g r) (fun k j => w (ix2 k j)) j := by
  pointwise [val_main_v28, val_main_v27]
  simp only [h'_apply]
  rfl

theorem zs_apply (r : Fin 8192) (j : Fin 512) :
    val_main_v29 (F := Ideal) x g w (ix2 r j) = LinSpec.mul (hRow x g r) (fun k j => w (ix2 k j)) (LinSpec.col 0 (by decide) j) := by
  pointwise [val_main_v29]
  exact (z_apply ..).trans (congrArg _ (Fin.ext (Nat.zero_add j.val).symm))
theorem zq_apply (r : Fin 8192) (j : Fin 1536) :
    val_main_v30 (F := Ideal) x g w (ix2 r j) = LinSpec.mul (hRow x g r) (fun k j => w (ix2 k j)) (LinSpec.col 512 (by decide) j) := by
  pointwise [val_main_v30]
  exact z_apply ..
theorem zg_apply (r : Fin 8192) (j : Fin 512) :
    val_main_v31 (F := Ideal) x g w (ix2 r j) = LinSpec.mul (hRow x g r) (fun k j => w (ix2 k j)) (LinSpec.col 2048 (by decide) j) := by
  pointwise [val_main_v31]
  exact z_apply ..
theorem zsg_apply (r : Fin 8192) (j : Fin 768) :
    val_main_v32 (F := Ideal) x g w (ix2 r j) = LinSpec.mul (hRow x g r) (fun k j => w (ix2 k j)) (LinSpec.col 2560 (by decide) j) := by
  pointwise [val_main_v32]
  exact z_apply ..
theorem zab_apply (r : Fin 8192) (j : Fin 128) :
    val_main_v33 (F := Ideal) x g w (ix2 r j) = LinSpec.mul (hRow x g r) (fun k j => w (ix2 k j)) (LinSpec.col 3328 (by decide) j) := by
  pointwise [val_main_v33]
  exact z_apply ..

end Cert.Reference4Ideal.InFwd

end
-- ==== Proof.InFwd.Claims.lean ====
/-
  The claims about the input projection: the three frames, and that the kernel's six arrays are the reference's over the
  extended reals.
-/
module

public import proofs.«01_k».proof.Defs
public import proofs.«01_k».proof.Proof.InFwd.Final
public import proofs.«01_k».proof.Proof.InFwd.RefRead
public import proofs.«01_k».proof.Proof.Gen.Reference4Ideal.Run
public import proofs.«01_k».proof.Proof.Gen.Kernel4.Frame

@[expose] public section

set_option maxHeartbeats 1000000

noncomputable section

namespace Cert.InFwd

open Idealize.ShloMosaic Idealize.ShloMosaic.TcCoe Idealize.SL.Sem
open Cert.Kernel4Ideal.InFwd Idealize.ShloMosaic.StableHlo

theorem frame_kernel : Cert.quiescent_Kernel4 := fun m ρ _ => Cert.Kernel4.Gen.frame m ρ

theorem frame_ideal : Cert.quiescent_Kernel4Ideal := fun m ρ _ => Cert.Kernel4Ideal.Gen.frame m ρ

/-- The reference is a line of host operations on a machine without semaphores. -/
theorem frame_reference : Cert.quiescent_Reference4Ideal := fun m ρ _ =>
  (θ_run Cert.Reference4Ideal.defs _ _).mono (fun r h =>
    ⟨fun c => (h c).2.2.2.2.2.2, sem_eq_zero_of_no_sems (by decide) r.2⟩) (Cert.Reference4Ideal.Value.run m ρ)

theorem preserves : Cert.preserves_Kernel4_Kernel4Ideal := trivial

/-- Each of the reference's six results is the kernel's. -/
theorem algebraic : Cert.algebraic_Kernel4Ideal_Reference4Ideal := by
  intro m g m' g' _ hagree
  refine ⟨rH m, rZs m, rZq m, rZg m, rZsg m, rZab m, ?_, ?_⟩
  · refine (θ_run Cert.Kernel4Ideal.defs _ _).mono (fun r h c => ?_) (Cert.Kernel4Ideal.Value.run_blocks m g)
    obtain ⟨h0, h1, h2, h3, h4, h5, hk⟩ := h c
    exact ⟨h0.trans (final3 m c), h1.trans (final4 m c), h2.trans (final5 m c), h3.trans (final6 m c), h4.trans (final7 m c),
      h5.trans (final8 m c), hk⟩
  · refine (θ_run Cert.Reference4Ideal.defs _ _).mono (fun r h c => ?_) (Cert.Reference4Ideal.Value.run m' g')
    obtain ⟨h0, h1, h2, h3, h4, h5, hk⟩ := h c
    obtain ⟨a0, a1, a2⟩ := hagree c
    refine ⟨(h0.trans (Cert.Reference4Ideal.Read.val_main_v13_eq _ _)).trans ?_, (h1.trans (Cert.Reference4Ideal.Read.val_main_v29_eq _ _ _)).trans ?_,
      (h2.trans (Cert.Reference4Ideal.Read.val_main_v30_eq _ _ _)).trans ?_, (h3.trans (Cert.Reference4Ideal.Read.val_main_v31_eq _ _ _)).trans ?_,
      (h4.trans (Cert.Reference4Ideal.Read.val_main_v32_eq _ _ _)).trans ?_, (h5.trans (Cert.Reference4Ideal.Read.val_main_v33_eq _ _ _)).trans ?_, hk⟩
    all_goals
      simp only [a0, a1, a2]
      funext y
      refine (congrArg _ (ix2_eta y).symm).trans ?_
    · exact Cert.Reference4Ideal.InFwd.h_apply (A0 m c) (A1 m c) (y 0) (y 1)
    · exact Cert.Reference4Ideal.InFwd.zs_apply (A0 m c) (A1 m c) (A2 m c) (y 0) (y 1)
    · exact Cert.Reference4Ideal.InFwd.zq_apply (A0 m c) (A1 m c) (A2 m c) (y 0) (y 1)
    · exact Cert.Reference4Ideal.InFwd.zg_apply (A0 m c) (A1 m c) (A2 m c) (y 0) (y 1)
    · exact Cert.Reference4Ideal.InFwd.zsg_apply (A0 m c) (A1 m c) (A2 m c) (y 0) (y 1)
    · exact Cert.Reference4Ideal.InFwd.zab_apply (A0 m c) (A1 m c) (A2 m c) (y 0) (y 1)

end Cert.InFwd

end
-- ==== Proof.PostFwd.Block.lean ====
/-
  One block of 512 rows of the output projection and the gate over the extended reals, entry by entry.
-/
module

public import proofs.«01_k».proof.Proof.Lin.Blocks
public import proofs.«01_k».proof.Proof.Gen.Kernel5Ideal.Value
public import Idealize.ShloMosaic.Lib.Tactic
public import Idealize.ShloMosaic.Lib.Pointwise

@[expose] public section

noncomputable section

namespace Cert.Kernel5Ideal.PostFwd

open Cert.Kernel5Ideal Cert.Kernel5Ideal.Gen Idealize.ShloMosaic Idealize.ShloMosaic.TcCoe Idealize.SL.Sem
open Cert

section Outs
variable (x : Vec Ideal S512x1024 .f32) (ys : Vec Ideal S512x256 .f32) (yd : Vec Ideal S512x512 .f32) (yg : Vec Ideal S512x256 .f32)
  (p : Vec Ideal S512x256 .bf16) (wo : Vec Ideal S1024x1024 .bf16) (g : Vec Ideal S1x1024 .f32) (wg : Vec Ideal S1024x1024 .bf16)
  (wp : Vec Ideal S256x1024 .bf16)

/-- The block's rows: the mixed heads, the stream after the projection, its norm, the gate's argument and the stream after the gate. -/
abbrev yRow (i : Fin 512) : Fin 1024 → EReal := LinSpec.cat3 (fun j => ys (ix2 i j)) (fun j => yd (ix2 i j)) (fun j => yg (ix2 i j))
abbrev x1Row (i : Fin 512) (k : Fin 1024) : EReal := x (ix2 i k) + LinSpec.mul (yRow ys yd yg i) (fun e k => wo (ix2 e k)) k
abbrev hRow (i : Fin 512) : Fin 1024 → EReal := LinSpec.rms (x1Row x ys yd yg wo i) (fun k => g (ix2 0 k))
abbrev gRow (i : Fin 512) : Fin 1024 → EReal := LinSpec.mul (hRow x ys yd yg wo g i) (fun e k => wg (ix2 e k))
abbrev x2Row (i : Fin 512) (k : Fin 1024) : EReal :=
  x1Row x ys yd yg wo i k + Ideal.logistic (gRow x ys yd yg wo g wg i k) * LinSpec.mul (fun e => p (ix2 i e)) (fun e k => wp (ix2 e k)) k

theorem pay2_apply (i : Fin 512) (k : Fin 1024) : k0_pay2 ys yd yg (ix2 i k) = yRow ys yd yg i k := by
  pointwise [k0_pay2]
  rfl
theorem pay3_apply (i : Fin 512) (k : Fin 1024) : k0_pay3 ys yd yg x wo (ix2 i k) = x1Row x ys yd yg wo i k := by
  pointwise [k0_pay3]
  simp only [pay2_apply]
  rfl
theorem pay4_apply (i : Fin 512) (k : Fin 1024) : k0_pay4 ys yd yg x wo g (ix2 i k) = hRow x ys yd yg wo g i k := by
  pointwise [k0_pay4]
  simp only [pay3_apply]
  rfl
theorem pay5_apply (i : Fin 512) (k : Fin 1024) : k0_pay5 ys yd yg x wo g wg (ix2 i k) = gRow x ys yd yg wo g wg i k := by
  pointwise [k0_pay5]
  simp only [pay4_apply]
  rfl
theorem pay1_apply (a b : FVec Ideal S512x1024 .f32) (i : Fin 512) (k : Fin 1024) :
    k0_pay1 a b p wp (ix2 i k) = a (ix2 i k) + Ideal.logistic (b (ix2 i k)) * LinSpec.mul (fun e => p (ix2 i e)) (fun e k => wp (ix2 e k)) k := by
  pointwise [k0_pay1]
  rfl

/-! ### The outputs' blocks -/

theorem off2 : (![0, 0] : Fin 2 → Nat) = fun _ => 0 := funext fun a => by fin_cases a <;> rfl

theorem out11_apply (i : Fin 512) (k : Fin 1024) : out0_11 x ys yd yg p wo g wg wp (ix2 i k) = yRow ys yd yg i k := by
  unfold out0_11
  rw [View.canon_unit_zero off2, View.ld_unit_zero (S := S512x256) off2, View.ld_unit_zero (S := S512x256) off2, View.ld_unit_zero (S := S512x512) off2,
    pay2_apply]
theorem out10_apply (i : Fin 512) (k : Fin 1024) : out0_10 x ys yd yg p wo g wg wp (ix2 i k) = x1Row x ys yd yg wo i k := by
  unfold out0_10
  rw [View.canon_unit_zero off2, View.ld_unit_zero (S := S512x256) off2, View.ld_unit_zero (S := S512x256) off2, View.ld_unit_zero (S := S512x512) off2,
    View.ld_unit_zero (S := S512x1024) off2, View.ld_unit_zero (S := S1024x1024) off2, pay3_apply]
theorem out12_apply (i : Fin 512) (k : Fin 1024) : out0_12 x ys yd yg p wo g wg wp (ix2 i k) = hRow x ys yd yg wo g i k := by
  unfold out0_12
  rw [View.canon_unit_zero off2, View.ld_unit_zero (S := S512x256) off2, View.ld_unit_zero (S := S512x256) off2, View.ld_unit_zero (S := S512x512) off2,
    View.ld_unit_zero (S := S512x1024) off2, View.ld_unit_zero (S := S1024x1024) off2, View.ld_unit_zero (S := S1x1024) off2, pay4_apply]
theorem out9_apply (i : Fin 512) (k : Fin 1024) : out0_9 x ys yd yg p wo g wg wp (ix2 i k) = x2Row x ys yd yg p wo g wg wp i k := by
  unfold out0_9
  rw [View.canon_unit_zero off2, View.ld_unit_zero (S := S512x256) off2, View.ld_unit_zero (S := S512x256) off2, View.ld_unit_zero (S := S512x512) off2,
    View.ld_unit_zero (S := S512x1024) off2, View.ld_unit_zero (S := S1024x1024) off2, View.ld_unit_zero (S := S1x1024) off2,
    View.ld_unit_zero (S := S1024x1024) off2, View.ld_unit_zero (S := S512x256) off2, View.ld_unit_zero (S := S256x1024) off2,
    pay1_apply, pay3_apply, pay5_apply]

end Outs

end Cert.Kernel5Ideal.PostFwd

end
-- ==== Proof.PostFwd.Final.lean ====
/-
  The arrays the output projection and the gate leave, over the extended reals: by blocks of 512 rows.
-/
module

public import proofs.«01_k».proof.Proof.PostFwd.Block
public import Idealize.ShloMosaic.Lib.StableHlo.Run
public import Idealize.ShloMosaic.Lib.Pipeline.ValueKit

@[expose] public section

set_option maxHeartbeats 1000000

noncomputable section

namespace Cert.Kernel5Ideal.PostFwd

open Cert.Kernel5Ideal Cert.Kernel5Ideal.Gen Cert.Kernel5Ideal.Value Idealize.ShloMosaic Idealize.ShloMosaic.TcCoe Idealize.SL.Sem
open Idealize.ShloMosaic.Pipeline (Dat)
open Cert

variable (m : (ℓ : Loc nD τ sig) → Buf (Elt Ideal) ℓ) (c : Dev nD)

/-- The launched arguments. -/
abbrev A0 : S8192x1024.Idx → EReal := m ((c : Thread nD τ).loc main_arg0)
abbrev A1 : S8192x256.Idx → EReal := m ((c : Thread nD τ).loc main_arg1)
abbrev A2 : S8192x512.Idx → EReal := m ((c : Thread nD τ).loc main_arg2)
abbrev A3 : S8192x256.Idx → EReal := m ((c : Thread nD τ).loc main_arg3)
abbrev A4 : S8192x256.Idx → EReal := m ((c : Thread nD τ).loc main_arg4)
abbrev A5 : S1024x1024.Idx → EReal := m ((c : Thread nD τ).loc main_arg5)
abbrev A6 : S1024.Idx → EReal := m ((c : Thread nD τ).loc main_arg6)
abbrev A7 : S1024x1024.Idx → EReal := m ((c : Thread nD τ).loc main_arg7)
abbrev A8 : S256x1024.Idx → EReal := m ((c : Thread nD τ).loc main_arg8)

/-- The rows: the mixed heads, the stream after the projection, its norm, the gate's argument and the stream after the gate. -/
abbrev yr (r : Fin 8192) : Fin 1024 → EReal := LinSpec.cat3 (fun j => A1 m c (ix2 r j)) (fun j => A2 m c (ix2 r j)) (fun j => A3 m c (ix2 r j))
abbrev x1r (r : Fin 8192) (k : Fin 1024) : EReal := A0 m c (ix2 r k) + LinSpec.mul (yr m c r) (fun e k => A5 m c (ix2 e k)) k
abbrev hr (r : Fin 8192) : Fin 1024 → EReal := LinSpec.rms (x1r m c r) (fun k => A6 m c (ix1 k))
abbrev gr (r : Fin 8192) : Fin 1024 → EReal := LinSpec.mul (hr m c r) (fun e k => A7 m c (ix2 e k))
abbrev x2r (r : Fin 8192) (k : Fin 1024) : EReal :=
  x1r m c r k + Ideal.logistic (gr m c r k) * LinSpec.mul (fun e => A4 m c (ix2 r e)) (fun e k => A8 m c (ix2 e k)) k

theorem N16 : cfg0.N = 16 := N_0

/-! ### What the windows read -/

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![0, 0] ∧ win0_6.index t = ![0, 0] ∧ win0_7.index t = ![0, 0] ∧ win0_8.index t = ![0, 0] ∧ win0_9.index t = ![t.val, 0] ∧ win0_10.index t = ![t.val, 0] ∧ win0_11.index t = ![t.val, 0] ∧ win0_12.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![0, 0] ∧ win0_6.index t = ![0, 0] ∧ win0_7.index t = ![0, 0] ∧ win0_8.index t = ![0, 0] ∧ win0_9.index t = ![t.val, 0] ∧ win0_10.index t = ![t.val, 0] ∧ win0_11.index t = ![t.val, 0] ∧ win0_12.index t = ![t.val, 0])

/-- Row `i` of the block of point `t`. -/
abbrev rowAt (t : Fin cfg0.N) (i : Fin 512) : Fin 8192 := ⟨512 * t.val + i.val, by have := t.isLt; have := N16; omega⟩

section
variable (t : Fin cfg0.N) (i : Fin 512)

/-- The coordinates of the windows' blocks. -/
theorem emb0 (k : Fin 1024) : (win0_0.blk t).view.emb (ix2 i k) = (ix2 (rowAt t i) k : S8192x1024.Idx) := by
  obtain ⟨e, -⟩ := idx t
  exact LinSpec.ext2 (by blk_simp [e]; show t.val * 512 + i.val = 512 * t.val + i.val; omega) (by blk_simp [e])
theorem emb1 (k : Fin 256) : (win0_1.blk t).view.emb (ix2 i k) = (ix2 (rowAt t i) k : S8192x256.Idx) := by
  obtain ⟨-, e, -⟩ := idx t
  exact LinSpec.ext2 (by blk_simp [e]; show t.val * 512 + i.val = 512 * t.val + i.val; omega) (by blk_simp [e])
theorem emb2 (k : Fin 512) : (win0_2.blk t).view.emb (ix2 i k) = (ix2 (rowAt t i) k : S8192x512.Idx) := by
  obtain ⟨-, -, e, -⟩ := idx t
  exact LinSpec.ext2 (by blk_simp [e]; show t.val * 512 + i.val = 512 * t.val + i.val; omega) (by blk_simp [e])
theorem emb3 (k : Fin 256) : (win0_3.blk t).view.emb (ix2 i k) = (ix2 (rowAt t i) k : S8192x256.Idx) := by
  obtain ⟨-, -, -, e, -⟩ := idx t
  exact LinSpec.ext2 (by blk_simp [e]; show t.val * 512 + i.val = 512 * t.val + i.val; omega) (by blk_simp [e])
theorem emb4 (k : Fin 256) : (win0_4.blk t).view.emb (ix2 i k) = (ix2 (rowAt t i) k : S8192x256.Idx) := by
  obtain ⟨-, -, -, -, e, -⟩ := idx t
  exact LinSpec.ext2 (by blk_simp [e]; show t.val * 512 + i.val = 512 * t.val + i.val; omega) (by blk_simp [e])
theorem emb9 (k : Fin 1024) : (win0_9.blk t).view.emb (ix2 i k) = (ix2 (rowAt t i) k : S8192x1024.Idx) := by
  obtain ⟨-, -, -, -, -, -, -, -, -, e, -⟩ := idx t
  exact LinSpec.ext2 (by blk_simp [e]; show t.val * 512 + i.val = 512 * t.val + i.val; omega) (by blk_simp [e])
theorem emb10 (k : Fin 1024) : (win0_10.blk t).view.emb (ix2 i k) = (ix2 (rowAt t i) k : S8192x1024.Idx) := by
  obtain ⟨-, -, -, -, -, -, -, -, -, -, e, -⟩ := idx t
  exact LinSpec.ext2 (by blk_simp [e]; show t.val * 512 + i.val = 512 * t.val + i.val; omega) (by blk_simp [e])
theorem emb11 (k : Fin 1024) : (win0_11.blk t).view.emb (ix2 i k) = (ix2 (rowAt t i) k : S8192x1024.Idx) := by
  obtain ⟨-, -, -, -, -, -, -, -, -, -, -, e, -⟩ := idx t
  exact LinSpec.ext2 (by blk_simp [e]; show t.val * 512 + i.val = 512 * t.val + i.val; omega) (by blk_simp [e])
theorem emb12 (k : Fin 1024) : (win0_12.blk t).view.emb (ix2 i k) = (ix2 (rowAt t i) k : S8192x1024.Idx) := by
  obtain ⟨-, -, -, -, -, -, -, -, -, -, -, -, e⟩ := idx t
  exact LinSpec.ext2 (by blk_simp [e]; show t.val * 512 + i.val = 512 * t.val + i.val; omega) (by blk_simp [e])
theorem emb5 (k : Fin 1024) (j : Fin 1024) : (win0_5.blk t).view.emb (ix2 k j) = (ix2 k j : S1024x1024.Idx) := by
  obtain ⟨-, -, -, -, -, e, -⟩ := idx t
  exact LinSpec.ext2 (by blk_simp [e]) (by blk_simp [e])
theorem emb6 (k : Fin 1) (j : Fin 1024) : (win0_6.blk t).view.emb (ix2 k j) = (ix2 k j : S1x1024.Idx) := by
  obtain ⟨-, -, -, -, -, -, e, -⟩ := idx t
  exact LinSpec.ext2 (by blk_simp [e]) (by blk_simp [e])
theorem emb7 (k : Fin 1024) (j : Fin 1024) : (win0_7.blk t).view.emb (ix2 k j) = (ix2 k j : S1024x1024.Idx) := by
  obtain ⟨-, -, -, -, -, -, -, e, -⟩ := idx t
  exact LinSpec.ext2 (by blk_simp [e]) (by blk_simp [e])
theorem emb8 (k : Fin 256) (j : Fin 1024) : (win0_8.blk t).view.emb (ix2 k j) = (ix2 k j : S256x1024.Idx) := by
  obtain ⟨-, -, -, -, -, -, -, -, e, -⟩ := idx t
  exact LinSpec.ext2 (by blk_simp [e]) (by blk_simp [e])
end

theorem iblk0 (t : Fin cfg0.N) (i : Fin 512) (k : Fin 1024) :
    (iblk m c 0 t : Vec Ideal S512x1024 .f32) (ix2 i k) = A0 m c (ix2 (rowAt t i) k) := by
  unfold iblk
  rw [View.read_apply]
  show V m c main_arg0 _ = _
  rw [V_main_arg0]
  exact congrArg (A0 m c) (emb0 t i k)
theorem iblk1 (t : Fin cfg0.N) (i : Fin 512) (k : Fin 256) :
    (iblk m c 1 t : Vec Ideal S512x256 .f32) (ix2 i k) = A1 m c (ix2 (rowAt t i) k) := by
  unfold iblk
  rw [View.read_apply]
  show V m c main_arg1 _ = _
  rw [V_main_arg1]
  exact congrArg (A1 m c) (emb1 t i k)
theorem iblk2 (t : Fin cfg0.N) (i : Fin 512) (k : Fin 512) :
    (iblk m c 2 t : Vec Ideal S512x512 .f32) (ix2 i k) = A2 m c (ix2 (rowAt t i) k) := by
  unfold iblk
  rw [View.read_apply]
  show V m c main_arg2 _ = _
  rw [V_main_arg2]
  exact congrArg (A2 m c) (emb2 t i k)
theorem iblk3 (t : Fin cfg0.N) (i : Fin 512) (k : Fin 256) :
    (iblk m c 3 t : Vec Ideal S512x256 .f32) (ix2 i k) = A3 m c (ix2 (rowAt t i) k) := by
  unfold iblk
  rw [View.read_apply]
  show V m c main_arg3 _ = _
  rw [V_main_arg3]
  exact congrArg (A3 m c) (emb3 t i k)
theorem iblk4 (t : Fin cfg0.N) (i : Fin 512) (k : Fin 256) :
    (iblk m c 4 t : Vec Ideal S512x256 .bf16) (ix2 i k) = A4 m c (ix2 (rowAt t i) k) := by
  unfold iblk
  rw [View.read_apply]
  show V m c main_arg4 _ = _
  rw [V_main_arg4]
  exact congrArg (A4 m c) (emb4 t i k)
theorem iblk5 (t : Fin cfg0.N) (k : Fin 1024) (j : Fin 1024) :
    (iblk m c 5 t : Vec Ideal S1024x1024 .bf16) (ix2 k j) = A5 m c (ix2 k j) := by
  unfold iblk
  rw [View.read_apply]
  show V m c main_arg5 _ = _
  rw [V_main_arg5]
  exact congrArg (A5 m c) (emb5 t k j)
theorem iblk7 (t : Fin cfg0.N) (k : Fin 1024) (j : Fin 1024) :
    (iblk m c 7 t : Vec Ideal S1024x1024 .bf16) (ix2 k j) = A7 m c (ix2 k j) := by
  unfold iblk
  rw [View.read_apply]
  show V m c main_arg7 _ = _
  rw [V_main_arg7]
  exact congrArg (A7 m c) (emb7 t k j)
theorem iblk8 (t : Fin cfg0.N) (k : Fin 256) (j : Fin 1024) :
    (iblk m c 8 t : Vec Ideal S256x1024 .bf16) (ix2 k j) = A8 m c (ix2 k j) := by
  unfold iblk
  rw [View.read_apply]
  show V m c main_arg8 _ = _
  rw [V_main_arg8]
  exact congrArg (A8 m c) (emb8 t k j)

/-- The host's row of the norm's scale. -/
theorem V_g : V m c main_v0 = (broadcastInDim S1x1024 ![1] bcast_S1024_S1x1024_1 (A6 m c) : Vec Ideal S1x1024 .f32) := by
  unfold_abbrev_sides
  after_results

theorem iblk6 (t : Fin cfg0.N) (z : Fin 1) (k : Fin 1024) : (iblk m c 6 t : Vec Ideal S1x1024 .f32) (ix2 z k) = A6 m c (ix1 k) := by
  unfold iblk
  rw [View.read_apply]
  show V m c main_v0 _ = _
  rw [V_g]
  refine (congrArg _ (emb6 t z k)).trans ?_
  pointwise []

section
variable (t : Fin cfg0.N) (i : Fin 512)

theorem yRow_iblk : yRow (iblk m c 1 t) (iblk m c 2 t) (iblk m c 3 t) i = yr m c (rowAt t i) := by
  have e1 := funext fun j => iblk1 m c t i j
  have e2 := funext fun j => iblk2 m c t i j
  have e3 := funext fun j => iblk3 m c t i j
  unfold yRow yr
  rw [e1, e2, e3]
theorem x1Row_iblk : x1Row (iblk m c 0 t) (iblk m c 1 t) (iblk m c 2 t) (iblk m c 3 t) (iblk m c 5 t) i = x1r m c (rowAt t i) := by
  have e5 := funext fun k => funext fun j => iblk5 m c t k j
  funext k
  exact congrArg₂ (· + ·) (iblk0 m c t i k) (congrFun (congrArg₂ LinSpec.mul (yRow_iblk m c t i) e5) k)
theorem hRow_iblk : hRow (iblk m c 0 t) (iblk m c 1 t) (iblk m c 2 t) (iblk m c 3 t) (iblk m c 5 t) (iblk m c 6 t) i = hr m c (rowAt t i) :=
  congrArg₂ LinSpec.rms (x1Row_iblk m c t i) (funext fun k => iblk6 m c t 0 k)
theorem gRow_iblk : gRow (iblk m c 0 t) (iblk m c 1 t) (iblk m c 2 t) (iblk m c 3 t) (iblk m c 5 t) (iblk m c 6 t) (iblk m c 7 t) i
    = gr m c (rowAt t i) :=
  congrArg₂ LinSpec.mul (hRow_iblk m c t i) (funext fun k => funext fun j => iblk7 m c t k j)
theorem x2Row_iblk (k : Fin 1024) : x2Row (iblk m c 0 t) (iblk m c 1 t) (iblk m c 2 t) (iblk m c 3 t) (iblk m c 4 t) (iblk m c 5 t) (iblk m c 6 t)
    (iblk m c 7 t) (iblk m c 8 t) i k = x2r m c (rowAt t i) k := by
  have e4 := funext fun j => iblk4 m c t i j
  have e8 := funext fun k => funext fun j => iblk8 m c t k j
  exact congrArg₂ (· + ·) (congrFun (x1Row_iblk m c t i) k)
    (congrArg₂ (· * ·) (congrArg Ideal.logistic (congrFun (gRow_iblk m c t i) k)) (congrFun (congrArg₂ LinSpec.mul e4 e8) k))
end

/-! ### The results -/

/-- The stream after the gate and after the projection, the mixed heads and the normed rows. -/
abbrev rX2 : S8192x1024.Idx → EReal := fun y => x2r m c (y 0) (y 1)
abbrev rX1 : S8192x1024.Idx → EReal := fun y => x1r m c (y 0) (y 1)
abbrev rY : S8192x1024.Idx → EReal := fun y => yr m c (y 0) (y 1)
abbrev rH : S8192x1024.Idx → EReal := fun y => hr m c (y 0) (y 1)

theorem final9 : (dats m 0 c).arrAt 9 cfg0.N = rX2 m c := by
  refine (dats m 0 c).arrAt_eq_of_covers 9 _ (by decide +kernel) fun t hf y => ?_
  obtain ⟨i, j, rfl⟩ : ∃ (i : Fin 512) (j : Fin 1024), y = ix2 i j := ⟨y 0, y 1, (ix2_eta y).symm⟩
  blk_simp
  rw [after0_9]
  refine ((out9_apply _ _ _ _ _ _ _ _ _ i j).trans (x2Row_iblk m c t i j)).trans (congrArg (rX2 m c) (emb9 t i j)).symm
theorem final10 : (dats m 0 c).arrAt 10 cfg0.N = rX1 m c := by
  refine (dats m 0 c).arrAt_eq_of_covers 10 _ (by decide +kernel) fun t hf y => ?_
  obtain ⟨i, j, rfl⟩ : ∃ (i : Fin 512) (j : Fin 1024), y = ix2 i j := ⟨y 0, y 1, (ix2_eta y).symm⟩
  blk_simp
  rw [after0_10]
  refine ((out10_apply _ _ _ _ _ _ _ _ _ i j).trans (congrFun (x1Row_iblk m c t i) j)).trans (congrArg (rX1 m c) (emb10 t i j)).symm
theorem final11 : (dats m 0 c).arrAt 11 cfg0.N = rY m c := by
  refine (dats m 0 c).arrAt_eq_of_covers 11 _ (by decide +kernel) fun t hf y => ?_
  obtain ⟨i, j, rfl⟩ : ∃ (i : Fin 512) (j : Fin 1024), y = ix2 i j := ⟨y 0, y 1, (ix2_eta y).symm⟩
  blk_simp
  rw [after0_11]
  refine ((out11_apply _ _ _ _ _ _ _ _ _ i j).trans (congrFun (yRow_iblk m c t i) j)).trans (congrArg (rY m c) (emb11 t i j)).symm
theorem final12 : (dats m 0 c).arrAt 12 cfg0.N = rH m c := by
  refine (dats m 0 c).arrAt_eq_of_covers 12 _ (by decide +kernel) fun t hf y => ?_
  obtain ⟨i, j, rfl⟩ : ∃ (i : Fin 512) (j : Fin 1024), y = ix2 i j := ⟨y 0, y 1, (ix2_eta y).symm⟩
  blk_simp
  rw [after0_12]
  refine ((out12_apply _ _ _ _ _ _ _ _ _ i j).trans (congrFun (hRow_iblk m c t i) j)).trans (congrArg (rH m c) (emb12 t i j)).symm

end Cert.Kernel5Ideal.PostFwd

end
-- ==== Proof.PostFwd.RefRead.lean ====
/-
  The reference of the output projection and the gate, read entry by entry.
-/
module

public import proofs.«01_k».proof.Proof.Gen.Reference5Ideal.Read
public import proofs.«01_k».proof.Proof.Lin.Spec
public import Idealize.ShloMosaic.Lib.Tactic
public import Idealize.ShloMosaic.Lib.Pointwise

@[expose] public section

noncomputable section

namespace Cert.Reference5Ideal.PostFwd

open Cert.Reference5Ideal Cert.Reference5Ideal.Gen Cert.Reference5Ideal.Read Idealize.ShloMosaic Idealize.ShloMosaic.TcCoe Idealize.SL.Sem
open Cert

variable (x : S8192x1024.Idx → EReal) (ys : S8192x256.Idx → EReal) (yd : S8192x512.Idx → EReal) (yg : S8192x256.Idx → EReal) (p : S8192x256.Idx → EReal)
  (wo : S1024x1024.Idx → EReal) (g : S1024.Idx → EReal) (wg : S1024x1024.Idx → EReal) (wp : S256x1024.Idx → EReal)

/-- The rows: the mixed heads, the stream after the projection, its norm, the gate's argument and the stream after the gate. -/
abbrev yRow (r : Fin 8192) : Fin 1024 → EReal := LinSpec.cat3 (fun j => ys (ix2 r j)) (fun j => yd (ix2 r j)) (fun j => yg (ix2 r j))
abbrev x1Row (r : Fin 8192) (k : Fin 1024) : EReal := x (ix2 r k) + LinSpec.mul (yRow ys yd yg r) (fun e k => wo (ix2 e k)) k
abbrev hRow (r : Fin 8192) : Fin 1024 → EReal := LinSpec.rms (x1Row x ys yd yg wo r) (fun k => g (ix1 k))
abbrev gRow (r : Fin 8192) : Fin 1024 → EReal := LinSpec.mul (hRow x ys yd yg wo g r) (fun e k => wg (ix2 e k))
abbrev x2Row (r : Fin 8192) (k : Fin 1024) : EReal :=
  x1Row x ys yd yg wo r k + Ideal.logistic (gRow x ys yd yg wo g wg r k) * LinSpec.mul (fun e => p (ix2 r e)) (fun e k => wp (ix2 e k)) k

theorem y_apply (r : Fin 8192) (k : Fin 1024) : val_main_v0 (F := Ideal) ys yd yg (ix2 r k) = yRow ys yd yg r k := by
  pointwise [val_main_v0]
  rfl
theorem yb_apply (r : Fin 8192) (k : Fin 1024) : val_main_v30 (F := Ideal) ys yd yg (ix2 r k) = yRow ys yd yg r k := by
  pointwise [val_main_v30]
  exact y_apply ..
theorem x1_apply (r : Fin 8192) (k : Fin 1024) : val_main_v3 (F := Ideal) x ys yd yg wo (ix2 r k) = x1Row x ys yd yg wo r k := by
  pointwise [val_main_v3, val_main_v2, val_main_v1]
  simp only [y_apply]
  rfl
theorem h_apply (r : Fin 8192) (k : Fin 1024) : val_main_v16 (F := Ideal) x ys yd yg wo g (ix2 r k) = hRow x ys yd yg wo g r k := by
  pointwise [val_main_v16, val_main_v15, val_main_v14, val_main_v13, val_main_v12, val_main_v11, val_main_v10, val_main_v9, val_main_v8, val_main_v7, val_main_v6, val_main_v5, val_main_v4, val_main_cst, val_main_cst_0, val_main_cst_1]
  simp only [x1_apply]
  rfl
theorem hb_apply (r : Fin 8192) (k : Fin 1024) : val_main_v31 (F := Ideal) x ys yd yg wo g (ix2 r k) = hRow x ys yd yg wo g r k := by
  pointwise [val_main_v31]
  exact h_apply ..
theorem g_apply (r : Fin 8192) (k : Fin 1024) : val_main_v18 (F := Ideal) x ys yd yg wo g wg (ix2 r k) = gRow x ys yd yg wo g wg r k := by
  pointwise [val_main_v18, val_main_v17]
  simp only [h_apply]
  rfl
theorem x2_apply (r : Fin 8192) (k : Fin 1024) :
    val_main_v29 (F := Ideal) x ys yd yg p wo g wg wp (ix2 r k) = x2Row x ys yd yg p wo g wg wp r k := by
  pointwise [val_main_v29, val_main_v28, val_main_v27, val_main_v26, val_main_v25, val_main_v24, val_main_v23, val_main_v22, val_main_v21, val_main_v20, val_main_v19, val_main_cst_2, val_main_cst_3]
  simp only [x1_apply, g_apply]
  rfl

end Cert.Reference5Ideal.PostFwd

end
-- ==== Proof.PostFwd.Claims.lean ====
/-
  The claims about the output projection and the gate: the three frames, and that the kernel's four arrays are the reference's over the
  extended reals.
-/
module

public import proofs.«01_k».proof.Defs
public import proofs.«01_k».proof.Proof.PostFwd.Final
public import proofs.«01_k».proof.Proof.PostFwd.RefRead
public import proofs.«01_k».proof.Proof.Gen.Reference5Ideal.Run
public import proofs.«01_k».proof.Proof.Gen.Kernel5.Frame

@[expose] public section

set_option maxHeartbeats 1000000

noncomputable section

namespace Cert.PostFwd

open Idealize.ShloMosaic Idealize.ShloMosaic.TcCoe Idealize.SL.Sem
open Cert.Kernel5Ideal.PostFwd Idealize.ShloMosaic.StableHlo

theorem frame_kernel : Cert.quiescent_Kernel5 := fun m ρ _ => Cert.Kernel5.Gen.frame m ρ

theorem frame_ideal : Cert.quiescent_Kernel5Ideal := fun m ρ _ => Cert.Kernel5Ideal.Gen.frame m ρ

/-- The reference is a line of host operations on a machine without semaphores. -/
theorem frame_reference : Cert.quiescent_Reference5Ideal := fun m ρ _ =>
  (θ_run Cert.Reference5Ideal.defs _ _).mono (fun r h =>
    ⟨fun c => (h c).2.2.2.2, sem_eq_zero_of_no_sems (by decide) r.2⟩) (Cert.Reference5Ideal.Value.run m ρ)

theorem preserves : Cert.preserves_Kernel5_Kernel5Ideal := trivial

/-- Each of the reference's four results is the kernel's. -/
theorem algebraic : Cert.algebraic_Kernel5Ideal_Reference5Ideal := by
  intro m g m' g' _ hagree
  refine ⟨rX2 m, rX1 m, rY m, rH m, ?_, ?_⟩
  · refine (θ_run Cert.Kernel5Ideal.defs _ _).mono (fun r h c => ?_) (Cert.Kernel5Ideal.Value.run_blocks m g)
    obtain ⟨h0, h1, h2, h3, hk⟩ := h c
    exact ⟨h0.trans (final9 m c), h1.trans (final10 m c), h2.trans (final11 m c), h3.trans (final12 m c), hk⟩
  · refine (θ_run Cert.Reference5Ideal.defs _ _).mono (fun r h c => ?_) (Cert.Reference5Ideal.Value.run m' g')
    obtain ⟨h0, h1, h2, h3, hk⟩ := h c
    obtain ⟨a0, a1, a2, a3, a4, a5, a6, a7, a8⟩ := hagree c
    refine ⟨(h0.trans (Cert.Reference5Ideal.Read.val_main_v29_eq _ _ _ _ _ _ _ _ _)).trans ?_, (h1.trans (Cert.Reference5Ideal.Read.val_main_v3_eq _ _ _ _ _)).trans ?_,
      (h2.trans (Cert.Reference5Ideal.Read.val_main_v30_eq _ _ _)).trans ?_, (h3.trans (Cert.Reference5Ideal.Read.val_main_v31_eq _ _ _ _ _ _)).trans ?_, hk⟩
    all_goals
      simp only [a0, a1, a2, a3, a4, a5, a6, a7, a8]
      funext y
      refine (congrArg _ (ix2_eta y).symm).trans ?_
    · exact Cert.Reference5Ideal.PostFwd.x2_apply (A0 m c) (A1 m c) (A2 m c) (A3 m c) (A4 m c) (A5 m c) (A6 m c) (A7 m c) (A8 m c) (y 0) (y 1)
    · exact Cert.Reference5Ideal.PostFwd.x1_apply (A0 m c) (A1 m c) (A2 m c) (A3 m c) (A5 m c) (y 0) (y 1)
    · exact Cert.Reference5Ideal.PostFwd.yb_apply (A1 m c) (A2 m c) (A3 m c) (y 0) (y 1)
    · exact Cert.Reference5Ideal.PostFwd.hb_apply (A0 m c) (A1 m c) (A2 m c) (A3 m c) (A5 m c) (A6 m c) (y 0) (y 1)

end Cert.PostFwd

end
-- ==== Proof.Lin.Tn.lean ====
/-
  The product of the columns of two arrays, summed block of rows by block of rows.
-/
module

public import proofs.«01_k».proof.Proof.Lin.Spec
public import proofs.«01_k».proof.Proof.Lin.Blocks
public import Idealize.ShloMosaic.Lib.Pipeline.ValueKit

@[expose] public section

noncomputable section

namespace Cert.LinSpec

open Idealize.ShloMosaic

section
variable {K W : ℕ} (a : Fin 8192 → Fin K → EReal) (g : Fin 8192 → Fin W → EReal)

/-- The products of column `k` of `a` and column `n` of `g`. -/
def tn (k : Fin K) (n : Fin W) : EReal := ∑ r, a r k * g r n

variable {N : ℕ} (hN : N = 4)
include hN

/-- Row `i` of the block of 2048 rows of point `t`. -/
abbrev row4 (t : Fin N) (i : Fin 2048) : Fin 8192 := ⟨2048 * t.val + i.val, by have := t.isLt; omega⟩

/-- A block's part of the products. -/
def tnPart (t : Fin N) (k : Fin K) (n : Fin W) : EReal := ∑ i, a (row4 hN t i) k * g (row4 hN t i) n

theorem sum_tnPart (k : Fin K) (n : Fin W) : ∑ t, tnPart a g hN t k n = tn a g k n := by
  unfold tnPart tn
  exact Fin.sum_mul_add_congr (fun t i hl => by
    have e : row4 hN t i = ⟨t.val * 2048 + i.val, hl⟩ := Fin.ext (congrArg (· + i.val) (Nat.mul_comm _ _))
    rw [e]) (by omega : 8192 = N * 2048)

/-- A scratch that the first point sets to the products of its blocks and the later ones add theirs to holds, after the last,
the products over all rows. -/
theorem tn_of_steps (s : ∀ n, n < N → Fin K → Fin W → EReal) (aB : Fin N → Fin 2048 → Fin K → EReal) (gB : Fin N → Fin 2048 → Fin W → EReal)
    (ha : ∀ t i k, aB t i k = a (row4 hN t i) k) (hg : ∀ t i n, gB t i n = g (row4 hN t i) n)
    (hA : ∀ t : Fin N, t.val % 4 = 0 → ∀ k n, s t.val t.isLt k n = ∑ i, aB t i k * gB t i n)
    (hB : ∀ t : Fin N, ¬t.val % 4 = 0 → ∀ k n, s t.val t.isLt k n
      = s (t.val - 1) (Nat.lt_of_le_of_lt (Nat.sub_le _ _) t.isLt) k n + ∑ i, aB t i k * gB t i n)
    (t : Fin N) (hl : t.val % 4 = 3) (k : Fin K) (n : Fin W) : s t.val t.isLt k n = tn a g k n := by
  have ht := t.isLt
  have e : ∀ t n, (∑ i, aB t i k * gB t i n) = tnPart a g hN t k n := fun t n =>
    Finset.sum_congr rfl fun i _ => congrArg₂ (· * ·) (ha t i k) (hg t i n)
  refine (Pipeline.eq_sum_fin_of_reset_step_apply_last (fun p h (n : Fin W) => s p h k n) 4 (fun _ => (0 : EReal))
    (fun t n => tnPart a g hN t k n) (fun t h n => ((hA t h k n).trans (e t n)).trans (zero_add _).symm)
    (fun t h n => (hB t h k n).trans (congrArg (_ + ·) (e t n))) (le_of_eq hN) t (by omega) n).trans ?_
  rw [sum_tnPart, zero_add]

omit hN in
/-- The row of an entry of a block of 2048 rows, found by its two coordinates. -/
theorem rows_eq (hN : N = 4) (t : Fin N) (i : Fin 2048) (k : Fin K) (x : (⟨2, ![8192, K]⟩ : Shape).Idx) (h0 : (x 0).val = t.val * 2048 + i.val)
    (h1 : (x 1).val = k.val) : x = ix2 (row4 hN t i) k :=
  ext2 (h0.trans (congrArg (· + i.val) (Nat.mul_comm _ _))) h1

end

/-- An entry is the one with the same two coordinates. -/
theorem whole_eq {a b : ℕ} {x : (⟨2, ![a, b]⟩ : Shape).Idx} (y : (⟨2, ![a, b]⟩ : Shape).Idx) (h0 : (x 0).val = (y 0).val)
    (h1 : (x 1).val = (y 1).val) : x = y :=
  (ext2 h0 h1).trans (ix2_eta y)

section
variable {K W : ℕ} {φ ψ : FTy} (wf : DotDims.WF ⟨2, ![2048, K]⟩ ⟨2, ![2048, W]⟩ ⟨2, ![K, W]⟩ [0] [0] [1] [1] [] [])
  (a : FVec Ideal ⟨2, ![2048, K]⟩ φ) (g : FVec Ideal ⟨2, ![2048, W]⟩ ψ) (k : Fin K) (n : Fin W)

/-- The product over the rows of both factors. -/
abbrev dotT : DotDims ⟨2, ![2048, K]⟩ ⟨2, ![2048, W]⟩ ⟨2, ![K, W]⟩ where
  lhsContracting := [0]
  rhsContracting := [0]
  lhsNonContracting := [1]
  rhsNonContracting := [1]
  lhsBatch := []
  rhsBatch := []
  wf := wf

theorem dotT_apply : matmul (dotT wf) none a g (constant ⟨2, ![K, W]⟩ .f32 0x00000000#32) (ix2 k n) = ∑ i : Fin 2048, a (ix2 i k) * g (ix2 i n) := by
  pointwise []
  exact Finset.sum_congr rfl fun i _ => congrArg₂ (· * ·) (congrArg a (ext2 rfl rfl)) (congrArg g (ext2 rfl rfl))

end

section
variable {K W N : ℕ} (hN : N = 4) {φ ψ : FTy} (wf : DotDims.WF ⟨2, ![2048, K]⟩ ⟨2, ![2048, W]⟩ ⟨2, ![K, W]⟩ [0] [0] [1] [1] [] [])
  (hc : (⟨2, ![K, W]⟩ : Shape).ShapeCasts ⟨2, ![K, W]⟩)

/-- A scratch that the first point sets to the product of its blocks and the later points add theirs to: after the last it is the
product of the whole arrays. -/
theorem tn_of_points (a : (⟨2, ![8192, K]⟩ : Shape).Idx → EReal) (g : (⟨2, ![8192, W]⟩ : Shape).Idx → EReal)
    (s : ∀ n, n < N → FVec Ideal ⟨2, ![K, W]⟩ .f32) (aB : Fin N → FVec Ideal ⟨2, ![2048, K]⟩ φ) (gB : Fin N → FVec Ideal ⟨2, ![2048, W]⟩ ψ)
    (ha : ∀ t i k, aB t (ix2 i k) = a (ix2 (row4 hN t i) k)) (hg : ∀ t i n, gB t (ix2 i n) = g (ix2 (row4 hN t i) n))
    (hA : ∀ t : Fin N, t.val % 4 = 0 → s t.val t.isLt
      = shapeCast ⟨2, ![K, W]⟩ (matmul (dotT wf) none (aB t) (gB t) (constant ⟨2, ![K, W]⟩ .f32 0x00000000#32)) hc)
    (hB : ∀ t : Fin N, ¬t.val % 4 = 0 → s t.val t.isLt
      = shapeCast ⟨2, ![K, W]⟩ (addf (s (t.val - 1) (Nat.lt_of_le_of_lt (Nat.sub_le _ _) t.isLt))
          (matmul (dotT wf) none (aB t) (gB t) (constant ⟨2, ![K, W]⟩ .f32 0x00000000#32))) hc)
    (t : Fin N) (hl : t.val % 4 = 3) :
    s t.val t.isLt = fun y => tn (fun r k => a (ix2 r k)) (fun r n => g (ix2 r n)) (y 0) (y 1) := by
  funext y
  obtain ⟨k, n, rfl⟩ : ∃ (k : Fin K) (n : Fin W), y = ix2 k n := ⟨y 0, y 1, (ix2_eta y).symm⟩
  refine tn_of_steps _ _ hN (fun p h k n => s p h (ix2 k n)) (fun t i k => aB t (ix2 i k)) (fun t i n => gB t (ix2 i n)) ha hg
    (fun t h k n => ?_) (fun t h k n => ?_) t hl k n
  · rw [hA t h, shapeCast_self]
    exact dotT_apply wf (aB t) (gB t) k n
  · rw [hB t h, shapeCast_self]
    exact congrArg (_ + ·) (dotT_apply wf (aB t) (gB t) k n)

end

end Cert.LinSpec

end
-- ==== Proof.Wgrad.WIn1536.lean ====
/-
  The weight gradient of the input projection's 1536 columns (a call of the step): its frames, and that its array is the reference's over the
  extended reals. A grid point adds the products of 2048 rows to the scratch; the last one stores it.
-/
module

public import proofs.«01_k».proof.Defs
public import proofs.«01_k».proof.Proof.Lin.Blocks
public import proofs.«01_k».proof.Proof.Lin.Tn
public import proofs.«01_k».proof.Proof.Gen.Kernel6.Frame
public import proofs.«01_k».proof.Proof.Gen.Kernel6Ideal.Value
public import proofs.«01_k».proof.Proof.Gen.Reference6Ideal.Read
public import proofs.«01_k».proof.Proof.Gen.Reference6Ideal.Run
public import Idealize.ShloMosaic.Lib.Pipeline.ValueKit
public import Idealize.ShloMosaic.Lib.Tactic
public import Idealize.ShloMosaic.Lib.Pointwise

@[expose] public section

noncomputable section

namespace Cert.Kernel6Ideal.WIn1536

open Cert.Kernel6Ideal Cert.Kernel6Ideal.Gen Idealize.ShloMosaic Idealize.ShloMosaic.TcCoe Idealize.SL.Sem
open Cert

variable (m : (ℓ : Loc nD τ sig) → Buf (Elt Ideal) ℓ) (c : Dev nD) (t : Fin cfg0.N)

/-- The launched arguments and the blocks of a point. -/
abbrev A0 : S8192x1024.Idx → EReal := m ((c : Thread nD τ).loc main_arg0)
abbrev A1 : S8192x1536.Idx → EReal := m ((c : Thread nD τ).loc main_arg1)
abbrev aB : Vec Ideal S2048x1024 .bf16 := iblk m c 0 t
abbrev gB : Vec Ideal S2048x1536 .bf16 := iblk m c 1 t

theorem idx : ∀ t : Fin cfg0.N, win0_0.index t = ![t.val, 0] ∧ win0_1.index t = ![t.val, 0] ∧ win0_2.index t = ![0, 0] :=
  (by decide +kernel : ∀ t : Fin grid0.N, win0_0.index t = ![t.val, 0] ∧ win0_1.index t = ![t.val, 0] ∧ win0_2.index t = ![0, 0])

theorem aB_apply (i : Fin 2048) (k : Fin 1024) : aB m c t (ix2 i k) = A0 m c (ix2 (LinSpec.row4 N_0 t i) k) :=
  congrArg (A0 m c) (LinSpec.rows_eq N_0 t i k ((win0_0.blk t).view.emb (ix2 i k)) (by blk_simp [(idx t).1]) (by blk_simp [(idx t).1]))
theorem gB_apply (i : Fin 2048) (n : Fin 1536) : gB m c t (ix2 i n) = A1 m c (ix2 (LinSpec.row4 N_0 t i) n) :=
  congrArg (A1 m c) (LinSpec.rows_eq N_0 t i n ((win0_1.blk t).view.emb (ix2 i n)) (by blk_simp [(idx t).2.1]) (by blk_simp [(idx t).2.1]))

/-- The first point sets the scratch, the later ones add to it, the last one stores it. -/
theorem first (h0 : t.val % 4 = 0) : (outsAt0 m c t.val t.isLt).2 = k0_pay2 (aB m c t) (gB m c t) := by
  have : t.val < 4 := lt_of_lt_of_eq t.isLt N_0
  rw [outsAt0_A m c t h0 (by omega) (by omega)]
  frame_out
theorem later (h0 : ¬t.val % 4 = 0) : (outsAt0 m c t.val t.isLt).2
    = k0_pay3 (aB m c t) (gB m c t) (outsAt0 m c (t.val - 1) (Nat.lt_of_le_of_lt (Nat.sub_le _ _) t.isLt)).2 := by
  have : t.val < 4 := lt_of_lt_of_eq t.isLt N_0
  by_cases h2 : t.val % 4 = 3
  · rw [outsAt0_C m c t h0 (by omega) h2]
    frame_out
    exact congrArg (k0_pay3 (aB m c t) (gB m c t)) ((Memref.isWhole_whole _).read_unread _)
  · rw [outsAt0_B m c t h0 (by omega) h2]
    frame_out
    exact congrArg (k0_pay3 (aB m c t) (gB m c t)) ((Memref.isWhole_whole _).read_unread _)
theorem last (h3 : t.val % 4 = 3) : (outsAt0 m c t.val t.isLt).1 = (outsAt0 m c t.val t.isLt).2 := by
  rw [outsAt0_C m c t (by omega) (by omega) h3]
  frame_out
  rfl

/-- The gradient of the weight: the products of the two arrays' columns. -/
abbrev rW : S1024x1536.Idx → EReal := fun y => LinSpec.tn (fun r k => A0 m c (ix2 r k)) (fun r n => A1 m c (ix2 r n)) (y 0) (y 1)

theorem final2 : (dats m 0 c).arrAt 2 cfg0.N = rW m c := by
  refine (dats m 0 c).arrAt_eq_of_covers 2 _ (by decide +kernel) fun t hf y => ?_
  have h3 := (flush0_2 t).mp hf
  rw [after0_2, last m c t h3]
  refine (congrFun (LinSpec.tn_of_points N_0 dot_S2048x1024_S2048x1536_S1024x1536_0_0_1_1_n_n_wf shapeCasts_S1024x1536_S1024x1536 (A0 m c) (A1 m c)
    (fun p h => (outsAt0 m c p h).2) (aB m c) (gB m c) (aB_apply m c) (gB_apply m c) (first m c) (later m c) t h3) y).trans ?_
  exact congrArg (rW m c) (LinSpec.whole_eq (x := (win0_2.blk t).view.emb y) y (by blk_simp [(idx t).2.2]) (by blk_simp [(idx t).2.2])).symm

end Cert.Kernel6Ideal.WIn1536

namespace Cert.WIn1536

open Idealize.ShloMosaic Idealize.ShloMosaic.TcCoe Idealize.ShloMosaic.StableHlo Idealize.SL.Sem
open Cert.Kernel6Ideal.WIn1536 Cert.Reference6Ideal.Read

theorem ref_apply (a : Cert.Reference6Ideal.S8192x1024.Idx → EReal) (g : Cert.Reference6Ideal.S8192x1536.Idx → EReal) (k : Fin 1024) (n : Fin 1536) :
    val_main_v6 (F := Ideal) a g (ix2 k n) = LinSpec.tn (fun r k => a (ix2 r k)) (fun r n => g (ix2 r n)) k n := by
  pointwise [val_main_v6, val_main_v5, val_main_v4, val_main_v3, val_main_v1]
  exact Finset.sum_congr rfl fun r _ => mul_comm _ _

theorem frame_kernel : Cert.quiescent_Kernel6 := fun m ρ _ => Cert.Kernel6.Gen.frame m ρ

theorem frame_ideal : Cert.quiescent_Kernel6Ideal := fun m ρ _ => Cert.Kernel6Ideal.Gen.frame m ρ

/-- The reference is a line of host operations on a machine without semaphores. -/
theorem frame_reference : Cert.quiescent_Reference6Ideal := fun m ρ _ =>
  (θ_run Cert.Reference6Ideal.defs _ _).mono (fun r h =>
    ⟨fun c => (h c).2, sem_eq_zero_of_no_sems (by decide) r.2⟩) (Cert.Reference6Ideal.Value.run m ρ)

theorem preserves : Cert.preserves_Kernel6_Kernel6Ideal := trivial

theorem algebraic : Cert.algebraic_Kernel6Ideal_Reference6Ideal := by
  intro m g m' g' _ hagree
  refine ⟨rW m, ?_, ?_⟩
  · refine (θ_run Cert.Kernel6Ideal.defs _ _).mono (fun r h c => ?_) (Cert.Kernel6Ideal.Value.run_blocks m g)
    obtain ⟨h0, hk⟩ := h c
    exact ⟨h0.trans (final2 m c), hk⟩
  · refine (θ_run Cert.Reference6Ideal.defs _ _).mono (fun r h c => ?_) (Cert.Reference6Ideal.Value.run m' g')
    obtain ⟨h0, hk⟩ := h c
    obtain ⟨a0, a1⟩ := hagree c
    refine ⟨(h0.trans (val_main_v6_eq _ _)).trans ?_, hk⟩
    simp only [a0, a1]
    funext y
    exact (congrArg _ (ix2_eta y).symm).trans (ref_apply (A0 m c) (A1 m c) (y 0) (y 1))

end Cert.WIn1536

end
-- ==== Proof.Wgrad.WGate.lean ====
/-
  The weight gradient of the gate (a call of the step): its frames, and that its array is the reference's over the
  extended reals. A grid point adds the products of 2048 rows to the scratch; the last one stores it.
-/
module

public import proofs.«01_k».proof.Defs
public import proofs.«01_k».proof.Proof.Lin.Blocks
public import proofs.«01_k».proof.Proof.Lin.Tn
public import proofs.«01_k».proof.Proof.Gen.Kernel7.Frame
public import proofs.«01_k».proof.Proof.Gen.Kernel7Ideal.Value
public import proofs.«01_k».proof.Proof.Gen.Reference7Ideal.Read
public import proofs.«01_k».proof.Proof.Gen.Reference7Ideal.Run
public import Idealize.ShloMosaic.Lib.Pipeline.ValueKit
public import Idealize.ShloMosaic.Lib.Tactic
public import Idealize.ShloMosaic.Lib.Pointwise

@[expose] public section

noncomputable section

namespace Cert.Kernel7Ideal.WGate

open Cert.Kernel7Ideal Cert.Kernel7Ideal.Gen Idealize.ShloMosaic Idealize.ShloMosaic.TcCoe Idealize.SL.Sem
open Cert

variable (m : (ℓ : Loc nD τ sig) → Buf (Elt Ideal) ℓ) (c : Dev nD) (t : Fin cfg0.N)

/-- The launched arguments and the blocks of a point. -/
abbrev A0 : S8192x1024.Idx → EReal := m ((c : Thread nD τ).loc main_arg0)
abbrev A1 : S8192x1024.Idx → EReal := m ((c : Thread nD τ).loc main_arg1)
abbrev aB : Vec Ideal S2048x1024 .bf16 := iblk m c 0 t
abbrev gB : Vec Ideal S2048x1024 .bf16 := iblk m c 1 t

theorem idx : ∀ t : Fin cfg0.N, win0_0.index t = ![t.val, 0] ∧ win0_1.index t = ![t.val, 0] ∧ win0_2.index t = ![0, 0] :=
  (by decide +kernel : ∀ t : Fin grid0.N, win0_0.index t = ![t.val, 0] ∧ win0_1.index t = ![t.val, 0] ∧ win0_2.index t = ![0, 0])

theorem aB_apply (i : Fin 2048) (k : Fin 1024) : aB m c t (ix2 i k) = A0 m c (ix2 (LinSpec.row4 N_0 t i) k) :=
  congrArg (A0 m c) (LinSpec.rows_eq N_0 t i k ((win0_0.blk t).view.emb (ix2 i k)) (by blk_simp [(idx t).1]) (by blk_simp [(idx t).1]))
theorem gB_apply (i : Fin 2048) (n : Fin 1024) : gB m c t (ix2 i n) = A1 m c (ix2 (LinSpec.row4 N_0 t i) n) :=
  congrArg (A1 m c) (LinSpec.rows_eq N_0 t i n ((win0_1.blk t).view.emb (ix2 i n)) (by blk_simp [(idx t).2.1]) (by blk_simp [(idx t).2.1]))

/-- The first point sets the scratch, the later ones add to it, the last one stores it. -/
theorem first (h0 : t.val % 4 = 0) : (outsAt0 m c t.val t.isLt).2 = k0_pay2 (aB m c t) (gB m c t) := by
  have : t.val < 4 := lt_of_lt_of_eq t.isLt N_0
  rw [outsAt0_A m c t h0 (by omega) (by omega)]
  frame_out
theorem later (h0 : ¬t.val % 4 = 0) : (outsAt0 m c t.val t.isLt).2
    = k0_pay3 (aB m c t) (gB m c t) (outsAt0 m c (t.val - 1) (Nat.lt_of_le_of_lt (Nat.sub_le _ _) t.isLt)).2 := by
  have : t.val < 4 := lt_of_lt_of_eq t.isLt N_0
  by_cases h2 : t.val % 4 = 3
  · rw [outsAt0_C m c t h0 (by omega) h2]
    frame_out
    exact congrArg (k0_pay3 (aB m c t) (gB m c t)) ((Memref.isWhole_whole _).read_unread _)
  · rw [outsAt0_B m c t h0 (by omega) h2]
    frame_out
    exact congrArg (k0_pay3 (aB m c t) (gB m c t)) ((Memref.isWhole_whole _).read_unread _)
theorem last (h3 : t.val % 4 = 3) : (outsAt0 m c t.val t.isLt).1 = (outsAt0 m c t.val t.isLt).2 := by
  rw [outsAt0_C m c t (by omega) (by omega) h3]
  frame_out
  rfl

/-- The gradient of the weight: the products of the two arrays' columns. -/
abbrev rW : S1024x1024.Idx → EReal := fun y => LinSpec.tn (fun r k => A0 m c (ix2 r k)) (fun r n => A1 m c (ix2 r n)) (y 0) (y 1)

theorem final2 : (dats m 0 c).arrAt 2 cfg0.N = rW m c := by
  refine (dats m 0 c).arrAt_eq_of_covers 2 _ (by decide +kernel) fun t hf y => ?_
  have h3 := (flush0_2 t).mp hf
  rw [after0_2, last m c t h3]
  refine (congrFun (LinSpec.tn_of_points N_0 dot_S2048x1024_S2048x1024_S1024x1024_0_0_1_1_n_n_wf shapeCasts_S1024x1024_S1024x1024 (A0 m c) (A1 m c)
    (fun p h => (outsAt0 m c p h).2) (aB m c) (gB m c) (aB_apply m c) (gB_apply m c) (first m c) (later m c) t h3) y).trans ?_
  exact congrArg (rW m c) (LinSpec.whole_eq (x := (win0_2.blk t).view.emb y) y (by blk_simp [(idx t).2.2]) (by blk_simp [(idx t).2.2])).symm

end Cert.Kernel7Ideal.WGate

namespace Cert.WGate

open Idealize.ShloMosaic Idealize.ShloMosaic.TcCoe Idealize.ShloMosaic.StableHlo Idealize.SL.Sem
open Cert.Kernel7Ideal.WGate Cert.Reference7Ideal.Read

theorem ref_apply (a : Cert.Reference7Ideal.S8192x1024.Idx → EReal) (g : Cert.Reference7Ideal.S8192x1024.Idx → EReal) (k : Fin 1024) (n : Fin 1024) :
    val_main_v6 (F := Ideal) a g (ix2 k n) = LinSpec.tn (fun r k => a (ix2 r k)) (fun r n => g (ix2 r n)) k n := by
  pointwise [val_main_v6, val_main_v5, val_main_v4, val_main_v3, val_main_v1]
  exact Finset.sum_congr rfl fun r _ => mul_comm _ _

theorem frame_kernel : Cert.quiescent_Kernel7 := fun m ρ _ => Cert.Kernel7.Gen.frame m ρ

theorem frame_ideal : Cert.quiescent_Kernel7Ideal := fun m ρ _ => Cert.Kernel7Ideal.Gen.frame m ρ

/-- The reference is a line of host operations on a machine without semaphores. -/
theorem frame_reference : Cert.quiescent_Reference7Ideal := fun m ρ _ =>
  (θ_run Cert.Reference7Ideal.defs _ _).mono (fun r h =>
    ⟨fun c => (h c).2, sem_eq_zero_of_no_sems (by decide) r.2⟩) (Cert.Reference7Ideal.Value.run m ρ)

theorem preserves : Cert.preserves_Kernel7_Kernel7Ideal := trivial

theorem algebraic : Cert.algebraic_Kernel7Ideal_Reference7Ideal := by
  intro m g m' g' _ hagree
  refine ⟨rW m, ?_, ?_⟩
  · refine (θ_run Cert.Kernel7Ideal.defs _ _).mono (fun r h c => ?_) (Cert.Kernel7Ideal.Value.run_blocks m g)
    obtain ⟨h0, hk⟩ := h c
    exact ⟨h0.trans (final2 m c), hk⟩
  · refine (θ_run Cert.Reference7Ideal.defs _ _).mono (fun r h c => ?_) (Cert.Reference7Ideal.Value.run m' g')
    obtain ⟨h0, hk⟩ := h c
    obtain ⟨a0, a1⟩ := hagree c
    refine ⟨(h0.trans (val_main_v6_eq _ _)).trans ?_, hk⟩
    simp only [a0, a1]
    funext y
    exact (congrArg _ (ix2_eta y).symm).trans (ref_apply (A0 m c) (A1 m c) (y 0) (y 1))

end Cert.WGate

end
-- ==== Proof.Wgrad.WOut.lean ====
/-
  The weight gradient of the output projection (a call of the step): its frames, and that its array is the reference's over the
  extended reals. A grid point adds the products of 2048 rows to the scratch; the last one stores it.
-/
module

public import proofs.«01_k».proof.Defs
public import proofs.«01_k».proof.Proof.Lin.Blocks
public import proofs.«01_k».proof.Proof.Lin.Tn
public import proofs.«01_k».proof.Proof.Gen.Kernel8.Frame
public import proofs.«01_k».proof.Proof.Gen.Kernel8Ideal.Value
public import proofs.«01_k».proof.Proof.Gen.Reference8Ideal.Read
public import proofs.«01_k».proof.Proof.Gen.Reference8Ideal.Run
public import Idealize.ShloMosaic.Lib.Pipeline.ValueKit
public import Idealize.ShloMosaic.Lib.Tactic
public import Idealize.ShloMosaic.Lib.Pointwise

@[expose] public section

noncomputable section

namespace Cert.Kernel8Ideal.WOut

open Cert.Kernel8Ideal Cert.Kernel8Ideal.Gen Idealize.ShloMosaic Idealize.ShloMosaic.TcCoe Idealize.SL.Sem
open Cert

variable (m : (ℓ : Loc nD τ sig) → Buf (Elt Ideal) ℓ) (c : Dev nD) (t : Fin cfg0.N)

/-- The launched arguments and the blocks of a point. -/
abbrev A0 : S8192x1024.Idx → EReal := m ((c : Thread nD τ).loc main_arg0)
abbrev A1 : S8192x1024.Idx → EReal := m ((c : Thread nD τ).loc main_arg1)
abbrev aB : Vec Ideal S2048x1024 .bf16 := iblk m c 0 t
abbrev gB : Vec Ideal S2048x1024 .f32 := iblk m c 1 t

theorem idx : ∀ t : Fin cfg0.N, win0_0.index t = ![t.val, 0] ∧ win0_1.index t = ![t.val, 0] ∧ win0_2.index t = ![0, 0] :=
  (by decide +kernel : ∀ t : Fin grid0.N, win0_0.index t = ![t.val, 0] ∧ win0_1.index t = ![t.val, 0] ∧ win0_2.index t = ![0, 0])

theorem aB_apply (i : Fin 2048) (k : Fin 1024) : aB m c t (ix2 i k) = A0 m c (ix2 (LinSpec.row4 N_0 t i) k) :=
  congrArg (A0 m c) (LinSpec.rows_eq N_0 t i k ((win0_0.blk t).view.emb (ix2 i k)) (by blk_simp [(idx t).1]) (by blk_simp [(idx t).1]))
theorem gB_apply (i : Fin 2048) (n : Fin 1024) : gB m c t (ix2 i n) = A1 m c (ix2 (LinSpec.row4 N_0 t i) n) :=
  congrArg (A1 m c) (LinSpec.rows_eq N_0 t i n ((win0_1.blk t).view.emb (ix2 i n)) (by blk_simp [(idx t).2.1]) (by blk_simp [(idx t).2.1]))

/-- The first point sets the scratch, the later ones add to it, the last one stores it. -/
theorem first (h0 : t.val % 4 = 0) : (outsAt0 m c t.val t.isLt).2 = k0_pay2 (aB m c t) (gB m c t) := by
  have : t.val < 4 := lt_of_lt_of_eq t.isLt N_0
  rw [outsAt0_A m c t h0 (by omega) (by omega)]
  frame_out
theorem later (h0 : ¬t.val % 4 = 0) : (outsAt0 m c t.val t.isLt).2
    = k0_pay3 (aB m c t) (gB m c t) (outsAt0 m c (t.val - 1) (Nat.lt_of_le_of_lt (Nat.sub_le _ _) t.isLt)).2 := by
  have : t.val < 4 := lt_of_lt_of_eq t.isLt N_0
  by_cases h2 : t.val % 4 = 3
  · rw [outsAt0_C m c t h0 (by omega) h2]
    frame_out
    exact congrArg (k0_pay3 (aB m c t) (gB m c t)) ((Memref.isWhole_whole _).read_unread _)
  · rw [outsAt0_B m c t h0 (by omega) h2]
    frame_out
    exact congrArg (k0_pay3 (aB m c t) (gB m c t)) ((Memref.isWhole_whole _).read_unread _)
theorem last (h3 : t.val % 4 = 3) : (outsAt0 m c t.val t.isLt).1 = (outsAt0 m c t.val t.isLt).2 := by
  rw [outsAt0_C m c t (by omega) (by omega) h3]
  frame_out
  rfl

/-- The gradient of the weight: the products of the two arrays' columns. -/
abbrev rW : S1024x1024.Idx → EReal := fun y => LinSpec.tn (fun r k => A0 m c (ix2 r k)) (fun r n => A1 m c (ix2 r n)) (y 0) (y 1)

theorem final2 : (dats m 0 c).arrAt 2 cfg0.N = rW m c := by
  refine (dats m 0 c).arrAt_eq_of_covers 2 _ (by decide +kernel) fun t hf y => ?_
  have h3 := (flush0_2 t).mp hf
  rw [after0_2, last m c t h3]
  refine (congrFun (LinSpec.tn_of_points N_0 dot_S2048x1024_S2048x1024_S1024x1024_0_0_1_1_n_n_wf shapeCasts_S1024x1024_S1024x1024 (A0 m c) (A1 m c)
    (fun p h => (outsAt0 m c p h).2) (aB m c) (gB m c) (aB_apply m c) (gB_apply m c) (first m c) (later m c) t h3) y).trans ?_
  exact congrArg (rW m c) (LinSpec.whole_eq (x := (win0_2.blk t).view.emb y) y (by blk_simp [(idx t).2.2]) (by blk_simp [(idx t).2.2])).symm

end Cert.Kernel8Ideal.WOut

namespace Cert.WOut

open Idealize.ShloMosaic Idealize.ShloMosaic.TcCoe Idealize.ShloMosaic.StableHlo Idealize.SL.Sem
open Cert.Kernel8Ideal.WOut Cert.Reference8Ideal.Read

theorem ref_apply (a : Cert.Reference8Ideal.S8192x1024.Idx → EReal) (g : Cert.Reference8Ideal.S8192x1024.Idx → EReal) (k : Fin 1024) (n : Fin 1024) :
    val_main_v5 (F := Ideal) a g (ix2 k n) = LinSpec.tn (fun r k => a (ix2 r k)) (fun r n => g (ix2 r n)) k n := by
  pointwise [val_main_v5, val_main_v4, val_main_v3, val_main_v1]
  exact Finset.sum_congr rfl fun r _ => mul_comm _ _

theorem frame_kernel : Cert.quiescent_Kernel8 := fun m ρ _ => Cert.Kernel8.Gen.frame m ρ

theorem frame_ideal : Cert.quiescent_Kernel8Ideal := fun m ρ _ => Cert.Kernel8Ideal.Gen.frame m ρ

/-- The reference is a line of host operations on a machine without semaphores. -/
theorem frame_reference : Cert.quiescent_Reference8Ideal := fun m ρ _ =>
  (θ_run Cert.Reference8Ideal.defs _ _).mono (fun r h =>
    ⟨fun c => (h c).2, sem_eq_zero_of_no_sems (by decide) r.2⟩) (Cert.Reference8Ideal.Value.run m ρ)

theorem preserves : Cert.preserves_Kernel8_Kernel8Ideal := trivial

theorem algebraic : Cert.algebraic_Kernel8Ideal_Reference8Ideal := by
  intro m g m' g' _ hagree
  refine ⟨rW m, ?_, ?_⟩
  · refine (θ_run Cert.Kernel8Ideal.defs _ _).mono (fun r h c => ?_) (Cert.Kernel8Ideal.Value.run_blocks m g)
    obtain ⟨h0, hk⟩ := h c
    exact ⟨h0.trans (final2 m c), hk⟩
  · refine (θ_run Cert.Reference8Ideal.defs _ _).mono (fun r h c => ?_) (Cert.Reference8Ideal.Value.run m' g')
    obtain ⟨h0, hk⟩ := h c
    obtain ⟨a0, a1⟩ := hagree c
    refine ⟨(h0.trans (val_main_v5_eq _ _)).trans ?_, hk⟩
    simp only [a0, a1]
    funext y
    exact (congrArg _ (ix2_eta y).symm).trans (ref_apply (A0 m c) (A1 m c) (y 0) (y 1))

end Cert.WOut

end
-- ==== Proof.Wgrad.WIn512.lean ====
/-
  The weight gradient of 512 of the input projection's columns (a call of the step): its frames, and that its array is the reference's over the
  extended reals. A grid point adds the products of 2048 rows to the scratch; the last one stores it.
-/
module

public import proofs.«01_k».proof.Defs
public import proofs.«01_k».proof.Proof.Lin.Blocks
public import proofs.«01_k».proof.Proof.Lin.Tn
public import proofs.«01_k».proof.Proof.Gen.Kernel9.Frame
public import proofs.«01_k».proof.Proof.Gen.Kernel9Ideal.Value
public import proofs.«01_k».proof.Proof.Gen.Reference9Ideal.Read
public import proofs.«01_k».proof.Proof.Gen.Reference9Ideal.Run
public import Idealize.ShloMosaic.Lib.Pipeline.ValueKit
public import Idealize.ShloMosaic.Lib.Tactic
public import Idealize.ShloMosaic.Lib.Pointwise

@[expose] public section

noncomputable section

namespace Cert.Kernel9Ideal.WIn512

open Cert.Kernel9Ideal Cert.Kernel9Ideal.Gen Idealize.ShloMosaic Idealize.ShloMosaic.TcCoe Idealize.SL.Sem
open Cert

variable (m : (ℓ : Loc nD τ sig) → Buf (Elt Ideal) ℓ) (c : Dev nD) (t : Fin cfg0.N)

/-- The launched arguments and the blocks of a point. -/
abbrev A0 : S8192x1024.Idx → EReal := m ((c : Thread nD τ).loc main_arg0)
abbrev A1 : S8192x512.Idx → EReal := m ((c : Thread nD τ).loc main_arg1)
abbrev aB : Vec Ideal S2048x1024 .bf16 := iblk m c 0 t
abbrev gB : Vec Ideal S2048x512 .bf16 := iblk m c 1 t

theorem idx : ∀ t : Fin cfg0.N, win0_0.index t = ![t.val, 0] ∧ win0_1.index t = ![t.val, 0] ∧ win0_2.index t = ![0, 0] :=
  (by decide +kernel : ∀ t : Fin grid0.N, win0_0.index t = ![t.val, 0] ∧ win0_1.index t = ![t.val, 0] ∧ win0_2.index t = ![0, 0])

theorem aB_apply (i : Fin 2048) (k : Fin 1024) : aB m c t (ix2 i k) = A0 m c (ix2 (LinSpec.row4 N_0 t i) k) :=
  congrArg (A0 m c) (LinSpec.rows_eq N_0 t i k ((win0_0.blk t).view.emb (ix2 i k)) (by blk_simp [(idx t).1]) (by blk_simp [(idx t).1]))
theorem gB_apply (i : Fin 2048) (n : Fin 512) : gB m c t (ix2 i n) = A1 m c (ix2 (LinSpec.row4 N_0 t i) n) :=
  congrArg (A1 m c) (LinSpec.rows_eq N_0 t i n ((win0_1.blk t).view.emb (ix2 i n)) (by blk_simp [(idx t).2.1]) (by blk_simp [(idx t).2.1]))

/-- The first point sets the scratch, the later ones add to it, the last one stores it. -/
theorem first (h0 : t.val % 4 = 0) : (outsAt0 m c t.val t.isLt).2 = k0_pay2 (aB m c t) (gB m c t) := by
  have : t.val < 4 := lt_of_lt_of_eq t.isLt N_0
  rw [outsAt0_A m c t h0 (by omega) (by omega)]
  frame_out
theorem later (h0 : ¬t.val % 4 = 0) : (outsAt0 m c t.val t.isLt).2
    = k0_pay3 (aB m c t) (gB m c t) (outsAt0 m c (t.val - 1) (Nat.lt_of_le_of_lt (Nat.sub_le _ _) t.isLt)).2 := by
  have : t.val < 4 := lt_of_lt_of_eq t.isLt N_0
  by_cases h2 : t.val % 4 = 3
  · rw [outsAt0_C m c t h0 (by omega) h2]
    frame_out
    exact congrArg (k0_pay3 (aB m c t) (gB m c t)) ((Memref.isWhole_whole _).read_unread _)
  · rw [outsAt0_B m c t h0 (by omega) h2]
    frame_out
    exact congrArg (k0_pay3 (aB m c t) (gB m c t)) ((Memref.isWhole_whole _).read_unread _)
theorem last (h3 : t.val % 4 = 3) : (outsAt0 m c t.val t.isLt).1 = (outsAt0 m c t.val t.isLt).2 := by
  rw [outsAt0_C m c t (by omega) (by omega) h3]
  frame_out
  rfl

/-- The gradient of the weight: the products of the two arrays' columns. -/
abbrev rW : S1024x512.Idx → EReal := fun y => LinSpec.tn (fun r k => A0 m c (ix2 r k)) (fun r n => A1 m c (ix2 r n)) (y 0) (y 1)

theorem final2 : (dats m 0 c).arrAt 2 cfg0.N = rW m c := by
  refine (dats m 0 c).arrAt_eq_of_covers 2 _ (by decide +kernel) fun t hf y => ?_
  have h3 := (flush0_2 t).mp hf
  rw [after0_2, last m c t h3]
  refine (congrFun (LinSpec.tn_of_points N_0 dot_S2048x1024_S2048x512_S1024x512_0_0_1_1_n_n_wf shapeCasts_S1024x512_S1024x512 (A0 m c) (A1 m c)
    (fun p h => (outsAt0 m c p h).2) (aB m c) (gB m c) (aB_apply m c) (gB_apply m c) (first m c) (later m c) t h3) y).trans ?_
  exact congrArg (rW m c) (LinSpec.whole_eq (x := (win0_2.blk t).view.emb y) y (by blk_simp [(idx t).2.2]) (by blk_simp [(idx t).2.2])).symm

end Cert.Kernel9Ideal.WIn512

namespace Cert.WIn512

open Idealize.ShloMosaic Idealize.ShloMosaic.TcCoe Idealize.ShloMosaic.StableHlo Idealize.SL.Sem
open Cert.Kernel9Ideal.WIn512 Cert.Reference9Ideal.Read

theorem ref_apply (a : Cert.Reference9Ideal.S8192x1024.Idx → EReal) (g : Cert.Reference9Ideal.S8192x512.Idx → EReal) (k : Fin 1024) (n : Fin 512) :
    val_main_v6 (F := Ideal) a g (ix2 k n) = LinSpec.tn (fun r k => a (ix2 r k)) (fun r n => g (ix2 r n)) k n := by
  pointwise [val_main_v6, val_main_v5, val_main_v4, val_main_v3, val_main_v1]
  exact Finset.sum_congr rfl fun r _ => mul_comm _ _

theorem frame_kernel : Cert.quiescent_Kernel9 := fun m ρ _ => Cert.Kernel9.Gen.frame m ρ

theorem frame_ideal : Cert.quiescent_Kernel9Ideal := fun m ρ _ => Cert.Kernel9Ideal.Gen.frame m ρ

/-- The reference is a line of host operations on a machine without semaphores. -/
theorem frame_reference : Cert.quiescent_Reference9Ideal := fun m ρ _ =>
  (θ_run Cert.Reference9Ideal.defs _ _).mono (fun r h =>
    ⟨fun c => (h c).2, sem_eq_zero_of_no_sems (by decide) r.2⟩) (Cert.Reference9Ideal.Value.run m ρ)

theorem preserves : Cert.preserves_Kernel9_Kernel9Ideal := trivial

theorem algebraic : Cert.algebraic_Kernel9Ideal_Reference9Ideal := by
  intro m g m' g' _ hagree
  refine ⟨rW m, ?_, ?_⟩
  · refine (θ_run Cert.Kernel9Ideal.defs _ _).mono (fun r h c => ?_) (Cert.Kernel9Ideal.Value.run_blocks m g)
    obtain ⟨h0, hk⟩ := h c
    exact ⟨h0.trans (final2 m c), hk⟩
  · refine (θ_run Cert.Reference9Ideal.defs _ _).mono (fun r h c => ?_) (Cert.Reference9Ideal.Value.run m' g')
    obtain ⟨h0, hk⟩ := h c
    obtain ⟨a0, a1⟩ := hagree c
    refine ⟨(h0.trans (val_main_v6_eq _ _)).trans ?_, hk⟩
    simp only [a0, a1]
    funext y
    exact (congrArg _ (ix2_eta y).symm).trans (ref_apply (A0 m c) (A1 m c) (y 0) (y 1))

end Cert.WIn512

end
-- ==== Proof.Wgrad.WIn768.lean ====
/-
  The weight gradient of 768 of the input projection's columns (a call of the step): its frames, and that its array is the reference's over the
  extended reals. A grid point adds the products of 2048 rows to the scratch; the last one stores it.
-/
module

public import proofs.«01_k».proof.Defs
public import proofs.«01_k».proof.Proof.Lin.Blocks
public import proofs.«01_k».proof.Proof.Lin.Tn
public import proofs.«01_k».proof.Proof.Gen.Kernel10.Frame
public import proofs.«01_k».proof.Proof.Gen.Kernel10Ideal.Value
public import proofs.«01_k».proof.Proof.Gen.Reference10Ideal.Read
public import proofs.«01_k».proof.Proof.Gen.Reference10Ideal.Run
public import Idealize.ShloMosaic.Lib.Pipeline.ValueKit
public import Idealize.ShloMosaic.Lib.Tactic
public import Idealize.ShloMosaic.Lib.Pointwise

@[expose] public section

noncomputable section

namespace Cert.Kernel10Ideal.WIn768

open Cert.Kernel10Ideal Cert.Kernel10Ideal.Gen Idealize.ShloMosaic Idealize.ShloMosaic.TcCoe Idealize.SL.Sem
open Cert

variable (m : (ℓ : Loc nD τ sig) → Buf (Elt Ideal) ℓ) (c : Dev nD) (t : Fin cfg0.N)

/-- The launched arguments and the blocks of a point. -/
abbrev A0 : S8192x1024.Idx → EReal := m ((c : Thread nD τ).loc main_arg0)
abbrev A1 : S8192x768.Idx → EReal := m ((c : Thread nD τ).loc main_arg1)
abbrev aB : Vec Ideal S2048x1024 .bf16 := iblk m c 0 t
abbrev gB : Vec Ideal S2048x768 .bf16 := iblk m c 1 t

theorem idx : ∀ t : Fin cfg0.N, win0_0.index t = ![t.val, 0] ∧ win0_1.index t = ![t.val, 0] ∧ win0_2.index t = ![0, 0] :=
  (by decide +kernel : ∀ t : Fin grid0.N, win0_0.index t = ![t.val, 0] ∧ win0_1.index t = ![t.val, 0] ∧ win0_2.index t = ![0, 0])

theorem aB_apply (i : Fin 2048) (k : Fin 1024) : aB m c t (ix2 i k) = A0 m c (ix2 (LinSpec.row4 N_0 t i) k) :=
  congrArg (A0 m c) (LinSpec.rows_eq N_0 t i k ((win0_0.blk t).view.emb (ix2 i k)) (by blk_simp [(idx t).1]) (by blk_simp [(idx t).1]))
theorem gB_apply (i : Fin 2048) (n : Fin 768) : gB m c t (ix2 i n) = A1 m c (ix2 (LinSpec.row4 N_0 t i) n) :=
  congrArg (A1 m c) (LinSpec.rows_eq N_0 t i n ((win0_1.blk t).view.emb (ix2 i n)) (by blk_simp [(idx t).2.1]) (by blk_simp [(idx t).2.1]))

/-- The first point sets the scratch, the later ones add to it, the last one stores it. -/
theorem first (h0 : t.val % 4 = 0) : (outsAt0 m c t.val t.isLt).2 = k0_pay2 (aB m c t) (gB m c t) := by
  have : t.val < 4 := lt_of_lt_of_eq t.isLt N_0
  rw [outsAt0_A m c t h0 (by omega) (by omega)]
  frame_out
theorem later (h0 : ¬t.val % 4 = 0) : (outsAt0 m c t.val t.isLt).2
    = k0_pay3 (aB m c t) (gB m c t) (outsAt0 m c (t.val - 1) (Nat.lt_of_le_of_lt (Nat.sub_le _ _) t.isLt)).2 := by
  have : t.val < 4 := lt_of_lt_of_eq t.isLt N_0
  by_cases h2 : t.val % 4 = 3
  · rw [outsAt0_C m c t h0 (by omega) h2]
    frame_out
    exact congrArg (k0_pay3 (aB m c t) (gB m c t)) ((Memref.isWhole_whole _).read_unread _)
  · rw [outsAt0_B m c t h0 (by omega) h2]
    frame_out
    exact congrArg (k0_pay3 (aB m c t) (gB m c t)) ((Memref.isWhole_whole _).read_unread _)
theorem last (h3 : t.val % 4 = 3) : (outsAt0 m c t.val t.isLt).1 = (outsAt0 m c t.val t.isLt).2 := by
  rw [outsAt0_C m c t (by omega) (by omega) h3]
  frame_out
  rfl

/-- The gradient of the weight: the products of the two arrays' columns. -/
abbrev rW : S1024x768.Idx → EReal := fun y => LinSpec.tn (fun r k => A0 m c (ix2 r k)) (fun r n => A1 m c (ix2 r n)) (y 0) (y 1)

theorem final2 : (dats m 0 c).arrAt 2 cfg0.N = rW m c := by
  refine (dats m 0 c).arrAt_eq_of_covers 2 _ (by decide +kernel) fun t hf y => ?_
  have h3 := (flush0_2 t).mp hf
  rw [after0_2, last m c t h3]
  refine (congrFun (LinSpec.tn_of_points N_0 dot_S2048x1024_S2048x768_S1024x768_0_0_1_1_n_n_wf shapeCasts_S1024x768_S1024x768 (A0 m c) (A1 m c)
    (fun p h => (outsAt0 m c p h).2) (aB m c) (gB m c) (aB_apply m c) (gB_apply m c) (first m c) (later m c) t h3) y).trans ?_
  exact congrArg (rW m c) (LinSpec.whole_eq (x := (win0_2.blk t).view.emb y) y (by blk_simp [(idx t).2.2]) (by blk_simp [(idx t).2.2])).symm

end Cert.Kernel10Ideal.WIn768

namespace Cert.WIn768

open Idealize.ShloMosaic Idealize.ShloMosaic.TcCoe Idealize.ShloMosaic.StableHlo Idealize.SL.Sem
open Cert.Kernel10Ideal.WIn768 Cert.Reference10Ideal.Read

theorem ref_apply (a : Cert.Reference10Ideal.S8192x1024.Idx → EReal) (g : Cert.Reference10Ideal.S8192x768.Idx → EReal) (k : Fin 1024) (n : Fin 768) :
    val_main_v6 (F := Ideal) a g (ix2 k n) = LinSpec.tn (fun r k => a (ix2 r k)) (fun r n => g (ix2 r n)) k n := by
  pointwise [val_main_v6, val_main_v5, val_main_v4, val_main_v3, val_main_v1]
  exact Finset.sum_congr rfl fun r _ => mul_comm _ _

theorem frame_kernel : Cert.quiescent_Kernel10 := fun m ρ _ => Cert.Kernel10.Gen.frame m ρ

theorem frame_ideal : Cert.quiescent_Kernel10Ideal := fun m ρ _ => Cert.Kernel10Ideal.Gen.frame m ρ

/-- The reference is a line of host operations on a machine without semaphores. -/
theorem frame_reference : Cert.quiescent_Reference10Ideal := fun m ρ _ =>
  (θ_run Cert.Reference10Ideal.defs _ _).mono (fun r h =>
    ⟨fun c => (h c).2, sem_eq_zero_of_no_sems (by decide) r.2⟩) (Cert.Reference10Ideal.Value.run m ρ)

theorem preserves : Cert.preserves_Kernel10_Kernel10Ideal := trivial

theorem algebraic : Cert.algebraic_Kernel10Ideal_Reference10Ideal := by
  intro m g m' g' _ hagree
  refine ⟨rW m, ?_, ?_⟩
  · refine (θ_run Cert.Kernel10Ideal.defs _ _).mono (fun r h c => ?_) (Cert.Kernel10Ideal.Value.run_blocks m g)
    obtain ⟨h0, hk⟩ := h c
    exact ⟨h0.trans (final2 m c), hk⟩
  · refine (θ_run Cert.Reference10Ideal.defs _ _).mono (fun r h c => ?_) (Cert.Reference10Ideal.Value.run m' g')
    obtain ⟨h0, hk⟩ := h c
    obtain ⟨a0, a1⟩ := hagree c
    refine ⟨(h0.trans (val_main_v6_eq _ _)).trans ?_, hk⟩
    simp only [a0, a1]
    funext y
    exact (congrArg _ (ix2_eta y).symm).trans (ref_apply (A0 m c) (A1 m c) (y 0) (y 1))

end Cert.WIn768

end
-- ==== Proof.Wgrad.WIn128.lean ====
/-
  The weight gradient of 128 of the input projection's columns (a call of the step): its frames, and that its array is the reference's over the
  extended reals. A grid point adds the products of 2048 rows to the scratch; the last one stores it.
-/
module

public import proofs.«01_k».proof.Defs
public import proofs.«01_k».proof.Proof.Lin.Blocks
public import proofs.«01_k».proof.Proof.Lin.Tn
public import proofs.«01_k».proof.Proof.Gen.Kernel11.Frame
public import proofs.«01_k».proof.Proof.Gen.Kernel11Ideal.Value
public import proofs.«01_k».proof.Proof.Gen.Reference11Ideal.Read
public import proofs.«01_k».proof.Proof.Gen.Reference11Ideal.Run
public import Idealize.ShloMosaic.Lib.Pipeline.ValueKit
public import Idealize.ShloMosaic.Lib.Tactic
public import Idealize.ShloMosaic.Lib.Pointwise

@[expose] public section

noncomputable section

namespace Cert.Kernel11Ideal.WIn128

open Cert.Kernel11Ideal Cert.Kernel11Ideal.Gen Idealize.ShloMosaic Idealize.ShloMosaic.TcCoe Idealize.SL.Sem
open Cert

variable (m : (ℓ : Loc nD τ sig) → Buf (Elt Ideal) ℓ) (c : Dev nD) (t : Fin cfg0.N)

/-- The launched arguments and the blocks of a point. -/
abbrev A0 : S8192x1024.Idx → EReal := m ((c : Thread nD τ).loc main_arg0)
abbrev A1 : S8192x128.Idx → EReal := m ((c : Thread nD τ).loc main_arg1)
abbrev aB : Vec Ideal S2048x1024 .bf16 := iblk m c 0 t
abbrev gB : Vec Ideal S2048x128 .bf16 := iblk m c 1 t

theorem idx : ∀ t : Fin cfg0.N, win0_0.index t = ![t.val, 0] ∧ win0_1.index t = ![t.val, 0] ∧ win0_2.index t = ![0, 0] :=
  (by decide +kernel : ∀ t : Fin grid0.N, win0_0.index t = ![t.val, 0] ∧ win0_1.index t = ![t.val, 0] ∧ win0_2.index t = ![0, 0])

theorem aB_apply (i : Fin 2048) (k : Fin 1024) : aB m c t (ix2 i k) = A0 m c (ix2 (LinSpec.row4 N_0 t i) k) :=
  congrArg (A0 m c) (LinSpec.rows_eq N_0 t i k ((win0_0.blk t).view.emb (ix2 i k)) (by blk_simp [(idx t).1]) (by blk_simp [(idx t).1]))
theorem gB_apply (i : Fin 2048) (n : Fin 128) : gB m c t (ix2 i n) = A1 m c (ix2 (LinSpec.row4 N_0 t i) n) :=
  congrArg (A1 m c) (LinSpec.rows_eq N_0 t i n ((win0_1.blk t).view.emb (ix2 i n)) (by blk_simp [(idx t).2.1]) (by blk_simp [(idx t).2.1]))

/-- The first point sets the scratch, the later ones add to it, the last one stores it. -/
theorem first (h0 : t.val % 4 = 0) : (outsAt0 m c t.val t.isLt).2 = k0_pay2 (aB m c t) (gB m c t) := by
  have : t.val < 4 := lt_of_lt_of_eq t.isLt N_0
  rw [outsAt0_A m c t h0 (by omega) (by omega)]
  frame_out
theorem later (h0 : ¬t.val % 4 = 0) : (outsAt0 m c t.val t.isLt).2
    = k0_pay3 (aB m c t) (gB m c t) (outsAt0 m c (t.val - 1) (Nat.lt_of_le_of_lt (Nat.sub_le _ _) t.isLt)).2 := by
  have : t.val < 4 := lt_of_lt_of_eq t.isLt N_0
  by_cases h2 : t.val % 4 = 3
  · rw [outsAt0_C m c t h0 (by omega) h2]
    frame_out
    exact congrArg (k0_pay3 (aB m c t) (gB m c t)) ((Memref.isWhole_whole _).read_unread _)
  · rw [outsAt0_B m c t h0 (by omega) h2]
    frame_out
    exact congrArg (k0_pay3 (aB m c t) (gB m c t)) ((Memref.isWhole_whole _).read_unread _)
theorem last (h3 : t.val % 4 = 3) : (outsAt0 m c t.val t.isLt).1 = (outsAt0 m c t.val t.isLt).2 := by
  rw [outsAt0_C m c t (by omega) (by omega) h3]
  frame_out
  rfl

/-- The gradient of the weight: the products of the two arrays' columns. -/
abbrev rW : S1024x128.Idx → EReal := fun y => LinSpec.tn (fun r k => A0 m c (ix2 r k)) (fun r n => A1 m c (ix2 r n)) (y 0) (y 1)

theorem final2 : (dats m 0 c).arrAt 2 cfg0.N = rW m c := by
  refine (dats m 0 c).arrAt_eq_of_covers 2 _ (by decide +kernel) fun t hf y => ?_
  have h3 := (flush0_2 t).mp hf
  rw [after0_2, last m c t h3]
  refine (congrFun (LinSpec.tn_of_points N_0 dot_S2048x1024_S2048x128_S1024x128_0_0_1_1_n_n_wf shapeCasts_S1024x128_S1024x128 (A0 m c) (A1 m c)
    (fun p h => (outsAt0 m c p h).2) (aB m c) (gB m c) (aB_apply m c) (gB_apply m c) (first m c) (later m c) t h3) y).trans ?_
  exact congrArg (rW m c) (LinSpec.whole_eq (x := (win0_2.blk t).view.emb y) y (by blk_simp [(idx t).2.2]) (by blk_simp [(idx t).2.2])).symm

end Cert.Kernel11Ideal.WIn128

namespace Cert.WIn128

open Idealize.ShloMosaic Idealize.ShloMosaic.TcCoe Idealize.ShloMosaic.StableHlo Idealize.SL.Sem
open Cert.Kernel11Ideal.WIn128 Cert.Reference11Ideal.Read

theorem ref_apply (a : Cert.Reference11Ideal.S8192x1024.Idx → EReal) (g : Cert.Reference11Ideal.S8192x128.Idx → EReal) (k : Fin 1024) (n : Fin 128) :
    val_main_v6 (F := Ideal) a g (ix2 k n) = LinSpec.tn (fun r k => a (ix2 r k)) (fun r n => g (ix2 r n)) k n := by
  pointwise [val_main_v6, val_main_v5, val_main_v4, val_main_v3, val_main_v1]
  exact Finset.sum_congr rfl fun r _ => mul_comm _ _

theorem frame_kernel : Cert.quiescent_Kernel11 := fun m ρ _ => Cert.Kernel11.Gen.frame m ρ

theorem frame_ideal : Cert.quiescent_Kernel11Ideal := fun m ρ _ => Cert.Kernel11Ideal.Gen.frame m ρ

/-- The reference is a line of host operations on a machine without semaphores. -/
theorem frame_reference : Cert.quiescent_Reference11Ideal := fun m ρ _ =>
  (θ_run Cert.Reference11Ideal.defs _ _).mono (fun r h =>
    ⟨fun c => (h c).2, sem_eq_zero_of_no_sems (by decide) r.2⟩) (Cert.Reference11Ideal.Value.run m ρ)

theorem preserves : Cert.preserves_Kernel11_Kernel11Ideal := trivial

theorem algebraic : Cert.algebraic_Kernel11Ideal_Reference11Ideal := by
  intro m g m' g' _ hagree
  refine ⟨rW m, ?_, ?_⟩
  · refine (θ_run Cert.Kernel11Ideal.defs _ _).mono (fun r h c => ?_) (Cert.Kernel11Ideal.Value.run_blocks m g)
    obtain ⟨h0, hk⟩ := h c
    exact ⟨h0.trans (final2 m c), hk⟩
  · refine (θ_run Cert.Reference11Ideal.defs _ _).mono (fun r h c => ?_) (Cert.Reference11Ideal.Value.run m' g')
    obtain ⟨h0, hk⟩ := h c
    obtain ⟨a0, a1⟩ := hagree c
    refine ⟨(h0.trans (val_main_v6_eq _ _)).trans ?_, hk⟩
    simp only [a0, a1]
    funext y
    exact (congrArg _ (ix2_eta y).symm).trans (ref_apply (A0 m c) (A1 m c) (y 0) (y 1))

end Cert.WIn128

end
-- ==== Proof.Wgrad.WPle.lean ====
/-
  The weight gradient of the per-layer embedding (a call of the step): its frames, and that its array is the reference's over the
  extended reals. A grid point adds the products of 2048 rows to the scratch; the last one stores it.
-/
module

public import proofs.«01_k».proof.Defs
public import proofs.«01_k».proof.Proof.Lin.Blocks
public import proofs.«01_k».proof.Proof.Lin.Tn
public import proofs.«01_k».proof.Proof.Gen.Kernel12.Frame
public import proofs.«01_k».proof.Proof.Gen.Kernel12Ideal.Value
public import proofs.«01_k».proof.Proof.Gen.Reference12Ideal.Read
public import proofs.«01_k».proof.Proof.Gen.Reference12Ideal.Run
public import Idealize.ShloMosaic.Lib.Pipeline.ValueKit
public import Idealize.ShloMosaic.Lib.Tactic
public import Idealize.ShloMosaic.Lib.Pointwise

@[expose] public section

noncomputable section

namespace Cert.Kernel12Ideal.WPle

open Cert.Kernel12Ideal Cert.Kernel12Ideal.Gen Idealize.ShloMosaic Idealize.ShloMosaic.TcCoe Idealize.SL.Sem
open Cert

variable (m : (ℓ : Loc nD τ sig) → Buf (Elt Ideal) ℓ) (c : Dev nD) (t : Fin cfg0.N)

/-- The launched arguments and the blocks of a point. -/
abbrev A0 : S8192x256.Idx → EReal := m ((c : Thread nD τ).loc main_arg0)
abbrev A1 : S8192x1024.Idx → EReal := m ((c : Thread nD τ).loc main_arg1)
abbrev aB : Vec Ideal S2048x256 .bf16 := iblk m c 0 t
abbrev gB : Vec Ideal S2048x1024 .bf16 := iblk m c 1 t

theorem idx : ∀ t : Fin cfg0.N, win0_0.index t = ![t.val, 0] ∧ win0_1.index t = ![t.val, 0] ∧ win0_2.index t = ![0, 0] :=
  (by decide +kernel : ∀ t : Fin grid0.N, win0_0.index t = ![t.val, 0] ∧ win0_1.index t = ![t.val, 0] ∧ win0_2.index t = ![0, 0])

theorem aB_apply (i : Fin 2048) (k : Fin 256) : aB m c t (ix2 i k) = A0 m c (ix2 (LinSpec.row4 N_0 t i) k) :=
  congrArg (A0 m c) (LinSpec.rows_eq N_0 t i k ((win0_0.blk t).view.emb (ix2 i k)) (by blk_simp [(idx t).1]) (by blk_simp [(idx t).1]))
theorem gB_apply (i : Fin 2048) (n : Fin 1024) : gB m c t (ix2 i n) = A1 m c (ix2 (LinSpec.row4 N_0 t i) n) :=
  congrArg (A1 m c) (LinSpec.rows_eq N_0 t i n ((win0_1.blk t).view.emb (ix2 i n)) (by blk_simp [(idx t).2.1]) (by blk_simp [(idx t).2.1]))

/-- The first point sets the scratch, the later ones add to it, the last one stores it. -/
theorem first (h0 : t.val % 4 = 0) : (outsAt0 m c t.val t.isLt).2 = k0_pay2 (aB m c t) (gB m c t) := by
  have : t.val < 4 := lt_of_lt_of_eq t.isLt N_0
  rw [outsAt0_A m c t h0 (by omega) (by omega)]
  frame_out
theorem later (h0 : ¬t.val % 4 = 0) : (outsAt0 m c t.val t.isLt).2
    = k0_pay3 (aB m c t) (gB m c t) (outsAt0 m c (t.val - 1) (Nat.lt_of_le_of_lt (Nat.sub_le _ _) t.isLt)).2 := by
  have : t.val < 4 := lt_of_lt_of_eq t.isLt N_0
  by_cases h2 : t.val % 4 = 3
  · rw [outsAt0_C m c t h0 (by omega) h2]
    frame_out
    exact congrArg (k0_pay3 (aB m c t) (gB m c t)) ((Memref.isWhole_whole _).read_unread _)
  · rw [outsAt0_B m c t h0 (by omega) h2]
    frame_out
    exact congrArg (k0_pay3 (aB m c t) (gB m c t)) ((Memref.isWhole_whole _).read_unread _)
theorem last (h3 : t.val % 4 = 3) : (outsAt0 m c t.val t.isLt).1 = (outsAt0 m c t.val t.isLt).2 := by
  rw [outsAt0_C m c t (by omega) (by omega) h3]
  frame_out
  rfl

/-- The gradient of the weight: the products of the two arrays' columns. -/
abbrev rW : S256x1024.Idx → EReal := fun y => LinSpec.tn (fun r k => A0 m c (ix2 r k)) (fun r n => A1 m c (ix2 r n)) (y 0) (y 1)

theorem final2 : (dats m 0 c).arrAt 2 cfg0.N = rW m c := by
  refine (dats m 0 c).arrAt_eq_of_covers 2 _ (by decide +kernel) fun t hf y => ?_
  have h3 := (flush0_2 t).mp hf
  rw [after0_2, last m c t h3]
  refine (congrFun (LinSpec.tn_of_points N_0 dot_S2048x256_S2048x1024_S256x1024_0_0_1_1_n_n_wf shapeCasts_S256x1024_S256x1024 (A0 m c) (A1 m c)
    (fun p h => (outsAt0 m c p h).2) (aB m c) (gB m c) (aB_apply m c) (gB_apply m c) (first m c) (later m c) t h3) y).trans ?_
  exact congrArg (rW m c) (LinSpec.whole_eq (x := (win0_2.blk t).view.emb y) y (by blk_simp [(idx t).2.2]) (by blk_simp [(idx t).2.2])).symm

end Cert.Kernel12Ideal.WPle

namespace Cert.WPle

open Idealize.ShloMosaic Idealize.ShloMosaic.TcCoe Idealize.ShloMosaic.StableHlo Idealize.SL.Sem
open Cert.Kernel12Ideal.WPle Cert.Reference12Ideal.Read

theorem ref_apply (a : Cert.Reference12Ideal.S8192x256.Idx → EReal) (g : Cert.Reference12Ideal.S8192x1024.Idx → EReal) (k : Fin 256) (n : Fin 1024) :
    val_main_v6 (F := Ideal) a g (ix2 k n) = LinSpec.tn (fun r k => a (ix2 r k)) (fun r n => g (ix2 r n)) k n := by
  pointwise [val_main_v6, val_main_v5, val_main_v4, val_main_v3, val_main_v1]
  exact Finset.sum_congr rfl fun r _ => mul_comm _ _

theorem frame_kernel : Cert.quiescent_Kernel12 := fun m ρ _ => Cert.Kernel12.Gen.frame m ρ

theorem frame_ideal : Cert.quiescent_Kernel12Ideal := fun m ρ _ => Cert.Kernel12Ideal.Gen.frame m ρ

/-- The reference is a line of host operations on a machine without semaphores. -/
theorem frame_reference : Cert.quiescent_Reference12Ideal := fun m ρ _ =>
  (θ_run Cert.Reference12Ideal.defs _ _).mono (fun r h =>
    ⟨fun c => (h c).2, sem_eq_zero_of_no_sems (by decide) r.2⟩) (Cert.Reference12Ideal.Value.run m ρ)

theorem preserves : Cert.preserves_Kernel12_Kernel12Ideal := trivial

theorem algebraic : Cert.algebraic_Kernel12Ideal_Reference12Ideal := by
  intro m g m' g' _ hagree
  refine ⟨rW m, ?_, ?_⟩
  · refine (θ_run Cert.Kernel12Ideal.defs _ _).mono (fun r h c => ?_) (Cert.Kernel12Ideal.Value.run_blocks m g)
    obtain ⟨h0, hk⟩ := h c
    exact ⟨h0.trans (final2 m c), hk⟩
  · refine (θ_run Cert.Reference12Ideal.defs _ _).mono (fun r h c => ?_) (Cert.Reference12Ideal.Value.run m' g')
    obtain ⟨h0, hk⟩ := h c
    obtain ⟨a0, a1⟩ := hagree c
    refine ⟨(h0.trans (val_main_v6_eq _ _)).trans ?_, hk⟩
    simp only [a0, a1]
    funext y
    exact (congrArg _ (ix2_eta y).symm).trans (ref_apply (A0 m c) (A1 m c) (y 0) (y 1))

end Cert.WPle

end
-- ==== Proof.Lin.Opt.lean ====
/-
  One entry of an AdamW step over the extended reals, and the reading of a block on which the step is taken entry by entry
  in another shape of the same entries.
-/
module

public import Idealize.ShloMosaic.PureOps.Ideal
public import Idealize.ShloMosaic.Lib.Pipeline.ValueKit

@[expose] public section

noncomputable section

namespace Cert.Opt

open Idealize.ShloMosaic

/-- The first moment: 0.9 of the old one and 0.1 of the gradient. -/
def first (g m : EReal) : EReal := Ideal.ofBits .f32 0x3F666666#32 * m + Ideal.ofBits .f32 0x3DCCCCCD#32 * g

/-- The second moment: 0.999 of the old one and 0.001 of the gradient's square. -/
def second (g v : EReal) : EReal := Ideal.ofBits .f32 0x3F7FBE77#32 * v + Ideal.ofBits .f32 0x3A83126F#32 * (g * g)

/-- The weight's change: minus the rate times the corrected first moment over the root of the second, plus the decay. -/
def delta (g w m v : EReal) : EReal :=
  Ideal.ofBits .f32 0xBA83126F#32 *
    (Ideal.div (Ideal.div (first g m) (Ideal.ofBits .f32 0x3F26BD02#32))
        (Ideal.sqrt (Ideal.div (second g v) (Ideal.ofBits .f32 0x3C231ACC#32)) + Ideal.ofBits .f32 0x322BCC77#32)
      + Ideal.ofBits .f32 0x3C23D70A#32 * w)

theorem off3 : (![0, 0, 0] : Fin 3 → ℕ) = fun _ => 0 := by decide

section
variable {s t : Shape} (h : s.ShapeCasts t) (h' : t.ShapeCasts s) (g w m v : s.Idx → EReal)

/-- Four blocks put in another shape, combined there entry by entry and put back: they are combined entry by entry. -/
theorem there_and_back (f : EReal → EReal → EReal → EReal → EReal) :
    shapeCast s (fun j => f (shapeCast t g h j) (shapeCast t w h j) (shapeCast t m h j) (shapeCast t v h j)) h'
      = fun y => f (g y) (w y) (m y) (v y) := by
  funext y
  have e : ∀ x : s.Idx → EReal, shapeCast t x h (Shape.reshapeEquiv h' y) = x y := fun x => congrFun (shapeCast_shapeCast x h h') y
  show f _ _ _ _ = _
  rw [e, e, e, e]

end

section
variable {d : Fin 3 → ℕ} {t : Shape} (h : (⟨3, d⟩ : Shape).ShapeCasts t) (h' : t.ShapeCasts ⟨3, d⟩)
  (inb : ∀ a, (![0, 0, 0] : Fin 3 → ℕ) a + d a ≤ d a)

/-- What one store over a whole block leaves, of a combination of whole blocks read in another shape. -/
theorem stored (f : EReal → EReal → EReal → EReal → EReal) (g w m v : Vec Ideal ⟨3, d⟩ .f32) :
    View.canon [(⟨Rect.unit (s := ⟨3, d⟩) ![0, 0, 0] d inb,
        shapeCast ⟨3, d⟩ (fun j => f (shapeCast t (View.ld (Val := Elt Ideal) (e' := .f32) g (Rect.unit (s := ⟨3, d⟩) ![0, 0, 0] d inb)) h j)
          (shapeCast t (View.ld (Val := Elt Ideal) (e' := .f32) w (Rect.unit (s := ⟨3, d⟩) ![0, 0, 0] d inb)) h j)
          (shapeCast t (View.ld (Val := Elt Ideal) (e' := .f32) m (Rect.unit (s := ⟨3, d⟩) ![0, 0, 0] d inb)) h j)
          (shapeCast t (View.ld (Val := Elt Ideal) (e' := .f32) v (Rect.unit (s := ⟨3, d⟩) ![0, 0, 0] d inb)) h j)) h'⟩ : View.Piece (Elt Ideal) ⟨3, d⟩ .f32)]
      = fun y => f (g y) (w y) (m y) (v y) := by
  refine (View.canon_unit_zero (S := ⟨3, d⟩) off3 inb _).trans ?_
  simp only [View.ld_unit_zero (S := ⟨3, d⟩) off3]
  exact there_and_back h h' g w m v f

end

end Cert.Opt

end
-- ==== Proof.Adamw.AdamIn.lean ====
/-
  The optimiser's step on the shard of w_in (a call of the step): its frames, and that its three arrays are the
  reference's update over the extended reals.
-/
module

public import proofs.«01_k».proof.Defs
public import proofs.«01_k».proof.Proof.Lin.Opt
public import proofs.«01_k».proof.Proof.Gen.Kernel13.Frame
public import proofs.«01_k».proof.Proof.Gen.Kernel13Ideal.Value
public import proofs.«01_k».proof.Proof.Gen.Reference13Ideal.Read
public import proofs.«01_k».proof.Proof.Gen.Reference13Ideal.Run

@[expose] public section

noncomputable section

namespace Cert.Kernel13Ideal.Adam

open Cert.Kernel13Ideal Cert.Kernel13Ideal.Gen Idealize.ShloMosaic Idealize.ShloMosaic.TcCoe Idealize.SL.Sem
open Cert

variable (m : (ℓ : Loc nD τ sig) → Buf (Elt Ideal) ℓ) (c : Dev nD)

/-- The launched gradient, weight and moments. -/
abbrev A0 : S2x1024x834.Idx → EReal := m ((c : Thread nD τ).loc main_arg0)
abbrev A1 : S2x1024x834.Idx → EReal := m ((c : Thread nD τ).loc main_arg1)
abbrev A2 : S2x1024x834.Idx → EReal := m ((c : Thread nD τ).loc main_arg2)
abbrev A3 : S2x1024x834.Idx → EReal := m ((c : Thread nD τ).loc main_arg3)

/-- The weight's change and the new moments. -/
abbrev rD : S2x1024x834.Idx → EReal := fun y => Opt.delta (A0 m c y) (A1 m c y) (A2 m c y) (A3 m c y)
abbrev rM : S2x1024x834.Idx → EReal := fun y => Opt.first (A0 m c y) (A2 m c y)
abbrev rV : S2x1024x834.Idx → EReal := fun y => Opt.second (A0 m c y) (A3 m c y)

section
variable (g w m v : Vec Ideal S1x256x834 .f32)

theorem out4_eq : out0_4 g w m v = fun y => Opt.delta (g y) (w y) (m y) (v y) :=
  Opt.stored shapeCasts_S1x256x834_S256x834 shapeCasts_S256x834_S1x256x834 inb_S1x256x834_S1x256x834_0_0_0 Opt.delta g w m v
theorem out5_eq : out0_5 g w m v = fun y => Opt.first (g y) (m y) :=
  Opt.stored shapeCasts_S1x256x834_S256x834 shapeCasts_S256x834_S1x256x834 inb_S1x256x834_S1x256x834_0_0_0
    (fun g _ m _ => Opt.first g m) g w m v
theorem out6_eq : out0_6 g w m v = fun y => Opt.second (g y) (v y) :=
  Opt.stored shapeCasts_S1x256x834_S256x834 shapeCasts_S256x834_S1x256x834 inb_S1x256x834_S1x256x834_0_0_0
    (fun g _ _ v => Opt.second g v) g w m v

end

theorem final4 : (dats m 0 c).arrAt 4 cfg0.N = rD m c :=
  (dats m 0 c).arrAt_eq_of_covers 4 _ (by decide +kernel) fun t _ y => by rw [after0_4, out4_eq]; rfl
theorem final5 : (dats m 0 c).arrAt 5 cfg0.N = rM m c :=
  (dats m 0 c).arrAt_eq_of_covers 5 _ (by decide +kernel) fun t _ y => by rw [after0_5, out5_eq]; rfl
theorem final6 : (dats m 0 c).arrAt 6 cfg0.N = rV m c :=
  (dats m 0 c).arrAt_eq_of_covers 6 _ (by decide +kernel) fun t _ y => by rw [after0_6, out6_eq]; rfl

end Cert.Kernel13Ideal.Adam

namespace Cert.AdamIn

open Idealize.ShloMosaic Idealize.ShloMosaic.TcCoe Idealize.ShloMosaic.StableHlo Idealize.SL.Sem
open Cert.Kernel13Ideal.Adam

theorem frame_kernel : Cert.quiescent_Kernel13 := fun m ρ _ => Cert.Kernel13.Gen.frame m ρ

theorem frame_ideal : Cert.quiescent_Kernel13Ideal := fun m ρ _ => Cert.Kernel13Ideal.Gen.frame m ρ

/-- The reference is a line of host operations on a machine without semaphores. -/
theorem frame_reference : Cert.quiescent_Reference13Ideal := fun m ρ _ =>
  (θ_run Cert.Reference13Ideal.defs _ _).mono (fun r h =>
    ⟨fun c => (h c).2.2.2, sem_eq_zero_of_no_sems (by decide) r.2⟩) (Cert.Reference13Ideal.Value.run m ρ)

theorem preserves : Cert.preserves_Kernel13_Kernel13Ideal := trivial

theorem algebraic : Cert.algebraic_Kernel13Ideal_Reference13Ideal := by
  intro m g m' g' _ hagree
  refine ⟨rD m, rM m, rV m, ?_, ?_⟩
  · refine (θ_run Cert.Kernel13Ideal.defs _ _).mono (fun r h c => ?_) (Cert.Kernel13Ideal.Value.run_blocks m g)
    obtain ⟨h0, h1, h2, hk⟩ := h c
    exact ⟨h0.trans (final4 m c), h1.trans (final5 m c), h2.trans (final6 m c), hk⟩
  · refine (θ_run Cert.Reference13Ideal.defs _ _).mono (fun r h c => ?_) (Cert.Reference13Ideal.Value.run m' g')
    obtain ⟨h0, h1, h2, hk⟩ := h c
    obtain ⟨a0, a1, a2, a3⟩ := hagree c
    rw [a0, a1, a2, a3] at h0
    rw [a0, a2] at h1
    rw [a0, a3] at h2
    exact ⟨h0, h1, h2, hk⟩

end Cert.AdamIn

end
-- ==== Proof.Adamw.AdamGlu.lean ====
/-
  The optimiser's step on the shard of ssm_w_glu (a call of the step): its frames, and that its three arrays are the
  reference's update over the extended reals.
-/
module

public import proofs.«01_k».proof.Defs
public import proofs.«01_k».proof.Proof.Lin.Opt
public import proofs.«01_k».proof.Proof.Gen.Kernel14.Frame
public import proofs.«01_k».proof.Proof.Gen.Kernel14Ideal.Value
public import proofs.«01_k».proof.Proof.Gen.Reference14Ideal.Read
public import proofs.«01_k».proof.Proof.Gen.Reference14Ideal.Run

@[expose] public section

noncomputable section

namespace Cert.Kernel14Ideal.Adam

open Cert.Kernel14Ideal Cert.Kernel14Ideal.Gen Idealize.ShloMosaic Idealize.ShloMosaic.TcCoe Idealize.SL.Sem
open Cert

variable (m : (ℓ : Loc nD τ sig) → Buf (Elt Ideal) ℓ) (c : Dev nD)

/-- The launched gradient, weight and moments. -/
abbrev A0 : S2x64x256.Idx → EReal := m ((c : Thread nD τ).loc main_arg0)
abbrev A1 : S2x64x256.Idx → EReal := m ((c : Thread nD τ).loc main_arg1)
abbrev A2 : S2x64x256.Idx → EReal := m ((c : Thread nD τ).loc main_arg2)
abbrev A3 : S2x64x256.Idx → EReal := m ((c : Thread nD τ).loc main_arg3)

/-- The weight's change and the new moments. -/
abbrev rD : S2x64x256.Idx → EReal := fun y => Opt.delta (A0 m c y) (A1 m c y) (A2 m c y) (A3 m c y)
abbrev rM : S2x64x256.Idx → EReal := fun y => Opt.first (A0 m c y) (A2 m c y)
abbrev rV : S2x64x256.Idx → EReal := fun y => Opt.second (A0 m c y) (A3 m c y)

section
variable (g w m v : Vec Ideal S1x64x256 .f32)

theorem out4_eq : out0_4 g w m v = fun y => Opt.delta (g y) (w y) (m y) (v y) :=
  Opt.stored shapeCasts_S1x64x256_S64x256 shapeCasts_S64x256_S1x64x256 inb_S1x64x256_S1x64x256_0_0_0 Opt.delta g w m v
theorem out5_eq : out0_5 g w m v = fun y => Opt.first (g y) (m y) :=
  Opt.stored shapeCasts_S1x64x256_S64x256 shapeCasts_S64x256_S1x64x256 inb_S1x64x256_S1x64x256_0_0_0
    (fun g _ m _ => Opt.first g m) g w m v
theorem out6_eq : out0_6 g w m v = fun y => Opt.second (g y) (v y) :=
  Opt.stored shapeCasts_S1x64x256_S64x256 shapeCasts_S64x256_S1x64x256 inb_S1x64x256_S1x64x256_0_0_0
    (fun g _ _ v => Opt.second g v) g w m v

end

theorem final4 : (dats m 0 c).arrAt 4 cfg0.N = rD m c :=
  (dats m 0 c).arrAt_eq_of_covers 4 _ (by decide +kernel) fun t _ y => by rw [after0_4, out4_eq]; rfl
theorem final5 : (dats m 0 c).arrAt 5 cfg0.N = rM m c :=
  (dats m 0 c).arrAt_eq_of_covers 5 _ (by decide +kernel) fun t _ y => by rw [after0_5, out5_eq]; rfl
theorem final6 : (dats m 0 c).arrAt 6 cfg0.N = rV m c :=
  (dats m 0 c).arrAt_eq_of_covers 6 _ (by decide +kernel) fun t _ y => by rw [after0_6, out6_eq]; rfl

end Cert.Kernel14Ideal.Adam

namespace Cert.AdamGlu

open Idealize.ShloMosaic Idealize.ShloMosaic.TcCoe Idealize.ShloMosaic.StableHlo Idealize.SL.Sem
open Cert.Kernel14Ideal.Adam

theorem frame_kernel : Cert.quiescent_Kernel14 := fun m ρ _ => Cert.Kernel14.Gen.frame m ρ

theorem frame_ideal : Cert.quiescent_Kernel14Ideal := fun m ρ _ => Cert.Kernel14Ideal.Gen.frame m ρ

/-- The reference is a line of host operations on a machine without semaphores. -/
theorem frame_reference : Cert.quiescent_Reference14Ideal := fun m ρ _ =>
  (θ_run Cert.Reference14Ideal.defs _ _).mono (fun r h =>
    ⟨fun c => (h c).2.2.2, sem_eq_zero_of_no_sems (by decide) r.2⟩) (Cert.Reference14Ideal.Value.run m ρ)

theorem preserves : Cert.preserves_Kernel14_Kernel14Ideal := trivial

theorem algebraic : Cert.algebraic_Kernel14Ideal_Reference14Ideal := by
  intro m g m' g' _ hagree
  refine ⟨rD m, rM m, rV m, ?_, ?_⟩
  · refine (θ_run Cert.Kernel14Ideal.defs _ _).mono (fun r h c => ?_) (Cert.Kernel14Ideal.Value.run_blocks m g)
    obtain ⟨h0, h1, h2, hk⟩ := h c
    exact ⟨h0.trans (final4 m c), h1.trans (final5 m c), h2.trans (final6 m c), hk⟩
  · refine (θ_run Cert.Reference14Ideal.defs _ _).mono (fun r h c => ?_) (Cert.Reference14Ideal.Value.run m' g')
    obtain ⟨h0, h1, h2, hk⟩ := h c
    obtain ⟨a0, a1, a2, a3⟩ := hagree c
    rw [a0, a1, a2, a3] at h0
    rw [a0, a2] at h1
    rw [a0, a3] at h2
    exact ⟨h0, h1, h2, hk⟩

end Cert.AdamGlu

end
-- ==== Proof.Adamw.AdamConv.lean ====
/-
  The optimiser's step on the shard of dn_conv_w (a call of the step): its frames, and that its three arrays are the
  reference's update over the extended reals.
-/
module

public import proofs.«01_k».proof.Defs
public import proofs.«01_k».proof.Proof.Lin.Opt
public import proofs.«01_k».proof.Proof.Gen.Kernel15.Frame
public import proofs.«01_k».proof.Proof.Gen.Kernel15Ideal.Value
public import proofs.«01_k».proof.Proof.Gen.Reference15Ideal.Read
public import proofs.«01_k».proof.Proof.Gen.Reference15Ideal.Run

@[expose] public section

noncomputable section

namespace Cert.Kernel15Ideal.Adam

open Cert.Kernel15Ideal Cert.Kernel15Ideal.Gen Idealize.ShloMosaic Idealize.ShloMosaic.TcCoe Idealize.SL.Sem
open Cert

variable (m : (ℓ : Loc nD τ sig) → Buf (Elt Ideal) ℓ) (c : Dev nD)

/-- The launched gradient, weight and moments. -/
abbrev A0 : S2x4x384.Idx → EReal := m ((c : Thread nD τ).loc main_arg0)
abbrev A1 : S2x4x384.Idx → EReal := m ((c : Thread nD τ).loc main_arg1)
abbrev A2 : S2x4x384.Idx → EReal := m ((c : Thread nD τ).loc main_arg2)
abbrev A3 : S2x4x384.Idx → EReal := m ((c : Thread nD τ).loc main_arg3)

/-- The weight's change and the new moments. -/
abbrev rD : S2x4x384.Idx → EReal := fun y => Opt.delta (A0 m c y) (A1 m c y) (A2 m c y) (A3 m c y)
abbrev rM : S2x4x384.Idx → EReal := fun y => Opt.first (A0 m c y) (A2 m c y)
abbrev rV : S2x4x384.Idx → EReal := fun y => Opt.second (A0 m c y) (A3 m c y)

section
variable (g w m v : Vec Ideal S1x4x384 .f32)

theorem out4_eq : out0_4 g w m v = fun y => Opt.delta (g y) (w y) (m y) (v y) :=
  Opt.stored shapeCasts_S1x4x384_S4x384 shapeCasts_S4x384_S1x4x384 inb_S1x4x384_S1x4x384_0_0_0 Opt.delta g w m v
theorem out5_eq : out0_5 g w m v = fun y => Opt.first (g y) (m y) :=
  Opt.stored shapeCasts_S1x4x384_S4x384 shapeCasts_S4x384_S1x4x384 inb_S1x4x384_S1x4x384_0_0_0
    (fun g _ m _ => Opt.first g m) g w m v
theorem out6_eq : out0_6 g w m v = fun y => Opt.second (g y) (v y) :=
  Opt.stored shapeCasts_S1x4x384_S4x384 shapeCasts_S4x384_S1x4x384 inb_S1x4x384_S1x4x384_0_0_0
    (fun g _ _ v => Opt.second g v) g w m v

end

theorem final4 : (dats m 0 c).arrAt 4 cfg0.N = rD m c :=
  (dats m 0 c).arrAt_eq_of_covers 4 _ (by decide +kernel) fun t _ y => by rw [after0_4, out4_eq]; rfl
theorem final5 : (dats m 0 c).arrAt 5 cfg0.N = rM m c :=
  (dats m 0 c).arrAt_eq_of_covers 5 _ (by decide +kernel) fun t _ y => by rw [after0_5, out5_eq]; rfl
theorem final6 : (dats m 0 c).arrAt 6 cfg0.N = rV m c :=
  (dats m 0 c).arrAt_eq_of_covers 6 _ (by decide +kernel) fun t _ y => by rw [after0_6, out6_eq]; rfl

end Cert.Kernel15Ideal.Adam

namespace Cert.AdamConv

open Idealize.ShloMosaic Idealize.ShloMosaic.TcCoe Idealize.ShloMosaic.StableHlo Idealize.SL.Sem
open Cert.Kernel15Ideal.Adam

theorem frame_kernel : Cert.quiescent_Kernel15 := fun m ρ _ => Cert.Kernel15.Gen.frame m ρ

theorem frame_ideal : Cert.quiescent_Kernel15Ideal := fun m ρ _ => Cert.Kernel15Ideal.Gen.frame m ρ

/-- The reference is a line of host operations on a machine without semaphores. -/
theorem frame_reference : Cert.quiescent_Reference15Ideal := fun m ρ _ =>
  (θ_run Cert.Reference15Ideal.defs _ _).mono (fun r h =>
    ⟨fun c => (h c).2.2.2, sem_eq_zero_of_no_sems (by decide) r.2⟩) (Cert.Reference15Ideal.Value.run m ρ)

theorem preserves : Cert.preserves_Kernel15_Kernel15Ideal := trivial

theorem algebraic : Cert.algebraic_Kernel15Ideal_Reference15Ideal := by
  intro m g m' g' _ hagree
  refine ⟨rD m, rM m, rV m, ?_, ?_⟩
  · refine (θ_run Cert.Kernel15Ideal.defs _ _).mono (fun r h c => ?_) (Cert.Kernel15Ideal.Value.run_blocks m g)
    obtain ⟨h0, h1, h2, hk⟩ := h c
    exact ⟨h0.trans (final4 m c), h1.trans (final5 m c), h2.trans (final6 m c), hk⟩
  · refine (θ_run Cert.Reference15Ideal.defs _ _).mono (fun r h c => ?_) (Cert.Reference15Ideal.Value.run m' g')
    obtain ⟨h0, h1, h2, hk⟩ := h c
    obtain ⟨a0, a1, a2, a3⟩ := hagree c
    rw [a0, a1, a2, a3] at h0
    rw [a0, a2] at h1
    rw [a0, a3] at h2
    exact ⟨h0, h1, h2, hk⟩

end Cert.AdamConv

end
-- ==== Proof.Adamw.AdamOut.lean ====
/-
  The optimiser's step on the shard of w_out or of w_ple_gate (a call of the step): its frames, and that its three arrays are the
  reference's update over the extended reals.
-/
module

public import proofs.«01_k».proof.Defs
public import proofs.«01_k».proof.Proof.Lin.Opt
public import proofs.«01_k».proof.Proof.Gen.Kernel16.Frame
public import proofs.«01_k».proof.Proof.Gen.Kernel16Ideal.Value
public import proofs.«01_k».proof.Proof.Gen.Reference16Ideal.Read
public import proofs.«01_k».proof.Proof.Gen.Reference16Ideal.Run

@[expose] public section

noncomputable section

namespace Cert.Kernel16Ideal.Adam

open Cert.Kernel16Ideal Cert.Kernel16Ideal.Gen Idealize.ShloMosaic Idealize.ShloMosaic.TcCoe Idealize.SL.Sem
open Cert

variable (m : (ℓ : Loc nD τ sig) → Buf (Elt Ideal) ℓ) (c : Dev nD)

/-- The launched gradient, weight and moments. -/
abbrev A0 : S2x256x1024.Idx → EReal := m ((c : Thread nD τ).loc main_arg0)
abbrev A1 : S2x256x1024.Idx → EReal := m ((c : Thread nD τ).loc main_arg1)
abbrev A2 : S2x256x1024.Idx → EReal := m ((c : Thread nD τ).loc main_arg2)
abbrev A3 : S2x256x1024.Idx → EReal := m ((c : Thread nD τ).loc main_arg3)

/-- The weight's change and the new moments. -/
abbrev rD : S2x256x1024.Idx → EReal := fun y => Opt.delta (A0 m c y) (A1 m c y) (A2 m c y) (A3 m c y)
abbrev rM : S2x256x1024.Idx → EReal := fun y => Opt.first (A0 m c y) (A2 m c y)
abbrev rV : S2x256x1024.Idx → EReal := fun y => Opt.second (A0 m c y) (A3 m c y)

section
variable (g w m v : Vec Ideal S1x256x1024 .f32)

theorem out4_eq : out0_4 g w m v = fun y => Opt.delta (g y) (w y) (m y) (v y) :=
  Opt.stored shapeCasts_S1x256x1024_S256x1024 shapeCasts_S256x1024_S1x256x1024 inb_S1x256x1024_S1x256x1024_0_0_0 Opt.delta g w m v
theorem out5_eq : out0_5 g w m v = fun y => Opt.first (g y) (m y) :=
  Opt.stored shapeCasts_S1x256x1024_S256x1024 shapeCasts_S256x1024_S1x256x1024 inb_S1x256x1024_S1x256x1024_0_0_0
    (fun g _ m _ => Opt.first g m) g w m v
theorem out6_eq : out0_6 g w m v = fun y => Opt.second (g y) (v y) :=
  Opt.stored shapeCasts_S1x256x1024_S256x1024 shapeCasts_S256x1024_S1x256x1024 inb_S1x256x1024_S1x256x1024_0_0_0
    (fun g _ _ v => Opt.second g v) g w m v

end

theorem final4 : (dats m 0 c).arrAt 4 cfg0.N = rD m c :=
  (dats m 0 c).arrAt_eq_of_covers 4 _ (by decide +kernel) fun t _ y => by rw [after0_4, out4_eq]; rfl
theorem final5 : (dats m 0 c).arrAt 5 cfg0.N = rM m c :=
  (dats m 0 c).arrAt_eq_of_covers 5 _ (by decide +kernel) fun t _ y => by rw [after0_5, out5_eq]; rfl
theorem final6 : (dats m 0 c).arrAt 6 cfg0.N = rV m c :=
  (dats m 0 c).arrAt_eq_of_covers 6 _ (by decide +kernel) fun t _ y => by rw [after0_6, out6_eq]; rfl

end Cert.Kernel16Ideal.Adam

namespace Cert.AdamOut

open Idealize.ShloMosaic Idealize.ShloMosaic.TcCoe Idealize.ShloMosaic.StableHlo Idealize.SL.Sem
open Cert.Kernel16Ideal.Adam

theorem frame_kernel : Cert.quiescent_Kernel16 := fun m ρ _ => Cert.Kernel16.Gen.frame m ρ

theorem frame_ideal : Cert.quiescent_Kernel16Ideal := fun m ρ _ => Cert.Kernel16Ideal.Gen.frame m ρ

/-- The reference is a line of host operations on a machine without semaphores. -/
theorem frame_reference : Cert.quiescent_Reference16Ideal := fun m ρ _ =>
  (θ_run Cert.Reference16Ideal.defs _ _).mono (fun r h =>
    ⟨fun c => (h c).2.2.2, sem_eq_zero_of_no_sems (by decide) r.2⟩) (Cert.Reference16Ideal.Value.run m ρ)

theorem preserves : Cert.preserves_Kernel16_Kernel16Ideal := trivial

theorem algebraic : Cert.algebraic_Kernel16Ideal_Reference16Ideal := by
  intro m g m' g' _ hagree
  refine ⟨rD m, rM m, rV m, ?_, ?_⟩
  · refine (θ_run Cert.Kernel16Ideal.defs _ _).mono (fun r h c => ?_) (Cert.Kernel16Ideal.Value.run_blocks m g)
    obtain ⟨h0, h1, h2, hk⟩ := h c
    exact ⟨h0.trans (final4 m c), h1.trans (final5 m c), h2.trans (final6 m c), hk⟩
  · refine (θ_run Cert.Reference16Ideal.defs _ _).mono (fun r h c => ?_) (Cert.Reference16Ideal.Value.run m' g')
    obtain ⟨h0, h1, h2, hk⟩ := h c
    obtain ⟨a0, a1, a2, a3⟩ := hagree c
    rw [a0, a1, a2, a3] at h0
    rw [a0, a2] at h1
    rw [a0, a3] at h2
    exact ⟨h0, h1, h2, hk⟩

end Cert.AdamOut

end
-- ==== Proof.Adamw.AdamPle.lean ====
/-
  The optimiser's step on the shard of w_ple (a call of the step): its frames, and that its three arrays are the
  reference's update over the extended reals.
-/
module

public import proofs.«01_k».proof.Defs
public import proofs.«01_k».proof.Proof.Lin.Opt
public import proofs.«01_k».proof.Proof.Gen.Kernel17.Frame
public import proofs.«01_k».proof.Proof.Gen.Kernel17Ideal.Value
public import proofs.«01_k».proof.Proof.Gen.Reference17Ideal.Read
public import proofs.«01_k».proof.Proof.Gen.Reference17Ideal.Run

@[expose] public section

noncomputable section

namespace Cert.Kernel17Ideal.Adam

open Cert.Kernel17Ideal Cert.Kernel17Ideal.Gen Idealize.ShloMosaic Idealize.ShloMosaic.TcCoe Idealize.SL.Sem
open Cert

variable (m : (ℓ : Loc nD τ sig) → Buf (Elt Ideal) ℓ) (c : Dev nD)

/-- The launched gradient, weight and moments. -/
abbrev A0 : S2x256x256.Idx → EReal := m ((c : Thread nD τ).loc main_arg0)
abbrev A1 : S2x256x256.Idx → EReal := m ((c : Thread nD τ).loc main_arg1)
abbrev A2 : S2x256x256.Idx → EReal := m ((c : Thread nD τ).loc main_arg2)
abbrev A3 : S2x256x256.Idx → EReal := m ((c : Thread nD τ).loc main_arg3)

/-- The weight's change and the new moments. -/
abbrev rD : S2x256x256.Idx → EReal := fun y => Opt.delta (A0 m c y) (A1 m c y) (A2 m c y) (A3 m c y)
abbrev rM : S2x256x256.Idx → EReal := fun y => Opt.first (A0 m c y) (A2 m c y)
abbrev rV : S2x256x256.Idx → EReal := fun y => Opt.second (A0 m c y) (A3 m c y)

section
variable (g w m v : Vec Ideal S1x256x256 .f32)

theorem out4_eq : out0_4 g w m v = fun y => Opt.delta (g y) (w y) (m y) (v y) :=
  Opt.stored shapeCasts_S1x256x256_S256x256 shapeCasts_S256x256_S1x256x256 inb_S1x256x256_S1x256x256_0_0_0 Opt.delta g w m v
theorem out5_eq : out0_5 g w m v = fun y => Opt.first (g y) (m y) :=
  Opt.stored shapeCasts_S1x256x256_S256x256 shapeCasts_S256x256_S1x256x256 inb_S1x256x256_S1x256x256_0_0_0
    (fun g _ m _ => Opt.first g m) g w m v
theorem out6_eq : out0_6 g w m v = fun y => Opt.second (g y) (v y) :=
  Opt.stored shapeCasts_S1x256x256_S256x256 shapeCasts_S256x256_S1x256x256 inb_S1x256x256_S1x256x256_0_0_0
    (fun g _ _ v => Opt.second g v) g w m v

end

theorem final4 : (dats m 0 c).arrAt 4 cfg0.N = rD m c :=
  (dats m 0 c).arrAt_eq_of_covers 4 _ (by decide +kernel) fun t _ y => by rw [after0_4, out4_eq]; rfl
theorem final5 : (dats m 0 c).arrAt 5 cfg0.N = rM m c :=
  (dats m 0 c).arrAt_eq_of_covers 5 _ (by decide +kernel) fun t _ y => by rw [after0_5, out5_eq]; rfl
theorem final6 : (dats m 0 c).arrAt 6 cfg0.N = rV m c :=
  (dats m 0 c).arrAt_eq_of_covers 6 _ (by decide +kernel) fun t _ y => by rw [after0_6, out6_eq]; rfl

end Cert.Kernel17Ideal.Adam

namespace Cert.AdamPle

open Idealize.ShloMosaic Idealize.ShloMosaic.TcCoe Idealize.ShloMosaic.StableHlo Idealize.SL.Sem
open Cert.Kernel17Ideal.Adam

theorem frame_kernel : Cert.quiescent_Kernel17 := fun m ρ _ => Cert.Kernel17.Gen.frame m ρ

theorem frame_ideal : Cert.quiescent_Kernel17Ideal := fun m ρ _ => Cert.Kernel17Ideal.Gen.frame m ρ

/-- The reference is a line of host operations on a machine without semaphores. -/
theorem frame_reference : Cert.quiescent_Reference17Ideal := fun m ρ _ =>
  (θ_run Cert.Reference17Ideal.defs _ _).mono (fun r h =>
    ⟨fun c => (h c).2.2.2, sem_eq_zero_of_no_sems (by decide) r.2⟩) (Cert.Reference17Ideal.Value.run m ρ)

theorem preserves : Cert.preserves_Kernel17_Kernel17Ideal := trivial

theorem algebraic : Cert.algebraic_Kernel17Ideal_Reference17Ideal := by
  intro m g m' g' _ hagree
  refine ⟨rD m, rM m, rV m, ?_, ?_⟩
  · refine (θ_run Cert.Kernel17Ideal.defs _ _).mono (fun r h c => ?_) (Cert.Kernel17Ideal.Value.run_blocks m g)
    obtain ⟨h0, h1, h2, hk⟩ := h c
    exact ⟨h0.trans (final4 m c), h1.trans (final5 m c), h2.trans (final6 m c), hk⟩
  · refine (θ_run Cert.Reference17Ideal.defs _ _).mono (fun r h c => ?_) (Cert.Reference17Ideal.Value.run m' g')
    obtain ⟨h0, h1, h2, hk⟩ := h c
    obtain ⟨a0, a1, a2, a3⟩ := hagree c
    rw [a0, a1, a2, a3] at h0
    rw [a0, a2] at h1
    rw [a0, a3] at h2
    exact ⟨h0, h1, h2, hk⟩

end Cert.AdamPle

end
-- ==== Proof.SgFwd.Store.lean ====
/-
The eight stores of the spatial gating's forward pass at one grid point: chunk by chunk, the activated `u` times the
mixed rows times the gate's activation, in the words the backward pass's chunks are written in.
-/
module

public import proofs.«01_k».proof.Proof.Gen.Kernel18Ideal.Value
public import proofs.«01_k».proof.Proof.Sg.BlockSpec

@[expose] public section

set_option maxHeartbeats 4000000

noncomputable section

namespace Cert.Kernel18Ideal.SgFwd

open Cert.Kernel18Ideal Cert.Kernel18Ideal.Gen Idealize.ShloMosaic Idealize.ShloMosaic.TcCoe Idealize.SL.Sem
open Cert.KernelIdeal.Sg (In blockIn kc gelu rz inb_z inb_y)

variable {F : FTy → Type} [FloatOps F]

/-- A chunk's gated rows. -/
def y (x : In F) : FVec F S128x256 .f32 := mulf (mulf (gelu x.u) x.s) (mulf x.gt (logistic x.gt))

/-- What the chunk at row `r` is computed from, as the body loads it. There is no cotangent: its place holds zeros. -/
def rdIn (x0 : Vec F S1024x768 .f32) (x1 : Vec F S1x256 .f32) (x2 : Vec F S1x256 .f32) (x3 : Vec F S4x128x128 .f32)
    (x4 : Vec F S128x128 .f32) (r : ℕ) (hr : r + 128 ≤ 1024) : In F where
  u := View.ld x0 (rz r 0 hr (by decide))
  v := View.ld x0 (rz r 256 hr (by decide))
  gt := View.ld x0 (rz r 512 hr (by decide))
  dy := kc S128x256 0x00000000#32
  g := shapeCast S1x256 (View.ld x1 (Rect.unit (s := S1x256) ![0, 0] S1x256.size inb_S1x256_S1x256_0_0)) shapeCasts_S1x256_S1x256
  b := shapeCast S1x256 (View.ld x2 (Rect.unit (s := S1x256) ![0, 0] S1x256.size inb_S1x256_S1x256_0_0)) shapeCasts_S1x256_S1x256
  w0 := shapeCast S128x128 (View.ld x3 (Rect.unit (s := S4x128x128) ![0, 0, 0] S1x128x128.size inb_S4x128x128_S1x128x128_0_0_0)) shapeCasts_S1x128x128_S128x128
  w1 := shapeCast S128x128 (View.ld x3 (Rect.unit (s := S4x128x128) ![1, 0, 0] S1x128x128.size inb_S4x128x128_S1x128x128_1_0_0)) shapeCasts_S1x128x128_S128x128
  w2 := shapeCast S128x128 (View.ld x3 (Rect.unit (s := S4x128x128) ![2, 0, 0] S1x128x128.size inb_S4x128x128_S1x128x128_2_0_0)) shapeCasts_S1x128x128_S128x128
  w3 := shapeCast S128x128 (View.ld x3 (Rect.unit (s := S4x128x128) ![3, 0, 0] S1x128x128.size inb_S4x128x128_S1x128x128_3_0_0)) shapeCasts_S1x128x128_S128x128
  bt := shapeCast S128x128 (View.ld x4 (Rect.unit (s := S128x128) ![0, 0] S128x128.size inb_S128x128_S128x128_0_0)) shapeCasts_S128x128_S128x128

/-- A chunk's store. -/
def yAt (f : (r : ℕ) → r + 128 ≤ 1024 → In F) (r : ℕ) (hr : r + 128 ≤ 1024) : View.Piece (Elt F) S1024x256 .f32 :=
  ⟨Rect.unit (s := S1024x256) ![r, 0] S128x256.size (inb_y hr), y (f r hr)⟩

/-- The eight stores, last first. -/
def yList (f : (r : ℕ) → r + 128 ≤ 1024 → In F) : List (View.Piece (Elt F) S1024x256 .f32) :=
  [yAt f 896 (by decide), yAt f 768 (by decide), yAt f 640 (by decide), yAt f 512 (by decide), yAt f 384 (by decide),
    yAt f 256 (by decide), yAt f 128 (by decide), yAt f 0 (by decide)]

theorem out_rd (x0 : Vec F S1024x768 .f32) (x1 : Vec F S1x256 .f32) (x2 : Vec F S1x256 .f32) (x3 : Vec F S4x128x128 .f32)
    (x4 : Vec F S128x128 .f32) : out0_5 x0 x1 x2 x3 x4 = View.canon (yList (rdIn x0 x1 x2 x3 x4)) := rfl

/-- What the chunks are computed from, from the point's blocks. -/
theorem rdIn_eq (x0 : Vec F S1024x768 .f32) (x1 : Vec F S1x256 .f32) (x2 : Vec F S1x256 .f32) (x3 : Vec F S4x128x128 .f32)
    (x4 : Vec F S128x128 .f32) : rdIn x0 x1 x2 x3 x4 = blockIn x0 x1 x2 x3 x4 (kc S1024x256 0x00000000#32) := by
  funext r hr
  unfold rdIn blockIn
  simp only [View.ld_unit_zero (S := S1x256) Cert.KernelIdeal.Sg.off2, View.ld_unit_zero (S := S128x128) Cert.KernelIdeal.Sg.off2]
  congr 1 <;> first | exact shapeCast_id _ _ | rfl

theorem out_eq (x0 : Vec F S1024x768 .f32) (x1 : Vec F S1x256 .f32) (x2 : Vec F S1x256 .f32) (x3 : Vec F S4x128x128 .f32)
    (x4 : Vec F S128x128 .f32) :
    out0_5 x0 x1 x2 x3 x4 = View.canon (yList (blockIn x0 x1 x2 x3 x4 (kc S1024x256 0x00000000#32))) := by
  rw [out_rd, rdIn_eq]

/-- The eight stores fill the block. -/
theorem cover (f : (r : ℕ) → r + 128 ≤ 1024 → In F) (i : S1024x256.Idx) : ∃ p ∈ yList f, i ∈ p.1.set :=
  cover0_5 (y (f 896 (by decide))) (y (f 768 (by decide))) (y (f 640 (by decide))) (y (f 512 (by decide))) (y (f 384 (by decide)))
    (y (f 256 (by decide))) (y (f 128 (by decide))) (y (f 0 (by decide))) i

end Cert.Kernel18Ideal.SgFwd

end
-- ==== Proof.SgFwd.Spec.lean ====
/-
The spatial gating's forward pass as a function of extended reals: the activated `u` times the mixed rows times the
gate's activation.
-/
module

public import proofs.«01_k».proof.Proof.Sg.Spec

@[expose] public section

noncomputable section

namespace Cert.SgSpec

/-- A chunk's gated rows. -/
def Chunk.y (c : Chunk) (i : Fin 128) (l : Fin 256) : EReal := gelu (c.U i l) * c.mix i l * c.silu i l

/-- The gated rows of the whole array. -/
def Arrays.y (A : Arrays) (r : Fin 8192) (l : Fin 256) : EReal := (A.chunk ⟨r.val / 128, by omega⟩).y ⟨r.val % 128, by omega⟩ l

end Cert.SgSpec

end
-- ==== Proof.SgFwd.Final.lean ====
/-
The array the spatial gating's forward pass leaves, over the extended reals: every point writes the gated rows of its
eight chunks.
-/
module

public import proofs.«01_k».proof.Proof.SgFwd.Store
public import proofs.«01_k».proof.Proof.SgFwd.Spec
public import proofs.«01_k».proof.Proof.Sg.RefRead
public import proofs.«01_k».proof.Proof.Lin.Blocks
public import Idealize.ShloMosaic.Lib.StableHlo.Run
public import Idealize.ShloMosaic.Lib.Pipeline.ValueKit

@[expose] public section

set_option maxHeartbeats 1000000

noncomputable section

namespace Cert.Kernel18Ideal.SgFwd

open Cert.Kernel18Ideal Cert.Kernel18Ideal.Gen Cert.Kernel18Ideal.Value Idealize.ShloMosaic Idealize.ShloMosaic.TcCoe Idealize.SL.Sem
open Idealize.ShloMosaic.Pipeline (Dat)
open Cert
open Cert.KernelIdeal.Sg (In blockIn kc rz ldHead_apply gelu_apply)

variable (m : (ℓ : Loc nD τ sig) → Buf (Elt Ideal) ℓ) (c : Dev nD)

/-- The launched arguments. -/
abbrev A0 : S8192x768.Idx → EReal := m ((c : Thread nD τ).loc main_arg0)
abbrev A1 : S256.Idx → EReal := m ((c : Thread nD τ).loc main_arg1)
abbrev A2 : S256.Idx → EReal := m ((c : Thread nD τ).loc main_arg2)
abbrev A3 : S4x128x128.Idx → EReal := m ((c : Thread nD τ).loc main_arg3)
abbrev A4 : S4x128.Idx → EReal := m ((c : Thread nD τ).loc main_arg4)

/-- A cotangent of zeros. Nothing here depends on it. -/
abbrev noCot : S8192x256.Idx → EReal := fun _ => Ideal.ofBits .f32 0x00000000#32

/-- The arguments as plain functions. -/
abbrev arr : SgSpec.Arrays := Cert.ReferenceIdeal.Sg.arrays (A0 m c) (A1 m c) (A2 m c) (A3 m c) (A4 m c) noCot

/-- The result. -/
abbrev rY : S8192x256.Idx → EReal := fun y => (arr m c).y (y 0) (y 1)

theorem N8 : cfg0.N = 8 := N_0

/-! ### A chunk -/

theorem y_apply (x : In Ideal) (i : Fin 128) (l : Fin 256) : y x (ix2 i l) = x.spec.y i l := by
  pointwise [y]; rw [gelu_apply, In.s_apply]; rfl

/-- The block of eight chunks' gated rows. -/
def yBlock (C : Fin 8 → SgSpec.Chunk) (y : S1024x256.Idx) : EReal :=
  (C ⟨(y 0).val / 128, by have : (y 0).val < 1024 := (y 0).isLt; omega⟩).y ⟨(y 0).val % 128, by omega⟩ (y 1)

theorem yBlock_at (C : Fin 8 → SgSpec.Chunk) (y : S1024x256.Idx) (k : Fin 8) (i : Fin 128) (l : Fin 256)
    (h0 : (y 0).val = 128 * k.val + i.val) (h1 : (y 1).val = l.val) : yBlock C y = (C k).y i l := by
  unfold yBlock
  have e0 : ∀ h, (⟨(y 0).val / 128, h⟩ : Fin 8) = k := fun h => Fin.ext (by show (y 0).val / 128 = k.val; omega)
  have e1 : ∀ h, (⟨(y 0).val % 128, h⟩ : Fin 128) = i := fun h => Fin.ext (by show (y 0).val % 128 = i.val; omega)
  have e2 : y 1 = l := Fin.ext h1
  rw [e0, e1, e2]

theorem arr_y_at (A : SgSpec.Arrays) (r : Fin 8192) (q : Fin 64) (i : Fin 128) (l : Fin 256) (h : r.val = 128 * q.val + i.val) :
    A.y r l = (A.chunk q).y i l := by
  unfold SgSpec.Arrays.y
  have e0 : ∀ h, (⟨r.val / 128, h⟩ : Fin 64) = q := fun _ => Fin.ext (by show r.val / 128 = q.val; omega)
  have e1 : ∀ h, (⟨r.val % 128, h⟩ : Fin 128) = i := fun _ => Fin.ext (by show r.val % 128 = i.val; omega)
  rw [e0, e1]

section Block
variable (f : (r : ℕ) → r + 128 ≤ 1024 → In Ideal) (C : Fin 8 → SgSpec.Chunk)
  (hC : ∀ k : Fin 8, (f (128 * k.val) (by omega)).spec = C k)

include hC in
theorem piece (k : Fin 8) (hk : 128 * k.val + 128 ≤ 1024) (x : S128x256.Idx) :
    y (f (128 * k.val) hk) x = yBlock C ((Rect.unit (s := S1024x256) ![128 * k.val, 0] S128x256.size (Cert.KernelIdeal.Sg.inb_y hk)).emb x) := by
  obtain ⟨i, l, rfl⟩ : ∃ (i : Fin 128) (l : Fin 256), x = ix2 i l := ⟨_, _, eq_ix2 x⟩
  rw [y_apply, hC]
  exact (yBlock_at C _ k i l (by show 128 * k.val + 1 * i.val = _; omega) (by show 0 + 1 * l.val = l.val; omega)).symm

include hC in
/-- The eight stores make the block. -/
theorem canon_y : View.canon (yList f) = yBlock C :=
  funext fun z => View.canon_apply_of_pieces (Val := Elt Ideal) (e := .f32) (yBlock C) _ (fun p hp x => by
    simp only [yList, List.mem_cons, List.not_mem_nil, or_false] at hp
    rcases hp with rfl | rfl | rfl | rfl | rfl | rfl | rfl | rfl
    · exact piece f C hC 7 (by decide) x
    · exact piece f C hC 6 (by decide) x
    · exact piece f C hC 5 (by decide) x
    · exact piece f C hC 4 (by decide) x
    · exact piece f C hC 3 (by decide) x
    · exact piece f C hC 2 (by decide) x
    · exact piece f C hC 1 (by decide) x
    · exact piece f C hC 0 (by decide) x) z (cover f z)

end Block

/-! ### What the windows read -/

theorem idx : ∀ t : Fin cfg0.N, win0_0.index t = ![t.val, 0] ∧ win0_1.index t = ![0, 0] ∧ win0_2.index t = ![0, 0] ∧ win0_3.index t = ![0, 0, 0]
    ∧ win0_4.index t = ![0, 0] ∧ win0_5.index t = ![t.val, 0] :=
  (by decide +kernel : ∀ t : Fin grid0.N, win0_0.index t = ![t.val, 0] ∧ win0_1.index t = ![0, 0] ∧ win0_2.index t = ![0, 0]
    ∧ win0_3.index t = ![0, 0, 0] ∧ win0_4.index t = ![0, 0] ∧ win0_5.index t = ![t.val, 0])

/-- Row `i` of the block of point `t`. -/
abbrev rowAt (t : Fin cfg0.N) (i : Fin 1024) : Fin 8192 := ⟨1024 * t.val + i.val, by have := t.isLt; have := N8; omega⟩

theorem emb0 (t : Fin cfg0.N) (i : Fin 1024) (k : Fin 768) : (win0_0.blk t).view.emb (ix2 i k) = (ix2 (rowAt t i) k : S8192x768.Idx) := by
  obtain ⟨e, -⟩ := idx t
  exact LinSpec.ext2 (by blk_simp [e]; show t.val * 1024 + i.val = 1024 * t.val + i.val; omega) (by blk_simp [e])
theorem emb1 (t : Fin cfg0.N) (z : Fin 1) (k : Fin 256) : (win0_1.blk t).view.emb (ix2 z k) = (ix2 z k : S1x256.Idx) := by
  obtain ⟨-, e, -⟩ := idx t
  exact LinSpec.ext2 (by blk_simp [e]) (by blk_simp [e])
theorem emb3 (t : Fin cfg0.N) (h : Fin 4) (i j : Fin 128) : (win0_3.blk t).view.emb (ix3 h i j) = (ix3 h i j : S4x128x128.Idx) := by
  obtain ⟨-, -, -, e, -⟩ := idx t
  refine funext fun a => Fin.ext ?_
  match a with
  | ⟨0, _⟩ => blk_simp [e]
  | ⟨1, _⟩ => blk_simp [e]
  | ⟨2, _⟩ => blk_simp [e]
theorem emb4 (t : Fin cfg0.N) (i k : Fin 128) : (win0_4.blk t).view.emb (ix2 i k) = (ix2 i k : S128x128.Idx) := by
  obtain ⟨-, -, -, -, e, -⟩ := idx t
  exact LinSpec.ext2 (by blk_simp [e]) (by blk_simp [e])
theorem emb5 (t : Fin cfg0.N) (i : Fin 1024) (k : Fin 256) : (win0_5.blk t).view.emb (ix2 i k) = (ix2 (rowAt t i) k : S8192x256.Idx) := by
  obtain ⟨-, -, -, -, -, e⟩ := idx t
  exact LinSpec.ext2 (by blk_simp [e]; show t.val * 1024 + i.val = 1024 * t.val + i.val; omega) (by blk_simp [e])

/-- The host's rows of the norm's scale and shift, and its transposed and widened biases. -/
theorem V_g : V m c main_v2 = (broadcastInDim S1x256 ![1] bcast_S256_S1x256_1 (A1 m c) : Vec Ideal S1x256 .f32) := by
  unfold_abbrev_sides
  simp only [hostOps0, hostOps0_1, hostOps0_2, List.flatten_cons, List.flatten_nil, List.cons_append, List.nil_append, List.append_nil]
  after_results
theorem V_b : V m c main_v3 = (broadcastInDim S1x256 ![1] bcast_S256_S1x256_1 (A2 m c) : Vec Ideal S1x256 .f32) := by
  unfold_abbrev_sides
  simp only [hostOps0, hostOps0_1, hostOps0_2, List.flatten_cons, List.flatten_nil, List.cons_append, List.nil_append, List.append_nil]
  after_results
theorem V_t : V m c main_v1 = (pad S128x128 ![0, 0] ![0, 124] ![0, 0] (transpose S128x4 [1, 0] (A4 m c) transposes_S4x128_S128x4_1_0)
    (sitofp (F := Ideal) .f32 (constantI S_ 32 0#32)) pads_S128x4_S128x128_000_01240 h_S_ : Vec Ideal S128x128 .f32) := by
  unfold_abbrev_sides
  simp only [hostOps0, hostOps0_1, hostOps0_2, List.flatten_cons, List.flatten_nil, List.cons_append, List.nil_append, List.append_nil]
  after_results
  rfl

theorem iblk0 (t : Fin cfg0.N) (i : Fin 1024) (k : Fin 768) :
    (iblk m c 0 t : Vec Ideal S1024x768 .f32) (ix2 i k) = A0 m c (ix2 (rowAt t i) k) := by
  unfold iblk
  rw [View.read_apply]
  show V m c main_arg0 _ = _
  rw [V_main_arg0]
  exact congrArg (A0 m c) (emb0 t i k)
theorem iblk1 (t : Fin cfg0.N) (z : Fin 1) (k : Fin 256) : (iblk m c 1 t : Vec Ideal S1x256 .f32) (ix2 z k) = A1 m c (ix1 k) := by
  unfold iblk
  rw [View.read_apply]
  show V m c main_v2 _ = _
  rw [V_g]
  refine (congrArg _ (emb1 t z k)).trans ?_
  pointwise []
theorem iblk2 (t : Fin cfg0.N) (z : Fin 1) (k : Fin 256) : (iblk m c 2 t : Vec Ideal S1x256 .f32) (ix2 z k) = A2 m c (ix1 k) := by
  unfold iblk
  rw [View.read_apply]
  show V m c main_v3 _ = _
  rw [V_b]
  refine (congrArg _ (emb1 t z k)).trans ?_
  pointwise []
theorem iblk3 (t : Fin cfg0.N) (h : Fin 4) (i j : Fin 128) :
    (iblk m c 3 t : Vec Ideal S4x128x128 .f32) (ix3 h i j) = A3 m c (ix3 h i j) := by
  unfold iblk
  rw [View.read_apply]
  show V m c main_arg3 _ = _
  rw [V_main_arg3]
  exact congrArg (A3 m c) (emb3 t h i j)
/-- A head's bias is a lane of the widened matrix. -/
theorem iblk4 (t : Fin cfg0.N) (i : Fin 128) (h : Fin 4) :
    (iblk m c 4 t : Vec Ideal S128x128 .f32) (ix2 i ⟨h.val, by omega⟩) = A4 m c (ix2 h i) := by
  unfold iblk
  rw [View.read_apply]
  show V m c main_v1 _ = _
  rw [V_t]
  refine (congrArg _ (emb4 t i ⟨h.val, by omega⟩)).trans ?_
  pointwise []

/-! ### The chunks of a point's block -/

/-- The chunks the body reads at point `t`. -/
abbrev bk (t : Fin cfg0.N) : (r : ℕ) → r + 128 ≤ 1024 → In Ideal :=
  blockIn (iblk m c 0 t) (iblk m c 1 t) (iblk m c 2 t) (iblk m c 3 t) (iblk m c 4 t) (kc (F := Ideal) S1024x256 0x00000000#32)

/-- They are the launch's chunks `8 t`, …, `8 t + 7`. -/
theorem bk_spec (t : Fin cfg0.N) (k : Fin 8) :
    (bk m c t (128 * k.val) (by omega)).spec = (arr m c).chunk ⟨8 * t.val + k.val, by have := t.isLt; have := N8; omega⟩ := by
  have ht : t.val < 8 := by have := t.isLt; have := N8; omega
  have z0 : ∀ (o : ℕ) (ho : o + 256 ≤ 768) (i : Fin 128) (l : Fin 256),
      View.ld (iblk m c 0 t : Vec Ideal S1024x768 .f32) (rz (128 * k.val) o (by omega) ho) (ix2 i l)
        = A0 m c (ix2 ⟨128 * (8 * t.val + k.val) + i.val, by omega⟩ ⟨o + l.val, by omega⟩) := by
    intro o ho i l
    refine Eq.trans (congrArg (iblk m c 0 t : Vec Ideal S1024x768 .f32) (LinSpec.ext2 ?_ ?_))
      ((iblk0 m c t ⟨128 * k.val + i.val, by omega⟩ ⟨o + l.val, by omega⟩).trans (congrArg (A0 m c) (LinSpec.ext2 ?_ rfl)))
    · show 128 * k.val + 1 * i.val = 128 * k.val + i.val; omega
    · show o + 1 * l.val = o + l.val; omega
    · show 1024 * t.val + (128 * k.val + i.val) = 128 * (8 * t.val + k.val) + i.val; omega
  unfold SgSpec.Arrays.chunk
  show SgSpec.Chunk.mk _ _ _ _ _ _ _ _ = SgSpec.Chunk.mk _ _ _ _ _ _ _ _
  congr 1
  · funext i l; exact (z0 0 (by decide) i l).trans (congrArg (A0 m c) (LinSpec.ext2 rfl (by show 0 + l.val = l.val; omega)))
  · funext i l; exact z0 256 (by decide) i l
  · funext i l; exact z0 512 (by decide) i l
  · funext l; exact iblk1 m c t 0 l
  · funext l; exact iblk2 m c t 0 l
  · funext h i j
    match h with
    | 0 => exact (ldHead_apply _ 0 _ i j).trans (iblk3 m c t 0 i j)
    | 1 => exact (ldHead_apply _ 1 _ i j).trans (iblk3 m c t 1 i j)
    | 2 => exact (ldHead_apply _ 2 _ i j).trans (iblk3 m c t 2 i j)
    | 3 => exact (ldHead_apply _ 3 _ i j).trans (iblk3 m c t 3 i j)
  · funext h i; exact iblk4 m c t i h

/-! ### The result -/

theorem final5 : (dats m 0 c).arrAt 5 cfg0.N = rY m c := by
  refine (dats m 0 c).arrAt_eq_of_covers 5 _ (by decide +kernel) fun t hf y => ?_
  obtain ⟨i, l, rfl⟩ : ∃ (i : Fin 1024) (l : Fin 256), y = ix2 i l := ⟨y 0, y 1, (ix2_eta y).symm⟩
  blk_simp
  rw [after0_5, out_eq]
  refine (congrFun (canon_y (bk m c t) _ (bk_spec m c t)) (ix2 i l)).trans (Eq.trans ?_ (congrArg (rY m c) (emb5 t i l)).symm)
  have ht : t.val < 8 := lt_of_lt_of_eq t.isLt N8
  refine (yBlock_at _ _ ⟨i.val / 128, by omega⟩ ⟨i.val % 128, by omega⟩ l ?_ rfl).trans
    (arr_y_at (arr m c) (rowAt t i) ⟨8 * t.val + i.val / 128, by omega⟩ ⟨i.val % 128, by omega⟩ l ?_).symm
  · show i.val = 128 * (i.val / 128) + i.val % 128; omega
  · show 1024 * t.val + i.val = 128 * (8 * t.val + i.val / 128) + i.val % 128; omega

end Cert.Kernel18Ideal.SgFwd

end
-- ==== Proof.SgFwd.RefRead.lean ====
/-
The reference of the spatial gating's forward pass, read entry by entry: its lines are those of the forward part of the
backward pass's reference, and its result is the gated rows.
-/
module

public import proofs.«01_k».proof.Proof.Gen.Reference18Ideal.Read
public import proofs.«01_k».proof.Proof.Sg.RefRead
public import proofs.«01_k».proof.Proof.SgFwd.Spec

@[expose] public section

noncomputable section

namespace Cert.Reference18Ideal.SgFwd

open Cert.Reference18Ideal Cert.Reference18Ideal.Gen Cert.Reference18Ideal.Read Idealize.ShloMosaic Idealize.ShloMosaic.TcCoe Idealize.SL.Sem
open Cert
open Cert.ReferenceIdeal.Sg (arrays qOf iOf qAt row_eq qOf_at iOf_at lane_eq lane_hd qAt_div mask_select rowQ rowI)

variable (x0 : (⟨S8192x768, .f32⟩ : BufTy).Contents (Elt Ideal)) (x1 x2 : (⟨S256, .f32⟩ : BufTy).Contents (Elt Ideal))
  (x3 : (⟨S4x128x128, .f32⟩ : BufTy).Contents (Elt Ideal)) (x4 : (⟨S4x128, .f32⟩ : BufTy).Contents (Elt Ideal))
  (x5 : (⟨S8192x256, .f32⟩ : BufTy).Contents (Elt Ideal))

/-- The chunk of row `s` of sequence `b`. The cotangent `x5` is not read. -/
abbrev ch (b : Fin 2) (s : Fin 4096) : SgSpec.Chunk := (arrays x0 x1 x2 x3 x4 x5).chunk (qOf b s)

/-! ### The column groups and the activation -/

theorem u_apply (b : Fin 2) (s : Fin 4096) (l : Fin 256) : val_main_v1 (F := Ideal) x0 (ix3 b s l) = (ch x0 x1 x2 x3 x4 x5 b s).U (iOf s) l := by
  pointwise [val_main_v1, val_main_v0]
  simp only [SgSpec.Arrays.chunk, row_eq]; rfl
theorem v_apply (b : Fin 2) (s : Fin 4096) (l : Fin 256) : val_main_v2 (F := Ideal) x0 (ix3 b s l) = (ch x0 x1 x2 x3 x4 x5 b s).V (iOf s) l := by
  pointwise [val_main_v2, val_main_v0]
  simp only [SgSpec.Arrays.chunk, row_eq]; rfl
theorem gt_apply (b : Fin 2) (s : Fin 4096) (l : Fin 256) : val_main_v3 (F := Ideal) x0 (ix3 b s l) = (ch x0 x1 x2 x3 x4 x5 b s).Gt (iOf s) l := by
  pointwise [val_main_v3, val_main_v0]
  simp only [SgSpec.Arrays.chunk, row_eq]; rfl

theorem gelu_u_apply (b : Fin 2) (s : Fin 4096) (l : Fin 256) :
    val_main_v16 (F := Ideal) x0 (ix3 b s l) = SgSpec.gelu ((ch x0 x1 x2 x3 x4 x5 b s).U (iOf s) l) := by
  pointwise [val_main_v16, val_main_v15, val_main_v14, val_main_cst_2, val_main_v13, val_main_v12, val_main_cst_1, val_main_v11, val_main_v10, val_main_v9, val_main_cst_0, val_main_v8, val_main_v7, val_main_v6, val_main_cst, val_main_v5, val_main_v4]
  rw [u_apply x0 x1 x2 x3 x4 x5, mul_assoc ((ch x0 x1 x2 x3 x4 x5 b s).U (iOf s) l) _ ((ch x0 x1 x2 x3 x4 x5 b s).U (iOf s) l)]; rfl
theorem gelu_v_apply (b : Fin 2) (s : Fin 4096) (l : Fin 256) :
    val_main_v29 (F := Ideal) x0 (ix3 b s l) = SgSpec.gelu ((ch x0 x1 x2 x3 x4 x5 b s).V (iOf s) l) := by
  pointwise [val_main_v29, val_main_v28, val_main_v27, val_main_cst_6, val_main_v26, val_main_v25, val_main_cst_5, val_main_v24, val_main_v23, val_main_v22, val_main_cst_4, val_main_v21, val_main_v20, val_main_v19, val_main_cst_3, val_main_v18, val_main_v17]
  rw [v_apply x0 x1 x2 x3 x4 x5, mul_assoc ((ch x0 x1 x2 x3 x4 x5 b s).V (iOf s) l) _ ((ch x0 x1 x2 x3 x4 x5 b s).V (iOf s) l)]; rfl

/-! ### The norm -/

theorem xc_apply (b : Fin 2) (s : Fin 4096) (l : Fin 256) :
    val_main_v35 (F := Ideal) x0 (ix3 b s l) = SgSpec.xc ((ch x0 x1 x2 x3 x4 x5 b s).V (iOf s)) l := by
  pointwise [val_main_v35, val_main_v34, val_main_v33, val_main_v32, val_main_cst_8, val_main_v31, val_main_v30, val_main_cst_7]
  simp only [gelu_v_apply x0 x1 x2 x3 x4 x5]; rfl
theorem rs_apply (b : Fin 2) (s : Fin 4096) (z : Fin 1) :
    val_main_v43 (F := Ideal) x0 (ix3 b s z) = SgSpec.rs ((ch x0 x1 x2 x3 x4 x5 b s).V (iOf s)) := by
  pointwise [val_main_v43, val_main_v42, val_main_v41, val_main_cst_11, val_main_v40, val_main_v39, val_main_cst_10, val_main_v38, val_main_v37, val_main_cst_9, val_main_v36]
  simp only [xc_apply x0 x1 x2 x3 x4 x5]; rfl
theorem vn_apply (b : Fin 2) (s : Fin 4096) (l : Fin 256) :
    val_main_v51 (F := Ideal) x0 x1 x2 (ix3 b s l) = (ch x0 x1 x2 x3 x4 x5 b s).vn (iOf s) l := by
  pointwise [val_main_v51, val_main_v50, val_main_v49, val_main_v48, val_main_v47, val_main_v46, val_main_v45, val_main_v44]
  rw [xc_apply x0 x1 x2 x3 x4 x5, rs_apply x0 x1 x2 x3 x4 x5]; rfl

/-! ### The mixing -/

theorem vn5_apply (b : Fin 2) (n : Fin 32) (i : Fin 128) (h : Fin 4) (d : Fin 64) :
    val_main_v52 (F := Ideal) x0 x1 x2 (ix5 b n i h d) = ((arrays x0 x1 x2 x3 x4 x5).chunk (qAt b n)).vn i (SgSpec.lane h d) := by
  pointwise [val_main_v52]
  rw [vn_apply x0 x1 x2 x3 x4 x5]
  unfold ch
  rw [qOf_at, iOf_at, lane_eq]

theorem wt_apply (h : Fin 4) (i j : Fin 128) (q : Fin 64) :
    val_main_v55 (F := Ideal) x3 (ix3 h i j) = ((arrays x0 x1 x2 x3 x4 x5).chunk q).wt h i j := by
  pointwise [val_main_v55, val_main_call1_v2, val_main_call1_v1, val_main_call1_v0, val_main_cst_12, val_main_v54, val_main_v53, val_main_c, val_main_call0_v4, val_main_call0_v2, val_main_call0_v0, val_main_call0_v1, val_main_call0_c, val_main_call0_v3, val_main_call0_v5, val_main_call0_c_0]
  have e2 : (id (constant (F := Ideal) S_ FTy.f32 0#32) ix0 : EReal) = 0 := by
    show Ideal.ofBits .f32 0#32 = (0 : EReal); exact Ideal.ofBits_zero .f32
  rw [mask_select, e2]; rfl

theorem mix_apply (b : Fin 2) (s : Fin 4096) (l : Fin 256) :
    val_main_v63 (F := Ideal) x0 x1 x2 x3 x4 (ix3 b s l) = (ch x0 x1 x2 x3 x4 x5 b s).mix (iOf s) l := by
  pointwise [val_main_v63, val_main_v62, val_main_v61, val_main_v60, val_main_v59, val_main_v58, val_main_v57, val_main_v56]
  simp only [vn5_apply x0 x1 x2 x3 x4 x5, wt_apply x0 x1 x2 x3 x4 x5 _ _ _ (qOf b s), lane_hd, qAt_div]
  unfold SgSpec.Chunk.mix
  congr 1
  exact Finset.sum_congr rfl fun j _ => mul_comm _ _

/-! ### The gate and the result -/

theorem silu_apply (b : Fin 2) (s : Fin 4096) (l : Fin 256) :
    val_main_v65 (F := Ideal) x0 (ix3 b s l) = (ch x0 x1 x2 x3 x4 x5 b s).silu (iOf s) l := by
  pointwise [val_main_v65, val_main_call2_v5, val_main_call2_v4, val_main_call2_cst_0, val_main_call2_v3, val_main_call2_v2, val_main_call2_cst, val_main_call2_v1, val_main_call2_v0]
  rw [gt_apply x0 x1 x2 x3 x4 x5]; rfl

/-- The reference's result. -/
theorem y_apply (r : Fin 8192) (l : Fin 256) :
    val_main_v67 (F := Ideal) x0 x1 x2 x3 x4 (ix2 r l) = (arrays x0 x1 x2 x3 x4 x5).y r l := by
  pointwise [val_main_v67, val_main_v66, val_main_v64]
  rw [gelu_u_apply x0 x1 x2 x3 x4 x5, mix_apply x0 x1 x2 x3 x4 x5, silu_apply x0 x1 x2 x3 x4 x5]
  unfold SgSpec.Arrays.y SgSpec.Chunk.y ch
  simp only [rowQ, rowI]

end Cert.Reference18Ideal.SgFwd

end
-- ==== Proof.SgFwd.Claims.lean ====
/-
The claims about the spatial gating's forward pass.
-/
module

public import proofs.«01_k».proof.Defs
public import proofs.«01_k».proof.Proof.SgFwd.Final
public import proofs.«01_k».proof.Proof.SgFwd.RefRead
public import proofs.«01_k».proof.Proof.Gen.Reference18Ideal.Run
public import proofs.«01_k».proof.Proof.Gen.Kernel18.Frame

@[expose] public section

set_option maxHeartbeats 1000000

noncomputable section

namespace Cert.SgFwd

open Idealize.ShloMosaic Idealize.ShloMosaic.TcCoe Idealize.SL.Sem
open Cert.Kernel18Ideal.SgFwd Idealize.ShloMosaic.StableHlo

theorem frame_kernel : Cert.quiescent_Kernel18 := fun m ρ _ => Cert.Kernel18.Gen.frame m ρ

theorem frame_ideal : Cert.quiescent_Kernel18Ideal := fun m ρ _ => Cert.Kernel18Ideal.Gen.frame m ρ

/-- The reference is a line of host operations on a machine without semaphores. -/
theorem frame_reference : Cert.quiescent_Reference18Ideal := fun m ρ _ =>
  (θ_run Cert.Reference18Ideal.defs _ _).mono (fun r h =>
    ⟨fun c => (h c).2, sem_eq_zero_of_no_sems (by decide) r.2⟩) (Cert.Reference18Ideal.Value.run m ρ)

theorem preserves : Cert.preserves_Kernel18_Kernel18Ideal := trivial

/-- The reference's result is the kernel's. -/
theorem algebraic : Cert.algebraic_Kernel18Ideal_Reference18Ideal := by
  intro m g m' g' _ hagree
  refine ⟨rY m, ?_, ?_⟩
  · refine (θ_run Cert.Kernel18Ideal.defs _ _).mono (fun r h c => ?_) (Cert.Kernel18Ideal.Value.run_blocks m g)
    obtain ⟨h0, hk⟩ := h c
    exact ⟨h0.trans (final5 m c), hk⟩
  · refine (θ_run Cert.Reference18Ideal.defs _ _).mono (fun r h c => ?_) (Cert.Reference18Ideal.Value.run m' g')
    obtain ⟨h0, hk⟩ := h c
    obtain ⟨a0, a1, a2, a3, a4⟩ := hagree c
    refine ⟨(h0.trans (Cert.Reference18Ideal.Read.val_main_v67_eq m' c)).trans ?_, hk⟩
    simp only [a0, a1, a2, a3, a4]
    funext y
    exact (congrArg _ (ix2_eta y).symm).trans (Cert.Reference18Ideal.SgFwd.y_apply (A0 m c) (A1 m c) (A2 m c) (A3 m c) (A4 m c) noCot (y 0) (y 1))

end Cert.SgFwd

end
-- ==== Proof.Loss.Spec.lean ====
/-
  The loss head on one row over the extended reals: the norm's error against the target, the row's loss, and what flows
  back into the norm.
-/
module

public import proofs.«01_k».proof.Proof.Lin.Spec
public import Idealize.ShloMosaic.Lib.IdealHost

@[expose] public section

noncomputable section

namespace Cert.LossSpec

open Idealize.ShloMosaic
open Cert

/-- One half. -/
abbrev cH : EReal := Ideal.ofBits .f32 0x3F000000#32
/-- Two. -/
abbrev c2 : EReal := Ideal.ofBits .f32 0x40000000#32
/-- The weight of a squared error in the loss: one half over the number of features. -/
abbrev wt : EReal := Ideal.div cH LinSpec.cN

/-- The row's error. -/
def err (x g t : Fin 1024 → EReal) (k : Fin 1024) : EReal := LinSpec.rms x g k - t k
/-- The mean of its squares. -/
def msq (x g t : Fin 1024 → EReal) : EReal := Ideal.div (∑ k, err x g t k * err x g t k) LinSpec.cN
/-- What flows back into the norm. -/
def cot (x g t : Fin 1024 → EReal) (k : Fin 1024) : EReal := wt * (c2 * err x g t k)

theorem c2_eq : c2 = 1 + 1 := by
  rw [show (1 + 1 : EReal) = ((2 : ℝ) : EReal) by norm_cast]
  simp [Ideal.ofBits, Ideal.ieee, -EReal.coe_mul]; norm_num

theorem cH_eq : cH = ((1 / 2 : ℝ) : EReal) := by
  simp [Ideal.ofBits, Ideal.ieee, -EReal.coe_mul]; norm_num

/-- Both factors of a square together give twice one of them. -/
theorem both (e w : EReal) : e * w + w * e = w * (c2 * e) := by
  rw [c2_eq, EReal.right_distrib_of_nonneg zero_le_one zero_le_one, one_mul, mul_comm e w]
  have h2 : w * (e + e) = w * (e * (1 + 1)) := by
    rw [EReal.left_distrib_of_nonneg zero_le_one zero_le_one, mul_one]
  rw [h2, ← mul_assoc, EReal.left_distrib_of_nonneg zero_le_one zero_le_one, mul_one]

/-- Halving goes through a finite sum. -/
theorem half_sum {ι : Type} (s : Finset ι) (f : ι → EReal) : cH * ∑ i ∈ s, f i = ∑ i ∈ s, cH * f i := by
  classical
  induction s using Finset.induction_on with
  | empty => simp
  | insert a s h ih =>
    rw [Finset.sum_insert h, Finset.sum_insert h, EReal.left_distrib_of_nonneg_of_ne_top, ih]
    · rw [cH_eq]; exact_mod_cast (by norm_num : (0 : ℝ) ≤ 1 / 2)
    · rw [cH_eq]; exact EReal.coe_ne_top _

end Cert.LossSpec

end
-- ==== Proof.Loss.Block.lean ====
/-
  One block of 1024 rows of the loss head over the extended reals, entry by entry.
-/
module

public import proofs.«01_k».proof.Proof.Lin.Blocks
public import proofs.«01_k».proof.Proof.Loss.Spec
public import proofs.«01_k».proof.Proof.Gen.Kernel19Ideal.Value
public import Idealize.ShloMosaic.Lib.Pipeline.ValueKit
public import Idealize.ShloMosaic.Lib.Tactic
public import Idealize.ShloMosaic.Lib.Pointwise

@[expose] public section

noncomputable section

namespace Cert.Kernel19Ideal.Loss

open Cert.Kernel19Ideal Cert.Kernel19Ideal.Gen Idealize.ShloMosaic Idealize.ShloMosaic.TcCoe Idealize.SL.Sem
open Cert

section
variable (x t : Vec Ideal S1024x1024 .f32) (g : Vec Ideal S1x1024 .f32)

/-- A row of an array, and the scale as a row. -/
abbrev row (x : Vec Ideal S1024x1024 .f32) (i : Fin 1024) : Fin 1024 → EReal := fun k => x (ix2 i k)
abbrev sc (g : Vec Ideal S1x1024 .f32) : Fin 1024 → EReal := fun k => g (ix2 0 k)

theorem pay6_apply (i : Fin 1024) (z : Fin 1) : k0_pay6 x (ix2 i z) = LinSpec.ms (row x i) := by
  pointwise [k0_pay6]
  rfl
theorem pay7_apply (i : Fin 1024) (z : Fin 1) : k0_pay7 x (ix2 i z) = LinSpec.rs (row x i) := by
  pointwise [k0_pay7]
  rw [pay6_apply]
  rfl
theorem pay8_apply (i : Fin 1024) (z : Fin 1) : k0_pay8 x (ix2 i z) = LinSpec.cM * Ideal.div (LinSpec.rs (row x i)) (LinSpec.ms (row x i)) := by
  pointwise [k0_pay8]
  rw [pay6_apply, pay7_apply]
theorem pay10_apply (i k : Fin 1024) : k0_pay10 x g t (ix2 i k) = LossSpec.err (row x i) (sc g) (row t i) k := by
  pointwise [k0_pay10, k0_pay9, k0_pay5]
  rw [pay7_apply]
  rfl
theorem pay11_eq : k0_pay11 x g t = LossSpec.cH * ∑ i : Fin 1024, LossSpec.msq (row x i) (sc g) (row t i) := by
  unfold k0_pay11
  pointwise []
  simp only [pay10_apply]
  rfl
theorem pay12_apply (i k : Fin 1024) : k0_pay12 x g t (ix2 i k) = LossSpec.cot (row x i) (sc g) (row t i) k := by
  pointwise [k0_pay12]
  rw [pay10_apply]
  exact LossSpec.both _ _
theorem pay13_apply (z : Fin 1) (k : Fin 1024) :
    k0_pay13 x g t (ix2 z k) = ∑ i : Fin 1024, LinSpec.rmsBwdG (row x i) (LossSpec.cot (row x i) (sc g) (row t i)) k := by
  pointwise [k0_pay13, k0_pay9]
  simp only [pay7_apply, pay12_apply]
  rfl
theorem pay1_apply (i k : Fin 1024) : k0_pay1 x (k0_pay5 g) (k0_pay7 x) (k0_pay8 x) (k0_pay12 x g t) (ix2 i k)
    = LinSpec.rmsBwd (row x i) (sc g) (LossSpec.cot (row x i) (sc g) (row t i)) k := by
  pointwise [k0_pay1, k0_pay5]
  simp only [pay7_apply, pay8_apply, pay12_apply, Fin.sum_univ_one]
  rfl
end

/-! ### What a point leaves -/

variable (m : (ℓ : Loc nD τ sig) → Buf (Elt Ideal) ℓ) (c : Dev nD)

/-- The blocks of rows, of the scale and of the target. -/
abbrev xB (t : Fin cfg0.N) : Vec Ideal S1024x1024 .f32 := iblk m c 0 t
abbrev gB (t : Fin cfg0.N) : Vec Ideal S1x1024 .f32 := iblk m c 1 t
abbrev tB (t : Fin cfg0.N) : Vec Ideal S1024x1024 .f32 := iblk m c 2 t

/-- What flows back into the norm of row `i`. -/
abbrev cotB (t : Fin cfg0.N) (i : Fin 1024) : Fin 1024 → EReal := LossSpec.cot (row (xB m c t) i) (sc (gB m c t)) (row (tB m c t) i)
/-- The block's part of the loss and of the scale's gradient. -/
abbrev lossPart (t : Fin cfg0.N) : EReal := LossSpec.cH * ∑ i : Fin 1024, LossSpec.msq (row (xB m c t) i) (sc (gB m c t)) (row (tB m c t) i)
abbrev part (t : Fin cfg0.N) (k : Fin 1024) : EReal := ∑ i : Fin 1024, LinSpec.rmsBwdG (row (xB m c t) i) (cotB m c t i) k

/-- The block's rows of the gradient. -/
theorem point4 (t : Fin cfg0.N) (i k : Fin 1024) :
    (outsAt0 m c t.val t.isLt).2.1 (ix2 i k) = LinSpec.rmsBwd (row (xB m c t) i) (sc (gB m c t)) (cotB m c t i) k := by
  have hN : cfg0.N = 8 := N_0
  have ht := t.isLt
  by_cases h0 : t.val % 8 = 0
  · rw [outsAt0_A m c t h0 (by omega) h0 (by omega)]
    frame_out
    exact pay1_apply _ _ _ i k
  · rw [outsAt0_B m c t h0 (by omega) h0 (by omega)]
    frame_out
    exact pay1_apply _ _ _ i k

theorem point3_A (t : Fin cfg0.N) (h0 : t.val % 8 = 0) (i : Fin 8) (j : Fin 128) :
    (outsAt0 m c t.val t.isLt).1 (ix2 i j) = 0 + lossPart m c t := by
  have hN : cfg0.N = 8 := N_0
  have ht := t.isLt
  rw [outsAt0_A m c t h0 (by omega) h0 (by omega)]
  frame_out
  rw [zero_add]
  exact pay11_eq _ _ _
theorem point3_B (t : Fin cfg0.N) (h0 : ¬t.val % 8 = 0) (i : Fin 8) (j : Fin 128) : (outsAt0 m c t.val t.isLt).1 (ix2 i j)
    = (outsAt0 m c (t.val - 1) (Nat.lt_of_le_of_lt (Nat.sub_le _ _) t.isLt)).1 (ix2 i j) + lossPart m c t := by
  rw [outsAt0_B m c t h0 (by omega) h0 (by omega)]
  frame_out
  pointwise [k0_pay4, k0_pay3]
  exact congrArg (_ + ·) (pay11_eq _ _ _)

theorem point5_A (t : Fin cfg0.N) (h0 : t.val % 8 = 0) (z : Fin 1) (k : Fin 1024) :
    (outsAt0 m c t.val t.isLt).2.2 (ix2 z k) = 0 + part m c t k := by
  have hN : cfg0.N = 8 := N_0
  have ht := t.isLt
  rw [outsAt0_A m c t h0 (by omega) h0 (by omega)]
  frame_out
  rw [zero_add]
  exact pay13_apply _ _ _ z k
theorem point5_B (t : Fin cfg0.N) (h0 : ¬t.val % 8 = 0) (z : Fin 1) (k : Fin 1024) : (outsAt0 m c t.val t.isLt).2.2 (ix2 z k)
    = (outsAt0 m c (t.val - 1) (Nat.lt_of_le_of_lt (Nat.sub_le _ _) t.isLt)).2.2 (ix2 z k) + part m c t k := by
  rw [outsAt0_B m c t h0 (by omega) h0 (by omega)]
  frame_out
  pointwise [k0_pay2]
  exact congrArg (_ + ·) (pay13_apply _ _ _ z k)

end Cert.Kernel19Ideal.Loss

end
-- ==== Proof.Loss.Final.lean ====
/-
  The arrays the loss head leaves, over the extended reals: the rows' gradient by blocks of 1024 rows; the loss and the scale's gradient summed
  over the blocks.
-/
module

public import proofs.«01_k».proof.Proof.Loss.Block
public import Idealize.ShloMosaic.Lib.StableHlo.Run
public import Idealize.ShloMosaic.Lib.Pipeline.ValueKit

@[expose] public section

set_option maxHeartbeats 1000000

noncomputable section

namespace Cert.Kernel19Ideal.Loss

open Cert.Kernel19Ideal Cert.Kernel19Ideal.Gen Cert.Kernel19Ideal.Value Idealize.ShloMosaic Idealize.ShloMosaic.TcCoe Idealize.SL.Sem
open Idealize.ShloMosaic.Pipeline (Dat)
open Cert

variable (m : (ℓ : Loc nD τ sig) → Buf (Elt Ideal) ℓ) (c : Dev nD)

/-- The launched arguments. -/
abbrev A0 : S8192x1024.Idx → EReal := m ((c : Thread nD τ).loc main_arg0)
abbrev A1 : S1024.Idx → EReal := m ((c : Thread nD τ).loc main_arg1)
abbrev A2 : S8192x1024.Idx → EReal := m ((c : Thread nD τ).loc main_arg2)

/-- A row of the input and of the target, and the scale. -/
abbrev xr (r : Fin 8192) : Fin 1024 → EReal := fun k => A0 m c (ix2 r k)
abbrev tr (r : Fin 8192) : Fin 1024 → EReal := fun k => A2 m c (ix2 r k)
abbrev gr : Fin 1024 → EReal := fun k => A1 m c (ix1 k)
abbrev cot (r : Fin 8192) : Fin 1024 → EReal := LossSpec.cot (xr m c r) (gr m c) (tr m c r)

/-- The results. -/
abbrev rLoss : S8x128.Idx → EReal := fun _ => LossSpec.cH * ∑ r : Fin 8192, LossSpec.msq (xr m c r) (gr m c) (tr m c r)
abbrev rDx : S8192x1024.Idx → EReal := fun y => LinSpec.rmsBwd (xr m c (y 0)) (gr m c) (cot m c (y 0)) (y 1)
abbrev rDg : S1x1024.Idx → EReal := fun y => ∑ r : Fin 8192, LinSpec.rmsBwdG (xr m c r) (cot m c r) (y 1)

theorem N8 : cfg0.N = 8 := N_0

/-! ### What the windows read -/

theorem idx : ∀ t : Fin cfg0.N, win0_0.index t = ![t.val, 0] ∧ win0_1.index t = ![0, 0] ∧ win0_4.index t = ![t.val, 0] ∧ win0_5.index t = ![0, 0] :=
  (by decide +kernel : ∀ t : Fin grid0.N, win0_0.index t = ![t.val, 0] ∧ win0_1.index t = ![0, 0] ∧ win0_4.index t = ![t.val, 0]
    ∧ win0_5.index t = ![0, 0])

/-- Row `i` of the block of point `t`. -/
abbrev rowAt (t : Fin cfg0.N) (i : Fin 1024) : Fin 8192 := ⟨1024 * t.val + i.val, by have := t.isLt; have := N8; omega⟩

/-- The coordinates of the windows' blocks; the target's and the gradient's are the input's. -/
theorem emb0 (t : Fin cfg0.N) (i k : Fin 1024) : (win0_0.blk t).view.emb (ix2 i k) = (ix2 (rowAt t i) k : S8192x1024.Idx) := by
  obtain ⟨e, -⟩ := idx t
  exact LinSpec.ext2 (by blk_simp [e]; show t.val * 1024 + i.val = 1024 * t.val + i.val; omega) (by blk_simp [e])
theorem emb1 (t : Fin cfg0.N) (z : Fin 1) (k : Fin 1024) : (win0_1.blk t).view.emb (ix2 z k) = (ix2 z k : S1x1024.Idx) := by
  obtain ⟨-, e, -⟩ := idx t
  exact LinSpec.ext2 (by blk_simp [e]) (by blk_simp [e])

theorem row_x (t : Fin cfg0.N) (i : Fin 1024) : row (xB m c t) i = xr m c (rowAt t i) := funext fun k => by
  show iblk m c 0 t (ix2 i k) = _
  unfold iblk
  rw [View.read_apply]
  show V m c main_arg0 _ = _
  rw [V_main_arg0]
  exact congrArg (A0 m c) (emb0 t i k)
theorem row_t (t : Fin cfg0.N) (i : Fin 1024) : row (tB m c t) i = tr m c (rowAt t i) := funext fun k => by
  show iblk m c 2 t (ix2 i k) = _
  unfold iblk
  rw [View.read_apply]
  show V m c main_arg2 _ = _
  rw [V_main_arg2]
  exact congrArg (A2 m c) (emb0 t i k)

/-- The host's row of the norm's scale. -/
theorem V_g : V m c main_v0 = (broadcastInDim S1x1024 ![1] bcast_S1024_S1x1024_1 (A1 m c) : Vec Ideal S1x1024 .f32) := by
  unfold_abbrev_sides
  after_results

theorem row_g (t : Fin cfg0.N) : sc (gB m c t) = gr m c := funext fun k => by
  show iblk m c 1 t (ix2 0 k) = _
  unfold iblk
  rw [View.read_apply]
  show V m c main_v0 _ = _
  rw [V_g]
  refine (congrArg _ (emb1 t 0 k)).trans ?_
  pointwise []

/-! ### The results -/

theorem final4 : (dats m 0 c).arrAt 4 cfg0.N = rDx m c := by
  refine (dats m 0 c).arrAt_eq_of_covers 4 _ (by decide +kernel) fun t hf y => ?_
  obtain ⟨i, j, rfl⟩ : ∃ (i : Fin 1024) (j : Fin 1024), y = ix2 i j := ⟨y 0, y 1, (ix2_eta y).symm⟩
  blk_simp
  rw [after0_4]
  refine (point4 m c t i j).trans (Eq.trans ?_ (congrArg (rDx m c) (emb0 t i j)).symm)
  rw [cotB, row_x, row_g, row_t]
  rfl

/-- A sum over the blocks' rows is the sum over all rows. -/
theorem sum_rows (f : Fin 8192 → EReal) : ∑ t : Fin cfg0.N, ∑ i : Fin 1024, f (rowAt t i) = ∑ r, f r :=
  Fin.sum_mul_add_congr (fun t i hl => congrArg f (Fin.ext (congrArg (· + i.val) (Nat.mul_comm _ _)))) (by decide +kernel : 8192 = cfg0.N * 1024)

theorem last_point {t : Fin cfg0.N} (h : t.val % 8 = 7) : t.val + 1 = cfg0.N := by
  have hN := N8
  have ht := t.isLt
  omega

theorem final3 : (dats m 0 c).arrAt 3 cfg0.N = rLoss m c := by
  refine (dats m 0 c).arrAt_eq_of_covers 3 _ (by decide +kernel) fun t hf y => ?_
  obtain ⟨i, j, rfl⟩ : ∃ (i : Fin 8) (j : Fin 128), y = ix2 i j := ⟨y 0, y 1, (ix2_eta y).symm⟩
  blk_simp
  rw [after0_3]
  refine (Pipeline.eq_sum_fin_of_reset_step_apply_last (fun n h (_ : Unit) => (outsAt0 m c n h).1 (ix2 i j)) 8 (fun _ => (0 : EReal))
    (fun t _ => lossPart m c t) (fun t h _ => point3_A m c t h i j) (fun t h _ => point3_B m c t h i j) (le_of_eq N8) t
    (last_point ((flush0_3 t).mp hf)) ()).trans ?_
  rw [zero_add]
  simp only [lossPart, row_x, row_g, row_t]
  rw [← LossSpec.half_sum, sum_rows fun r => LossSpec.msq (xr m c r) (gr m c) (tr m c r)]

theorem final5 : (dats m 0 c).arrAt 5 cfg0.N = rDg m c := by
  refine (dats m 0 c).arrAt_eq_of_covers 5 _ (by decide +kernel) fun t hf y => ?_
  obtain ⟨z, j, rfl⟩ : ∃ (z : Fin 1) (j : Fin 1024), y = ix2 z j := ⟨y 0, y 1, (ix2_eta y).symm⟩
  blk_simp
  rw [after0_5]
  refine Eq.trans ?_ (congrArg (rDg m c) (emb1 t z j)).symm
  refine (Pipeline.eq_sum_fin_of_reset_step_apply_last (fun n h (k : Fin 1024) => (outsAt0 m c n h).2.2 (ix2 z k)) 8 (fun _ => (0 : EReal)) (part m c)
    (fun t h k => point5_A m c t h z k) (fun t h k => point5_B m c t h z k) (le_of_eq N8) t (last_point ((flush0_5 t).mp hf)) j).trans ?_
  rw [zero_add]
  simp only [part, cotB, row_x, row_g, row_t]
  exact sum_rows fun r => LinSpec.rmsBwdG (xr m c r) (cot m c r) j

end Cert.Kernel19Ideal.Loss

end
-- ==== Proof.Loss.RefRead.lean ====
/-
  The reference of the loss head, read entry by entry.
-/
module

public import proofs.«01_k».proof.Proof.Gen.Reference19Ideal.Read
public import proofs.«01_k».proof.Proof.Loss.Spec
public import Idealize.ShloMosaic.Lib.Tactic
public import Idealize.ShloMosaic.Lib.Pointwise

@[expose] public section

noncomputable section

namespace Cert.Reference19Ideal.Loss

open Cert.Reference19Ideal Cert.Reference19Ideal.Gen Cert.Reference19Ideal.Read Idealize.ShloMosaic Idealize.ShloMosaic.TcCoe Idealize.SL.Sem
open Cert

variable (x : S8192x1024.Idx → EReal) (g : S1024.Idx → EReal) (t : S8192x1024.Idx → EReal)

abbrev row (x : S8192x1024.Idx → EReal) (r : Fin 8192) : Fin 1024 → EReal := fun k => x (ix2 r k)
abbrev sc (g : S1024.Idx → EReal) : Fin 1024 → EReal := fun k => g (ix1 k)

theorem ms_apply (r : Fin 8192) (z : Fin 1) : val_main_v6 (F := Ideal) x (ix2 r z) = LinSpec.ms (row x r) := by
  pointwise [val_main_v6, val_main_v5, val_main_v4, val_main_v3, val_main_v2, val_main_v1, val_main_v0, val_main_cst, val_main_cst_0, val_main_cst_1]
  rfl
theorem rs_apply (r : Fin 8192) (z : Fin 1) : val_main_v7 (F := Ideal) x (ix2 r z) = LinSpec.rs (row x r) := by
  pointwise [val_main_v7]
  rw [ms_apply]
  rfl
theorem err_apply (r : Fin 8192) (k : Fin 1024) : val_main_v16 (F := Ideal) x g t (ix2 r k) = LossSpec.err (row x r) (sc g) (row t r) k := by
  pointwise [val_main_v16, val_main_v15, val_main_v14, val_main_v13, val_main_v12, val_main_v11]
  rw [rs_apply]
  rfl
theorem msq_apply (r : Fin 8192) : val_main_v22 (F := Ideal) x g t (ix1 r) = LossSpec.msq (row x r) (sc g) (row t r) := by
  pointwise [val_main_v22, val_main_v21, val_main_v20, val_main_v17, val_main_cst_4, val_main_cst_5]
  simp only [err_apply]
  rfl
theorem cot_apply (r : Fin 8192) (k : Fin 1024) : val_main_v30 (F := Ideal) x g t (ix2 r k) = LossSpec.cot (row x r) (sc g) (row t r) k := by
  pointwise [val_main_v30, val_main_v29, val_main_v28, val_main_v27, val_main_v26, val_main_v25, val_main_v19, val_main_v18, val_main_cst_3, val_main_cst_8,
    val_main_cst_9, val_main_cst_10]
  rw [err_apply]
  rfl

theorem loss_apply (i : Fin 8) (j : Fin 128) :
    val_main_v51 (F := Ideal) x g t (ix2 i j) = LossSpec.cH * ∑ r : Fin 8192, LossSpec.msq (row x r) (sc g) (row t r) := by
  pointwise [val_main_v51, val_main_v24, val_main_v23, val_main_cst_6, val_main_cst_7]
  simp only [msq_apply]

theorem dx_apply (r : Fin 8192) (k : Fin 1024) : val_main_v50 (F := Ideal) x g t (ix2 r k)
    = LinSpec.rmsBwd (row x r) (sc g) (LossSpec.cot (row x r) (sc g) (row t r)) k := by
  pointwise [val_main_v50, val_main_v49, val_main_v48, val_main_v47, val_main_v46, val_main_v45, val_main_v44, val_main_v43, val_main_v42, val_main_v41,
    val_main_v40, val_main_v39, val_main_v38, val_main_v37, val_main_v35, val_main_v34, val_main_v13, val_main_v10, val_main_v9, val_main_v8,
    val_main_cst_2, val_main_cst_13, val_main_cst_14, val_main_cst_15]
  simp only [ms_apply, rs_apply, cot_apply, Fin.sum_univ_one]
  rfl

theorem dg_apply (z : Fin 1) (k : Fin 1024) : val_main_v52 (F := Ideal) x g t (ix2 z k)
    = ∑ r : Fin 8192, LinSpec.rmsBwdG (row x r) (LossSpec.cot (row x r) (sc g) (row t r)) k := by
  pointwise [val_main_v52, val_main_v36, val_main_v33, val_main_v32, val_main_v31, val_main_v12, val_main_v11, val_main_cst_11, val_main_cst_12]
  simp only [rs_apply, cot_apply, Fin.sum_univ_one]
  rfl

end Cert.Reference19Ideal.Loss

end
-- ==== Proof.Loss.Claims.lean ====
/-
  The claims about the loss head: the three frames, and that the kernel's three arrays are the reference's over the extended reals.
-/
module

public import proofs.«01_k».proof.Defs
public import proofs.«01_k».proof.Proof.Loss.Final
public import proofs.«01_k».proof.Proof.Loss.RefRead
public import proofs.«01_k».proof.Proof.Gen.Reference19Ideal.Run
public import proofs.«01_k».proof.Proof.Gen.Kernel19.Frame

@[expose] public section

set_option maxHeartbeats 1000000

noncomputable section

namespace Cert.Loss

open Idealize.ShloMosaic Idealize.ShloMosaic.TcCoe Idealize.SL.Sem
open Cert.Kernel19Ideal.Loss Idealize.ShloMosaic.StableHlo

theorem frame_kernel : Cert.quiescent_Kernel19 := fun m ρ _ => Cert.Kernel19.Gen.frame m ρ

theorem frame_ideal : Cert.quiescent_Kernel19Ideal := fun m ρ _ => Cert.Kernel19Ideal.Gen.frame m ρ

/-- The reference is a line of host operations on a machine without semaphores. -/
theorem frame_reference : Cert.quiescent_Reference19Ideal := fun m ρ _ =>
  (θ_run Cert.Reference19Ideal.defs _ _).mono (fun r h =>
    ⟨fun c => (h c).2.2.2, sem_eq_zero_of_no_sems (by decide) r.2⟩) (Cert.Reference19Ideal.Value.run m ρ)

theorem preserves : Cert.preserves_Kernel19_Kernel19Ideal := trivial

/-- Each of the reference's three results is the kernel's. -/
theorem algebraic : Cert.algebraic_Kernel19Ideal_Reference19Ideal := by
  intro m g m' g' _ hagree
  refine ⟨rLoss m, rDx m, rDg m, ?_, ?_⟩
  · refine (θ_run Cert.Kernel19Ideal.defs _ _).mono (fun r h c => ?_) (Cert.Kernel19Ideal.Value.run_blocks m g)
    obtain ⟨h0, h1, h2, hk⟩ := h c
    exact ⟨h0.trans (final3 m c), h1.trans (final4 m c), h2.trans (final5 m c), hk⟩
  · refine (θ_run Cert.Reference19Ideal.defs _ _).mono (fun r h c => ?_) (Cert.Reference19Ideal.Value.run m' g')
    obtain ⟨h0, h1, h2, hk⟩ := h c
    obtain ⟨a0, a1, a2⟩ := hagree c
    refine ⟨(h0.trans (Cert.Reference19Ideal.Read.val_main_v51_eq _ _ _)).trans ?_,
      (h1.trans (Cert.Reference19Ideal.Read.val_main_v50_eq m' c)).trans ?_,
      (h2.trans (Cert.Reference19Ideal.Read.val_main_v52_eq _ _ _)).trans ?_, hk⟩
    all_goals
      simp only [a0, a1, a2]
      funext y
      refine (congrArg _ (ix2_eta y).symm).trans ?_
    · exact Cert.Reference19Ideal.Loss.loss_apply (A0 m c) (A1 m c) (A2 m c) (y 0) (y 1)
    · exact Cert.Reference19Ideal.Loss.dx_apply (A0 m c) (A1 m c) (A2 m c) (y 0) (y 1)
    · exact Cert.Reference19Ideal.Loss.dg_apply (A0 m c) (A1 m c) (A2 m c) (y 0) (y 1)

end Cert.Loss

end
-- ==== Proof.Sum.RunA.lean ====
/- GENERATED, UNTRUSTED: the whole-body RUN of `proofs.«01_k».proof.Kernel20Ideal`'s kernel in
   case A of its frame certificate (`Gen.kernelRun0_A`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. DO NOT EDIT. -/
module

public import proofs.«01_k».proof.Proof.Gen.Kernel20Ideal.Frame.Runs

@[expose] public section

-- membership in a rectangle of production extents (`View.cover_of_tiled`): the elaborator's structural look
-- recurses once per coordinate of the long axes
set_option maxRecDepth 16384

noncomputable section

namespace Cert.Kernel20Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 20000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (arg0 : Memref sig .tc .smem S1 .i32) (harg0 : arg0.IsWhole) (arg1 : Memref sig .tc .vmem S4x2x1024 .f32) (harg1 : arg1.IsWhole) (arg2 : Memref sig .tc .vmem S4x2x16x64 .f32) (harg2 : arg2.IsWhole) (arg3 : Memref sig .tc .vmem S4x2x16x64 .f32) (harg3 : arg3.IsWhole) (arg4 : Memref sig .tc .vmem S4x2x16x1024 .f32) (harg4 : arg4.IsWhole) (arg5 : Memref sig .tc .vmem S4x2x16x1024 .f32) (harg5 : arg5.IsWhole) (arg6 : Memref sig .tc .vmem S4x2x16x1024 .f32) (harg6 : arg6.IsWhole) (arg7 : Memref sig .tc .vmem S4x2x16x1024 .f32) (harg7 : arg7.IsWhole) (arg8 : Memref sig .tc .vmem S4x8x128 .f32) (harg8 : arg8.IsWhole) (arg9 : Memref sig .tc .vmem S4x8x128 .f32) (harg9 : arg9.IsWhole) (arg10 : Memref sig .tc .vmem S4x8x128 .f32) (harg10 : arg10.IsWhole) (arg11 : Memref sig .tc .vmem S4x8x128 .f32) (harg11 : arg11.IsWhole) (arg12 : Memref sig .tc .vmem S4x8x128 .f32) (harg12 : arg12.IsWhole) (arg13 : Memref sig .tc .vmem S4x8x128 .f32) (harg13 : arg13.IsWhole) (arg14 : Memref sig .tc .vmem S4x8x128 .f32) (harg14 : arg14.IsWhole) (arg15 : Memref sig .tc .vmem S4x8x128 .f32) (harg15 : arg15.IsWhole) (arg16 : Memref sig .tc .vmem S4x2x4x128x128 .f32) (harg16 : arg16.IsWhole) (arg17 : Memref sig .tc .vmem S4x2x4x128 .f32) (harg17 : arg17.IsWhole) (arg18 : Memref sig .tc .vmem S4x2x1024 .f32) (harg18 : arg18.IsWhole) (arg19 : Memref sig .tc .vmem S4x1x1024 .f32) (harg19 : arg19.IsWhole) (arg20 : Memref sig .tc .vmem S4x8x128 .f32) (harg20 : arg20.IsWhole) (arg21 : Memref sig .tc .vmem S2x1024 .f32) (harg21 : arg21.IsWhole) (arg22 : Memref sig .tc .vmem S2x16x64 .f32) (harg22 : arg22.IsWhole) (arg23 : Memref sig .tc .vmem S2x16x64 .f32) (harg23 : arg23.IsWhole) (arg24 : Memref sig .tc .vmem S2x16x1024 .f32) (harg24 : arg24.IsWhole) (arg25 : Memref sig .tc .vmem S2x16x1024 .f32) (harg25 : arg25.IsWhole) (arg26 : Memref sig .tc .vmem S2x16x1024 .f32) (harg26 : arg26.IsWhole) (arg27 : Memref sig .tc .vmem S2x16x1024 .f32) (harg27 : arg27.IsWhole) (arg28 : Memref sig .tc .vmem S8x128 .f32) (harg28 : arg28.IsWhole) (arg29 : Memref sig .tc .vmem S8x128 .f32) (harg29 : arg29.IsWhole) (arg30 : Memref sig .tc .vmem S8x128 .f32) (harg30 : arg30.IsWhole) (arg31 : Memref sig .tc .vmem S8x128 .f32) (harg31 : arg31.IsWhole) (arg32 : Memref sig .tc .vmem S8x128 .f32) (harg32 : arg32.IsWhole) (arg33 : Memref sig .tc .vmem S8x128 .f32) (harg33 : arg33.IsWhole) (arg34 : Memref sig .tc .vmem S8x128 .f32) (harg34 : arg34.IsWhole) (arg35 : Memref sig .tc .vmem S8x128 .f32) (harg35 : arg35.IsWhole) (arg36 : Memref sig .tc .vmem S2x4x128x128 .f32) (harg36 : arg36.IsWhole) (arg37 : Memref sig .tc .vmem S2x4x128 .f32) (harg37 : arg37.IsWhole) (arg38 : Memref sig .tc .vmem S2x1024 .f32) (harg38 : arg38.IsWhole) (arg39 : Memref sig .tc .vmem S1x1024 .f32) (harg39 : arg39.IsWhole) (arg40 : Memref sig .tc .vmem S8x128 .f32) (harg40 : arg40.IsWhole) (arg41 : Memref sig .tc .vmem S2x1024 .f32) (harg41 : arg41.IsWhole) (arg42 : Memref sig .tc .vmem S2x16x64 .f32) (harg42 : arg42.IsWhole) (arg43 : Memref sig .tc .vmem S2x16x64 .f32) (harg43 : arg43.IsWhole) (arg44 : Memref sig .tc .vmem S2x16x1024 .f32) (harg44 : arg44.IsWhole) (arg45 : Memref sig .tc .vmem S2x16x1024 .f32) (harg45 : arg45.IsWhole) (arg46 : Memref sig .tc .vmem S2x16x1024 .f32) (harg46 : arg46.IsWhole) (arg47 : Memref sig .tc .vmem S2x16x1024 .f32) (harg47 : arg47.IsWhole) (arg48 : Memref sig .tc .vmem S8x128 .f32) (harg48 : arg48.IsWhole) (arg49 : Memref sig .tc .vmem S8x128 .f32) (harg49 : arg49.IsWhole) (arg50 : Memref sig .tc .vmem S8x128 .f32) (harg50 : arg50.IsWhole) (arg51 : Memref sig .tc .vmem S8x128 .f32) (harg51 : arg51.IsWhole) (arg52 : Memref sig .tc .vmem S8x128 .f32) (harg52 : arg52.IsWhole) (arg53 : Memref sig .tc .vmem S8x128 .f32) (harg53 : arg53.IsWhole) (arg54 : Memref sig .tc .vmem S8x128 .f32) (harg54 : arg54.IsWhole) (arg55 : Memref sig .tc .vmem S8x128 .f32) (harg55 : arg55.IsWhole) (arg56 : Memref sig .tc .vmem S2x4x128x128 .f32) (harg56 : arg56.IsWhole) (arg57 : Memref sig .tc .vmem S2x4x128 .f32) (harg57 : arg57.IsWhole) (arg58 : Memref sig .tc .vmem S2x1024 .f32) (harg58 : arg58.IsWhole) (arg59 : Memref sig .tc .vmem S1x1024 .f32) (harg59 : arg59.IsWhole) (arg60 : Memref sig .tc .vmem S8x128 .f32) (harg60 : arg60.IsWhole)
    (x0 : Vec F S1 .i32) (x1 : Vec F S4x2x1024 .f32) (x2 : Vec F S4x2x16x64 .f32) (x3 : Vec F S4x2x16x64 .f32) (x4 : Vec F S4x2x16x1024 .f32) (x5 : Vec F S4x2x16x1024 .f32) (x6 : Vec F S4x2x16x1024 .f32) (x7 : Vec F S4x2x16x1024 .f32) (x8 : Vec F S4x8x128 .f32) (x9 : Vec F S4x8x128 .f32) (x10 : Vec F S4x8x128 .f32) (x11 : Vec F S4x8x128 .f32) (x12 : Vec F S4x8x128 .f32) (x13 : Vec F S4x8x128 .f32) (x14 : Vec F S4x8x128 .f32) (x15 : Vec F S4x8x128 .f32) (x16 : Vec F S4x2x4x128x128 .f32) (x17 : Vec F S4x2x4x128 .f32) (x18 : Vec F S4x2x1024 .f32) (x19 : Vec F S4x1x1024 .f32) (x20 : Vec F S4x8x128 .f32) (x21 : Vec F S2x1024 .f32) (x22 : Vec F S2x16x64 .f32) (x23 : Vec F S2x16x64 .f32) (x24 : Vec F S2x16x1024 .f32) (x25 : Vec F S2x16x1024 .f32) (x26 : Vec F S2x16x1024 .f32) (x27 : Vec F S2x16x1024 .f32) (x28 : Vec F S8x128 .f32) (x29 : Vec F S8x128 .f32) (x30 : Vec F S8x128 .f32) (x31 : Vec F S8x128 .f32) (x32 : Vec F S8x128 .f32) (x33 : Vec F S8x128 .f32) (x34 : Vec F S8x128 .f32) (x35 : Vec F S8x128 .f32) (x36 : Vec F S2x4x128x128 .f32) (x37 : Vec F S2x4x128 .f32) (x38 : Vec F S2x1024 .f32) (x39 : Vec F S1x1024 .f32) (x40 : Vec F S8x128 .f32) :
    Σ' (L41 : List (View.Piece (Elt F) S2x1024 .f32)), Σ' (L42 : List (View.Piece (Elt F) S2x16x64 .f32)), Σ' (L43 : List (View.Piece (Elt F) S2x16x64 .f32)), Σ' (L44 : List (View.Piece (Elt F) S2x16x1024 .f32)), Σ' (L45 : List (View.Piece (Elt F) S2x16x1024 .f32)), Σ' (L46 : List (View.Piece (Elt F) S2x16x1024 .f32)), Σ' (L47 : List (View.Piece (Elt F) S2x16x1024 .f32)), Σ' (L48 : List (View.Piece (Elt F) S8x128 .f32)), Σ' (L49 : List (View.Piece (Elt F) S8x128 .f32)), Σ' (L50 : List (View.Piece (Elt F) S8x128 .f32)), Σ' (L51 : List (View.Piece (Elt F) S8x128 .f32)), Σ' (L52 : List (View.Piece (Elt F) S8x128 .f32)), Σ' (L53 : List (View.Piece (Elt F) S8x128 .f32)), Σ' (L54 : List (View.Piece (Elt F) S8x128 .f32)), Σ' (L55 : List (View.Piece (Elt F) S8x128 .f32)), Σ' (L56 : List (View.Piece (Elt F) S2x4x128x128 .f32)), Σ' (L57 : List (View.Piece (Elt F) S2x4x128 .f32)), Σ' (L58 : List (View.Piece (Elt F) S2x1024 .f32)), Σ' (L59 : List (View.Piece (Elt F) S1x1024 .f32)), { L60 : List (View.Piece (Elt F) S8x128 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare x32 ∗ owns (c : Thread nD τ) arg33 fullShare x33 ∗ owns (c : Thread nD τ) arg34 fullShare x34 ∗ owns (c : Thread nD τ) arg35 fullShare x35 ∗ owns (c : Thread nD τ) arg36 fullShare x36 ∗ owns (c : Thread nD τ) arg37 fullShare x37 ∗ owns (c : Thread nD τ) arg38 fullShare x38 ∗ owns (c : Thread nD τ) arg39 fullShare x39 ∗ owns (c : Thread nD τ) arg40 fullShare x40 ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d) ∗ (∃ d, owns (c : Thread nD τ) arg48 fullShare d) ∗ (∃ d, owns (c : Thread nD τ) arg49 fullShare d) ∗ (∃ d, owns (c : Thread nD τ) arg50 fullShare d) ∗ (∃ d, owns (c : Thread nD τ) arg51 fullShare d) ∗ (∃ d, owns (c : Thread nD τ) arg52 fullShare d) ∗ (∃ d, owns (c : Thread nD τ) arg53 fullShare d) ∗ (∃ d, owns (c : Thread nD τ) arg54 fullShare d) ∗ (∃ d, owns (c : Thread nD τ) arg55 fullShare d) ∗ (∃ d, owns (c : Thread nD τ) arg56 fullShare d) ∗ (∃ d, owns (c : Thread nD τ) arg57 fullShare d) ∗ (∃ d, owns (c : Thread nD τ) arg58 fullShare d) ∗ (∃ d, owns (c : Thread nD τ) arg59 fullShare d) ∗ (∃ d, owns (c : Thread nD τ) arg60 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare x32 ∗ owns (c : Thread nD τ) arg33 fullShare x33 ∗ owns (c : Thread nD τ) arg34 fullShare x34 ∗ owns (c : Thread nD τ) arg35 fullShare x35 ∗ owns (c : Thread nD τ) arg36 fullShare x36 ∗ owns (c : Thread nD τ) arg37 fullShare x37 ∗ owns (c : Thread nD τ) arg38 fullShare x38 ∗ owns (c : Thread nD τ) arg39 fullShare x39 ∗ owns (c : Thread nD τ) arg40 fullShare x40 ∗ (∃ f, arg41.view.loc (c : Thread nD τ) ↦[arg41.view.set]{fullShare} arg41.view.writes (Elt F) f L41) ∗ (∃ f, arg42.view.loc (c : Thread nD τ) ↦[arg42.view.set]{fullShare} arg42.view.writes (Elt F) f L42) ∗ (∃ f, arg43.view.loc (c : Thread nD τ) ↦[arg43.view.set]{fullShare} arg43.view.writes (Elt F) f L43) ∗ (∃ f, arg44.view.loc (c : Thread nD τ) ↦[arg44.view.set]{fullShare} arg44.view.writes (Elt F) f L44) ∗ (∃ f, arg45.view.loc (c : Thread nD τ) ↦[arg45.view.set]{fullShare} arg45.view.writes (Elt F) f L45) ∗ (∃ f, arg46.view.loc (c : Thread nD τ) ↦[arg46.view.set]{fullShare} arg46.view.writes (Elt F) f L46) ∗ (∃ f, arg47.view.loc (c : Thread nD τ) ↦[arg47.view.set]{fullShare} arg47.view.writes (Elt F) f L47) ∗ (∃ f, arg48.view.loc (c : Thread nD τ) ↦[arg48.view.set]{fullShare} arg48.view.writes (Elt F) f L48) ∗ (∃ f, arg49.view.loc (c : Thread nD τ) ↦[arg49.view.set]{fullShare} arg49.view.writes (Elt F) f L49) ∗ (∃ f, arg50.view.loc (c : Thread nD τ) ↦[arg50.view.set]{fullShare} arg50.view.writes (Elt F) f L50) ∗ (∃ f, arg51.view.loc (c : Thread nD τ) ↦[arg51.view.set]{fullShare} arg51.view.writes (Elt F) f L51) ∗ (∃ f, arg52.view.loc (c : Thread nD τ) ↦[arg52.view.set]{fullShare} arg52.view.writes (Elt F) f L52) ∗ (∃ f, arg53.view.loc (c : Thread nD τ) ↦[arg53.view.set]{fullShare} arg53.view.writes (Elt F) f L53) ∗ (∃ f, arg54.view.loc (c : Thread nD τ) ↦[arg54.view.set]{fullShare} arg54.view.writes (Elt F) f L54) ∗ (∃ f, arg55.view.loc (c : Thread nD τ) ↦[arg55.view.set]{fullShare} arg55.view.writes (Elt F) f L55) ∗ (∃ f, arg56.view.loc (c : Thread nD τ) ↦[arg56.view.set]{fullShare} arg56.view.writes (Elt F) f L56) ∗ (∃ f, arg57.view.loc (c : Thread nD τ) ↦[arg57.view.set]{fullShare} arg57.view.writes (Elt F) f L57) ∗ (∃ f, arg58.view.loc (c : Thread nD τ) ↦[arg58.view.set]{fullShare} arg58.view.writes (Elt F) f L58) ∗ (∃ f, arg59.view.loc (c : Thread nD τ) ↦[arg59.view.set]{fullShare} arg59.view.writes (Elt F) f L59) ∗ (∃ f, arg60.view.loc (c : Thread nD τ) ↦[arg60.view.set]{fullShare} arg60.view.writes (Elt F) f L60)) -∗ K ⟨⟩))
          ⊢ wp frame (wpE (defs₀ (F := F)) Variants.none c none) E (cc0_sum_replicated arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60) K } := by
  refine ⟨?_, ?_, ?_, ?_, ?_, ?_, ?_, ?_, ?_, ?_, ?_, ?_, ?_, ?_, ?_, ?_, ?_, ?_, ?_, ?_, fun E K => ?run⟩
  case run =>
    simp only [cc0_sum_replicated_eq_skeleton]; unfold cc0_sum_replicated_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, ⟨%f37, %hf37, H37⟩, ⟨%f38, %hf38, H38⟩, ⟨%f39, %hf39, H39⟩, ⟨%f40, %hf40, H40⟩, ⟨%d41, %f41, -, H41⟩, ⟨%d42, %f42, -, H42⟩, ⟨%d43, %f43, -, H43⟩, ⟨%d44, %f44, -, H44⟩, ⟨%d45, %f45, -, H45⟩, ⟨%d46, %f46, -, H46⟩, ⟨%d47, %f47, -, H47⟩, ⟨%d48, %f48, -, H48⟩, ⟨%d49, %f49, -, H49⟩, ⟨%d50, %f50, -, H50⟩, ⟨%d51, %f51, -, H51⟩, ⟨%d52, %f52, -, H52⟩, ⟨%d53, %f53, -, H53⟩, ⟨%d54, %f54, -, H54⟩, ⟨%d55, %f55, -, H55⟩, ⟨%d56, %f56, -, H56⟩, ⟨%d57, %f57, -, H57⟩, ⟨%d58, %f58, -, H58⟩, ⟨%d59, %f59, -, H59⟩, ⟨%d60, %f60, -, H60⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23; obtain rfl := harg24.eq_unread hf24; obtain rfl := harg25.eq_unread hf25; obtain rfl := harg26.eq_unread hf26; obtain rfl := harg27.eq_unread hf27; obtain rfl := harg28.eq_unread hf28; obtain rfl := harg29.eq_unread hf29; obtain rfl := harg30.eq_unread hf30; obtain rfl := harg31.eq_unread hf31; obtain rfl := harg32.eq_unread hf32; obtain rfl := harg33.eq_unread hf33; obtain rfl := harg34.eq_unread hf34; obtain rfl := harg35.eq_unread hf35; obtain rfl := harg36.eq_unread hf36; obtain rfl := harg37.eq_unread hf37; obtain rfl := harg38.eq_unread hf38; obtain rfl := harg39.eq_unread hf39; obtain rfl := harg40.eq_unread hf40
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H19]
    · iexists _; isplitr; · ipureintro; exact harg19.read_unread _
      iexact H19
    isplitl [H20]
    · iexists _; isplitr; · ipureintro; exact harg20.read_unread _
      iexact H20
    isplitl [H21]
    · iexists _; isplitr; · ipureintro; exact harg21.read_unread _
      iexact H21
    isplitl [H22]
    · iexists _; isplitr; · ipureintro; exact harg22.read_unread _
      iexact H22
    isplitl [H23]
    · iexists _; isplitr; · ipureintro; exact harg23.read_unread _
      iexact H23
    isplitl [H24]
    · iexists _; isplitr; · ipureintro; exact harg24.read_unread _
      iexact H24
    isplitl [H25]
    · iexists _; isplitr; · ipureintro; exact harg25.read_unread _
      iexact H25
    isplitl [H26]
    · iexists _; isplitr; · ipureintro; exact harg26.read_unread _
      iexact H26
    isplitl [H27]
    · iexists _; isplitr; · ipureintro; exact harg27.read_unread _
      iexact H27
    isplitl [H28]
    · iexists _; isplitr; · ipureintro; exact harg28.read_unread _
      iexact H28
    isplitl [H29]
    · iexists _; isplitr; · ipureintro; exact harg29.read_unread _
      iexact H29
    isplitl [H30]
    · iexists _; isplitr; · ipureintro; exact harg30.read_unread _
      iexact H30
    isplitl [H31]
    · iexists _; isplitr; · ipureintro; exact harg31.read_unread _
      iexact H31
    isplitl [H32]
    · iexists _; isplitr; · ipureintro; exact harg32.read_unread _
      iexact H32
    isplitl [H33]
    · iexists _; isplitr; · ipureintro; exact harg33.read_unread _
      iexact H33
    isplitl [H34]
    · iexists _; isplitr; · ipureintro; exact harg34.read_unread _
      iexact H34
    isplitl [H35]
    · iexists _; isplitr; · ipureintro; exact harg35.read_unread _
      iexact H35
    isplitl [H36]
    · iexists _; isplitr; · ipureintro; exact harg36.read_unread _
      iexact H36
    isplitl [H37]
    · iexists _; isplitr; · ipureintro; exact harg37.read_unread _
      iexact H37
    isplitl [H38]
    · iexists _; isplitr; · ipureintro; exact harg38.read_unread _
      iexact H38
    isplitl [H39]
    · iexists _; isplitr; · ipureintro; exact harg39.read_unread _
      iexact H39
    isplitl [H40]
    · iexists _; isplitr; · ipureintro; exact harg40.read_unread _
      iexact H40
    isplitl [H41]; · iexists _; iexact H41
    isplitl [H42]; · iexists _; iexact H42
    isplitl [H43]; · iexists _; iexact H43
    isplitl [H44]; · iexists _; iexact H44
    isplitl [H45]; · iexists _; iexact H45
    isplitl [H46]; · iexists _; iexact H46
    isplitl [H47]; · iexists _; iexact H47
    isplitl [H48]; · iexists _; iexact H48
    isplitl [H49]; · iexists _; iexact H49
    isplitl [H50]; · iexists _; iexact H50
    isplitl [H51]; · iexists _; iexact H51
    isplitl [H52]; · iexists _; iexact H52
    isplitl [H53]; · iexists _; iexact H53
    isplitl [H54]; · iexists _; iexact H54
    isplitl [H55]; · iexists _; iexact H55
    isplitl [H56]; · iexists _; iexact H56
    isplitl [H57]; · iexists _; iexact H57
    isplitl [H58]; · iexists _; iexact H58
    isplitl [H59]; · iexists _; iexact H59
    iexists _; iexact H60

end Cert.Kernel20Ideal.Gen

end
-- ==== Proof.Sum.Frame.lean ====
module

public import proofs.«01_k».proof.Proof.Sum.RunA
public import Idealize.ShloMosaic.Lib.Claim

@[expose] public section

/-! What the kernel that adds the chips' partial sums leaves in its result arrays, and that it ends: the run of
    its body (`kernelRun0_A`) at the one point of its grid, the proof data of its pipeline, and the launch. -/

set_option maxRecDepth 16384

noncomputable section

namespace Cert.Kernel20Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run of the body at a point's staging buffers and input blocks. -/
abbrev runAt (c : Dev nD) (t : Fin cfg0.N) :=
  kernelRun0_A c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) (ms0_38 t) (hs0_38 t) (ms0_39 t) (hs0_39 t) (ms0_40 t) (hs0_40 t) (ms0_41 t) (hs0_41 t) (ms0_42 t) (hs0_42 t) (ms0_43 t) (hs0_43 t) (ms0_44 t) (hs0_44 t) (ms0_45 t) (hs0_45 t) (ms0_46 t) (hs0_46 t) (ms0_47 t) (hs0_47 t) (ms0_48 t) (hs0_48 t) (ms0_49 t) (hs0_49 t) (ms0_50 t) (hs0_50 t) (ms0_51 t) (hs0_51 t) (ms0_52 t) (hs0_52 t) (ms0_53 t) (hs0_53 t) (ms0_54 t) (hs0_54 t) (ms0_55 t) (hs0_55 t) (ms0_56 t) (hs0_56 t) (ms0_57 t) (hs0_57 t) (ms0_58 t) (hs0_58 t) (ms0_59 t) (hs0_59 t) (ms0_60 t) (hs0_60 t)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) (iblk m c 37 t) (iblk m c 38 t) (iblk m c 39 t) (iblk m c 40 t)

/-! The one store into each output covers its block, and what it leaves there. -/

theorem cover_41 (c : Dev nD) (t : Fin cfg0.N) (y : S2x1024.Idx) : ∃ pc ∈ (runAt m c t).1, y ∈ pc.1.set :=
  View.cover_of_tiledL (runAt m c t).1 S2x1024.size (by sl_kernel_rfl) y
def out_41 (c : Dev nD) (t : Fin cfg0.N) : Vec F S2x1024 .f32 :=
  VO0_41.read (Elt F) (VO0_41.writes (Elt F) VO0_41.junk (runAt m c t).1)
theorem cover_42 (c : Dev nD) (t : Fin cfg0.N) (y : S2x16x64.Idx) : ∃ pc ∈ (runAt m c t).2.1, y ∈ pc.1.set :=
  View.cover_of_tiledL (runAt m c t).2.1 S2x16x64.size (by sl_kernel_rfl) y
def out_42 (c : Dev nD) (t : Fin cfg0.N) : Vec F S2x16x64 .f32 :=
  VO0_42.read (Elt F) (VO0_42.writes (Elt F) VO0_42.junk (runAt m c t).2.1)
theorem cover_43 (c : Dev nD) (t : Fin cfg0.N) (y : S2x16x64.Idx) : ∃ pc ∈ (runAt m c t).2.2.1, y ∈ pc.1.set :=
  View.cover_of_tiledL (runAt m c t).2.2.1 S2x16x64.size (by sl_kernel_rfl) y
def out_43 (c : Dev nD) (t : Fin cfg0.N) : Vec F S2x16x64 .f32 :=
  VO0_43.read (Elt F) (VO0_43.writes (Elt F) VO0_43.junk (runAt m c t).2.2.1)
theorem cover_44 (c : Dev nD) (t : Fin cfg0.N) (y : S2x16x1024.Idx) : ∃ pc ∈ (runAt m c t).2.2.2.1, y ∈ pc.1.set :=
  View.cover_of_tiledL (runAt m c t).2.2.2.1 S2x16x1024.size (by sl_kernel_rfl) y
def out_44 (c : Dev nD) (t : Fin cfg0.N) : Vec F S2x16x1024 .f32 :=
  VO0_44.read (Elt F) (VO0_44.writes (Elt F) VO0_44.junk (runAt m c t).2.2.2.1)
theorem cover_45 (c : Dev nD) (t : Fin cfg0.N) (y : S2x16x1024.Idx) : ∃ pc ∈ (runAt m c t).2.2.2.2.1, y ∈ pc.1.set :=
  View.cover_of_tiledL (runAt m c t).2.2.2.2.1 S2x16x1024.size (by sl_kernel_rfl) y
def out_45 (c : Dev nD) (t : Fin cfg0.N) : Vec F S2x16x1024 .f32 :=
  VO0_45.read (Elt F) (VO0_45.writes (Elt F) VO0_45.junk (runAt m c t).2.2.2.2.1)
theorem cover_46 (c : Dev nD) (t : Fin cfg0.N) (y : S2x16x1024.Idx) : ∃ pc ∈ (runAt m c t).2.2.2.2.2.1, y ∈ pc.1.set :=
  View.cover_of_tiledL (runAt m c t).2.2.2.2.2.1 S2x16x1024.size (by sl_kernel_rfl) y
def out_46 (c : Dev nD) (t : Fin cfg0.N) : Vec F S2x16x1024 .f32 :=
  VO0_46.read (Elt F) (VO0_46.writes (Elt F) VO0_46.junk (runAt m c t).2.2.2.2.2.1)
theorem cover_47 (c : Dev nD) (t : Fin cfg0.N) (y : S2x16x1024.Idx) : ∃ pc ∈ (runAt m c t).2.2.2.2.2.2.1, y ∈ pc.1.set :=
  View.cover_of_tiledL (runAt m c t).2.2.2.2.2.2.1 S2x16x1024.size (by sl_kernel_rfl) y
def out_47 (c : Dev nD) (t : Fin cfg0.N) : Vec F S2x16x1024 .f32 :=
  VO0_47.read (Elt F) (VO0_47.writes (Elt F) VO0_47.junk (runAt m c t).2.2.2.2.2.2.1)
theorem cover_48 (c : Dev nD) (t : Fin cfg0.N) (y : S8x128.Idx) : ∃ pc ∈ (runAt m c t).2.2.2.2.2.2.2.1, y ∈ pc.1.set :=
  View.cover_of_tiledL (runAt m c t).2.2.2.2.2.2.2.1 S8x128.size (by sl_kernel_rfl) y
def out_48 (c : Dev nD) (t : Fin cfg0.N) : Vec F S8x128 .f32 :=
  VO0_48.read (Elt F) (VO0_48.writes (Elt F) VO0_48.junk (runAt m c t).2.2.2.2.2.2.2.1)
theorem cover_49 (c : Dev nD) (t : Fin cfg0.N) (y : S8x128.Idx) : ∃ pc ∈ (runAt m c t).2.2.2.2.2.2.2.2.1, y ∈ pc.1.set :=
  View.cover_of_tiledL (runAt m c t).2.2.2.2.2.2.2.2.1 S8x128.size (by sl_kernel_rfl) y
def out_49 (c : Dev nD) (t : Fin cfg0.N) : Vec F S8x128 .f32 :=
  VO0_49.read (Elt F) (VO0_49.writes (Elt F) VO0_49.junk (runAt m c t).2.2.2.2.2.2.2.2.1)
theorem cover_50 (c : Dev nD) (t : Fin cfg0.N) (y : S8x128.Idx) : ∃ pc ∈ (runAt m c t).2.2.2.2.2.2.2.2.2.1, y ∈ pc.1.set :=
  View.cover_of_tiledL (runAt m c t).2.2.2.2.2.2.2.2.2.1 S8x128.size (by sl_kernel_rfl) y
def out_50 (c : Dev nD) (t : Fin cfg0.N) : Vec F S8x128 .f32 :=
  VO0_50.read (Elt F) (VO0_50.writes (Elt F) VO0_50.junk (runAt m c t).2.2.2.2.2.2.2.2.2.1)
theorem cover_51 (c : Dev nD) (t : Fin cfg0.N) (y : S8x128.Idx) : ∃ pc ∈ (runAt m c t).2.2.2.2.2.2.2.2.2.2.1, y ∈ pc.1.set :=
  View.cover_of_tiledL (runAt m c t).2.2.2.2.2.2.2.2.2.2.1 S8x128.size (by sl_kernel_rfl) y
def out_51 (c : Dev nD) (t : Fin cfg0.N) : Vec F S8x128 .f32 :=
  VO0_51.read (Elt F) (VO0_51.writes (Elt F) VO0_51.junk (runAt m c t).2.2.2.2.2.2.2.2.2.2.1)
theorem cover_52 (c : Dev nD) (t : Fin cfg0.N) (y : S8x128.Idx) : ∃ pc ∈ (runAt m c t).2.2.2.2.2.2.2.2.2.2.2.1, y ∈ pc.1.set :=
  View.cover_of_tiledL (runAt m c t).2.2.2.2.2.2.2.2.2.2.2.1 S8x128.size (by sl_kernel_rfl) y
def out_52 (c : Dev nD) (t : Fin cfg0.N) : Vec F S8x128 .f32 :=
  VO0_52.read (Elt F) (VO0_52.writes (Elt F) VO0_52.junk (runAt m c t).2.2.2.2.2.2.2.2.2.2.2.1)
theorem cover_53 (c : Dev nD) (t : Fin cfg0.N) (y : S8x128.Idx) : ∃ pc ∈ (runAt m c t).2.2.2.2.2.2.2.2.2.2.2.2.1, y ∈ pc.1.set :=
  View.cover_of_tiledL (runAt m c t).2.2.2.2.2.2.2.2.2.2.2.2.1 S8x128.size (by sl_kernel_rfl) y
def out_53 (c : Dev nD) (t : Fin cfg0.N) : Vec F S8x128 .f32 :=
  VO0_53.read (Elt F) (VO0_53.writes (Elt F) VO0_53.junk (runAt m c t).2.2.2.2.2.2.2.2.2.2.2.2.1)
theorem cover_54 (c : Dev nD) (t : Fin cfg0.N) (y : S8x128.Idx) : ∃ pc ∈ (runAt m c t).2.2.2.2.2.2.2.2.2.2.2.2.2.1, y ∈ pc.1.set :=
  View.cover_of_tiledL (runAt m c t).2.2.2.2.2.2.2.2.2.2.2.2.2.1 S8x128.size (by sl_kernel_rfl) y
def out_54 (c : Dev nD) (t : Fin cfg0.N) : Vec F S8x128 .f32 :=
  VO0_54.read (Elt F) (VO0_54.writes (Elt F) VO0_54.junk (runAt m c t).2.2.2.2.2.2.2.2.2.2.2.2.2.1)
theorem cover_55 (c : Dev nD) (t : Fin cfg0.N) (y : S8x128.Idx) : ∃ pc ∈ (runAt m c t).2.2.2.2.2.2.2.2.2.2.2.2.2.2.1, y ∈ pc.1.set :=
  View.cover_of_tiledL (runAt m c t).2.2.2.2.2.2.2.2.2.2.2.2.2.2.1 S8x128.size (by sl_kernel_rfl) y
def out_55 (c : Dev nD) (t : Fin cfg0.N) : Vec F S8x128 .f32 :=
  VO0_55.read (Elt F) (VO0_55.writes (Elt F) VO0_55.junk (runAt m c t).2.2.2.2.2.2.2.2.2.2.2.2.2.2.1)
theorem cover_56 (c : Dev nD) (t : Fin cfg0.N) (y : S2x4x128x128.Idx) : ∃ pc ∈ (runAt m c t).2.2.2.2.2.2.2.2.2.2.2.2.2.2.2.1, y ∈ pc.1.set :=
  View.cover_of_tiledL (runAt m c t).2.2.2.2.2.2.2.2.2.2.2.2.2.2.2.1 S2x4x128x128.size (by sl_kernel_rfl) y
def out_56 (c : Dev nD) (t : Fin cfg0.N) : Vec F S2x4x128x128 .f32 :=
  VO0_56.read (Elt F) (VO0_56.writes (Elt F) VO0_56.junk (runAt m c t).2.2.2.2.2.2.2.2.2.2.2.2.2.2.2.1)
theorem cover_57 (c : Dev nD) (t : Fin cfg0.N) (y : S2x4x128.Idx) : ∃ pc ∈ (runAt m c t).2.2.2.2.2.2.2.2.2.2.2.2.2.2.2.2.1, y ∈ pc.1.set :=
  View.cover_of_tiledL (runAt m c t).2.2.2.2.2.2.2.2.2.2.2.2.2.2.2.2.1 S2x4x128.size (by sl_kernel_rfl) y
def out_57 (c : Dev nD) (t : Fin cfg0.N) : Vec F S2x4x128 .f32 :=
  VO0_57.read (Elt F) (VO0_57.writes (Elt F) VO0_57.junk (runAt m c t).2.2.2.2.2.2.2.2.2.2.2.2.2.2.2.2.1)
theorem cover_58 (c : Dev nD) (t : Fin cfg0.N) (y : S2x1024.Idx) : ∃ pc ∈ (runAt m c t).2.2.2.2.2.2.2.2.2.2.2.2.2.2.2.2.2.1, y ∈ pc.1.set :=
  View.cover_of_tiledL (runAt m c t).2.2.2.2.2.2.2.2.2.2.2.2.2.2.2.2.2.1 S2x1024.size (by sl_kernel_rfl) y
def out_58 (c : Dev nD) (t : Fin cfg0.N) : Vec F S2x1024 .f32 :=
  VO0_58.read (Elt F) (VO0_58.writes (Elt F) VO0_58.junk (runAt m c t).2.2.2.2.2.2.2.2.2.2.2.2.2.2.2.2.2.1)
theorem cover_59 (c : Dev nD) (t : Fin cfg0.N) (y : S1x1024.Idx) : ∃ pc ∈ (runAt m c t).2.2.2.2.2.2.2.2.2.2.2.2.2.2.2.2.2.2.1, y ∈ pc.1.set :=
  View.cover_of_tiledL (runAt m c t).2.2.2.2.2.2.2.2.2.2.2.2.2.2.2.2.2.2.1 S1x1024.size (by sl_kernel_rfl) y
def out_59 (c : Dev nD) (t : Fin cfg0.N) : Vec F S1x1024 .f32 :=
  VO0_59.read (Elt F) (VO0_59.writes (Elt F) VO0_59.junk (runAt m c t).2.2.2.2.2.2.2.2.2.2.2.2.2.2.2.2.2.2.1)
theorem cover_60 (c : Dev nD) (t : Fin cfg0.N) (y : S8x128.Idx) : ∃ pc ∈ (runAt m c t).2.2.2.2.2.2.2.2.2.2.2.2.2.2.2.2.2.2.2.1, y ∈ pc.1.set :=
  View.cover_of_tiledL (runAt m c t).2.2.2.2.2.2.2.2.2.2.2.2.2.2.2.2.2.2.2.1 S8x128.size (by sl_kernel_rfl) y
def out_60 (c : Dev nD) (t : Fin cfg0.N) : Vec F S8x128 .f32 :=
  VO0_60.read (Elt F) (VO0_60.writes (Elt F) VO0_60.junk (runAt m c t).2.2.2.2.2.2.2.2.2.2.2.2.2.2.2.2.2.2.2.1)

/-- The proof data of the pipeline: the arrays as it finds them; after the body each input's buffer at its block and
    each output's at what the run leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => iblk m c 34 t
    | ⟨35, _⟩ => iblk m c 35 t
    | ⟨36, _⟩ => iblk m c 36 t
    | ⟨37, _⟩ => iblk m c 37 t
    | ⟨38, _⟩ => iblk m c 38 t
    | ⟨39, _⟩ => iblk m c 39 t
    | ⟨40, _⟩ => iblk m c 40 t
    | ⟨41, _⟩ => out_41 m c t
    | ⟨42, _⟩ => out_42 m c t
    | ⟨43, _⟩ => out_43 m c t
    | ⟨44, _⟩ => out_44 m c t
    | ⟨45, _⟩ => out_45 m c t
    | ⟨46, _⟩ => out_46 m c t
    | ⟨47, _⟩ => out_47 m c t
    | ⟨48, _⟩ => out_48 m c t
    | ⟨49, _⟩ => out_49 m c t
    | ⟨50, _⟩ => out_50 m c t
    | ⟨51, _⟩ => out_51 m c t
    | ⟨52, _⟩ => out_52 m c t
    | ⟨53, _⟩ => out_53 m c t
    | ⟨54, _⟩ => out_54 m c t
    | ⟨55, _⟩ => out_55 m c t
    | ⟨56, _⟩ => out_56 m c t
    | ⟨57, _⟩ => out_57 m c t
    | ⟨58, _⟩ => out_58 m c t
    | ⟨59, _⟩ => out_59 m c t
    | ⟨60, _⟩ => out_60 m c t
    | ⟨_ + 61, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem before_0 (c : Dev nD) (t : Fin cfg0.N) (d) : (dats m 0 c).before 0 t d = iblk m c 0 t :=
  before0_0_of m (dats m 0 c) (A_eq m c 0) (fun t => by dsimp only [dats]) t d
theorem before_1 (c : Dev nD) (t : Fin cfg0.N) (d) : (dats m 0 c).before 1 t d = iblk m c 1 t :=
  before0_1_of m (dats m 0 c) (A_eq m c 1) (fun t => by dsimp only [dats]) t d
theorem before_2 (c : Dev nD) (t : Fin cfg0.N) (d) : (dats m 0 c).before 2 t d = iblk m c 2 t :=
  before0_2_of m (dats m 0 c) (A_eq m c 2) (fun t => by dsimp only [dats]) t d
theorem before_3 (c : Dev nD) (t : Fin cfg0.N) (d) : (dats m 0 c).before 3 t d = iblk m c 3 t :=
  before0_3_of m (dats m 0 c) (A_eq m c 3) (fun t => by dsimp only [dats]) t d
theorem before_4 (c : Dev nD) (t : Fin cfg0.N) (d) : (dats m 0 c).before 4 t d = iblk m c 4 t :=
  before0_4_of m (dats m 0 c) (A_eq m c 4) (fun t => by dsimp only [dats]) t d
theorem before_5 (c : Dev nD) (t : Fin cfg0.N) (d) : (dats m 0 c).before 5 t d = iblk m c 5 t :=
  before0_5_of m (dats m 0 c) (A_eq m c 5) (fun t => by dsimp only [dats]) t d
theorem before_6 (c : Dev nD) (t : Fin cfg0.N) (d) : (dats m 0 c).before 6 t d = iblk m c 6 t :=
  before0_6_of m (dats m 0 c) (A_eq m c 6) (fun t => by dsimp only [dats]) t d
theorem before_7 (c : Dev nD) (t : Fin cfg0.N) (d) : (dats m 0 c).before 7 t d = iblk m c 7 t :=
  before0_7_of m (dats m 0 c) (A_eq m c 7) (fun t => by dsimp only [dats]) t d
theorem before_8 (c : Dev nD) (t : Fin cfg0.N) (d) : (dats m 0 c).before 8 t d = iblk m c 8 t :=
  before0_8_of m (dats m 0 c) (A_eq m c 8) (fun t => by dsimp only [dats]) t d
theorem before_9 (c : Dev nD) (t : Fin cfg0.N) (d) : (dats m 0 c).before 9 t d = iblk m c 9 t :=
  before0_9_of m (dats m 0 c) (A_eq m c 9) (fun t => by dsimp only [dats]) t d
theorem before_10 (c : Dev nD) (t : Fin cfg0.N) (d) : (dats m 0 c).before 10 t d = iblk m c 10 t :=
  before0_10_of m (dats m 0 c) (A_eq m c 10) (fun t => by dsimp only [dats]) t d
theorem before_11 (c : Dev nD) (t : Fin cfg0.N) (d) : (dats m 0 c).before 11 t d = iblk m c 11 t :=
  before0_11_of m (dats m 0 c) (A_eq m c 11) (fun t => by dsimp only [dats]) t d
theorem before_12 (c : Dev nD) (t : Fin cfg0.N) (d) : (dats m 0 c).before 12 t d = iblk m c 12 t :=
  before0_12_of m (dats m 0 c) (A_eq m c 12) (fun t => by dsimp only [dats]) t d
theorem before_13 (c : Dev nD) (t : Fin cfg0.N) (d) : (dats m 0 c).before 13 t d = iblk m c 13 t :=
  before0_13_of m (dats m 0 c) (A_eq m c 13) (fun t => by dsimp only [dats]) t d
theorem before_14 (c : Dev nD) (t : Fin cfg0.N) (d) : (dats m 0 c).before 14 t d = iblk m c 14 t :=
  before0_14_of m (dats m 0 c) (A_eq m c 14) (fun t => by dsimp only [dats]) t d
theorem before_15 (c : Dev nD) (t : Fin cfg0.N) (d) : (dats m 0 c).before 15 t d = iblk m c 15 t :=
  before0_15_of m (dats m 0 c) (A_eq m c 15) (fun t => by dsimp only [dats]) t d
theorem before_16 (c : Dev nD) (t : Fin cfg0.N) (d) : (dats m 0 c).before 16 t d = iblk m c 16 t :=
  before0_16_of m (dats m 0 c) (A_eq m c 16) (fun t => by dsimp only [dats]) t d
theorem before_17 (c : Dev nD) (t : Fin cfg0.N) (d) : (dats m 0 c).before 17 t d = iblk m c 17 t :=
  before0_17_of m (dats m 0 c) (A_eq m c 17) (fun t => by dsimp only [dats]) t d
theorem before_18 (c : Dev nD) (t : Fin cfg0.N) (d) : (dats m 0 c).before 18 t d = iblk m c 18 t :=
  before0_18_of m (dats m 0 c) (A_eq m c 18) (fun t => by dsimp only [dats]) t d
theorem before_19 (c : Dev nD) (t : Fin cfg0.N) (d) : (dats m 0 c).before 19 t d = iblk m c 19 t :=
  before0_19_of m (dats m 0 c) (A_eq m c 19) (fun t => by dsimp only [dats]) t d
theorem before_20 (c : Dev nD) (t : Fin cfg0.N) (d) : (dats m 0 c).before 20 t d = iblk m c 20 t :=
  before0_20_of m (dats m 0 c) (A_eq m c 20) (fun t => by dsimp only [dats]) t d
theorem before_21 (c : Dev nD) (t : Fin cfg0.N) (d) : (dats m 0 c).before 21 t d = iblk m c 21 t :=
  before0_21_of m (dats m 0 c) (A_eq m c 21) (fun t => by dsimp only [dats]) t d
theorem before_22 (c : Dev nD) (t : Fin cfg0.N) (d) : (dats m 0 c).before 22 t d = iblk m c 22 t :=
  before0_22_of m (dats m 0 c) (A_eq m c 22) (fun t => by dsimp only [dats]) t d
theorem before_23 (c : Dev nD) (t : Fin cfg0.N) (d) : (dats m 0 c).before 23 t d = iblk m c 23 t :=
  before0_23_of m (dats m 0 c) (A_eq m c 23) (fun t => by dsimp only [dats]) t d
theorem before_24 (c : Dev nD) (t : Fin cfg0.N) (d) : (dats m 0 c).before 24 t d = iblk m c 24 t :=
  before0_24_of m (dats m 0 c) (A_eq m c 24) (fun t => by dsimp only [dats]) t d
theorem before_25 (c : Dev nD) (t : Fin cfg0.N) (d) : (dats m 0 c).before 25 t d = iblk m c 25 t :=
  before0_25_of m (dats m 0 c) (A_eq m c 25) (fun t => by dsimp only [dats]) t d
theorem before_26 (c : Dev nD) (t : Fin cfg0.N) (d) : (dats m 0 c).before 26 t d = iblk m c 26 t :=
  before0_26_of m (dats m 0 c) (A_eq m c 26) (fun t => by dsimp only [dats]) t d
theorem before_27 (c : Dev nD) (t : Fin cfg0.N) (d) : (dats m 0 c).before 27 t d = iblk m c 27 t :=
  before0_27_of m (dats m 0 c) (A_eq m c 27) (fun t => by dsimp only [dats]) t d
theorem before_28 (c : Dev nD) (t : Fin cfg0.N) (d) : (dats m 0 c).before 28 t d = iblk m c 28 t :=
  before0_28_of m (dats m 0 c) (A_eq m c 28) (fun t => by dsimp only [dats]) t d
theorem before_29 (c : Dev nD) (t : Fin cfg0.N) (d) : (dats m 0 c).before 29 t d = iblk m c 29 t :=
  before0_29_of m (dats m 0 c) (A_eq m c 29) (fun t => by dsimp only [dats]) t d
theorem before_30 (c : Dev nD) (t : Fin cfg0.N) (d) : (dats m 0 c).before 30 t d = iblk m c 30 t :=
  before0_30_of m (dats m 0 c) (A_eq m c 30) (fun t => by dsimp only [dats]) t d
theorem before_31 (c : Dev nD) (t : Fin cfg0.N) (d) : (dats m 0 c).before 31 t d = iblk m c 31 t :=
  before0_31_of m (dats m 0 c) (A_eq m c 31) (fun t => by dsimp only [dats]) t d
theorem before_32 (c : Dev nD) (t : Fin cfg0.N) (d) : (dats m 0 c).before 32 t d = iblk m c 32 t :=
  before0_32_of m (dats m 0 c) (A_eq m c 32) (fun t => by dsimp only [dats]) t d
theorem before_33 (c : Dev nD) (t : Fin cfg0.N) (d) : (dats m 0 c).before 33 t d = iblk m c 33 t :=
  before0_33_of m (dats m 0 c) (A_eq m c 33) (fun t => by dsimp only [dats]) t d
theorem before_34 (c : Dev nD) (t : Fin cfg0.N) (d) : (dats m 0 c).before 34 t d = iblk m c 34 t :=
  before0_34_of m (dats m 0 c) (A_eq m c 34) (fun t => by dsimp only [dats]) t d
theorem before_35 (c : Dev nD) (t : Fin cfg0.N) (d) : (dats m 0 c).before 35 t d = iblk m c 35 t :=
  before0_35_of m (dats m 0 c) (A_eq m c 35) (fun t => by dsimp only [dats]) t d
theorem before_36 (c : Dev nD) (t : Fin cfg0.N) (d) : (dats m 0 c).before 36 t d = iblk m c 36 t :=
  before0_36_of m (dats m 0 c) (A_eq m c 36) (fun t => by dsimp only [dats]) t d
theorem before_37 (c : Dev nD) (t : Fin cfg0.N) (d) : (dats m 0 c).before 37 t d = iblk m c 37 t :=
  before0_37_of m (dats m 0 c) (A_eq m c 37) (fun t => by dsimp only [dats]) t d
theorem before_38 (c : Dev nD) (t : Fin cfg0.N) (d) : (dats m 0 c).before 38 t d = iblk m c 38 t :=
  before0_38_of m (dats m 0 c) (A_eq m c 38) (fun t => by dsimp only [dats]) t d
theorem before_39 (c : Dev nD) (t : Fin cfg0.N) (d) : (dats m 0 c).before 39 t d = iblk m c 39 t :=
  before0_39_of m (dats m 0 c) (A_eq m c 39) (fun t => by dsimp only [dats]) t d
theorem before_40 (c : Dev nD) (t : Fin cfg0.N) (d) : (dats m 0 c).before 40 t d = iblk m c 40 t :=
  before0_40_of m (dats m 0 c) (A_eq m c 40) (fun t => by dsimp only [dats]) t d
theorem after_41 (c : Dev nD) (t : Fin cfg0.N) : (dats m 0 c).after 41 t = out_41 m c t := by dsimp only [dats]
theorem after_42 (c : Dev nD) (t : Fin cfg0.N) : (dats m 0 c).after 42 t = out_42 m c t := by dsimp only [dats]
theorem after_43 (c : Dev nD) (t : Fin cfg0.N) : (dats m 0 c).after 43 t = out_43 m c t := by dsimp only [dats]
theorem after_44 (c : Dev nD) (t : Fin cfg0.N) : (dats m 0 c).after 44 t = out_44 m c t := by dsimp only [dats]
theorem after_45 (c : Dev nD) (t : Fin cfg0.N) : (dats m 0 c).after 45 t = out_45 m c t := by dsimp only [dats]
theorem after_46 (c : Dev nD) (t : Fin cfg0.N) : (dats m 0 c).after 46 t = out_46 m c t := by dsimp only [dats]
theorem after_47 (c : Dev nD) (t : Fin cfg0.N) : (dats m 0 c).after 47 t = out_47 m c t := by dsimp only [dats]
theorem after_48 (c : Dev nD) (t : Fin cfg0.N) : (dats m 0 c).after 48 t = out_48 m c t := by dsimp only [dats]
theorem after_49 (c : Dev nD) (t : Fin cfg0.N) : (dats m 0 c).after 49 t = out_49 m c t := by dsimp only [dats]
theorem after_50 (c : Dev nD) (t : Fin cfg0.N) : (dats m 0 c).after 50 t = out_50 m c t := by dsimp only [dats]
theorem after_51 (c : Dev nD) (t : Fin cfg0.N) : (dats m 0 c).after 51 t = out_51 m c t := by dsimp only [dats]
theorem after_52 (c : Dev nD) (t : Fin cfg0.N) : (dats m 0 c).after 52 t = out_52 m c t := by dsimp only [dats]
theorem after_53 (c : Dev nD) (t : Fin cfg0.N) : (dats m 0 c).after 53 t = out_53 m c t := by dsimp only [dats]
theorem after_54 (c : Dev nD) (t : Fin cfg0.N) : (dats m 0 c).after 54 t = out_54 m c t := by dsimp only [dats]
theorem after_55 (c : Dev nD) (t : Fin cfg0.N) : (dats m 0 c).after 55 t = out_55 m c t := by dsimp only [dats]
theorem after_56 (c : Dev nD) (t : Fin cfg0.N) : (dats m 0 c).after 56 t = out_56 m c t := by dsimp only [dats]
theorem after_57 (c : Dev nD) (t : Fin cfg0.N) : (dats m 0 c).after 57 t = out_57 m c t := by dsimp only [dats]
theorem after_58 (c : Dev nD) (t : Fin cfg0.N) : (dats m 0 c).after 58 t = out_58 m c t := by dsimp only [dats]
theorem after_59 (c : Dev nD) (t : Fin cfg0.N) : (dats m 0 c).after 59 t = out_59 m c t := by dsimp only [dats]
theorem after_60 (c : Dev nD) (t : Fin cfg0.N) : (dats m 0 c).after 60 t = out_60 m c t := by dsimp only [dats]

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d))
    ∗ (∃ d, owns (c : Thread nD τ) (ms0_33 t) fullShare ((dats m 0 c).before 33 t d))
    ∗ (∃ d, owns (c : Thread nD τ) (ms0_34 t) fullShare ((dats m 0 c).before 34 t d))
    ∗ (∃ d, owns (c : Thread nD τ) (ms0_35 t) fullShare ((dats m 0 c).before 35 t d))
    ∗ (∃ d, owns (c : Thread nD τ) (ms0_36 t) fullShare ((dats m 0 c).before 36 t d))
    ∗ (∃ d, owns (c : Thread nD τ) (ms0_37 t) fullShare ((dats m 0 c).before 37 t d))
    ∗ (∃ d, owns (c : Thread nD τ) (ms0_38 t) fullShare ((dats m 0 c).before 38 t d))
    ∗ (∃ d, owns (c : Thread nD τ) (ms0_39 t) fullShare ((dats m 0 c).before 39 t d))
    ∗ (∃ d, owns (c : Thread nD τ) (ms0_40 t) fullShare ((dats m 0 c).before 40 t d))
    ∗ (∃ d, owns (c : Thread nD τ) (ms0_41 t) fullShare ((dats m 0 c).before 41 t d))
    ∗ (∃ d, owns (c : Thread nD τ) (ms0_42 t) fullShare ((dats m 0 c).before 42 t d))
    ∗ (∃ d, owns (c : Thread nD τ) (ms0_43 t) fullShare ((dats m 0 c).before 43 t d))
    ∗ (∃ d, owns (c : Thread nD τ) (ms0_44 t) fullShare ((dats m 0 c).before 44 t d))
    ∗ (∃ d, owns (c : Thread nD τ) (ms0_45 t) fullShare ((dats m 0 c).before 45 t d))
    ∗ (∃ d, owns (c : Thread nD τ) (ms0_46 t) fullShare ((dats m 0 c).before 46 t d))
    ∗ (∃ d, owns (c : Thread nD τ) (ms0_47 t) fullShare ((dats m 0 c).before 47 t d))
    ∗ (∃ d, owns (c : Thread nD τ) (ms0_48 t) fullShare ((dats m 0 c).before 48 t d))
    ∗ (∃ d, owns (c : Thread nD τ) (ms0_49 t) fullShare ((dats m 0 c).before 49 t d))
    ∗ (∃ d, owns (c : Thread nD τ) (ms0_50 t) fullShare ((dats m 0 c).before 50 t d))
    ∗ (∃ d, owns (c : Thread nD τ) (ms0_51 t) fullShare ((dats m 0 c).before 51 t d))
    ∗ (∃ d, owns (c : Thread nD τ) (ms0_52 t) fullShare ((dats m 0 c).before 52 t d))
    ∗ (∃ d, owns (c : Thread nD τ) (ms0_53 t) fullShare ((dats m 0 c).before 53 t d))
    ∗ (∃ d, owns (c : Thread nD τ) (ms0_54 t) fullShare ((dats m 0 c).before 54 t d))
    ∗ (∃ d, owns (c : Thread nD τ) (ms0_55 t) fullShare ((dats m 0 c).before 55 t d))
    ∗ (∃ d, owns (c : Thread nD τ) (ms0_56 t) fullShare ((dats m 0 c).before 56 t d))
    ∗ (∃ d, owns (c : Thread nD τ) (ms0_57 t) fullShare ((dats m 0 c).before 57 t d))
    ∗ (∃ d, owns (c : Thread nD τ) (ms0_58 t) fullShare ((dats m 0 c).before 58 t d))
    ∗ (∃ d, owns (c : Thread nD τ) (ms0_59 t) fullShare ((dats m 0 c).before 59 t d))
    ∗ (∃ d, owns (c : Thread nD τ) (ms0_60 t) fullShare ((dats m 0 c).before 60 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t)
    ∗ owns (c : Thread nD τ) (ms0_32 t) fullShare ((dats m 0 c).after 32 t)
    ∗ owns (c : Thread nD τ) (ms0_33 t) fullShare ((dats m 0 c).after 33 t)
    ∗ owns (c : Thread nD τ) (ms0_34 t) fullShare ((dats m 0 c).after 34 t)
    ∗ owns (c : Thread nD τ) (ms0_35 t) fullShare ((dats m 0 c).after 35 t)
    ∗ owns (c : Thread nD τ) (ms0_36 t) fullShare ((dats m 0 c).after 36 t)
    ∗ owns (c : Thread nD τ) (ms0_37 t) fullShare ((dats m 0 c).after 37 t)
    ∗ owns (c : Thread nD τ) (ms0_38 t) fullShare ((dats m 0 c).after 38 t)
    ∗ owns (c : Thread nD τ) (ms0_39 t) fullShare ((dats m 0 c).after 39 t)
    ∗ owns (c : Thread nD τ) (ms0_40 t) fullShare ((dats m 0 c).after 40 t)
    ∗ owns (c : Thread nD τ) (ms0_41 t) fullShare ((dats m 0 c).after 41 t)
    ∗ owns (c : Thread nD τ) (ms0_42 t) fullShare ((dats m 0 c).after 42 t)
    ∗ owns (c : Thread nD τ) (ms0_43 t) fullShare ((dats m 0 c).after 43 t)
    ∗ owns (c : Thread nD τ) (ms0_44 t) fullShare ((dats m 0 c).after 44 t)
    ∗ owns (c : Thread nD τ) (ms0_45 t) fullShare ((dats m 0 c).after 45 t)
    ∗ owns (c : Thread nD τ) (ms0_46 t) fullShare ((dats m 0 c).after 46 t)
    ∗ owns (c : Thread nD τ) (ms0_47 t) fullShare ((dats m 0 c).after 47 t)
    ∗ owns (c : Thread nD τ) (ms0_48 t) fullShare ((dats m 0 c).after 48 t)
    ∗ owns (c : Thread nD τ) (ms0_49 t) fullShare ((dats m 0 c).after 49 t)
    ∗ owns (c : Thread nD τ) (ms0_50 t) fullShare ((dats m 0 c).after 50 t)
    ∗ owns (c : Thread nD τ) (ms0_51 t) fullShare ((dats m 0 c).after 51 t)
    ∗ owns (c : Thread nD τ) (ms0_52 t) fullShare ((dats m 0 c).after 52 t)
    ∗ owns (c : Thread nD τ) (ms0_53 t) fullShare ((dats m 0 c).after 53 t)
    ∗ owns (c : Thread nD τ) (ms0_54 t) fullShare ((dats m 0 c).after 54 t)
    ∗ owns (c : Thread nD τ) (ms0_55 t) fullShare ((dats m 0 c).after 55 t)
    ∗ owns (c : Thread nD τ) (ms0_56 t) fullShare ((dats m 0 c).after 56 t)
    ∗ owns (c : Thread nD τ) (ms0_57 t) fullShare ((dats m 0 c).after 57 t)
    ∗ owns (c : Thread nD τ) (ms0_58 t) fullShare ((dats m 0 c).after 58 t)
    ∗ owns (c : Thread nD τ) (ms0_59 t) fullShare ((dats m 0 c).after 59 t)
    ∗ owns (c : Thread nD τ) (ms0_60 t) fullShare ((dats m 0 c).after 60 t))

set_option maxHeartbeats 20000000 in
/-- The body at a point: the inputs' buffers hold their blocks, so the run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18, before_19, before_20, before_21, before_22, before_23, before_24, before_25, before_26, before_27, before_28, before_29, before_30, before_31, before_32, before_33, before_34, before_35, before_36, before_37, before_38, before_39, before_40]
  rw [show (dats m 0 c).Φ t.succ = (dats m 0 c).Φ t.castSucc from rfl,
    show (dats m 0 c).owesAt () t.succ = (dats m 0 c).owesAt () t.castSucc from rfl,
    show (dats m 0 c).after 0 t = iblk m c 0 t from by dsimp only [dats], show (dats m 0 c).after 1 t = iblk m c 1 t from by dsimp only [dats], show (dats m 0 c).after 2 t = iblk m c 2 t from by dsimp only [dats], show (dats m 0 c).after 3 t = iblk m c 3 t from by dsimp only [dats], show (dats m 0 c).after 4 t = iblk m c 4 t from by dsimp only [dats], show (dats m 0 c).after 5 t = iblk m c 5 t from by dsimp only [dats], show (dats m 0 c).after 6 t = iblk m c 6 t from by dsimp only [dats], show (dats m 0 c).after 7 t = iblk m c 7 t from by dsimp only [dats], show (dats m 0 c).after 8 t = iblk m c 8 t from by dsimp only [dats], show (dats m 0 c).after 9 t = iblk m c 9 t from by dsimp only [dats], show (dats m 0 c).after 10 t = iblk m c 10 t from by dsimp only [dats], show (dats m 0 c).after 11 t = iblk m c 11 t from by dsimp only [dats], show (dats m 0 c).after 12 t = iblk m c 12 t from by dsimp only [dats], show (dats m 0 c).after 13 t = iblk m c 13 t from by dsimp only [dats], show (dats m 0 c).after 14 t = iblk m c 14 t from by dsimp only [dats], show (dats m 0 c).after 15 t = iblk m c 15 t from by dsimp only [dats], show (dats m 0 c).after 16 t = iblk m c 16 t from by dsimp only [dats], show (dats m 0 c).after 17 t = iblk m c 17 t from by dsimp only [dats], show (dats m 0 c).after 18 t = iblk m c 18 t from by dsimp only [dats], show (dats m 0 c).after 19 t = iblk m c 19 t from by dsimp only [dats], show (dats m 0 c).after 20 t = iblk m c 20 t from by dsimp only [dats], show (dats m 0 c).after 21 t = iblk m c 21 t from by dsimp only [dats], show (dats m 0 c).after 22 t = iblk m c 22 t from by dsimp only [dats], show (dats m 0 c).after 23 t = iblk m c 23 t from by dsimp only [dats], show (dats m 0 c).after 24 t = iblk m c 24 t from by dsimp only [dats], show (dats m 0 c).after 25 t = iblk m c 25 t from by dsimp only [dats], show (dats m 0 c).after 26 t = iblk m c 26 t from by dsimp only [dats], show (dats m 0 c).after 27 t = iblk m c 27 t from by dsimp only [dats], show (dats m 0 c).after 28 t = iblk m c 28 t from by dsimp only [dats], show (dats m 0 c).after 29 t = iblk m c 29 t from by dsimp only [dats], show (dats m 0 c).after 30 t = iblk m c 30 t from by dsimp only [dats], show (dats m 0 c).after 31 t = iblk m c 31 t from by dsimp only [dats], show (dats m 0 c).after 32 t = iblk m c 32 t from by dsimp only [dats], show (dats m 0 c).after 33 t = iblk m c 33 t from by dsimp only [dats], show (dats m 0 c).after 34 t = iblk m c 34 t from by dsimp only [dats], show (dats m 0 c).after 35 t = iblk m c 35 t from by dsimp only [dats], show (dats m 0 c).after 36 t = iblk m c 36 t from by dsimp only [dats], show (dats m 0 c).after 37 t = iblk m c 37 t from by dsimp only [dats], show (dats m 0 c).after 38 t = iblk m c 38 t from by dsimp only [dats], show (dats m 0 c).after 39 t = iblk m c 39 t from by dsimp only [dats], show (dats m 0 c).after 40 t = iblk m c 40 t from by dsimp only [dats],
    after_41, after_42, after_43, after_44, after_45, after_46, after_47, after_48, after_49, after_50, after_51, after_52, after_53, after_54, after_55, after_56, after_57, after_58, after_59, after_60]
  unfold out_41 out_42 out_43 out_44 out_45 out_46 out_47 out_48 out_49 out_50 out_51 out_52 out_53 out_54 out_55 out_56 out_57 out_58 out_59 out_60
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩, ⟨%d50, H50⟩, ⟨%d51, H51⟩, ⟨%d52, H52⟩, ⟨%d53, H53⟩, ⟨%d54, H54⟩, ⟨%d55, H55⟩, ⟨%d56, H56⟩, ⟨%d57, H57⟩, ⟨%d58, H58⟩, ⟨%d59, H59⟩, ⟨%d60, H60⟩⟩
  iapply ((runAt m c t).2.2.2.2.2.2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexists _; iexact H41
  isplitl [H42]; · iexists _; iexact H42
  isplitl [H43]; · iexists _; iexact H43
  isplitl [H44]; · iexists _; iexact H44
  isplitl [H45]; · iexists _; iexact H45
  isplitl [H46]; · iexists _; iexact H46
  isplitl [H47]; · iexists _; iexact H47
  isplitl [H48]; · iexists _; iexact H48
  isplitl [H49]; · iexists _; iexact H49
  isplitl [H50]; · iexists _; iexact H50
  isplitl [H51]; · iexists _; iexact H51
  isplitl [H52]; · iexists _; iexact H52
  isplitl [H53]; · iexists _; iexact H53
  isplitl [H54]; · iexists _; iexact H54
  isplitl [H55]; · iexists _; iexact H55
  isplitl [H56]; · iexists _; iexact H56
  isplitl [H57]; · iexists _; iexact H57
  isplitl [H58]; · iexists _; iexact H58
  isplitl [H59]; · iexists _; iexact H59
  isplitl [H60]; · iexists _; iexact H60
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, ⟨%e41, H41⟩, ⟨%e42, H42⟩, ⟨%e43, H43⟩, ⟨%e44, H44⟩, ⟨%e45, H45⟩, ⟨%e46, H46⟩, ⟨%e47, H47⟩, ⟨%e48, H48⟩, ⟨%e49, H49⟩, ⟨%e50, H50⟩, ⟨%e51, H51⟩, ⟨%e52, H52⟩, ⟨%e53, H53⟩, ⟨%e54, H54⟩, ⟨%e55, H55⟩, ⟨%e56, H56⟩, ⟨%e57, H57⟩, ⟨%e58, H58⟩, ⟨%e59, H59⟩, ⟨%e60, H60⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]
  · unfold owns; iexists _; isplitr
    swap; · iexact H41
    ipureintro; exact View.read_writes_of_cover _ _ _ _ _ (cover_41 m c t)
  isplitl [H42]
  · unfold owns; iexists _; isplitr
    swap; · iexact H42
    ipureintro; exact View.read_writes_of_cover _ _ _ _ _ (cover_42 m c t)
  isplitl [H43]
  · unfold owns; iexists _; isplitr
    swap; · iexact H43
    ipureintro; exact View.read_writes_of_cover _ _ _ _ _ (cover_43 m c t)
  isplitl [H44]
  · unfold owns; iexists _; isplitr
    swap; · iexact H44
    ipureintro; exact View.read_writes_of_cover _ _ _ _ _ (cover_44 m c t)
  isplitl [H45]
  · unfold owns; iexists _; isplitr
    swap; · iexact H45
    ipureintro; exact View.read_writes_of_cover _ _ _ _ _ (cover_45 m c t)
  isplitl [H46]
  · unfold owns; iexists _; isplitr
    swap; · iexact H46
    ipureintro; exact View.read_writes_of_cover _ _ _ _ _ (cover_46 m c t)
  isplitl [H47]
  · unfold owns; iexists _; isplitr
    swap; · iexact H47
    ipureintro; exact View.read_writes_of_cover _ _ _ _ _ (cover_47 m c t)
  isplitl [H48]
  · unfold owns; iexists _; isplitr
    swap; · iexact H48
    ipureintro; exact View.read_writes_of_cover _ _ _ _ _ (cover_48 m c t)
  isplitl [H49]
  · unfold owns; iexists _; isplitr
    swap; · iexact H49
    ipureintro; exact View.read_writes_of_cover _ _ _ _ _ (cover_49 m c t)
  isplitl [H50]
  · unfold owns; iexists _; isplitr
    swap; · iexact H50
    ipureintro; exact View.read_writes_of_cover _ _ _ _ _ (cover_50 m c t)
  isplitl [H51]
  · unfold owns; iexists _; isplitr
    swap; · iexact H51
    ipureintro; exact View.read_writes_of_cover _ _ _ _ _ (cover_51 m c t)
  isplitl [H52]
  · unfold owns; iexists _; isplitr
    swap; · iexact H52
    ipureintro; exact View.read_writes_of_cover _ _ _ _ _ (cover_52 m c t)
  isplitl [H53]
  · unfold owns; iexists _; isplitr
    swap; · iexact H53
    ipureintro; exact View.read_writes_of_cover _ _ _ _ _ (cover_53 m c t)
  isplitl [H54]
  · unfold owns; iexists _; isplitr
    swap; · iexact H54
    ipureintro; exact View.read_writes_of_cover _ _ _ _ _ (cover_54 m c t)
  isplitl [H55]
  · unfold owns; iexists _; isplitr
    swap; · iexact H55
    ipureintro; exact View.read_writes_of_cover _ _ _ _ _ (cover_55 m c t)
  isplitl [H56]
  · unfold owns; iexists _; isplitr
    swap; · iexact H56
    ipureintro; exact View.read_writes_of_cover _ _ _ _ _ (cover_56 m c t)
  isplitl [H57]
  · unfold owns; iexists _; isplitr
    swap; · iexact H57
    ipureintro; exact View.read_writes_of_cover _ _ _ _ _ (cover_57 m c t)
  isplitl [H58]
  · unfold owns; iexists _; isplitr
    swap; · iexact H58
    ipureintro; exact View.read_writes_of_cover _ _ _ _ _ (cover_58 m c t)
  isplitl [H59]
  · unfold owns; iexists _; isplitr
    swap; · iexact H59
    ipureintro; exact View.read_writes_of_cover _ _ _ _ _ (cover_59 m c t)
  unfold owns; iexists _; isplitr
  swap; · iexact H60
  ipureintro; exact View.read_writes_of_cover _ _ _ _ _ (cover_60 m c t)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

end Cert.Kernel20Ideal.Gen

end
-- ==== Proof.Sum.Launch.lean ====
module

public import proofs.«01_k».proof.Proof.Sum.Frame
public import Idealize.ShloMosaic.Lib.Claim

@[expose] public section

/-! The launch of the kernel that adds the chips' partial sums: it ends, its arguments unchanged and every counter
    at zero, and its result arrays are what the pipeline's proof data say. -/

set_option maxRecDepth 16384

noncomputable section

namespace Cert.Kernel20Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 8000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)) :=
  frame_of m ρ (dats m) (A_eq m) (run_main m ρ)

/-- The kernel ends, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40))
      ∧ r.2.sem = fun _ => 0) :=
  θ_run_and (unchanged m ρ) ((θ_run defs _ _).mono (fun _ h => h.2) (run_main_quiescent m ρ))

end Cert.Kernel20Ideal.Gen

end
-- ==== Proof.Sum.Spec.lean ====
/-
  The sum of the chips' partial sums, one entry of it: the chip's own share is taken from `own`, every other chip's from `part`.
-/
module

public import Idealize.ShloMosaic.Lib.Tactic
public import Idealize.ShloMosaic.Lib.Pointwise

@[expose] public section

noncomputable section

namespace Cert.SumSpec

open Idealize.ShloMosaic

def total (chip : BitVec 32) (own : EReal) (part : Fin 4 → EReal) : EReal :=
  ∑ p : Fin 4, Scalar.select (IntOp.cmpi .eq (BitVec.ofNat 32 p.val) chip) own (part p)

theorem cmpi_eq_comm (a b : BitVec 32) : IntOp.cmpi .eq a b = IntOp.cmpi .eq b a := by
  unfold IntOp.cmpi
  simp only [eq_comm, Bool.beq_comm]

/-- The same, one chip after the other. -/
theorem total_eq (chip : BitVec 32) (own : EReal) (part : Fin 4 → EReal) :
    total chip own part = Scalar.select (Scalar.cmpi .eq chip 0#32) own (part 0) + Scalar.select (Scalar.cmpi .eq chip 1#32) own (part 1)
      + Scalar.select (Scalar.cmpi .eq chip 2#32) own (part 2) + Scalar.select (Scalar.cmpi .eq chip 3#32) own (part 3) := by
  unfold total
  rw [Fin.sum_univ_four]
  simp only [Scalar.cmpi, cmpi_eq_comm chip]
  rfl

/-! An index is its coordinates. -/

theorem eta2 {n0 n1 : Nat} (y : (⟨2, ![n0, n1]⟩ : Shape).Idx) : y = ix2 (y 0) (y 1) := by
  funext a; fin_cases a <;> rfl
theorem eta3 {n0 n1 n2 : Nat} (y : (⟨3, ![n0, n1, n2]⟩ : Shape).Idx) : y = ix3 (y 0) (y 1) (y 2) := by
  funext a; fin_cases a <;> rfl
theorem eta4 {n0 n1 n2 n3 : Nat} (y : (⟨4, ![n0, n1, n2, n3]⟩ : Shape).Idx) : y = ix4 (y 0) (y 1) (y 2) (y 3) := by
  funext a; fin_cases a <;> rfl

/-! The arrays of sums, for arrays of two, three and four axes. -/

def sum2 {n0 n1 : Nat} (x0 : (⟨1, ![1]⟩ : Shape).Idx → BitVec 32) (x1 : (⟨3, ![4, n0, n1]⟩ : Shape).Idx → EReal)
    (x2 : (⟨2, ![n0, n1]⟩ : Shape).Idx → EReal) : (⟨2, ![n0, n1]⟩ : Shape).Idx → EReal :=
  fun y => total (x0 (ix1 0)) (x2 (ix2 (y 0) (y 1))) fun p => x1 (ix3 p (y 0) (y 1))

def sum3 {n0 n1 n2 : Nat} (x0 : (⟨1, ![1]⟩ : Shape).Idx → BitVec 32) (x1 : (⟨4, ![4, n0, n1, n2]⟩ : Shape).Idx → EReal)
    (x2 : (⟨3, ![n0, n1, n2]⟩ : Shape).Idx → EReal) : (⟨3, ![n0, n1, n2]⟩ : Shape).Idx → EReal :=
  fun y => total (x0 (ix1 0)) (x2 (ix3 (y 0) (y 1) (y 2))) fun p => x1 (ix4 p (y 0) (y 1) (y 2))

def sum4 {n0 n1 n2 n3 : Nat} (x0 : (⟨1, ![1]⟩ : Shape).Idx → BitVec 32) (x1 : (⟨5, ![4, n0, n1, n2, n3]⟩ : Shape).Idx → EReal)
    (x2 : (⟨4, ![n0, n1, n2, n3]⟩ : Shape).Idx → EReal) : (⟨4, ![n0, n1, n2, n3]⟩ : Shape).Idx → EReal :=
  fun y => total (x0 (ix1 0)) (x2 (ix4 (y 0) (y 1) (y 2) (y 3))) fun p => x1 (ix5 p (y 0) (y 1) (y 2) (y 3))

end Cert.SumSpec

end
-- ==== Proof.Sum.Point.lean ====
/-
The run of the body of the kernel that adds the chips' partial sums, at the blocks of its launch over the extended reals.
-/
module

public import proofs.«01_k».proof.Proof.Sum.RunA
public import proofs.«01_k».proof.Proof.Sum.Spec
public import Idealize.ShloMosaic.Lib.Pipeline.ValueKit
public import Idealize.ShloMosaic.Lib.Pipeline.ReadBack

@[expose] public section

set_option maxRecDepth 16384

noncomputable section

namespace Cert.Kernel20Ideal.Sum

open Cert.Kernel20Ideal Cert.Kernel20Ideal.Gen Idealize.ShloMosaic Idealize.ShloMosaic.TcCoe Idealize.SL.Sem

variable (m : (ℓ : Loc nD τ sig) → Buf (Elt Ideal) ℓ)

/-- The run of the body at a point's staging buffers and input blocks. -/
abbrev runAt (c : Dev nD) (t : Fin cfg0.N) :=
  kernelRun0_A c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) (ms0_38 t) (hs0_38 t) (ms0_39 t) (hs0_39 t) (ms0_40 t) (hs0_40 t) (ms0_41 t) (hs0_41 t) (ms0_42 t) (hs0_42 t) (ms0_43 t) (hs0_43 t) (ms0_44 t) (hs0_44 t) (ms0_45 t) (hs0_45 t) (ms0_46 t) (hs0_46 t) (ms0_47 t) (hs0_47 t) (ms0_48 t) (hs0_48 t) (ms0_49 t) (hs0_49 t) (ms0_50 t) (hs0_50 t) (ms0_51 t) (hs0_51 t) (ms0_52 t) (hs0_52 t) (ms0_53 t) (hs0_53 t) (ms0_54 t) (hs0_54 t) (ms0_55 t) (hs0_55 t) (ms0_56 t) (hs0_56 t) (ms0_57 t) (hs0_57 t) (ms0_58 t) (hs0_58 t) (ms0_59 t) (hs0_59 t) (ms0_60 t) (hs0_60 t)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) (iblk m c 37 t) (iblk m c 38 t) (iblk m c 39 t) (iblk m c 40 t)

theorem zero_block (n a : Nat) : 0 * n + a = a := by omega

end Cert.Kernel20Ideal.Sum

end
-- ==== Proof.Sum.Entry1.lean ====
/-
What the body stores, entry by entry: the sum over the chips.
-/
module

public import proofs.«01_k».proof.Proof.Sum.Point

@[expose] public section

set_option maxRecDepth 16384
set_option maxHeartbeats 2000000

noncomputable section

namespace Cert.Kernel20Ideal.Sum

open Cert.Kernel20Ideal Cert.Kernel20Ideal.Gen Idealize.ShloMosaic Idealize.ShloMosaic.TcCoe Idealize.SL.Sem
open Cert Cert.SumSpec

variable (m : (ℓ : Loc nD τ sig) → Buf (Elt Ideal) ℓ) (c : Dev nD)

theorem at_41 (t : Fin cfg0.N) (a : Fin 2) (b : Fin 1024) :
    (VO0_41.read (Elt Ideal) (VO0_41.writes (Elt Ideal) VO0_41.junk (runAt m c t).1) : S2x1024.Idx → EReal) (ix2 a b)
    = sum2 (m ((c : Thread nD τ).loc main_arg0)) (m ((c : Thread nD τ).loc main_arg1)) (m ((c : Thread nD τ).loc main_arg21)) (ix2 a b) := by
  refine Eq.trans ?_ (total_eq _ _ _).symm
  unfold runAt
  frame_out
  pointwise [k0_pay1]
  simp only [read_unread_whole]
  blk_point [iblk, V] <;> first | exact zero_block _ _ | rfl

theorem at_42 (t : Fin cfg0.N) (a : Fin 2) (b : Fin 16) (d : Fin 64) :
    (VO0_42.read (Elt Ideal) (VO0_42.writes (Elt Ideal) VO0_42.junk (runAt m c t).2.1) : S2x16x64.Idx → EReal) (ix3 a b d)
    = sum3 (m ((c : Thread nD τ).loc main_arg0)) (m ((c : Thread nD τ).loc main_arg2)) (m ((c : Thread nD τ).loc main_arg22)) (ix3 a b d) := by
  refine Eq.trans ?_ (total_eq _ _ _).symm
  unfold runAt
  frame_out
  pointwise [k0_pay2, k0_pay3, k0_pay4]
  simp only [read_unread_whole]
  blk_point [iblk, V] <;> first | exact zero_block _ _ | rfl

theorem at_43 (t : Fin cfg0.N) (a : Fin 2) (b : Fin 16) (d : Fin 64) :
    (VO0_43.read (Elt Ideal) (VO0_43.writes (Elt Ideal) VO0_43.junk (runAt m c t).2.2.1) : S2x16x64.Idx → EReal) (ix3 a b d)
    = sum3 (m ((c : Thread nD τ).loc main_arg0)) (m ((c : Thread nD τ).loc main_arg3)) (m ((c : Thread nD τ).loc main_arg23)) (ix3 a b d) := by
  refine Eq.trans ?_ (total_eq _ _ _).symm
  unfold runAt
  frame_out
  pointwise [k0_pay5, k0_pay6]
  simp only [read_unread_whole]
  blk_point [iblk, V] <;> first | exact zero_block _ _ | rfl

theorem at_58 (t : Fin cfg0.N) (a : Fin 2) (b : Fin 1024) :
    (VO0_58.read (Elt Ideal) (VO0_58.writes (Elt Ideal) VO0_58.junk (runAt m c t).2.2.2.2.2.2.2.2.2.2.2.2.2.2.2.2.2.1) : S2x1024.Idx → EReal) (ix2 a b)
    = sum2 (m ((c : Thread nD τ).loc main_arg0)) (m ((c : Thread nD τ).loc main_arg18)) (m ((c : Thread nD τ).loc main_arg38)) (ix2 a b) := by
  refine Eq.trans ?_ (total_eq _ _ _).symm
  unfold runAt
  frame_out
  pointwise [k0_pay36]
  simp only [read_unread_whole]
  blk_point [iblk, V] <;> first | exact zero_block _ _ | rfl

end Cert.Kernel20Ideal.Sum

end
-- ==== Proof.Sum.Entry2.lean ====
/-
What the body stores, entry by entry: the sum over the chips.
-/
module

public import proofs.«01_k».proof.Proof.Sum.Point

@[expose] public section

set_option maxRecDepth 16384
set_option maxHeartbeats 2000000

noncomputable section

namespace Cert.Kernel20Ideal.Sum

open Cert.Kernel20Ideal Cert.Kernel20Ideal.Gen Idealize.ShloMosaic Idealize.ShloMosaic.TcCoe Idealize.SL.Sem
open Cert Cert.SumSpec

variable (m : (ℓ : Loc nD τ sig) → Buf (Elt Ideal) ℓ) (c : Dev nD)

theorem at_44 (t : Fin cfg0.N) (a : Fin 2) (b : Fin 16) (d : Fin 1024) :
    (VO0_44.read (Elt Ideal) (VO0_44.writes (Elt Ideal) VO0_44.junk (runAt m c t).2.2.2.1) : S2x16x1024.Idx → EReal) (ix3 a b d)
    = sum3 (m ((c : Thread nD τ).loc main_arg0)) (m ((c : Thread nD τ).loc main_arg4)) (m ((c : Thread nD τ).loc main_arg24)) (ix3 a b d) := by
  refine Eq.trans ?_ (total_eq _ _ _).symm
  unfold runAt
  frame_out
  pointwise [k0_pay7, k0_pay8, k0_pay9]
  simp only [read_unread_whole]
  blk_point [iblk, V] <;> first | exact zero_block _ _ | rfl

theorem at_45 (t : Fin cfg0.N) (a : Fin 2) (b : Fin 16) (d : Fin 1024) :
    (VO0_45.read (Elt Ideal) (VO0_45.writes (Elt Ideal) VO0_45.junk (runAt m c t).2.2.2.2.1) : S2x16x1024.Idx → EReal) (ix3 a b d)
    = sum3 (m ((c : Thread nD τ).loc main_arg0)) (m ((c : Thread nD τ).loc main_arg5)) (m ((c : Thread nD τ).loc main_arg25)) (ix3 a b d) := by
  refine Eq.trans ?_ (total_eq _ _ _).symm
  unfold runAt
  frame_out
  pointwise [k0_pay10, k0_pay11]
  simp only [read_unread_whole]
  blk_point [iblk, V] <;> first | exact zero_block _ _ | rfl

theorem at_46 (t : Fin cfg0.N) (a : Fin 2) (b : Fin 16) (d : Fin 1024) :
    (VO0_46.read (Elt Ideal) (VO0_46.writes (Elt Ideal) VO0_46.junk (runAt m c t).2.2.2.2.2.1) : S2x16x1024.Idx → EReal) (ix3 a b d)
    = sum3 (m ((c : Thread nD τ).loc main_arg0)) (m ((c : Thread nD τ).loc main_arg6)) (m ((c : Thread nD τ).loc main_arg26)) (ix3 a b d) := by
  refine Eq.trans ?_ (total_eq _ _ _).symm
  unfold runAt
  frame_out
  pointwise [k0_pay12, k0_pay13, k0_pay14]
  simp only [read_unread_whole]
  blk_point [iblk, V] <;> first | exact zero_block _ _ | rfl

theorem at_47 (t : Fin cfg0.N) (a : Fin 2) (b : Fin 16) (d : Fin 1024) :
    (VO0_47.read (Elt Ideal) (VO0_47.writes (Elt Ideal) VO0_47.junk (runAt m c t).2.2.2.2.2.2.1) : S2x16x1024.Idx → EReal) (ix3 a b d)
    = sum3 (m ((c : Thread nD τ).loc main_arg0)) (m ((c : Thread nD τ).loc main_arg7)) (m ((c : Thread nD τ).loc main_arg27)) (ix3 a b d) := by
  refine Eq.trans ?_ (total_eq _ _ _).symm
  unfold runAt
  frame_out
  pointwise [k0_pay15, k0_pay16]
  simp only [read_unread_whole]
  blk_point [iblk, V] <;> first | exact zero_block _ _ | rfl

end Cert.Kernel20Ideal.Sum

end
-- ==== Proof.Sum.Entry3.lean ====
/-
What the body stores, entry by entry: the sum over the chips.
-/
module

public import proofs.«01_k».proof.Proof.Sum.Point

@[expose] public section

set_option maxRecDepth 16384
set_option maxHeartbeats 2000000

noncomputable section

namespace Cert.Kernel20Ideal.Sum

open Cert.Kernel20Ideal Cert.Kernel20Ideal.Gen Idealize.ShloMosaic Idealize.ShloMosaic.TcCoe Idealize.SL.Sem
open Cert Cert.SumSpec

variable (m : (ℓ : Loc nD τ sig) → Buf (Elt Ideal) ℓ) (c : Dev nD)

theorem at_48 (t : Fin cfg0.N) (a : Fin 8) (b : Fin 128) :
    (VO0_48.read (Elt Ideal) (VO0_48.writes (Elt Ideal) VO0_48.junk (runAt m c t).2.2.2.2.2.2.2.1) : S8x128.Idx → EReal) (ix2 a b)
    = sum2 (m ((c : Thread nD τ).loc main_arg0)) (m ((c : Thread nD τ).loc main_arg8)) (m ((c : Thread nD τ).loc main_arg28)) (ix2 a b) := by
  refine Eq.trans ?_ (total_eq _ _ _).symm
  unfold runAt
  frame_out
  pointwise [k0_pay17, k0_pay18]
  simp only [read_unread_whole]
  blk_point [iblk, V] <;> first | exact zero_block _ _ | rfl

theorem at_49 (t : Fin cfg0.N) (a : Fin 8) (b : Fin 128) :
    (VO0_49.read (Elt Ideal) (VO0_49.writes (Elt Ideal) VO0_49.junk (runAt m c t).2.2.2.2.2.2.2.2.1) : S8x128.Idx → EReal) (ix2 a b)
    = sum2 (m ((c : Thread nD τ).loc main_arg0)) (m ((c : Thread nD τ).loc main_arg9)) (m ((c : Thread nD τ).loc main_arg29)) (ix2 a b) := by
  refine Eq.trans ?_ (total_eq _ _ _).symm
  unfold runAt
  frame_out
  pointwise [k0_pay19, k0_pay20]
  simp only [read_unread_whole]
  blk_point [iblk, V] <;> first | exact zero_block _ _ | rfl

theorem at_50 (t : Fin cfg0.N) (a : Fin 8) (b : Fin 128) :
    (VO0_50.read (Elt Ideal) (VO0_50.writes (Elt Ideal) VO0_50.junk (runAt m c t).2.2.2.2.2.2.2.2.2.1) : S8x128.Idx → EReal) (ix2 a b)
    = sum2 (m ((c : Thread nD τ).loc main_arg0)) (m ((c : Thread nD τ).loc main_arg10)) (m ((c : Thread nD τ).loc main_arg30)) (ix2 a b) := by
  refine Eq.trans ?_ (total_eq _ _ _).symm
  unfold runAt
  frame_out
  pointwise [k0_pay21, k0_pay22]
  simp only [read_unread_whole]
  blk_point [iblk, V] <;> first | exact zero_block _ _ | rfl

theorem at_51 (t : Fin cfg0.N) (a : Fin 8) (b : Fin 128) :
    (VO0_51.read (Elt Ideal) (VO0_51.writes (Elt Ideal) VO0_51.junk (runAt m c t).2.2.2.2.2.2.2.2.2.2.1) : S8x128.Idx → EReal) (ix2 a b)
    = sum2 (m ((c : Thread nD τ).loc main_arg0)) (m ((c : Thread nD τ).loc main_arg11)) (m ((c : Thread nD τ).loc main_arg31)) (ix2 a b) := by
  refine Eq.trans ?_ (total_eq _ _ _).symm
  unfold runAt
  frame_out
  pointwise [k0_pay23, k0_pay24]
  simp only [read_unread_whole]
  blk_point [iblk, V] <;> first | exact zero_block _ _ | rfl

end Cert.Kernel20Ideal.Sum

end
-- ==== Proof.Sum.Entry4.lean ====
/-
What the body stores, entry by entry: the sum over the chips.
-/
module

public import proofs.«01_k».proof.Proof.Sum.Point

@[expose] public section

set_option maxRecDepth 16384
set_option maxHeartbeats 2000000

noncomputable section

namespace Cert.Kernel20Ideal.Sum

open Cert.Kernel20Ideal Cert.Kernel20Ideal.Gen Idealize.ShloMosaic Idealize.ShloMosaic.TcCoe Idealize.SL.Sem
open Cert Cert.SumSpec

variable (m : (ℓ : Loc nD τ sig) → Buf (Elt Ideal) ℓ) (c : Dev nD)

theorem at_52 (t : Fin cfg0.N) (a : Fin 8) (b : Fin 128) :
    (VO0_52.read (Elt Ideal) (VO0_52.writes (Elt Ideal) VO0_52.junk (runAt m c t).2.2.2.2.2.2.2.2.2.2.2.1) : S8x128.Idx → EReal) (ix2 a b)
    = sum2 (m ((c : Thread nD τ).loc main_arg0)) (m ((c : Thread nD τ).loc main_arg12)) (m ((c : Thread nD τ).loc main_arg32)) (ix2 a b) := by
  refine Eq.trans ?_ (total_eq _ _ _).symm
  unfold runAt
  frame_out
  pointwise [k0_pay25, k0_pay26]
  simp only [read_unread_whole]
  blk_point [iblk, V] <;> first | exact zero_block _ _ | rfl

theorem at_53 (t : Fin cfg0.N) (a : Fin 8) (b : Fin 128) :
    (VO0_53.read (Elt Ideal) (VO0_53.writes (Elt Ideal) VO0_53.junk (runAt m c t).2.2.2.2.2.2.2.2.2.2.2.2.1) : S8x128.Idx → EReal) (ix2 a b)
    = sum2 (m ((c : Thread nD τ).loc main_arg0)) (m ((c : Thread nD τ).loc main_arg13)) (m ((c : Thread nD τ).loc main_arg33)) (ix2 a b) := by
  refine Eq.trans ?_ (total_eq _ _ _).symm
  unfold runAt
  frame_out
  pointwise [k0_pay27, k0_pay28]
  simp only [read_unread_whole]
  blk_point [iblk, V] <;> first | exact zero_block _ _ | rfl

theorem at_54 (t : Fin cfg0.N) (a : Fin 8) (b : Fin 128) :
    (VO0_54.read (Elt Ideal) (VO0_54.writes (Elt Ideal) VO0_54.junk (runAt m c t).2.2.2.2.2.2.2.2.2.2.2.2.2.1) : S8x128.Idx → EReal) (ix2 a b)
    = sum2 (m ((c : Thread nD τ).loc main_arg0)) (m ((c : Thread nD τ).loc main_arg14)) (m ((c : Thread nD τ).loc main_arg34)) (ix2 a b) := by
  refine Eq.trans ?_ (total_eq _ _ _).symm
  unfold runAt
  frame_out
  pointwise [k0_pay29, k0_pay30]
  simp only [read_unread_whole]
  blk_point [iblk, V] <;> first | exact zero_block _ _ | rfl

theorem at_55 (t : Fin cfg0.N) (a : Fin 8) (b : Fin 128) :
    (VO0_55.read (Elt Ideal) (VO0_55.writes (Elt Ideal) VO0_55.junk (runAt m c t).2.2.2.2.2.2.2.2.2.2.2.2.2.2.1) : S8x128.Idx → EReal) (ix2 a b)
    = sum2 (m ((c : Thread nD τ).loc main_arg0)) (m ((c : Thread nD τ).loc main_arg15)) (m ((c : Thread nD τ).loc main_arg35)) (ix2 a b) := by
  refine Eq.trans ?_ (total_eq _ _ _).symm
  unfold runAt
  frame_out
  pointwise [k0_pay31, k0_pay32]
  simp only [read_unread_whole]
  blk_point [iblk, V] <;> first | exact zero_block _ _ | rfl

end Cert.Kernel20Ideal.Sum

end
-- ==== Proof.Sum.Entry5.lean ====
/-
What the body stores, entry by entry: the sum over the chips.
-/
module

public import proofs.«01_k».proof.Proof.Sum.Point

@[expose] public section

set_option maxRecDepth 16384
set_option maxHeartbeats 2000000

noncomputable section

namespace Cert.Kernel20Ideal.Sum

open Cert.Kernel20Ideal Cert.Kernel20Ideal.Gen Idealize.ShloMosaic Idealize.ShloMosaic.TcCoe Idealize.SL.Sem
open Cert Cert.SumSpec

variable (m : (ℓ : Loc nD τ sig) → Buf (Elt Ideal) ℓ) (c : Dev nD)

theorem at_57 (t : Fin cfg0.N) (a : Fin 2) (b : Fin 4) (d : Fin 128) :
    (VO0_57.read (Elt Ideal) (VO0_57.writes (Elt Ideal) VO0_57.junk (runAt m c t).2.2.2.2.2.2.2.2.2.2.2.2.2.2.2.2.1) : S2x4x128.Idx → EReal) (ix3 a b d)
    = sum3 (m ((c : Thread nD τ).loc main_arg0)) (m ((c : Thread nD τ).loc main_arg17)) (m ((c : Thread nD τ).loc main_arg37)) (ix3 a b d) := by
  refine Eq.trans ?_ (total_eq _ _ _).symm
  unfold runAt
  frame_out
  pointwise [k0_pay35]
  simp only [read_unread_whole]
  blk_point [iblk, V] <;> first | exact zero_block _ _ | rfl

theorem at_60 (t : Fin cfg0.N) (a : Fin 8) (b : Fin 128) :
    (VO0_60.read (Elt Ideal) (VO0_60.writes (Elt Ideal) VO0_60.junk (runAt m c t).2.2.2.2.2.2.2.2.2.2.2.2.2.2.2.2.2.2.2.1) : S8x128.Idx → EReal) (ix2 a b)
    = sum2 (m ((c : Thread nD τ).loc main_arg0)) (m ((c : Thread nD τ).loc main_arg20)) (m ((c : Thread nD τ).loc main_arg40)) (ix2 a b) := by
  refine Eq.trans ?_ (total_eq _ _ _).symm
  unfold runAt
  frame_out
  pointwise [k0_pay38]
  simp only [read_unread_whole]
  blk_point [iblk, V] <;> first | exact zero_block _ _ | rfl

end Cert.Kernel20Ideal.Sum

end
-- ==== Proof.Sum.Entry6.lean ====
/-
What the body stores, entry by entry: the sum over the chips.
-/
module

public import proofs.«01_k».proof.Proof.Sum.Point

@[expose] public section

set_option maxRecDepth 16384
set_option maxHeartbeats 2000000

noncomputable section

namespace Cert.Kernel20Ideal.Sum

open Cert.Kernel20Ideal Cert.Kernel20Ideal.Gen Idealize.ShloMosaic Idealize.ShloMosaic.TcCoe Idealize.SL.Sem
open Cert Cert.SumSpec

variable (m : (ℓ : Loc nD τ sig) → Buf (Elt Ideal) ℓ) (c : Dev nD)

theorem pay_59 (ch : BitVec 32) (own : S1x1024.Idx → EReal) (X : S4x1x1024.Idx → EReal) (h0 h1 h2 h3) (a : Fin 1) (b : Fin 1024) :
    k0_pay37 (F := Ideal) ch own (View.ld (Val := Elt Ideal) (e' := .f32) X (Rect.unit ![0, 0, 0] ![1, 1, 1024] h0)) ch own (View.ld (Val := Elt Ideal) (e' := .f32) X (Rect.unit ![1, 0, 0] ![1, 1, 1024] h1))
      ch own (View.ld (Val := Elt Ideal) (e' := .f32) X (Rect.unit ![2, 0, 0] ![1, 1, 1024] h2)) ch own (View.ld (Val := Elt Ideal) (e' := .f32) X (Rect.unit ![3, 0, 0] ![1, 1, 1024] h3)) (ix2 a b)
    = total ch (own (ix2 a b)) fun p => X (ix3 p a b) := by
  have ha : a = 0 := Subsingleton.elim _ _
  subst ha
  refine Eq.trans ?_ (total_eq _ _ _).symm
  pointwise [k0_pay37]

theorem blk_0 (t : Fin cfg0.N) (h) : (iblk m c 0 t : S1.Idx → BitVec 32) (Shape.Idx.first h) = m ((c : Thread nD τ).loc main_arg0) (ix1 0) := by
  blk_point [iblk, V] <;> first | exact zero_block _ _ | rfl

theorem blk_39 (t : Fin cfg0.N) (a : Fin 1) (b : Fin 1024) :
    (iblk m c 39 t : S1x1024.Idx → EReal) (ix2 a b) = m ((c : Thread nD τ).loc main_arg39) (ix2 a b) := by
  have ha : a = 0 := Subsingleton.elim _ _
  subst ha
  blk_point [iblk, V] <;> first | exact zero_block _ _ | rfl

theorem blk_19 (t : Fin cfg0.N) (p : Fin 4) (a : Fin 1) (b : Fin 1024) :
    (iblk m c 19 t : S4x1x1024.Idx → EReal) (ix3 p a b) = m ((c : Thread nD τ).loc main_arg19) (ix3 p a b) := by
  have ha : a = 0 := Subsingleton.elim _ _
  subst ha
  blk_point [iblk, V] <;> first | exact zero_block _ _ | rfl

theorem at_59 (t : Fin cfg0.N) (a : Fin 1) (b : Fin 1024) :
    (VO0_59.read (Elt Ideal) (VO0_59.writes (Elt Ideal) VO0_59.junk (runAt m c t).2.2.2.2.2.2.2.2.2.2.2.2.2.2.2.2.2.2.1) : S1x1024.Idx → EReal) (ix2 a b)
    = sum2 (m ((c : Thread nD τ).loc main_arg0)) (m ((c : Thread nD τ).loc main_arg19)) (m ((c : Thread nD τ).loc main_arg39)) (ix2 a b) := by
  unfold runAt
  frame_out
  simp only [read_unread_whole]
  refine (pay_59 _ _ _ _ _ _ _ a b).trans ?_
  show total _ _ _ = total _ _ _
  exact congr (congr (congrArg total (blk_0 m c t _)) (blk_39 m c t a b)) (funext fun p => blk_19 m c t p a b)

end Cert.Kernel20Ideal.Sum

end
-- ==== Proof.Sum.Entry7.lean ====
/-
What the body stores, entry by entry: the sum over the chips.
-/
module

public import proofs.«01_k».proof.Proof.Sum.Point

@[expose] public section

set_option maxRecDepth 16384
set_option maxHeartbeats 2000000

noncomputable section

namespace Cert.Kernel20Ideal.Sum

open Cert.Kernel20Ideal Cert.Kernel20Ideal.Gen Idealize.ShloMosaic Idealize.ShloMosaic.TcCoe Idealize.SL.Sem
open Cert Cert.SumSpec

variable (m : (ℓ : Loc nD τ sig) → Buf (Elt Ideal) ℓ) (c : Dev nD)

theorem at_56 (t : Fin cfg0.N) (a : Fin 2) (b : Fin 4) (d : Fin 128) (e : Fin 128) :
    (VO0_56.read (Elt Ideal) (VO0_56.writes (Elt Ideal) VO0_56.junk (runAt m c t).2.2.2.2.2.2.2.2.2.2.2.2.2.2.2.1) : S2x4x128x128.Idx → EReal) (ix4 a b d e)
    = sum4 (m ((c : Thread nD τ).loc main_arg0)) (m ((c : Thread nD τ).loc main_arg16)) (m ((c : Thread nD τ).loc main_arg36)) (ix4 a b d e) := by
  refine Eq.trans ?_ (total_eq _ _ _).symm
  unfold runAt
  frame_out
  pointwise [k0_pay33, k0_pay34]
  simp only [read_unread_whole]
  blk_point [iblk, V] <;> first | exact zero_block _ _ | rfl

end Cert.Kernel20Ideal.Sum

end
-- ==== Proof.Sum.Final.lean ====
/-
The arrays that the sums over the chips leave, over the extended reals.
-/
module

public import proofs.«01_k».proof.Proof.Sum.Launch
public import proofs.«01_k».proof.Proof.Sum.Entry1
public import proofs.«01_k».proof.Proof.Sum.Entry2
public import proofs.«01_k».proof.Proof.Sum.Entry3
public import proofs.«01_k».proof.Proof.Sum.Entry4
public import proofs.«01_k».proof.Proof.Sum.Entry5
public import proofs.«01_k».proof.Proof.Sum.Entry6
public import proofs.«01_k».proof.Proof.Sum.Entry7

@[expose] public section

set_option maxRecDepth 16384
set_option maxHeartbeats 1000000

noncomputable section

namespace Cert.Kernel20Ideal.Sum

open Cert.Kernel20Ideal Cert.Kernel20Ideal.Gen Idealize.ShloMosaic Idealize.ShloMosaic.TcCoe Idealize.SL.Sem
open Idealize.ShloMosaic.Pipeline (Dat)
open Cert Cert.SumSpec

variable (m : (ℓ : Loc nD τ sig) → Buf (Elt Ideal) ℓ) (c : Dev nD)

/-- Result 0. -/
abbrev res_41 : S2x1024.Idx → EReal := sum2 (m ((c : Thread nD τ).loc main_arg0)) (m ((c : Thread nD τ).loc main_arg1)) (m ((c : Thread nD τ).loc main_arg21))
theorem cov_41 : (cfg0.win 41).Covers := by decide +kernel
theorem final_41 : (dats m 0 c).arrAt 41 cfg0.N = res_41 m c := by
  refine (dats m 0 c).arrAt_eq_of_covers 41 _ cov_41 fun t hf y => ?_
  have e : ((cfg0.win 41).blk t).view.emb y = y := by
    funext a
    refine Fin.ext ?_
    fin_cases a <;> blk_simp <;> first | exact zero_block _ _ | rfl
  rw [e, after_41]
  blk_simp
  exact ((congrArg (out_41 m c t) (eta2 y)).trans (at_41 m c t (y 0) (y 1))).trans (congrArg _ (eta2 y).symm)

/-- Result 1. -/
abbrev res_42 : S2x16x64.Idx → EReal := sum3 (m ((c : Thread nD τ).loc main_arg0)) (m ((c : Thread nD τ).loc main_arg2)) (m ((c : Thread nD τ).loc main_arg22))
theorem cov_42 : (cfg0.win 42).Covers := by decide +kernel
theorem final_42 : (dats m 0 c).arrAt 42 cfg0.N = res_42 m c := by
  refine (dats m 0 c).arrAt_eq_of_covers 42 _ cov_42 fun t hf y => ?_
  have e : ((cfg0.win 42).blk t).view.emb y = y := by
    funext a
    refine Fin.ext ?_
    fin_cases a <;> blk_simp <;> first | exact zero_block _ _ | rfl
  rw [e, after_42]
  blk_simp
  exact ((congrArg (out_42 m c t) (eta3 y)).trans (at_42 m c t (y 0) (y 1) (y 2))).trans (congrArg _ (eta3 y).symm)

/-- Result 2. -/
abbrev res_43 : S2x16x64.Idx → EReal := sum3 (m ((c : Thread nD τ).loc main_arg0)) (m ((c : Thread nD τ).loc main_arg3)) (m ((c : Thread nD τ).loc main_arg23))
theorem cov_43 : (cfg0.win 43).Covers := by decide +kernel
theorem final_43 : (dats m 0 c).arrAt 43 cfg0.N = res_43 m c := by
  refine (dats m 0 c).arrAt_eq_of_covers 43 _ cov_43 fun t hf y => ?_
  have e : ((cfg0.win 43).blk t).view.emb y = y := by
    funext a
    refine Fin.ext ?_
    fin_cases a <;> blk_simp <;> first | exact zero_block _ _ | rfl
  rw [e, after_43]
  blk_simp
  exact ((congrArg (out_43 m c t) (eta3 y)).trans (at_43 m c t (y 0) (y 1) (y 2))).trans (congrArg _ (eta3 y).symm)

/-- Result 3. -/
abbrev res_44 : S2x16x1024.Idx → EReal := sum3 (m ((c : Thread nD τ).loc main_arg0)) (m ((c : Thread nD τ).loc main_arg4)) (m ((c : Thread nD τ).loc main_arg24))
theorem cov_44 : (cfg0.win 44).Covers := by decide +kernel
theorem final_44 : (dats m 0 c).arrAt 44 cfg0.N = res_44 m c := by
  refine (dats m 0 c).arrAt_eq_of_covers 44 _ cov_44 fun t hf y => ?_
  have e : ((cfg0.win 44).blk t).view.emb y = y := by
    funext a
    refine Fin.ext ?_
    fin_cases a <;> blk_simp <;> first | exact zero_block _ _ | rfl
  rw [e, after_44]
  blk_simp
  exact ((congrArg (out_44 m c t) (eta3 y)).trans (at_44 m c t (y 0) (y 1) (y 2))).trans (congrArg _ (eta3 y).symm)

/-- Result 4. -/
abbrev res_45 : S2x16x1024.Idx → EReal := sum3 (m ((c : Thread nD τ).loc main_arg0)) (m ((c : Thread nD τ).loc main_arg5)) (m ((c : Thread nD τ).loc main_arg25))
theorem cov_45 : (cfg0.win 45).Covers := by decide +kernel
theorem final_45 : (dats m 0 c).arrAt 45 cfg0.N = res_45 m c := by
  refine (dats m 0 c).arrAt_eq_of_covers 45 _ cov_45 fun t hf y => ?_
  have e : ((cfg0.win 45).blk t).view.emb y = y := by
    funext a
    refine Fin.ext ?_
    fin_cases a <;> blk_simp <;> first | exact zero_block _ _ | rfl
  rw [e, after_45]
  blk_simp
  exact ((congrArg (out_45 m c t) (eta3 y)).trans (at_45 m c t (y 0) (y 1) (y 2))).trans (congrArg _ (eta3 y).symm)

/-- Result 5. -/
abbrev res_46 : S2x16x1024.Idx → EReal := sum3 (m ((c : Thread nD τ).loc main_arg0)) (m ((c : Thread nD τ).loc main_arg6)) (m ((c : Thread nD τ).loc main_arg26))
theorem cov_46 : (cfg0.win 46).Covers := by decide +kernel
theorem final_46 : (dats m 0 c).arrAt 46 cfg0.N = res_46 m c := by
  refine (dats m 0 c).arrAt_eq_of_covers 46 _ cov_46 fun t hf y => ?_
  have e : ((cfg0.win 46).blk t).view.emb y = y := by
    funext a
    refine Fin.ext ?_
    fin_cases a <;> blk_simp <;> first | exact zero_block _ _ | rfl
  rw [e, after_46]
  blk_simp
  exact ((congrArg (out_46 m c t) (eta3 y)).trans (at_46 m c t (y 0) (y 1) (y 2))).trans (congrArg _ (eta3 y).symm)

/-- Result 6. -/
abbrev res_47 : S2x16x1024.Idx → EReal := sum3 (m ((c : Thread nD τ).loc main_arg0)) (m ((c : Thread nD τ).loc main_arg7)) (m ((c : Thread nD τ).loc main_arg27))
theorem cov_47 : (cfg0.win 47).Covers := by decide +kernel
theorem final_47 : (dats m 0 c).arrAt 47 cfg0.N = res_47 m c := by
  refine (dats m 0 c).arrAt_eq_of_covers 47 _ cov_47 fun t hf y => ?_
  have e : ((cfg0.win 47).blk t).view.emb y = y := by
    funext a
    refine Fin.ext ?_
    fin_cases a <;> blk_simp <;> first | exact zero_block _ _ | rfl
  rw [e, after_47]
  blk_simp
  exact ((congrArg (out_47 m c t) (eta3 y)).trans (at_47 m c t (y 0) (y 1) (y 2))).trans (congrArg _ (eta3 y).symm)

/-- Result 7. -/
abbrev res_48 : S8x128.Idx → EReal := sum2 (m ((c : Thread nD τ).loc main_arg0)) (m ((c : Thread nD τ).loc main_arg8)) (m ((c : Thread nD τ).loc main_arg28))
theorem cov_48 : (cfg0.win 48).Covers := by decide +kernel
theorem final_48 : (dats m 0 c).arrAt 48 cfg0.N = res_48 m c := by
  refine (dats m 0 c).arrAt_eq_of_covers 48 _ cov_48 fun t hf y => ?_
  have e : ((cfg0.win 48).blk t).view.emb y = y := by
    funext a
    refine Fin.ext ?_
    fin_cases a <;> blk_simp <;> first | exact zero_block _ _ | rfl
  rw [e, after_48]
  blk_simp
  exact ((congrArg (out_48 m c t) (eta2 y)).trans (at_48 m c t (y 0) (y 1))).trans (congrArg _ (eta2 y).symm)

/-- Result 8. -/
abbrev res_49 : S8x128.Idx → EReal := sum2 (m ((c : Thread nD τ).loc main_arg0)) (m ((c : Thread nD τ).loc main_arg9)) (m ((c : Thread nD τ).loc main_arg29))
theorem cov_49 : (cfg0.win 49).Covers := by decide +kernel
theorem final_49 : (dats m 0 c).arrAt 49 cfg0.N = res_49 m c := by
  refine (dats m 0 c).arrAt_eq_of_covers 49 _ cov_49 fun t hf y => ?_
  have e : ((cfg0.win 49).blk t).view.emb y = y := by
    funext a
    refine Fin.ext ?_
    fin_cases a <;> blk_simp <;> first | exact zero_block _ _ | rfl
  rw [e, after_49]
  blk_simp
  exact ((congrArg (out_49 m c t) (eta2 y)).trans (at_49 m c t (y 0) (y 1))).trans (congrArg _ (eta2 y).symm)

/-- Result 9. -/
abbrev res_50 : S8x128.Idx → EReal := sum2 (m ((c : Thread nD τ).loc main_arg0)) (m ((c : Thread nD τ).loc main_arg10)) (m ((c : Thread nD τ).loc main_arg30))
theorem cov_50 : (cfg0.win 50).Covers := by decide +kernel
theorem final_50 : (dats m 0 c).arrAt 50 cfg0.N = res_50 m c := by
  refine (dats m 0 c).arrAt_eq_of_covers 50 _ cov_50 fun t hf y => ?_
  have e : ((cfg0.win 50).blk t).view.emb y = y := by
    funext a
    refine Fin.ext ?_
    fin_cases a <;> blk_simp <;> first | exact zero_block _ _ | rfl
  rw [e, after_50]
  blk_simp
  exact ((congrArg (out_50 m c t) (eta2 y)).trans (at_50 m c t (y 0) (y 1))).trans (congrArg _ (eta2 y).symm)

/-- Result 10. -/
abbrev res_51 : S8x128.Idx → EReal := sum2 (m ((c : Thread nD τ).loc main_arg0)) (m ((c : Thread nD τ).loc main_arg11)) (m ((c : Thread nD τ).loc main_arg31))
theorem cov_51 : (cfg0.win 51).Covers := by decide +kernel
theorem final_51 : (dats m 0 c).arrAt 51 cfg0.N = res_51 m c := by
  refine (dats m 0 c).arrAt_eq_of_covers 51 _ cov_51 fun t hf y => ?_
  have e : ((cfg0.win 51).blk t).view.emb y = y := by
    funext a
    refine Fin.ext ?_
    fin_cases a <;> blk_simp <;> first | exact zero_block _ _ | rfl
  rw [e, after_51]
  blk_simp
  exact ((congrArg (out_51 m c t) (eta2 y)).trans (at_51 m c t (y 0) (y 1))).trans (congrArg _ (eta2 y).symm)

/-- Result 11. -/
abbrev res_52 : S8x128.Idx → EReal := sum2 (m ((c : Thread nD τ).loc main_arg0)) (m ((c : Thread nD τ).loc main_arg12)) (m ((c : Thread nD τ).loc main_arg32))
theorem cov_52 : (cfg0.win 52).Covers := by decide +kernel
theorem final_52 : (dats m 0 c).arrAt 52 cfg0.N = res_52 m c := by
  refine (dats m 0 c).arrAt_eq_of_covers 52 _ cov_52 fun t hf y => ?_
  have e : ((cfg0.win 52).blk t).view.emb y = y := by
    funext a
    refine Fin.ext ?_
    fin_cases a <;> blk_simp <;> first | exact zero_block _ _ | rfl
  rw [e, after_52]
  blk_simp
  exact ((congrArg (out_52 m c t) (eta2 y)).trans (at_52 m c t (y 0) (y 1))).trans (congrArg _ (eta2 y).symm)

/-- Result 12. -/
abbrev res_53 : S8x128.Idx → EReal := sum2 (m ((c : Thread nD τ).loc main_arg0)) (m ((c : Thread nD τ).loc main_arg13)) (m ((c : Thread nD τ).loc main_arg33))
theorem cov_53 : (cfg0.win 53).Covers := by decide +kernel
theorem final_53 : (dats m 0 c).arrAt 53 cfg0.N = res_53 m c := by
  refine (dats m 0 c).arrAt_eq_of_covers 53 _ cov_53 fun t hf y => ?_
  have e : ((cfg0.win 53).blk t).view.emb y = y := by
    funext a
    refine Fin.ext ?_
    fin_cases a <;> blk_simp <;> first | exact zero_block _ _ | rfl
  rw [e, after_53]
  blk_simp
  exact ((congrArg (out_53 m c t) (eta2 y)).trans (at_53 m c t (y 0) (y 1))).trans (congrArg _ (eta2 y).symm)

/-- Result 13. -/
abbrev res_54 : S8x128.Idx → EReal := sum2 (m ((c : Thread nD τ).loc main_arg0)) (m ((c : Thread nD τ).loc main_arg14)) (m ((c : Thread nD τ).loc main_arg34))
theorem cov_54 : (cfg0.win 54).Covers := by decide +kernel
theorem final_54 : (dats m 0 c).arrAt 54 cfg0.N = res_54 m c := by
  refine (dats m 0 c).arrAt_eq_of_covers 54 _ cov_54 fun t hf y => ?_
  have e : ((cfg0.win 54).blk t).view.emb y = y := by
    funext a
    refine Fin.ext ?_
    fin_cases a <;> blk_simp <;> first | exact zero_block _ _ | rfl
  rw [e, after_54]
  blk_simp
  exact ((congrArg (out_54 m c t) (eta2 y)).trans (at_54 m c t (y 0) (y 1))).trans (congrArg _ (eta2 y).symm)

/-- Result 14. -/
abbrev res_55 : S8x128.Idx → EReal := sum2 (m ((c : Thread nD τ).loc main_arg0)) (m ((c : Thread nD τ).loc main_arg15)) (m ((c : Thread nD τ).loc main_arg35))
theorem cov_55 : (cfg0.win 55).Covers := by decide +kernel
theorem final_55 : (dats m 0 c).arrAt 55 cfg0.N = res_55 m c := by
  refine (dats m 0 c).arrAt_eq_of_covers 55 _ cov_55 fun t hf y => ?_
  have e : ((cfg0.win 55).blk t).view.emb y = y := by
    funext a
    refine Fin.ext ?_
    fin_cases a <;> blk_simp <;> first | exact zero_block _ _ | rfl
  rw [e, after_55]
  blk_simp
  exact ((congrArg (out_55 m c t) (eta2 y)).trans (at_55 m c t (y 0) (y 1))).trans (congrArg _ (eta2 y).symm)

/-- Result 15. -/
abbrev res_56 : S2x4x128x128.Idx → EReal := sum4 (m ((c : Thread nD τ).loc main_arg0)) (m ((c : Thread nD τ).loc main_arg16)) (m ((c : Thread nD τ).loc main_arg36))
theorem cov_56 : (cfg0.win 56).Covers := by decide +kernel
theorem final_56 : (dats m 0 c).arrAt 56 cfg0.N = res_56 m c := by
  refine (dats m 0 c).arrAt_eq_of_covers 56 _ cov_56 fun t hf y => ?_
  have e : ((cfg0.win 56).blk t).view.emb y = y := by
    funext a
    refine Fin.ext ?_
    fin_cases a <;> blk_simp <;> first | exact zero_block _ _ | rfl
  rw [e, after_56]
  blk_simp
  exact ((congrArg (out_56 m c t) (eta4 y)).trans (at_56 m c t (y 0) (y 1) (y 2) (y 3))).trans (congrArg _ (eta4 y).symm)

/-- Result 16. -/
abbrev res_57 : S2x4x128.Idx → EReal := sum3 (m ((c : Thread nD τ).loc main_arg0)) (m ((c : Thread nD τ).loc main_arg17)) (m ((c : Thread nD τ).loc main_arg37))
theorem cov_57 : (cfg0.win 57).Covers := by decide +kernel
theorem final_57 : (dats m 0 c).arrAt 57 cfg0.N = res_57 m c := by
  refine (dats m 0 c).arrAt_eq_of_covers 57 _ cov_57 fun t hf y => ?_
  have e : ((cfg0.win 57).blk t).view.emb y = y := by
    funext a
    refine Fin.ext ?_
    fin_cases a <;> blk_simp <;> first | exact zero_block _ _ | rfl
  rw [e, after_57]
  blk_simp
  exact ((congrArg (out_57 m c t) (eta3 y)).trans (at_57 m c t (y 0) (y 1) (y 2))).trans (congrArg _ (eta3 y).symm)

/-- Result 17. -/
abbrev res_58 : S2x1024.Idx → EReal := sum2 (m ((c : Thread nD τ).loc main_arg0)) (m ((c : Thread nD τ).loc main_arg18)) (m ((c : Thread nD τ).loc main_arg38))
theorem cov_58 : (cfg0.win 58).Covers := by decide +kernel
theorem final_58 : (dats m 0 c).arrAt 58 cfg0.N = res_58 m c := by
  refine (dats m 0 c).arrAt_eq_of_covers 58 _ cov_58 fun t hf y => ?_
  have e : ((cfg0.win 58).blk t).view.emb y = y := by
    funext a
    refine Fin.ext ?_
    fin_cases a <;> blk_simp <;> first | exact zero_block _ _ | rfl
  rw [e, after_58]
  blk_simp
  exact ((congrArg (out_58 m c t) (eta2 y)).trans (at_58 m c t (y 0) (y 1))).trans (congrArg _ (eta2 y).symm)

/-- Result 18. -/
abbrev res_59 : S1x1024.Idx → EReal := sum2 (m ((c : Thread nD τ).loc main_arg0)) (m ((c : Thread nD τ).loc main_arg19)) (m ((c : Thread nD τ).loc main_arg39))
theorem cov_59 : (cfg0.win 59).Covers := by decide +kernel
theorem final_59 : (dats m 0 c).arrAt 59 cfg0.N = res_59 m c := by
  refine (dats m 0 c).arrAt_eq_of_covers 59 _ cov_59 fun t hf y => ?_
  have e : ((cfg0.win 59).blk t).view.emb y = y := by
    funext a
    refine Fin.ext ?_
    fin_cases a <;> blk_simp <;> first | exact zero_block _ _ | rfl
  rw [e, after_59]
  blk_simp
  exact ((congrArg (out_59 m c t) (eta2 y)).trans (at_59 m c t (y 0) (y 1))).trans (congrArg _ (eta2 y).symm)

/-- Result 19. -/
abbrev res_60 : S8x128.Idx → EReal := sum2 (m ((c : Thread nD τ).loc main_arg0)) (m ((c : Thread nD τ).loc main_arg20)) (m ((c : Thread nD τ).loc main_arg40))
theorem cov_60 : (cfg0.win 60).Covers := by decide +kernel
theorem final_60 : (dats m 0 c).arrAt 60 cfg0.N = res_60 m c := by
  refine (dats m 0 c).arrAt_eq_of_covers 60 _ cov_60 fun t hf y => ?_
  have e : ((cfg0.win 60).blk t).view.emb y = y := by
    funext a
    refine Fin.ext ?_
    fin_cases a <;> blk_simp <;> first | exact zero_block _ _ | rfl
  rw [e, after_60]
  blk_simp
  exact ((congrArg (out_60 m c t) (eta2 y)).trans (at_60 m c t (y 0) (y 1))).trans (congrArg _ (eta2 y).symm)

end Cert.Kernel20Ideal.Sum

end
-- ==== Proof.Sum.RefRead.lean ====
/-
  The reference of the sums over the chips, read at an entry: one lemma per shape, and the results of the same shape are the same function.
-/
module

public import proofs.«01_k».proof.Proof.Sum.Spec
public import proofs.«01_k».proof.Proof.Gen.Reference20Ideal.Read

@[expose] public section

set_option maxHeartbeats 4000000

noncomputable section

namespace Cert.Reference20Ideal.Read

open Idealize.ShloMosaic
open Cert.SumSpec

theorem start : Ideal.ofBits .f32 0x00000000#32 = (0 : EReal) := by
  norm_num [Ideal.ofBits, Ideal.ieee]

theorem val_main_v7_total (x0 : S1.Idx → Elt Ideal .i32) (x1 : S4x2x1024.Idx → Elt Ideal .f32) (x2 : S2x1024.Idx → Elt Ideal .f32)
    (a : Fin 2) (b : Fin 1024) : val_main_v7 x0 x1 x2 (ix2 a b) = total (x0 (ix1 0)) (x2 (ix2 a b)) fun p => x1 (ix3 p a b) := by
  refine (val_main_v7_apply x0 x1 x2 (ix2 a b)).trans ?_
  refine (congrArg₂ (· + ·) start rfl).trans ((zero_add _).trans ?_)
  refine Finset.sum_congr rfl fun p _ => ?_
  rw [val_main_v6_apply]
  have e : idx_main_v7 (ix2 a b) p = (ix3 p a b) := by funext e; fin_cases e <;> rfl
  rw [e]
  pointwise [val_main_call0_v0, val_main_call0_v1, val_main_v5, val_main_v4, val_main_v3, val_main_v2, val_main_v1, val_main_v0]
theorem val_main_v7_sum (x0 : S1.Idx → Elt Ideal .i32) (x1 : S4x2x1024.Idx → Elt Ideal .f32) (x2 : S2x1024.Idx → Elt Ideal .f32) :
    val_main_v7 x0 x1 x2 = sum2 x0 x1 x2 :=
  funext fun y => (congrArg (val_main_v7 x0 x1 x2) (eta2 y)).trans (val_main_v7_total x0 x1 x2 (y 0) (y 1))

theorem val_main_v15_total (x0 : S1.Idx → Elt Ideal .i32) (x1 : S4x2x16x64.Idx → Elt Ideal .f32) (x2 : S2x16x64.Idx → Elt Ideal .f32)
    (a : Fin 2) (b : Fin 16) (c : Fin 64) : val_main_v15 x0 x1 x2 (ix3 a b c) = total (x0 (ix1 0)) (x2 (ix3 a b c)) fun p => x1 (ix4 p a b c) := by
  refine (val_main_v15_apply x0 x1 x2 (ix3 a b c)).trans ?_
  refine (congrArg₂ (· + ·) start rfl).trans ((zero_add _).trans ?_)
  refine Finset.sum_congr rfl fun p _ => ?_
  rw [val_main_v14_apply]
  have e : idx_main_v15 (ix3 a b c) p = (ix4 p a b c) := by funext e; fin_cases e <;> rfl
  rw [e]
  pointwise [val_main_call1_v0, val_main_call1_v1, val_main_v13, val_main_v12, val_main_v11, val_main_v10, val_main_v9, val_main_v8]
theorem val_main_v15_sum (x0 : S1.Idx → Elt Ideal .i32) (x1 : S4x2x16x64.Idx → Elt Ideal .f32) (x2 : S2x16x64.Idx → Elt Ideal .f32) :
    val_main_v15 x0 x1 x2 = sum3 x0 x1 x2 :=
  funext fun y => (congrArg (val_main_v15 x0 x1 x2) (eta3 y)).trans (val_main_v15_total x0 x1 x2 (y 0) (y 1) (y 2))

theorem val_main_v23_sum (x0 : S1.Idx → Elt Ideal .i32) (x1 : S4x2x16x64.Idx → Elt Ideal .f32) (x2 : S2x16x64.Idx → Elt Ideal .f32) :
    val_main_v23 x0 x1 x2 = sum3 x0 x1 x2 := val_main_v15_sum x0 x1 x2

theorem val_main_v31_total (x0 : S1.Idx → Elt Ideal .i32) (x1 : S4x2x16x1024.Idx → Elt Ideal .f32) (x2 : S2x16x1024.Idx → Elt Ideal .f32)
    (a : Fin 2) (b : Fin 16) (c : Fin 1024) : val_main_v31 x0 x1 x2 (ix3 a b c) = total (x0 (ix1 0)) (x2 (ix3 a b c)) fun p => x1 (ix4 p a b c) := by
  refine (val_main_v31_apply x0 x1 x2 (ix3 a b c)).trans ?_
  refine (congrArg₂ (· + ·) start rfl).trans ((zero_add _).trans ?_)
  refine Finset.sum_congr rfl fun p _ => ?_
  rw [val_main_v30_apply]
  have e : idx_main_v31 (ix3 a b c) p = (ix4 p a b c) := by funext e; fin_cases e <;> rfl
  rw [e]
  pointwise [val_main_call3_v0, val_main_call3_v1, val_main_v29, val_main_v28, val_main_v27, val_main_v26, val_main_v25, val_main_v24]
theorem val_main_v31_sum (x0 : S1.Idx → Elt Ideal .i32) (x1 : S4x2x16x1024.Idx → Elt Ideal .f32) (x2 : S2x16x1024.Idx → Elt Ideal .f32) :
    val_main_v31 x0 x1 x2 = sum3 x0 x1 x2 :=
  funext fun y => (congrArg (val_main_v31 x0 x1 x2) (eta3 y)).trans (val_main_v31_total x0 x1 x2 (y 0) (y 1) (y 2))

theorem val_main_v39_sum (x0 : S1.Idx → Elt Ideal .i32) (x1 : S4x2x16x1024.Idx → Elt Ideal .f32) (x2 : S2x16x1024.Idx → Elt Ideal .f32) :
    val_main_v39 x0 x1 x2 = sum3 x0 x1 x2 := val_main_v31_sum x0 x1 x2

theorem val_main_v47_sum (x0 : S1.Idx → Elt Ideal .i32) (x1 : S4x2x16x1024.Idx → Elt Ideal .f32) (x2 : S2x16x1024.Idx → Elt Ideal .f32) :
    val_main_v47 x0 x1 x2 = sum3 x0 x1 x2 := val_main_v31_sum x0 x1 x2

theorem val_main_v55_sum (x0 : S1.Idx → Elt Ideal .i32) (x1 : S4x2x16x1024.Idx → Elt Ideal .f32) (x2 : S2x16x1024.Idx → Elt Ideal .f32) :
    val_main_v55 x0 x1 x2 = sum3 x0 x1 x2 := val_main_v31_sum x0 x1 x2

theorem val_main_v63_total (x0 : S1.Idx → Elt Ideal .i32) (x1 : S4x8x128.Idx → Elt Ideal .f32) (x2 : S8x128.Idx → Elt Ideal .f32)
    (a : Fin 8) (b : Fin 128) : val_main_v63 x0 x1 x2 (ix2 a b) = total (x0 (ix1 0)) (x2 (ix2 a b)) fun p => x1 (ix3 p a b) := by
  refine (val_main_v63_apply x0 x1 x2 (ix2 a b)).trans ?_
  refine (congrArg₂ (· + ·) start rfl).trans ((zero_add _).trans ?_)
  refine Finset.sum_congr rfl fun p _ => ?_
  rw [val_main_v62_apply]
  have e : idx_main_v63 (ix2 a b) p = (ix3 p a b) := by funext e; fin_cases e <;> rfl
  rw [e]
  pointwise [val_main_call7_v0, val_main_call7_v1, val_main_v61, val_main_v60, val_main_v59, val_main_v58, val_main_v57, val_main_v56]
theorem val_main_v63_sum (x0 : S1.Idx → Elt Ideal .i32) (x1 : S4x8x128.Idx → Elt Ideal .f32) (x2 : S8x128.Idx → Elt Ideal .f32) :
    val_main_v63 x0 x1 x2 = sum2 x0 x1 x2 :=
  funext fun y => (congrArg (val_main_v63 x0 x1 x2) (eta2 y)).trans (val_main_v63_total x0 x1 x2 (y 0) (y 1))

theorem val_main_v71_sum (x0 : S1.Idx → Elt Ideal .i32) (x1 : S4x8x128.Idx → Elt Ideal .f32) (x2 : S8x128.Idx → Elt Ideal .f32) :
    val_main_v71 x0 x1 x2 = sum2 x0 x1 x2 := val_main_v63_sum x0 x1 x2

theorem val_main_v79_sum (x0 : S1.Idx → Elt Ideal .i32) (x1 : S4x8x128.Idx → Elt Ideal .f32) (x2 : S8x128.Idx → Elt Ideal .f32) :
    val_main_v79 x0 x1 x2 = sum2 x0 x1 x2 := val_main_v63_sum x0 x1 x2

theorem val_main_v87_sum (x0 : S1.Idx → Elt Ideal .i32) (x1 : S4x8x128.Idx → Elt Ideal .f32) (x2 : S8x128.Idx → Elt Ideal .f32) :
    val_main_v87 x0 x1 x2 = sum2 x0 x1 x2 := val_main_v63_sum x0 x1 x2

theorem val_main_v95_sum (x0 : S1.Idx → Elt Ideal .i32) (x1 : S4x8x128.Idx → Elt Ideal .f32) (x2 : S8x128.Idx → Elt Ideal .f32) :
    val_main_v95 x0 x1 x2 = sum2 x0 x1 x2 := val_main_v63_sum x0 x1 x2

theorem val_main_v103_sum (x0 : S1.Idx → Elt Ideal .i32) (x1 : S4x8x128.Idx → Elt Ideal .f32) (x2 : S8x128.Idx → Elt Ideal .f32) :
    val_main_v103 x0 x1 x2 = sum2 x0 x1 x2 := val_main_v63_sum x0 x1 x2

theorem val_main_v111_sum (x0 : S1.Idx → Elt Ideal .i32) (x1 : S4x8x128.Idx → Elt Ideal .f32) (x2 : S8x128.Idx → Elt Ideal .f32) :
    val_main_v111 x0 x1 x2 = sum2 x0 x1 x2 := val_main_v63_sum x0 x1 x2

theorem val_main_v119_sum (x0 : S1.Idx → Elt Ideal .i32) (x1 : S4x8x128.Idx → Elt Ideal .f32) (x2 : S8x128.Idx → Elt Ideal .f32) :
    val_main_v119 x0 x1 x2 = sum2 x0 x1 x2 := val_main_v63_sum x0 x1 x2

theorem val_main_v127_total (x0 : S1.Idx → Elt Ideal .i32) (x1 : S4x2x4x128x128.Idx → Elt Ideal .f32) (x2 : S2x4x128x128.Idx → Elt Ideal .f32)
    (a : Fin 2) (b : Fin 4) (c : Fin 128) (d : Fin 128) : val_main_v127 x0 x1 x2 (ix4 a b c d) = total (x0 (ix1 0)) (x2 (ix4 a b c d)) fun p => x1 (ix5 p a b c d) := by
  refine (val_main_v127_apply x0 x1 x2 (ix4 a b c d)).trans ?_
  refine (congrArg₂ (· + ·) start rfl).trans ((zero_add _).trans ?_)
  refine Finset.sum_congr rfl fun p _ => ?_
  rw [val_main_v126_apply]
  have e : idx_main_v127 (ix4 a b c d) p = (ix5 p a b c d) := by funext e; fin_cases e <;> rfl
  rw [e]
  pointwise [val_main_call15_v0, val_main_call15_v1, val_main_v125, val_main_v124, val_main_v123, val_main_v122, val_main_v121, val_main_v120]
theorem val_main_v127_sum (x0 : S1.Idx → Elt Ideal .i32) (x1 : S4x2x4x128x128.Idx → Elt Ideal .f32) (x2 : S2x4x128x128.Idx → Elt Ideal .f32) :
    val_main_v127 x0 x1 x2 = sum4 x0 x1 x2 :=
  funext fun y => (congrArg (val_main_v127 x0 x1 x2) (eta4 y)).trans (val_main_v127_total x0 x1 x2 (y 0) (y 1) (y 2) (y 3))

theorem val_main_v135_total (x0 : S1.Idx → Elt Ideal .i32) (x1 : S4x2x4x128.Idx → Elt Ideal .f32) (x2 : S2x4x128.Idx → Elt Ideal .f32)
    (a : Fin 2) (b : Fin 4) (c : Fin 128) : val_main_v135 x0 x1 x2 (ix3 a b c) = total (x0 (ix1 0)) (x2 (ix3 a b c)) fun p => x1 (ix4 p a b c) := by
  refine (val_main_v135_apply x0 x1 x2 (ix3 a b c)).trans ?_
  refine (congrArg₂ (· + ·) start rfl).trans ((zero_add _).trans ?_)
  refine Finset.sum_congr rfl fun p _ => ?_
  rw [val_main_v134_apply]
  have e : idx_main_v135 (ix3 a b c) p = (ix4 p a b c) := by funext e; fin_cases e <;> rfl
  rw [e]
  pointwise [val_main_call16_v0, val_main_call16_v1, val_main_v133, val_main_v132, val_main_v131, val_main_v130, val_main_v129, val_main_v128]
theorem val_main_v135_sum (x0 : S1.Idx → Elt Ideal .i32) (x1 : S4x2x4x128.Idx → Elt Ideal .f32) (x2 : S2x4x128.Idx → Elt Ideal .f32) :
    val_main_v135 x0 x1 x2 = sum3 x0 x1 x2 :=
  funext fun y => (congrArg (val_main_v135 x0 x1 x2) (eta3 y)).trans (val_main_v135_total x0 x1 x2 (y 0) (y 1) (y 2))

theorem val_main_v143_sum (x0 : S1.Idx → Elt Ideal .i32) (x1 : S4x2x1024.Idx → Elt Ideal .f32) (x2 : S2x1024.Idx → Elt Ideal .f32) :
    val_main_v143 x0 x1 x2 = sum2 x0 x1 x2 := val_main_v7_sum x0 x1 x2

theorem val_main_v151_total (x0 : S1.Idx → Elt Ideal .i32) (x1 : S4x1x1024.Idx → Elt Ideal .f32) (x2 : S1x1024.Idx → Elt Ideal .f32)
    (a : Fin 1) (b : Fin 1024) : val_main_v151 x0 x1 x2 (ix2 a b) = total (x0 (ix1 0)) (x2 (ix2 a b)) fun p => x1 (ix3 p a b) := by
  obtain rfl : a = 0 := Subsingleton.elim _ _
  refine (val_main_v151_apply x0 x1 x2 (ix2 0 b)).trans ?_
  refine (congrArg₂ (· + ·) start rfl).trans ((zero_add _).trans ?_)
  refine Finset.sum_congr rfl fun p _ => ?_
  rw [val_main_v150_apply]
  have e : idx_main_v151 (ix2 0 b) p = (ix3 p 0 b) := by funext e; fin_cases e <;> rfl
  rw [e]
  pointwise [val_main_call18_v0, val_main_call18_v1, val_main_v149, val_main_v148, val_main_v147, val_main_v146, val_main_v145, val_main_v144]
theorem val_main_v151_sum (x0 : S1.Idx → Elt Ideal .i32) (x1 : S4x1x1024.Idx → Elt Ideal .f32) (x2 : S1x1024.Idx → Elt Ideal .f32) :
    val_main_v151 x0 x1 x2 = sum2 x0 x1 x2 :=
  funext fun y => (congrArg (val_main_v151 x0 x1 x2) (eta2 y)).trans (val_main_v151_total x0 x1 x2 (y 0) (y 1))

theorem val_main_v159_sum (x0 : S1.Idx → Elt Ideal .i32) (x1 : S4x8x128.Idx → Elt Ideal .f32) (x2 : S8x128.Idx → Elt Ideal .f32) :
    val_main_v159 x0 x1 x2 = sum2 x0 x1 x2 := val_main_v63_sum x0 x1 x2

end Cert.Reference20Ideal.Read

end
-- ==== Proof.Sum.RefRun.lean ====
/-
The reference's results, from its launched arguments: the sums over the chips.
-/
module

public import proofs.«01_k».proof.Proof.Sum.RefRead
public import proofs.«01_k».proof.Proof.Gen.Reference20Ideal.Run

@[expose] public section

set_option maxHeartbeats 4000000

noncomputable section

namespace Cert.Reference20Ideal.Sum

open Cert.Reference20Ideal Cert.Reference20Ideal.Read Idealize.ShloMosaic Idealize.ShloMosaic.TcCoe Idealize.ShloMosaic.StableHlo Idealize.SL.Sem
open Cert.SumSpec

variable (m : (ℓ : Loc nD τ sig) → Buf (Elt Ideal) ℓ) (g : Dev nD → PrngReg)

theorem run : θ_run defs (onTc (τ := τ) (main (F := Ideal))) ⟨m, fun _ => 0, g⟩ fun r => ∀ c : Dev nD,
      r.2.mem ((c : Thread nD τ).loc main_v7) = sum2 (m ((c : Thread nD τ).loc main_arg0)) (m ((c : Thread nD τ).loc main_arg1)) (m ((c : Thread nD τ).loc main_arg21))
      ∧ r.2.mem ((c : Thread nD τ).loc main_v15) = sum3 (m ((c : Thread nD τ).loc main_arg0)) (m ((c : Thread nD τ).loc main_arg2)) (m ((c : Thread nD τ).loc main_arg22))
      ∧ r.2.mem ((c : Thread nD τ).loc main_v23) = sum3 (m ((c : Thread nD τ).loc main_arg0)) (m ((c : Thread nD τ).loc main_arg3)) (m ((c : Thread nD τ).loc main_arg23))
      ∧ r.2.mem ((c : Thread nD τ).loc main_v31) = sum3 (m ((c : Thread nD τ).loc main_arg0)) (m ((c : Thread nD τ).loc main_arg4)) (m ((c : Thread nD τ).loc main_arg24))
      ∧ r.2.mem ((c : Thread nD τ).loc main_v39) = sum3 (m ((c : Thread nD τ).loc main_arg0)) (m ((c : Thread nD τ).loc main_arg5)) (m ((c : Thread nD τ).loc main_arg25))
      ∧ r.2.mem ((c : Thread nD τ).loc main_v47) = sum3 (m ((c : Thread nD τ).loc main_arg0)) (m ((c : Thread nD τ).loc main_arg6)) (m ((c : Thread nD τ).loc main_arg26))
      ∧ r.2.mem ((c : Thread nD τ).loc main_v55) = sum3 (m ((c : Thread nD τ).loc main_arg0)) (m ((c : Thread nD τ).loc main_arg7)) (m ((c : Thread nD τ).loc main_arg27))
      ∧ r.2.mem ((c : Thread nD τ).loc main_v63) = sum2 (m ((c : Thread nD τ).loc main_arg0)) (m ((c : Thread nD τ).loc main_arg8)) (m ((c : Thread nD τ).loc main_arg28))
      ∧ r.2.mem ((c : Thread nD τ).loc main_v71) = sum2 (m ((c : Thread nD τ).loc main_arg0)) (m ((c : Thread nD τ).loc main_arg9)) (m ((c : Thread nD τ).loc main_arg29))
      ∧ r.2.mem ((c : Thread nD τ).loc main_v79) = sum2 (m ((c : Thread nD τ).loc main_arg0)) (m ((c : Thread nD τ).loc main_arg10)) (m ((c : Thread nD τ).loc main_arg30))
      ∧ r.2.mem ((c : Thread nD τ).loc main_v87) = sum2 (m ((c : Thread nD τ).loc main_arg0)) (m ((c : Thread nD τ).loc main_arg11)) (m ((c : Thread nD τ).loc main_arg31))
      ∧ r.2.mem ((c : Thread nD τ).loc main_v95) = sum2 (m ((c : Thread nD τ).loc main_arg0)) (m ((c : Thread nD τ).loc main_arg12)) (m ((c : Thread nD τ).loc main_arg32))
      ∧ r.2.mem ((c : Thread nD τ).loc main_v103) = sum2 (m ((c : Thread nD τ).loc main_arg0)) (m ((c : Thread nD τ).loc main_arg13)) (m ((c : Thread nD τ).loc main_arg33))
      ∧ r.2.mem ((c : Thread nD τ).loc main_v111) = sum2 (m ((c : Thread nD τ).loc main_arg0)) (m ((c : Thread nD τ).loc main_arg14)) (m ((c : Thread nD τ).loc main_arg34))
      ∧ r.2.mem ((c : Thread nD τ).loc main_v119) = sum2 (m ((c : Thread nD τ).loc main_arg0)) (m ((c : Thread nD τ).loc main_arg15)) (m ((c : Thread nD τ).loc main_arg35))
      ∧ r.2.mem ((c : Thread nD τ).loc main_v127) = sum4 (m ((c : Thread nD τ).loc main_arg0)) (m ((c : Thread nD τ).loc main_arg16)) (m ((c : Thread nD τ).loc main_arg36))
      ∧ r.2.mem ((c : Thread nD τ).loc main_v135) = sum3 (m ((c : Thread nD τ).loc main_arg0)) (m ((c : Thread nD τ).loc main_arg17)) (m ((c : Thread nD τ).loc main_arg37))
      ∧ r.2.mem ((c : Thread nD τ).loc main_v143) = sum2 (m ((c : Thread nD τ).loc main_arg0)) (m ((c : Thread nD τ).loc main_arg18)) (m ((c : Thread nD τ).loc main_arg38))
      ∧ r.2.mem ((c : Thread nD τ).loc main_v151) = sum2 (m ((c : Thread nD τ).loc main_arg0)) (m ((c : Thread nD τ).loc main_arg19)) (m ((c : Thread nD τ).loc main_arg39))
      ∧ r.2.mem ((c : Thread nD τ).loc main_v159) = sum2 (m ((c : Thread nD τ).loc main_arg0)) (m ((c : Thread nD τ).loc main_arg20)) (m ((c : Thread nD τ).loc main_arg40))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26)
      ∧ r.2.mem ((c : Thread nD τ).loc main_arg27) = m ((c : Thread nD τ).loc main_arg27)
      ∧ r.2.mem ((c : Thread nD τ).loc main_arg28) = m ((c : Thread nD τ).loc main_arg28)
      ∧ r.2.mem ((c : Thread nD τ).loc main_arg29) = m ((c : Thread nD τ).loc main_arg29)
      ∧ r.2.mem ((c : Thread nD τ).loc main_arg30) = m ((c : Thread nD τ).loc main_arg30)
      ∧ r.2.mem ((c : Thread nD τ).loc main_arg31) = m ((c : Thread nD τ).loc main_arg31)
      ∧ r.2.mem ((c : Thread nD τ).loc main_arg32) = m ((c : Thread nD τ).loc main_arg32)
      ∧ r.2.mem ((c : Thread nD τ).loc main_arg33) = m ((c : Thread nD τ).loc main_arg33)
      ∧ r.2.mem ((c : Thread nD τ).loc main_arg34) = m ((c : Thread nD τ).loc main_arg34)
      ∧ r.2.mem ((c : Thread nD τ).loc main_arg35) = m ((c : Thread nD τ).loc main_arg35)
      ∧ r.2.mem ((c : Thread nD τ).loc main_arg36) = m ((c : Thread nD τ).loc main_arg36)
      ∧ r.2.mem ((c : Thread nD τ).loc main_arg37) = m ((c : Thread nD τ).loc main_arg37)
      ∧ r.2.mem ((c : Thread nD τ).loc main_arg38) = m ((c : Thread nD τ).loc main_arg38)
      ∧ r.2.mem ((c : Thread nD τ).loc main_arg39) = m ((c : Thread nD τ).loc main_arg39)
      ∧ r.2.mem ((c : Thread nD τ).loc main_arg40) = m ((c : Thread nD τ).loc main_arg40) := by
  refine (θ_run defs _ _).mono (fun r h c => ?_) (Cert.Reference20Ideal.Value.run m g)
  obtain ⟨h0, h1, h2, h3, h4, h5, h6, h7, h8, h9, h10, h11, h12, h13, h14, h15, h16, h17, h18, h19, hk⟩ := h c
  exact ⟨(h0.trans (val_main_v7_eq (launchContents m c))).trans (val_main_v7_sum _ _ _),
    (h1.trans (val_main_v15_eq (launchContents m c))).trans (val_main_v15_sum _ _ _),
    (h2.trans (val_main_v23_eq (launchContents m c))).trans (val_main_v23_sum _ _ _),
    (h3.trans (val_main_v31_eq (launchContents m c))).trans (val_main_v31_sum _ _ _),
    (h4.trans (val_main_v39_eq (launchContents m c))).trans (val_main_v39_sum _ _ _),
    (h5.trans (val_main_v47_eq (launchContents m c))).trans (val_main_v47_sum _ _ _),
    (h6.trans (val_main_v55_eq (launchContents m c))).trans (val_main_v55_sum _ _ _),
    (h7.trans (val_main_v63_eq (launchContents m c))).trans (val_main_v63_sum _ _ _),
    (h8.trans (val_main_v71_eq (launchContents m c))).trans (val_main_v71_sum _ _ _),
    (h9.trans (val_main_v79_eq (launchContents m c))).trans (val_main_v79_sum _ _ _),
    (h10.trans (val_main_v87_eq (launchContents m c))).trans (val_main_v87_sum _ _ _),
    (h11.trans (val_main_v95_eq (launchContents m c))).trans (val_main_v95_sum _ _ _),
    (h12.trans (val_main_v103_eq (launchContents m c))).trans (val_main_v103_sum _ _ _),
    (h13.trans (val_main_v111_eq (launchContents m c))).trans (val_main_v111_sum _ _ _),
    (h14.trans (val_main_v119_eq (launchContents m c))).trans (val_main_v119_sum _ _ _),
    (h15.trans (val_main_v127_eq (launchContents m c))).trans (val_main_v127_sum _ _ _),
    (h16.trans (val_main_v135_eq (launchContents m c))).trans (val_main_v135_sum _ _ _),
    (h17.trans (val_main_v143_eq (launchContents m c))).trans (val_main_v143_sum _ _ _),
    (h18.trans (val_main_v151_eq (launchContents m c))).trans (val_main_v151_sum _ _ _),
    (h19.trans (val_main_v159_eq (launchContents m c))).trans (val_main_v159_sum _ _ _), hk⟩

end Cert.Reference20Ideal.Sum

end
-- ==== Proof.Sum.Same.lean ====
/-
The kernel at machine floats and its idealization are the same program: the idealization changed nothing in it.
-/
module

public import proofs.«01_k».proof.Defs
public import proofs.«01_k».proof.Proof.Gen.Kernel20
public import proofs.«01_k».proof.Proof.Gen.Kernel20Ideal

@[expose] public section

set_option maxHeartbeats 4000000

noncomputable section

namespace Cert.Sum

open Idealize.ShloMosaic Idealize.ShloMosaic.TcCoe Idealize.SL.Sem

variable {F : FTy → Type} [FloatOps F]

theorem defs₀_eq : (Cert.Kernel20.defs₀ (F := F)) = (Cert.Kernel20Ideal.defs₀ (F := F)) := by
  unfold Cert.Kernel20.defs₀ Cert.Kernel20Ideal.defs₀
  refine congrArg Defs.onTc (funext fun l => funext fun a => ?_)
  match l, a with
  | 0, (t, s) => rfl
  | ⟨_ + 1, h⟩, _ => exact absurd h (Nat.not_lt.2 (Nat.le_add_left _ _))

theorem defs_eq : (Cert.Kernel20.defs (F := F)) = (Cert.Kernel20Ideal.defs (F := F)) :=
  congrArg (Pipeline.defs Cert.Kernel20.pcfgs) defs₀_eq

theorem main_eq : (Cert.Kernel20.main (F := F)) = (Cert.Kernel20Ideal.main (F := F)) := by rfl

end Cert.Sum

end
-- ==== Proof.Sum.Claims.lean ====
/-
  The claims about the sums of the replicated weights' gradients over the chips: the three frames, and that the kernel's arrays are the
  reference's over the extended reals.
-/
module

public import proofs.«01_k».proof.Defs
public import proofs.«01_k».proof.Proof.Sum.Final
public import proofs.«01_k».proof.Proof.Sum.RefRun
public import proofs.«01_k».proof.Proof.Sum.Same

@[expose] public section

set_option maxHeartbeats 4000000

noncomputable section

namespace Cert.Sum

open Idealize.ShloMosaic Idealize.ShloMosaic.TcCoe Idealize.SL.Sem
open Cert.Kernel20Ideal.Sum Cert.SumSpec

theorem frame_kernel : Cert.quiescent_Kernel20 := by
  have h := fun m ρ (_ : True) => Cert.Kernel20Ideal.Gen.frame (F := Bits) m ρ
  rw [← defs_eq, ← main_eq] at h
  refine cast ?_ h
  sl_kernel_rfl

theorem frame_ideal : Cert.quiescent_Kernel20Ideal := fun m ρ _ => Cert.Kernel20Ideal.Gen.frame m ρ

theorem frame_reference : Cert.quiescent_Reference20Ideal := fun m ρ _ =>
  (θ_run Cert.Reference20Ideal.defs _ _).mono
    (fun r h => ⟨fun c => (h c).2.2.2.2.2.2.2.2.2.2.2.2.2.2.2.2.2.2.2.2, sem_eq_zero_of_no_sems (by decide) r.2⟩)
    (Cert.Reference20Ideal.Value.run m ρ)

theorem preserves : Cert.preserves_Kernel20_Kernel20Ideal := trivial

theorem algebraic : Cert.algebraic_Kernel20Ideal_Reference20Ideal := by
  intro m g m' g' _ hagree
  refine ⟨res_41 m, res_42 m, res_43 m, res_44 m, res_45 m, res_46 m, res_47 m, res_48 m, res_49 m, res_50 m, res_51 m, res_52 m, res_53 m, res_54 m, res_55 m, res_56 m, res_57 m, res_58 m, res_59 m, res_60 m, ?_, ?_⟩
  · refine (θ_run Cert.Kernel20Ideal.defs _ _).mono (fun r h c => ?_)
      (θ_run_and (Cert.Kernel20Ideal.Gen.run_main m g) (Cert.Kernel20Ideal.Gen.unchanged m g))
    exact ⟨((h.1 c).1 41).trans (final_41 m c),
      ((h.1 c).1 42).trans (final_42 m c),
      ((h.1 c).1 43).trans (final_43 m c),
      ((h.1 c).1 44).trans (final_44 m c),
      ((h.1 c).1 45).trans (final_45 m c),
      ((h.1 c).1 46).trans (final_46 m c),
      ((h.1 c).1 47).trans (final_47 m c),
      ((h.1 c).1 48).trans (final_48 m c),
      ((h.1 c).1 49).trans (final_49 m c),
      ((h.1 c).1 50).trans (final_50 m c),
      ((h.1 c).1 51).trans (final_51 m c),
      ((h.1 c).1 52).trans (final_52 m c),
      ((h.1 c).1 53).trans (final_53 m c),
      ((h.1 c).1 54).trans (final_54 m c),
      ((h.1 c).1 55).trans (final_55 m c),
      ((h.1 c).1 56).trans (final_56 m c),
      ((h.1 c).1 57).trans (final_57 m c),
      ((h.1 c).1 58).trans (final_58 m c),
      ((h.1 c).1 59).trans (final_59 m c),
      ((h.1 c).1 60).trans (final_60 m c), h.2 c⟩
  · refine (θ_run Cert.Reference20Ideal.defs _ _).mono (fun r h c => ?_) (Cert.Reference20Ideal.Sum.run m' g')
    obtain ⟨h0, h1, h2, h3, h4, h5, h6, h7, h8, h9, h10, h11, h12, h13, h14, h15, h16, h17, h18, h19, hk⟩ := h c
    obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40⟩ := hagree c
    exact ⟨h0.trans (congr (congr (congrArg sum2 a0) a1) a21),
      h1.trans (congr (congr (congrArg sum3 a0) a2) a22),
      h2.trans (congr (congr (congrArg sum3 a0) a3) a23),
      h3.trans (congr (congr (congrArg sum3 a0) a4) a24),
      h4.trans (congr (congr (congrArg sum3 a0) a5) a25),
      h5.trans (congr (congr (congrArg sum3 a0) a6) a26),
      h6.trans (congr (congr (congrArg sum3 a0) a7) a27),
      h7.trans (congr (congr (congrArg sum2 a0) a8) a28),
      h8.trans (congr (congr (congrArg sum2 a0) a9) a29),
      h9.trans (congr (congr (congrArg sum2 a0) a10) a30),
      h10.trans (congr (congr (congrArg sum2 a0) a11) a31),
      h11.trans (congr (congr (congrArg sum2 a0) a12) a32),
      h12.trans (congr (congr (congrArg sum2 a0) a13) a33),
      h13.trans (congr (congr (congrArg sum2 a0) a14) a34),
      h14.trans (congr (congr (congrArg sum2 a0) a15) a35),
      h15.trans (congr (congr (congrArg sum4 a0) a16) a36),
      h16.trans (congr (congr (congrArg sum3 a0) a17) a37),
      h17.trans (congr (congr (congrArg sum2 a0) a18) a38),
      h18.trans (congr (congr (congrArg sum2 a0) a19) a39),
      h19.trans (congr (congr (congrArg sum2 a0) a20) a40), hk⟩

end Cert.Sum

end
-- ==== Proof.lean ====
/-
  The certificate: the claims about the calls of the step, together.
-/
module

public import proofs.«01_k».proof.Defs
public import proofs.«01_k».proof.Proof.Sg.Claims
public import proofs.«01_k».proof.Proof.InBwd.Claims
public import proofs.«01_k».proof.Proof.PostBwd.Claims
public import proofs.«01_k».proof.Proof.InFwd.Claims
public import proofs.«01_k».proof.Proof.PostFwd.Claims
public import proofs.«01_k».proof.Proof.Wgrad.WIn1536
public import proofs.«01_k».proof.Proof.Wgrad.WGate
public import proofs.«01_k».proof.Proof.Wgrad.WOut
public import proofs.«01_k».proof.Proof.Wgrad.WIn512
public import proofs.«01_k».proof.Proof.Wgrad.WIn768
public import proofs.«01_k».proof.Proof.Wgrad.WIn128
public import proofs.«01_k».proof.Proof.Wgrad.WPle
public import proofs.«01_k».proof.Proof.Adamw.AdamIn
public import proofs.«01_k».proof.Proof.Adamw.AdamGlu
public import proofs.«01_k».proof.Proof.Adamw.AdamConv
public import proofs.«01_k».proof.Proof.Adamw.AdamOut
public import proofs.«01_k».proof.Proof.Adamw.AdamPle
public import proofs.«01_k».proof.Proof.SgFwd.Claims
public import proofs.«01_k».proof.Proof.Loss.Claims
public import proofs.«01_k».proof.Proof.Sum.Claims
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.Gen.Kernel7
public import proofs.«01_k».proof.Proof.Gen.Kernel7Ideal
public import proofs.«01_k».proof.Proof.Gen.Reference7Ideal
public import proofs.«01_k».proof.Proof.Gen.Kernel8
public import proofs.«01_k».proof.Proof.Gen.Kernel8Ideal
public import proofs.«01_k».proof.Proof.Gen.Reference8Ideal
public import proofs.«01_k».proof.Proof.Gen.Kernel9
public import proofs.«01_k».proof.Proof.Gen.Kernel9Ideal
public import proofs.«01_k».proof.Proof.Gen.Reference9Ideal
public import proofs.«01_k».proof.Proof.Gen.Kernel10
public import proofs.«01_k».proof.Proof.Gen.Kernel10Ideal
public import proofs.«01_k».proof.Proof.Gen.Reference10Ideal
public import proofs.«01_k».proof.Proof.Gen.Kernel11
public import proofs.«01_k».proof.Proof.Gen.Kernel11Ideal
public import proofs.«01_k».proof.Proof.Gen.Reference11Ideal
public import proofs.«01_k».proof.Proof.Gen.Kernel12
public import proofs.«01_k».proof.Proof.Gen.Kernel12Ideal
public import proofs.«01_k».proof.Proof.Gen.Reference12Ideal
public import proofs.«01_k».proof.Proof.Gen.Kernel13
public import proofs.«01_k».proof.Proof.Gen.Kernel13Ideal
public import proofs.«01_k».proof.Proof.Gen.Reference13Ideal
public import proofs.«01_k».proof.Proof.Gen.Kernel14
public import proofs.«01_k».proof.Proof.Gen.Kernel14Ideal
public import proofs.«01_k».proof.Proof.Gen.Reference14Ideal
public import proofs.«01_k».proof.Proof.Gen.Kernel15
public import proofs.«01_k».proof.Proof.Gen.Kernel15Ideal
public import proofs.«01_k».proof.Proof.Gen.Reference15Ideal
public import proofs.«01_k».proof.Proof.Gen.Kernel16
public import proofs.«01_k».proof.Proof.Gen.Kernel16Ideal
public import proofs.«01_k».proof.Proof.Gen.Reference16Ideal
public import proofs.«01_k».proof.Proof.Gen.Kernel17
public import proofs.«01_k».proof.Proof.Gen.Kernel17Ideal
public import proofs.«01_k».proof.Proof.Gen.Reference17Ideal
public import proofs.«01_k».proof.Proof.Gen.Kernel18
public import proofs.«01_k».proof.Proof.Gen.Kernel18Ideal
public import proofs.«01_k».proof.Proof.Gen.Reference18Ideal
public import proofs.«01_k».proof.Proof.Gen.Kernel19
public import proofs.«01_k».proof.Proof.Gen.Kernel19Ideal
public import proofs.«01_k».proof.Proof.Gen.Reference19Ideal
public import proofs.«01_k».proof.Proof.Gen.Kernel20
public import proofs.«01_k».proof.Proof.Gen.Kernel20Ideal
public import proofs.«01_k».proof.Proof.Gen.Reference20Ideal

@[expose] public section

noncomputable section

namespace Cert.Proof

theorem claim : Cert.Claim := ⟨
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Sg.frame_kernel, Cert.Sg.frame_ideal, Cert.Sg.frame_reference,
  Cert.InBwd.frame_kernel, Cert.InBwd.frame_ideal, Cert.InBwd.frame_reference,
  Cert.PostBwd.frame_kernel, Cert.PostBwd.frame_ideal, Cert.PostBwd.frame_reference,
  Cert.InFwd.frame_kernel, Cert.InFwd.frame_ideal, Cert.InFwd.frame_reference,
  Cert.PostFwd.frame_kernel, Cert.PostFwd.frame_ideal, Cert.PostFwd.frame_reference,
  Cert.WIn1536.frame_kernel, Cert.WIn1536.frame_ideal, Cert.WIn1536.frame_reference,
  Cert.WGate.frame_kernel, Cert.WGate.frame_ideal, Cert.WGate.frame_reference,
  Cert.WOut.frame_kernel, Cert.WOut.frame_ideal, Cert.WOut.frame_reference,
  Cert.WIn512.frame_kernel, Cert.WIn512.frame_ideal, Cert.WIn512.frame_reference,
  Cert.WIn768.frame_kernel, Cert.WIn768.frame_ideal, Cert.WIn768.frame_reference,
  Cert.WIn128.frame_kernel, Cert.WIn128.frame_ideal, Cert.WIn128.frame_reference,
  Cert.WPle.frame_kernel, Cert.WPle.frame_ideal, Cert.WPle.frame_reference,
  Cert.AdamIn.frame_kernel, Cert.AdamIn.frame_ideal, Cert.AdamIn.frame_reference,
  Cert.AdamGlu.frame_kernel, Cert.AdamGlu.frame_ideal, Cert.AdamGlu.frame_reference,
  Cert.AdamConv.frame_kernel, Cert.AdamConv.frame_ideal, Cert.AdamConv.frame_reference,
  Cert.AdamOut.frame_kernel, Cert.AdamOut.frame_ideal, Cert.AdamOut.frame_reference,
  Cert.AdamPle.frame_kernel, Cert.AdamPle.frame_ideal, Cert.AdamPle.frame_reference,
  Cert.SgFwd.frame_kernel, Cert.SgFwd.frame_ideal, Cert.SgFwd.frame_reference,
  Cert.Loss.frame_kernel, Cert.Loss.frame_ideal, Cert.Loss.frame_reference,
  Cert.Sum.frame_kernel, Cert.Sum.frame_ideal, Cert.Sum.frame_reference,
  Cert.Sg.preserves, Cert.Sg.algebraic,
  Cert.InBwd.preserves, Cert.InBwd.algebraic,
  Cert.PostBwd.preserves, Cert.PostBwd.algebraic,
  Cert.InFwd.preserves, Cert.InFwd.algebraic,
  Cert.PostFwd.preserves, Cert.PostFwd.algebraic,
  Cert.WIn1536.preserves, Cert.WIn1536.algebraic,
  Cert.WGate.preserves, Cert.WGate.algebraic,
  Cert.WOut.preserves, Cert.WOut.algebraic,
  Cert.WIn512.preserves, Cert.WIn512.algebraic,
  Cert.WIn768.preserves, Cert.WIn768.algebraic,
  Cert.WIn128.preserves, Cert.WIn128.algebraic,
  Cert.WPle.preserves, Cert.WPle.algebraic,
  Cert.AdamIn.preserves, Cert.AdamIn.algebraic,
  Cert.AdamGlu.preserves, Cert.AdamGlu.algebraic,
  Cert.AdamConv.preserves, Cert.AdamConv.algebraic,
  Cert.AdamOut.preserves, Cert.AdamOut.algebraic,
  Cert.AdamPle.preserves, Cert.AdamPle.algebraic,
  Cert.SgFwd.preserves, Cert.SgFwd.algebraic,
  Cert.Loss.preserves, Cert.Loss.algebraic,
  Cert.Sum.preserves, Cert.Sum.algebraic⟩

end Cert.Proof

end
